-- ==== Defs.lean ====
def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_gate_finite [hPre_gate_finite : Cert.Pre_gate_finite.Facts] (m : (ℓ : Loc Cert.GateIdeal.nD Cert.GateIdeal.τ Cert.GateIdeal.sig) → Buf (Elt Ideal) ℓ) : Prop :=
  ∀ c : Dev Cert.GateIdeal.nD,
    (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))) = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_gate_finite [hPre_gate_finite : Cert.Pre_gate_finite.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))) = (fun _ => 1#1)

def Pre_Tap (m : (ℓ : Loc Cert.Tap.nD Cert.Tap.τ Cert.Tap.sig) → Buf (Elt Bits) ℓ) : Prop :=
  True

def Pre_TapIdeal (m : (ℓ : Loc Cert.TapIdeal.nD Cert.TapIdeal.τ Cert.TapIdeal.sig) → Buf (Elt Ideal) ℓ) : Prop :=
  True

def Pre_TapRefIdeal (m : (ℓ : Loc Cert.TapRefIdeal.nD Cert.TapRefIdeal.τ Cert.TapRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_WConvIn (m : (ℓ : Loc Cert.WConvIn.nD Cert.WConvIn.τ Cert.WConvIn.sig) → Buf (Elt Bits) ℓ) : Prop :=
  True

def Pre_WConvInIdeal (m : (ℓ : Loc Cert.WConvInIdeal.nD Cert.WConvInIdeal.τ Cert.WConvInIdeal.sig) → Buf (Elt Ideal) ℓ) : Prop :=
  True

def Pre_WConvInRefIdeal (m : (ℓ : Loc Cert.WConvInRefIdeal.nD Cert.WConvInRefIdeal.τ Cert.WConvInRefIdeal.sig) → Buf (Elt Ideal) ℓ) : Prop :=
  True

def Pre_WConvOut (m : (ℓ : Loc Cert.WConvOut.nD Cert.WConvOut.τ Cert.WConvOut.sig) → Buf (Elt Bits) ℓ) : Prop :=
  True

def Pre_WConvOutIdeal (m : (ℓ : Loc Cert.WConvOutIdeal.nD Cert.WConvOutIdeal.τ Cert.WConvOutIdeal.sig) → Buf (Elt Ideal) ℓ) : Prop :=
  True

def Pre_WConvOutRefIdeal (m : (ℓ : Loc Cert.WConvOutRefIdeal.nD Cert.WConvOutRefIdeal.τ Cert.WConvOutRefIdeal.sig) → Buf (Elt Ideal) ℓ) : Prop :=
  True

def Pre_WSsmIn (m : (ℓ : Loc Cert.WSsmIn.nD Cert.WSsmIn.τ Cert.WSsmIn.sig) → Buf (Elt Bits) ℓ) : Prop :=
  True

def Pre_WSsmInIdeal (m : (ℓ : Loc Cert.WSsmInIdeal.nD Cert.WSsmInIdeal.τ Cert.WSsmInIdeal.sig) → Buf (Elt Ideal) ℓ) : Prop :=
  True

def Pre_WSsmInRefIdeal (m : (ℓ : Loc Cert.WSsmInRefIdeal.nD Cert.WSsmInRefIdeal.τ Cert.WSsmInRefIdeal.sig) → Buf (Elt Ideal) ℓ) : Prop :=
  True

def Pre_WGlu (m : (ℓ : Loc Cert.WGlu.nD Cert.WGlu.τ Cert.WGlu.sig) → Buf (Elt Bits) ℓ) : Prop :=
  True

def Pre_WGluIdeal (m : (ℓ : Loc Cert.WGluIdeal.nD Cert.WGluIdeal.τ Cert.WGluIdeal.sig) → Buf (Elt Ideal) ℓ) : Prop :=
  True

def Pre_WGluRefIdeal (m : (ℓ : Loc Cert.WGluRefIdeal.nD Cert.WGluRefIdeal.τ Cert.WGluRefIdeal.sig) → Buf (Elt Ideal) ℓ) : Prop :=
  True

def Pre_WSsmOut (m : (ℓ : Loc Cert.WSsmOut.nD Cert.WSsmOut.τ Cert.WSsmOut.sig) → Buf (Elt Bits) ℓ) : Prop :=
  True

def Pre_WSsmOutIdeal (m : (ℓ : Loc Cert.WSsmOutIdeal.nD Cert.WSsmOutIdeal.τ Cert.WSsmOutIdeal.sig) → Buf (Elt Ideal) ℓ) : Prop :=
  True

def Pre_WSsmOutRefIdeal (m : (ℓ : Loc Cert.WSsmOutRefIdeal.nD Cert.WSsmOutRefIdeal.τ Cert.WSsmOutRefIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectRefIdeal (m : (ℓ : Loc Cert.ProjectRefIdeal.nD Cert.ProjectRefIdeal.τ Cert.ProjectRefIdeal.sig) → Buf (Elt Ideal) ℓ) : Prop :=
  True

def Pre_ProjectZ (m : (ℓ : Loc Cert.ProjectZ.nD Cert.ProjectZ.τ Cert.ProjectZ.sig) → Buf (Elt Bits) ℓ) : Prop :=
  True

def Pre_ProjectZIdeal (m : (ℓ : Loc Cert.ProjectZIdeal.nD Cert.ProjectZIdeal.τ Cert.ProjectZIdeal.sig) → Buf (Elt Ideal) ℓ) : Prop :=
  True

def Pre_ProjectZRefIdeal (m : (ℓ : Loc Cert.ProjectZRefIdeal.nD Cert.ProjectZRefIdeal.τ Cert.ProjectZRefIdeal.sig) → Buf (Elt Ideal) ℓ) : Prop :=
  True

def Pre_AdamConvIn (m : (ℓ : Loc Cert.AdamConvIn.nD Cert.AdamConvIn.τ Cert.AdamConvIn.sig) → Buf (Elt Bits) ℓ) : Prop :=
  True

def Pre_AdamConvInIdeal (m : (ℓ : Loc Cert.AdamConvInIdeal.nD Cert.AdamConvInIdeal.τ Cert.AdamConvInIdeal.sig) → Buf (Elt Ideal) ℓ) : Prop :=
  True

def Pre_AdamConvInRefIdeal (m : (ℓ : Loc Cert.AdamConvInRefIdeal.nD Cert.AdamConvInRefIdeal.τ Cert.AdamConvInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamSsmIn (m : (ℓ : Loc Cert.AdamSsmIn.nD Cert.AdamSsmIn.τ Cert.AdamSsmIn.sig) → Buf (Elt Bits) ℓ) : Prop :=
  True

def Pre_AdamSsmInIdeal (m : (ℓ : Loc Cert.AdamSsmInIdeal.nD Cert.AdamSsmInIdeal.τ Cert.AdamSsmInIdeal.sig) → Buf (Elt Ideal) ℓ) : Prop :=
  True

def Pre_AdamSsmInRefIdeal (m : (ℓ : Loc Cert.AdamSsmInRefIdeal.nD Cert.AdamSsmInRefIdeal.τ Cert.AdamSsmInRefIdeal.sig) → Buf (Elt Ideal) ℓ) : Prop :=
  True

def Pre_AdamGlu (m : (ℓ : Loc Cert.AdamGlu.nD Cert.AdamGlu.τ Cert.AdamGlu.sig) → Buf (Elt Bits) ℓ) : Prop :=
  True

def Pre_AdamGluIdeal (m : (ℓ : Loc Cert.AdamGluIdeal.nD Cert.AdamGluIdeal.τ Cert.AdamGluIdeal.sig) → Buf (Elt Ideal) ℓ) : Prop :=
  True

def Pre_AdamGluRefIdeal (m : (ℓ : Loc Cert.AdamGluRefIdeal.nD Cert.AdamGluRefIdeal.τ Cert.AdamGluRefIdeal.sig) → Buf (Elt Ideal) ℓ) : Prop :=
  True

def Pre_AdamAda (m : (ℓ : Loc Cert.AdamAda.nD Cert.AdamAda.τ Cert.AdamAda.sig) → Buf (Elt Bits) ℓ) : Prop :=
  True

def Pre_AdamAdaIdeal (m : (ℓ : Loc Cert.AdamAdaIdeal.nD Cert.AdamAdaIdeal.τ Cert.AdamAdaIdeal.sig) → Buf (Elt Ideal) ℓ) : Prop :=
  True

def Pre_AdamAdaRefIdeal (m : (ℓ : Loc Cert.AdamAdaRefIdeal.nD Cert.AdamAdaRefIdeal.τ Cert.AdamAdaRefIdeal.sig) → Buf (Elt Ideal) ℓ) : Prop :=
  True

def Pre_AdamCtx (m : (ℓ : Loc Cert.AdamCtx.nD Cert.AdamCtx.τ Cert.AdamCtx.sig) → Buf (Elt Bits) ℓ) : Prop :=
  True

def Pre_AdamCtxIdeal (m : (ℓ : Loc Cert.AdamCtxIdeal.nD Cert.AdamCtxIdeal.τ Cert.AdamCtxIdeal.sig) → Buf (Elt Ideal) ℓ) : Prop :=
  True

def Pre_AdamCtxRefIdeal (m : (ℓ : Loc Cert.AdamCtxRefIdeal.nD Cert.AdamCtxRefIdeal.τ Cert.AdamCtxRefIdeal.sig) → Buf (Elt Ideal) ℓ) : Prop :=
  True

def Pre_AdamAdaB (m : (ℓ : Loc Cert.AdamAdaB.nD Cert.AdamAdaB.τ Cert.AdamAdaB.sig) → Buf (Elt Bits) ℓ) : Prop :=
  True

def Pre_AdamAdaBIdeal (m : (ℓ : Loc Cert.AdamAdaBIdeal.nD Cert.AdamAdaBIdeal.τ Cert.AdamAdaBIdeal.sig) → Buf (Elt Ideal) ℓ) : Prop :=
  True

def Pre_AdamAdaBRefIdeal (m : (ℓ : Loc Cert.AdamAdaBRefIdeal.nD Cert.AdamAdaBRefIdeal.τ Cert.AdamAdaBRefIdeal.sig) → Buf (Elt Ideal) ℓ) : Prop :=
  True

def Pre_AdamLn (m : (ℓ : Loc Cert.AdamLn.nD Cert.AdamLn.τ Cert.AdamLn.sig) → Buf (Elt Bits) ℓ) : Prop :=
  True

def Pre_AdamLnIdeal (m : (ℓ : Loc Cert.AdamLnIdeal.nD Cert.AdamLnIdeal.τ Cert.AdamLnIdeal.sig) → Buf (Elt Ideal) ℓ) : Prop :=
  True

def Pre_AdamLnRefIdeal (m : (ℓ : Loc Cert.AdamLnRefIdeal.nD Cert.AdamLnRefIdeal.τ Cert.AdamLnRefIdeal.sig) → Buf (Elt Ideal) ℓ) : Prop :=
  True

def Pre_AdamTaps (m : (ℓ : Loc Cert.AdamTaps.nD Cert.AdamTaps.τ Cert.AdamTaps.sig) → Buf (Elt Bits) ℓ) : Prop :=
  True

def Pre_AdamTapsIdeal (m : (ℓ : Loc Cert.AdamTapsIdeal.nD Cert.AdamTapsIdeal.τ Cert.AdamTapsIdeal.sig) → Buf (Elt Ideal) ℓ) : Prop :=
  True

def Pre_AdamTapsRefIdeal (m : (ℓ : Loc Cert.AdamTapsRefIdeal.nD Cert.AdamTapsRefIdeal.τ Cert.AdamTapsRefIdeal.sig) → Buf (Elt Ideal) ℓ) : Prop :=
  True

def Pre_AdamLam (m : (ℓ : Loc Cert.AdamLam.nD Cert.AdamLam.τ Cert.AdamLam.sig) → Buf (Elt Bits) ℓ) : Prop :=
  True

def Pre_AdamLamIdeal (m : (ℓ : Loc Cert.AdamLamIdeal.nD Cert.AdamLamIdeal.τ Cert.AdamLamIdeal.sig) → Buf (Elt Ideal) ℓ) : Prop :=
  True

def Pre_AdamLamRefIdeal (m : (ℓ : Loc Cert.AdamLamRefIdeal.nD Cert.AdamLamRefIdeal.τ Cert.AdamLamRefIdeal.sig) → Buf (Elt Ideal) ℓ) : Prop :=
  True

def Pre_AdamStep (m : (ℓ : Loc Cert.AdamStep.nD Cert.AdamStep.τ Cert.AdamStep.sig) → Buf (Elt Bits) ℓ) : Prop :=
  True

def Pre_AdamStepIdeal (m : (ℓ : Loc Cert.AdamStepIdeal.nD Cert.AdamStepIdeal.τ Cert.AdamStepIdeal.sig) → Buf (Elt Ideal) ℓ) : Prop :=
  True

def Pre_AdamStepRefIdeal (m : (ℓ : Loc Cert.AdamStepRefIdeal.nD Cert.AdamStepRefIdeal.τ Cert.AdamStepRefIdeal.sig) → Buf (Elt Ideal) ℓ) : Prop :=
  True

def Pre_AdamBC (m : (ℓ : Loc Cert.AdamBC.nD Cert.AdamBC.τ Cert.AdamBC.sig) → Buf (Elt Bits) ℓ) : Prop :=
  True

def Pre_AdamBCIdeal (m : (ℓ : Loc Cert.AdamBCIdeal.nD Cert.AdamBCIdeal.τ Cert.AdamBCIdeal.sig) → Buf (Elt Ideal) ℓ) : Prop :=
  True

def Pre_AdamBCRefIdeal (m : (ℓ : Loc Cert.AdamBCRefIdeal.nD Cert.AdamBCRefIdeal.τ Cert.AdamBCRefIdeal.sig) → Buf (Elt Ideal) ℓ) : Prop :=
  True

def Pre_AdamRow (m : (ℓ : Loc Cert.AdamRow.nD Cert.AdamRow.τ Cert.AdamRow.sig) → Buf (Elt Bits) ℓ) : Prop :=
  True

def Pre_AdamRowIdeal (m : (ℓ : Loc Cert.AdamRowIdeal.nD Cert.AdamRowIdeal.τ Cert.AdamRowIdeal.sig) → Buf (Elt Ideal) ℓ) : Prop :=
  True

def Pre_AdamRowRefIdeal (m : (ℓ : Loc Cert.AdamRowRefIdeal.nD Cert.AdamRowRefIdeal.τ Cert.AdamRowRefIdeal.sig) → Buf (Elt Ideal) ℓ) : Prop :=
  True

def Pre_SumConvIn (m : (ℓ : Loc Cert.SumConvIn.nD Cert.SumConvIn.τ Cert.SumConvIn.sig) → Buf (Elt Bits) ℓ) : Prop :=
  True

def Pre_SumConvInIdeal (m : (ℓ : Loc Cert.SumConvInIdeal.nD Cert.SumConvInIdeal.τ Cert.SumConvInIdeal.sig) → Buf (Elt Ideal) ℓ) : Prop :=
  True

def Pre_SumConvInRefIdeal (m : (ℓ : Loc Cert.SumConvInRefIdeal.nD Cert.SumConvInRefIdeal.τ Cert.SumConvInRefIdeal.sig) → Buf (Elt Ideal) ℓ) : Prop :=
  True

def Pre_SumSsmIn (m : (ℓ : Loc Cert.SumSsmIn.nD Cert.SumSsmIn.τ Cert.SumSsmIn.sig) → Buf (Elt Bits) ℓ) : Prop :=
  True

def Pre_SumSsmInIdeal (m : (ℓ : Loc Cert.SumSsmInIdeal.nD Cert.SumSsmInIdeal.τ Cert.SumSsmInIdeal.sig) → Buf (Elt Ideal) ℓ) : Prop :=
  True

def Pre_SumSsmInRefIdeal (m : (ℓ : Loc Cert.SumSsmInRefIdeal.nD Cert.SumSsmInRefIdeal.τ Cert.SumSsmInRefIdeal.sig) → Buf (Elt Ideal) ℓ) : Prop :=
  True

def Pre_SumOut (m : (ℓ : Loc Cert.SumOut.nD Cert.SumOut.τ Cert.SumOut.sig) → Buf (Elt Bits) ℓ) : Prop :=
  True

def Pre_SumOutIdeal (m : (ℓ : Loc Cert.SumOutIdeal.nD Cert.SumOutIdeal.τ Cert.SumOutIdeal.sig) → Buf (Elt Ideal) ℓ) : Prop :=
  True

def Pre_SumOutRefIdeal (m : (ℓ : Loc Cert.SumOutRefIdeal.nD Cert.SumOutRefIdeal.τ Cert.SumOutRefIdeal.sig) → Buf (Elt Ideal) ℓ) : Prop :=
  True

def Pre_SumGlu (m : (ℓ : Loc Cert.SumGlu.nD Cert.SumGlu.τ Cert.SumGlu.sig) → Buf (Elt Bits) ℓ) : Prop :=
  True

def Pre_SumGluIdeal (m : (ℓ : Loc Cert.SumGluIdeal.nD Cert.SumGluIdeal.τ Cert.SumGluIdeal.sig) → Buf (Elt Ideal) ℓ) : Prop :=
  True

def Pre_SumGluRefIdeal (m : (ℓ : Loc Cert.SumGluRefIdeal.nD Cert.SumGluRefIdeal.τ Cert.SumGluRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def Pre_Modulate (m : (ℓ : Loc Cert.Modulate.nD Cert.Modulate.τ Cert.Modulate.sig) → Buf (Elt Bits) ℓ) : Prop :=
  True

def Pre_ModulateIdeal (m : (ℓ : Loc Cert.ModulateIdeal.nD Cert.ModulateIdeal.τ Cert.ModulateIdeal.sig) → Buf (Elt Ideal) ℓ) : Prop :=
  True

def Pre_ModulateRefIdeal (m : (ℓ : Loc Cert.ModulateRefIdeal.nD Cert.ModulateRefIdeal.τ Cert.ModulateRefIdeal.sig) → Buf (Elt Ideal) ℓ) : Prop :=
  True

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_ModulationRefIdeal (m : (ℓ : Loc Cert.ModulationRefIdeal.nD Cert.ModulationRefIdeal.τ Cert.ModulationRefIdeal.sig) → Buf (Elt Ideal) ℓ) : Prop :=
  True

def Pre_Context (m : (ℓ : Loc Cert.Context.nD Cert.Context.τ Cert.Context.sig) → Buf (Elt Bits) ℓ) : Prop :=
  True

def Pre_ContextIdeal (m : (ℓ : Loc Cert.ContextIdeal.nD Cert.ContextIdeal.τ Cert.ContextIdeal.sig) → Buf (Elt Ideal) ℓ) : Prop :=
  True

def Pre_ContextIdeal_context_finite [hPre_context_finite : Cert.Pre_context_finite.Facts] (m : (ℓ : Loc Cert.ContextIdeal.nD Cert.ContextIdeal.τ Cert.ContextIdeal.sig) → Buf (Elt Ideal) ℓ) : Prop :=
  ∀ c : Dev Cert.ContextIdeal.nD,
    (Cert.Pre_context_finite.fn (F := Ideal) (m ((c.tc : Thread Cert.ContextIdeal.nD Cert.ContextIdeal.τ).loc Cert.ContextIdeal.main_arg0)) (m ((c.tc : Thread Cert.ContextIdeal.nD Cert.ContextIdeal.τ).loc Cert.ContextIdeal.main_arg1))) = (fun _ => 1#1)

def Pre_ContextRefIdeal (m : (ℓ : Loc Cert.ContextRefIdeal.nD Cert.ContextRefIdeal.τ Cert.ContextRefIdeal.sig) → Buf (Elt Ideal) ℓ) : Prop :=
  True

def Pre_ContextRefIdeal_context_finite [hPre_context_finite : Cert.Pre_context_finite.Facts] (m : (ℓ : Loc Cert.ContextRefIdeal.nD Cert.ContextRefIdeal.τ Cert.ContextRefIdeal.sig) → Buf (Elt Ideal) ℓ) : Prop :=
  ∀ c : Dev Cert.ContextRefIdeal.nD,
    (Cert.Pre_context_finite.fn (F := Ideal) (m ((c.tc : Thread Cert.ContextRefIdeal.nD Cert.ContextRefIdeal.τ).loc Cert.ContextRefIdeal.main_arg0)) (m ((c.tc : Thread Cert.ContextRefIdeal.nD Cert.ContextRefIdeal.τ).loc Cert.ContextRefIdeal.main_arg1))) = (fun _ => 1#1)

def Pre_Step (m : (ℓ : Loc Cert.Step.nD Cert.Step.τ Cert.Step.sig) → Buf (Elt Bits) ℓ) : Prop :=
  True

def Pre_StepIdeal (m : (ℓ : Loc Cert.StepIdeal.nD Cert.StepIdeal.τ Cert.StepIdeal.sig) → Buf (Elt Ideal) ℓ) : Prop :=
  True

def Pre_StepRefIdeal (m : (ℓ : Loc Cert.StepRefIdeal.nD Cert.StepRefIdeal.τ Cert.StepRefIdeal.sig) → Buf (Elt Ideal) ℓ) : Prop :=
  True

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateIdeal_pre_gate_finite [hGateIdeal : Cert.GateIdeal.Facts] [hPre_gate_finite : Cert.Pre_gate_finite.Facts] : Prop :=
  ∀ (m : (ℓ : Loc Cert.GateIdeal.nD Cert.GateIdeal.τ Cert.GateIdeal.sig) → Buf (Elt Ideal) ℓ) (g : Dev Cert.GateIdeal.nD → PrngReg), Pre_GateIdeal_gate_finite m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_GateRefIdeal_pre_gate_finite [hGateRefIdeal : Cert.GateRefIdeal.Facts] [hPre_gate_finite : Cert.Pre_gate_finite.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_gate_finite m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_Tap [hTap : Cert.Tap.Facts] : Prop :=
  ∀ (m : (ℓ : Loc Cert.Tap.nD Cert.Tap.τ Cert.Tap.sig) → Buf (Elt Bits) ℓ) (g : Dev Cert.Tap.nD → PrngReg), Pre_Tap m →
    θ_run (Cert.Tap.defs (F := Bits)) (onTc (τ := Cert.Tap.τ) (Cert.Tap.main (F := Bits))) ⟨m, fun _ => 0, g⟩ (fun r => (∀ c : Dev Cert.Tap.nD,
      r.2.mem ((c.tc : Thread Cert.Tap.nD Cert.Tap.τ).loc Cert.Tap.main_arg0) = m ((c.tc : Thread Cert.Tap.nD Cert.Tap.τ).loc Cert.Tap.main_arg0)
      ∧ r.2.mem ((c.tc : Thread Cert.Tap.nD Cert.Tap.τ).loc Cert.Tap.main_arg1) = m ((c.tc : Thread Cert.Tap.nD Cert.Tap.τ).loc Cert.Tap.main_arg1)
      ∧ r.2.mem ((c.tc : Thread Cert.Tap.nD Cert.Tap.τ).loc Cert.Tap.main_arg2) = m ((c.tc : Thread Cert.Tap.nD Cert.Tap.τ).loc Cert.Tap.main_arg2)
      ∧ r.2.mem ((c.tc : Thread Cert.Tap.nD Cert.Tap.τ).loc Cert.Tap.main_arg3) = m ((c.tc : Thread Cert.Tap.nD Cert.Tap.τ).loc Cert.Tap.main_arg3)
      ∧ r.2.mem ((c.tc : Thread Cert.Tap.nD Cert.Tap.τ).loc Cert.Tap.main_arg4) = m ((c.tc : Thread Cert.Tap.nD Cert.Tap.τ).loc Cert.Tap.main_arg4))
      ∧ r.2.sem = fun _ => 0)

def quiescent_TapIdeal [hTapIdeal : Cert.TapIdeal.Facts] : Prop :=
  ∀ (m : (ℓ : Loc Cert.TapIdeal.nD Cert.TapIdeal.τ Cert.TapIdeal.sig) → Buf (Elt Ideal) ℓ) (g : Dev Cert.TapIdeal.nD → PrngReg), Pre_TapIdeal m →
    θ_run (Cert.TapIdeal.defs (F := Ideal)) (onTc (τ := Cert.TapIdeal.τ) (Cert.TapIdeal.main (F := Ideal))) ⟨m, fun _ => 0, g⟩ (fun r => (∀ c : Dev Cert.TapIdeal.nD,
      r.2.mem ((c.tc : Thread Cert.TapIdeal.nD Cert.TapIdeal.τ).loc Cert.TapIdeal.main_arg0) = m ((c.tc : Thread Cert.TapIdeal.nD Cert.TapIdeal.τ).loc Cert.TapIdeal.main_arg0)
      ∧ r.2.mem ((c.tc : Thread Cert.TapIdeal.nD Cert.TapIdeal.τ).loc Cert.TapIdeal.main_arg1) = m ((c.tc : Thread Cert.TapIdeal.nD Cert.TapIdeal.τ).loc Cert.TapIdeal.main_arg1)
      ∧ r.2.mem ((c.tc : Thread Cert.TapIdeal.nD Cert.TapIdeal.τ).loc Cert.TapIdeal.main_arg2) = m ((c.tc : Thread Cert.TapIdeal.nD Cert.TapIdeal.τ).loc Cert.TapIdeal.main_arg2)
      ∧ r.2.mem ((c.tc : Thread Cert.TapIdeal.nD Cert.TapIdeal.τ).loc Cert.TapIdeal.main_arg3) = m ((c.tc : Thread Cert.TapIdeal.nD Cert.TapIdeal.τ).loc Cert.TapIdeal.main_arg3)
      ∧ r.2.mem ((c.tc : Thread Cert.TapIdeal.nD Cert.TapIdeal.τ).loc Cert.TapIdeal.main_arg4) = m ((c.tc : Thread Cert.TapIdeal.nD Cert.TapIdeal.τ).loc Cert.TapIdeal.main_arg4))
      ∧ r.2.sem = fun _ => 0)

def quiescent_TapRefIdeal [hTapRefIdeal : Cert.TapRefIdeal.Facts] : Prop :=
  ∀ (m : (ℓ : Loc Cert.TapRefIdeal.nD Cert.TapRefIdeal.τ Cert.TapRefIdeal.sig) → Buf (Elt Ideal) ℓ) (g : Dev Cert.TapRefIdeal.nD → PrngReg), Pre_TapRefIdeal m →
    θ_run (Cert.TapRefIdeal.defs (F := Ideal)) (onTc (τ := Cert.TapRefIdeal.τ) (Cert.TapRefIdeal.main (F := Ideal))) ⟨m, fun _ => 0, g⟩ (fun r => (∀ c : Dev Cert.TapRefIdeal.nD,
      r.2.mem ((c.tc : Thread Cert.TapRefIdeal.nD Cert.TapRefIdeal.τ).loc Cert.TapRefIdeal.main_arg0) = m ((c.tc : Thread Cert.TapRefIdeal.nD Cert.TapRefIdeal.τ).loc Cert.TapRefIdeal.main_arg0)
      ∧ r.2.mem ((c.tc : Thread Cert.TapRefIdeal.nD Cert.TapRefIdeal.τ).loc Cert.TapRefIdeal.main_arg1) = m ((c.tc : Thread Cert.TapRefIdeal.nD Cert.TapRefIdeal.τ).loc Cert.TapRefIdeal.main_arg1)
      ∧ r.2.mem ((c.tc : Thread Cert.TapRefIdeal.nD Cert.TapRefIdeal.τ).loc Cert.TapRefIdeal.main_arg2) = m ((c.tc : Thread Cert.TapRefIdeal.nD Cert.TapRefIdeal.τ).loc Cert.TapRefIdeal.main_arg2)
      ∧ r.2.mem ((c.tc : Thread Cert.TapRefIdeal.nD Cert.TapRefIdeal.τ).loc Cert.TapRefIdeal.main_arg3) = m ((c.tc : Thread Cert.TapRefIdeal.nD Cert.TapRefIdeal.τ).loc Cert.TapRefIdeal.main_arg3)
      ∧ r.2.mem ((c.tc : Thread Cert.TapRefIdeal.nD Cert.TapRefIdeal.τ).loc Cert.TapRefIdeal.main_arg4) = m ((c.tc : Thread Cert.TapRefIdeal.nD Cert.TapRefIdeal.τ).loc Cert.TapRefIdeal.main_arg4))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4))
      ∧ r.2.sem = fun _ => 0)

def quiescent_WConvIn [hWConvIn : Cert.WConvIn.Facts] : Prop :=
  ∀ (m : (ℓ : Loc Cert.WConvIn.nD Cert.WConvIn.τ Cert.WConvIn.sig) → Buf (Elt Bits) ℓ) (g : Dev Cert.WConvIn.nD → PrngReg), Pre_WConvIn m →
    θ_run (Cert.WConvIn.defs (F := Bits)) (onTc (τ := Cert.WConvIn.τ) (Cert.WConvIn.main (F := Bits))) ⟨m, fun _ => 0, g⟩ (fun r => (∀ c : Dev Cert.WConvIn.nD,
      r.2.mem ((c.tc : Thread Cert.WConvIn.nD Cert.WConvIn.τ).loc Cert.WConvIn.main_arg0) = m ((c.tc : Thread Cert.WConvIn.nD Cert.WConvIn.τ).loc Cert.WConvIn.main_arg0)
      ∧ r.2.mem ((c.tc : Thread Cert.WConvIn.nD Cert.WConvIn.τ).loc Cert.WConvIn.main_arg1) = m ((c.tc : Thread Cert.WConvIn.nD Cert.WConvIn.τ).loc Cert.WConvIn.main_arg1)
      ∧ r.2.mem ((c.tc : Thread Cert.WConvIn.nD Cert.WConvIn.τ).loc Cert.WConvIn.main_arg2) = m ((c.tc : Thread Cert.WConvIn.nD Cert.WConvIn.τ).loc Cert.WConvIn.main_arg2))
      ∧ r.2.sem = fun _ => 0)

def quiescent_WConvInIdeal [hWConvInIdeal : Cert.WConvInIdeal.Facts] : Prop :=
  ∀ (m : (ℓ : Loc Cert.WConvInIdeal.nD Cert.WConvInIdeal.τ Cert.WConvInIdeal.sig) → Buf (Elt Ideal) ℓ) (g : Dev Cert.WConvInIdeal.nD → PrngReg), Pre_WConvInIdeal m →
    θ_run (Cert.WConvInIdeal.defs (F := Ideal)) (onTc (τ := Cert.WConvInIdeal.τ) (Cert.WConvInIdeal.main (F := Ideal))) ⟨m, fun _ => 0, g⟩ (fun r => (∀ c : Dev Cert.WConvInIdeal.nD,
      r.2.mem ((c.tc : Thread Cert.WConvInIdeal.nD Cert.WConvInIdeal.τ).loc Cert.WConvInIdeal.main_arg0) = m ((c.tc : Thread Cert.WConvInIdeal.nD Cert.WConvInIdeal.τ).loc Cert.WConvInIdeal.main_arg0)
      ∧ r.2.mem ((c.tc : Thread Cert.WConvInIdeal.nD Cert.WConvInIdeal.τ).loc Cert.WConvInIdeal.main_arg1) = m ((c.tc : Thread Cert.WConvInIdeal.nD Cert.WConvInIdeal.τ).loc Cert.WConvInIdeal.main_arg1)
      ∧ r.2.mem ((c.tc : Thread Cert.WConvInIdeal.nD Cert.WConvInIdeal.τ).loc Cert.WConvInIdeal.main_arg2) = m ((c.tc : Thread Cert.WConvInIdeal.nD Cert.WConvInIdeal.τ).loc Cert.WConvInIdeal.main_arg2))
      ∧ r.2.sem = fun _ => 0)

def quiescent_WConvInRefIdeal [hWConvInRefIdeal : Cert.WConvInRefIdeal.Facts] : Prop :=
  ∀ (m : (ℓ : Loc Cert.WConvInRefIdeal.nD Cert.WConvInRefIdeal.τ Cert.WConvInRefIdeal.sig) → Buf (Elt Ideal) ℓ) (g : Dev Cert.WConvInRefIdeal.nD → PrngReg), Pre_WConvInRefIdeal m →
    θ_run (Cert.WConvInRefIdeal.defs (F := Ideal)) (onTc (τ := Cert.WConvInRefIdeal.τ) (Cert.WConvInRefIdeal.main (F := Ideal))) ⟨m, fun _ => 0, g⟩ (fun r => (∀ c : Dev Cert.WConvInRefIdeal.nD,
      r.2.mem ((c.tc : Thread Cert.WConvInRefIdeal.nD Cert.WConvInRefIdeal.τ).loc Cert.WConvInRefIdeal.main_arg0) = m ((c.tc : Thread Cert.WConvInRefIdeal.nD Cert.WConvInRefIdeal.τ).loc Cert.WConvInRefIdeal.main_arg0)
      ∧ r.2.mem ((c.tc : Thread Cert.WConvInRefIdeal.nD Cert.WConvInRefIdeal.τ).loc Cert.WConvInRefIdeal.main_arg1) = m ((c.tc : Thread Cert.WConvInRefIdeal.nD Cert.WConvInRefIdeal.τ).loc Cert.WConvInRefIdeal.main_arg1)
      ∧ r.2.mem ((c.tc : Thread Cert.WConvInRefIdeal.nD Cert.WConvInRefIdeal.τ).loc Cert.WConvInRefIdeal.main_arg2) = m ((c.tc : Thread Cert.WConvInRefIdeal.nD Cert.WConvInRefIdeal.τ).loc Cert.WConvInRefIdeal.main_arg2))
      ∧ r.2.sem = fun _ => 0)

def quiescent_WConvOut [hWConvOut : Cert.WConvOut.Facts] : Prop :=
  ∀ (m : (ℓ : Loc Cert.WConvOut.nD Cert.WConvOut.τ Cert.WConvOut.sig) → Buf (Elt Bits) ℓ) (g : Dev Cert.WConvOut.nD → PrngReg), Pre_WConvOut m →
    θ_run (Cert.WConvOut.defs (F := Bits)) (onTc (τ := Cert.WConvOut.τ) (Cert.WConvOut.main (F := Bits))) ⟨m, fun _ => 0, g⟩ (fun r => (∀ c : Dev Cert.WConvOut.nD,
      r.2.mem ((c.tc : Thread Cert.WConvOut.nD Cert.WConvOut.τ).loc Cert.WConvOut.main_arg0) = m ((c.tc : Thread Cert.WConvOut.nD Cert.WConvOut.τ).loc Cert.WConvOut.main_arg0)
      ∧ r.2.mem ((c.tc : Thread Cert.WConvOut.nD Cert.WConvOut.τ).loc Cert.WConvOut.main_arg1) = m ((c.tc : Thread Cert.WConvOut.nD Cert.WConvOut.τ).loc Cert.WConvOut.main_arg1)
      ∧ r.2.mem ((c.tc : Thread Cert.WConvOut.nD Cert.WConvOut.τ).loc Cert.WConvOut.main_arg2) = m ((c.tc : Thread Cert.WConvOut.nD Cert.WConvOut.τ).loc Cert.WConvOut.main_arg2))
      ∧ r.2.sem = fun _ => 0)

def quiescent_WConvOutIdeal [hWConvOutIdeal : Cert.WConvOutIdeal.Facts] : Prop :=
  ∀ (m : (ℓ : Loc Cert.WConvOutIdeal.nD Cert.WConvOutIdeal.τ Cert.WConvOutIdeal.sig) → Buf (Elt Ideal) ℓ) (g : Dev Cert.WConvOutIdeal.nD → PrngReg), Pre_WConvOutIdeal m →
    θ_run (Cert.WConvOutIdeal.defs (F := Ideal)) (onTc (τ := Cert.WConvOutIdeal.τ) (Cert.WConvOutIdeal.main (F := Ideal))) ⟨m, fun _ => 0, g⟩ (fun r => (∀ c : Dev Cert.WConvOutIdeal.nD,
      r.2.mem ((c.tc : Thread Cert.WConvOutIdeal.nD Cert.WConvOutIdeal.τ).loc Cert.WConvOutIdeal.main_arg0) = m ((c.tc : Thread Cert.WConvOutIdeal.nD Cert.WConvOutIdeal.τ).loc Cert.WConvOutIdeal.main_arg0)
      ∧ r.2.mem ((c.tc : Thread Cert.WConvOutIdeal.nD Cert.WConvOutIdeal.τ).loc Cert.WConvOutIdeal.main_arg1) = m ((c.tc : Thread Cert.WConvOutIdeal.nD Cert.WConvOutIdeal.τ).loc Cert.WConvOutIdeal.main_arg1)
      ∧ r.2.mem ((c.tc : Thread Cert.WConvOutIdeal.nD Cert.WConvOutIdeal.τ).loc Cert.WConvOutIdeal.main_arg2) = m ((c.tc : Thread Cert.WConvOutIdeal.nD Cert.WConvOutIdeal.τ).loc Cert.WConvOutIdeal.main_arg2))
      ∧ r.2.sem = fun _ => 0)

def quiescent_WConvOutRefIdeal [hWConvOutRefIdeal : Cert.WConvOutRefIdeal.Facts] : Prop :=
  ∀ (m : (ℓ : Loc Cert.WConvOutRefIdeal.nD Cert.WConvOutRefIdeal.τ Cert.WConvOutRefIdeal.sig) → Buf (Elt Ideal) ℓ) (g : Dev Cert.WConvOutRefIdeal.nD → PrngReg), Pre_WConvOutRefIdeal m →
    θ_run (Cert.WConvOutRefIdeal.defs (F := Ideal)) (onTc (τ := Cert.WConvOutRefIdeal.τ) (Cert.WConvOutRefIdeal.main (F := Ideal))) ⟨m, fun _ => 0, g⟩ (fun r => (∀ c : Dev Cert.WConvOutRefIdeal.nD,
      r.2.mem ((c.tc : Thread Cert.WConvOutRefIdeal.nD Cert.WConvOutRefIdeal.τ).loc Cert.WConvOutRefIdeal.main_arg0) = m ((c.tc : Thread Cert.WConvOutRefIdeal.nD Cert.WConvOutRefIdeal.τ).loc Cert.WConvOutRefIdeal.main_arg0)
      ∧ r.2.mem ((c.tc : Thread Cert.WConvOutRefIdeal.nD Cert.WConvOutRefIdeal.τ).loc Cert.WConvOutRefIdeal.main_arg1) = m ((c.tc : Thread Cert.WConvOutRefIdeal.nD Cert.WConvOutRefIdeal.τ).loc Cert.WConvOutRefIdeal.main_arg1)
      ∧ r.2.mem ((c.tc : Thread Cert.WConvOutRefIdeal.nD Cert.WConvOutRefIdeal.τ).loc Cert.WConvOutRefIdeal.main_arg2) = m ((c.tc : Thread Cert.WConvOutRefIdeal.nD Cert.WConvOutRefIdeal.τ).loc Cert.WConvOutRefIdeal.main_arg2))
      ∧ r.2.sem = fun _ => 0)

def quiescent_WSsmIn [hWSsmIn : Cert.WSsmIn.Facts] : Prop :=
  ∀ (m : (ℓ : Loc Cert.WSsmIn.nD Cert.WSsmIn.τ Cert.WSsmIn.sig) → Buf (Elt Bits) ℓ) (g : Dev Cert.WSsmIn.nD → PrngReg), Pre_WSsmIn m →
    θ_run (Cert.WSsmIn.defs (F := Bits)) (onTc (τ := Cert.WSsmIn.τ) (Cert.WSsmIn.main (F := Bits))) ⟨m, fun _ => 0, g⟩ (fun r => (∀ c : Dev Cert.WSsmIn.nD,
      r.2.mem ((c.tc : Thread Cert.WSsmIn.nD Cert.WSsmIn.τ).loc Cert.WSsmIn.main_arg0) = m ((c.tc : Thread Cert.WSsmIn.nD Cert.WSsmIn.τ).loc Cert.WSsmIn.main_arg0)
      ∧ r.2.mem ((c.tc : Thread Cert.WSsmIn.nD Cert.WSsmIn.τ).loc Cert.WSsmIn.main_arg1) = m ((c.tc : Thread Cert.WSsmIn.nD Cert.WSsmIn.τ).loc Cert.WSsmIn.main_arg1)
      ∧ r.2.mem ((c.tc : Thread Cert.WSsmIn.nD Cert.WSsmIn.τ).loc Cert.WSsmIn.main_arg2) = m ((c.tc : Thread Cert.WSsmIn.nD Cert.WSsmIn.τ).loc Cert.WSsmIn.main_arg2))
      ∧ r.2.sem = fun _ => 0)

def quiescent_WSsmInIdeal [hWSsmInIdeal : Cert.WSsmInIdeal.Facts] : Prop :=
  ∀ (m : (ℓ : Loc Cert.WSsmInIdeal.nD Cert.WSsmInIdeal.τ Cert.WSsmInIdeal.sig) → Buf (Elt Ideal) ℓ) (g : Dev Cert.WSsmInIdeal.nD → PrngReg), Pre_WSsmInIdeal m →
    θ_run (Cert.WSsmInIdeal.defs (F := Ideal)) (onTc (τ := Cert.WSsmInIdeal.τ) (Cert.WSsmInIdeal.main (F := Ideal))) ⟨m, fun _ => 0, g⟩ (fun r => (∀ c : Dev Cert.WSsmInIdeal.nD,
      r.2.mem ((c.tc : Thread Cert.WSsmInIdeal.nD Cert.WSsmInIdeal.τ).loc Cert.WSsmInIdeal.main_arg0) = m ((c.tc : Thread Cert.WSsmInIdeal.nD Cert.WSsmInIdeal.τ).loc Cert.WSsmInIdeal.main_arg0)
      ∧ r.2.mem ((c.tc : Thread Cert.WSsmInIdeal.nD Cert.WSsmInIdeal.τ).loc Cert.WSsmInIdeal.main_arg1) = m ((c.tc : Thread Cert.WSsmInIdeal.nD Cert.WSsmInIdeal.τ).loc Cert.WSsmInIdeal.main_arg1)
      ∧ r.2.mem ((c.tc : Thread Cert.WSsmInIdeal.nD Cert.WSsmInIdeal.τ).loc Cert.WSsmInIdeal.main_arg2) = m ((c.tc : Thread Cert.WSsmInIdeal.nD Cert.WSsmInIdeal.τ).loc Cert.WSsmInIdeal.main_arg2))
      ∧ r.2.sem = fun _ => 0)

def quiescent_WSsmInRefIdeal [hWSsmInRefIdeal : Cert.WSsmInRefIdeal.Facts] : Prop :=
  ∀ (m : (ℓ : Loc Cert.WSsmInRefIdeal.nD Cert.WSsmInRefIdeal.τ Cert.WSsmInRefIdeal.sig) → Buf (Elt Ideal) ℓ) (g : Dev Cert.WSsmInRefIdeal.nD → PrngReg), Pre_WSsmInRefIdeal m →
    θ_run (Cert.WSsmInRefIdeal.defs (F := Ideal)) (onTc (τ := Cert.WSsmInRefIdeal.τ) (Cert.WSsmInRefIdeal.main (F := Ideal))) ⟨m, fun _ => 0, g⟩ (fun r => (∀ c : Dev Cert.WSsmInRefIdeal.nD,
      r.2.mem ((c.tc : Thread Cert.WSsmInRefIdeal.nD Cert.WSsmInRefIdeal.τ).loc Cert.WSsmInRefIdeal.main_arg0) = m ((c.tc : Thread Cert.WSsmInRefIdeal.nD Cert.WSsmInRefIdeal.τ).loc Cert.WSsmInRefIdeal.main_arg0)
      ∧ r.2.mem ((c.tc : Thread Cert.WSsmInRefIdeal.nD Cert.WSsmInRefIdeal.τ).loc Cert.WSsmInRefIdeal.main_arg1) = m ((c.tc : Thread Cert.WSsmInRefIdeal.nD Cert.WSsmInRefIdeal.τ).loc Cert.WSsmInRefIdeal.main_arg1)
      ∧ r.2.mem ((c.tc : Thread Cert.WSsmInRefIdeal.nD Cert.WSsmInRefIdeal.τ).loc Cert.WSsmInRefIdeal.main_arg2) = m ((c.tc : Thread Cert.WSsmInRefIdeal.nD Cert.WSsmInRefIdeal.τ).loc Cert.WSsmInRefIdeal.main_arg2))
      ∧ r.2.sem = fun _ => 0)

def quiescent_WGlu [hWGlu : Cert.WGlu.Facts] : Prop :=
  ∀ (m : (ℓ : Loc Cert.WGlu.nD Cert.WGlu.τ Cert.WGlu.sig) → Buf (Elt Bits) ℓ) (g : Dev Cert.WGlu.nD → PrngReg), Pre_WGlu m →
    θ_run (Cert.WGlu.defs (F := Bits)) (onTc (τ := Cert.WGlu.τ) (Cert.WGlu.main (F := Bits))) ⟨m, fun _ => 0, g⟩ (fun r => (∀ c : Dev Cert.WGlu.nD,
      r.2.mem ((c.tc : Thread Cert.WGlu.nD Cert.WGlu.τ).loc Cert.WGlu.main_arg0) = m ((c.tc : Thread Cert.WGlu.nD Cert.WGlu.τ).loc Cert.WGlu.main_arg0)
      ∧ r.2.mem ((c.tc : Thread Cert.WGlu.nD Cert.WGlu.τ).loc Cert.WGlu.main_arg1) = m ((c.tc : Thread Cert.WGlu.nD Cert.WGlu.τ).loc Cert.WGlu.main_arg1))
      ∧ r.2.sem = fun _ => 0)

def quiescent_WGluIdeal [hWGluIdeal : Cert.WGluIdeal.Facts] : Prop :=
  ∀ (m : (ℓ : Loc Cert.WGluIdeal.nD Cert.WGluIdeal.τ Cert.WGluIdeal.sig) → Buf (Elt Ideal) ℓ) (g : Dev Cert.WGluIdeal.nD → PrngReg), Pre_WGluIdeal m →
    θ_run (Cert.WGluIdeal.defs (F := Ideal)) (onTc (τ := Cert.WGluIdeal.τ) (Cert.WGluIdeal.main (F := Ideal))) ⟨m, fun _ => 0, g⟩ (fun r => (∀ c : Dev Cert.WGluIdeal.nD,
      r.2.mem ((c.tc : Thread Cert.WGluIdeal.nD Cert.WGluIdeal.τ).loc Cert.WGluIdeal.main_arg0) = m ((c.tc : Thread Cert.WGluIdeal.nD Cert.WGluIdeal.τ).loc Cert.WGluIdeal.main_arg0)
      ∧ r.2.mem ((c.tc : Thread Cert.WGluIdeal.nD Cert.WGluIdeal.τ).loc Cert.WGluIdeal.main_arg1) = m ((c.tc : Thread Cert.WGluIdeal.nD Cert.WGluIdeal.τ).loc Cert.WGluIdeal.main_arg1))
      ∧ r.2.sem = fun _ => 0)

def quiescent_WGluRefIdeal [hWGluRefIdeal : Cert.WGluRefIdeal.Facts] : Prop :=
  ∀ (m : (ℓ : Loc Cert.WGluRefIdeal.nD Cert.WGluRefIdeal.τ Cert.WGluRefIdeal.sig) → Buf (Elt Ideal) ℓ) (g : Dev Cert.WGluRefIdeal.nD → PrngReg), Pre_WGluRefIdeal m →
    θ_run (Cert.WGluRefIdeal.defs (F := Ideal)) (onTc (τ := Cert.WGluRefIdeal.τ) (Cert.WGluRefIdeal.main (F := Ideal))) ⟨m, fun _ => 0, g⟩ (fun r => (∀ c : Dev Cert.WGluRefIdeal.nD,
      r.2.mem ((c.tc : Thread Cert.WGluRefIdeal.nD Cert.WGluRefIdeal.τ).loc Cert.WGluRefIdeal.main_arg0) = m ((c.tc : Thread Cert.WGluRefIdeal.nD Cert.WGluRefIdeal.τ).loc Cert.WGluRefIdeal.main_arg0)
      ∧ r.2.mem ((c.tc : Thread Cert.WGluRefIdeal.nD Cert.WGluRefIdeal.τ).loc Cert.WGluRefIdeal.main_arg1) = m ((c.tc : Thread Cert.WGluRefIdeal.nD Cert.WGluRefIdeal.τ).loc Cert.WGluRefIdeal.main_arg1))
      ∧ r.2.sem = fun _ => 0)

def quiescent_WSsmOut [hWSsmOut : Cert.WSsmOut.Facts] : Prop :=
  ∀ (m : (ℓ : Loc Cert.WSsmOut.nD Cert.WSsmOut.τ Cert.WSsmOut.sig) → Buf (Elt Bits) ℓ) (g : Dev Cert.WSsmOut.nD → PrngReg), Pre_WSsmOut m →
    θ_run (Cert.WSsmOut.defs (F := Bits)) (onTc (τ := Cert.WSsmOut.τ) (Cert.WSsmOut.main (F := Bits))) ⟨m, fun _ => 0, g⟩ (fun r => (∀ c : Dev Cert.WSsmOut.nD,
      r.2.mem ((c.tc : Thread Cert.WSsmOut.nD Cert.WSsmOut.τ).loc Cert.WSsmOut.main_arg0) = m ((c.tc : Thread Cert.WSsmOut.nD Cert.WSsmOut.τ).loc Cert.WSsmOut.main_arg0)
      ∧ r.2.mem ((c.tc : Thread Cert.WSsmOut.nD Cert.WSsmOut.τ).loc Cert.WSsmOut.main_arg1) = m ((c.tc : Thread Cert.WSsmOut.nD Cert.WSsmOut.τ).loc Cert.WSsmOut.main_arg1))
      ∧ r.2.sem = fun _ => 0)

def quiescent_WSsmOutIdeal [hWSsmOutIdeal : Cert.WSsmOutIdeal.Facts] : Prop :=
  ∀ (m : (ℓ : Loc Cert.WSsmOutIdeal.nD Cert.WSsmOutIdeal.τ Cert.WSsmOutIdeal.sig) → Buf (Elt Ideal) ℓ) (g : Dev Cert.WSsmOutIdeal.nD → PrngReg), Pre_WSsmOutIdeal m →
    θ_run (Cert.WSsmOutIdeal.defs (F := Ideal)) (onTc (τ := Cert.WSsmOutIdeal.τ) (Cert.WSsmOutIdeal.main (F := Ideal))) ⟨m, fun _ => 0, g⟩ (fun r => (∀ c : Dev Cert.WSsmOutIdeal.nD,
      r.2.mem ((c.tc : Thread Cert.WSsmOutIdeal.nD Cert.WSsmOutIdeal.τ).loc Cert.WSsmOutIdeal.main_arg0) = m ((c.tc : Thread Cert.WSsmOutIdeal.nD Cert.WSsmOutIdeal.τ).loc Cert.WSsmOutIdeal.main_arg0)
      ∧ r.2.mem ((c.tc : Thread Cert.WSsmOutIdeal.nD Cert.WSsmOutIdeal.τ).loc Cert.WSsmOutIdeal.main_arg1) = m ((c.tc : Thread Cert.WSsmOutIdeal.nD Cert.WSsmOutIdeal.τ).loc Cert.WSsmOutIdeal.main_arg1))
      ∧ r.2.sem = fun _ => 0)

def quiescent_WSsmOutRefIdeal [hWSsmOutRefIdeal : Cert.WSsmOutRefIdeal.Facts] : Prop :=
  ∀ (m : (ℓ : Loc Cert.WSsmOutRefIdeal.nD Cert.WSsmOutRefIdeal.τ Cert.WSsmOutRefIdeal.sig) → Buf (Elt Ideal) ℓ) (g : Dev Cert.WSsmOutRefIdeal.nD → PrngReg), Pre_WSsmOutRefIdeal m →
    θ_run (Cert.WSsmOutRefIdeal.defs (F := Ideal)) (onTc (τ := Cert.WSsmOutRefIdeal.τ) (Cert.WSsmOutRefIdeal.main (F := Ideal))) ⟨m, fun _ => 0, g⟩ (fun r => (∀ c : Dev Cert.WSsmOutRefIdeal.nD,
      r.2.mem ((c.tc : Thread Cert.WSsmOutRefIdeal.nD Cert.WSsmOutRefIdeal.τ).loc Cert.WSsmOutRefIdeal.main_arg0) = m ((c.tc : Thread Cert.WSsmOutRefIdeal.nD Cert.WSsmOutRefIdeal.τ).loc Cert.WSsmOutRefIdeal.main_arg0)
      ∧ r.2.mem ((c.tc : Thread Cert.WSsmOutRefIdeal.nD Cert.WSsmOutRefIdeal.τ).loc Cert.WSsmOutRefIdeal.main_arg1) = m ((c.tc : Thread Cert.WSsmOutRefIdeal.nD Cert.WSsmOutRefIdeal.τ).loc Cert.WSsmOutRefIdeal.main_arg1))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3))
      ∧ r.2.sem = fun _ => 0)

def quiescent_ProjectRefIdeal [hProjectRefIdeal : Cert.ProjectRefIdeal.Facts] : Prop :=
  ∀ (m : (ℓ : Loc Cert.ProjectRefIdeal.nD Cert.ProjectRefIdeal.τ Cert.ProjectRefIdeal.sig) → Buf (Elt Ideal) ℓ) (g : Dev Cert.ProjectRefIdeal.nD → PrngReg), Pre_ProjectRefIdeal m →
    θ_run (Cert.ProjectRefIdeal.defs (F := Ideal)) (onTc (τ := Cert.ProjectRefIdeal.τ) (Cert.ProjectRefIdeal.main (F := Ideal))) ⟨m, fun _ => 0, g⟩ (fun r => (∀ c : Dev Cert.ProjectRefIdeal.nD,
      r.2.mem ((c.tc : Thread Cert.ProjectRefIdeal.nD Cert.ProjectRefIdeal.τ).loc Cert.ProjectRefIdeal.main_arg0) = m ((c.tc : Thread Cert.ProjectRefIdeal.nD Cert.ProjectRefIdeal.τ).loc Cert.ProjectRefIdeal.main_arg0)
      ∧ r.2.mem ((c.tc : Thread Cert.ProjectRefIdeal.nD Cert.ProjectRefIdeal.τ).loc Cert.ProjectRefIdeal.main_arg1) = m ((c.tc : Thread Cert.ProjectRefIdeal.nD Cert.ProjectRefIdeal.τ).loc Cert.ProjectRefIdeal.main_arg1)
      ∧ r.2.mem ((c.tc : Thread Cert.ProjectRefIdeal.nD Cert.ProjectRefIdeal.τ).loc Cert.ProjectRefIdeal.main_arg2) = m ((c.tc : Thread Cert.ProjectRefIdeal.nD Cert.ProjectRefIdeal.τ).loc Cert.ProjectRefIdeal.main_arg2)
      ∧ r.2.mem ((c.tc : Thread Cert.ProjectRefIdeal.nD Cert.ProjectRefIdeal.τ).loc Cert.ProjectRefIdeal.main_arg3) = m ((c.tc : Thread Cert.ProjectRefIdeal.nD Cert.ProjectRefIdeal.τ).loc Cert.ProjectRefIdeal.main_arg3))
      ∧ r.2.sem = fun _ => 0)

def quiescent_ProjectZ [hProjectZ : Cert.ProjectZ.Facts] : Prop :=
  ∀ (m : (ℓ : Loc Cert.ProjectZ.nD Cert.ProjectZ.τ Cert.ProjectZ.sig) → Buf (Elt Bits) ℓ) (g : Dev Cert.ProjectZ.nD → PrngReg), Pre_ProjectZ m →
    θ_run (Cert.ProjectZ.defs (F := Bits)) (onTc (τ := Cert.ProjectZ.τ) (Cert.ProjectZ.main (F := Bits))) ⟨m, fun _ => 0, g⟩ (fun r => (∀ c : Dev Cert.ProjectZ.nD,
      r.2.mem ((c.tc : Thread Cert.ProjectZ.nD Cert.ProjectZ.τ).loc Cert.ProjectZ.main_arg0) = m ((c.tc : Thread Cert.ProjectZ.nD Cert.ProjectZ.τ).loc Cert.ProjectZ.main_arg0)
      ∧ r.2.mem ((c.tc : Thread Cert.ProjectZ.nD Cert.ProjectZ.τ).loc Cert.ProjectZ.main_arg1) = m ((c.tc : Thread Cert.ProjectZ.nD Cert.ProjectZ.τ).loc Cert.ProjectZ.main_arg1)
      ∧ r.2.mem ((c.tc : Thread Cert.ProjectZ.nD Cert.ProjectZ.τ).loc Cert.ProjectZ.main_arg2) = m ((c.tc : Thread Cert.ProjectZ.nD Cert.ProjectZ.τ).loc Cert.ProjectZ.main_arg2)
      ∧ r.2.mem ((c.tc : Thread Cert.ProjectZ.nD Cert.ProjectZ.τ).loc Cert.ProjectZ.main_arg3) = m ((c.tc : Thread Cert.ProjectZ.nD Cert.ProjectZ.τ).loc Cert.ProjectZ.main_arg3)
      ∧ r.2.mem ((c.tc : Thread Cert.ProjectZ.nD Cert.ProjectZ.τ).loc Cert.ProjectZ.main_arg4) = m ((c.tc : Thread Cert.ProjectZ.nD Cert.ProjectZ.τ).loc Cert.ProjectZ.main_arg4)
      ∧ r.2.mem ((c.tc : Thread Cert.ProjectZ.nD Cert.ProjectZ.τ).loc Cert.ProjectZ.main_arg5) = m ((c.tc : Thread Cert.ProjectZ.nD Cert.ProjectZ.τ).loc Cert.ProjectZ.main_arg5))
      ∧ r.2.sem = fun _ => 0)

def quiescent_ProjectZIdeal [hProjectZIdeal : Cert.ProjectZIdeal.Facts] : Prop :=
  ∀ (m : (ℓ : Loc Cert.ProjectZIdeal.nD Cert.ProjectZIdeal.τ Cert.ProjectZIdeal.sig) → Buf (Elt Ideal) ℓ) (g : Dev Cert.ProjectZIdeal.nD → PrngReg), Pre_ProjectZIdeal m →
    θ_run (Cert.ProjectZIdeal.defs (F := Ideal)) (onTc (τ := Cert.ProjectZIdeal.τ) (Cert.ProjectZIdeal.main (F := Ideal))) ⟨m, fun _ => 0, g⟩ (fun r => (∀ c : Dev Cert.ProjectZIdeal.nD,
      r.2.mem ((c.tc : Thread Cert.ProjectZIdeal.nD Cert.ProjectZIdeal.τ).loc Cert.ProjectZIdeal.main_arg0) = m ((c.tc : Thread Cert.ProjectZIdeal.nD Cert.ProjectZIdeal.τ).loc Cert.ProjectZIdeal.main_arg0)
      ∧ r.2.mem ((c.tc : Thread Cert.ProjectZIdeal.nD Cert.ProjectZIdeal.τ).loc Cert.ProjectZIdeal.main_arg1) = m ((c.tc : Thread Cert.ProjectZIdeal.nD Cert.ProjectZIdeal.τ).loc Cert.ProjectZIdeal.main_arg1)
      ∧ r.2.mem ((c.tc : Thread Cert.ProjectZIdeal.nD Cert.ProjectZIdeal.τ).loc Cert.ProjectZIdeal.main_arg2) = m ((c.tc : Thread Cert.ProjectZIdeal.nD Cert.ProjectZIdeal.τ).loc Cert.ProjectZIdeal.main_arg2)
      ∧ r.2.mem ((c.tc : Thread Cert.ProjectZIdeal.nD Cert.ProjectZIdeal.τ).loc Cert.ProjectZIdeal.main_arg3) = m ((c.tc : Thread Cert.ProjectZIdeal.nD Cert.ProjectZIdeal.τ).loc Cert.ProjectZIdeal.main_arg3)
      ∧ r.2.mem ((c.tc : Thread Cert.ProjectZIdeal.nD Cert.ProjectZIdeal.τ).loc Cert.ProjectZIdeal.main_arg4) = m ((c.tc : Thread Cert.ProjectZIdeal.nD Cert.ProjectZIdeal.τ).loc Cert.ProjectZIdeal.main_arg4)
      ∧ r.2.mem ((c.tc : Thread Cert.ProjectZIdeal.nD Cert.ProjectZIdeal.τ).loc Cert.ProjectZIdeal.main_arg5) = m ((c.tc : Thread Cert.ProjectZIdeal.nD Cert.ProjectZIdeal.τ).loc Cert.ProjectZIdeal.main_arg5))
      ∧ r.2.sem = fun _ => 0)

def quiescent_ProjectZRefIdeal [hProjectZRefIdeal : Cert.ProjectZRefIdeal.Facts] : Prop :=
  ∀ (m : (ℓ : Loc Cert.ProjectZRefIdeal.nD Cert.ProjectZRefIdeal.τ Cert.ProjectZRefIdeal.sig) → Buf (Elt Ideal) ℓ) (g : Dev Cert.ProjectZRefIdeal.nD → PrngReg), Pre_ProjectZRefIdeal m →
    θ_run (Cert.ProjectZRefIdeal.defs (F := Ideal)) (onTc (τ := Cert.ProjectZRefIdeal.τ) (Cert.ProjectZRefIdeal.main (F := Ideal))) ⟨m, fun _ => 0, g⟩ (fun r => (∀ c : Dev Cert.ProjectZRefIdeal.nD,
      r.2.mem ((c.tc : Thread Cert.ProjectZRefIdeal.nD Cert.ProjectZRefIdeal.τ).loc Cert.ProjectZRefIdeal.main_arg0) = m ((c.tc : Thread Cert.ProjectZRefIdeal.nD Cert.ProjectZRefIdeal.τ).loc Cert.ProjectZRefIdeal.main_arg0)
      ∧ r.2.mem ((c.tc : Thread Cert.ProjectZRefIdeal.nD Cert.ProjectZRefIdeal.τ).loc Cert.ProjectZRefIdeal.main_arg1) = m ((c.tc : Thread Cert.ProjectZRefIdeal.nD Cert.ProjectZRefIdeal.τ).loc Cert.ProjectZRefIdeal.main_arg1)
      ∧ r.2.mem ((c.tc : Thread Cert.ProjectZRefIdeal.nD Cert.ProjectZRefIdeal.τ).loc Cert.ProjectZRefIdeal.main_arg2) = m ((c.tc : Thread Cert.ProjectZRefIdeal.nD Cert.ProjectZRefIdeal.τ).loc Cert.ProjectZRefIdeal.main_arg2)
      ∧ r.2.mem ((c.tc : Thread Cert.ProjectZRefIdeal.nD Cert.ProjectZRefIdeal.τ).loc Cert.ProjectZRefIdeal.main_arg3) = m ((c.tc : Thread Cert.ProjectZRefIdeal.nD Cert.ProjectZRefIdeal.τ).loc Cert.ProjectZRefIdeal.main_arg3)
      ∧ r.2.mem ((c.tc : Thread Cert.ProjectZRefIdeal.nD Cert.ProjectZRefIdeal.τ).loc Cert.ProjectZRefIdeal.main_arg4) = m ((c.tc : Thread Cert.ProjectZRefIdeal.nD Cert.ProjectZRefIdeal.τ).loc Cert.ProjectZRefIdeal.main_arg4)
      ∧ r.2.mem ((c.tc : Thread Cert.ProjectZRefIdeal.nD Cert.ProjectZRefIdeal.τ).loc Cert.ProjectZRefIdeal.main_arg5) = m ((c.tc : Thread Cert.ProjectZRefIdeal.nD Cert.ProjectZRefIdeal.τ).loc Cert.ProjectZRefIdeal.main_arg5))
      ∧ r.2.sem = fun _ => 0)

def quiescent_AdamConvIn [hAdamConvIn : Cert.AdamConvIn.Facts] : Prop :=
  ∀ (m : (ℓ : Loc Cert.AdamConvIn.nD Cert.AdamConvIn.τ Cert.AdamConvIn.sig) → Buf (Elt Bits) ℓ) (g : Dev Cert.AdamConvIn.nD → PrngReg), Pre_AdamConvIn m →
    θ_run (Cert.AdamConvIn.defs (F := Bits)) (onTc (τ := Cert.AdamConvIn.τ) (Cert.AdamConvIn.main (F := Bits))) ⟨m, fun _ => 0, g⟩ (fun r => (∀ c : Dev Cert.AdamConvIn.nD,
      r.2.mem ((c.tc : Thread Cert.AdamConvIn.nD Cert.AdamConvIn.τ).loc Cert.AdamConvIn.main_arg0) = m ((c.tc : Thread Cert.AdamConvIn.nD Cert.AdamConvIn.τ).loc Cert.AdamConvIn.main_arg0)
      ∧ r.2.mem ((c.tc : Thread Cert.AdamConvIn.nD Cert.AdamConvIn.τ).loc Cert.AdamConvIn.main_arg1) = m ((c.tc : Thread Cert.AdamConvIn.nD Cert.AdamConvIn.τ).loc Cert.AdamConvIn.main_arg1)
      ∧ r.2.mem ((c.tc : Thread Cert.AdamConvIn.nD Cert.AdamConvIn.τ).loc Cert.AdamConvIn.main_arg2) = m ((c.tc : Thread Cert.AdamConvIn.nD Cert.AdamConvIn.τ).loc Cert.AdamConvIn.main_arg2)
      ∧ r.2.mem ((c.tc : Thread Cert.AdamConvIn.nD Cert.AdamConvIn.τ).loc Cert.AdamConvIn.main_arg3) = m ((c.tc : Thread Cert.AdamConvIn.nD Cert.AdamConvIn.τ).loc Cert.AdamConvIn.main_arg3))
      ∧ r.2.sem = fun _ => 0)

def quiescent_AdamConvInIdeal [hAdamConvInIdeal : Cert.AdamConvInIdeal.Facts] : Prop :=
  ∀ (m : (ℓ : Loc Cert.AdamConvInIdeal.nD Cert.AdamConvInIdeal.τ Cert.AdamConvInIdeal.sig) → Buf (Elt Ideal) ℓ) (g : Dev Cert.AdamConvInIdeal.nD → PrngReg), Pre_AdamConvInIdeal m →
    θ_run (Cert.AdamConvInIdeal.defs (F := Ideal)) (onTc (τ := Cert.AdamConvInIdeal.τ) (Cert.AdamConvInIdeal.main (F := Ideal))) ⟨m, fun _ => 0, g⟩ (fun r => (∀ c : Dev Cert.AdamConvInIdeal.nD,
      r.2.mem ((c.tc : Thread Cert.AdamConvInIdeal.nD Cert.AdamConvInIdeal.τ).loc Cert.AdamConvInIdeal.main_arg0) = m ((c.tc : Thread Cert.AdamConvInIdeal.nD Cert.AdamConvInIdeal.τ).loc Cert.AdamConvInIdeal.main_arg0)
      ∧ r.2.mem ((c.tc : Thread Cert.AdamConvInIdeal.nD Cert.AdamConvInIdeal.τ).loc Cert.AdamConvInIdeal.main_arg1) = m ((c.tc : Thread Cert.AdamConvInIdeal.nD Cert.AdamConvInIdeal.τ).loc Cert.AdamConvInIdeal.main_arg1)
      ∧ r.2.mem ((c.tc : Thread Cert.AdamConvInIdeal.nD Cert.AdamConvInIdeal.τ).loc Cert.AdamConvInIdeal.main_arg2) = m ((c.tc : Thread Cert.AdamConvInIdeal.nD Cert.AdamConvInIdeal.τ).loc Cert.AdamConvInIdeal.main_arg2)
      ∧ r.2.mem ((c.tc : Thread Cert.AdamConvInIdeal.nD Cert.AdamConvInIdeal.τ).loc Cert.AdamConvInIdeal.main_arg3) = m ((c.tc : Thread Cert.AdamConvInIdeal.nD Cert.AdamConvInIdeal.τ).loc Cert.AdamConvInIdeal.main_arg3))
      ∧ r.2.sem = fun _ => 0)

def quiescent_AdamConvInRefIdeal [hAdamConvInRefIdeal : Cert.AdamConvInRefIdeal.Facts] : Prop :=
  ∀ (m : (ℓ : Loc Cert.AdamConvInRefIdeal.nD Cert.AdamConvInRefIdeal.τ Cert.AdamConvInRefIdeal.sig) → Buf (Elt Ideal) ℓ) (g : Dev Cert.AdamConvInRefIdeal.nD → PrngReg), Pre_AdamConvInRefIdeal m →
    θ_run (Cert.AdamConvInRefIdeal.defs (F := Ideal)) (onTc (τ := Cert.AdamConvInRefIdeal.τ) (Cert.AdamConvInRefIdeal.main (F := Ideal))) ⟨m, fun _ => 0, g⟩ (fun r => (∀ c : Dev Cert.AdamConvInRefIdeal.nD,
      r.2.mem ((c.tc : Thread Cert.AdamConvInRefIdeal.nD Cert.AdamConvInRefIdeal.τ).loc Cert.AdamConvInRefIdeal.main_arg0) = m ((c.tc : Thread Cert.AdamConvInRefIdeal.nD Cert.AdamConvInRefIdeal.τ).loc Cert.AdamConvInRefIdeal.main_arg0)
      ∧ r.2.mem ((c.tc : Thread Cert.AdamConvInRefIdeal.nD Cert.AdamConvInRefIdeal.τ).loc Cert.AdamConvInRefIdeal.main_arg1) = m ((c.tc : Thread Cert.AdamConvInRefIdeal.nD Cert.AdamConvInRefIdeal.τ).loc Cert.AdamConvInRefIdeal.main_arg1)
      ∧ r.2.mem ((c.tc : Thread Cert.AdamConvInRefIdeal.nD Cert.AdamConvInRefIdeal.τ).loc Cert.AdamConvInRefIdeal.main_arg2) = m ((c.tc : Thread Cert.AdamConvInRefIdeal.nD Cert.AdamConvInRefIdeal.τ).loc Cert.AdamConvInRefIdeal.main_arg2)
      ∧ r.2.mem ((c.tc : Thread Cert.AdamConvInRefIdeal.nD Cert.AdamConvInRefIdeal.τ).loc Cert.AdamConvInRefIdeal.main_arg3) = m ((c.tc : Thread Cert.AdamConvInRefIdeal.nD Cert.AdamConvInRefIdeal.τ).loc Cert.AdamConvInRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamSsmIn [hAdamSsmIn : Cert.AdamSsmIn.Facts] : Prop :=
  ∀ (m : (ℓ : Loc Cert.AdamSsmIn.nD Cert.AdamSsmIn.τ Cert.AdamSsmIn.sig) → Buf (Elt Bits) ℓ) (g : Dev Cert.AdamSsmIn.nD → PrngReg), Pre_AdamSsmIn m →
    θ_run (Cert.AdamSsmIn.defs (F := Bits)) (onTc (τ := Cert.AdamSsmIn.τ) (Cert.AdamSsmIn.main (F := Bits))) ⟨m, fun _ => 0, g⟩ (fun r => (∀ c : Dev Cert.AdamSsmIn.nD,
      r.2.mem ((c.tc : Thread Cert.AdamSsmIn.nD Cert.AdamSsmIn.τ).loc Cert.AdamSsmIn.main_arg0) = m ((c.tc : Thread Cert.AdamSsmIn.nD Cert.AdamSsmIn.τ).loc Cert.AdamSsmIn.main_arg0)
      ∧ r.2.mem ((c.tc : Thread Cert.AdamSsmIn.nD Cert.AdamSsmIn.τ).loc Cert.AdamSsmIn.main_arg1) = m ((c.tc : Thread Cert.AdamSsmIn.nD Cert.AdamSsmIn.τ).loc Cert.AdamSsmIn.main_arg1)
      ∧ r.2.mem ((c.tc : Thread Cert.AdamSsmIn.nD Cert.AdamSsmIn.τ).loc Cert.AdamSsmIn.main_arg2) = m ((c.tc : Thread Cert.AdamSsmIn.nD Cert.AdamSsmIn.τ).loc Cert.AdamSsmIn.main_arg2)
      ∧ r.2.mem ((c.tc : Thread Cert.AdamSsmIn.nD Cert.AdamSsmIn.τ).loc Cert.AdamSsmIn.main_arg3) = m ((c.tc : Thread Cert.AdamSsmIn.nD Cert.AdamSsmIn.τ).loc Cert.AdamSsmIn.main_arg3))
      ∧ r.2.sem = fun _ => 0)

def quiescent_AdamSsmInIdeal [hAdamSsmInIdeal : Cert.AdamSsmInIdeal.Facts] : Prop :=
  ∀ (m : (ℓ : Loc Cert.AdamSsmInIdeal.nD Cert.AdamSsmInIdeal.τ Cert.AdamSsmInIdeal.sig) → Buf (Elt Ideal) ℓ) (g : Dev Cert.AdamSsmInIdeal.nD → PrngReg), Pre_AdamSsmInIdeal m →
    θ_run (Cert.AdamSsmInIdeal.defs (F := Ideal)) (onTc (τ := Cert.AdamSsmInIdeal.τ) (Cert.AdamSsmInIdeal.main (F := Ideal))) ⟨m, fun _ => 0, g⟩ (fun r => (∀ c : Dev Cert.AdamSsmInIdeal.nD,
      r.2.mem ((c.tc : Thread Cert.AdamSsmInIdeal.nD Cert.AdamSsmInIdeal.τ).loc Cert.AdamSsmInIdeal.main_arg0) = m ((c.tc : Thread Cert.AdamSsmInIdeal.nD Cert.AdamSsmInIdeal.τ).loc Cert.AdamSsmInIdeal.main_arg0)
      ∧ r.2.mem ((c.tc : Thread Cert.AdamSsmInIdeal.nD Cert.AdamSsmInIdeal.τ).loc Cert.AdamSsmInIdeal.main_arg1) = m ((c.tc : Thread Cert.AdamSsmInIdeal.nD Cert.AdamSsmInIdeal.τ).loc Cert.AdamSsmInIdeal.main_arg1)
      ∧ r.2.mem ((c.tc : Thread Cert.AdamSsmInIdeal.nD Cert.AdamSsmInIdeal.τ).loc Cert.AdamSsmInIdeal.main_arg2) = m ((c.tc : Thread Cert.AdamSsmInIdeal.nD Cert.AdamSsmInIdeal.τ).loc Cert.AdamSsmInIdeal.main_arg2)
      ∧ r.2.mem ((c.tc : Thread Cert.AdamSsmInIdeal.nD Cert.AdamSsmInIdeal.τ).loc Cert.AdamSsmInIdeal.main_arg3) = m ((c.tc : Thread Cert.AdamSsmInIdeal.nD Cert.AdamSsmInIdeal.τ).loc Cert.AdamSsmInIdeal.main_arg3))
      ∧ r.2.sem = fun _ => 0)

def quiescent_AdamSsmInRefIdeal [hAdamSsmInRefIdeal : Cert.AdamSsmInRefIdeal.Facts] : Prop :=
  ∀ (m : (ℓ : Loc Cert.AdamSsmInRefIdeal.nD Cert.AdamSsmInRefIdeal.τ Cert.AdamSsmInRefIdeal.sig) → Buf (Elt Ideal) ℓ) (g : Dev Cert.AdamSsmInRefIdeal.nD → PrngReg), Pre_AdamSsmInRefIdeal m →
    θ_run (Cert.AdamSsmInRefIdeal.defs (F := Ideal)) (onTc (τ := Cert.AdamSsmInRefIdeal.τ) (Cert.AdamSsmInRefIdeal.main (F := Ideal))) ⟨m, fun _ => 0, g⟩ (fun r => (∀ c : Dev Cert.AdamSsmInRefIdeal.nD,
      r.2.mem ((c.tc : Thread Cert.AdamSsmInRefIdeal.nD Cert.AdamSsmInRefIdeal.τ).loc Cert.AdamSsmInRefIdeal.main_arg0) = m ((c.tc : Thread Cert.AdamSsmInRefIdeal.nD Cert.AdamSsmInRefIdeal.τ).loc Cert.AdamSsmInRefIdeal.main_arg0)
      ∧ r.2.mem ((c.tc : Thread Cert.AdamSsmInRefIdeal.nD Cert.AdamSsmInRefIdeal.τ).loc Cert.AdamSsmInRefIdeal.main_arg1) = m ((c.tc : Thread Cert.AdamSsmInRefIdeal.nD Cert.AdamSsmInRefIdeal.τ).loc Cert.AdamSsmInRefIdeal.main_arg1)
      ∧ r.2.mem ((c.tc : Thread Cert.AdamSsmInRefIdeal.nD Cert.AdamSsmInRefIdeal.τ).loc Cert.AdamSsmInRefIdeal.main_arg2) = m ((c.tc : Thread Cert.AdamSsmInRefIdeal.nD Cert.AdamSsmInRefIdeal.τ).loc Cert.AdamSsmInRefIdeal.main_arg2)
      ∧ r.2.mem ((c.tc : Thread Cert.AdamSsmInRefIdeal.nD Cert.AdamSsmInRefIdeal.τ).loc Cert.AdamSsmInRefIdeal.main_arg3) = m ((c.tc : Thread Cert.AdamSsmInRefIdeal.nD Cert.AdamSsmInRefIdeal.τ).loc Cert.AdamSsmInRefIdeal.main_arg3))
      ∧ r.2.sem = fun _ => 0)

def quiescent_AdamGlu [hAdamGlu : Cert.AdamGlu.Facts] : Prop :=
  ∀ (m : (ℓ : Loc Cert.AdamGlu.nD Cert.AdamGlu.τ Cert.AdamGlu.sig) → Buf (Elt Bits) ℓ) (g : Dev Cert.AdamGlu.nD → PrngReg), Pre_AdamGlu m →
    θ_run (Cert.AdamGlu.defs (F := Bits)) (onTc (τ := Cert.AdamGlu.τ) (Cert.AdamGlu.main (F := Bits))) ⟨m, fun _ => 0, g⟩ (fun r => (∀ c : Dev Cert.AdamGlu.nD,
      r.2.mem ((c.tc : Thread Cert.AdamGlu.nD Cert.AdamGlu.τ).loc Cert.AdamGlu.main_arg0) = m ((c.tc : Thread Cert.AdamGlu.nD Cert.AdamGlu.τ).loc Cert.AdamGlu.main_arg0)
      ∧ r.2.mem ((c.tc : Thread Cert.AdamGlu.nD Cert.AdamGlu.τ).loc Cert.AdamGlu.main_arg1) = m ((c.tc : Thread Cert.AdamGlu.nD Cert.AdamGlu.τ).loc Cert.AdamGlu.main_arg1)
      ∧ r.2.mem ((c.tc : Thread Cert.AdamGlu.nD Cert.AdamGlu.τ).loc Cert.AdamGlu.main_arg2) = m ((c.tc : Thread Cert.AdamGlu.nD Cert.AdamGlu.τ).loc Cert.AdamGlu.main_arg2)
      ∧ r.2.mem ((c.tc : Thread Cert.AdamGlu.nD Cert.AdamGlu.τ).loc Cert.AdamGlu.main_arg3) = m ((c.tc : Thread Cert.AdamGlu.nD Cert.AdamGlu.τ).loc Cert.AdamGlu.main_arg3))
      ∧ r.2.sem = fun _ => 0)

def quiescent_AdamGluIdeal [hAdamGluIdeal : Cert.AdamGluIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg), Pre_AdamGluIdeal m →
    θ_run (Cert.AdamGluIdeal.defs (F := Ideal)) (onTc (τ := Cert.AdamGluIdeal.τ) (Cert.AdamGluIdeal.main (F := Ideal))) ⟨m, fun _ => 0, g⟩ (fun r => (∀ c : Dev Cert.AdamGluIdeal.nD,
      r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
      ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
      ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
      ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3))
      ∧ r.2.sem = fun _ => 0)

def quiescent_AdamGluRefIdeal [hAdamGluRefIdeal : Cert.AdamGluRefIdeal.Facts] : Prop :=
  ∀ (m : (ℓ : Loc Cert.AdamGluRefIdeal.nD Cert.AdamGluRefIdeal.τ Cert.AdamGluRefIdeal.sig) → Buf (Elt Ideal) ℓ) (g : Dev Cert.AdamGluRefIdeal.nD → PrngReg), Pre_AdamGluRefIdeal m →
    θ_run (Cert.AdamGluRefIdeal.defs (F := Ideal)) (onTc (τ := Cert.AdamGluRefIdeal.τ) (Cert.AdamGluRefIdeal.main (F := Ideal))) ⟨m, fun _ => 0, g⟩ (fun r => (∀ c : Dev Cert.AdamGluRefIdeal.nD,
      r.2.mem ((c.tc : Thread Cert.AdamGluRefIdeal.nD Cert.AdamGluRefIdeal.τ).loc Cert.AdamGluRefIdeal.main_arg0) = m ((c.tc : Thread Cert.AdamGluRefIdeal.nD Cert.AdamGluRefIdeal.τ).loc Cert.AdamGluRefIdeal.main_arg0)
      ∧ r.2.mem ((c.tc : Thread Cert.AdamGluRefIdeal.nD Cert.AdamGluRefIdeal.τ).loc Cert.AdamGluRefIdeal.main_arg1) = m ((c.tc : Thread Cert.AdamGluRefIdeal.nD Cert.AdamGluRefIdeal.τ).loc Cert.AdamGluRefIdeal.main_arg1)
      ∧ r.2.mem ((c.tc : Thread Cert.AdamGluRefIdeal.nD Cert.AdamGluRefIdeal.τ).loc Cert.AdamGluRefIdeal.main_arg2) = m ((c.tc : Thread Cert.AdamGluRefIdeal.nD Cert.AdamGluRefIdeal.τ).loc Cert.AdamGluRefIdeal.main_arg2)
      ∧ r.2.mem ((c.tc : Thread Cert.AdamGluRefIdeal.nD Cert.AdamGluRefIdeal.τ).loc Cert.AdamGluRefIdeal.main_arg3) = m ((c.tc : Thread Cert.AdamGluRefIdeal.nD Cert.AdamGluRefIdeal.τ).loc Cert.AdamGluRefIdeal.main_arg3))
      ∧ r.2.sem = fun _ => 0)

def quiescent_AdamAda [hAdamAda : Cert.AdamAda.Facts] : Prop :=
  ∀ (m : (ℓ : Loc Cert.AdamAda.nD Cert.AdamAda.τ Cert.AdamAda.sig) → Buf (Elt Bits) ℓ) (g : Dev Cert.AdamAda.nD → PrngReg), Pre_AdamAda m →
    θ_run (Cert.AdamAda.defs (F := Bits)) (onTc (τ := Cert.AdamAda.τ) (Cert.AdamAda.main (F := Bits))) ⟨m, fun _ => 0, g⟩ (fun r => (∀ c : Dev Cert.AdamAda.nD,
      r.2.mem ((c.tc : Thread Cert.AdamAda.nD Cert.AdamAda.τ).loc Cert.AdamAda.main_arg0) = m ((c.tc : Thread Cert.AdamAda.nD Cert.AdamAda.τ).loc Cert.AdamAda.main_arg0)
      ∧ r.2.mem ((c.tc : Thread Cert.AdamAda.nD Cert.AdamAda.τ).loc Cert.AdamAda.main_arg1) = m ((c.tc : Thread Cert.AdamAda.nD Cert.AdamAda.τ).loc Cert.AdamAda.main_arg1)
      ∧ r.2.mem ((c.tc : Thread Cert.AdamAda.nD Cert.AdamAda.τ).loc Cert.AdamAda.main_arg2) = m ((c.tc : Thread Cert.AdamAda.nD Cert.AdamAda.τ).loc Cert.AdamAda.main_arg2)
      ∧ r.2.mem ((c.tc : Thread Cert.AdamAda.nD Cert.AdamAda.τ).loc Cert.AdamAda.main_arg3) = m ((c.tc : Thread Cert.AdamAda.nD Cert.AdamAda.τ).loc Cert.AdamAda.main_arg3))
      ∧ r.2.sem = fun _ => 0)

def quiescent_AdamAdaIdeal [hAdamAdaIdeal : Cert.AdamAdaIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg), Pre_AdamAdaIdeal m →
    θ_run (Cert.AdamAdaIdeal.defs (F := Ideal)) (onTc (τ := Cert.AdamAdaIdeal.τ) (Cert.AdamAdaIdeal.main (F := Ideal))) ⟨m, fun _ => 0, g⟩ (fun r => (∀ c : Dev Cert.AdamAdaIdeal.nD,
      r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
      ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
      ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
      ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ r.2.sem = fun _ => 0)

def quiescent_AdamAdaRefIdeal [hAdamAdaRefIdeal : Cert.AdamAdaRefIdeal.Facts] : Prop :=
  ∀ (m : (ℓ : Loc Cert.AdamAdaRefIdeal.nD Cert.AdamAdaRefIdeal.τ Cert.AdamAdaRefIdeal.sig) → Buf (Elt Ideal) ℓ) (g : Dev Cert.AdamAdaRefIdeal.nD → PrngReg), Pre_AdamAdaRefIdeal m →
    θ_run (Cert.AdamAdaRefIdeal.defs (F := Ideal)) (onTc (τ := Cert.AdamAdaRefIdeal.τ) (Cert.AdamAdaRefIdeal.main (F := Ideal))) ⟨m, fun _ => 0, g⟩ (fun r => (∀ c : Dev Cert.AdamAdaRefIdeal.nD,
      r.2.mem ((c.tc : Thread Cert.AdamAdaRefIdeal.nD Cert.AdamAdaRefIdeal.τ).loc Cert.AdamAdaRefIdeal.main_arg0) = m ((c.tc : Thread Cert.AdamAdaRefIdeal.nD Cert.AdamAdaRefIdeal.τ).loc Cert.AdamAdaRefIdeal.main_arg0)
      ∧ r.2.mem ((c.tc : Thread Cert.AdamAdaRefIdeal.nD Cert.AdamAdaRefIdeal.τ).loc Cert.AdamAdaRefIdeal.main_arg1) = m ((c.tc : Thread Cert.AdamAdaRefIdeal.nD Cert.AdamAdaRefIdeal.τ).loc Cert.AdamAdaRefIdeal.main_arg1)
      ∧ r.2.mem ((c.tc : Thread Cert.AdamAdaRefIdeal.nD Cert.AdamAdaRefIdeal.τ).loc Cert.AdamAdaRefIdeal.main_arg2) = m ((c.tc : Thread Cert.AdamAdaRefIdeal.nD Cert.AdamAdaRefIdeal.τ).loc Cert.AdamAdaRefIdeal.main_arg2)
      ∧ r.2.mem ((c.tc : Thread Cert.AdamAdaRefIdeal.nD Cert.AdamAdaRefIdeal.τ).loc Cert.AdamAdaRefIdeal.main_arg3) = m ((c.tc : Thread Cert.AdamAdaRefIdeal.nD Cert.AdamAdaRefIdeal.τ).loc Cert.AdamAdaRefIdeal.main_arg3))
      ∧ r.2.sem = fun _ => 0)

def quiescent_AdamCtx [hAdamCtx : Cert.AdamCtx.Facts] : Prop :=
  ∀ (m : (ℓ : Loc Cert.AdamCtx.nD Cert.AdamCtx.τ Cert.AdamCtx.sig) → Buf (Elt Bits) ℓ) (g : Dev Cert.AdamCtx.nD → PrngReg), Pre_AdamCtx m →
    θ_run (Cert.AdamCtx.defs (F := Bits)) (onTc (τ := Cert.AdamCtx.τ) (Cert.AdamCtx.main (F := Bits))) ⟨m, fun _ => 0, g⟩ (fun r => (∀ c : Dev Cert.AdamCtx.nD,
      r.2.mem ((c.tc : Thread Cert.AdamCtx.nD Cert.AdamCtx.τ).loc Cert.AdamCtx.main_arg0) = m ((c.tc : Thread Cert.AdamCtx.nD Cert.AdamCtx.τ).loc Cert.AdamCtx.main_arg0)
      ∧ r.2.mem ((c.tc : Thread Cert.AdamCtx.nD Cert.AdamCtx.τ).loc Cert.AdamCtx.main_arg1) = m ((c.tc : Thread Cert.AdamCtx.nD Cert.AdamCtx.τ).loc Cert.AdamCtx.main_arg1)
      ∧ r.2.mem ((c.tc : Thread Cert.AdamCtx.nD Cert.AdamCtx.τ).loc Cert.AdamCtx.main_arg2) = m ((c.tc : Thread Cert.AdamCtx.nD Cert.AdamCtx.τ).loc Cert.AdamCtx.main_arg2)
      ∧ r.2.mem ((c.tc : Thread Cert.AdamCtx.nD Cert.AdamCtx.τ).loc Cert.AdamCtx.main_arg3) = m ((c.tc : Thread Cert.AdamCtx.nD Cert.AdamCtx.τ).loc Cert.AdamCtx.main_arg3))
      ∧ r.2.sem = fun _ => 0)

def quiescent_AdamCtxIdeal [hAdamCtxIdeal : Cert.AdamCtxIdeal.Facts] : Prop :=
  ∀ (m : (ℓ : Loc Cert.AdamCtxIdeal.nD Cert.AdamCtxIdeal.τ Cert.AdamCtxIdeal.sig) → Buf (Elt Ideal) ℓ) (g : Dev Cert.AdamCtxIdeal.nD → PrngReg), Pre_AdamCtxIdeal m →
    θ_run (Cert.AdamCtxIdeal.defs (F := Ideal)) (onTc (τ := Cert.AdamCtxIdeal.τ) (Cert.AdamCtxIdeal.main (F := Ideal))) ⟨m, fun _ => 0, g⟩ (fun r => (∀ c : Dev Cert.AdamCtxIdeal.nD,
      r.2.mem ((c.tc : Thread Cert.AdamCtxIdeal.nD Cert.AdamCtxIdeal.τ).loc Cert.AdamCtxIdeal.main_arg0) = m ((c.tc : Thread Cert.AdamCtxIdeal.nD Cert.AdamCtxIdeal.τ).loc Cert.AdamCtxIdeal.main_arg0)
      ∧ r.2.mem ((c.tc : Thread Cert.AdamCtxIdeal.nD Cert.AdamCtxIdeal.τ).loc Cert.AdamCtxIdeal.main_arg1) = m ((c.tc : Thread Cert.AdamCtxIdeal.nD Cert.AdamCtxIdeal.τ).loc Cert.AdamCtxIdeal.main_arg1)
      ∧ r.2.mem ((c.tc : Thread Cert.AdamCtxIdeal.nD Cert.AdamCtxIdeal.τ).loc Cert.AdamCtxIdeal.main_arg2) = m ((c.tc : Thread Cert.AdamCtxIdeal.nD Cert.AdamCtxIdeal.τ).loc Cert.AdamCtxIdeal.main_arg2)
      ∧ r.2.mem ((c.tc : Thread Cert.AdamCtxIdeal.nD Cert.AdamCtxIdeal.τ).loc Cert.AdamCtxIdeal.main_arg3) = m ((c.tc : Thread Cert.AdamCtxIdeal.nD Cert.AdamCtxIdeal.τ).loc Cert.AdamCtxIdeal.main_arg3))
      ∧ r.2.sem = fun _ => 0)

def quiescent_AdamCtxRefIdeal [hAdamCtxRefIdeal : Cert.AdamCtxRefIdeal.Facts] : Prop :=
  ∀ (m : (ℓ : Loc Cert.AdamCtxRefIdeal.nD Cert.AdamCtxRefIdeal.τ Cert.AdamCtxRefIdeal.sig) → Buf (Elt Ideal) ℓ) (g : Dev Cert.AdamCtxRefIdeal.nD → PrngReg), Pre_AdamCtxRefIdeal m →
    θ_run (Cert.AdamCtxRefIdeal.defs (F := Ideal)) (onTc (τ := Cert.AdamCtxRefIdeal.τ) (Cert.AdamCtxRefIdeal.main (F := Ideal))) ⟨m, fun _ => 0, g⟩ (fun r => (∀ c : Dev Cert.AdamCtxRefIdeal.nD,
      r.2.mem ((c.tc : Thread Cert.AdamCtxRefIdeal.nD Cert.AdamCtxRefIdeal.τ).loc Cert.AdamCtxRefIdeal.main_arg0) = m ((c.tc : Thread Cert.AdamCtxRefIdeal.nD Cert.AdamCtxRefIdeal.τ).loc Cert.AdamCtxRefIdeal.main_arg0)
      ∧ r.2.mem ((c.tc : Thread Cert.AdamCtxRefIdeal.nD Cert.AdamCtxRefIdeal.τ).loc Cert.AdamCtxRefIdeal.main_arg1) = m ((c.tc : Thread Cert.AdamCtxRefIdeal.nD Cert.AdamCtxRefIdeal.τ).loc Cert.AdamCtxRefIdeal.main_arg1)
      ∧ r.2.mem ((c.tc : Thread Cert.AdamCtxRefIdeal.nD Cert.AdamCtxRefIdeal.τ).loc Cert.AdamCtxRefIdeal.main_arg2) = m ((c.tc : Thread Cert.AdamCtxRefIdeal.nD Cert.AdamCtxRefIdeal.τ).loc Cert.AdamCtxRefIdeal.main_arg2)
      ∧ r.2.mem ((c.tc : Thread Cert.AdamCtxRefIdeal.nD Cert.AdamCtxRefIdeal.τ).loc Cert.AdamCtxRefIdeal.main_arg3) = m ((c.tc : Thread Cert.AdamCtxRefIdeal.nD Cert.AdamCtxRefIdeal.τ).loc Cert.AdamCtxRefIdeal.main_arg3))
      ∧ r.2.sem = fun _ => 0)

def quiescent_AdamAdaB [hAdamAdaB : Cert.AdamAdaB.Facts] : Prop :=
  ∀ (m : (ℓ : Loc Cert.AdamAdaB.nD Cert.AdamAdaB.τ Cert.AdamAdaB.sig) → Buf (Elt Bits) ℓ) (g : Dev Cert.AdamAdaB.nD → PrngReg), Pre_AdamAdaB m →
    θ_run (Cert.AdamAdaB.defs (F := Bits)) (onTc (τ := Cert.AdamAdaB.τ) (Cert.AdamAdaB.main (F := Bits))) ⟨m, fun _ => 0, g⟩ (fun r => (∀ c : Dev Cert.AdamAdaB.nD,
      r.2.mem ((c.tc : Thread Cert.AdamAdaB.nD Cert.AdamAdaB.τ).loc Cert.AdamAdaB.main_arg0) = m ((c.tc : Thread Cert.AdamAdaB.nD Cert.AdamAdaB.τ).loc Cert.AdamAdaB.main_arg0)
      ∧ r.2.mem ((c.tc : Thread Cert.AdamAdaB.nD Cert.AdamAdaB.τ).loc Cert.AdamAdaB.main_arg1) = m ((c.tc : Thread Cert.AdamAdaB.nD Cert.AdamAdaB.τ).loc Cert.AdamAdaB.main_arg1)
      ∧ r.2.mem ((c.tc : Thread Cert.AdamAdaB.nD Cert.AdamAdaB.τ).loc Cert.AdamAdaB.main_arg2) = m ((c.tc : Thread Cert.AdamAdaB.nD Cert.AdamAdaB.τ).loc Cert.AdamAdaB.main_arg2)
      ∧ r.2.mem ((c.tc : Thread Cert.AdamAdaB.nD Cert.AdamAdaB.τ).loc Cert.AdamAdaB.main_arg3) = m ((c.tc : Thread Cert.AdamAdaB.nD Cert.AdamAdaB.τ).loc Cert.AdamAdaB.main_arg3))
      ∧ r.2.sem = fun _ => 0)

def quiescent_AdamAdaBIdeal [hAdamAdaBIdeal : Cert.AdamAdaBIdeal.Facts] : Prop :=
  ∀ (m : (ℓ : Loc Cert.AdamAdaBIdeal.nD Cert.AdamAdaBIdeal.τ Cert.AdamAdaBIdeal.sig) → Buf (Elt Ideal) ℓ) (g : Dev Cert.AdamAdaBIdeal.nD → PrngReg), Pre_AdamAdaBIdeal m →
    θ_run (Cert.AdamAdaBIdeal.defs (F := Ideal)) (onTc (τ := Cert.AdamAdaBIdeal.τ) (Cert.AdamAdaBIdeal.main (F := Ideal))) ⟨m, fun _ => 0, g⟩ (fun r => (∀ c : Dev Cert.AdamAdaBIdeal.nD,
      r.2.mem ((c.tc : Thread Cert.AdamAdaBIdeal.nD Cert.AdamAdaBIdeal.τ).loc Cert.AdamAdaBIdeal.main_arg0) = m ((c.tc : Thread Cert.AdamAdaBIdeal.nD Cert.AdamAdaBIdeal.τ).loc Cert.AdamAdaBIdeal.main_arg0)
      ∧ r.2.mem ((c.tc : Thread Cert.AdamAdaBIdeal.nD Cert.AdamAdaBIdeal.τ).loc Cert.AdamAdaBIdeal.main_arg1) = m ((c.tc : Thread Cert.AdamAdaBIdeal.nD Cert.AdamAdaBIdeal.τ).loc Cert.AdamAdaBIdeal.main_arg1)
      ∧ r.2.mem ((c.tc : Thread Cert.AdamAdaBIdeal.nD Cert.AdamAdaBIdeal.τ).loc Cert.AdamAdaBIdeal.main_arg2) = m ((c.tc : Thread Cert.AdamAdaBIdeal.nD Cert.AdamAdaBIdeal.τ).loc Cert.AdamAdaBIdeal.main_arg2)
      ∧ r.2.mem ((c.tc : Thread Cert.AdamAdaBIdeal.nD Cert.AdamAdaBIdeal.τ).loc Cert.AdamAdaBIdeal.main_arg3) = m ((c.tc : Thread Cert.AdamAdaBIdeal.nD Cert.AdamAdaBIdeal.τ).loc Cert.AdamAdaBIdeal.main_arg3))
      ∧ r.2.sem = fun _ => 0)

def quiescent_AdamAdaBRefIdeal [hAdamAdaBRefIdeal : Cert.AdamAdaBRefIdeal.Facts] : Prop :=
  ∀ (m : (ℓ : Loc Cert.AdamAdaBRefIdeal.nD Cert.AdamAdaBRefIdeal.τ Cert.AdamAdaBRefIdeal.sig) → Buf (Elt Ideal) ℓ) (g : Dev Cert.AdamAdaBRefIdeal.nD → PrngReg), Pre_AdamAdaBRefIdeal m →
    θ_run (Cert.AdamAdaBRefIdeal.defs (F := Ideal)) (onTc (τ := Cert.AdamAdaBRefIdeal.τ) (Cert.AdamAdaBRefIdeal.main (F := Ideal))) ⟨m, fun _ => 0, g⟩ (fun r => (∀ c : Dev Cert.AdamAdaBRefIdeal.nD,
      r.2.mem ((c.tc : Thread Cert.AdamAdaBRefIdeal.nD Cert.AdamAdaBRefIdeal.τ).loc Cert.AdamAdaBRefIdeal.main_arg0) = m ((c.tc : Thread Cert.AdamAdaBRefIdeal.nD Cert.AdamAdaBRefIdeal.τ).loc Cert.AdamAdaBRefIdeal.main_arg0)
      ∧ r.2.mem ((c.tc : Thread Cert.AdamAdaBRefIdeal.nD Cert.AdamAdaBRefIdeal.τ).loc Cert.AdamAdaBRefIdeal.main_arg1) = m ((c.tc : Thread Cert.AdamAdaBRefIdeal.nD Cert.AdamAdaBRefIdeal.τ).loc Cert.AdamAdaBRefIdeal.main_arg1)
      ∧ r.2.mem ((c.tc : Thread Cert.AdamAdaBRefIdeal.nD Cert.AdamAdaBRefIdeal.τ).loc Cert.AdamAdaBRefIdeal.main_arg2) = m ((c.tc : Thread Cert.AdamAdaBRefIdeal.nD Cert.AdamAdaBRefIdeal.τ).loc Cert.AdamAdaBRefIdeal.main_arg2)
      ∧ r.2.mem ((c.tc : Thread Cert.AdamAdaBRefIdeal.nD Cert.AdamAdaBRefIdeal.τ).loc Cert.AdamAdaBRefIdeal.main_arg3) = m ((c.tc : Thread Cert.AdamAdaBRefIdeal.nD Cert.AdamAdaBRefIdeal.τ).loc Cert.AdamAdaBRefIdeal.main_arg3))
      ∧ r.2.sem = fun _ => 0)

def quiescent_AdamLn [hAdamLn : Cert.AdamLn.Facts] : Prop :=
  ∀ (m : (ℓ : Loc Cert.AdamLn.nD Cert.AdamLn.τ Cert.AdamLn.sig) → Buf (Elt Bits) ℓ) (g : Dev Cert.AdamLn.nD → PrngReg), Pre_AdamLn m →
    θ_run (Cert.AdamLn.defs (F := Bits)) (onTc (τ := Cert.AdamLn.τ) (Cert.AdamLn.main (F := Bits))) ⟨m, fun _ => 0, g⟩ (fun r => (∀ c : Dev Cert.AdamLn.nD,
      r.2.mem ((c.tc : Thread Cert.AdamLn.nD Cert.AdamLn.τ).loc Cert.AdamLn.main_arg0) = m ((c.tc : Thread Cert.AdamLn.nD Cert.AdamLn.τ).loc Cert.AdamLn.main_arg0)
      ∧ r.2.mem ((c.tc : Thread Cert.AdamLn.nD Cert.AdamLn.τ).loc Cert.AdamLn.main_arg1) = m ((c.tc : Thread Cert.AdamLn.nD Cert.AdamLn.τ).loc Cert.AdamLn.main_arg1)
      ∧ r.2.mem ((c.tc : Thread Cert.AdamLn.nD Cert.AdamLn.τ).loc Cert.AdamLn.main_arg2) = m ((c.tc : Thread Cert.AdamLn.nD Cert.AdamLn.τ).loc Cert.AdamLn.main_arg2)
      ∧ r.2.mem ((c.tc : Thread Cert.AdamLn.nD Cert.AdamLn.τ).loc Cert.AdamLn.main_arg3) = m ((c.tc : Thread Cert.AdamLn.nD Cert.AdamLn.τ).loc Cert.AdamLn.main_arg3))
      ∧ r.2.sem = fun _ => 0)

def quiescent_AdamLnIdeal [hAdamLnIdeal : Cert.AdamLnIdeal.Facts] : Prop :=
  ∀ (m : (ℓ : Loc Cert.AdamLnIdeal.nD Cert.AdamLnIdeal.τ Cert.AdamLnIdeal.sig) → Buf (Elt Ideal) ℓ) (g : Dev Cert.AdamLnIdeal.nD → PrngReg), Pre_AdamLnIdeal m →
    θ_run (Cert.AdamLnIdeal.defs (F := Ideal)) (onTc (τ := Cert.AdamLnIdeal.τ) (Cert.AdamLnIdeal.main (F := Ideal))) ⟨m, fun _ => 0, g⟩ (fun r => (∀ c : Dev Cert.AdamLnIdeal.nD,
      r.2.mem ((c.tc : Thread Cert.AdamLnIdeal.nD Cert.AdamLnIdeal.τ).loc Cert.AdamLnIdeal.main_arg0) = m ((c.tc : Thread Cert.AdamLnIdeal.nD Cert.AdamLnIdeal.τ).loc Cert.AdamLnIdeal.main_arg0)
      ∧ r.2.mem ((c.tc : Thread Cert.AdamLnIdeal.nD Cert.AdamLnIdeal.τ).loc Cert.AdamLnIdeal.main_arg1) = m ((c.tc : Thread Cert.AdamLnIdeal.nD Cert.AdamLnIdeal.τ).loc Cert.AdamLnIdeal.main_arg1)
      ∧ r.2.mem ((c.tc : Thread Cert.AdamLnIdeal.nD Cert.AdamLnIdeal.τ).loc Cert.AdamLnIdeal.main_arg2) = m ((c.tc : Thread Cert.AdamLnIdeal.nD Cert.AdamLnIdeal.τ).loc Cert.AdamLnIdeal.main_arg2)
      ∧ r.2.mem ((c.tc : Thread Cert.AdamLnIdeal.nD Cert.AdamLnIdeal.τ).loc Cert.AdamLnIdeal.main_arg3) = m ((c.tc : Thread Cert.AdamLnIdeal.nD Cert.AdamLnIdeal.τ).loc Cert.AdamLnIdeal.main_arg3))
      ∧ r.2.sem = fun _ => 0)

def quiescent_AdamLnRefIdeal [hAdamLnRefIdeal : Cert.AdamLnRefIdeal.Facts] : Prop :=
  ∀ (m : (ℓ : Loc Cert.AdamLnRefIdeal.nD Cert.AdamLnRefIdeal.τ Cert.AdamLnRefIdeal.sig) → Buf (Elt Ideal) ℓ) (g : Dev Cert.AdamLnRefIdeal.nD → PrngReg), Pre_AdamLnRefIdeal m →
    θ_run (Cert.AdamLnRefIdeal.defs (F := Ideal)) (onTc (τ := Cert.AdamLnRefIdeal.τ) (Cert.AdamLnRefIdeal.main (F := Ideal))) ⟨m, fun _ => 0, g⟩ (fun r => (∀ c : Dev Cert.AdamLnRefIdeal.nD,
      r.2.mem ((c.tc : Thread Cert.AdamLnRefIdeal.nD Cert.AdamLnRefIdeal.τ).loc Cert.AdamLnRefIdeal.main_arg0) = m ((c.tc : Thread Cert.AdamLnRefIdeal.nD Cert.AdamLnRefIdeal.τ).loc Cert.AdamLnRefIdeal.main_arg0)
      ∧ r.2.mem ((c.tc : Thread Cert.AdamLnRefIdeal.nD Cert.AdamLnRefIdeal.τ).loc Cert.AdamLnRefIdeal.main_arg1) = m ((c.tc : Thread Cert.AdamLnRefIdeal.nD Cert.AdamLnRefIdeal.τ).loc Cert.AdamLnRefIdeal.main_arg1)
      ∧ r.2.mem ((c.tc : Thread Cert.AdamLnRefIdeal.nD Cert.AdamLnRefIdeal.τ).loc Cert.AdamLnRefIdeal.main_arg2) = m ((c.tc : Thread Cert.AdamLnRefIdeal.nD Cert.AdamLnRefIdeal.τ).loc Cert.AdamLnRefIdeal.main_arg2)
      ∧ r.2.mem ((c.tc : Thread Cert.AdamLnRefIdeal.nD Cert.AdamLnRefIdeal.τ).loc Cert.AdamLnRefIdeal.main_arg3) = m ((c.tc : Thread Cert.AdamLnRefIdeal.nD Cert.AdamLnRefIdeal.τ).loc Cert.AdamLnRefIdeal.main_arg3))
      ∧ r.2.sem = fun _ => 0)

def quiescent_AdamTaps [hAdamTaps : Cert.AdamTaps.Facts] : Prop :=
  ∀ (m : (ℓ : Loc Cert.AdamTaps.nD Cert.AdamTaps.τ Cert.AdamTaps.sig) → Buf (Elt Bits) ℓ) (g : Dev Cert.AdamTaps.nD → PrngReg), Pre_AdamTaps m →
    θ_run (Cert.AdamTaps.defs (F := Bits)) (onTc (τ := Cert.AdamTaps.τ) (Cert.AdamTaps.main (F := Bits))) ⟨m, fun _ => 0, g⟩ (fun r => (∀ c : Dev Cert.AdamTaps.nD,
      r.2.mem ((c.tc : Thread Cert.AdamTaps.nD Cert.AdamTaps.τ).loc Cert.AdamTaps.main_arg0) = m ((c.tc : Thread Cert.AdamTaps.nD Cert.AdamTaps.τ).loc Cert.AdamTaps.main_arg0)
      ∧ r.2.mem ((c.tc : Thread Cert.AdamTaps.nD Cert.AdamTaps.τ).loc Cert.AdamTaps.main_arg1) = m ((c.tc : Thread Cert.AdamTaps.nD Cert.AdamTaps.τ).loc Cert.AdamTaps.main_arg1)
      ∧ r.2.mem ((c.tc : Thread Cert.AdamTaps.nD Cert.AdamTaps.τ).loc Cert.AdamTaps.main_arg2) = m ((c.tc : Thread Cert.AdamTaps.nD Cert.AdamTaps.τ).loc Cert.AdamTaps.main_arg2)
      ∧ r.2.mem ((c.tc : Thread Cert.AdamTaps.nD Cert.AdamTaps.τ).loc Cert.AdamTaps.main_arg3) = m ((c.tc : Thread Cert.AdamTaps.nD Cert.AdamTaps.τ).loc Cert.AdamTaps.main_arg3))
      ∧ r.2.sem = fun _ => 0)

def quiescent_AdamTapsIdeal [hAdamTapsIdeal : Cert.AdamTapsIdeal.Facts] : Prop :=
  ∀ (m : (ℓ : Loc Cert.AdamTapsIdeal.nD Cert.AdamTapsIdeal.τ Cert.AdamTapsIdeal.sig) → Buf (Elt Ideal) ℓ) (g : Dev Cert.AdamTapsIdeal.nD → PrngReg), Pre_AdamTapsIdeal m →
    θ_run (Cert.AdamTapsIdeal.defs (F := Ideal)) (onTc (τ := Cert.AdamTapsIdeal.τ) (Cert.AdamTapsIdeal.main (F := Ideal))) ⟨m, fun _ => 0, g⟩ (fun r => (∀ c : Dev Cert.AdamTapsIdeal.nD,
      r.2.mem ((c.tc : Thread Cert.AdamTapsIdeal.nD Cert.AdamTapsIdeal.τ).loc Cert.AdamTapsIdeal.main_arg0) = m ((c.tc : Thread Cert.AdamTapsIdeal.nD Cert.AdamTapsIdeal.τ).loc Cert.AdamTapsIdeal.main_arg0)
      ∧ r.2.mem ((c.tc : Thread Cert.AdamTapsIdeal.nD Cert.AdamTapsIdeal.τ).loc Cert.AdamTapsIdeal.main_arg1) = m ((c.tc : Thread Cert.AdamTapsIdeal.nD Cert.AdamTapsIdeal.τ).loc Cert.AdamTapsIdeal.main_arg1)
      ∧ r.2.mem ((c.tc : Thread Cert.AdamTapsIdeal.nD Cert.AdamTapsIdeal.τ).loc Cert.AdamTapsIdeal.main_arg2) = m ((c.tc : Thread Cert.AdamTapsIdeal.nD Cert.AdamTapsIdeal.τ).loc Cert.AdamTapsIdeal.main_arg2)
      ∧ r.2.mem ((c.tc : Thread Cert.AdamTapsIdeal.nD Cert.AdamTapsIdeal.τ).loc Cert.AdamTapsIdeal.main_arg3) = m ((c.tc : Thread Cert.AdamTapsIdeal.nD Cert.AdamTapsIdeal.τ).loc Cert.AdamTapsIdeal.main_arg3))
      ∧ r.2.sem = fun _ => 0)

def quiescent_AdamTapsRefIdeal [hAdamTapsRefIdeal : Cert.AdamTapsRefIdeal.Facts] : Prop :=
  ∀ (m : (ℓ : Loc Cert.AdamTapsRefIdeal.nD Cert.AdamTapsRefIdeal.τ Cert.AdamTapsRefIdeal.sig) → Buf (Elt Ideal) ℓ) (g : Dev Cert.AdamTapsRefIdeal.nD → PrngReg), Pre_AdamTapsRefIdeal m →
    θ_run (Cert.AdamTapsRefIdeal.defs (F := Ideal)) (onTc (τ := Cert.AdamTapsRefIdeal.τ) (Cert.AdamTapsRefIdeal.main (F := Ideal))) ⟨m, fun _ => 0, g⟩ (fun r => (∀ c : Dev Cert.AdamTapsRefIdeal.nD,
      r.2.mem ((c.tc : Thread Cert.AdamTapsRefIdeal.nD Cert.AdamTapsRefIdeal.τ).loc Cert.AdamTapsRefIdeal.main_arg0) = m ((c.tc : Thread Cert.AdamTapsRefIdeal.nD Cert.AdamTapsRefIdeal.τ).loc Cert.AdamTapsRefIdeal.main_arg0)
      ∧ r.2.mem ((c.tc : Thread Cert.AdamTapsRefIdeal.nD Cert.AdamTapsRefIdeal.τ).loc Cert.AdamTapsRefIdeal.main_arg1) = m ((c.tc : Thread Cert.AdamTapsRefIdeal.nD Cert.AdamTapsRefIdeal.τ).loc Cert.AdamTapsRefIdeal.main_arg1)
      ∧ r.2.mem ((c.tc : Thread Cert.AdamTapsRefIdeal.nD Cert.AdamTapsRefIdeal.τ).loc Cert.AdamTapsRefIdeal.main_arg2) = m ((c.tc : Thread Cert.AdamTapsRefIdeal.nD Cert.AdamTapsRefIdeal.τ).loc Cert.AdamTapsRefIdeal.main_arg2)
      ∧ r.2.mem ((c.tc : Thread Cert.AdamTapsRefIdeal.nD Cert.AdamTapsRefIdeal.τ).loc Cert.AdamTapsRefIdeal.main_arg3) = m ((c.tc : Thread Cert.AdamTapsRefIdeal.nD Cert.AdamTapsRefIdeal.τ).loc Cert.AdamTapsRefIdeal.main_arg3))
      ∧ r.2.sem = fun _ => 0)

def quiescent_AdamLam [hAdamLam : Cert.AdamLam.Facts] : Prop :=
  ∀ (m : (ℓ : Loc Cert.AdamLam.nD Cert.AdamLam.τ Cert.AdamLam.sig) → Buf (Elt Bits) ℓ) (g : Dev Cert.AdamLam.nD → PrngReg), Pre_AdamLam m →
    θ_run (Cert.AdamLam.defs (F := Bits)) (onTc (τ := Cert.AdamLam.τ) (Cert.AdamLam.main (F := Bits))) ⟨m, fun _ => 0, g⟩ (fun r => (∀ c : Dev Cert.AdamLam.nD,
      r.2.mem ((c.tc : Thread Cert.AdamLam.nD Cert.AdamLam.τ).loc Cert.AdamLam.main_arg0) = m ((c.tc : Thread Cert.AdamLam.nD Cert.AdamLam.τ).loc Cert.AdamLam.main_arg0)
      ∧ r.2.mem ((c.tc : Thread Cert.AdamLam.nD Cert.AdamLam.τ).loc Cert.AdamLam.main_arg1) = m ((c.tc : Thread Cert.AdamLam.nD Cert.AdamLam.τ).loc Cert.AdamLam.main_arg1)
      ∧ r.2.mem ((c.tc : Thread Cert.AdamLam.nD Cert.AdamLam.τ).loc Cert.AdamLam.main_arg2) = m ((c.tc : Thread Cert.AdamLam.nD Cert.AdamLam.τ).loc Cert.AdamLam.main_arg2)
      ∧ r.2.mem ((c.tc : Thread Cert.AdamLam.nD Cert.AdamLam.τ).loc Cert.AdamLam.main_arg3) = m ((c.tc : Thread Cert.AdamLam.nD Cert.AdamLam.τ).loc Cert.AdamLam.main_arg3))
      ∧ r.2.sem = fun _ => 0)

def quiescent_AdamLamIdeal [hAdamLamIdeal : Cert.AdamLamIdeal.Facts] : Prop :=
  ∀ (m : (ℓ : Loc Cert.AdamLamIdeal.nD Cert.AdamLamIdeal.τ Cert.AdamLamIdeal.sig) → Buf (Elt Ideal) ℓ) (g : Dev Cert.AdamLamIdeal.nD → PrngReg), Pre_AdamLamIdeal m →
    θ_run (Cert.AdamLamIdeal.defs (F := Ideal)) (onTc (τ := Cert.AdamLamIdeal.τ) (Cert.AdamLamIdeal.main (F := Ideal))) ⟨m, fun _ => 0, g⟩ (fun r => (∀ c : Dev Cert.AdamLamIdeal.nD,
      r.2.mem ((c.tc : Thread Cert.AdamLamIdeal.nD Cert.AdamLamIdeal.τ).loc Cert.AdamLamIdeal.main_arg0) = m ((c.tc : Thread Cert.AdamLamIdeal.nD Cert.AdamLamIdeal.τ).loc Cert.AdamLamIdeal.main_arg0)
      ∧ r.2.mem ((c.tc : Thread Cert.AdamLamIdeal.nD Cert.AdamLamIdeal.τ).loc Cert.AdamLamIdeal.main_arg1) = m ((c.tc : Thread Cert.AdamLamIdeal.nD Cert.AdamLamIdeal.τ).loc Cert.AdamLamIdeal.main_arg1)
      ∧ r.2.mem ((c.tc : Thread Cert.AdamLamIdeal.nD Cert.AdamLamIdeal.τ).loc Cert.AdamLamIdeal.main_arg2) = m ((c.tc : Thread Cert.AdamLamIdeal.nD Cert.AdamLamIdeal.τ).loc Cert.AdamLamIdeal.main_arg2)
      ∧ r.2.mem ((c.tc : Thread Cert.AdamLamIdeal.nD Cert.AdamLamIdeal.τ).loc Cert.AdamLamIdeal.main_arg3) = m ((c.tc : Thread Cert.AdamLamIdeal.nD Cert.AdamLamIdeal.τ).loc Cert.AdamLamIdeal.main_arg3))
      ∧ r.2.sem = fun _ => 0)

def quiescent_AdamLamRefIdeal [hAdamLamRefIdeal : Cert.AdamLamRefIdeal.Facts] : Prop :=
  ∀ (m : (ℓ : Loc Cert.AdamLamRefIdeal.nD Cert.AdamLamRefIdeal.τ Cert.AdamLamRefIdeal.sig) → Buf (Elt Ideal) ℓ) (g : Dev Cert.AdamLamRefIdeal.nD → PrngReg), Pre_AdamLamRefIdeal m →
    θ_run (Cert.AdamLamRefIdeal.defs (F := Ideal)) (onTc (τ := Cert.AdamLamRefIdeal.τ) (Cert.AdamLamRefIdeal.main (F := Ideal))) ⟨m, fun _ => 0, g⟩ (fun r => (∀ c : Dev Cert.AdamLamRefIdeal.nD,
      r.2.mem ((c.tc : Thread Cert.AdamLamRefIdeal.nD Cert.AdamLamRefIdeal.τ).loc Cert.AdamLamRefIdeal.main_arg0) = m ((c.tc : Thread Cert.AdamLamRefIdeal.nD Cert.AdamLamRefIdeal.τ).loc Cert.AdamLamRefIdeal.main_arg0)
      ∧ r.2.mem ((c.tc : Thread Cert.AdamLamRefIdeal.nD Cert.AdamLamRefIdeal.τ).loc Cert.AdamLamRefIdeal.main_arg1) = m ((c.tc : Thread Cert.AdamLamRefIdeal.nD Cert.AdamLamRefIdeal.τ).loc Cert.AdamLamRefIdeal.main_arg1)
      ∧ r.2.mem ((c.tc : Thread Cert.AdamLamRefIdeal.nD Cert.AdamLamRefIdeal.τ).loc Cert.AdamLamRefIdeal.main_arg2) = m ((c.tc : Thread Cert.AdamLamRefIdeal.nD Cert.AdamLamRefIdeal.τ).loc Cert.AdamLamRefIdeal.main_arg2)
      ∧ r.2.mem ((c.tc : Thread Cert.AdamLamRefIdeal.nD Cert.AdamLamRefIdeal.τ).loc Cert.AdamLamRefIdeal.main_arg3) = m ((c.tc : Thread Cert.AdamLamRefIdeal.nD Cert.AdamLamRefIdeal.τ).loc Cert.AdamLamRefIdeal.main_arg3))
      ∧ r.2.sem = fun _ => 0)

def quiescent_AdamStep [hAdamStep : Cert.AdamStep.Facts] : Prop :=
  ∀ (m : (ℓ : Loc Cert.AdamStep.nD Cert.AdamStep.τ Cert.AdamStep.sig) → Buf (Elt Bits) ℓ) (g : Dev Cert.AdamStep.nD → PrngReg), Pre_AdamStep m →
    θ_run (Cert.AdamStep.defs (F := Bits)) (onTc (τ := Cert.AdamStep.τ) (Cert.AdamStep.main (F := Bits))) ⟨m, fun _ => 0, g⟩ (fun r => (∀ c : Dev Cert.AdamStep.nD,
      r.2.mem ((c.tc : Thread Cert.AdamStep.nD Cert.AdamStep.τ).loc Cert.AdamStep.main_arg0) = m ((c.tc : Thread Cert.AdamStep.nD Cert.AdamStep.τ).loc Cert.AdamStep.main_arg0)
      ∧ r.2.mem ((c.tc : Thread Cert.AdamStep.nD Cert.AdamStep.τ).loc Cert.AdamStep.main_arg1) = m ((c.tc : Thread Cert.AdamStep.nD Cert.AdamStep.τ).loc Cert.AdamStep.main_arg1)
      ∧ r.2.mem ((c.tc : Thread Cert.AdamStep.nD Cert.AdamStep.τ).loc Cert.AdamStep.main_arg2) = m ((c.tc : Thread Cert.AdamStep.nD Cert.AdamStep.τ).loc Cert.AdamStep.main_arg2)
      ∧ r.2.mem ((c.tc : Thread Cert.AdamStep.nD Cert.AdamStep.τ).loc Cert.AdamStep.main_arg3) = m ((c.tc : Thread Cert.AdamStep.nD Cert.AdamStep.τ).loc Cert.AdamStep.main_arg3))
      ∧ r.2.sem = fun _ => 0)

def quiescent_AdamStepIdeal [hAdamStepIdeal : Cert.AdamStepIdeal.Facts] : Prop :=
  ∀ (m : (ℓ : Loc Cert.AdamStepIdeal.nD Cert.AdamStepIdeal.τ Cert.AdamStepIdeal.sig) → Buf (Elt Ideal) ℓ) (g : Dev Cert.AdamStepIdeal.nD → PrngReg), Pre_AdamStepIdeal m →
    θ_run (Cert.AdamStepIdeal.defs (F := Ideal)) (onTc (τ := Cert.AdamStepIdeal.τ) (Cert.AdamStepIdeal.main (F := Ideal))) ⟨m, fun _ => 0, g⟩ (fun r => (∀ c : Dev Cert.AdamStepIdeal.nD,
      r.2.mem ((c.tc : Thread Cert.AdamStepIdeal.nD Cert.AdamStepIdeal.τ).loc Cert.AdamStepIdeal.main_arg0) = m ((c.tc : Thread Cert.AdamStepIdeal.nD Cert.AdamStepIdeal.τ).loc Cert.AdamStepIdeal.main_arg0)
      ∧ r.2.mem ((c.tc : Thread Cert.AdamStepIdeal.nD Cert.AdamStepIdeal.τ).loc Cert.AdamStepIdeal.main_arg1) = m ((c.tc : Thread Cert.AdamStepIdeal.nD Cert.AdamStepIdeal.τ).loc Cert.AdamStepIdeal.main_arg1)
      ∧ r.2.mem ((c.tc : Thread Cert.AdamStepIdeal.nD Cert.AdamStepIdeal.τ).loc Cert.AdamStepIdeal.main_arg2) = m ((c.tc : Thread Cert.AdamStepIdeal.nD Cert.AdamStepIdeal.τ).loc Cert.AdamStepIdeal.main_arg2)
      ∧ r.2.mem ((c.tc : Thread Cert.AdamStepIdeal.nD Cert.AdamStepIdeal.τ).loc Cert.AdamStepIdeal.main_arg3) = m ((c.tc : Thread Cert.AdamStepIdeal.nD Cert.AdamStepIdeal.τ).loc Cert.AdamStepIdeal.main_arg3))
      ∧ r.2.sem = fun _ => 0)

def quiescent_AdamStepRefIdeal [hAdamStepRefIdeal : Cert.AdamStepRefIdeal.Facts] : Prop :=
  ∀ (m : (ℓ : Loc Cert.AdamStepRefIdeal.nD Cert.AdamStepRefIdeal.τ Cert.AdamStepRefIdeal.sig) → Buf (Elt Ideal) ℓ) (g : Dev Cert.AdamStepRefIdeal.nD → PrngReg), Pre_AdamStepRefIdeal m →
    θ_run (Cert.AdamStepRefIdeal.defs (F := Ideal)) (onTc (τ := Cert.AdamStepRefIdeal.τ) (Cert.AdamStepRefIdeal.main (F := Ideal))) ⟨m, fun _ => 0, g⟩ (fun r => (∀ c : Dev Cert.AdamStepRefIdeal.nD,
      r.2.mem ((c.tc : Thread Cert.AdamStepRefIdeal.nD Cert.AdamStepRefIdeal.τ).loc Cert.AdamStepRefIdeal.main_arg0) = m ((c.tc : Thread Cert.AdamStepRefIdeal.nD Cert.AdamStepRefIdeal.τ).loc Cert.AdamStepRefIdeal.main_arg0)
      ∧ r.2.mem ((c.tc : Thread Cert.AdamStepRefIdeal.nD Cert.AdamStepRefIdeal.τ).loc Cert.AdamStepRefIdeal.main_arg1) = m ((c.tc : Thread Cert.AdamStepRefIdeal.nD Cert.AdamStepRefIdeal.τ).loc Cert.AdamStepRefIdeal.main_arg1)
      ∧ r.2.mem ((c.tc : Thread Cert.AdamStepRefIdeal.nD Cert.AdamStepRefIdeal.τ).loc Cert.AdamStepRefIdeal.main_arg2) = m ((c.tc : Thread Cert.AdamStepRefIdeal.nD Cert.AdamStepRefIdeal.τ).loc Cert.AdamStepRefIdeal.main_arg2)
      ∧ r.2.mem ((c.tc : Thread Cert.AdamStepRefIdeal.nD Cert.AdamStepRefIdeal.τ).loc Cert.AdamStepRefIdeal.main_arg3) = m ((c.tc : Thread Cert.AdamStepRefIdeal.nD Cert.AdamStepRefIdeal.τ).loc Cert.AdamStepRefIdeal.main_arg3))
      ∧ r.2.sem = fun _ => 0)

def quiescent_AdamBC [hAdamBC : Cert.AdamBC.Facts] : Prop :=
  ∀ (m : (ℓ : Loc Cert.AdamBC.nD Cert.AdamBC.τ Cert.AdamBC.sig) → Buf (Elt Bits) ℓ) (g : Dev Cert.AdamBC.nD → PrngReg), Pre_AdamBC m →
    θ_run (Cert.AdamBC.defs (F := Bits)) (onTc (τ := Cert.AdamBC.τ) (Cert.AdamBC.main (F := Bits))) ⟨m, fun _ => 0, g⟩ (fun r => (∀ c : Dev Cert.AdamBC.nD,
      r.2.mem ((c.tc : Thread Cert.AdamBC.nD Cert.AdamBC.τ).loc Cert.AdamBC.main_arg0) = m ((c.tc : Thread Cert.AdamBC.nD Cert.AdamBC.τ).loc Cert.AdamBC.main_arg0)
      ∧ r.2.mem ((c.tc : Thread Cert.AdamBC.nD Cert.AdamBC.τ).loc Cert.AdamBC.main_arg1) = m ((c.tc : Thread Cert.AdamBC.nD Cert.AdamBC.τ).loc Cert.AdamBC.main_arg1)
      ∧ r.2.mem ((c.tc : Thread Cert.AdamBC.nD Cert.AdamBC.τ).loc Cert.AdamBC.main_arg2) = m ((c.tc : Thread Cert.AdamBC.nD Cert.AdamBC.τ).loc Cert.AdamBC.main_arg2)
      ∧ r.2.mem ((c.tc : Thread Cert.AdamBC.nD Cert.AdamBC.τ).loc Cert.AdamBC.main_arg3) = m ((c.tc : Thread Cert.AdamBC.nD Cert.AdamBC.τ).loc Cert.AdamBC.main_arg3))
      ∧ r.2.sem = fun _ => 0)

def quiescent_AdamBCIdeal [hAdamBCIdeal : Cert.AdamBCIdeal.Facts] : Prop :=
  ∀ (m : (ℓ : Loc Cert.AdamBCIdeal.nD Cert.AdamBCIdeal.τ Cert.AdamBCIdeal.sig) → Buf (Elt Ideal) ℓ) (g : Dev Cert.AdamBCIdeal.nD → PrngReg), Pre_AdamBCIdeal m →
    θ_run (Cert.AdamBCIdeal.defs (F := Ideal)) (onTc (τ := Cert.AdamBCIdeal.τ) (Cert.AdamBCIdeal.main (F := Ideal))) ⟨m, fun _ => 0, g⟩ (fun r => (∀ c : Dev Cert.AdamBCIdeal.nD,
      r.2.mem ((c.tc : Thread Cert.AdamBCIdeal.nD Cert.AdamBCIdeal.τ).loc Cert.AdamBCIdeal.main_arg0) = m ((c.tc : Thread Cert.AdamBCIdeal.nD Cert.AdamBCIdeal.τ).loc Cert.AdamBCIdeal.main_arg0)
      ∧ r.2.mem ((c.tc : Thread Cert.AdamBCIdeal.nD Cert.AdamBCIdeal.τ).loc Cert.AdamBCIdeal.main_arg1) = m ((c.tc : Thread Cert.AdamBCIdeal.nD Cert.AdamBCIdeal.τ).loc Cert.AdamBCIdeal.main_arg1)
      ∧ r.2.mem ((c.tc : Thread Cert.AdamBCIdeal.nD Cert.AdamBCIdeal.τ).loc Cert.AdamBCIdeal.main_arg2) = m ((c.tc : Thread Cert.AdamBCIdeal.nD Cert.AdamBCIdeal.τ).loc Cert.AdamBCIdeal.main_arg2)
      ∧ r.2.mem ((c.tc : Thread Cert.AdamBCIdeal.nD Cert.AdamBCIdeal.τ).loc Cert.AdamBCIdeal.main_arg3) = m ((c.tc : Thread Cert.AdamBCIdeal.nD Cert.AdamBCIdeal.τ).loc Cert.AdamBCIdeal.main_arg3))
      ∧ r.2.sem = fun _ => 0)

def quiescent_AdamBCRefIdeal [hAdamBCRefIdeal : Cert.AdamBCRefIdeal.Facts] : Prop :=
  ∀ (m : (ℓ : Loc Cert.AdamBCRefIdeal.nD Cert.AdamBCRefIdeal.τ Cert.AdamBCRefIdeal.sig) → Buf (Elt Ideal) ℓ) (g : Dev Cert.AdamBCRefIdeal.nD → PrngReg), Pre_AdamBCRefIdeal m →
    θ_run (Cert.AdamBCRefIdeal.defs (F := Ideal)) (onTc (τ := Cert.AdamBCRefIdeal.τ) (Cert.AdamBCRefIdeal.main (F := Ideal))) ⟨m, fun _ => 0, g⟩ (fun r => (∀ c : Dev Cert.AdamBCRefIdeal.nD,
      r.2.mem ((c.tc : Thread Cert.AdamBCRefIdeal.nD Cert.AdamBCRefIdeal.τ).loc Cert.AdamBCRefIdeal.main_arg0) = m ((c.tc : Thread Cert.AdamBCRefIdeal.nD Cert.AdamBCRefIdeal.τ).loc Cert.AdamBCRefIdeal.main_arg0)
      ∧ r.2.mem ((c.tc : Thread Cert.AdamBCRefIdeal.nD Cert.AdamBCRefIdeal.τ).loc Cert.AdamBCRefIdeal.main_arg1) = m ((c.tc : Thread Cert.AdamBCRefIdeal.nD Cert.AdamBCRefIdeal.τ).loc Cert.AdamBCRefIdeal.main_arg1)
      ∧ r.2.mem ((c.tc : Thread Cert.AdamBCRefIdeal.nD Cert.AdamBCRefIdeal.τ).loc Cert.AdamBCRefIdeal.main_arg2) = m ((c.tc : Thread Cert.AdamBCRefIdeal.nD Cert.AdamBCRefIdeal.τ).loc Cert.AdamBCRefIdeal.main_arg2)
      ∧ r.2.mem ((c.tc : Thread Cert.AdamBCRefIdeal.nD Cert.AdamBCRefIdeal.τ).loc Cert.AdamBCRefIdeal.main_arg3) = m ((c.tc : Thread Cert.AdamBCRefIdeal.nD Cert.AdamBCRefIdeal.τ).loc Cert.AdamBCRefIdeal.main_arg3))
      ∧ r.2.sem = fun _ => 0)

def quiescent_AdamRow [hAdamRow : Cert.AdamRow.Facts] : Prop :=
  ∀ (m : (ℓ : Loc Cert.AdamRow.nD Cert.AdamRow.τ Cert.AdamRow.sig) → Buf (Elt Bits) ℓ) (g : Dev Cert.AdamRow.nD → PrngReg), Pre_AdamRow m →
    θ_run (Cert.AdamRow.defs (F := Bits)) (onTc (τ := Cert.AdamRow.τ) (Cert.AdamRow.main (F := Bits))) ⟨m, fun _ => 0, g⟩ (fun r => (∀ c : Dev Cert.AdamRow.nD,
      r.2.mem ((c.tc : Thread Cert.AdamRow.nD Cert.AdamRow.τ).loc Cert.AdamRow.main_arg0) = m ((c.tc : Thread Cert.AdamRow.nD Cert.AdamRow.τ).loc Cert.AdamRow.main_arg0)
      ∧ r.2.mem ((c.tc : Thread Cert.AdamRow.nD Cert.AdamRow.τ).loc Cert.AdamRow.main_arg1) = m ((c.tc : Thread Cert.AdamRow.nD Cert.AdamRow.τ).loc Cert.AdamRow.main_arg1)
      ∧ r.2.mem ((c.tc : Thread Cert.AdamRow.nD Cert.AdamRow.τ).loc Cert.AdamRow.main_arg2) = m ((c.tc : Thread Cert.AdamRow.nD Cert.AdamRow.τ).loc Cert.AdamRow.main_arg2)
      ∧ r.2.mem ((c.tc : Thread Cert.AdamRow.nD Cert.AdamRow.τ).loc Cert.AdamRow.main_arg3) = m ((c.tc : Thread Cert.AdamRow.nD Cert.AdamRow.τ).loc Cert.AdamRow.main_arg3))
      ∧ r.2.sem = fun _ => 0)

def quiescent_AdamRowIdeal [hAdamRowIdeal : Cert.AdamRowIdeal.Facts] : Prop :=
  ∀ (m : (ℓ : Loc Cert.AdamRowIdeal.nD Cert.AdamRowIdeal.τ Cert.AdamRowIdeal.sig) → Buf (Elt Ideal) ℓ) (g : Dev Cert.AdamRowIdeal.nD → PrngReg), Pre_AdamRowIdeal m →
    θ_run (Cert.AdamRowIdeal.defs (F := Ideal)) (onTc (τ := Cert.AdamRowIdeal.τ) (Cert.AdamRowIdeal.main (F := Ideal))) ⟨m, fun _ => 0, g⟩ (fun r => (∀ c : Dev Cert.AdamRowIdeal.nD,
      r.2.mem ((c.tc : Thread Cert.AdamRowIdeal.nD Cert.AdamRowIdeal.τ).loc Cert.AdamRowIdeal.main_arg0) = m ((c.tc : Thread Cert.AdamRowIdeal.nD Cert.AdamRowIdeal.τ).loc Cert.AdamRowIdeal.main_arg0)
      ∧ r.2.mem ((c.tc : Thread Cert.AdamRowIdeal.nD Cert.AdamRowIdeal.τ).loc Cert.AdamRowIdeal.main_arg1) = m ((c.tc : Thread Cert.AdamRowIdeal.nD Cert.AdamRowIdeal.τ).loc Cert.AdamRowIdeal.main_arg1)
      ∧ r.2.mem ((c.tc : Thread Cert.AdamRowIdeal.nD Cert.AdamRowIdeal.τ).loc Cert.AdamRowIdeal.main_arg2) = m ((c.tc : Thread Cert.AdamRowIdeal.nD Cert.AdamRowIdeal.τ).loc Cert.AdamRowIdeal.main_arg2)
      ∧ r.2.mem ((c.tc : Thread Cert.AdamRowIdeal.nD Cert.AdamRowIdeal.τ).loc Cert.AdamRowIdeal.main_arg3) = m ((c.tc : Thread Cert.AdamRowIdeal.nD Cert.AdamRowIdeal.τ).loc Cert.AdamRowIdeal.main_arg3))
      ∧ r.2.sem = fun _ => 0)

def quiescent_AdamRowRefIdeal [hAdamRowRefIdeal : Cert.AdamRowRefIdeal.Facts] : Prop :=
  ∀ (m : (ℓ : Loc Cert.AdamRowRefIdeal.nD Cert.AdamRowRefIdeal.τ Cert.AdamRowRefIdeal.sig) → Buf (Elt Ideal) ℓ) (g : Dev Cert.AdamRowRefIdeal.nD → PrngReg), Pre_AdamRowRefIdeal m →
    θ_run (Cert.AdamRowRefIdeal.defs (F := Ideal)) (onTc (τ := Cert.AdamRowRefIdeal.τ) (Cert.AdamRowRefIdeal.main (F := Ideal))) ⟨m, fun _ => 0, g⟩ (fun r => (∀ c : Dev Cert.AdamRowRefIdeal.nD,
      r.2.mem ((c.tc : Thread Cert.AdamRowRefIdeal.nD Cert.AdamRowRefIdeal.τ).loc Cert.AdamRowRefIdeal.main_arg0) = m ((c.tc : Thread Cert.AdamRowRefIdeal.nD Cert.AdamRowRefIdeal.τ).loc Cert.AdamRowRefIdeal.main_arg0)
      ∧ r.2.mem ((c.tc : Thread Cert.AdamRowRefIdeal.nD Cert.AdamRowRefIdeal.τ).loc Cert.AdamRowRefIdeal.main_arg1) = m ((c.tc : Thread Cert.AdamRowRefIdeal.nD Cert.AdamRowRefIdeal.τ).loc Cert.AdamRowRefIdeal.main_arg1)
      ∧ r.2.mem ((c.tc : Thread Cert.AdamRowRefIdeal.nD Cert.AdamRowRefIdeal.τ).loc Cert.AdamRowRefIdeal.main_arg2) = m ((c.tc : Thread Cert.AdamRowRefIdeal.nD Cert.AdamRowRefIdeal.τ).loc Cert.AdamRowRefIdeal.main_arg2)
      ∧ r.2.mem ((c.tc : Thread Cert.AdamRowRefIdeal.nD Cert.AdamRowRefIdeal.τ).loc Cert.AdamRowRefIdeal.main_arg3) = m ((c.tc : Thread Cert.AdamRowRefIdeal.nD Cert.AdamRowRefIdeal.τ).loc Cert.AdamRowRefIdeal.main_arg3))
      ∧ r.2.sem = fun _ => 0)

def quiescent_SumConvIn [hSumConvIn : Cert.SumConvIn.Facts] : Prop :=
  ∀ (m : (ℓ : Loc Cert.SumConvIn.nD Cert.SumConvIn.τ Cert.SumConvIn.sig) → Buf (Elt Bits) ℓ) (g : Dev Cert.SumConvIn.nD → PrngReg), Pre_SumConvIn m →
    θ_run (Cert.SumConvIn.defs (F := Bits)) (onTc (τ := Cert.SumConvIn.τ) (Cert.SumConvIn.main (F := Bits))) ⟨m, fun _ => 0, g⟩ (fun r => (∀ c : Dev Cert.SumConvIn.nD,
      r.2.mem ((c.tc : Thread Cert.SumConvIn.nD Cert.SumConvIn.τ).loc Cert.SumConvIn.main_arg0) = m ((c.tc : Thread Cert.SumConvIn.nD Cert.SumConvIn.τ).loc Cert.SumConvIn.main_arg0))
      ∧ r.2.sem = fun _ => 0)

def quiescent_SumConvInIdeal [hSumConvInIdeal : Cert.SumConvInIdeal.Facts] : Prop :=
  ∀ (m : (ℓ : Loc Cert.SumConvInIdeal.nD Cert.SumConvInIdeal.τ Cert.SumConvInIdeal.sig) → Buf (Elt Ideal) ℓ) (g : Dev Cert.SumConvInIdeal.nD → PrngReg), Pre_SumConvInIdeal m →
    θ_run (Cert.SumConvInIdeal.defs (F := Ideal)) (onTc (τ := Cert.SumConvInIdeal.τ) (Cert.SumConvInIdeal.main (F := Ideal))) ⟨m, fun _ => 0, g⟩ (fun r => (∀ c : Dev Cert.SumConvInIdeal.nD,
      r.2.mem ((c.tc : Thread Cert.SumConvInIdeal.nD Cert.SumConvInIdeal.τ).loc Cert.SumConvInIdeal.main_arg0) = m ((c.tc : Thread Cert.SumConvInIdeal.nD Cert.SumConvInIdeal.τ).loc Cert.SumConvInIdeal.main_arg0))
      ∧ r.2.sem = fun _ => 0)

def quiescent_SumConvInRefIdeal [hSumConvInRefIdeal : Cert.SumConvInRefIdeal.Facts] : Prop :=
  ∀ (m : (ℓ : Loc Cert.SumConvInRefIdeal.nD Cert.SumConvInRefIdeal.τ Cert.SumConvInRefIdeal.sig) → Buf (Elt Ideal) ℓ) (g : Dev Cert.SumConvInRefIdeal.nD → PrngReg), Pre_SumConvInRefIdeal m →
    θ_run (Cert.SumConvInRefIdeal.defs (F := Ideal)) (onTc (τ := Cert.SumConvInRefIdeal.τ) (Cert.SumConvInRefIdeal.main (F := Ideal))) ⟨m, fun _ => 0, g⟩ (fun r => (∀ c : Dev Cert.SumConvInRefIdeal.nD,
      r.2.mem ((c.tc : Thread Cert.SumConvInRefIdeal.nD Cert.SumConvInRefIdeal.τ).loc Cert.SumConvInRefIdeal.main_arg0) = m ((c.tc : Thread Cert.SumConvInRefIdeal.nD Cert.SumConvInRefIdeal.τ).loc Cert.SumConvInRefIdeal.main_arg0))
      ∧ r.2.sem = fun _ => 0)

def quiescent_SumSsmIn [hSumSsmIn : Cert.SumSsmIn.Facts] : Prop :=
  ∀ (m : (ℓ : Loc Cert.SumSsmIn.nD Cert.SumSsmIn.τ Cert.SumSsmIn.sig) → Buf (Elt Bits) ℓ) (g : Dev Cert.SumSsmIn.nD → PrngReg), Pre_SumSsmIn m →
    θ_run (Cert.SumSsmIn.defs (F := Bits)) (onTc (τ := Cert.SumSsmIn.τ) (Cert.SumSsmIn.main (F := Bits))) ⟨m, fun _ => 0, g⟩ (fun r => (∀ c : Dev Cert.SumSsmIn.nD,
      r.2.mem ((c.tc : Thread Cert.SumSsmIn.nD Cert.SumSsmIn.τ).loc Cert.SumSsmIn.main_arg0) = m ((c.tc : Thread Cert.SumSsmIn.nD Cert.SumSsmIn.τ).loc Cert.SumSsmIn.main_arg0))
      ∧ r.2.sem = fun _ => 0)

def quiescent_SumSsmInIdeal [hSumSsmInIdeal : Cert.SumSsmInIdeal.Facts] : Prop :=
  ∀ (m : (ℓ : Loc Cert.SumSsmInIdeal.nD Cert.SumSsmInIdeal.τ Cert.SumSsmInIdeal.sig) → Buf (Elt Ideal) ℓ) (g : Dev Cert.SumSsmInIdeal.nD → PrngReg), Pre_SumSsmInIdeal m →
    θ_run (Cert.SumSsmInIdeal.defs (F := Ideal)) (onTc (τ := Cert.SumSsmInIdeal.τ) (Cert.SumSsmInIdeal.main (F := Ideal))) ⟨m, fun _ => 0, g⟩ (fun r => (∀ c : Dev Cert.SumSsmInIdeal.nD,
      r.2.mem ((c.tc : Thread Cert.SumSsmInIdeal.nD Cert.SumSsmInIdeal.τ).loc Cert.SumSsmInIdeal.main_arg0) = m ((c.tc : Thread Cert.SumSsmInIdeal.nD Cert.SumSsmInIdeal.τ).loc Cert.SumSsmInIdeal.main_arg0))
      ∧ r.2.sem = fun _ => 0)

def quiescent_SumSsmInRefIdeal [hSumSsmInRefIdeal : Cert.SumSsmInRefIdeal.Facts] : Prop :=
  ∀ (m : (ℓ : Loc Cert.SumSsmInRefIdeal.nD Cert.SumSsmInRefIdeal.τ Cert.SumSsmInRefIdeal.sig) → Buf (Elt Ideal) ℓ) (g : Dev Cert.SumSsmInRefIdeal.nD → PrngReg), Pre_SumSsmInRefIdeal m →
    θ_run (Cert.SumSsmInRefIdeal.defs (F := Ideal)) (onTc (τ := Cert.SumSsmInRefIdeal.τ) (Cert.SumSsmInRefIdeal.main (F := Ideal))) ⟨m, fun _ => 0, g⟩ (fun r => (∀ c : Dev Cert.SumSsmInRefIdeal.nD,
      r.2.mem ((c.tc : Thread Cert.SumSsmInRefIdeal.nD Cert.SumSsmInRefIdeal.τ).loc Cert.SumSsmInRefIdeal.main_arg0) = m ((c.tc : Thread Cert.SumSsmInRefIdeal.nD Cert.SumSsmInRefIdeal.τ).loc Cert.SumSsmInRefIdeal.main_arg0))
      ∧ r.2.sem = fun _ => 0)

def quiescent_SumOut [hSumOut : Cert.SumOut.Facts] : Prop :=
  ∀ (m : (ℓ : Loc Cert.SumOut.nD Cert.SumOut.τ Cert.SumOut.sig) → Buf (Elt Bits) ℓ) (g : Dev Cert.SumOut.nD → PrngReg), Pre_SumOut m →
    θ_run (Cert.SumOut.defs (F := Bits)) (onTc (τ := Cert.SumOut.τ) (Cert.SumOut.main (F := Bits))) ⟨m, fun _ => 0, g⟩ (fun r => (∀ c : Dev Cert.SumOut.nD,
      r.2.mem ((c.tc : Thread Cert.SumOut.nD Cert.SumOut.τ).loc Cert.SumOut.main_arg0) = m ((c.tc : Thread Cert.SumOut.nD Cert.SumOut.τ).loc Cert.SumOut.main_arg0))
      ∧ r.2.sem = fun _ => 0)

def quiescent_SumOutIdeal [hSumOutIdeal : Cert.SumOutIdeal.Facts] : Prop :=
  ∀ (m : (ℓ : Loc Cert.SumOutIdeal.nD Cert.SumOutIdeal.τ Cert.SumOutIdeal.sig) → Buf (Elt Ideal) ℓ) (g : Dev Cert.SumOutIdeal.nD → PrngReg), Pre_SumOutIdeal m →
    θ_run (Cert.SumOutIdeal.defs (F := Ideal)) (onTc (τ := Cert.SumOutIdeal.τ) (Cert.SumOutIdeal.main (F := Ideal))) ⟨m, fun _ => 0, g⟩ (fun r => (∀ c : Dev Cert.SumOutIdeal.nD,
      r.2.mem ((c.tc : Thread Cert.SumOutIdeal.nD Cert.SumOutIdeal.τ).loc Cert.SumOutIdeal.main_arg0) = m ((c.tc : Thread Cert.SumOutIdeal.nD Cert.SumOutIdeal.τ).loc Cert.SumOutIdeal.main_arg0))
      ∧ r.2.sem = fun _ => 0)

def quiescent_SumOutRefIdeal [hSumOutRefIdeal : Cert.SumOutRefIdeal.Facts] : Prop :=
  ∀ (m : (ℓ : Loc Cert.SumOutRefIdeal.nD Cert.SumOutRefIdeal.τ Cert.SumOutRefIdeal.sig) → Buf (Elt Ideal) ℓ) (g : Dev Cert.SumOutRefIdeal.nD → PrngReg), Pre_SumOutRefIdeal m →
    θ_run (Cert.SumOutRefIdeal.defs (F := Ideal)) (onTc (τ := Cert.SumOutRefIdeal.τ) (Cert.SumOutRefIdeal.main (F := Ideal))) ⟨m, fun _ => 0, g⟩ (fun r => (∀ c : Dev Cert.SumOutRefIdeal.nD,
      r.2.mem ((c.tc : Thread Cert.SumOutRefIdeal.nD Cert.SumOutRefIdeal.τ).loc Cert.SumOutRefIdeal.main_arg0) = m ((c.tc : Thread Cert.SumOutRefIdeal.nD Cert.SumOutRefIdeal.τ).loc Cert.SumOutRefIdeal.main_arg0))
      ∧ r.2.sem = fun _ => 0)

def quiescent_SumGlu [hSumGlu : Cert.SumGlu.Facts] : Prop :=
  ∀ (m : (ℓ : Loc Cert.SumGlu.nD Cert.SumGlu.τ Cert.SumGlu.sig) → Buf (Elt Bits) ℓ) (g : Dev Cert.SumGlu.nD → PrngReg), Pre_SumGlu m →
    θ_run (Cert.SumGlu.defs (F := Bits)) (onTc (τ := Cert.SumGlu.τ) (Cert.SumGlu.main (F := Bits))) ⟨m, fun _ => 0, g⟩ (fun r => (∀ c : Dev Cert.SumGlu.nD,
      r.2.mem ((c.tc : Thread Cert.SumGlu.nD Cert.SumGlu.τ).loc Cert.SumGlu.main_arg0) = m ((c.tc : Thread Cert.SumGlu.nD Cert.SumGlu.τ).loc Cert.SumGlu.main_arg0))
      ∧ r.2.sem = fun _ => 0)

def quiescent_SumGluIdeal [hSumGluIdeal : Cert.SumGluIdeal.Facts] : Prop :=
  ∀ (m : (ℓ : Loc Cert.SumGluIdeal.nD Cert.SumGluIdeal.τ Cert.SumGluIdeal.sig) → Buf (Elt Ideal) ℓ) (g : Dev Cert.SumGluIdeal.nD → PrngReg), Pre_SumGluIdeal m →
    θ_run (Cert.SumGluIdeal.defs (F := Ideal)) (onTc (τ := Cert.SumGluIdeal.τ) (Cert.SumGluIdeal.main (F := Ideal))) ⟨m, fun _ => 0, g⟩ (fun r => (∀ c : Dev Cert.SumGluIdeal.nD,
      r.2.mem ((c.tc : Thread Cert.SumGluIdeal.nD Cert.SumGluIdeal.τ).loc Cert.SumGluIdeal.main_arg0) = m ((c.tc : Thread Cert.SumGluIdeal.nD Cert.SumGluIdeal.τ).loc Cert.SumGluIdeal.main_arg0))
      ∧ r.2.sem = fun _ => 0)

def quiescent_SumGluRefIdeal [hSumGluRefIdeal : Cert.SumGluRefIdeal.Facts] : Prop :=
  ∀ (m : (ℓ : Loc Cert.SumGluRefIdeal.nD Cert.SumGluRefIdeal.τ Cert.SumGluRefIdeal.sig) → Buf (Elt Ideal) ℓ) (g : Dev Cert.SumGluRefIdeal.nD → PrngReg), Pre_SumGluRefIdeal m →
    θ_run (Cert.SumGluRefIdeal.defs (F := Ideal)) (onTc (τ := Cert.SumGluRefIdeal.τ) (Cert.SumGluRefIdeal.main (F := Ideal))) ⟨m, fun _ => 0, g⟩ (fun r => (∀ c : Dev Cert.SumGluRefIdeal.nD,
      r.2.mem ((c.tc : Thread Cert.SumGluRefIdeal.nD Cert.SumGluRefIdeal.τ).loc Cert.SumGluRefIdeal.main_arg0) = m ((c.tc : Thread Cert.SumGluRefIdeal.nD Cert.SumGluRefIdeal.τ).loc Cert.SumGluRefIdeal.main_arg0))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def quiescent_Modulate [hModulate : Cert.Modulate.Facts] : Prop :=
  ∀ (m : (ℓ : Loc Cert.Modulate.nD Cert.Modulate.τ Cert.Modulate.sig) → Buf (Elt Bits) ℓ) (g : Dev Cert.Modulate.nD → PrngReg), Pre_Modulate m →
    θ_run (Cert.Modulate.defs (F := Bits)) (onTc (τ := Cert.Modulate.τ) (Cert.Modulate.main (F := Bits))) ⟨m, fun _ => 0, g⟩ (fun r => (∀ c : Dev Cert.Modulate.nD,
      r.2.mem ((c.tc : Thread Cert.Modulate.nD Cert.Modulate.τ).loc Cert.Modulate.main_arg0) = m ((c.tc : Thread Cert.Modulate.nD Cert.Modulate.τ).loc Cert.Modulate.main_arg0)
      ∧ r.2.mem ((c.tc : Thread Cert.Modulate.nD Cert.Modulate.τ).loc Cert.Modulate.main_arg1) = m ((c.tc : Thread Cert.Modulate.nD Cert.Modulate.τ).loc Cert.Modulate.main_arg1)
      ∧ r.2.mem ((c.tc : Thread Cert.Modulate.nD Cert.Modulate.τ).loc Cert.Modulate.main_arg2) = m ((c.tc : Thread Cert.Modulate.nD Cert.Modulate.τ).loc Cert.Modulate.main_arg2)
      ∧ r.2.mem ((c.tc : Thread Cert.Modulate.nD Cert.Modulate.τ).loc Cert.Modulate.main_arg3) = m ((c.tc : Thread Cert.Modulate.nD Cert.Modulate.τ).loc Cert.Modulate.main_arg3))
      ∧ r.2.sem = fun _ => 0)

def quiescent_ModulateIdeal [hModulateIdeal : Cert.ModulateIdeal.Facts] : Prop :=
  ∀ (m : (ℓ : Loc Cert.ModulateIdeal.nD Cert.ModulateIdeal.τ Cert.ModulateIdeal.sig) → Buf (Elt Ideal) ℓ) (g : Dev Cert.ModulateIdeal.nD → PrngReg), Pre_ModulateIdeal m →
    θ_run (Cert.ModulateIdeal.defs (F := Ideal)) (onTc (τ := Cert.ModulateIdeal.τ) (Cert.ModulateIdeal.main (F := Ideal))) ⟨m, fun _ => 0, g⟩ (fun r => (∀ c : Dev Cert.ModulateIdeal.nD,
      r.2.mem ((c.tc : Thread Cert.ModulateIdeal.nD Cert.ModulateIdeal.τ).loc Cert.ModulateIdeal.main_arg0) = m ((c.tc : Thread Cert.ModulateIdeal.nD Cert.ModulateIdeal.τ).loc Cert.ModulateIdeal.main_arg0)
      ∧ r.2.mem ((c.tc : Thread Cert.ModulateIdeal.nD Cert.ModulateIdeal.τ).loc Cert.ModulateIdeal.main_arg1) = m ((c.tc : Thread Cert.ModulateIdeal.nD Cert.ModulateIdeal.τ).loc Cert.ModulateIdeal.main_arg1)
      ∧ r.2.mem ((c.tc : Thread Cert.ModulateIdeal.nD Cert.ModulateIdeal.τ).loc Cert.ModulateIdeal.main_arg2) = m ((c.tc : Thread Cert.ModulateIdeal.nD Cert.ModulateIdeal.τ).loc Cert.ModulateIdeal.main_arg2)
      ∧ r.2.mem ((c.tc : Thread Cert.ModulateIdeal.nD Cert.ModulateIdeal.τ).loc Cert.ModulateIdeal.main_arg3) = m ((c.tc : Thread Cert.ModulateIdeal.nD Cert.ModulateIdeal.τ).loc Cert.ModulateIdeal.main_arg3))
      ∧ r.2.sem = fun _ => 0)

def quiescent_ModulateRefIdeal [hModulateRefIdeal : Cert.ModulateRefIdeal.Facts] : Prop :=
  ∀ (m : (ℓ : Loc Cert.ModulateRefIdeal.nD Cert.ModulateRefIdeal.τ Cert.ModulateRefIdeal.sig) → Buf (Elt Ideal) ℓ) (g : Dev Cert.ModulateRefIdeal.nD → PrngReg), Pre_ModulateRefIdeal m →
    θ_run (Cert.ModulateRefIdeal.defs (F := Ideal)) (onTc (τ := Cert.ModulateRefIdeal.τ) (Cert.ModulateRefIdeal.main (F := Ideal))) ⟨m, fun _ => 0, g⟩ (fun r => (∀ c : Dev Cert.ModulateRefIdeal.nD,
      r.2.mem ((c.tc : Thread Cert.ModulateRefIdeal.nD Cert.ModulateRefIdeal.τ).loc Cert.ModulateRefIdeal.main_arg0) = m ((c.tc : Thread Cert.ModulateRefIdeal.nD Cert.ModulateRefIdeal.τ).loc Cert.ModulateRefIdeal.main_arg0)
      ∧ r.2.mem ((c.tc : Thread Cert.ModulateRefIdeal.nD Cert.ModulateRefIdeal.τ).loc Cert.ModulateRefIdeal.main_arg1) = m ((c.tc : Thread Cert.ModulateRefIdeal.nD Cert.ModulateRefIdeal.τ).loc Cert.ModulateRefIdeal.main_arg1)
      ∧ r.2.mem ((c.tc : Thread Cert.ModulateRefIdeal.nD Cert.ModulateRefIdeal.τ).loc Cert.ModulateRefIdeal.main_arg2) = m ((c.tc : Thread Cert.ModulateRefIdeal.nD Cert.ModulateRefIdeal.τ).loc Cert.ModulateRefIdeal.main_arg2)
      ∧ r.2.mem ((c.tc : Thread Cert.ModulateRefIdeal.nD Cert.ModulateRefIdeal.τ).loc Cert.ModulateRefIdeal.main_arg3) = m ((c.tc : Thread Cert.ModulateRefIdeal.nD Cert.ModulateRefIdeal.τ).loc Cert.ModulateRefIdeal.main_arg3))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2)
      ∧ r.2.mem ((c.tc : Thread Cert.Modulation.nD Cert.Modulation.τ).loc Cert.Modulation.main_arg3) = m ((c.tc : Thread Cert.Modulation.nD Cert.Modulation.τ).loc Cert.Modulation.main_arg3)
      ∧ r.2.mem ((c.tc : Thread Cert.Modulation.nD Cert.Modulation.τ).loc Cert.Modulation.main_arg4) = m ((c.tc : Thread Cert.Modulation.nD Cert.Modulation.τ).loc Cert.Modulation.main_arg4))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2)
      ∧ r.2.mem ((c.tc : Thread Cert.ModulationIdeal.nD Cert.ModulationIdeal.τ).loc Cert.ModulationIdeal.main_arg3) = m ((c.tc : Thread Cert.ModulationIdeal.nD Cert.ModulationIdeal.τ).loc Cert.ModulationIdeal.main_arg3)
      ∧ r.2.mem ((c.tc : Thread Cert.ModulationIdeal.nD Cert.ModulationIdeal.τ).loc Cert.ModulationIdeal.main_arg4) = m ((c.tc : Thread Cert.ModulationIdeal.nD Cert.ModulationIdeal.τ).loc Cert.ModulationIdeal.main_arg4))
      ∧ r.2.sem = fun _ => 0)

def quiescent_ModulationRefIdeal [hModulationRefIdeal : Cert.ModulationRefIdeal.Facts] : Prop :=
  ∀ (m : (ℓ : Loc Cert.ModulationRefIdeal.nD Cert.ModulationRefIdeal.τ Cert.ModulationRefIdeal.sig) → Buf (Elt Ideal) ℓ) (g : Dev Cert.ModulationRefIdeal.nD → PrngReg), Pre_ModulationRefIdeal m →
    θ_run (Cert.ModulationRefIdeal.defs (F := Ideal)) (onTc (τ := Cert.ModulationRefIdeal.τ) (Cert.ModulationRefIdeal.main (F := Ideal))) ⟨m, fun _ => 0, g⟩ (fun r => (∀ c : Dev Cert.ModulationRefIdeal.nD,
      r.2.mem ((c.tc : Thread Cert.ModulationRefIdeal.nD Cert.ModulationRefIdeal.τ).loc Cert.ModulationRefIdeal.main_arg0) = m ((c.tc : Thread Cert.ModulationRefIdeal.nD Cert.ModulationRefIdeal.τ).loc Cert.ModulationRefIdeal.main_arg0)
      ∧ r.2.mem ((c.tc : Thread Cert.ModulationRefIdeal.nD Cert.ModulationRefIdeal.τ).loc Cert.ModulationRefIdeal.main_arg1) = m ((c.tc : Thread Cert.ModulationRefIdeal.nD Cert.ModulationRefIdeal.τ).loc Cert.ModulationRefIdeal.main_arg1)
      ∧ r.2.mem ((c.tc : Thread Cert.ModulationRefIdeal.nD Cert.ModulationRefIdeal.τ).loc Cert.ModulationRefIdeal.main_arg2) = m ((c.tc : Thread Cert.ModulationRefIdeal.nD Cert.ModulationRefIdeal.τ).loc Cert.ModulationRefIdeal.main_arg2)
      ∧ r.2.mem ((c.tc : Thread Cert.ModulationRefIdeal.nD Cert.ModulationRefIdeal.τ).loc Cert.ModulationRefIdeal.main_arg3) = m ((c.tc : Thread Cert.ModulationRefIdeal.nD Cert.ModulationRefIdeal.τ).loc Cert.ModulationRefIdeal.main_arg3)
      ∧ r.2.mem ((c.tc : Thread Cert.ModulationRefIdeal.nD Cert.ModulationRefIdeal.τ).loc Cert.ModulationRefIdeal.main_arg4) = m ((c.tc : Thread Cert.ModulationRefIdeal.nD Cert.ModulationRefIdeal.τ).loc Cert.ModulationRefIdeal.main_arg4))
      ∧ r.2.sem = fun _ => 0)

def quiescent_Context [hContext : Cert.Context.Facts] : Prop :=
  ∀ (m : (ℓ : Loc Cert.Context.nD Cert.Context.τ Cert.Context.sig) → Buf (Elt Bits) ℓ) (g : Dev Cert.Context.nD → PrngReg), Pre_Context m →
    θ_run (Cert.Context.defs (F := Bits)) (onTc (τ := Cert.Context.τ) (Cert.Context.main (F := Bits))) ⟨m, fun _ => 0, g⟩ (fun r => (∀ c : Dev Cert.Context.nD,
      r.2.mem ((c.tc : Thread Cert.Context.nD Cert.Context.τ).loc Cert.Context.main_arg0) = m ((c.tc : Thread Cert.Context.nD Cert.Context.τ).loc Cert.Context.main_arg0)
      ∧ r.2.mem ((c.tc : Thread Cert.Context.nD Cert.Context.τ).loc Cert.Context.main_arg1) = m ((c.tc : Thread Cert.Context.nD Cert.Context.τ).loc Cert.Context.main_arg1))
      ∧ r.2.sem = fun _ => 0)

def quiescent_ContextIdeal [hContextIdeal : Cert.ContextIdeal.Facts] : Prop :=
  ∀ (m : (ℓ : Loc Cert.ContextIdeal.nD Cert.ContextIdeal.τ Cert.ContextIdeal.sig) → Buf (Elt Ideal) ℓ) (g : Dev Cert.ContextIdeal.nD → PrngReg), Pre_ContextIdeal m →
    θ_run (Cert.ContextIdeal.defs (F := Ideal)) (onTc (τ := Cert.ContextIdeal.τ) (Cert.ContextIdeal.main (F := Ideal))) ⟨m, fun _ => 0, g⟩ (fun r => (∀ c : Dev Cert.ContextIdeal.nD,
      r.2.mem ((c.tc : Thread Cert.ContextIdeal.nD Cert.ContextIdeal.τ).loc Cert.ContextIdeal.main_arg0) = m ((c.tc : Thread Cert.ContextIdeal.nD Cert.ContextIdeal.τ).loc Cert.ContextIdeal.main_arg0)
      ∧ r.2.mem ((c.tc : Thread Cert.ContextIdeal.nD Cert.ContextIdeal.τ).loc Cert.ContextIdeal.main_arg1) = m ((c.tc : Thread Cert.ContextIdeal.nD Cert.ContextIdeal.τ).loc Cert.ContextIdeal.main_arg1))
      ∧ r.2.sem = fun _ => 0)

def quiescent_ContextIdeal_pre_context_finite [hContextIdeal : Cert.ContextIdeal.Facts] [hPre_context_finite : Cert.Pre_context_finite.Facts] : Prop :=
  ∀ (m : (ℓ : Loc Cert.ContextIdeal.nD Cert.ContextIdeal.τ Cert.ContextIdeal.sig) → Buf (Elt Ideal) ℓ) (g : Dev Cert.ContextIdeal.nD → PrngReg), Pre_ContextIdeal_context_finite m →
    θ_run (Cert.ContextIdeal.defs (F := Ideal)) (onTc (τ := Cert.ContextIdeal.τ) (Cert.ContextIdeal.main (F := Ideal))) ⟨m, fun _ => 0, g⟩ (fun r => (∀ c : Dev Cert.ContextIdeal.nD,
      r.2.mem ((c.tc : Thread Cert.ContextIdeal.nD Cert.ContextIdeal.τ).loc Cert.ContextIdeal.main_arg0) = m ((c.tc : Thread Cert.ContextIdeal.nD Cert.ContextIdeal.τ).loc Cert.ContextIdeal.main_arg0)
      ∧ r.2.mem ((c.tc : Thread Cert.ContextIdeal.nD Cert.ContextIdeal.τ).loc Cert.ContextIdeal.main_arg1) = m ((c.tc : Thread Cert.ContextIdeal.nD Cert.ContextIdeal.τ).loc Cert.ContextIdeal.main_arg1))
      ∧ r.2.sem = fun _ => 0)

def quiescent_ContextRefIdeal [hContextRefIdeal : Cert.ContextRefIdeal.Facts] : Prop :=
  ∀ (m : (ℓ : Loc Cert.ContextRefIdeal.nD Cert.ContextRefIdeal.τ Cert.ContextRefIdeal.sig) → Buf (Elt Ideal) ℓ) (g : Dev Cert.ContextRefIdeal.nD → PrngReg), Pre_ContextRefIdeal m →
    θ_run (Cert.ContextRefIdeal.defs (F := Ideal)) (onTc (τ := Cert.ContextRefIdeal.τ) (Cert.ContextRefIdeal.main (F := Ideal))) ⟨m, fun _ => 0, g⟩ (fun r => (∀ c : Dev Cert.ContextRefIdeal.nD,
      r.2.mem ((c.tc : Thread Cert.ContextRefIdeal.nD Cert.ContextRefIdeal.τ).loc Cert.ContextRefIdeal.main_arg0) = m ((c.tc : Thread Cert.ContextRefIdeal.nD Cert.ContextRefIdeal.τ).loc Cert.ContextRefIdeal.main_arg0)
      ∧ r.2.mem ((c.tc : Thread Cert.ContextRefIdeal.nD Cert.ContextRefIdeal.τ).loc Cert.ContextRefIdeal.main_arg1) = m ((c.tc : Thread Cert.ContextRefIdeal.nD Cert.ContextRefIdeal.τ).loc Cert.ContextRefIdeal.main_arg1))
      ∧ r.2.sem = fun _ => 0)

def quiescent_ContextRefIdeal_pre_context_finite [hContextRefIdeal : Cert.ContextRefIdeal.Facts] [hPre_context_finite : Cert.Pre_context_finite.Facts] : Prop :=
  ∀ (m : (ℓ : Loc Cert.ContextRefIdeal.nD Cert.ContextRefIdeal.τ Cert.ContextRefIdeal.sig) → Buf (Elt Ideal) ℓ) (g : Dev Cert.ContextRefIdeal.nD → PrngReg), Pre_ContextRefIdeal_context_finite m →
    θ_run (Cert.ContextRefIdeal.defs (F := Ideal)) (onTc (τ := Cert.ContextRefIdeal.τ) (Cert.ContextRefIdeal.main (F := Ideal))) ⟨m, fun _ => 0, g⟩ (fun r => (∀ c : Dev Cert.ContextRefIdeal.nD,
      r.2.mem ((c.tc : Thread Cert.ContextRefIdeal.nD Cert.ContextRefIdeal.τ).loc Cert.ContextRefIdeal.main_arg0) = m ((c.tc : Thread Cert.ContextRefIdeal.nD Cert.ContextRefIdeal.τ).loc Cert.ContextRefIdeal.main_arg0)
      ∧ r.2.mem ((c.tc : Thread Cert.ContextRefIdeal.nD Cert.ContextRefIdeal.τ).loc Cert.ContextRefIdeal.main_arg1) = m ((c.tc : Thread Cert.ContextRefIdeal.nD Cert.ContextRefIdeal.τ).loc Cert.ContextRefIdeal.main_arg1))
      ∧ r.2.sem = fun _ => 0)

def quiescent_Step [hStep : Cert.Step.Facts] : Prop :=
  ∀ (m : (ℓ : Loc Cert.Step.nD Cert.Step.τ Cert.Step.sig) → Buf (Elt Bits) ℓ) (g : Dev Cert.Step.nD → PrngReg), Pre_Step m →
    θ_run (Cert.Step.defs (F := Bits)) (onTc (τ := Cert.Step.τ) (Cert.Step.main (F := Bits))) ⟨m, fun _ => 0, g⟩ (fun r => (∀ c : Dev Cert.Step.nD,
      r.2.mem ((c.tc : Thread Cert.Step.nD Cert.Step.τ).loc Cert.Step.main_arg0) = m ((c.tc : Thread Cert.Step.nD Cert.Step.τ).loc Cert.Step.main_arg0)
      ∧ r.2.mem ((c.tc : Thread Cert.Step.nD Cert.Step.τ).loc Cert.Step.main_arg1) = m ((c.tc : Thread Cert.Step.nD Cert.Step.τ).loc Cert.Step.main_arg1)
      ∧ r.2.mem ((c.tc : Thread Cert.Step.nD Cert.Step.τ).loc Cert.Step.main_arg2) = m ((c.tc : Thread Cert.Step.nD Cert.Step.τ).loc Cert.Step.main_arg2)
      ∧ r.2.mem ((c.tc : Thread Cert.Step.nD Cert.Step.τ).loc Cert.Step.main_arg3) = m ((c.tc : Thread Cert.Step.nD Cert.Step.τ).loc Cert.Step.main_arg3)
      ∧ r.2.mem ((c.tc : Thread Cert.Step.nD Cert.Step.τ).loc Cert.Step.main_arg4) = m ((c.tc : Thread Cert.Step.nD Cert.Step.τ).loc Cert.Step.main_arg4)
      ∧ r.2.mem ((c.tc : Thread Cert.Step.nD Cert.Step.τ).loc Cert.Step.main_arg5) = m ((c.tc : Thread Cert.Step.nD Cert.Step.τ).loc Cert.Step.main_arg5)
      ∧ r.2.mem ((c.tc : Thread Cert.Step.nD Cert.Step.τ).loc Cert.Step.main_arg6) = m ((c.tc : Thread Cert.Step.nD Cert.Step.τ).loc Cert.Step.main_arg6)
      ∧ r.2.mem ((c.tc : Thread Cert.Step.nD Cert.Step.τ).loc Cert.Step.main_arg7) = m ((c.tc : Thread Cert.Step.nD Cert.Step.τ).loc Cert.Step.main_arg7)
      ∧ r.2.mem ((c.tc : Thread Cert.Step.nD Cert.Step.τ).loc Cert.Step.main_arg8) = m ((c.tc : Thread Cert.Step.nD Cert.Step.τ).loc Cert.Step.main_arg8))
      ∧ r.2.sem = fun _ => 0)

def quiescent_StepIdeal [hStepIdeal : Cert.StepIdeal.Facts] : Prop :=
  ∀ (m : (ℓ : Loc Cert.StepIdeal.nD Cert.StepIdeal.τ Cert.StepIdeal.sig) → Buf (Elt Ideal) ℓ) (g : Dev Cert.StepIdeal.nD → PrngReg), Pre_StepIdeal m →
    θ_run (Cert.StepIdeal.defs (F := Ideal)) (onTc (τ := Cert.StepIdeal.τ) (Cert.StepIdeal.main (F := Ideal))) ⟨m, fun _ => 0, g⟩ (fun r => (∀ c : Dev Cert.StepIdeal.nD,
      r.2.mem ((c.tc : Thread Cert.StepIdeal.nD Cert.StepIdeal.τ).loc Cert.StepIdeal.main_arg0) = m ((c.tc : Thread Cert.StepIdeal.nD Cert.StepIdeal.τ).loc Cert.StepIdeal.main_arg0)
      ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
      ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
      ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
      ∧ r.2.mem ((c.tc : Thread Cert.StepIdeal.nD Cert.StepIdeal.τ).loc Cert.StepIdeal.main_arg4) = m ((c.tc : Thread Cert.StepIdeal.nD Cert.StepIdeal.τ).loc Cert.StepIdeal.main_arg4)
      ∧ r.2.mem ((c.tc : Thread Cert.StepIdeal.nD Cert.StepIdeal.τ).loc Cert.StepIdeal.main_arg5) = m ((c.tc : Thread Cert.StepIdeal.nD Cert.StepIdeal.τ).loc Cert.StepIdeal.main_arg5)
      ∧ r.2.mem ((c.tc : Thread Cert.StepIdeal.nD Cert.StepIdeal.τ).loc Cert.StepIdeal.main_arg6) = m ((c.tc : Thread Cert.StepIdeal.nD Cert.StepIdeal.τ).loc Cert.StepIdeal.main_arg6)
      ∧ r.2.mem ((c.tc : Thread Cert.StepIdeal.nD Cert.StepIdeal.τ).loc Cert.StepIdeal.main_arg7) = m ((c.tc : Thread Cert.StepIdeal.nD Cert.StepIdeal.τ).loc Cert.StepIdeal.main_arg7)
      ∧ r.2.mem ((c.tc : Thread Cert.StepIdeal.nD Cert.StepIdeal.τ).loc Cert.StepIdeal.main_arg8) = m ((c.tc : Thread Cert.StepIdeal.nD Cert.StepIdeal.τ).loc Cert.StepIdeal.main_arg8))
      ∧ r.2.sem = fun _ => 0)

def quiescent_StepRefIdeal [hStepRefIdeal : Cert.StepRefIdeal.Facts] : Prop :=
  ∀ (m : (ℓ : Loc Cert.StepRefIdeal.nD Cert.StepRefIdeal.τ Cert.StepRefIdeal.sig) → Buf (Elt Ideal) ℓ) (g : Dev Cert.StepRefIdeal.nD → PrngReg), Pre_StepRefIdeal m →
    θ_run (Cert.StepRefIdeal.defs (F := Ideal)) (onTc (τ := Cert.StepRefIdeal.τ) (Cert.StepRefIdeal.main (F := Ideal))) ⟨m, fun _ => 0, g⟩ (fun r => (∀ c : Dev Cert.StepRefIdeal.nD,
      r.2.mem ((c.tc : Thread Cert.StepRefIdeal.nD Cert.StepRefIdeal.τ).loc Cert.StepRefIdeal.main_arg0) = m ((c.tc : Thread Cert.StepRefIdeal.nD Cert.StepRefIdeal.τ).loc Cert.StepRefIdeal.main_arg0)
      ∧ r.2.mem ((c.tc : Thread Cert.StepRefIdeal.nD Cert.StepRefIdeal.τ).loc Cert.StepRefIdeal.main_arg1) = m ((c.tc : Thread Cert.StepRefIdeal.nD Cert.StepRefIdeal.τ).loc Cert.StepRefIdeal.main_arg1)
      ∧ r.2.mem ((c.tc : Thread Cert.StepRefIdeal.nD Cert.StepRefIdeal.τ).loc Cert.StepRefIdeal.main_arg2) = m ((c.tc : Thread Cert.StepRefIdeal.nD Cert.StepRefIdeal.τ).loc Cert.StepRefIdeal.main_arg2)
      ∧ r.2.mem ((c.tc : Thread Cert.StepRefIdeal.nD Cert.StepRefIdeal.τ).loc Cert.StepRefIdeal.main_arg3) = m ((c.tc : Thread Cert.StepRefIdeal.nD Cert.StepRefIdeal.τ).loc Cert.StepRefIdeal.main_arg3)
      ∧ r.2.mem ((c.tc : Thread Cert.StepRefIdeal.nD Cert.StepRefIdeal.τ).loc Cert.StepRefIdeal.main_arg4) = m ((c.tc : Thread Cert.StepRefIdeal.nD Cert.StepRefIdeal.τ).loc Cert.StepRefIdeal.main_arg4)
      ∧ r.2.mem ((c.tc : Thread Cert.StepRefIdeal.nD Cert.StepRefIdeal.τ).loc Cert.StepRefIdeal.main_arg5) = m ((c.tc : Thread Cert.StepRefIdeal.nD Cert.StepRefIdeal.τ).loc Cert.StepRefIdeal.main_arg5)
      ∧ r.2.mem ((c.tc : Thread Cert.StepRefIdeal.nD Cert.StepRefIdeal.τ).loc Cert.StepRefIdeal.main_arg6) = m ((c.tc : Thread Cert.StepRefIdeal.nD Cert.StepRefIdeal.τ).loc Cert.StepRefIdeal.main_arg6)
      ∧ r.2.mem ((c.tc : Thread Cert.StepRefIdeal.nD Cert.StepRefIdeal.τ).loc Cert.StepRefIdeal.main_arg7) = m ((c.tc : Thread Cert.StepRefIdeal.nD Cert.StepRefIdeal.τ).loc Cert.StepRefIdeal.main_arg7)
      ∧ r.2.mem ((c.tc : Thread Cert.StepRefIdeal.nD Cert.StepRefIdeal.τ).loc Cert.StepRefIdeal.main_arg8) = m ((c.tc : Thread Cert.StepRefIdeal.nD Cert.StepRefIdeal.τ).loc Cert.StepRefIdeal.main_arg8))
      ∧ r.2.sem = fun _ => 0)

def preserves_Gate_GateIdeal : Prop :=
  True

def algebraic_GateIdeal_GateRefIdeal_pre_gate_finite [hGateIdeal : Cert.GateIdeal.Facts] [hGateRefIdeal : Cert.GateRefIdeal.Facts] [hPre_gate_finite : Cert.Pre_gate_finite.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_gate_finite m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)) →
    ∃ (v0 : (c : Dev Cert.GateIdeal.nD) → Buf (Elt Ideal) ((c.tc : Thread Cert.GateIdeal.nD Cert.GateIdeal.τ).loc Cert.GateIdeal.main_v1_0)) (v1 : (c : Dev Cert.GateIdeal.nD) → Buf (Elt Ideal) ((c.tc : Thread Cert.GateIdeal.nD Cert.GateIdeal.τ).loc Cert.GateIdeal.main_v1_1)) (v2 : (c : Dev Cert.GateIdeal.nD) → Buf (Elt Ideal) ((c.tc : Thread Cert.GateIdeal.nD Cert.GateIdeal.τ).loc Cert.GateIdeal.main_v1_2)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v1_0) = v0 c
          ∧ r.2.mem ((c.tc : Thread Cert.GateIdeal.nD Cert.GateIdeal.τ).loc Cert.GateIdeal.main_v1_1) = v1 c
          ∧ r.2.mem ((c.tc : Thread Cert.GateIdeal.nD Cert.GateIdeal.τ).loc Cert.GateIdeal.main_v1_2) = v2 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v22) = v0 c
          ∧ r.2.mem ((c.tc : Thread Cert.GateRefIdeal.nD Cert.GateRefIdeal.τ).loc Cert.GateRefIdeal.main_v23) = v1 c
          ∧ r.2.mem ((c.tc : Thread Cert.GateRefIdeal.nD Cert.GateRefIdeal.τ).loc Cert.GateRefIdeal.main_v24) = v2 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3))

def preserves_Tap_TapIdeal : Prop :=
  True

def algebraic_TapIdeal_TapRefIdeal [hTapIdeal : Cert.TapIdeal.Facts] [hTapRefIdeal : Cert.TapRefIdeal.Facts] : Prop :=
  ∀ (m : (ℓ : Loc Cert.TapIdeal.nD Cert.TapIdeal.τ Cert.TapIdeal.sig) → Buf (Elt Ideal) ℓ) (g : Dev Cert.TapIdeal.nD → PrngReg)
    (m' : (ℓ : Loc Cert.TapRefIdeal.nD Cert.TapRefIdeal.τ Cert.TapRefIdeal.sig) → Buf (Elt Ideal) ℓ) (g' : Dev Cert.TapRefIdeal.nD → PrngReg), Pre_TapIdeal m →
    (∀ c : Dev Cert.TapIdeal.nD,
      m' ((c.tc : Thread Cert.TapRefIdeal.nD Cert.TapRefIdeal.τ).loc Cert.TapRefIdeal.main_arg0) = m ((c.tc : Thread Cert.TapIdeal.nD Cert.TapIdeal.τ).loc Cert.TapIdeal.main_arg0)
      ∧ m' ((c.tc : Thread Cert.TapRefIdeal.nD Cert.TapRefIdeal.τ).loc Cert.TapRefIdeal.main_arg1) = m ((c.tc : Thread Cert.TapIdeal.nD Cert.TapIdeal.τ).loc Cert.TapIdeal.main_arg1)
      ∧ m' ((c.tc : Thread Cert.TapRefIdeal.nD Cert.TapRefIdeal.τ).loc Cert.TapRefIdeal.main_arg2) = m ((c.tc : Thread Cert.TapIdeal.nD Cert.TapIdeal.τ).loc Cert.TapIdeal.main_arg2)
      ∧ m' ((c.tc : Thread Cert.TapRefIdeal.nD Cert.TapRefIdeal.τ).loc Cert.TapRefIdeal.main_arg3) = m ((c.tc : Thread Cert.TapIdeal.nD Cert.TapIdeal.τ).loc Cert.TapIdeal.main_arg3)
      ∧ m' ((c.tc : Thread Cert.TapRefIdeal.nD Cert.TapRefIdeal.τ).loc Cert.TapRefIdeal.main_arg4) = m ((c.tc : Thread Cert.TapIdeal.nD Cert.TapIdeal.τ).loc Cert.TapIdeal.main_arg4)) →
    ∃ (v0 : (c : Dev Cert.TapIdeal.nD) → Buf (Elt Ideal) ((c.tc : Thread Cert.TapIdeal.nD Cert.TapIdeal.τ).loc Cert.TapIdeal.main_v0_0)) (v1 : (c : Dev Cert.TapIdeal.nD) → Buf (Elt Ideal) ((c.tc : Thread Cert.TapIdeal.nD Cert.TapIdeal.τ).loc Cert.TapIdeal.main_v0_1)),
      θ_run (Cert.TapIdeal.defs (F := Ideal)) (onTc (τ := Cert.TapIdeal.τ) (Cert.TapIdeal.main (F := Ideal))) ⟨m, fun _ => 0, g⟩ (fun r => ∀ c : Dev Cert.TapIdeal.nD,
          r.2.mem ((c.tc : Thread Cert.TapIdeal.nD Cert.TapIdeal.τ).loc Cert.TapIdeal.main_v0_0) = v0 c
          ∧ r.2.mem ((c.tc : Thread Cert.TapIdeal.nD Cert.TapIdeal.τ).loc Cert.TapIdeal.main_v0_1) = v1 c
          ∧ r.2.mem ((c.tc : Thread Cert.TapIdeal.nD Cert.TapIdeal.τ).loc Cert.TapIdeal.main_arg0) = m ((c.tc : Thread Cert.TapIdeal.nD Cert.TapIdeal.τ).loc Cert.TapIdeal.main_arg0)
          ∧ r.2.mem ((c.tc : Thread Cert.TapIdeal.nD Cert.TapIdeal.τ).loc Cert.TapIdeal.main_arg1) = m ((c.tc : Thread Cert.TapIdeal.nD Cert.TapIdeal.τ).loc Cert.TapIdeal.main_arg1)
          ∧ r.2.mem ((c.tc : Thread Cert.TapIdeal.nD Cert.TapIdeal.τ).loc Cert.TapIdeal.main_arg2) = m ((c.tc : Thread Cert.TapIdeal.nD Cert.TapIdeal.τ).loc Cert.TapIdeal.main_arg2)
          ∧ r.2.mem ((c.tc : Thread Cert.TapIdeal.nD Cert.TapIdeal.τ).loc Cert.TapIdeal.main_arg3) = m ((c.tc : Thread Cert.TapIdeal.nD Cert.TapIdeal.τ).loc Cert.TapIdeal.main_arg3)
          ∧ r.2.mem ((c.tc : Thread Cert.TapIdeal.nD Cert.TapIdeal.τ).loc Cert.TapIdeal.main_arg4) = m ((c.tc : Thread Cert.TapIdeal.nD Cert.TapIdeal.τ).loc Cert.TapIdeal.main_arg4))
      ∧ θ_run (Cert.TapRefIdeal.defs (F := Ideal)) (onTc (τ := Cert.TapRefIdeal.τ) (Cert.TapRefIdeal.main (F := Ideal))) ⟨m', fun _ => 0, g'⟩ (fun r => ∀ c : Dev Cert.TapRefIdeal.nD,
          r.2.mem ((c.tc : Thread Cert.TapRefIdeal.nD Cert.TapRefIdeal.τ).loc Cert.TapRefIdeal.main_v154) = v0 c
          ∧ r.2.mem ((c.tc : Thread Cert.TapRefIdeal.nD Cert.TapRefIdeal.τ).loc Cert.TapRefIdeal.main_v142) = v1 c
          ∧ r.2.mem ((c.tc : Thread Cert.TapRefIdeal.nD Cert.TapRefIdeal.τ).loc Cert.TapRefIdeal.main_arg0) = m' ((c.tc : Thread Cert.TapRefIdeal.nD Cert.TapRefIdeal.τ).loc Cert.TapRefIdeal.main_arg0)
          ∧ r.2.mem ((c.tc : Thread Cert.TapRefIdeal.nD Cert.TapRefIdeal.τ).loc Cert.TapRefIdeal.main_arg1) = m' ((c.tc : Thread Cert.TapRefIdeal.nD Cert.TapRefIdeal.τ).loc Cert.TapRefIdeal.main_arg1)
          ∧ r.2.mem ((c.tc : Thread Cert.TapRefIdeal.nD Cert.TapRefIdeal.τ).loc Cert.TapRefIdeal.main_arg2) = m' ((c.tc : Thread Cert.TapRefIdeal.nD Cert.TapRefIdeal.τ).loc Cert.TapRefIdeal.main_arg2)
          ∧ r.2.mem ((c.tc : Thread Cert.TapRefIdeal.nD Cert.TapRefIdeal.τ).loc Cert.TapRefIdeal.main_arg3) = m' ((c.tc : Thread Cert.TapRefIdeal.nD Cert.TapRefIdeal.τ).loc Cert.TapRefIdeal.main_arg3)
          ∧ r.2.mem ((c.tc : Thread Cert.TapRefIdeal.nD Cert.TapRefIdeal.τ).loc Cert.TapRefIdeal.main_arg4) = m' ((c.tc : Thread Cert.TapRefIdeal.nD Cert.TapRefIdeal.τ).loc Cert.TapRefIdeal.main_arg4))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)
      ∧ m' ((c.tc : Thread Cert.InRefIdeal.nD Cert.InRefIdeal.τ).loc Cert.InRefIdeal.main_arg4) = m ((c.tc : Thread Cert.InIdeal.nD Cert.InIdeal.τ).loc Cert.InIdeal.main_arg4)) →
    ∃ (v0 : (c : Dev Cert.InIdeal.nD) → Buf (Elt Ideal) ((c.tc : Thread Cert.InIdeal.nD Cert.InIdeal.τ).loc Cert.InIdeal.main_v1_0)) (v1 : (c : Dev Cert.InIdeal.nD) → Buf (Elt Ideal) ((c.tc : Thread Cert.InIdeal.nD Cert.InIdeal.τ).loc Cert.InIdeal.main_v1_1)) (v2 : (c : Dev Cert.InIdeal.nD) → Buf (Elt Ideal) ((c.tc : Thread Cert.InIdeal.nD Cert.InIdeal.τ).loc Cert.InIdeal.main_v1_2)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v1_0) = v0 c
          ∧ r.2.mem ((c.tc : Thread Cert.InIdeal.nD Cert.InIdeal.τ).loc Cert.InIdeal.main_v1_1) = v1 c
          ∧ r.2.mem ((c.tc : Thread Cert.InIdeal.nD Cert.InIdeal.τ).loc Cert.InIdeal.main_v1_2) = v2 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v24) = v0 c
          ∧ r.2.mem ((c.tc : Thread Cert.InRefIdeal.nD Cert.InRefIdeal.τ).loc Cert.InRefIdeal.main_v21) = v1 c
          ∧ r.2.mem ((c.tc : Thread Cert.InRefIdeal.nD Cert.InRefIdeal.τ).loc Cert.InRefIdeal.main_v18) = v2 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4))

def preserves_WConvIn_WConvInIdeal : Prop :=
  True

def algebraic_WConvInIdeal_WConvInRefIdeal [hWConvInIdeal : Cert.WConvInIdeal.Facts] [hWConvInRefIdeal : Cert.WConvInRefIdeal.Facts] : Prop :=
  ∀ (m : (ℓ : Loc Cert.WConvInIdeal.nD Cert.WConvInIdeal.τ Cert.WConvInIdeal.sig) → Buf (Elt Ideal) ℓ) (g : Dev Cert.WConvInIdeal.nD → PrngReg)
    (m' : (ℓ : Loc Cert.WConvInRefIdeal.nD Cert.WConvInRefIdeal.τ Cert.WConvInRefIdeal.sig) → Buf (Elt Ideal) ℓ) (g' : Dev Cert.WConvInRefIdeal.nD → PrngReg), Pre_WConvInIdeal m →
    (∀ c : Dev Cert.WConvInIdeal.nD,
      m' ((c.tc : Thread Cert.WConvInRefIdeal.nD Cert.WConvInRefIdeal.τ).loc Cert.WConvInRefIdeal.main_arg0) = m ((c.tc : Thread Cert.WConvInIdeal.nD Cert.WConvInIdeal.τ).loc Cert.WConvInIdeal.main_arg0)
      ∧ m' ((c.tc : Thread Cert.WConvInRefIdeal.nD Cert.WConvInRefIdeal.τ).loc Cert.WConvInRefIdeal.main_arg1) = m ((c.tc : Thread Cert.WConvInIdeal.nD Cert.WConvInIdeal.τ).loc Cert.WConvInIdeal.main_arg1)
      ∧ m' ((c.tc : Thread Cert.WConvInRefIdeal.nD Cert.WConvInRefIdeal.τ).loc Cert.WConvInRefIdeal.main_arg2) = m ((c.tc : Thread Cert.WConvInIdeal.nD Cert.WConvInIdeal.τ).loc Cert.WConvInIdeal.main_arg2)) →
    ∃ (v0 : (c : Dev Cert.WConvInIdeal.nD) → Buf (Elt Ideal) ((c.tc : Thread Cert.WConvInIdeal.nD Cert.WConvInIdeal.τ).loc Cert.WConvInIdeal.main_v0)),
      θ_run (Cert.WConvInIdeal.defs (F := Ideal)) (onTc (τ := Cert.WConvInIdeal.τ) (Cert.WConvInIdeal.main (F := Ideal))) ⟨m, fun _ => 0, g⟩ (fun r => ∀ c : Dev Cert.WConvInIdeal.nD,
          r.2.mem ((c.tc : Thread Cert.WConvInIdeal.nD Cert.WConvInIdeal.τ).loc Cert.WConvInIdeal.main_v0) = v0 c
          ∧ r.2.mem ((c.tc : Thread Cert.WConvInIdeal.nD Cert.WConvInIdeal.τ).loc Cert.WConvInIdeal.main_arg0) = m ((c.tc : Thread Cert.WConvInIdeal.nD Cert.WConvInIdeal.τ).loc Cert.WConvInIdeal.main_arg0)
          ∧ r.2.mem ((c.tc : Thread Cert.WConvInIdeal.nD Cert.WConvInIdeal.τ).loc Cert.WConvInIdeal.main_arg1) = m ((c.tc : Thread Cert.WConvInIdeal.nD Cert.WConvInIdeal.τ).loc Cert.WConvInIdeal.main_arg1)
          ∧ r.2.mem ((c.tc : Thread Cert.WConvInIdeal.nD Cert.WConvInIdeal.τ).loc Cert.WConvInIdeal.main_arg2) = m ((c.tc : Thread Cert.WConvInIdeal.nD Cert.WConvInIdeal.τ).loc Cert.WConvInIdeal.main_arg2))
      ∧ θ_run (Cert.WConvInRefIdeal.defs (F := Ideal)) (onTc (τ := Cert.WConvInRefIdeal.τ) (Cert.WConvInRefIdeal.main (F := Ideal))) ⟨m', fun _ => 0, g'⟩ (fun r => ∀ c : Dev Cert.WConvInRefIdeal.nD,
          r.2.mem ((c.tc : Thread Cert.WConvInRefIdeal.nD Cert.WConvInRefIdeal.τ).loc Cert.WConvInRefIdeal.main_v8) = v0 c
          ∧ r.2.mem ((c.tc : Thread Cert.WConvInRefIdeal.nD Cert.WConvInRefIdeal.τ).loc Cert.WConvInRefIdeal.main_arg0) = m' ((c.tc : Thread Cert.WConvInRefIdeal.nD Cert.WConvInRefIdeal.τ).loc Cert.WConvInRefIdeal.main_arg0)
          ∧ r.2.mem ((c.tc : Thread Cert.WConvInRefIdeal.nD Cert.WConvInRefIdeal.τ).loc Cert.WConvInRefIdeal.main_arg1) = m' ((c.tc : Thread Cert.WConvInRefIdeal.nD Cert.WConvInRefIdeal.τ).loc Cert.WConvInRefIdeal.main_arg1)
          ∧ r.2.mem ((c.tc : Thread Cert.WConvInRefIdeal.nD Cert.WConvInRefIdeal.τ).loc Cert.WConvInRefIdeal.main_arg2) = m' ((c.tc : Thread Cert.WConvInRefIdeal.nD Cert.WConvInRefIdeal.τ).loc Cert.WConvInRefIdeal.main_arg2))

def preserves_WConvOut_WConvOutIdeal : Prop :=
  True

def algebraic_WConvOutIdeal_WConvOutRefIdeal [hWConvOutIdeal : Cert.WConvOutIdeal.Facts] [hWConvOutRefIdeal : Cert.WConvOutRefIdeal.Facts] : Prop :=
  ∀ (m : (ℓ : Loc Cert.WConvOutIdeal.nD Cert.WConvOutIdeal.τ Cert.WConvOutIdeal.sig) → Buf (Elt Ideal) ℓ) (g : Dev Cert.WConvOutIdeal.nD → PrngReg)
    (m' : (ℓ : Loc Cert.WConvOutRefIdeal.nD Cert.WConvOutRefIdeal.τ Cert.WConvOutRefIdeal.sig) → Buf (Elt Ideal) ℓ) (g' : Dev Cert.WConvOutRefIdeal.nD → PrngReg), Pre_WConvOutIdeal m →
    (∀ c : Dev Cert.WConvOutIdeal.nD,
      m' ((c.tc : Thread Cert.WConvOutRefIdeal.nD Cert.WConvOutRefIdeal.τ).loc Cert.WConvOutRefIdeal.main_arg0) = m ((c.tc : Thread Cert.WConvOutIdeal.nD Cert.WConvOutIdeal.τ).loc Cert.WConvOutIdeal.main_arg0)
      ∧ m' ((c.tc : Thread Cert.WConvOutRefIdeal.nD Cert.WConvOutRefIdeal.τ).loc Cert.WConvOutRefIdeal.main_arg1) = m ((c.tc : Thread Cert.WConvOutIdeal.nD Cert.WConvOutIdeal.τ).loc Cert.WConvOutIdeal.main_arg1)
      ∧ m' ((c.tc : Thread Cert.WConvOutRefIdeal.nD Cert.WConvOutRefIdeal.τ).loc Cert.WConvOutRefIdeal.main_arg2) = m ((c.tc : Thread Cert.WConvOutIdeal.nD Cert.WConvOutIdeal.τ).loc Cert.WConvOutIdeal.main_arg2)) →
    ∃ (v0 : (c : Dev Cert.WConvOutIdeal.nD) → Buf (Elt Ideal) ((c.tc : Thread Cert.WConvOutIdeal.nD Cert.WConvOutIdeal.τ).loc Cert.WConvOutIdeal.main_v0)),
      θ_run (Cert.WConvOutIdeal.defs (F := Ideal)) (onTc (τ := Cert.WConvOutIdeal.τ) (Cert.WConvOutIdeal.main (F := Ideal))) ⟨m, fun _ => 0, g⟩ (fun r => ∀ c : Dev Cert.WConvOutIdeal.nD,
          r.2.mem ((c.tc : Thread Cert.WConvOutIdeal.nD Cert.WConvOutIdeal.τ).loc Cert.WConvOutIdeal.main_v0) = v0 c
          ∧ r.2.mem ((c.tc : Thread Cert.WConvOutIdeal.nD Cert.WConvOutIdeal.τ).loc Cert.WConvOutIdeal.main_arg0) = m ((c.tc : Thread Cert.WConvOutIdeal.nD Cert.WConvOutIdeal.τ).loc Cert.WConvOutIdeal.main_arg0)
          ∧ r.2.mem ((c.tc : Thread Cert.WConvOutIdeal.nD Cert.WConvOutIdeal.τ).loc Cert.WConvOutIdeal.main_arg1) = m ((c.tc : Thread Cert.WConvOutIdeal.nD Cert.WConvOutIdeal.τ).loc Cert.WConvOutIdeal.main_arg1)
          ∧ r.2.mem ((c.tc : Thread Cert.WConvOutIdeal.nD Cert.WConvOutIdeal.τ).loc Cert.WConvOutIdeal.main_arg2) = m ((c.tc : Thread Cert.WConvOutIdeal.nD Cert.WConvOutIdeal.τ).loc Cert.WConvOutIdeal.main_arg2))
      ∧ θ_run (Cert.WConvOutRefIdeal.defs (F := Ideal)) (onTc (τ := Cert.WConvOutRefIdeal.τ) (Cert.WConvOutRefIdeal.main (F := Ideal))) ⟨m', fun _ => 0, g'⟩ (fun r => ∀ c : Dev Cert.WConvOutRefIdeal.nD,
          r.2.mem ((c.tc : Thread Cert.WConvOutRefIdeal.nD Cert.WConvOutRefIdeal.τ).loc Cert.WConvOutRefIdeal.main_v8) = v0 c
          ∧ r.2.mem ((c.tc : Thread Cert.WConvOutRefIdeal.nD Cert.WConvOutRefIdeal.τ).loc Cert.WConvOutRefIdeal.main_arg0) = m' ((c.tc : Thread Cert.WConvOutRefIdeal.nD Cert.WConvOutRefIdeal.τ).loc Cert.WConvOutRefIdeal.main_arg0)
          ∧ r.2.mem ((c.tc : Thread Cert.WConvOutRefIdeal.nD Cert.WConvOutRefIdeal.τ).loc Cert.WConvOutRefIdeal.main_arg1) = m' ((c.tc : Thread Cert.WConvOutRefIdeal.nD Cert.WConvOutRefIdeal.τ).loc Cert.WConvOutRefIdeal.main_arg1)
          ∧ r.2.mem ((c.tc : Thread Cert.WConvOutRefIdeal.nD Cert.WConvOutRefIdeal.τ).loc Cert.WConvOutRefIdeal.main_arg2) = m' ((c.tc : Thread Cert.WConvOutRefIdeal.nD Cert.WConvOutRefIdeal.τ).loc Cert.WConvOutRefIdeal.main_arg2))

def preserves_WSsmIn_WSsmInIdeal : Prop :=
  True

def algebraic_WSsmInIdeal_WSsmInRefIdeal [hWSsmInIdeal : Cert.WSsmInIdeal.Facts] [hWSsmInRefIdeal : Cert.WSsmInRefIdeal.Facts] : Prop :=
  ∀ (m : (ℓ : Loc Cert.WSsmInIdeal.nD Cert.WSsmInIdeal.τ Cert.WSsmInIdeal.sig) → Buf (Elt Ideal) ℓ) (g : Dev Cert.WSsmInIdeal.nD → PrngReg)
    (m' : (ℓ : Loc Cert.WSsmInRefIdeal.nD Cert.WSsmInRefIdeal.τ Cert.WSsmInRefIdeal.sig) → Buf (Elt Ideal) ℓ) (g' : Dev Cert.WSsmInRefIdeal.nD → PrngReg), Pre_WSsmInIdeal m →
    (∀ c : Dev Cert.WSsmInIdeal.nD,
      m' ((c.tc : Thread Cert.WSsmInRefIdeal.nD Cert.WSsmInRefIdeal.τ).loc Cert.WSsmInRefIdeal.main_arg0) = m ((c.tc : Thread Cert.WSsmInIdeal.nD Cert.WSsmInIdeal.τ).loc Cert.WSsmInIdeal.main_arg0)
      ∧ m' ((c.tc : Thread Cert.WSsmInRefIdeal.nD Cert.WSsmInRefIdeal.τ).loc Cert.WSsmInRefIdeal.main_arg1) = m ((c.tc : Thread Cert.WSsmInIdeal.nD Cert.WSsmInIdeal.τ).loc Cert.WSsmInIdeal.main_arg1)
      ∧ m' ((c.tc : Thread Cert.WSsmInRefIdeal.nD Cert.WSsmInRefIdeal.τ).loc Cert.WSsmInRefIdeal.main_arg2) = m ((c.tc : Thread Cert.WSsmInIdeal.nD Cert.WSsmInIdeal.τ).loc Cert.WSsmInIdeal.main_arg2)) →
    ∃ (v0 : (c : Dev Cert.WSsmInIdeal.nD) → Buf (Elt Ideal) ((c.tc : Thread Cert.WSsmInIdeal.nD Cert.WSsmInIdeal.τ).loc Cert.WSsmInIdeal.main_v0)),
      θ_run (Cert.WSsmInIdeal.defs (F := Ideal)) (onTc (τ := Cert.WSsmInIdeal.τ) (Cert.WSsmInIdeal.main (F := Ideal))) ⟨m, fun _ => 0, g⟩ (fun r => ∀ c : Dev Cert.WSsmInIdeal.nD,
          r.2.mem ((c.tc : Thread Cert.WSsmInIdeal.nD Cert.WSsmInIdeal.τ).loc Cert.WSsmInIdeal.main_v0) = v0 c
          ∧ r.2.mem ((c.tc : Thread Cert.WSsmInIdeal.nD Cert.WSsmInIdeal.τ).loc Cert.WSsmInIdeal.main_arg0) = m ((c.tc : Thread Cert.WSsmInIdeal.nD Cert.WSsmInIdeal.τ).loc Cert.WSsmInIdeal.main_arg0)
          ∧ r.2.mem ((c.tc : Thread Cert.WSsmInIdeal.nD Cert.WSsmInIdeal.τ).loc Cert.WSsmInIdeal.main_arg1) = m ((c.tc : Thread Cert.WSsmInIdeal.nD Cert.WSsmInIdeal.τ).loc Cert.WSsmInIdeal.main_arg1)
          ∧ r.2.mem ((c.tc : Thread Cert.WSsmInIdeal.nD Cert.WSsmInIdeal.τ).loc Cert.WSsmInIdeal.main_arg2) = m ((c.tc : Thread Cert.WSsmInIdeal.nD Cert.WSsmInIdeal.τ).loc Cert.WSsmInIdeal.main_arg2))
      ∧ θ_run (Cert.WSsmInRefIdeal.defs (F := Ideal)) (onTc (τ := Cert.WSsmInRefIdeal.τ) (Cert.WSsmInRefIdeal.main (F := Ideal))) ⟨m', fun _ => 0, g'⟩ (fun r => ∀ c : Dev Cert.WSsmInRefIdeal.nD,
          r.2.mem ((c.tc : Thread Cert.WSsmInRefIdeal.nD Cert.WSsmInRefIdeal.τ).loc Cert.WSsmInRefIdeal.main_v42) = v0 c
          ∧ r.2.mem ((c.tc : Thread Cert.WSsmInRefIdeal.nD Cert.WSsmInRefIdeal.τ).loc Cert.WSsmInRefIdeal.main_arg0) = m' ((c.tc : Thread Cert.WSsmInRefIdeal.nD Cert.WSsmInRefIdeal.τ).loc Cert.WSsmInRefIdeal.main_arg0)
          ∧ r.2.mem ((c.tc : Thread Cert.WSsmInRefIdeal.nD Cert.WSsmInRefIdeal.τ).loc Cert.WSsmInRefIdeal.main_arg1) = m' ((c.tc : Thread Cert.WSsmInRefIdeal.nD Cert.WSsmInRefIdeal.τ).loc Cert.WSsmInRefIdeal.main_arg1)
          ∧ r.2.mem ((c.tc : Thread Cert.WSsmInRefIdeal.nD Cert.WSsmInRefIdeal.τ).loc Cert.WSsmInRefIdeal.main_arg2) = m' ((c.tc : Thread Cert.WSsmInRefIdeal.nD Cert.WSsmInRefIdeal.τ).loc Cert.WSsmInRefIdeal.main_arg2))

def preserves_WGlu_WGluIdeal : Prop :=
  True

def algebraic_WGluIdeal_WGluRefIdeal [hWGluIdeal : Cert.WGluIdeal.Facts] [hWGluRefIdeal : Cert.WGluRefIdeal.Facts] : Prop :=
  ∀ (m : (ℓ : Loc Cert.WGluIdeal.nD Cert.WGluIdeal.τ Cert.WGluIdeal.sig) → Buf (Elt Ideal) ℓ) (g : Dev Cert.WGluIdeal.nD → PrngReg)
    (m' : (ℓ : Loc Cert.WGluRefIdeal.nD Cert.WGluRefIdeal.τ Cert.WGluRefIdeal.sig) → Buf (Elt Ideal) ℓ) (g' : Dev Cert.WGluRefIdeal.nD → PrngReg), Pre_WGluIdeal m →
    (∀ c : Dev Cert.WGluIdeal.nD,
      m' ((c.tc : Thread Cert.WGluRefIdeal.nD Cert.WGluRefIdeal.τ).loc Cert.WGluRefIdeal.main_arg0) = m ((c.tc : Thread Cert.WGluIdeal.nD Cert.WGluIdeal.τ).loc Cert.WGluIdeal.main_arg0)
      ∧ m' ((c.tc : Thread Cert.WGluRefIdeal.nD Cert.WGluRefIdeal.τ).loc Cert.WGluRefIdeal.main_arg1) = m ((c.tc : Thread Cert.WGluIdeal.nD Cert.WGluIdeal.τ).loc Cert.WGluIdeal.main_arg1)) →
    ∃ (v0 : (c : Dev Cert.WGluIdeal.nD) → Buf (Elt Ideal) ((c.tc : Thread Cert.WGluIdeal.nD Cert.WGluIdeal.τ).loc Cert.WGluIdeal.main_v0)),
      θ_run (Cert.WGluIdeal.defs (F := Ideal)) (onTc (τ := Cert.WGluIdeal.τ) (Cert.WGluIdeal.main (F := Ideal))) ⟨m, fun _ => 0, g⟩ (fun r => ∀ c : Dev Cert.WGluIdeal.nD,
          r.2.mem ((c.tc : Thread Cert.WGluIdeal.nD Cert.WGluIdeal.τ).loc Cert.WGluIdeal.main_v0) = v0 c
          ∧ r.2.mem ((c.tc : Thread Cert.WGluIdeal.nD Cert.WGluIdeal.τ).loc Cert.WGluIdeal.main_arg0) = m ((c.tc : Thread Cert.WGluIdeal.nD Cert.WGluIdeal.τ).loc Cert.WGluIdeal.main_arg0)
          ∧ r.2.mem ((c.tc : Thread Cert.WGluIdeal.nD Cert.WGluIdeal.τ).loc Cert.WGluIdeal.main_arg1) = m ((c.tc : Thread Cert.WGluIdeal.nD Cert.WGluIdeal.τ).loc Cert.WGluIdeal.main_arg1))
      ∧ θ_run (Cert.WGluRefIdeal.defs (F := Ideal)) (onTc (τ := Cert.WGluRefIdeal.τ) (Cert.WGluRefIdeal.main (F := Ideal))) ⟨m', fun _ => 0, g'⟩ (fun r => ∀ c : Dev Cert.WGluRefIdeal.nD,
          r.2.mem ((c.tc : Thread Cert.WGluRefIdeal.nD Cert.WGluRefIdeal.τ).loc Cert.WGluRefIdeal.main_v7) = v0 c
          ∧ r.2.mem ((c.tc : Thread Cert.WGluRefIdeal.nD Cert.WGluRefIdeal.τ).loc Cert.WGluRefIdeal.main_arg0) = m' ((c.tc : Thread Cert.WGluRefIdeal.nD Cert.WGluRefIdeal.τ).loc Cert.WGluRefIdeal.main_arg0)
          ∧ r.2.mem ((c.tc : Thread Cert.WGluRefIdeal.nD Cert.WGluRefIdeal.τ).loc Cert.WGluRefIdeal.main_arg1) = m' ((c.tc : Thread Cert.WGluRefIdeal.nD Cert.WGluRefIdeal.τ).loc Cert.WGluRefIdeal.main_arg1))

def preserves_WSsmOut_WSsmOutIdeal : Prop :=
  True

def algebraic_WSsmOutIdeal_WSsmOutRefIdeal [hWSsmOutIdeal : Cert.WSsmOutIdeal.Facts] [hWSsmOutRefIdeal : Cert.WSsmOutRefIdeal.Facts] : Prop :=
  ∀ (m : (ℓ : Loc Cert.WSsmOutIdeal.nD Cert.WSsmOutIdeal.τ Cert.WSsmOutIdeal.sig) → Buf (Elt Ideal) ℓ) (g : Dev Cert.WSsmOutIdeal.nD → PrngReg)
    (m' : (ℓ : Loc Cert.WSsmOutRefIdeal.nD Cert.WSsmOutRefIdeal.τ Cert.WSsmOutRefIdeal.sig) → Buf (Elt Ideal) ℓ) (g' : Dev Cert.WSsmOutRefIdeal.nD → PrngReg), Pre_WSsmOutIdeal m →
    (∀ c : Dev Cert.WSsmOutIdeal.nD,
      m' ((c.tc : Thread Cert.WSsmOutRefIdeal.nD Cert.WSsmOutRefIdeal.τ).loc Cert.WSsmOutRefIdeal.main_arg0) = m ((c.tc : Thread Cert.WSsmOutIdeal.nD Cert.WSsmOutIdeal.τ).loc Cert.WSsmOutIdeal.main_arg0)
      ∧ m' ((c.tc : Thread Cert.WSsmOutRefIdeal.nD Cert.WSsmOutRefIdeal.τ).loc Cert.WSsmOutRefIdeal.main_arg1) = m ((c.tc : Thread Cert.WSsmOutIdeal.nD Cert.WSsmOutIdeal.τ).loc Cert.WSsmOutIdeal.main_arg1)) →
    ∃ (v0 : (c : Dev Cert.WSsmOutIdeal.nD) → Buf (Elt Ideal) ((c.tc : Thread Cert.WSsmOutIdeal.nD Cert.WSsmOutIdeal.τ).loc Cert.WSsmOutIdeal.main_v0)),
      θ_run (Cert.WSsmOutIdeal.defs (F := Ideal)) (onTc (τ := Cert.WSsmOutIdeal.τ) (Cert.WSsmOutIdeal.main (F := Ideal))) ⟨m, fun _ => 0, g⟩ (fun r => ∀ c : Dev Cert.WSsmOutIdeal.nD,
          r.2.mem ((c.tc : Thread Cert.WSsmOutIdeal.nD Cert.WSsmOutIdeal.τ).loc Cert.WSsmOutIdeal.main_v0) = v0 c
          ∧ r.2.mem ((c.tc : Thread Cert.WSsmOutIdeal.nD Cert.WSsmOutIdeal.τ).loc Cert.WSsmOutIdeal.main_arg0) = m ((c.tc : Thread Cert.WSsmOutIdeal.nD Cert.WSsmOutIdeal.τ).loc Cert.WSsmOutIdeal.main_arg0)
          ∧ r.2.mem ((c.tc : Thread Cert.WSsmOutIdeal.nD Cert.WSsmOutIdeal.τ).loc Cert.WSsmOutIdeal.main_arg1) = m ((c.tc : Thread Cert.WSsmOutIdeal.nD Cert.WSsmOutIdeal.τ).loc Cert.WSsmOutIdeal.main_arg1))
      ∧ θ_run (Cert.WSsmOutRefIdeal.defs (F := Ideal)) (onTc (τ := Cert.WSsmOutRefIdeal.τ) (Cert.WSsmOutRefIdeal.main (F := Ideal))) ⟨m', fun _ => 0, g'⟩ (fun r => ∀ c : Dev Cert.WSsmOutRefIdeal.nD,
          r.2.mem ((c.tc : Thread Cert.WSsmOutRefIdeal.nD Cert.WSsmOutRefIdeal.τ).loc Cert.WSsmOutRefIdeal.main_v7) = v0 c
          ∧ r.2.mem ((c.tc : Thread Cert.WSsmOutRefIdeal.nD Cert.WSsmOutRefIdeal.τ).loc Cert.WSsmOutRefIdeal.main_arg0) = m' ((c.tc : Thread Cert.WSsmOutRefIdeal.nD Cert.WSsmOutRefIdeal.τ).loc Cert.WSsmOutRefIdeal.main_arg0)
          ∧ r.2.mem ((c.tc : Thread Cert.WSsmOutRefIdeal.nD Cert.WSsmOutRefIdeal.τ).loc Cert.WSsmOutRefIdeal.main_arg1) = m' ((c.tc : Thread Cert.WSsmOutRefIdeal.nD Cert.WSsmOutRefIdeal.τ).loc Cert.WSsmOutRefIdeal.main_arg1))

def preserves_Project_ProjectIdeal : Prop :=
  True

def algebraic_ProjectIdeal_ProjectRefIdeal [hProjectIdeal : Cert.ProjectIdeal.Facts] [hProjectRefIdeal : Cert.ProjectRefIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectRefIdeal.nD Cert.ProjectRefIdeal.τ Cert.ProjectRefIdeal.sig) → Buf (Elt Ideal) ℓ) (g' : Dev Cert.ProjectRefIdeal.nD → PrngReg), Pre_ProjectIdeal m →
    (∀ c : Dev Cert.ProjectIdeal.nD,
      m' ((c.tc : Thread Cert.ProjectRefIdeal.nD Cert.ProjectRefIdeal.τ).loc Cert.ProjectRefIdeal.main_arg0) = m ((c.tc : Thread Cert.ProjectIdeal.nD Cert.ProjectIdeal.τ).loc Cert.ProjectIdeal.main_arg0)
      ∧ m' ((c.tc : Thread Cert.ProjectRefIdeal.nD Cert.ProjectRefIdeal.τ).loc Cert.ProjectRefIdeal.main_arg1) = m ((c.tc : Thread Cert.ProjectIdeal.nD Cert.ProjectIdeal.τ).loc Cert.ProjectIdeal.main_arg1)
      ∧ m' ((c.tc : Thread Cert.ProjectRefIdeal.nD Cert.ProjectRefIdeal.τ).loc Cert.ProjectRefIdeal.main_arg2) = m ((c.tc : Thread Cert.ProjectIdeal.nD Cert.ProjectIdeal.τ).loc Cert.ProjectIdeal.main_arg2)
      ∧ m' ((c.tc : Thread Cert.ProjectRefIdeal.nD Cert.ProjectRefIdeal.τ).loc Cert.ProjectRefIdeal.main_arg3) = m ((c.tc : Thread Cert.ProjectIdeal.nD Cert.ProjectIdeal.τ).loc Cert.ProjectIdeal.main_arg3)) →
    ∃ (v0 : (c : Dev Cert.ProjectIdeal.nD) → Buf (Elt Ideal) ((c.tc : Thread Cert.ProjectIdeal.nD Cert.ProjectIdeal.τ).loc Cert.ProjectIdeal.main_v0_0)) (v1 : (c : Dev Cert.ProjectIdeal.nD) → Buf (Elt Ideal) ((c.tc : Thread Cert.ProjectIdeal.nD Cert.ProjectIdeal.τ).loc Cert.ProjectIdeal.main_v0_1)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v0_0) = v0 c
          ∧ r.2.mem ((c.tc : Thread Cert.ProjectIdeal.nD Cert.ProjectIdeal.τ).loc Cert.ProjectIdeal.main_v0_1) = v1 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3))
      ∧ θ_run (Cert.ProjectRefIdeal.defs (F := Ideal)) (onTc (τ := Cert.ProjectRefIdeal.τ) (Cert.ProjectRefIdeal.main (F := Ideal))) ⟨m', fun _ => 0, g'⟩ (fun r => ∀ c : Dev Cert.ProjectRefIdeal.nD,
          r.2.mem ((c.tc : Thread Cert.ProjectRefIdeal.nD Cert.ProjectRefIdeal.τ).loc Cert.ProjectRefIdeal.main_v11) = v0 c
          ∧ r.2.mem ((c.tc : Thread Cert.ProjectRefIdeal.nD Cert.ProjectRefIdeal.τ).loc Cert.ProjectRefIdeal.main_v6) = v1 c
          ∧ r.2.mem ((c.tc : Thread Cert.ProjectRefIdeal.nD Cert.ProjectRefIdeal.τ).loc Cert.ProjectRefIdeal.main_arg0) = m' ((c.tc : Thread Cert.ProjectRefIdeal.nD Cert.ProjectRefIdeal.τ).loc Cert.ProjectRefIdeal.main_arg0)
          ∧ r.2.mem ((c.tc : Thread Cert.ProjectRefIdeal.nD Cert.ProjectRefIdeal.τ).loc Cert.ProjectRefIdeal.main_arg1) = m' ((c.tc : Thread Cert.ProjectRefIdeal.nD Cert.ProjectRefIdeal.τ).loc Cert.ProjectRefIdeal.main_arg1)
          ∧ r.2.mem ((c.tc : Thread Cert.ProjectRefIdeal.nD Cert.ProjectRefIdeal.τ).loc Cert.ProjectRefIdeal.main_arg2) = m' ((c.tc : Thread Cert.ProjectRefIdeal.nD Cert.ProjectRefIdeal.τ).loc Cert.ProjectRefIdeal.main_arg2)
          ∧ r.2.mem ((c.tc : Thread Cert.ProjectRefIdeal.nD Cert.ProjectRefIdeal.τ).loc Cert.ProjectRefIdeal.main_arg3) = m' ((c.tc : Thread Cert.ProjectRefIdeal.nD Cert.ProjectRefIdeal.τ).loc Cert.ProjectRefIdeal.main_arg3))

def preserves_ProjectZ_ProjectZIdeal : Prop :=
  True

def algebraic_ProjectZIdeal_ProjectZRefIdeal [hProjectZIdeal : Cert.ProjectZIdeal.Facts] [hProjectZRefIdeal : Cert.ProjectZRefIdeal.Facts] : Prop :=
  ∀ (m : (ℓ : Loc Cert.ProjectZIdeal.nD Cert.ProjectZIdeal.τ Cert.ProjectZIdeal.sig) → Buf (Elt Ideal) ℓ) (g : Dev Cert.ProjectZIdeal.nD → PrngReg)
    (m' : (ℓ : Loc Cert.ProjectZRefIdeal.nD Cert.ProjectZRefIdeal.τ Cert.ProjectZRefIdeal.sig) → Buf (Elt Ideal) ℓ) (g' : Dev Cert.ProjectZRefIdeal.nD → PrngReg), Pre_ProjectZIdeal m →
    (∀ c : Dev Cert.ProjectZIdeal.nD,
      m' ((c.tc : Thread Cert.ProjectZRefIdeal.nD Cert.ProjectZRefIdeal.τ).loc Cert.ProjectZRefIdeal.main_arg0) = m ((c.tc : Thread Cert.ProjectZIdeal.nD Cert.ProjectZIdeal.τ).loc Cert.ProjectZIdeal.main_arg0)
      ∧ m' ((c.tc : Thread Cert.ProjectZRefIdeal.nD Cert.ProjectZRefIdeal.τ).loc Cert.ProjectZRefIdeal.main_arg1) = m ((c.tc : Thread Cert.ProjectZIdeal.nD Cert.ProjectZIdeal.τ).loc Cert.ProjectZIdeal.main_arg1)
      ∧ m' ((c.tc : Thread Cert.ProjectZRefIdeal.nD Cert.ProjectZRefIdeal.τ).loc Cert.ProjectZRefIdeal.main_arg2) = m ((c.tc : Thread Cert.ProjectZIdeal.nD Cert.ProjectZIdeal.τ).loc Cert.ProjectZIdeal.main_arg2)
      ∧ m' ((c.tc : Thread Cert.ProjectZRefIdeal.nD Cert.ProjectZRefIdeal.τ).loc Cert.ProjectZRefIdeal.main_arg3) = m ((c.tc : Thread Cert.ProjectZIdeal.nD Cert.ProjectZIdeal.τ).loc Cert.ProjectZIdeal.main_arg3)
      ∧ m' ((c.tc : Thread Cert.ProjectZRefIdeal.nD Cert.ProjectZRefIdeal.τ).loc Cert.ProjectZRefIdeal.main_arg4) = m ((c.tc : Thread Cert.ProjectZIdeal.nD Cert.ProjectZIdeal.τ).loc Cert.ProjectZIdeal.main_arg4)
      ∧ m' ((c.tc : Thread Cert.ProjectZRefIdeal.nD Cert.ProjectZRefIdeal.τ).loc Cert.ProjectZRefIdeal.main_arg5) = m ((c.tc : Thread Cert.ProjectZIdeal.nD Cert.ProjectZIdeal.τ).loc Cert.ProjectZIdeal.main_arg5)) →
    ∃ (v0 : (c : Dev Cert.ProjectZIdeal.nD) → Buf (Elt Ideal) ((c.tc : Thread Cert.ProjectZIdeal.nD Cert.ProjectZIdeal.τ).loc Cert.ProjectZIdeal.main_v3_0)) (v1 : (c : Dev Cert.ProjectZIdeal.nD) → Buf (Elt Ideal) ((c.tc : Thread Cert.ProjectZIdeal.nD Cert.ProjectZIdeal.τ).loc Cert.ProjectZIdeal.main_v3_1)),
      θ_run (Cert.ProjectZIdeal.defs (F := Ideal)) (onTc (τ := Cert.ProjectZIdeal.τ) (Cert.ProjectZIdeal.main (F := Ideal))) ⟨m, fun _ => 0, g⟩ (fun r => ∀ c : Dev Cert.ProjectZIdeal.nD,
          r.2.mem ((c.tc : Thread Cert.ProjectZIdeal.nD Cert.ProjectZIdeal.τ).loc Cert.ProjectZIdeal.main_v3_0) = v0 c
          ∧ r.2.mem ((c.tc : Thread Cert.ProjectZIdeal.nD Cert.ProjectZIdeal.τ).loc Cert.ProjectZIdeal.main_v3_1) = v1 c
          ∧ r.2.mem ((c.tc : Thread Cert.ProjectZIdeal.nD Cert.ProjectZIdeal.τ).loc Cert.ProjectZIdeal.main_arg0) = m ((c.tc : Thread Cert.ProjectZIdeal.nD Cert.ProjectZIdeal.τ).loc Cert.ProjectZIdeal.main_arg0)
          ∧ r.2.mem ((c.tc : Thread Cert.ProjectZIdeal.nD Cert.ProjectZIdeal.τ).loc Cert.ProjectZIdeal.main_arg1) = m ((c.tc : Thread Cert.ProjectZIdeal.nD Cert.ProjectZIdeal.τ).loc Cert.ProjectZIdeal.main_arg1)
          ∧ r.2.mem ((c.tc : Thread Cert.ProjectZIdeal.nD Cert.ProjectZIdeal.τ).loc Cert.ProjectZIdeal.main_arg2) = m ((c.tc : Thread Cert.ProjectZIdeal.nD Cert.ProjectZIdeal.τ).loc Cert.ProjectZIdeal.main_arg2)
          ∧ r.2.mem ((c.tc : Thread Cert.ProjectZIdeal.nD Cert.ProjectZIdeal.τ).loc Cert.ProjectZIdeal.main_arg3) = m ((c.tc : Thread Cert.ProjectZIdeal.nD Cert.ProjectZIdeal.τ).loc Cert.ProjectZIdeal.main_arg3)
          ∧ r.2.mem ((c.tc : Thread Cert.ProjectZIdeal.nD Cert.ProjectZIdeal.τ).loc Cert.ProjectZIdeal.main_arg4) = m ((c.tc : Thread Cert.ProjectZIdeal.nD Cert.ProjectZIdeal.τ).loc Cert.ProjectZIdeal.main_arg4)
          ∧ r.2.mem ((c.tc : Thread Cert.ProjectZIdeal.nD Cert.ProjectZIdeal.τ).loc Cert.ProjectZIdeal.main_arg5) = m ((c.tc : Thread Cert.ProjectZIdeal.nD Cert.ProjectZIdeal.τ).loc Cert.ProjectZIdeal.main_arg5))
      ∧ θ_run (Cert.ProjectZRefIdeal.defs (F := Ideal)) (onTc (τ := Cert.ProjectZRefIdeal.τ) (Cert.ProjectZRefIdeal.main (F := Ideal))) ⟨m', fun _ => 0, g'⟩ (fun r => ∀ c : Dev Cert.ProjectZRefIdeal.nD,
          r.2.mem ((c.tc : Thread Cert.ProjectZRefIdeal.nD Cert.ProjectZRefIdeal.τ).loc Cert.ProjectZRefIdeal.main_v20) = v0 c
          ∧ r.2.mem ((c.tc : Thread Cert.ProjectZRefIdeal.nD Cert.ProjectZRefIdeal.τ).loc Cert.ProjectZRefIdeal.main_v10) = v1 c
          ∧ r.2.mem ((c.tc : Thread Cert.ProjectZRefIdeal.nD Cert.ProjectZRefIdeal.τ).loc Cert.ProjectZRefIdeal.main_arg0) = m' ((c.tc : Thread Cert.ProjectZRefIdeal.nD Cert.ProjectZRefIdeal.τ).loc Cert.ProjectZRefIdeal.main_arg0)
          ∧ r.2.mem ((c.tc : Thread Cert.ProjectZRefIdeal.nD Cert.ProjectZRefIdeal.τ).loc Cert.ProjectZRefIdeal.main_arg1) = m' ((c.tc : Thread Cert.ProjectZRefIdeal.nD Cert.ProjectZRefIdeal.τ).loc Cert.ProjectZRefIdeal.main_arg1)
          ∧ r.2.mem ((c.tc : Thread Cert.ProjectZRefIdeal.nD Cert.ProjectZRefIdeal.τ).loc Cert.ProjectZRefIdeal.main_arg2) = m' ((c.tc : Thread Cert.ProjectZRefIdeal.nD Cert.ProjectZRefIdeal.τ).loc Cert.ProjectZRefIdeal.main_arg2)
          ∧ r.2.mem ((c.tc : Thread Cert.ProjectZRefIdeal.nD Cert.ProjectZRefIdeal.τ).loc Cert.ProjectZRefIdeal.main_arg3) = m' ((c.tc : Thread Cert.ProjectZRefIdeal.nD Cert.ProjectZRefIdeal.τ).loc Cert.ProjectZRefIdeal.main_arg3)
          ∧ r.2.mem ((c.tc : Thread Cert.ProjectZRefIdeal.nD Cert.ProjectZRefIdeal.τ).loc Cert.ProjectZRefIdeal.main_arg4) = m' ((c.tc : Thread Cert.ProjectZRefIdeal.nD Cert.ProjectZRefIdeal.τ).loc Cert.ProjectZRefIdeal.main_arg4)
          ∧ r.2.mem ((c.tc : Thread Cert.ProjectZRefIdeal.nD Cert.ProjectZRefIdeal.τ).loc Cert.ProjectZRefIdeal.main_arg5) = m' ((c.tc : Thread Cert.ProjectZRefIdeal.nD Cert.ProjectZRefIdeal.τ).loc Cert.ProjectZRefIdeal.main_arg5))

def preserves_AdamConvIn_AdamConvInIdeal : Prop :=
  True

def algebraic_AdamConvInIdeal_AdamConvInRefIdeal [hAdamConvInIdeal : Cert.AdamConvInIdeal.Facts] [hAdamConvInRefIdeal : Cert.AdamConvInRefIdeal.Facts] : Prop :=
  ∀ (m : (ℓ : Loc Cert.AdamConvInIdeal.nD Cert.AdamConvInIdeal.τ Cert.AdamConvInIdeal.sig) → Buf (Elt Ideal) ℓ) (g : Dev Cert.AdamConvInIdeal.nD → PrngReg)
    (m' : (ℓ : Loc Cert.AdamConvInRefIdeal.nD Cert.AdamConvInRefIdeal.τ Cert.AdamConvInRefIdeal.sig) → Buf (Elt Ideal) ℓ) (g' : Dev Cert.AdamConvInRefIdeal.nD → PrngReg), Pre_AdamConvInIdeal m →
    (∀ c : Dev Cert.AdamConvInIdeal.nD,
      m' ((c.tc : Thread Cert.AdamConvInRefIdeal.nD Cert.AdamConvInRefIdeal.τ).loc Cert.AdamConvInRefIdeal.main_arg0) = m ((c.tc : Thread Cert.AdamConvInIdeal.nD Cert.AdamConvInIdeal.τ).loc Cert.AdamConvInIdeal.main_arg0)
      ∧ m' ((c.tc : Thread Cert.AdamConvInRefIdeal.nD Cert.AdamConvInRefIdeal.τ).loc Cert.AdamConvInRefIdeal.main_arg1) = m ((c.tc : Thread Cert.AdamConvInIdeal.nD Cert.AdamConvInIdeal.τ).loc Cert.AdamConvInIdeal.main_arg1)
      ∧ m' ((c.tc : Thread Cert.AdamConvInRefIdeal.nD Cert.AdamConvInRefIdeal.τ).loc Cert.AdamConvInRefIdeal.main_arg2) = m ((c.tc : Thread Cert.AdamConvInIdeal.nD Cert.AdamConvInIdeal.τ).loc Cert.AdamConvInIdeal.main_arg2)
      ∧ m' ((c.tc : Thread Cert.AdamConvInRefIdeal.nD Cert.AdamConvInRefIdeal.τ).loc Cert.AdamConvInRefIdeal.main_arg3) = m ((c.tc : Thread Cert.AdamConvInIdeal.nD Cert.AdamConvInIdeal.τ).loc Cert.AdamConvInIdeal.main_arg3)) →
    ∃ (v0 : (c : Dev Cert.AdamConvInIdeal.nD) → Buf (Elt Ideal) ((c.tc : Thread Cert.AdamConvInIdeal.nD Cert.AdamConvInIdeal.τ).loc Cert.AdamConvInIdeal.main_v0_0)) (v1 : (c : Dev Cert.AdamConvInIdeal.nD) → Buf (Elt Ideal) ((c.tc : Thread Cert.AdamConvInIdeal.nD Cert.AdamConvInIdeal.τ).loc Cert.AdamConvInIdeal.main_v0_1)) (v2 : (c : Dev Cert.AdamConvInIdeal.nD) → Buf (Elt Ideal) ((c.tc : Thread Cert.AdamConvInIdeal.nD Cert.AdamConvInIdeal.τ).loc Cert.AdamConvInIdeal.main_v0_2)),
      θ_run (Cert.AdamConvInIdeal.defs (F := Ideal)) (onTc (τ := Cert.AdamConvInIdeal.τ) (Cert.AdamConvInIdeal.main (F := Ideal))) ⟨m, fun _ => 0, g⟩ (fun r => ∀ c : Dev Cert.AdamConvInIdeal.nD,
          r.2.mem ((c.tc : Thread Cert.AdamConvInIdeal.nD Cert.AdamConvInIdeal.τ).loc Cert.AdamConvInIdeal.main_v0_0) = v0 c
          ∧ r.2.mem ((c.tc : Thread Cert.AdamConvInIdeal.nD Cert.AdamConvInIdeal.τ).loc Cert.AdamConvInIdeal.main_v0_1) = v1 c
          ∧ r.2.mem ((c.tc : Thread Cert.AdamConvInIdeal.nD Cert.AdamConvInIdeal.τ).loc Cert.AdamConvInIdeal.main_v0_2) = v2 c
          ∧ r.2.mem ((c.tc : Thread Cert.AdamConvInIdeal.nD Cert.AdamConvInIdeal.τ).loc Cert.AdamConvInIdeal.main_arg0) = m ((c.tc : Thread Cert.AdamConvInIdeal.nD Cert.AdamConvInIdeal.τ).loc Cert.AdamConvInIdeal.main_arg0)
          ∧ r.2.mem ((c.tc : Thread Cert.AdamConvInIdeal.nD Cert.AdamConvInIdeal.τ).loc Cert.AdamConvInIdeal.main_arg1) = m ((c.tc : Thread Cert.AdamConvInIdeal.nD Cert.AdamConvInIdeal.τ).loc Cert.AdamConvInIdeal.main_arg1)
          ∧ r.2.mem ((c.tc : Thread Cert.AdamConvInIdeal.nD Cert.AdamConvInIdeal.τ).loc Cert.AdamConvInIdeal.main_arg2) = m ((c.tc : Thread Cert.AdamConvInIdeal.nD Cert.AdamConvInIdeal.τ).loc Cert.AdamConvInIdeal.main_arg2)
          ∧ r.2.mem ((c.tc : Thread Cert.AdamConvInIdeal.nD Cert.AdamConvInIdeal.τ).loc Cert.AdamConvInIdeal.main_arg3) = m ((c.tc : Thread Cert.AdamConvInIdeal.nD Cert.AdamConvInIdeal.τ).loc Cert.AdamConvInIdeal.main_arg3))
      ∧ θ_run (Cert.AdamConvInRefIdeal.defs (F := Ideal)) (onTc (τ := Cert.AdamConvInRefIdeal.τ) (Cert.AdamConvInRefIdeal.main (F := Ideal))) ⟨m', fun _ => 0, g'⟩ (fun r => ∀ c : Dev Cert.AdamConvInRefIdeal.nD,
          r.2.mem ((c.tc : Thread Cert.AdamConvInRefIdeal.nD Cert.AdamConvInRefIdeal.τ).loc Cert.AdamConvInRefIdeal.main_v23) = v0 c
          ∧ r.2.mem ((c.tc : Thread Cert.AdamConvInRefIdeal.nD Cert.AdamConvInRefIdeal.τ).loc Cert.AdamConvInRefIdeal.main_v4) = v1 c
          ∧ r.2.mem ((c.tc : Thread Cert.AdamConvInRefIdeal.nD Cert.AdamConvInRefIdeal.τ).loc Cert.AdamConvInRefIdeal.main_v10) = v2 c
          ∧ r.2.mem ((c.tc : Thread Cert.AdamConvInRefIdeal.nD Cert.AdamConvInRefIdeal.τ).loc Cert.AdamConvInRefIdeal.main_arg0) = m' ((c.tc : Thread Cert.AdamConvInRefIdeal.nD Cert.AdamConvInRefIdeal.τ).loc Cert.AdamConvInRefIdeal.main_arg0)
          ∧ r.2.mem ((c.tc : Thread Cert.AdamConvInRefIdeal.nD Cert.AdamConvInRefIdeal.τ).loc Cert.AdamConvInRefIdeal.main_arg1) = m' ((c.tc : Thread Cert.AdamConvInRefIdeal.nD Cert.AdamConvInRefIdeal.τ).loc Cert.AdamConvInRefIdeal.main_arg1)
          ∧ r.2.mem ((c.tc : Thread Cert.AdamConvInRefIdeal.nD Cert.AdamConvInRefIdeal.τ).loc Cert.AdamConvInRefIdeal.main_arg2) = m' ((c.tc : Thread Cert.AdamConvInRefIdeal.nD Cert.AdamConvInRefIdeal.τ).loc Cert.AdamConvInRefIdeal.main_arg2)
          ∧ r.2.mem ((c.tc : Thread Cert.AdamConvInRefIdeal.nD Cert.AdamConvInRefIdeal.τ).loc Cert.AdamConvInRefIdeal.main_arg3) = m' ((c.tc : Thread Cert.AdamConvInRefIdeal.nD Cert.AdamConvInRefIdeal.τ).loc Cert.AdamConvInRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v23) = v0 c
          ∧ r.2.mem ((c.tc : Thread Cert.AdamOutRefIdeal.nD Cert.AdamOutRefIdeal.τ).loc Cert.AdamOutRefIdeal.main_v4) = v1 c
          ∧ r.2.mem ((c.tc : Thread Cert.AdamOutRefIdeal.nD Cert.AdamOutRefIdeal.τ).loc Cert.AdamOutRefIdeal.main_v10) = v2 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamSsmIn_AdamSsmInIdeal : Prop :=
  True

def algebraic_AdamSsmInIdeal_AdamSsmInRefIdeal [hAdamSsmInIdeal : Cert.AdamSsmInIdeal.Facts] [hAdamSsmInRefIdeal : Cert.AdamSsmInRefIdeal.Facts] : Prop :=
  ∀ (m : (ℓ : Loc Cert.AdamSsmInIdeal.nD Cert.AdamSsmInIdeal.τ Cert.AdamSsmInIdeal.sig) → Buf (Elt Ideal) ℓ) (g : Dev Cert.AdamSsmInIdeal.nD → PrngReg)
    (m' : (ℓ : Loc Cert.AdamSsmInRefIdeal.nD Cert.AdamSsmInRefIdeal.τ Cert.AdamSsmInRefIdeal.sig) → Buf (Elt Ideal) ℓ) (g' : Dev Cert.AdamSsmInRefIdeal.nD → PrngReg), Pre_AdamSsmInIdeal m →
    (∀ c : Dev Cert.AdamSsmInIdeal.nD,
      m' ((c.tc : Thread Cert.AdamSsmInRefIdeal.nD Cert.AdamSsmInRefIdeal.τ).loc Cert.AdamSsmInRefIdeal.main_arg0) = m ((c.tc : Thread Cert.AdamSsmInIdeal.nD Cert.AdamSsmInIdeal.τ).loc Cert.AdamSsmInIdeal.main_arg0)
      ∧ m' ((c.tc : Thread Cert.AdamSsmInRefIdeal.nD Cert.AdamSsmInRefIdeal.τ).loc Cert.AdamSsmInRefIdeal.main_arg1) = m ((c.tc : Thread Cert.AdamSsmInIdeal.nD Cert.AdamSsmInIdeal.τ).loc Cert.AdamSsmInIdeal.main_arg1)
      ∧ m' ((c.tc : Thread Cert.AdamSsmInRefIdeal.nD Cert.AdamSsmInRefIdeal.τ).loc Cert.AdamSsmInRefIdeal.main_arg2) = m ((c.tc : Thread Cert.AdamSsmInIdeal.nD Cert.AdamSsmInIdeal.τ).loc Cert.AdamSsmInIdeal.main_arg2)
      ∧ m' ((c.tc : Thread Cert.AdamSsmInRefIdeal.nD Cert.AdamSsmInRefIdeal.τ).loc Cert.AdamSsmInRefIdeal.main_arg3) = m ((c.tc : Thread Cert.AdamSsmInIdeal.nD Cert.AdamSsmInIdeal.τ).loc Cert.AdamSsmInIdeal.main_arg3)) →
    ∃ (v0 : (c : Dev Cert.AdamSsmInIdeal.nD) → Buf (Elt Ideal) ((c.tc : Thread Cert.AdamSsmInIdeal.nD Cert.AdamSsmInIdeal.τ).loc Cert.AdamSsmInIdeal.main_v0_0)) (v1 : (c : Dev Cert.AdamSsmInIdeal.nD) → Buf (Elt Ideal) ((c.tc : Thread Cert.AdamSsmInIdeal.nD Cert.AdamSsmInIdeal.τ).loc Cert.AdamSsmInIdeal.main_v0_1)) (v2 : (c : Dev Cert.AdamSsmInIdeal.nD) → Buf (Elt Ideal) ((c.tc : Thread Cert.AdamSsmInIdeal.nD Cert.AdamSsmInIdeal.τ).loc Cert.AdamSsmInIdeal.main_v0_2)),
      θ_run (Cert.AdamSsmInIdeal.defs (F := Ideal)) (onTc (τ := Cert.AdamSsmInIdeal.τ) (Cert.AdamSsmInIdeal.main (F := Ideal))) ⟨m, fun _ => 0, g⟩ (fun r => ∀ c : Dev Cert.AdamSsmInIdeal.nD,
          r.2.mem ((c.tc : Thread Cert.AdamSsmInIdeal.nD Cert.AdamSsmInIdeal.τ).loc Cert.AdamSsmInIdeal.main_v0_0) = v0 c
          ∧ r.2.mem ((c.tc : Thread Cert.AdamSsmInIdeal.nD Cert.AdamSsmInIdeal.τ).loc Cert.AdamSsmInIdeal.main_v0_1) = v1 c
          ∧ r.2.mem ((c.tc : Thread Cert.AdamSsmInIdeal.nD Cert.AdamSsmInIdeal.τ).loc Cert.AdamSsmInIdeal.main_v0_2) = v2 c
          ∧ r.2.mem ((c.tc : Thread Cert.AdamSsmInIdeal.nD Cert.AdamSsmInIdeal.τ).loc Cert.AdamSsmInIdeal.main_arg0) = m ((c.tc : Thread Cert.AdamSsmInIdeal.nD Cert.AdamSsmInIdeal.τ).loc Cert.AdamSsmInIdeal.main_arg0)
          ∧ r.2.mem ((c.tc : Thread Cert.AdamSsmInIdeal.nD Cert.AdamSsmInIdeal.τ).loc Cert.AdamSsmInIdeal.main_arg1) = m ((c.tc : Thread Cert.AdamSsmInIdeal.nD Cert.AdamSsmInIdeal.τ).loc Cert.AdamSsmInIdeal.main_arg1)
          ∧ r.2.mem ((c.tc : Thread Cert.AdamSsmInIdeal.nD Cert.AdamSsmInIdeal.τ).loc Cert.AdamSsmInIdeal.main_arg2) = m ((c.tc : Thread Cert.AdamSsmInIdeal.nD Cert.AdamSsmInIdeal.τ).loc Cert.AdamSsmInIdeal.main_arg2)
          ∧ r.2.mem ((c.tc : Thread Cert.AdamSsmInIdeal.nD Cert.AdamSsmInIdeal.τ).loc Cert.AdamSsmInIdeal.main_arg3) = m ((c.tc : Thread Cert.AdamSsmInIdeal.nD Cert.AdamSsmInIdeal.τ).loc Cert.AdamSsmInIdeal.main_arg3))
      ∧ θ_run (Cert.AdamSsmInRefIdeal.defs (F := Ideal)) (onTc (τ := Cert.AdamSsmInRefIdeal.τ) (Cert.AdamSsmInRefIdeal.main (F := Ideal))) ⟨m', fun _ => 0, g'⟩ (fun r => ∀ c : Dev Cert.AdamSsmInRefIdeal.nD,
          r.2.mem ((c.tc : Thread Cert.AdamSsmInRefIdeal.nD Cert.AdamSsmInRefIdeal.τ).loc Cert.AdamSsmInRefIdeal.main_v23) = v0 c
          ∧ r.2.mem ((c.tc : Thread Cert.AdamSsmInRefIdeal.nD Cert.AdamSsmInRefIdeal.τ).loc Cert.AdamSsmInRefIdeal.main_v4) = v1 c
          ∧ r.2.mem ((c.tc : Thread Cert.AdamSsmInRefIdeal.nD Cert.AdamSsmInRefIdeal.τ).loc Cert.AdamSsmInRefIdeal.main_v10) = v2 c
          ∧ r.2.mem ((c.tc : Thread Cert.AdamSsmInRefIdeal.nD Cert.AdamSsmInRefIdeal.τ).loc Cert.AdamSsmInRefIdeal.main_arg0) = m' ((c.tc : Thread Cert.AdamSsmInRefIdeal.nD Cert.AdamSsmInRefIdeal.τ).loc Cert.AdamSsmInRefIdeal.main_arg0)
          ∧ r.2.mem ((c.tc : Thread Cert.AdamSsmInRefIdeal.nD Cert.AdamSsmInRefIdeal.τ).loc Cert.AdamSsmInRefIdeal.main_arg1) = m' ((c.tc : Thread Cert.AdamSsmInRefIdeal.nD Cert.AdamSsmInRefIdeal.τ).loc Cert.AdamSsmInRefIdeal.main_arg1)
          ∧ r.2.mem ((c.tc : Thread Cert.AdamSsmInRefIdeal.nD Cert.AdamSsmInRefIdeal.τ).loc Cert.AdamSsmInRefIdeal.main_arg2) = m' ((c.tc : Thread Cert.AdamSsmInRefIdeal.nD Cert.AdamSsmInRefIdeal.τ).loc Cert.AdamSsmInRefIdeal.main_arg2)
          ∧ r.2.mem ((c.tc : Thread Cert.AdamSsmInRefIdeal.nD Cert.AdamSsmInRefIdeal.τ).loc Cert.AdamSsmInRefIdeal.main_arg3) = m' ((c.tc : Thread Cert.AdamSsmInRefIdeal.nD Cert.AdamSsmInRefIdeal.τ).loc Cert.AdamSsmInRefIdeal.main_arg3))

def preserves_AdamGlu_AdamGluIdeal : Prop :=
  True

def algebraic_AdamGluIdeal_AdamGluRefIdeal [hAdamGluIdeal : Cert.AdamGluIdeal.Facts] [hAdamGluRefIdeal : Cert.AdamGluRefIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg)
    (m' : (ℓ : Loc Cert.AdamGluRefIdeal.nD Cert.AdamGluRefIdeal.τ Cert.AdamGluRefIdeal.sig) → Buf (Elt Ideal) ℓ) (g' : Dev Cert.AdamGluRefIdeal.nD → PrngReg), Pre_AdamGluIdeal m →
    (∀ c : Dev Cert.AdamGluIdeal.nD,
      m' ((c.tc : Thread Cert.AdamGluRefIdeal.nD Cert.AdamGluRefIdeal.τ).loc Cert.AdamGluRefIdeal.main_arg0) = m ((c.tc : Thread Cert.AdamGluIdeal.nD Cert.AdamGluIdeal.τ).loc Cert.AdamGluIdeal.main_arg0)
      ∧ m' ((c.tc : Thread Cert.AdamGluRefIdeal.nD Cert.AdamGluRefIdeal.τ).loc Cert.AdamGluRefIdeal.main_arg1) = m ((c.tc : Thread Cert.AdamGluIdeal.nD Cert.AdamGluIdeal.τ).loc Cert.AdamGluIdeal.main_arg1)
      ∧ m' ((c.tc : Thread Cert.AdamGluRefIdeal.nD Cert.AdamGluRefIdeal.τ).loc Cert.AdamGluRefIdeal.main_arg2) = m ((c.tc : Thread Cert.AdamGluIdeal.nD Cert.AdamGluIdeal.τ).loc Cert.AdamGluIdeal.main_arg2)
      ∧ m' ((c.tc : Thread Cert.AdamGluRefIdeal.nD Cert.AdamGluRefIdeal.τ).loc Cert.AdamGluRefIdeal.main_arg3) = m ((c.tc : Thread Cert.AdamGluIdeal.nD Cert.AdamGluIdeal.τ).loc Cert.AdamGluIdeal.main_arg3)) →
    ∃ (v0 : (c : Dev Cert.AdamGluIdeal.nD) → Buf (Elt Ideal) ((c.tc : Thread Cert.AdamGluIdeal.nD Cert.AdamGluIdeal.τ).loc Cert.AdamGluIdeal.main_v0_0)) (v1 : (c : Dev Cert.AdamGluIdeal.nD) → Buf (Elt Ideal) ((c.tc : Thread Cert.AdamGluIdeal.nD Cert.AdamGluIdeal.τ).loc Cert.AdamGluIdeal.main_v0_1)) (v2 : (c : Dev Cert.AdamGluIdeal.nD) → Buf (Elt Ideal) ((c.tc : Thread Cert.AdamGluIdeal.nD Cert.AdamGluIdeal.τ).loc Cert.AdamGluIdeal.main_v0_2)),
      θ_run (Cert.AdamGluIdeal.defs (F := Ideal)) (onTc (τ := Cert.AdamGluIdeal.τ) (Cert.AdamGluIdeal.main (F := Ideal))) ⟨m, fun _ => 0, g⟩ (fun r => ∀ c : Dev Cert.AdamGluIdeal.nD,
          r.2.mem ((c.tc : Thread Cert.AdamGluIdeal.nD Cert.AdamGluIdeal.τ).loc Cert.AdamGluIdeal.main_v0_0) = v0 c
          ∧ r.2.mem ((c.tc : Thread Cert.AdamGluIdeal.nD Cert.AdamGluIdeal.τ).loc Cert.AdamGluIdeal.main_v0_1) = v1 c
          ∧ r.2.mem ((c.tc : Thread Cert.AdamGluIdeal.nD Cert.AdamGluIdeal.τ).loc Cert.AdamGluIdeal.main_v0_2) = v2 c
          ∧ r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
          ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
          ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
          ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3))
      ∧ θ_run (Cert.AdamGluRefIdeal.defs (F := Ideal)) (onTc (τ := Cert.AdamGluRefIdeal.τ) (Cert.AdamGluRefIdeal.main (F := Ideal))) ⟨m', fun _ => 0, g'⟩ (fun r => ∀ c : Dev Cert.AdamGluRefIdeal.nD,
          r.2.mem ((c.tc : Thread Cert.AdamGluRefIdeal.nD Cert.AdamGluRefIdeal.τ).loc Cert.AdamGluRefIdeal.main_v23) = v0 c
          ∧ r.2.mem ((c.tc : Thread Cert.AdamGluRefIdeal.nD Cert.AdamGluRefIdeal.τ).loc Cert.AdamGluRefIdeal.main_v4) = v1 c
          ∧ r.2.mem ((c.tc : Thread Cert.AdamGluRefIdeal.nD Cert.AdamGluRefIdeal.τ).loc Cert.AdamGluRefIdeal.main_v10) = v2 c
          ∧ r.2.mem ((c.tc : Thread Cert.AdamGluRefIdeal.nD Cert.AdamGluRefIdeal.τ).loc Cert.AdamGluRefIdeal.main_arg0) = m' ((c.tc : Thread Cert.AdamGluRefIdeal.nD Cert.AdamGluRefIdeal.τ).loc Cert.AdamGluRefIdeal.main_arg0)
          ∧ r.2.mem ((c.tc : Thread Cert.AdamGluRefIdeal.nD Cert.AdamGluRefIdeal.τ).loc Cert.AdamGluRefIdeal.main_arg1) = m' ((c.tc : Thread Cert.AdamGluRefIdeal.nD Cert.AdamGluRefIdeal.τ).loc Cert.AdamGluRefIdeal.main_arg1)
          ∧ r.2.mem ((c.tc : Thread Cert.AdamGluRefIdeal.nD Cert.AdamGluRefIdeal.τ).loc Cert.AdamGluRefIdeal.main_arg2) = m' ((c.tc : Thread Cert.AdamGluRefIdeal.nD Cert.AdamGluRefIdeal.τ).loc Cert.AdamGluRefIdeal.main_arg2)
          ∧ r.2.mem ((c.tc : Thread Cert.AdamGluRefIdeal.nD Cert.AdamGluRefIdeal.τ).loc Cert.AdamGluRefIdeal.main_arg3) = m' ((c.tc : Thread Cert.AdamGluRefIdeal.nD Cert.AdamGluRefIdeal.τ).loc Cert.AdamGluRefIdeal.main_arg3))

def preserves_AdamAda_AdamAdaIdeal : Prop :=
  True

def algebraic_AdamAdaIdeal_AdamAdaRefIdeal [hAdamAdaIdeal : Cert.AdamAdaIdeal.Facts] [hAdamAdaRefIdeal : Cert.AdamAdaRefIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg)
    (m' : (ℓ : Loc Cert.AdamAdaRefIdeal.nD Cert.AdamAdaRefIdeal.τ Cert.AdamAdaRefIdeal.sig) → Buf (Elt Ideal) ℓ) (g' : Dev Cert.AdamAdaRefIdeal.nD → PrngReg), Pre_AdamAdaIdeal m →
    (∀ c : Dev Cert.AdamAdaIdeal.nD,
      m' ((c.tc : Thread Cert.AdamAdaRefIdeal.nD Cert.AdamAdaRefIdeal.τ).loc Cert.AdamAdaRefIdeal.main_arg0) = m ((c.tc : Thread Cert.AdamAdaIdeal.nD Cert.AdamAdaIdeal.τ).loc Cert.AdamAdaIdeal.main_arg0)
      ∧ m' ((c.tc : Thread Cert.AdamAdaRefIdeal.nD Cert.AdamAdaRefIdeal.τ).loc Cert.AdamAdaRefIdeal.main_arg1) = m ((c.tc : Thread Cert.AdamAdaIdeal.nD Cert.AdamAdaIdeal.τ).loc Cert.AdamAdaIdeal.main_arg1)
      ∧ m' ((c.tc : Thread Cert.AdamAdaRefIdeal.nD Cert.AdamAdaRefIdeal.τ).loc Cert.AdamAdaRefIdeal.main_arg2) = m ((c.tc : Thread Cert.AdamAdaIdeal.nD Cert.AdamAdaIdeal.τ).loc Cert.AdamAdaIdeal.main_arg2)
      ∧ m' ((c.tc : Thread Cert.AdamAdaRefIdeal.nD Cert.AdamAdaRefIdeal.τ).loc Cert.AdamAdaRefIdeal.main_arg3) = m ((c.tc : Thread Cert.AdamAdaIdeal.nD Cert.AdamAdaIdeal.τ).loc Cert.AdamAdaIdeal.main_arg3)) →
    ∃ (v0 : (c : Dev Cert.AdamAdaIdeal.nD) → Buf (Elt Ideal) ((c.tc : Thread Cert.AdamAdaIdeal.nD Cert.AdamAdaIdeal.τ).loc Cert.AdamAdaIdeal.main_v0_0)) (v1 : (c : Dev Cert.AdamAdaIdeal.nD) → Buf (Elt Ideal) ((c.tc : Thread Cert.AdamAdaIdeal.nD Cert.AdamAdaIdeal.τ).loc Cert.AdamAdaIdeal.main_v0_1)) (v2 : (c : Dev Cert.AdamAdaIdeal.nD) → Buf (Elt Ideal) ((c.tc : Thread Cert.AdamAdaIdeal.nD Cert.AdamAdaIdeal.τ).loc Cert.AdamAdaIdeal.main_v0_2)),
      θ_run (Cert.AdamAdaIdeal.defs (F := Ideal)) (onTc (τ := Cert.AdamAdaIdeal.τ) (Cert.AdamAdaIdeal.main (F := Ideal))) ⟨m, fun _ => 0, g⟩ (fun r => ∀ c : Dev Cert.AdamAdaIdeal.nD,
          r.2.mem ((c.tc : Thread Cert.AdamAdaIdeal.nD Cert.AdamAdaIdeal.τ).loc Cert.AdamAdaIdeal.main_v0_0) = v0 c
          ∧ r.2.mem ((c.tc : Thread Cert.AdamAdaIdeal.nD Cert.AdamAdaIdeal.τ).loc Cert.AdamAdaIdeal.main_v0_1) = v1 c
          ∧ r.2.mem ((c.tc : Thread Cert.AdamAdaIdeal.nD Cert.AdamAdaIdeal.τ).loc Cert.AdamAdaIdeal.main_v0_2) = v2 c
          ∧ r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
          ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
          ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
          ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ θ_run (Cert.AdamAdaRefIdeal.defs (F := Ideal)) (onTc (τ := Cert.AdamAdaRefIdeal.τ) (Cert.AdamAdaRefIdeal.main (F := Ideal))) ⟨m', fun _ => 0, g'⟩ (fun r => ∀ c : Dev Cert.AdamAdaRefIdeal.nD,
          r.2.mem ((c.tc : Thread Cert.AdamAdaRefIdeal.nD Cert.AdamAdaRefIdeal.τ).loc Cert.AdamAdaRefIdeal.main_v23) = v0 c
          ∧ r.2.mem ((c.tc : Thread Cert.AdamAdaRefIdeal.nD Cert.AdamAdaRefIdeal.τ).loc Cert.AdamAdaRefIdeal.main_v4) = v1 c
          ∧ r.2.mem ((c.tc : Thread Cert.AdamAdaRefIdeal.nD Cert.AdamAdaRefIdeal.τ).loc Cert.AdamAdaRefIdeal.main_v10) = v2 c
          ∧ r.2.mem ((c.tc : Thread Cert.AdamAdaRefIdeal.nD Cert.AdamAdaRefIdeal.τ).loc Cert.AdamAdaRefIdeal.main_arg0) = m' ((c.tc : Thread Cert.AdamAdaRefIdeal.nD Cert.AdamAdaRefIdeal.τ).loc Cert.AdamAdaRefIdeal.main_arg0)
          ∧ r.2.mem ((c.tc : Thread Cert.AdamAdaRefIdeal.nD Cert.AdamAdaRefIdeal.τ).loc Cert.AdamAdaRefIdeal.main_arg1) = m' ((c.tc : Thread Cert.AdamAdaRefIdeal.nD Cert.AdamAdaRefIdeal.τ).loc Cert.AdamAdaRefIdeal.main_arg1)
          ∧ r.2.mem ((c.tc : Thread Cert.AdamAdaRefIdeal.nD Cert.AdamAdaRefIdeal.τ).loc Cert.AdamAdaRefIdeal.main_arg2) = m' ((c.tc : Thread Cert.AdamAdaRefIdeal.nD Cert.AdamAdaRefIdeal.τ).loc Cert.AdamAdaRefIdeal.main_arg2)
          ∧ r.2.mem ((c.tc : Thread Cert.AdamAdaRefIdeal.nD Cert.AdamAdaRefIdeal.τ).loc Cert.AdamAdaRefIdeal.main_arg3) = m' ((c.tc : Thread Cert.AdamAdaRefIdeal.nD Cert.AdamAdaRefIdeal.τ).loc Cert.AdamAdaRefIdeal.main_arg3))

def preserves_AdamCtx_AdamCtxIdeal : Prop :=
  True

def algebraic_AdamCtxIdeal_AdamCtxRefIdeal [hAdamCtxIdeal : Cert.AdamCtxIdeal.Facts] [hAdamCtxRefIdeal : Cert.AdamCtxRefIdeal.Facts] : Prop :=
  ∀ (m : (ℓ : Loc Cert.AdamCtxIdeal.nD Cert.AdamCtxIdeal.τ Cert.AdamCtxIdeal.sig) → Buf (Elt Ideal) ℓ) (g : Dev Cert.AdamCtxIdeal.nD → PrngReg)
    (m' : (ℓ : Loc Cert.AdamCtxRefIdeal.nD Cert.AdamCtxRefIdeal.τ Cert.AdamCtxRefIdeal.sig) → Buf (Elt Ideal) ℓ) (g' : Dev Cert.AdamCtxRefIdeal.nD → PrngReg), Pre_AdamCtxIdeal m →
    (∀ c : Dev Cert.AdamCtxIdeal.nD,
      m' ((c.tc : Thread Cert.AdamCtxRefIdeal.nD Cert.AdamCtxRefIdeal.τ).loc Cert.AdamCtxRefIdeal.main_arg0) = m ((c.tc : Thread Cert.AdamCtxIdeal.nD Cert.AdamCtxIdeal.τ).loc Cert.AdamCtxIdeal.main_arg0)
      ∧ m' ((c.tc : Thread Cert.AdamCtxRefIdeal.nD Cert.AdamCtxRefIdeal.τ).loc Cert.AdamCtxRefIdeal.main_arg1) = m ((c.tc : Thread Cert.AdamCtxIdeal.nD Cert.AdamCtxIdeal.τ).loc Cert.AdamCtxIdeal.main_arg1)
      ∧ m' ((c.tc : Thread Cert.AdamCtxRefIdeal.nD Cert.AdamCtxRefIdeal.τ).loc Cert.AdamCtxRefIdeal.main_arg2) = m ((c.tc : Thread Cert.AdamCtxIdeal.nD Cert.AdamCtxIdeal.τ).loc Cert.AdamCtxIdeal.main_arg2)
      ∧ m' ((c.tc : Thread Cert.AdamCtxRefIdeal.nD Cert.AdamCtxRefIdeal.τ).loc Cert.AdamCtxRefIdeal.main_arg3) = m ((c.tc : Thread Cert.AdamCtxIdeal.nD Cert.AdamCtxIdeal.τ).loc Cert.AdamCtxIdeal.main_arg3)) →
    ∃ (v0 : (c : Dev Cert.AdamCtxIdeal.nD) → Buf (Elt Ideal) ((c.tc : Thread Cert.AdamCtxIdeal.nD Cert.AdamCtxIdeal.τ).loc Cert.AdamCtxIdeal.main_v0_0)) (v1 : (c : Dev Cert.AdamCtxIdeal.nD) → Buf (Elt Ideal) ((c.tc : Thread Cert.AdamCtxIdeal.nD Cert.AdamCtxIdeal.τ).loc Cert.AdamCtxIdeal.main_v0_1)) (v2 : (c : Dev Cert.AdamCtxIdeal.nD) → Buf (Elt Ideal) ((c.tc : Thread Cert.AdamCtxIdeal.nD Cert.AdamCtxIdeal.τ).loc Cert.AdamCtxIdeal.main_v0_2)),
      θ_run (Cert.AdamCtxIdeal.defs (F := Ideal)) (onTc (τ := Cert.AdamCtxIdeal.τ) (Cert.AdamCtxIdeal.main (F := Ideal))) ⟨m, fun _ => 0, g⟩ (fun r => ∀ c : Dev Cert.AdamCtxIdeal.nD,
          r.2.mem ((c.tc : Thread Cert.AdamCtxIdeal.nD Cert.AdamCtxIdeal.τ).loc Cert.AdamCtxIdeal.main_v0_0) = v0 c
          ∧ r.2.mem ((c.tc : Thread Cert.AdamCtxIdeal.nD Cert.AdamCtxIdeal.τ).loc Cert.AdamCtxIdeal.main_v0_1) = v1 c
          ∧ r.2.mem ((c.tc : Thread Cert.AdamCtxIdeal.nD Cert.AdamCtxIdeal.τ).loc Cert.AdamCtxIdeal.main_v0_2) = v2 c
          ∧ r.2.mem ((c.tc : Thread Cert.AdamCtxIdeal.nD Cert.AdamCtxIdeal.τ).loc Cert.AdamCtxIdeal.main_arg0) = m ((c.tc : Thread Cert.AdamCtxIdeal.nD Cert.AdamCtxIdeal.τ).loc Cert.AdamCtxIdeal.main_arg0)
          ∧ r.2.mem ((c.tc : Thread Cert.AdamCtxIdeal.nD Cert.AdamCtxIdeal.τ).loc Cert.AdamCtxIdeal.main_arg1) = m ((c.tc : Thread Cert.AdamCtxIdeal.nD Cert.AdamCtxIdeal.τ).loc Cert.AdamCtxIdeal.main_arg1)
          ∧ r.2.mem ((c.tc : Thread Cert.AdamCtxIdeal.nD Cert.AdamCtxIdeal.τ).loc Cert.AdamCtxIdeal.main_arg2) = m ((c.tc : Thread Cert.AdamCtxIdeal.nD Cert.AdamCtxIdeal.τ).loc Cert.AdamCtxIdeal.main_arg2)
          ∧ r.2.mem ((c.tc : Thread Cert.AdamCtxIdeal.nD Cert.AdamCtxIdeal.τ).loc Cert.AdamCtxIdeal.main_arg3) = m ((c.tc : Thread Cert.AdamCtxIdeal.nD Cert.AdamCtxIdeal.τ).loc Cert.AdamCtxIdeal.main_arg3))
      ∧ θ_run (Cert.AdamCtxRefIdeal.defs (F := Ideal)) (onTc (τ := Cert.AdamCtxRefIdeal.τ) (Cert.AdamCtxRefIdeal.main (F := Ideal))) ⟨m', fun _ => 0, g'⟩ (fun r => ∀ c : Dev Cert.AdamCtxRefIdeal.nD,
          r.2.mem ((c.tc : Thread Cert.AdamCtxRefIdeal.nD Cert.AdamCtxRefIdeal.τ).loc Cert.AdamCtxRefIdeal.main_v23) = v0 c
          ∧ r.2.mem ((c.tc : Thread Cert.AdamCtxRefIdeal.nD Cert.AdamCtxRefIdeal.τ).loc Cert.AdamCtxRefIdeal.main_v4) = v1 c
          ∧ r.2.mem ((c.tc : Thread Cert.AdamCtxRefIdeal.nD Cert.AdamCtxRefIdeal.τ).loc Cert.AdamCtxRefIdeal.main_v10) = v2 c
          ∧ r.2.mem ((c.tc : Thread Cert.AdamCtxRefIdeal.nD Cert.AdamCtxRefIdeal.τ).loc Cert.AdamCtxRefIdeal.main_arg0) = m' ((c.tc : Thread Cert.AdamCtxRefIdeal.nD Cert.AdamCtxRefIdeal.τ).loc Cert.AdamCtxRefIdeal.main_arg0)
          ∧ r.2.mem ((c.tc : Thread Cert.AdamCtxRefIdeal.nD Cert.AdamCtxRefIdeal.τ).loc Cert.AdamCtxRefIdeal.main_arg1) = m' ((c.tc : Thread Cert.AdamCtxRefIdeal.nD Cert.AdamCtxRefIdeal.τ).loc Cert.AdamCtxRefIdeal.main_arg1)
          ∧ r.2.mem ((c.tc : Thread Cert.AdamCtxRefIdeal.nD Cert.AdamCtxRefIdeal.τ).loc Cert.AdamCtxRefIdeal.main_arg2) = m' ((c.tc : Thread Cert.AdamCtxRefIdeal.nD Cert.AdamCtxRefIdeal.τ).loc Cert.AdamCtxRefIdeal.main_arg2)
          ∧ r.2.mem ((c.tc : Thread Cert.AdamCtxRefIdeal.nD Cert.AdamCtxRefIdeal.τ).loc Cert.AdamCtxRefIdeal.main_arg3) = m' ((c.tc : Thread Cert.AdamCtxRefIdeal.nD Cert.AdamCtxRefIdeal.τ).loc Cert.AdamCtxRefIdeal.main_arg3))

def preserves_AdamAdaB_AdamAdaBIdeal : Prop :=
  True

def algebraic_AdamAdaBIdeal_AdamAdaBRefIdeal [hAdamAdaBIdeal : Cert.AdamAdaBIdeal.Facts] [hAdamAdaBRefIdeal : Cert.AdamAdaBRefIdeal.Facts] : Prop :=
  ∀ (m : (ℓ : Loc Cert.AdamAdaBIdeal.nD Cert.AdamAdaBIdeal.τ Cert.AdamAdaBIdeal.sig) → Buf (Elt Ideal) ℓ) (g : Dev Cert.AdamAdaBIdeal.nD → PrngReg)
    (m' : (ℓ : Loc Cert.AdamAdaBRefIdeal.nD Cert.AdamAdaBRefIdeal.τ Cert.AdamAdaBRefIdeal.sig) → Buf (Elt Ideal) ℓ) (g' : Dev Cert.AdamAdaBRefIdeal.nD → PrngReg), Pre_AdamAdaBIdeal m →
    (∀ c : Dev Cert.AdamAdaBIdeal.nD,
      m' ((c.tc : Thread Cert.AdamAdaBRefIdeal.nD Cert.AdamAdaBRefIdeal.τ).loc Cert.AdamAdaBRefIdeal.main_arg0) = m ((c.tc : Thread Cert.AdamAdaBIdeal.nD Cert.AdamAdaBIdeal.τ).loc Cert.AdamAdaBIdeal.main_arg0)
      ∧ m' ((c.tc : Thread Cert.AdamAdaBRefIdeal.nD Cert.AdamAdaBRefIdeal.τ).loc Cert.AdamAdaBRefIdeal.main_arg1) = m ((c.tc : Thread Cert.AdamAdaBIdeal.nD Cert.AdamAdaBIdeal.τ).loc Cert.AdamAdaBIdeal.main_arg1)
      ∧ m' ((c.tc : Thread Cert.AdamAdaBRefIdeal.nD Cert.AdamAdaBRefIdeal.τ).loc Cert.AdamAdaBRefIdeal.main_arg2) = m ((c.tc : Thread Cert.AdamAdaBIdeal.nD Cert.AdamAdaBIdeal.τ).loc Cert.AdamAdaBIdeal.main_arg2)
      ∧ m' ((c.tc : Thread Cert.AdamAdaBRefIdeal.nD Cert.AdamAdaBRefIdeal.τ).loc Cert.AdamAdaBRefIdeal.main_arg3) = m ((c.tc : Thread Cert.AdamAdaBIdeal.nD Cert.AdamAdaBIdeal.τ).loc Cert.AdamAdaBIdeal.main_arg3)) →
    ∃ (v0 : (c : Dev Cert.AdamAdaBIdeal.nD) → Buf (Elt Ideal) ((c.tc : Thread Cert.AdamAdaBIdeal.nD Cert.AdamAdaBIdeal.τ).loc Cert.AdamAdaBIdeal.main_v0_0)) (v1 : (c : Dev Cert.AdamAdaBIdeal.nD) → Buf (Elt Ideal) ((c.tc : Thread Cert.AdamAdaBIdeal.nD Cert.AdamAdaBIdeal.τ).loc Cert.AdamAdaBIdeal.main_v0_1)) (v2 : (c : Dev Cert.AdamAdaBIdeal.nD) → Buf (Elt Ideal) ((c.tc : Thread Cert.AdamAdaBIdeal.nD Cert.AdamAdaBIdeal.τ).loc Cert.AdamAdaBIdeal.main_v0_2)),
      θ_run (Cert.AdamAdaBIdeal.defs (F := Ideal)) (onTc (τ := Cert.AdamAdaBIdeal.τ) (Cert.AdamAdaBIdeal.main (F := Ideal))) ⟨m, fun _ => 0, g⟩ (fun r => ∀ c : Dev Cert.AdamAdaBIdeal.nD,
          r.2.mem ((c.tc : Thread Cert.AdamAdaBIdeal.nD Cert.AdamAdaBIdeal.τ).loc Cert.AdamAdaBIdeal.main_v0_0) = v0 c
          ∧ r.2.mem ((c.tc : Thread Cert.AdamAdaBIdeal.nD Cert.AdamAdaBIdeal.τ).loc Cert.AdamAdaBIdeal.main_v0_1) = v1 c
          ∧ r.2.mem ((c.tc : Thread Cert.AdamAdaBIdeal.nD Cert.AdamAdaBIdeal.τ).loc Cert.AdamAdaBIdeal.main_v0_2) = v2 c
          ∧ r.2.mem ((c.tc : Thread Cert.AdamAdaBIdeal.nD Cert.AdamAdaBIdeal.τ).loc Cert.AdamAdaBIdeal.main_arg0) = m ((c.tc : Thread Cert.AdamAdaBIdeal.nD Cert.AdamAdaBIdeal.τ).loc Cert.AdamAdaBIdeal.main_arg0)
          ∧ r.2.mem ((c.tc : Thread Cert.AdamAdaBIdeal.nD Cert.AdamAdaBIdeal.τ).loc Cert.AdamAdaBIdeal.main_arg1) = m ((c.tc : Thread Cert.AdamAdaBIdeal.nD Cert.AdamAdaBIdeal.τ).loc Cert.AdamAdaBIdeal.main_arg1)
          ∧ r.2.mem ((c.tc : Thread Cert.AdamAdaBIdeal.nD Cert.AdamAdaBIdeal.τ).loc Cert.AdamAdaBIdeal.main_arg2) = m ((c.tc : Thread Cert.AdamAdaBIdeal.nD Cert.AdamAdaBIdeal.τ).loc Cert.AdamAdaBIdeal.main_arg2)
          ∧ r.2.mem ((c.tc : Thread Cert.AdamAdaBIdeal.nD Cert.AdamAdaBIdeal.τ).loc Cert.AdamAdaBIdeal.main_arg3) = m ((c.tc : Thread Cert.AdamAdaBIdeal.nD Cert.AdamAdaBIdeal.τ).loc Cert.AdamAdaBIdeal.main_arg3))
      ∧ θ_run (Cert.AdamAdaBRefIdeal.defs (F := Ideal)) (onTc (τ := Cert.AdamAdaBRefIdeal.τ) (Cert.AdamAdaBRefIdeal.main (F := Ideal))) ⟨m', fun _ => 0, g'⟩ (fun r => ∀ c : Dev Cert.AdamAdaBRefIdeal.nD,
          r.2.mem ((c.tc : Thread Cert.AdamAdaBRefIdeal.nD Cert.AdamAdaBRefIdeal.τ).loc Cert.AdamAdaBRefIdeal.main_v23) = v0 c
          ∧ r.2.mem ((c.tc : Thread Cert.AdamAdaBRefIdeal.nD Cert.AdamAdaBRefIdeal.τ).loc Cert.AdamAdaBRefIdeal.main_v4) = v1 c
          ∧ r.2.mem ((c.tc : Thread Cert.AdamAdaBRefIdeal.nD Cert.AdamAdaBRefIdeal.τ).loc Cert.AdamAdaBRefIdeal.main_v10) = v2 c
          ∧ r.2.mem ((c.tc : Thread Cert.AdamAdaBRefIdeal.nD Cert.AdamAdaBRefIdeal.τ).loc Cert.AdamAdaBRefIdeal.main_arg0) = m' ((c.tc : Thread Cert.AdamAdaBRefIdeal.nD Cert.AdamAdaBRefIdeal.τ).loc Cert.AdamAdaBRefIdeal.main_arg0)
          ∧ r.2.mem ((c.tc : Thread Cert.AdamAdaBRefIdeal.nD Cert.AdamAdaBRefIdeal.τ).loc Cert.AdamAdaBRefIdeal.main_arg1) = m' ((c.tc : Thread Cert.AdamAdaBRefIdeal.nD Cert.AdamAdaBRefIdeal.τ).loc Cert.AdamAdaBRefIdeal.main_arg1)
          ∧ r.2.mem ((c.tc : Thread Cert.AdamAdaBRefIdeal.nD Cert.AdamAdaBRefIdeal.τ).loc Cert.AdamAdaBRefIdeal.main_arg2) = m' ((c.tc : Thread Cert.AdamAdaBRefIdeal.nD Cert.AdamAdaBRefIdeal.τ).loc Cert.AdamAdaBRefIdeal.main_arg2)
          ∧ r.2.mem ((c.tc : Thread Cert.AdamAdaBRefIdeal.nD Cert.AdamAdaBRefIdeal.τ).loc Cert.AdamAdaBRefIdeal.main_arg3) = m' ((c.tc : Thread Cert.AdamAdaBRefIdeal.nD Cert.AdamAdaBRefIdeal.τ).loc Cert.AdamAdaBRefIdeal.main_arg3))

def preserves_AdamLn_AdamLnIdeal : Prop :=
  True

def algebraic_AdamLnIdeal_AdamLnRefIdeal [hAdamLnIdeal : Cert.AdamLnIdeal.Facts] [hAdamLnRefIdeal : Cert.AdamLnRefIdeal.Facts] : Prop :=
  ∀ (m : (ℓ : Loc Cert.AdamLnIdeal.nD Cert.AdamLnIdeal.τ Cert.AdamLnIdeal.sig) → Buf (Elt Ideal) ℓ) (g : Dev Cert.AdamLnIdeal.nD → PrngReg)
    (m' : (ℓ : Loc Cert.AdamLnRefIdeal.nD Cert.AdamLnRefIdeal.τ Cert.AdamLnRefIdeal.sig) → Buf (Elt Ideal) ℓ) (g' : Dev Cert.AdamLnRefIdeal.nD → PrngReg), Pre_AdamLnIdeal m →
    (∀ c : Dev Cert.AdamLnIdeal.nD,
      m' ((c.tc : Thread Cert.AdamLnRefIdeal.nD Cert.AdamLnRefIdeal.τ).loc Cert.AdamLnRefIdeal.main_arg0) = m ((c.tc : Thread Cert.AdamLnIdeal.nD Cert.AdamLnIdeal.τ).loc Cert.AdamLnIdeal.main_arg0)
      ∧ m' ((c.tc : Thread Cert.AdamLnRefIdeal.nD Cert.AdamLnRefIdeal.τ).loc Cert.AdamLnRefIdeal.main_arg1) = m ((c.tc : Thread Cert.AdamLnIdeal.nD Cert.AdamLnIdeal.τ).loc Cert.AdamLnIdeal.main_arg1)
      ∧ m' ((c.tc : Thread Cert.AdamLnRefIdeal.nD Cert.AdamLnRefIdeal.τ).loc Cert.AdamLnRefIdeal.main_arg2) = m ((c.tc : Thread Cert.AdamLnIdeal.nD Cert.AdamLnIdeal.τ).loc Cert.AdamLnIdeal.main_arg2)
      ∧ m' ((c.tc : Thread Cert.AdamLnRefIdeal.nD Cert.AdamLnRefIdeal.τ).loc Cert.AdamLnRefIdeal.main_arg3) = m ((c.tc : Thread Cert.AdamLnIdeal.nD Cert.AdamLnIdeal.τ).loc Cert.AdamLnIdeal.main_arg3)) →
    ∃ (v0 : (c : Dev Cert.AdamLnIdeal.nD) → Buf (Elt Ideal) ((c.tc : Thread Cert.AdamLnIdeal.nD Cert.AdamLnIdeal.τ).loc Cert.AdamLnIdeal.main_v0_0)) (v1 : (c : Dev Cert.AdamLnIdeal.nD) → Buf (Elt Ideal) ((c.tc : Thread Cert.AdamLnIdeal.nD Cert.AdamLnIdeal.τ).loc Cert.AdamLnIdeal.main_v0_1)) (v2 : (c : Dev Cert.AdamLnIdeal.nD) → Buf (Elt Ideal) ((c.tc : Thread Cert.AdamLnIdeal.nD Cert.AdamLnIdeal.τ).loc Cert.AdamLnIdeal.main_v0_2)),
      θ_run (Cert.AdamLnIdeal.defs (F := Ideal)) (onTc (τ := Cert.AdamLnIdeal.τ) (Cert.AdamLnIdeal.main (F := Ideal))) ⟨m, fun _ => 0, g⟩ (fun r => ∀ c : Dev Cert.AdamLnIdeal.nD,
          r.2.mem ((c.tc : Thread Cert.AdamLnIdeal.nD Cert.AdamLnIdeal.τ).loc Cert.AdamLnIdeal.main_v0_0) = v0 c
          ∧ r.2.mem ((c.tc : Thread Cert.AdamLnIdeal.nD Cert.AdamLnIdeal.τ).loc Cert.AdamLnIdeal.main_v0_1) = v1 c
          ∧ r.2.mem ((c.tc : Thread Cert.AdamLnIdeal.nD Cert.AdamLnIdeal.τ).loc Cert.AdamLnIdeal.main_v0_2) = v2 c
          ∧ r.2.mem ((c.tc : Thread Cert.AdamLnIdeal.nD Cert.AdamLnIdeal.τ).loc Cert.AdamLnIdeal.main_arg0) = m ((c.tc : Thread Cert.AdamLnIdeal.nD Cert.AdamLnIdeal.τ).loc Cert.AdamLnIdeal.main_arg0)
          ∧ r.2.mem ((c.tc : Thread Cert.AdamLnIdeal.nD Cert.AdamLnIdeal.τ).loc Cert.AdamLnIdeal.main_arg1) = m ((c.tc : Thread Cert.AdamLnIdeal.nD Cert.AdamLnIdeal.τ).loc Cert.AdamLnIdeal.main_arg1)
          ∧ r.2.mem ((c.tc : Thread Cert.AdamLnIdeal.nD Cert.AdamLnIdeal.τ).loc Cert.AdamLnIdeal.main_arg2) = m ((c.tc : Thread Cert.AdamLnIdeal.nD Cert.AdamLnIdeal.τ).loc Cert.AdamLnIdeal.main_arg2)
          ∧ r.2.mem ((c.tc : Thread Cert.AdamLnIdeal.nD Cert.AdamLnIdeal.τ).loc Cert.AdamLnIdeal.main_arg3) = m ((c.tc : Thread Cert.AdamLnIdeal.nD Cert.AdamLnIdeal.τ).loc Cert.AdamLnIdeal.main_arg3))
      ∧ θ_run (Cert.AdamLnRefIdeal.defs (F := Ideal)) (onTc (τ := Cert.AdamLnRefIdeal.τ) (Cert.AdamLnRefIdeal.main (F := Ideal))) ⟨m', fun _ => 0, g'⟩ (fun r => ∀ c : Dev Cert.AdamLnRefIdeal.nD,
          r.2.mem ((c.tc : Thread Cert.AdamLnRefIdeal.nD Cert.AdamLnRefIdeal.τ).loc Cert.AdamLnRefIdeal.main_v23) = v0 c
          ∧ r.2.mem ((c.tc : Thread Cert.AdamLnRefIdeal.nD Cert.AdamLnRefIdeal.τ).loc Cert.AdamLnRefIdeal.main_v4) = v1 c
          ∧ r.2.mem ((c.tc : Thread Cert.AdamLnRefIdeal.nD Cert.AdamLnRefIdeal.τ).loc Cert.AdamLnRefIdeal.main_v10) = v2 c
          ∧ r.2.mem ((c.tc : Thread Cert.AdamLnRefIdeal.nD Cert.AdamLnRefIdeal.τ).loc Cert.AdamLnRefIdeal.main_arg0) = m' ((c.tc : Thread Cert.AdamLnRefIdeal.nD Cert.AdamLnRefIdeal.τ).loc Cert.AdamLnRefIdeal.main_arg0)
          ∧ r.2.mem ((c.tc : Thread Cert.AdamLnRefIdeal.nD Cert.AdamLnRefIdeal.τ).loc Cert.AdamLnRefIdeal.main_arg1) = m' ((c.tc : Thread Cert.AdamLnRefIdeal.nD Cert.AdamLnRefIdeal.τ).loc Cert.AdamLnRefIdeal.main_arg1)
          ∧ r.2.mem ((c.tc : Thread Cert.AdamLnRefIdeal.nD Cert.AdamLnRefIdeal.τ).loc Cert.AdamLnRefIdeal.main_arg2) = m' ((c.tc : Thread Cert.AdamLnRefIdeal.nD Cert.AdamLnRefIdeal.τ).loc Cert.AdamLnRefIdeal.main_arg2)
          ∧ r.2.mem ((c.tc : Thread Cert.AdamLnRefIdeal.nD Cert.AdamLnRefIdeal.τ).loc Cert.AdamLnRefIdeal.main_arg3) = m' ((c.tc : Thread Cert.AdamLnRefIdeal.nD Cert.AdamLnRefIdeal.τ).loc Cert.AdamLnRefIdeal.main_arg3))

def preserves_AdamTaps_AdamTapsIdeal : Prop :=
  True

def algebraic_AdamTapsIdeal_AdamTapsRefIdeal [hAdamTapsIdeal : Cert.AdamTapsIdeal.Facts] [hAdamTapsRefIdeal : Cert.AdamTapsRefIdeal.Facts] : Prop :=
  ∀ (m : (ℓ : Loc Cert.AdamTapsIdeal.nD Cert.AdamTapsIdeal.τ Cert.AdamTapsIdeal.sig) → Buf (Elt Ideal) ℓ) (g : Dev Cert.AdamTapsIdeal.nD → PrngReg)
    (m' : (ℓ : Loc Cert.AdamTapsRefIdeal.nD Cert.AdamTapsRefIdeal.τ Cert.AdamTapsRefIdeal.sig) → Buf (Elt Ideal) ℓ) (g' : Dev Cert.AdamTapsRefIdeal.nD → PrngReg), Pre_AdamTapsIdeal m →
    (∀ c : Dev Cert.AdamTapsIdeal.nD,
      m' ((c.tc : Thread Cert.AdamTapsRefIdeal.nD Cert.AdamTapsRefIdeal.τ).loc Cert.AdamTapsRefIdeal.main_arg0) = m ((c.tc : Thread Cert.AdamTapsIdeal.nD Cert.AdamTapsIdeal.τ).loc Cert.AdamTapsIdeal.main_arg0)
      ∧ m' ((c.tc : Thread Cert.AdamTapsRefIdeal.nD Cert.AdamTapsRefIdeal.τ).loc Cert.AdamTapsRefIdeal.main_arg1) = m ((c.tc : Thread Cert.AdamTapsIdeal.nD Cert.AdamTapsIdeal.τ).loc Cert.AdamTapsIdeal.main_arg1)
      ∧ m' ((c.tc : Thread Cert.AdamTapsRefIdeal.nD Cert.AdamTapsRefIdeal.τ).loc Cert.AdamTapsRefIdeal.main_arg2) = m ((c.tc : Thread Cert.AdamTapsIdeal.nD Cert.AdamTapsIdeal.τ).loc Cert.AdamTapsIdeal.main_arg2)
      ∧ m' ((c.tc : Thread Cert.AdamTapsRefIdeal.nD Cert.AdamTapsRefIdeal.τ).loc Cert.AdamTapsRefIdeal.main_arg3) = m ((c.tc : Thread Cert.AdamTapsIdeal.nD Cert.AdamTapsIdeal.τ).loc Cert.AdamTapsIdeal.main_arg3)) →
    ∃ (v0 : (c : Dev Cert.AdamTapsIdeal.nD) → Buf (Elt Ideal) ((c.tc : Thread Cert.AdamTapsIdeal.nD Cert.AdamTapsIdeal.τ).loc Cert.AdamTapsIdeal.main_v0_0)) (v1 : (c : Dev Cert.AdamTapsIdeal.nD) → Buf (Elt Ideal) ((c.tc : Thread Cert.AdamTapsIdeal.nD Cert.AdamTapsIdeal.τ).loc Cert.AdamTapsIdeal.main_v0_1)) (v2 : (c : Dev Cert.AdamTapsIdeal.nD) → Buf (Elt Ideal) ((c.tc : Thread Cert.AdamTapsIdeal.nD Cert.AdamTapsIdeal.τ).loc Cert.AdamTapsIdeal.main_v0_2)),
      θ_run (Cert.AdamTapsIdeal.defs (F := Ideal)) (onTc (τ := Cert.AdamTapsIdeal.τ) (Cert.AdamTapsIdeal.main (F := Ideal))) ⟨m, fun _ => 0, g⟩ (fun r => ∀ c : Dev Cert.AdamTapsIdeal.nD,
          r.2.mem ((c.tc : Thread Cert.AdamTapsIdeal.nD Cert.AdamTapsIdeal.τ).loc Cert.AdamTapsIdeal.main_v0_0) = v0 c
          ∧ r.2.mem ((c.tc : Thread Cert.AdamTapsIdeal.nD Cert.AdamTapsIdeal.τ).loc Cert.AdamTapsIdeal.main_v0_1) = v1 c
          ∧ r.2.mem ((c.tc : Thread Cert.AdamTapsIdeal.nD Cert.AdamTapsIdeal.τ).loc Cert.AdamTapsIdeal.main_v0_2) = v2 c
          ∧ r.2.mem ((c.tc : Thread Cert.AdamTapsIdeal.nD Cert.AdamTapsIdeal.τ).loc Cert.AdamTapsIdeal.main_arg0) = m ((c.tc : Thread Cert.AdamTapsIdeal.nD Cert.AdamTapsIdeal.τ).loc Cert.AdamTapsIdeal.main_arg0)
          ∧ r.2.mem ((c.tc : Thread Cert.AdamTapsIdeal.nD Cert.AdamTapsIdeal.τ).loc Cert.AdamTapsIdeal.main_arg1) = m ((c.tc : Thread Cert.AdamTapsIdeal.nD Cert.AdamTapsIdeal.τ).loc Cert.AdamTapsIdeal.main_arg1)
          ∧ r.2.mem ((c.tc : Thread Cert.AdamTapsIdeal.nD Cert.AdamTapsIdeal.τ).loc Cert.AdamTapsIdeal.main_arg2) = m ((c.tc : Thread Cert.AdamTapsIdeal.nD Cert.AdamTapsIdeal.τ).loc Cert.AdamTapsIdeal.main_arg2)
          ∧ r.2.mem ((c.tc : Thread Cert.AdamTapsIdeal.nD Cert.AdamTapsIdeal.τ).loc Cert.AdamTapsIdeal.main_arg3) = m ((c.tc : Thread Cert.AdamTapsIdeal.nD Cert.AdamTapsIdeal.τ).loc Cert.AdamTapsIdeal.main_arg3))
      ∧ θ_run (Cert.AdamTapsRefIdeal.defs (F := Ideal)) (onTc (τ := Cert.AdamTapsRefIdeal.τ) (Cert.AdamTapsRefIdeal.main (F := Ideal))) ⟨m', fun _ => 0, g'⟩ (fun r => ∀ c : Dev Cert.AdamTapsRefIdeal.nD,
          r.2.mem ((c.tc : Thread Cert.AdamTapsRefIdeal.nD Cert.AdamTapsRefIdeal.τ).loc Cert.AdamTapsRefIdeal.main_v23) = v0 c
          ∧ r.2.mem ((c.tc : Thread Cert.AdamTapsRefIdeal.nD Cert.AdamTapsRefIdeal.τ).loc Cert.AdamTapsRefIdeal.main_v4) = v1 c
          ∧ r.2.mem ((c.tc : Thread Cert.AdamTapsRefIdeal.nD Cert.AdamTapsRefIdeal.τ).loc Cert.AdamTapsRefIdeal.main_v10) = v2 c
          ∧ r.2.mem ((c.tc : Thread Cert.AdamTapsRefIdeal.nD Cert.AdamTapsRefIdeal.τ).loc Cert.AdamTapsRefIdeal.main_arg0) = m' ((c.tc : Thread Cert.AdamTapsRefIdeal.nD Cert.AdamTapsRefIdeal.τ).loc Cert.AdamTapsRefIdeal.main_arg0)
          ∧ r.2.mem ((c.tc : Thread Cert.AdamTapsRefIdeal.nD Cert.AdamTapsRefIdeal.τ).loc Cert.AdamTapsRefIdeal.main_arg1) = m' ((c.tc : Thread Cert.AdamTapsRefIdeal.nD Cert.AdamTapsRefIdeal.τ).loc Cert.AdamTapsRefIdeal.main_arg1)
          ∧ r.2.mem ((c.tc : Thread Cert.AdamTapsRefIdeal.nD Cert.AdamTapsRefIdeal.τ).loc Cert.AdamTapsRefIdeal.main_arg2) = m' ((c.tc : Thread Cert.AdamTapsRefIdeal.nD Cert.AdamTapsRefIdeal.τ).loc Cert.AdamTapsRefIdeal.main_arg2)
          ∧ r.2.mem ((c.tc : Thread Cert.AdamTapsRefIdeal.nD Cert.AdamTapsRefIdeal.τ).loc Cert.AdamTapsRefIdeal.main_arg3) = m' ((c.tc : Thread Cert.AdamTapsRefIdeal.nD Cert.AdamTapsRefIdeal.τ).loc Cert.AdamTapsRefIdeal.main_arg3))

def preserves_AdamLam_AdamLamIdeal : Prop :=
  True

def algebraic_AdamLamIdeal_AdamLamRefIdeal [hAdamLamIdeal : Cert.AdamLamIdeal.Facts] [hAdamLamRefIdeal : Cert.AdamLamRefIdeal.Facts] : Prop :=
  ∀ (m : (ℓ : Loc Cert.AdamLamIdeal.nD Cert.AdamLamIdeal.τ Cert.AdamLamIdeal.sig) → Buf (Elt Ideal) ℓ) (g : Dev Cert.AdamLamIdeal.nD → PrngReg)
    (m' : (ℓ : Loc Cert.AdamLamRefIdeal.nD Cert.AdamLamRefIdeal.τ Cert.AdamLamRefIdeal.sig) → Buf (Elt Ideal) ℓ) (g' : Dev Cert.AdamLamRefIdeal.nD → PrngReg), Pre_AdamLamIdeal m →
    (∀ c : Dev Cert.AdamLamIdeal.nD,
      m' ((c.tc : Thread Cert.AdamLamRefIdeal.nD Cert.AdamLamRefIdeal.τ).loc Cert.AdamLamRefIdeal.main_arg0) = m ((c.tc : Thread Cert.AdamLamIdeal.nD Cert.AdamLamIdeal.τ).loc Cert.AdamLamIdeal.main_arg0)
      ∧ m' ((c.tc : Thread Cert.AdamLamRefIdeal.nD Cert.AdamLamRefIdeal.τ).loc Cert.AdamLamRefIdeal.main_arg1) = m ((c.tc : Thread Cert.AdamLamIdeal.nD Cert.AdamLamIdeal.τ).loc Cert.AdamLamIdeal.main_arg1)
      ∧ m' ((c.tc : Thread Cert.AdamLamRefIdeal.nD Cert.AdamLamRefIdeal.τ).loc Cert.AdamLamRefIdeal.main_arg2) = m ((c.tc : Thread Cert.AdamLamIdeal.nD Cert.AdamLamIdeal.τ).loc Cert.AdamLamIdeal.main_arg2)
      ∧ m' ((c.tc : Thread Cert.AdamLamRefIdeal.nD Cert.AdamLamRefIdeal.τ).loc Cert.AdamLamRefIdeal.main_arg3) = m ((c.tc : Thread Cert.AdamLamIdeal.nD Cert.AdamLamIdeal.τ).loc Cert.AdamLamIdeal.main_arg3)) →
    ∃ (v0 : (c : Dev Cert.AdamLamIdeal.nD) → Buf (Elt Ideal) ((c.tc : Thread Cert.AdamLamIdeal.nD Cert.AdamLamIdeal.τ).loc Cert.AdamLamIdeal.main_v0_0)) (v1 : (c : Dev Cert.AdamLamIdeal.nD) → Buf (Elt Ideal) ((c.tc : Thread Cert.AdamLamIdeal.nD Cert.AdamLamIdeal.τ).loc Cert.AdamLamIdeal.main_v0_1)) (v2 : (c : Dev Cert.AdamLamIdeal.nD) → Buf (Elt Ideal) ((c.tc : Thread Cert.AdamLamIdeal.nD Cert.AdamLamIdeal.τ).loc Cert.AdamLamIdeal.main_v0_2)),
      θ_run (Cert.AdamLamIdeal.defs (F := Ideal)) (onTc (τ := Cert.AdamLamIdeal.τ) (Cert.AdamLamIdeal.main (F := Ideal))) ⟨m, fun _ => 0, g⟩ (fun r => ∀ c : Dev Cert.AdamLamIdeal.nD,
          r.2.mem ((c.tc : Thread Cert.AdamLamIdeal.nD Cert.AdamLamIdeal.τ).loc Cert.AdamLamIdeal.main_v0_0) = v0 c
          ∧ r.2.mem ((c.tc : Thread Cert.AdamLamIdeal.nD Cert.AdamLamIdeal.τ).loc Cert.AdamLamIdeal.main_v0_1) = v1 c
          ∧ r.2.mem ((c.tc : Thread Cert.AdamLamIdeal.nD Cert.AdamLamIdeal.τ).loc Cert.AdamLamIdeal.main_v0_2) = v2 c
          ∧ r.2.mem ((c.tc : Thread Cert.AdamLamIdeal.nD Cert.AdamLamIdeal.τ).loc Cert.AdamLamIdeal.main_arg0) = m ((c.tc : Thread Cert.AdamLamIdeal.nD Cert.AdamLamIdeal.τ).loc Cert.AdamLamIdeal.main_arg0)
          ∧ r.2.mem ((c.tc : Thread Cert.AdamLamIdeal.nD Cert.AdamLamIdeal.τ).loc Cert.AdamLamIdeal.main_arg1) = m ((c.tc : Thread Cert.AdamLamIdeal.nD Cert.AdamLamIdeal.τ).loc Cert.AdamLamIdeal.main_arg1)
          ∧ r.2.mem ((c.tc : Thread Cert.AdamLamIdeal.nD Cert.AdamLamIdeal.τ).loc Cert.AdamLamIdeal.main_arg2) = m ((c.tc : Thread Cert.AdamLamIdeal.nD Cert.AdamLamIdeal.τ).loc Cert.AdamLamIdeal.main_arg2)
          ∧ r.2.mem ((c.tc : Thread Cert.AdamLamIdeal.nD Cert.AdamLamIdeal.τ).loc Cert.AdamLamIdeal.main_arg3) = m ((c.tc : Thread Cert.AdamLamIdeal.nD Cert.AdamLamIdeal.τ).loc Cert.AdamLamIdeal.main_arg3))
      ∧ θ_run (Cert.AdamLamRefIdeal.defs (F := Ideal)) (onTc (τ := Cert.AdamLamRefIdeal.τ) (Cert.AdamLamRefIdeal.main (F := Ideal))) ⟨m', fun _ => 0, g'⟩ (fun r => ∀ c : Dev Cert.AdamLamRefIdeal.nD,
          r.2.mem ((c.tc : Thread Cert.AdamLamRefIdeal.nD Cert.AdamLamRefIdeal.τ).loc Cert.AdamLamRefIdeal.main_v23) = v0 c
          ∧ r.2.mem ((c.tc : Thread Cert.AdamLamRefIdeal.nD Cert.AdamLamRefIdeal.τ).loc Cert.AdamLamRefIdeal.main_v4) = v1 c
          ∧ r.2.mem ((c.tc : Thread Cert.AdamLamRefIdeal.nD Cert.AdamLamRefIdeal.τ).loc Cert.AdamLamRefIdeal.main_v10) = v2 c
          ∧ r.2.mem ((c.tc : Thread Cert.AdamLamRefIdeal.nD Cert.AdamLamRefIdeal.τ).loc Cert.AdamLamRefIdeal.main_arg0) = m' ((c.tc : Thread Cert.AdamLamRefIdeal.nD Cert.AdamLamRefIdeal.τ).loc Cert.AdamLamRefIdeal.main_arg0)
          ∧ r.2.mem ((c.tc : Thread Cert.AdamLamRefIdeal.nD Cert.AdamLamRefIdeal.τ).loc Cert.AdamLamRefIdeal.main_arg1) = m' ((c.tc : Thread Cert.AdamLamRefIdeal.nD Cert.AdamLamRefIdeal.τ).loc Cert.AdamLamRefIdeal.main_arg1)
          ∧ r.2.mem ((c.tc : Thread Cert.AdamLamRefIdeal.nD Cert.AdamLamRefIdeal.τ).loc Cert.AdamLamRefIdeal.main_arg2) = m' ((c.tc : Thread Cert.AdamLamRefIdeal.nD Cert.AdamLamRefIdeal.τ).loc Cert.AdamLamRefIdeal.main_arg2)
          ∧ r.2.mem ((c.tc : Thread Cert.AdamLamRefIdeal.nD Cert.AdamLamRefIdeal.τ).loc Cert.AdamLamRefIdeal.main_arg3) = m' ((c.tc : Thread Cert.AdamLamRefIdeal.nD Cert.AdamLamRefIdeal.τ).loc Cert.AdamLamRefIdeal.main_arg3))

def preserves_AdamStep_AdamStepIdeal : Prop :=
  True

def algebraic_AdamStepIdeal_AdamStepRefIdeal [hAdamStepIdeal : Cert.AdamStepIdeal.Facts] [hAdamStepRefIdeal : Cert.AdamStepRefIdeal.Facts] : Prop :=
  ∀ (m : (ℓ : Loc Cert.AdamStepIdeal.nD Cert.AdamStepIdeal.τ Cert.AdamStepIdeal.sig) → Buf (Elt Ideal) ℓ) (g : Dev Cert.AdamStepIdeal.nD → PrngReg)
    (m' : (ℓ : Loc Cert.AdamStepRefIdeal.nD Cert.AdamStepRefIdeal.τ Cert.AdamStepRefIdeal.sig) → Buf (Elt Ideal) ℓ) (g' : Dev Cert.AdamStepRefIdeal.nD → PrngReg), Pre_AdamStepIdeal m →
    (∀ c : Dev Cert.AdamStepIdeal.nD,
      m' ((c.tc : Thread Cert.AdamStepRefIdeal.nD Cert.AdamStepRefIdeal.τ).loc Cert.AdamStepRefIdeal.main_arg0) = m ((c.tc : Thread Cert.AdamStepIdeal.nD Cert.AdamStepIdeal.τ).loc Cert.AdamStepIdeal.main_arg0)
      ∧ m' ((c.tc : Thread Cert.AdamStepRefIdeal.nD Cert.AdamStepRefIdeal.τ).loc Cert.AdamStepRefIdeal.main_arg1) = m ((c.tc : Thread Cert.AdamStepIdeal.nD Cert.AdamStepIdeal.τ).loc Cert.AdamStepIdeal.main_arg1)
      ∧ m' ((c.tc : Thread Cert.AdamStepRefIdeal.nD Cert.AdamStepRefIdeal.τ).loc Cert.AdamStepRefIdeal.main_arg2) = m ((c.tc : Thread Cert.AdamStepIdeal.nD Cert.AdamStepIdeal.τ).loc Cert.AdamStepIdeal.main_arg2)
      ∧ m' ((c.tc : Thread Cert.AdamStepRefIdeal.nD Cert.AdamStepRefIdeal.τ).loc Cert.AdamStepRefIdeal.main_arg3) = m ((c.tc : Thread Cert.AdamStepIdeal.nD Cert.AdamStepIdeal.τ).loc Cert.AdamStepIdeal.main_arg3)) →
    ∃ (v0 : (c : Dev Cert.AdamStepIdeal.nD) → Buf (Elt Ideal) ((c.tc : Thread Cert.AdamStepIdeal.nD Cert.AdamStepIdeal.τ).loc Cert.AdamStepIdeal.main_v0_0)) (v1 : (c : Dev Cert.AdamStepIdeal.nD) → Buf (Elt Ideal) ((c.tc : Thread Cert.AdamStepIdeal.nD Cert.AdamStepIdeal.τ).loc Cert.AdamStepIdeal.main_v0_1)) (v2 : (c : Dev Cert.AdamStepIdeal.nD) → Buf (Elt Ideal) ((c.tc : Thread Cert.AdamStepIdeal.nD Cert.AdamStepIdeal.τ).loc Cert.AdamStepIdeal.main_v0_2)),
      θ_run (Cert.AdamStepIdeal.defs (F := Ideal)) (onTc (τ := Cert.AdamStepIdeal.τ) (Cert.AdamStepIdeal.main (F := Ideal))) ⟨m, fun _ => 0, g⟩ (fun r => ∀ c : Dev Cert.AdamStepIdeal.nD,
          r.2.mem ((c.tc : Thread Cert.AdamStepIdeal.nD Cert.AdamStepIdeal.τ).loc Cert.AdamStepIdeal.main_v0_0) = v0 c
          ∧ r.2.mem ((c.tc : Thread Cert.AdamStepIdeal.nD Cert.AdamStepIdeal.τ).loc Cert.AdamStepIdeal.main_v0_1) = v1 c
          ∧ r.2.mem ((c.tc : Thread Cert.AdamStepIdeal.nD Cert.AdamStepIdeal.τ).loc Cert.AdamStepIdeal.main_v0_2) = v2 c
          ∧ r.2.mem ((c.tc : Thread Cert.AdamStepIdeal.nD Cert.AdamStepIdeal.τ).loc Cert.AdamStepIdeal.main_arg0) = m ((c.tc : Thread Cert.AdamStepIdeal.nD Cert.AdamStepIdeal.τ).loc Cert.AdamStepIdeal.main_arg0)
          ∧ r.2.mem ((c.tc : Thread Cert.AdamStepIdeal.nD Cert.AdamStepIdeal.τ).loc Cert.AdamStepIdeal.main_arg1) = m ((c.tc : Thread Cert.AdamStepIdeal.nD Cert.AdamStepIdeal.τ).loc Cert.AdamStepIdeal.main_arg1)
          ∧ r.2.mem ((c.tc : Thread Cert.AdamStepIdeal.nD Cert.AdamStepIdeal.τ).loc Cert.AdamStepIdeal.main_arg2) = m ((c.tc : Thread Cert.AdamStepIdeal.nD Cert.AdamStepIdeal.τ).loc Cert.AdamStepIdeal.main_arg2)
          ∧ r.2.mem ((c.tc : Thread Cert.AdamStepIdeal.nD Cert.AdamStepIdeal.τ).loc Cert.AdamStepIdeal.main_arg3) = m ((c.tc : Thread Cert.AdamStepIdeal.nD Cert.AdamStepIdeal.τ).loc Cert.AdamStepIdeal.main_arg3))
      ∧ θ_run (Cert.AdamStepRefIdeal.defs (F := Ideal)) (onTc (τ := Cert.AdamStepRefIdeal.τ) (Cert.AdamStepRefIdeal.main (F := Ideal))) ⟨m', fun _ => 0, g'⟩ (fun r => ∀ c : Dev Cert.AdamStepRefIdeal.nD,
          r.2.mem ((c.tc : Thread Cert.AdamStepRefIdeal.nD Cert.AdamStepRefIdeal.τ).loc Cert.AdamStepRefIdeal.main_v23) = v0 c
          ∧ r.2.mem ((c.tc : Thread Cert.AdamStepRefIdeal.nD Cert.AdamStepRefIdeal.τ).loc Cert.AdamStepRefIdeal.main_v4) = v1 c
          ∧ r.2.mem ((c.tc : Thread Cert.AdamStepRefIdeal.nD Cert.AdamStepRefIdeal.τ).loc Cert.AdamStepRefIdeal.main_v10) = v2 c
          ∧ r.2.mem ((c.tc : Thread Cert.AdamStepRefIdeal.nD Cert.AdamStepRefIdeal.τ).loc Cert.AdamStepRefIdeal.main_arg0) = m' ((c.tc : Thread Cert.AdamStepRefIdeal.nD Cert.AdamStepRefIdeal.τ).loc Cert.AdamStepRefIdeal.main_arg0)
          ∧ r.2.mem ((c.tc : Thread Cert.AdamStepRefIdeal.nD Cert.AdamStepRefIdeal.τ).loc Cert.AdamStepRefIdeal.main_arg1) = m' ((c.tc : Thread Cert.AdamStepRefIdeal.nD Cert.AdamStepRefIdeal.τ).loc Cert.AdamStepRefIdeal.main_arg1)
          ∧ r.2.mem ((c.tc : Thread Cert.AdamStepRefIdeal.nD Cert.AdamStepRefIdeal.τ).loc Cert.AdamStepRefIdeal.main_arg2) = m' ((c.tc : Thread Cert.AdamStepRefIdeal.nD Cert.AdamStepRefIdeal.τ).loc Cert.AdamStepRefIdeal.main_arg2)
          ∧ r.2.mem ((c.tc : Thread Cert.AdamStepRefIdeal.nD Cert.AdamStepRefIdeal.τ).loc Cert.AdamStepRefIdeal.main_arg3) = m' ((c.tc : Thread Cert.AdamStepRefIdeal.nD Cert.AdamStepRefIdeal.τ).loc Cert.AdamStepRefIdeal.main_arg3))

def preserves_AdamBC_AdamBCIdeal : Prop :=
  True

def algebraic_AdamBCIdeal_AdamBCRefIdeal [hAdamBCIdeal : Cert.AdamBCIdeal.Facts] [hAdamBCRefIdeal : Cert.AdamBCRefIdeal.Facts] : Prop :=
  ∀ (m : (ℓ : Loc Cert.AdamBCIdeal.nD Cert.AdamBCIdeal.τ Cert.AdamBCIdeal.sig) → Buf (Elt Ideal) ℓ) (g : Dev Cert.AdamBCIdeal.nD → PrngReg)
    (m' : (ℓ : Loc Cert.AdamBCRefIdeal.nD Cert.AdamBCRefIdeal.τ Cert.AdamBCRefIdeal.sig) → Buf (Elt Ideal) ℓ) (g' : Dev Cert.AdamBCRefIdeal.nD → PrngReg), Pre_AdamBCIdeal m →
    (∀ c : Dev Cert.AdamBCIdeal.nD,
      m' ((c.tc : Thread Cert.AdamBCRefIdeal.nD Cert.AdamBCRefIdeal.τ).loc Cert.AdamBCRefIdeal.main_arg0) = m ((c.tc : Thread Cert.AdamBCIdeal.nD Cert.AdamBCIdeal.τ).loc Cert.AdamBCIdeal.main_arg0)
      ∧ m' ((c.tc : Thread Cert.AdamBCRefIdeal.nD Cert.AdamBCRefIdeal.τ).loc Cert.AdamBCRefIdeal.main_arg1) = m ((c.tc : Thread Cert.AdamBCIdeal.nD Cert.AdamBCIdeal.τ).loc Cert.AdamBCIdeal.main_arg1)
      ∧ m' ((c.tc : Thread Cert.AdamBCRefIdeal.nD Cert.AdamBCRefIdeal.τ).loc Cert.AdamBCRefIdeal.main_arg2) = m ((c.tc : Thread Cert.AdamBCIdeal.nD Cert.AdamBCIdeal.τ).loc Cert.AdamBCIdeal.main_arg2)
      ∧ m' ((c.tc : Thread Cert.AdamBCRefIdeal.nD Cert.AdamBCRefIdeal.τ).loc Cert.AdamBCRefIdeal.main_arg3) = m ((c.tc : Thread Cert.AdamBCIdeal.nD Cert.AdamBCIdeal.τ).loc Cert.AdamBCIdeal.main_arg3)) →
    ∃ (v0 : (c : Dev Cert.AdamBCIdeal.nD) → Buf (Elt Ideal) ((c.tc : Thread Cert.AdamBCIdeal.nD Cert.AdamBCIdeal.τ).loc Cert.AdamBCIdeal.main_v0_0)) (v1 : (c : Dev Cert.AdamBCIdeal.nD) → Buf (Elt Ideal) ((c.tc : Thread Cert.AdamBCIdeal.nD Cert.AdamBCIdeal.τ).loc Cert.AdamBCIdeal.main_v0_1)) (v2 : (c : Dev Cert.AdamBCIdeal.nD) → Buf (Elt Ideal) ((c.tc : Thread Cert.AdamBCIdeal.nD Cert.AdamBCIdeal.τ).loc Cert.AdamBCIdeal.main_v0_2)),
      θ_run (Cert.AdamBCIdeal.defs (F := Ideal)) (onTc (τ := Cert.AdamBCIdeal.τ) (Cert.AdamBCIdeal.main (F := Ideal))) ⟨m, fun _ => 0, g⟩ (fun r => ∀ c : Dev Cert.AdamBCIdeal.nD,
          r.2.mem ((c.tc : Thread Cert.AdamBCIdeal.nD Cert.AdamBCIdeal.τ).loc Cert.AdamBCIdeal.main_v0_0) = v0 c
          ∧ r.2.mem ((c.tc : Thread Cert.AdamBCIdeal.nD Cert.AdamBCIdeal.τ).loc Cert.AdamBCIdeal.main_v0_1) = v1 c
          ∧ r.2.mem ((c.tc : Thread Cert.AdamBCIdeal.nD Cert.AdamBCIdeal.τ).loc Cert.AdamBCIdeal.main_v0_2) = v2 c
          ∧ r.2.mem ((c.tc : Thread Cert.AdamBCIdeal.nD Cert.AdamBCIdeal.τ).loc Cert.AdamBCIdeal.main_arg0) = m ((c.tc : Thread Cert.AdamBCIdeal.nD Cert.AdamBCIdeal.τ).loc Cert.AdamBCIdeal.main_arg0)
          ∧ r.2.mem ((c.tc : Thread Cert.AdamBCIdeal.nD Cert.AdamBCIdeal.τ).loc Cert.AdamBCIdeal.main_arg1) = m ((c.tc : Thread Cert.AdamBCIdeal.nD Cert.AdamBCIdeal.τ).loc Cert.AdamBCIdeal.main_arg1)
          ∧ r.2.mem ((c.tc : Thread Cert.AdamBCIdeal.nD Cert.AdamBCIdeal.τ).loc Cert.AdamBCIdeal.main_arg2) = m ((c.tc : Thread Cert.AdamBCIdeal.nD Cert.AdamBCIdeal.τ).loc Cert.AdamBCIdeal.main_arg2)
          ∧ r.2.mem ((c.tc : Thread Cert.AdamBCIdeal.nD Cert.AdamBCIdeal.τ).loc Cert.AdamBCIdeal.main_arg3) = m ((c.tc : Thread Cert.AdamBCIdeal.nD Cert.AdamBCIdeal.τ).loc Cert.AdamBCIdeal.main_arg3))
      ∧ θ_run (Cert.AdamBCRefIdeal.defs (F := Ideal)) (onTc (τ := Cert.AdamBCRefIdeal.τ) (Cert.AdamBCRefIdeal.main (F := Ideal))) ⟨m', fun _ => 0, g'⟩ (fun r => ∀ c : Dev Cert.AdamBCRefIdeal.nD,
          r.2.mem ((c.tc : Thread Cert.AdamBCRefIdeal.nD Cert.AdamBCRefIdeal.τ).loc Cert.AdamBCRefIdeal.main_v23) = v0 c
          ∧ r.2.mem ((c.tc : Thread Cert.AdamBCRefIdeal.nD Cert.AdamBCRefIdeal.τ).loc Cert.AdamBCRefIdeal.main_v4) = v1 c
          ∧ r.2.mem ((c.tc : Thread Cert.AdamBCRefIdeal.nD Cert.AdamBCRefIdeal.τ).loc Cert.AdamBCRefIdeal.main_v10) = v2 c
          ∧ r.2.mem ((c.tc : Thread Cert.AdamBCRefIdeal.nD Cert.AdamBCRefIdeal.τ).loc Cert.AdamBCRefIdeal.main_arg0) = m' ((c.tc : Thread Cert.AdamBCRefIdeal.nD Cert.AdamBCRefIdeal.τ).loc Cert.AdamBCRefIdeal.main_arg0)
          ∧ r.2.mem ((c.tc : Thread Cert.AdamBCRefIdeal.nD Cert.AdamBCRefIdeal.τ).loc Cert.AdamBCRefIdeal.main_arg1) = m' ((c.tc : Thread Cert.AdamBCRefIdeal.nD Cert.AdamBCRefIdeal.τ).loc Cert.AdamBCRefIdeal.main_arg1)
          ∧ r.2.mem ((c.tc : Thread Cert.AdamBCRefIdeal.nD Cert.AdamBCRefIdeal.τ).loc Cert.AdamBCRefIdeal.main_arg2) = m' ((c.tc : Thread Cert.AdamBCRefIdeal.nD Cert.AdamBCRefIdeal.τ).loc Cert.AdamBCRefIdeal.main_arg2)
          ∧ r.2.mem ((c.tc : Thread Cert.AdamBCRefIdeal.nD Cert.AdamBCRefIdeal.τ).loc Cert.AdamBCRefIdeal.main_arg3) = m' ((c.tc : Thread Cert.AdamBCRefIdeal.nD Cert.AdamBCRefIdeal.τ).loc Cert.AdamBCRefIdeal.main_arg3))

def preserves_AdamRow_AdamRowIdeal : Prop :=
  True

def algebraic_AdamRowIdeal_AdamRowRefIdeal [hAdamRowIdeal : Cert.AdamRowIdeal.Facts] [hAdamRowRefIdeal : Cert.AdamRowRefIdeal.Facts] : Prop :=
  ∀ (m : (ℓ : Loc Cert.AdamRowIdeal.nD Cert.AdamRowIdeal.τ Cert.AdamRowIdeal.sig) → Buf (Elt Ideal) ℓ) (g : Dev Cert.AdamRowIdeal.nD → PrngReg)
    (m' : (ℓ : Loc Cert.AdamRowRefIdeal.nD Cert.AdamRowRefIdeal.τ Cert.AdamRowRefIdeal.sig) → Buf (Elt Ideal) ℓ) (g' : Dev Cert.AdamRowRefIdeal.nD → PrngReg), Pre_AdamRowIdeal m →
    (∀ c : Dev Cert.AdamRowIdeal.nD,
      m' ((c.tc : Thread Cert.AdamRowRefIdeal.nD Cert.AdamRowRefIdeal.τ).loc Cert.AdamRowRefIdeal.main_arg0) = m ((c.tc : Thread Cert.AdamRowIdeal.nD Cert.AdamRowIdeal.τ).loc Cert.AdamRowIdeal.main_arg0)
      ∧ m' ((c.tc : Thread Cert.AdamRowRefIdeal.nD Cert.AdamRowRefIdeal.τ).loc Cert.AdamRowRefIdeal.main_arg1) = m ((c.tc : Thread Cert.AdamRowIdeal.nD Cert.AdamRowIdeal.τ).loc Cert.AdamRowIdeal.main_arg1)
      ∧ m' ((c.tc : Thread Cert.AdamRowRefIdeal.nD Cert.AdamRowRefIdeal.τ).loc Cert.AdamRowRefIdeal.main_arg2) = m ((c.tc : Thread Cert.AdamRowIdeal.nD Cert.AdamRowIdeal.τ).loc Cert.AdamRowIdeal.main_arg2)
      ∧ m' ((c.tc : Thread Cert.AdamRowRefIdeal.nD Cert.AdamRowRefIdeal.τ).loc Cert.AdamRowRefIdeal.main_arg3) = m ((c.tc : Thread Cert.AdamRowIdeal.nD Cert.AdamRowIdeal.τ).loc Cert.AdamRowIdeal.main_arg3)) →
    ∃ (v0 : (c : Dev Cert.AdamRowIdeal.nD) → Buf (Elt Ideal) ((c.tc : Thread Cert.AdamRowIdeal.nD Cert.AdamRowIdeal.τ).loc Cert.AdamRowIdeal.main_v0_0)) (v1 : (c : Dev Cert.AdamRowIdeal.nD) → Buf (Elt Ideal) ((c.tc : Thread Cert.AdamRowIdeal.nD Cert.AdamRowIdeal.τ).loc Cert.AdamRowIdeal.main_v0_1)) (v2 : (c : Dev Cert.AdamRowIdeal.nD) → Buf (Elt Ideal) ((c.tc : Thread Cert.AdamRowIdeal.nD Cert.AdamRowIdeal.τ).loc Cert.AdamRowIdeal.main_v0_2)),
      θ_run (Cert.AdamRowIdeal.defs (F := Ideal)) (onTc (τ := Cert.AdamRowIdeal.τ) (Cert.AdamRowIdeal.main (F := Ideal))) ⟨m, fun _ => 0, g⟩ (fun r => ∀ c : Dev Cert.AdamRowIdeal.nD,
          r.2.mem ((c.tc : Thread Cert.AdamRowIdeal.nD Cert.AdamRowIdeal.τ).loc Cert.AdamRowIdeal.main_v0_0) = v0 c
          ∧ r.2.mem ((c.tc : Thread Cert.AdamRowIdeal.nD Cert.AdamRowIdeal.τ).loc Cert.AdamRowIdeal.main_v0_1) = v1 c
          ∧ r.2.mem ((c.tc : Thread Cert.AdamRowIdeal.nD Cert.AdamRowIdeal.τ).loc Cert.AdamRowIdeal.main_v0_2) = v2 c
          ∧ r.2.mem ((c.tc : Thread Cert.AdamRowIdeal.nD Cert.AdamRowIdeal.τ).loc Cert.AdamRowIdeal.main_arg0) = m ((c.tc : Thread Cert.AdamRowIdeal.nD Cert.AdamRowIdeal.τ).loc Cert.AdamRowIdeal.main_arg0)
          ∧ r.2.mem ((c.tc : Thread Cert.AdamRowIdeal.nD Cert.AdamRowIdeal.τ).loc Cert.AdamRowIdeal.main_arg1) = m ((c.tc : Thread Cert.AdamRowIdeal.nD Cert.AdamRowIdeal.τ).loc Cert.AdamRowIdeal.main_arg1)
          ∧ r.2.mem ((c.tc : Thread Cert.AdamRowIdeal.nD Cert.AdamRowIdeal.τ).loc Cert.AdamRowIdeal.main_arg2) = m ((c.tc : Thread Cert.AdamRowIdeal.nD Cert.AdamRowIdeal.τ).loc Cert.AdamRowIdeal.main_arg2)
          ∧ r.2.mem ((c.tc : Thread Cert.AdamRowIdeal.nD Cert.AdamRowIdeal.τ).loc Cert.AdamRowIdeal.main_arg3) = m ((c.tc : Thread Cert.AdamRowIdeal.nD Cert.AdamRowIdeal.τ).loc Cert.AdamRowIdeal.main_arg3))
      ∧ θ_run (Cert.AdamRowRefIdeal.defs (F := Ideal)) (onTc (τ := Cert.AdamRowRefIdeal.τ) (Cert.AdamRowRefIdeal.main (F := Ideal))) ⟨m', fun _ => 0, g'⟩ (fun r => ∀ c : Dev Cert.AdamRowRefIdeal.nD,
          r.2.mem ((c.tc : Thread Cert.AdamRowRefIdeal.nD Cert.AdamRowRefIdeal.τ).loc Cert.AdamRowRefIdeal.main_v23) = v0 c
          ∧ r.2.mem ((c.tc : Thread Cert.AdamRowRefIdeal.nD Cert.AdamRowRefIdeal.τ).loc Cert.AdamRowRefIdeal.main_v4) = v1 c
          ∧ r.2.mem ((c.tc : Thread Cert.AdamRowRefIdeal.nD Cert.AdamRowRefIdeal.τ).loc Cert.AdamRowRefIdeal.main_v10) = v2 c
          ∧ r.2.mem ((c.tc : Thread Cert.AdamRowRefIdeal.nD Cert.AdamRowRefIdeal.τ).loc Cert.AdamRowRefIdeal.main_arg0) = m' ((c.tc : Thread Cert.AdamRowRefIdeal.nD Cert.AdamRowRefIdeal.τ).loc Cert.AdamRowRefIdeal.main_arg0)
          ∧ r.2.mem ((c.tc : Thread Cert.AdamRowRefIdeal.nD Cert.AdamRowRefIdeal.τ).loc Cert.AdamRowRefIdeal.main_arg1) = m' ((c.tc : Thread Cert.AdamRowRefIdeal.nD Cert.AdamRowRefIdeal.τ).loc Cert.AdamRowRefIdeal.main_arg1)
          ∧ r.2.mem ((c.tc : Thread Cert.AdamRowRefIdeal.nD Cert.AdamRowRefIdeal.τ).loc Cert.AdamRowRefIdeal.main_arg2) = m' ((c.tc : Thread Cert.AdamRowRefIdeal.nD Cert.AdamRowRefIdeal.τ).loc Cert.AdamRowRefIdeal.main_arg2)
          ∧ r.2.mem ((c.tc : Thread Cert.AdamRowRefIdeal.nD Cert.AdamRowRefIdeal.τ).loc Cert.AdamRowRefIdeal.main_arg3) = m' ((c.tc : Thread Cert.AdamRowRefIdeal.nD Cert.AdamRowRefIdeal.τ).loc Cert.AdamRowRefIdeal.main_arg3))

def preserves_SumConvIn_SumConvInIdeal : Prop :=
  True

def algebraic_SumConvInIdeal_SumConvInRefIdeal [hSumConvInIdeal : Cert.SumConvInIdeal.Facts] [hSumConvInRefIdeal : Cert.SumConvInRefIdeal.Facts] : Prop :=
  ∀ (m : (ℓ : Loc Cert.SumConvInIdeal.nD Cert.SumConvInIdeal.τ Cert.SumConvInIdeal.sig) → Buf (Elt Ideal) ℓ) (g : Dev Cert.SumConvInIdeal.nD → PrngReg)
    (m' : (ℓ : Loc Cert.SumConvInRefIdeal.nD Cert.SumConvInRefIdeal.τ Cert.SumConvInRefIdeal.sig) → Buf (Elt Ideal) ℓ) (g' : Dev Cert.SumConvInRefIdeal.nD → PrngReg), Pre_SumConvInIdeal m →
    (∀ c : Dev Cert.SumConvInIdeal.nD,
      m' ((c.tc : Thread Cert.SumConvInRefIdeal.nD Cert.SumConvInRefIdeal.τ).loc Cert.SumConvInRefIdeal.main_arg0) = m ((c.tc : Thread Cert.SumConvInIdeal.nD Cert.SumConvInIdeal.τ).loc Cert.SumConvInIdeal.main_arg0)) →
    ∃ (v0 : (c : Dev Cert.SumConvInIdeal.nD) → Buf (Elt Ideal) ((c.tc : Thread Cert.SumConvInIdeal.nD Cert.SumConvInIdeal.τ).loc Cert.SumConvInIdeal.main_v0)),
      θ_run (Cert.SumConvInIdeal.defs (F := Ideal)) (onTc (τ := Cert.SumConvInIdeal.τ) (Cert.SumConvInIdeal.main (F := Ideal))) ⟨m, fun _ => 0, g⟩ (fun r => ∀ c : Dev Cert.SumConvInIdeal.nD,
          r.2.mem ((c.tc : Thread Cert.SumConvInIdeal.nD Cert.SumConvInIdeal.τ).loc Cert.SumConvInIdeal.main_v0) = v0 c
          ∧ r.2.mem ((c.tc : Thread Cert.SumConvInIdeal.nD Cert.SumConvInIdeal.τ).loc Cert.SumConvInIdeal.main_arg0) = m ((c.tc : Thread Cert.SumConvInIdeal.nD Cert.SumConvInIdeal.τ).loc Cert.SumConvInIdeal.main_arg0))
      ∧ θ_run (Cert.SumConvInRefIdeal.defs (F := Ideal)) (onTc (τ := Cert.SumConvInRefIdeal.τ) (Cert.SumConvInRefIdeal.main (F := Ideal))) ⟨m', fun _ => 0, g'⟩ (fun r => ∀ c : Dev Cert.SumConvInRefIdeal.nD,
          r.2.mem ((c.tc : Thread Cert.SumConvInRefIdeal.nD Cert.SumConvInRefIdeal.τ).loc Cert.SumConvInRefIdeal.main_v0) = v0 c
          ∧ r.2.mem ((c.tc : Thread Cert.SumConvInRefIdeal.nD Cert.SumConvInRefIdeal.τ).loc Cert.SumConvInRefIdeal.main_arg0) = m' ((c.tc : Thread Cert.SumConvInRefIdeal.nD Cert.SumConvInRefIdeal.τ).loc Cert.SumConvInRefIdeal.main_arg0))

def preserves_SumSsmIn_SumSsmInIdeal : Prop :=
  True

def algebraic_SumSsmInIdeal_SumSsmInRefIdeal [hSumSsmInIdeal : Cert.SumSsmInIdeal.Facts] [hSumSsmInRefIdeal : Cert.SumSsmInRefIdeal.Facts] : Prop :=
  ∀ (m : (ℓ : Loc Cert.SumSsmInIdeal.nD Cert.SumSsmInIdeal.τ Cert.SumSsmInIdeal.sig) → Buf (Elt Ideal) ℓ) (g : Dev Cert.SumSsmInIdeal.nD → PrngReg)
    (m' : (ℓ : Loc Cert.SumSsmInRefIdeal.nD Cert.SumSsmInRefIdeal.τ Cert.SumSsmInRefIdeal.sig) → Buf (Elt Ideal) ℓ) (g' : Dev Cert.SumSsmInRefIdeal.nD → PrngReg), Pre_SumSsmInIdeal m →
    (∀ c : Dev Cert.SumSsmInIdeal.nD,
      m' ((c.tc : Thread Cert.SumSsmInRefIdeal.nD Cert.SumSsmInRefIdeal.τ).loc Cert.SumSsmInRefIdeal.main_arg0) = m ((c.tc : Thread Cert.SumSsmInIdeal.nD Cert.SumSsmInIdeal.τ).loc Cert.SumSsmInIdeal.main_arg0)) →
    ∃ (v0 : (c : Dev Cert.SumSsmInIdeal.nD) → Buf (Elt Ideal) ((c.tc : Thread Cert.SumSsmInIdeal.nD Cert.SumSsmInIdeal.τ).loc Cert.SumSsmInIdeal.main_v0)),
      θ_run (Cert.SumSsmInIdeal.defs (F := Ideal)) (onTc (τ := Cert.SumSsmInIdeal.τ) (Cert.SumSsmInIdeal.main (F := Ideal))) ⟨m, fun _ => 0, g⟩ (fun r => ∀ c : Dev Cert.SumSsmInIdeal.nD,
          r.2.mem ((c.tc : Thread Cert.SumSsmInIdeal.nD Cert.SumSsmInIdeal.τ).loc Cert.SumSsmInIdeal.main_v0) = v0 c
          ∧ r.2.mem ((c.tc : Thread Cert.SumSsmInIdeal.nD Cert.SumSsmInIdeal.τ).loc Cert.SumSsmInIdeal.main_arg0) = m ((c.tc : Thread Cert.SumSsmInIdeal.nD Cert.SumSsmInIdeal.τ).loc Cert.SumSsmInIdeal.main_arg0))
      ∧ θ_run (Cert.SumSsmInRefIdeal.defs (F := Ideal)) (onTc (τ := Cert.SumSsmInRefIdeal.τ) (Cert.SumSsmInRefIdeal.main (F := Ideal))) ⟨m', fun _ => 0, g'⟩ (fun r => ∀ c : Dev Cert.SumSsmInRefIdeal.nD,
          r.2.mem ((c.tc : Thread Cert.SumSsmInRefIdeal.nD Cert.SumSsmInRefIdeal.τ).loc Cert.SumSsmInRefIdeal.main_v0) = v0 c
          ∧ r.2.mem ((c.tc : Thread Cert.SumSsmInRefIdeal.nD Cert.SumSsmInRefIdeal.τ).loc Cert.SumSsmInRefIdeal.main_arg0) = m' ((c.tc : Thread Cert.SumSsmInRefIdeal.nD Cert.SumSsmInRefIdeal.τ).loc Cert.SumSsmInRefIdeal.main_arg0))

def preserves_SumOut_SumOutIdeal : Prop :=
  True

def algebraic_SumOutIdeal_SumOutRefIdeal [hSumOutIdeal : Cert.SumOutIdeal.Facts] [hSumOutRefIdeal : Cert.SumOutRefIdeal.Facts] : Prop :=
  ∀ (m : (ℓ : Loc Cert.SumOutIdeal.nD Cert.SumOutIdeal.τ Cert.SumOutIdeal.sig) → Buf (Elt Ideal) ℓ) (g : Dev Cert.SumOutIdeal.nD → PrngReg)
    (m' : (ℓ : Loc Cert.SumOutRefIdeal.nD Cert.SumOutRefIdeal.τ Cert.SumOutRefIdeal.sig) → Buf (Elt Ideal) ℓ) (g' : Dev Cert.SumOutRefIdeal.nD → PrngReg), Pre_SumOutIdeal m →
    (∀ c : Dev Cert.SumOutIdeal.nD,
      m' ((c.tc : Thread Cert.SumOutRefIdeal.nD Cert.SumOutRefIdeal.τ).loc Cert.SumOutRefIdeal.main_arg0) = m ((c.tc : Thread Cert.SumOutIdeal.nD Cert.SumOutIdeal.τ).loc Cert.SumOutIdeal.main_arg0)) →
    ∃ (v0 : (c : Dev Cert.SumOutIdeal.nD) → Buf (Elt Ideal) ((c.tc : Thread Cert.SumOutIdeal.nD Cert.SumOutIdeal.τ).loc Cert.SumOutIdeal.main_v0)),
      θ_run (Cert.SumOutIdeal.defs (F := Ideal)) (onTc (τ := Cert.SumOutIdeal.τ) (Cert.SumOutIdeal.main (F := Ideal))) ⟨m, fun _ => 0, g⟩ (fun r => ∀ c : Dev Cert.SumOutIdeal.nD,
          r.2.mem ((c.tc : Thread Cert.SumOutIdeal.nD Cert.SumOutIdeal.τ).loc Cert.SumOutIdeal.main_v0) = v0 c
          ∧ r.2.mem ((c.tc : Thread Cert.SumOutIdeal.nD Cert.SumOutIdeal.τ).loc Cert.SumOutIdeal.main_arg0) = m ((c.tc : Thread Cert.SumOutIdeal.nD Cert.SumOutIdeal.τ).loc Cert.SumOutIdeal.main_arg0))
      ∧ θ_run (Cert.SumOutRefIdeal.defs (F := Ideal)) (onTc (τ := Cert.SumOutRefIdeal.τ) (Cert.SumOutRefIdeal.main (F := Ideal))) ⟨m', fun _ => 0, g'⟩ (fun r => ∀ c : Dev Cert.SumOutRefIdeal.nD,
          r.2.mem ((c.tc : Thread Cert.SumOutRefIdeal.nD Cert.SumOutRefIdeal.τ).loc Cert.SumOutRefIdeal.main_v0) = v0 c
          ∧ r.2.mem ((c.tc : Thread Cert.SumOutRefIdeal.nD Cert.SumOutRefIdeal.τ).loc Cert.SumOutRefIdeal.main_arg0) = m' ((c.tc : Thread Cert.SumOutRefIdeal.nD Cert.SumOutRefIdeal.τ).loc Cert.SumOutRefIdeal.main_arg0))

def preserves_SumGlu_SumGluIdeal : Prop :=
  True

def algebraic_SumGluIdeal_SumGluRefIdeal [hSumGluIdeal : Cert.SumGluIdeal.Facts] [hSumGluRefIdeal : Cert.SumGluRefIdeal.Facts] : Prop :=
  ∀ (m : (ℓ : Loc Cert.SumGluIdeal.nD Cert.SumGluIdeal.τ Cert.SumGluIdeal.sig) → Buf (Elt Ideal) ℓ) (g : Dev Cert.SumGluIdeal.nD → PrngReg)
    (m' : (ℓ : Loc Cert.SumGluRefIdeal.nD Cert.SumGluRefIdeal.τ Cert.SumGluRefIdeal.sig) → Buf (Elt Ideal) ℓ) (g' : Dev Cert.SumGluRefIdeal.nD → PrngReg), Pre_SumGluIdeal m →
    (∀ c : Dev Cert.SumGluIdeal.nD,
      m' ((c.tc : Thread Cert.SumGluRefIdeal.nD Cert.SumGluRefIdeal.τ).loc Cert.SumGluRefIdeal.main_arg0) = m ((c.tc : Thread Cert.SumGluIdeal.nD Cert.SumGluIdeal.τ).loc Cert.SumGluIdeal.main_arg0)) →
    ∃ (v0 : (c : Dev Cert.SumGluIdeal.nD) → Buf (Elt Ideal) ((c.tc : Thread Cert.SumGluIdeal.nD Cert.SumGluIdeal.τ).loc Cert.SumGluIdeal.main_v0)),
      θ_run (Cert.SumGluIdeal.defs (F := Ideal)) (onTc (τ := Cert.SumGluIdeal.τ) (Cert.SumGluIdeal.main (F := Ideal))) ⟨m, fun _ => 0, g⟩ (fun r => ∀ c : Dev Cert.SumGluIdeal.nD,
          r.2.mem ((c.tc : Thread Cert.SumGluIdeal.nD Cert.SumGluIdeal.τ).loc Cert.SumGluIdeal.main_v0) = v0 c
          ∧ r.2.mem ((c.tc : Thread Cert.SumGluIdeal.nD Cert.SumGluIdeal.τ).loc Cert.SumGluIdeal.main_arg0) = m ((c.tc : Thread Cert.SumGluIdeal.nD Cert.SumGluIdeal.τ).loc Cert.SumGluIdeal.main_arg0))
      ∧ θ_run (Cert.SumGluRefIdeal.defs (F := Ideal)) (onTc (τ := Cert.SumGluRefIdeal.τ) (Cert.SumGluRefIdeal.main (F := Ideal))) ⟨m', fun _ => 0, g'⟩ (fun r => ∀ c : Dev Cert.SumGluRefIdeal.nD,
          r.2.mem ((c.tc : Thread Cert.SumGluRefIdeal.nD Cert.SumGluRefIdeal.τ).loc Cert.SumGluRefIdeal.main_v0) = v0 c
          ∧ r.2.mem ((c.tc : Thread Cert.SumGluRefIdeal.nD Cert.SumGluRefIdeal.τ).loc Cert.SumGluRefIdeal.main_arg0) = m' ((c.tc : Thread Cert.SumGluRefIdeal.nD Cert.SumGluRefIdeal.τ).loc Cert.SumGluRefIdeal.main_arg0))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v0) = v0 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def preserves_Modulate_ModulateIdeal : Prop :=
  True

def algebraic_ModulateIdeal_ModulateRefIdeal [hModulateIdeal : Cert.ModulateIdeal.Facts] [hModulateRefIdeal : Cert.ModulateRefIdeal.Facts] : Prop :=
  ∀ (m : (ℓ : Loc Cert.ModulateIdeal.nD Cert.ModulateIdeal.τ Cert.ModulateIdeal.sig) → Buf (Elt Ideal) ℓ) (g : Dev Cert.ModulateIdeal.nD → PrngReg)
    (m' : (ℓ : Loc Cert.ModulateRefIdeal.nD Cert.ModulateRefIdeal.τ Cert.ModulateRefIdeal.sig) → Buf (Elt Ideal) ℓ) (g' : Dev Cert.ModulateRefIdeal.nD → PrngReg), Pre_ModulateIdeal m →
    (∀ c : Dev Cert.ModulateIdeal.nD,
      m' ((c.tc : Thread Cert.ModulateRefIdeal.nD Cert.ModulateRefIdeal.τ).loc Cert.ModulateRefIdeal.main_arg0) = m ((c.tc : Thread Cert.ModulateIdeal.nD Cert.ModulateIdeal.τ).loc Cert.ModulateIdeal.main_arg0)
      ∧ m' ((c.tc : Thread Cert.ModulateRefIdeal.nD Cert.ModulateRefIdeal.τ).loc Cert.ModulateRefIdeal.main_arg1) = m ((c.tc : Thread Cert.ModulateIdeal.nD Cert.ModulateIdeal.τ).loc Cert.ModulateIdeal.main_arg1)
      ∧ m' ((c.tc : Thread Cert.ModulateRefIdeal.nD Cert.ModulateRefIdeal.τ).loc Cert.ModulateRefIdeal.main_arg2) = m ((c.tc : Thread Cert.ModulateIdeal.nD Cert.ModulateIdeal.τ).loc Cert.ModulateIdeal.main_arg2)
      ∧ m' ((c.tc : Thread Cert.ModulateRefIdeal.nD Cert.ModulateRefIdeal.τ).loc Cert.ModulateRefIdeal.main_arg3) = m ((c.tc : Thread Cert.ModulateIdeal.nD Cert.ModulateIdeal.τ).loc Cert.ModulateIdeal.main_arg3)) →
    ∃ (v0 : (c : Dev Cert.ModulateIdeal.nD) → Buf (Elt Ideal) ((c.tc : Thread Cert.ModulateIdeal.nD Cert.ModulateIdeal.τ).loc Cert.ModulateIdeal.main_v0)),
      θ_run (Cert.ModulateIdeal.defs (F := Ideal)) (onTc (τ := Cert.ModulateIdeal.τ) (Cert.ModulateIdeal.main (F := Ideal))) ⟨m, fun _ => 0, g⟩ (fun r => ∀ c : Dev Cert.ModulateIdeal.nD,
          r.2.mem ((c.tc : Thread Cert.ModulateIdeal.nD Cert.ModulateIdeal.τ).loc Cert.ModulateIdeal.main_v0) = v0 c
          ∧ r.2.mem ((c.tc : Thread Cert.ModulateIdeal.nD Cert.ModulateIdeal.τ).loc Cert.ModulateIdeal.main_arg0) = m ((c.tc : Thread Cert.ModulateIdeal.nD Cert.ModulateIdeal.τ).loc Cert.ModulateIdeal.main_arg0)
          ∧ r.2.mem ((c.tc : Thread Cert.ModulateIdeal.nD Cert.ModulateIdeal.τ).loc Cert.ModulateIdeal.main_arg1) = m ((c.tc : Thread Cert.ModulateIdeal.nD Cert.ModulateIdeal.τ).loc Cert.ModulateIdeal.main_arg1)
          ∧ r.2.mem ((c.tc : Thread Cert.ModulateIdeal.nD Cert.ModulateIdeal.τ).loc Cert.ModulateIdeal.main_arg2) = m ((c.tc : Thread Cert.ModulateIdeal.nD Cert.ModulateIdeal.τ).loc Cert.ModulateIdeal.main_arg2)
          ∧ r.2.mem ((c.tc : Thread Cert.ModulateIdeal.nD Cert.ModulateIdeal.τ).loc Cert.ModulateIdeal.main_arg3) = m ((c.tc : Thread Cert.ModulateIdeal.nD Cert.ModulateIdeal.τ).loc Cert.ModulateIdeal.main_arg3))
      ∧ θ_run (Cert.ModulateRefIdeal.defs (F := Ideal)) (onTc (τ := Cert.ModulateRefIdeal.τ) (Cert.ModulateRefIdeal.main (F := Ideal))) ⟨m', fun _ => 0, g'⟩ (fun r => ∀ c : Dev Cert.ModulateRefIdeal.nD,
          r.2.mem ((c.tc : Thread Cert.ModulateRefIdeal.nD Cert.ModulateRefIdeal.τ).loc Cert.ModulateRefIdeal.main_v36) = v0 c
          ∧ r.2.mem ((c.tc : Thread Cert.ModulateRefIdeal.nD Cert.ModulateRefIdeal.τ).loc Cert.ModulateRefIdeal.main_arg0) = m' ((c.tc : Thread Cert.ModulateRefIdeal.nD Cert.ModulateRefIdeal.τ).loc Cert.ModulateRefIdeal.main_arg0)
          ∧ r.2.mem ((c.tc : Thread Cert.ModulateRefIdeal.nD Cert.ModulateRefIdeal.τ).loc Cert.ModulateRefIdeal.main_arg1) = m' ((c.tc : Thread Cert.ModulateRefIdeal.nD Cert.ModulateRefIdeal.τ).loc Cert.ModulateRefIdeal.main_arg1)
          ∧ r.2.mem ((c.tc : Thread Cert.ModulateRefIdeal.nD Cert.ModulateRefIdeal.τ).loc Cert.ModulateRefIdeal.main_arg2) = m' ((c.tc : Thread Cert.ModulateRefIdeal.nD Cert.ModulateRefIdeal.τ).loc Cert.ModulateRefIdeal.main_arg2)
          ∧ r.2.mem ((c.tc : Thread Cert.ModulateRefIdeal.nD Cert.ModulateRefIdeal.τ).loc Cert.ModulateRefIdeal.main_arg3) = m' ((c.tc : Thread Cert.ModulateRefIdeal.nD Cert.ModulateRefIdeal.τ).loc Cert.ModulateRefIdeal.main_arg3))

def preserves_Modulation_ModulationIdeal : Prop :=
  True

def algebraic_ModulationIdeal_ModulationRefIdeal [hModulationIdeal : Cert.ModulationIdeal.Facts] [hModulationRefIdeal : Cert.ModulationRefIdeal.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.ModulationRefIdeal.nD Cert.ModulationRefIdeal.τ Cert.ModulationRefIdeal.sig) → Buf (Elt Ideal) ℓ) (g' : Dev Cert.ModulationRefIdeal.nD → PrngReg), Pre_ModulationIdeal m →
    (∀ c : Dev Cert.ModulationIdeal.nD,
      m' ((c.tc : Thread Cert.ModulationRefIdeal.nD Cert.ModulationRefIdeal.τ).loc Cert.ModulationRefIdeal.main_arg0) = m ((c.tc : Thread Cert.ModulationIdeal.nD Cert.ModulationIdeal.τ).loc Cert.ModulationIdeal.main_arg0)
      ∧ m' ((c.tc : Thread Cert.ModulationRefIdeal.nD Cert.ModulationRefIdeal.τ).loc Cert.ModulationRefIdeal.main_arg1) = m ((c.tc : Thread Cert.ModulationIdeal.nD Cert.ModulationIdeal.τ).loc Cert.ModulationIdeal.main_arg1)
      ∧ m' ((c.tc : Thread Cert.ModulationRefIdeal.nD Cert.ModulationRefIdeal.τ).loc Cert.ModulationRefIdeal.main_arg2) = m ((c.tc : Thread Cert.ModulationIdeal.nD Cert.ModulationIdeal.τ).loc Cert.ModulationIdeal.main_arg2)
      ∧ m' ((c.tc : Thread Cert.ModulationRefIdeal.nD Cert.ModulationRefIdeal.τ).loc Cert.ModulationRefIdeal.main_arg3) = m ((c.tc : Thread Cert.ModulationIdeal.nD Cert.ModulationIdeal.τ).loc Cert.ModulationIdeal.main_arg3)
      ∧ m' ((c.tc : Thread Cert.ModulationRefIdeal.nD Cert.ModulationRefIdeal.τ).loc Cert.ModulationRefIdeal.main_arg4) = m ((c.tc : Thread Cert.ModulationIdeal.nD Cert.ModulationIdeal.τ).loc Cert.ModulationIdeal.main_arg4)) →
    ∃ (v0 : (c : Dev Cert.ModulationIdeal.nD) → Buf (Elt Ideal) ((c.tc : Thread Cert.ModulationIdeal.nD Cert.ModulationIdeal.τ).loc Cert.ModulationIdeal.main_v0_0)) (v1 : (c : Dev Cert.ModulationIdeal.nD) → Buf (Elt Ideal) ((c.tc : Thread Cert.ModulationIdeal.nD Cert.ModulationIdeal.τ).loc Cert.ModulationIdeal.main_v0_1)) (v2 : (c : Dev Cert.ModulationIdeal.nD) → Buf (Elt Ideal) ((c.tc : Thread Cert.ModulationIdeal.nD Cert.ModulationIdeal.τ).loc Cert.ModulationIdeal.main_v0_2)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v0_0) = v0 c
          ∧ r.2.mem ((c.tc : Thread Cert.ModulationIdeal.nD Cert.ModulationIdeal.τ).loc Cert.ModulationIdeal.main_v0_1) = v1 c
          ∧ r.2.mem ((c.tc : Thread Cert.ModulationIdeal.nD Cert.ModulationIdeal.τ).loc Cert.ModulationIdeal.main_v0_2) = v2 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2)
          ∧ r.2.mem ((c.tc : Thread Cert.ModulationIdeal.nD Cert.ModulationIdeal.τ).loc Cert.ModulationIdeal.main_arg3) = m ((c.tc : Thread Cert.ModulationIdeal.nD Cert.ModulationIdeal.τ).loc Cert.ModulationIdeal.main_arg3)
          ∧ r.2.mem ((c.tc : Thread Cert.ModulationIdeal.nD Cert.ModulationIdeal.τ).loc Cert.ModulationIdeal.main_arg4) = m ((c.tc : Thread Cert.ModulationIdeal.nD Cert.ModulationIdeal.τ).loc Cert.ModulationIdeal.main_arg4))
      ∧ θ_run (Cert.ModulationRefIdeal.defs (F := Ideal)) (onTc (τ := Cert.ModulationRefIdeal.τ) (Cert.ModulationRefIdeal.main (F := Ideal))) ⟨m', fun _ => 0, g'⟩ (fun r => ∀ c : Dev Cert.ModulationRefIdeal.nD,
          r.2.mem ((c.tc : Thread Cert.ModulationRefIdeal.nD Cert.ModulationRefIdeal.τ).loc Cert.ModulationRefIdeal.main_v18) = v0 c
          ∧ r.2.mem ((c.tc : Thread Cert.ModulationRefIdeal.nD Cert.ModulationRefIdeal.τ).loc Cert.ModulationRefIdeal.main_v28) = v1 c
          ∧ r.2.mem ((c.tc : Thread Cert.ModulationRefIdeal.nD Cert.ModulationRefIdeal.τ).loc Cert.ModulationRefIdeal.main_v29) = v2 c
          ∧ r.2.mem ((c.tc : Thread Cert.ModulationRefIdeal.nD Cert.ModulationRefIdeal.τ).loc Cert.ModulationRefIdeal.main_arg0) = m' ((c.tc : Thread Cert.ModulationRefIdeal.nD Cert.ModulationRefIdeal.τ).loc Cert.ModulationRefIdeal.main_arg0)
          ∧ r.2.mem ((c.tc : Thread Cert.ModulationRefIdeal.nD Cert.ModulationRefIdeal.τ).loc Cert.ModulationRefIdeal.main_arg1) = m' ((c.tc : Thread Cert.ModulationRefIdeal.nD Cert.ModulationRefIdeal.τ).loc Cert.ModulationRefIdeal.main_arg1)
          ∧ r.2.mem ((c.tc : Thread Cert.ModulationRefIdeal.nD Cert.ModulationRefIdeal.τ).loc Cert.ModulationRefIdeal.main_arg2) = m' ((c.tc : Thread Cert.ModulationRefIdeal.nD Cert.ModulationRefIdeal.τ).loc Cert.ModulationRefIdeal.main_arg2)
          ∧ r.2.mem ((c.tc : Thread Cert.ModulationRefIdeal.nD Cert.ModulationRefIdeal.τ).loc Cert.ModulationRefIdeal.main_arg3) = m' ((c.tc : Thread Cert.ModulationRefIdeal.nD Cert.ModulationRefIdeal.τ).loc Cert.ModulationRefIdeal.main_arg3)
          ∧ r.2.mem ((c.tc : Thread Cert.ModulationRefIdeal.nD Cert.ModulationRefIdeal.τ).loc Cert.ModulationRefIdeal.main_arg4) = m' ((c.tc : Thread Cert.ModulationRefIdeal.nD Cert.ModulationRefIdeal.τ).loc Cert.ModulationRefIdeal.main_arg4))

def preserves_Context_ContextIdeal : Prop :=
  True

def algebraic_ContextIdeal_ContextRefIdeal_pre_context_finite [hContextIdeal : Cert.ContextIdeal.Facts] [hContextRefIdeal : Cert.ContextRefIdeal.Facts] [hPre_context_finite : Cert.Pre_context_finite.Facts] : Prop :=
  ∀ (m : (ℓ : Loc Cert.ContextIdeal.nD Cert.ContextIdeal.τ Cert.ContextIdeal.sig) → Buf (Elt Ideal) ℓ) (g : Dev Cert.ContextIdeal.nD → PrngReg)
    (m' : (ℓ : Loc Cert.ContextRefIdeal.nD Cert.ContextRefIdeal.τ Cert.ContextRefIdeal.sig) → Buf (Elt Ideal) ℓ) (g' : Dev Cert.ContextRefIdeal.nD → PrngReg), Pre_ContextIdeal_context_finite m →
    (∀ c : Dev Cert.ContextIdeal.nD,
      m' ((c.tc : Thread Cert.ContextRefIdeal.nD Cert.ContextRefIdeal.τ).loc Cert.ContextRefIdeal.main_arg0) = m ((c.tc : Thread Cert.ContextIdeal.nD Cert.ContextIdeal.τ).loc Cert.ContextIdeal.main_arg0)
      ∧ m' ((c.tc : Thread Cert.ContextRefIdeal.nD Cert.ContextRefIdeal.τ).loc Cert.ContextRefIdeal.main_arg1) = m ((c.tc : Thread Cert.ContextIdeal.nD Cert.ContextIdeal.τ).loc Cert.ContextIdeal.main_arg1)) →
    ∃ (v0 : (c : Dev Cert.ContextIdeal.nD) → Buf (Elt Ideal) ((c.tc : Thread Cert.ContextIdeal.nD Cert.ContextIdeal.τ).loc Cert.ContextIdeal.main_v0)),
      θ_run (Cert.ContextIdeal.defs (F := Ideal)) (onTc (τ := Cert.ContextIdeal.τ) (Cert.ContextIdeal.main (F := Ideal))) ⟨m, fun _ => 0, g⟩ (fun r => ∀ c : Dev Cert.ContextIdeal.nD,
          r.2.mem ((c.tc : Thread Cert.ContextIdeal.nD Cert.ContextIdeal.τ).loc Cert.ContextIdeal.main_v0) = v0 c
          ∧ r.2.mem ((c.tc : Thread Cert.ContextIdeal.nD Cert.ContextIdeal.τ).loc Cert.ContextIdeal.main_arg0) = m ((c.tc : Thread Cert.ContextIdeal.nD Cert.ContextIdeal.τ).loc Cert.ContextIdeal.main_arg0)
          ∧ r.2.mem ((c.tc : Thread Cert.ContextIdeal.nD Cert.ContextIdeal.τ).loc Cert.ContextIdeal.main_arg1) = m ((c.tc : Thread Cert.ContextIdeal.nD Cert.ContextIdeal.τ).loc Cert.ContextIdeal.main_arg1))
      ∧ θ_run (Cert.ContextRefIdeal.defs (F := Ideal)) (onTc (τ := Cert.ContextRefIdeal.τ) (Cert.ContextRefIdeal.main (F := Ideal))) ⟨m', fun _ => 0, g'⟩ (fun r => ∀ c : Dev Cert.ContextRefIdeal.nD,
          r.2.mem ((c.tc : Thread Cert.ContextRefIdeal.nD Cert.ContextRefIdeal.τ).loc Cert.ContextRefIdeal.main_v3) = v0 c
          ∧ r.2.mem ((c.tc : Thread Cert.ContextRefIdeal.nD Cert.ContextRefIdeal.τ).loc Cert.ContextRefIdeal.main_arg0) = m' ((c.tc : Thread Cert.ContextRefIdeal.nD Cert.ContextRefIdeal.τ).loc Cert.ContextRefIdeal.main_arg0)
          ∧ r.2.mem ((c.tc : Thread Cert.ContextRefIdeal.nD Cert.ContextRefIdeal.τ).loc Cert.ContextRefIdeal.main_arg1) = m' ((c.tc : Thread Cert.ContextRefIdeal.nD Cert.ContextRefIdeal.τ).loc Cert.ContextRefIdeal.main_arg1))

def preserves_Step_StepIdeal : Prop :=
  True

def algebraic_StepIdeal_StepRefIdeal [hStepIdeal : Cert.StepIdeal.Facts] [hStepRefIdeal : Cert.StepRefIdeal.Facts] : Prop :=
  ∀ (m : (ℓ : Loc Cert.StepIdeal.nD Cert.StepIdeal.τ Cert.StepIdeal.sig) → Buf (Elt Ideal) ℓ) (g : Dev Cert.StepIdeal.nD → PrngReg)
    (m' : (ℓ : Loc Cert.StepRefIdeal.nD Cert.StepRefIdeal.τ Cert.StepRefIdeal.sig) → Buf (Elt Ideal) ℓ) (g' : Dev Cert.StepRefIdeal.nD → PrngReg), Pre_StepIdeal m →
    (∀ c : Dev Cert.StepIdeal.nD,
      m' ((c.tc : Thread Cert.StepRefIdeal.nD Cert.StepRefIdeal.τ).loc Cert.StepRefIdeal.main_arg0) = m ((c.tc : Thread Cert.StepIdeal.nD Cert.StepIdeal.τ).loc Cert.StepIdeal.main_arg0)
      ∧ m' ((c.tc : Thread Cert.StepRefIdeal.nD Cert.StepRefIdeal.τ).loc Cert.StepRefIdeal.main_arg1) = m ((c.tc : Thread Cert.StepIdeal.nD Cert.StepIdeal.τ).loc Cert.StepIdeal.main_arg1)
      ∧ m' ((c.tc : Thread Cert.StepRefIdeal.nD Cert.StepRefIdeal.τ).loc Cert.StepRefIdeal.main_arg2) = m ((c.tc : Thread Cert.StepIdeal.nD Cert.StepIdeal.τ).loc Cert.StepIdeal.main_arg2)
      ∧ m' ((c.tc : Thread Cert.StepRefIdeal.nD Cert.StepRefIdeal.τ).loc Cert.StepRefIdeal.main_arg3) = m ((c.tc : Thread Cert.StepIdeal.nD Cert.StepIdeal.τ).loc Cert.StepIdeal.main_arg3)
      ∧ m' ((c.tc : Thread Cert.StepRefIdeal.nD Cert.StepRefIdeal.τ).loc Cert.StepRefIdeal.main_arg4) = m ((c.tc : Thread Cert.StepIdeal.nD Cert.StepIdeal.τ).loc Cert.StepIdeal.main_arg4)
      ∧ m' ((c.tc : Thread Cert.StepRefIdeal.nD Cert.StepRefIdeal.τ).loc Cert.StepRefIdeal.main_arg5) = m ((c.tc : Thread Cert.StepIdeal.nD Cert.StepIdeal.τ).loc Cert.StepIdeal.main_arg5)
      ∧ m' ((c.tc : Thread Cert.StepRefIdeal.nD Cert.StepRefIdeal.τ).loc Cert.StepRefIdeal.main_arg6) = m ((c.tc : Thread Cert.StepIdeal.nD Cert.StepIdeal.τ).loc Cert.StepIdeal.main_arg6)
      ∧ m' ((c.tc : Thread Cert.StepRefIdeal.nD Cert.StepRefIdeal.τ).loc Cert.StepRefIdeal.main_arg7) = m ((c.tc : Thread Cert.StepIdeal.nD Cert.StepIdeal.τ).loc Cert.StepIdeal.main_arg7)
      ∧ m' ((c.tc : Thread Cert.StepRefIdeal.nD Cert.StepRefIdeal.τ).loc Cert.StepRefIdeal.main_arg8) = m ((c.tc : Thread Cert.StepIdeal.nD Cert.StepIdeal.τ).loc Cert.StepIdeal.main_arg8)) →
    ∃ (v0 : (c : Dev Cert.StepIdeal.nD) → Buf (Elt Ideal) ((c.tc : Thread Cert.StepIdeal.nD Cert.StepIdeal.τ).loc Cert.StepIdeal.main_v0_0)) (v1 : (c : Dev Cert.StepIdeal.nD) → Buf (Elt Ideal) ((c.tc : Thread Cert.StepIdeal.nD Cert.StepIdeal.τ).loc Cert.StepIdeal.main_v0_1)) (v2 : (c : Dev Cert.StepIdeal.nD) → Buf (Elt Ideal) ((c.tc : Thread Cert.StepIdeal.nD Cert.StepIdeal.τ).loc Cert.StepIdeal.main_v0_2)) (v3 : (c : Dev Cert.StepIdeal.nD) → Buf (Elt Ideal) ((c.tc : Thread Cert.StepIdeal.nD Cert.StepIdeal.τ).loc Cert.StepIdeal.main_v0_3)) (v4 : (c : Dev Cert.StepIdeal.nD) → Buf (Elt Ideal) ((c.tc : Thread Cert.StepIdeal.nD Cert.StepIdeal.τ).loc Cert.StepIdeal.main_v0_4)),
      θ_run (Cert.StepIdeal.defs (F := Ideal)) (onTc (τ := Cert.StepIdeal.τ) (Cert.StepIdeal.main (F := Ideal))) ⟨m, fun _ => 0, g⟩ (fun r => ∀ c : Dev Cert.StepIdeal.nD,
          r.2.mem ((c.tc : Thread Cert.StepIdeal.nD Cert.StepIdeal.τ).loc Cert.StepIdeal.main_v0_0) = v0 c
          ∧ r.2.mem ((c.tc : Thread Cert.StepIdeal.nD Cert.StepIdeal.τ).loc Cert.StepIdeal.main_v0_1) = v1 c
          ∧ r.2.mem ((c.tc : Thread Cert.StepIdeal.nD Cert.StepIdeal.τ).loc Cert.StepIdeal.main_v0_2) = v2 c
          ∧ r.2.mem ((c.tc : Thread Cert.StepIdeal.nD Cert.StepIdeal.τ).loc Cert.StepIdeal.main_v0_3) = v3 c
          ∧ r.2.mem ((c.tc : Thread Cert.StepIdeal.nD Cert.StepIdeal.τ).loc Cert.StepIdeal.main_v0_4) = v4 c
          ∧ r.2.mem ((c.tc : Thread Cert.StepIdeal.nD Cert.StepIdeal.τ).loc Cert.StepIdeal.main_arg0) = m ((c.tc : Thread Cert.StepIdeal.nD Cert.StepIdeal.τ).loc Cert.StepIdeal.main_arg0)
          ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
          ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
          ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
          ∧ r.2.mem ((c.tc : Thread Cert.StepIdeal.nD Cert.StepIdeal.τ).loc Cert.StepIdeal.main_arg4) = m ((c.tc : Thread Cert.StepIdeal.nD Cert.StepIdeal.τ).loc Cert.StepIdeal.main_arg4)
          ∧ r.2.mem ((c.tc : Thread Cert.StepIdeal.nD Cert.StepIdeal.τ).loc Cert.StepIdeal.main_arg5) = m ((c.tc : Thread Cert.StepIdeal.nD Cert.StepIdeal.τ).loc Cert.StepIdeal.main_arg5)
          ∧ r.2.mem ((c.tc : Thread Cert.StepIdeal.nD Cert.StepIdeal.τ).loc Cert.StepIdeal.main_arg6) = m ((c.tc : Thread Cert.StepIdeal.nD Cert.StepIdeal.τ).loc Cert.StepIdeal.main_arg6)
          ∧ r.2.mem ((c.tc : Thread Cert.StepIdeal.nD Cert.StepIdeal.τ).loc Cert.StepIdeal.main_arg7) = m ((c.tc : Thread Cert.StepIdeal.nD Cert.StepIdeal.τ).loc Cert.StepIdeal.main_arg7)
          ∧ r.2.mem ((c.tc : Thread Cert.StepIdeal.nD Cert.StepIdeal.τ).loc Cert.StepIdeal.main_arg8) = m ((c.tc : Thread Cert.StepIdeal.nD Cert.StepIdeal.τ).loc Cert.StepIdeal.main_arg8))
      ∧ θ_run (Cert.StepRefIdeal.defs (F := Ideal)) (onTc (τ := Cert.StepRefIdeal.τ) (Cert.StepRefIdeal.main (F := Ideal))) ⟨m', fun _ => 0, g'⟩ (fun r => ∀ c : Dev Cert.StepRefIdeal.nD,
          r.2.mem ((c.tc : Thread Cert.StepRefIdeal.nD Cert.StepRefIdeal.τ).loc Cert.StepRefIdeal.main_v148) = v0 c
          ∧ r.2.mem ((c.tc : Thread Cert.StepRefIdeal.nD Cert.StepRefIdeal.τ).loc Cert.StepRefIdeal.main_v149) = v1 c
          ∧ r.2.mem ((c.tc : Thread Cert.StepRefIdeal.nD Cert.StepRefIdeal.τ).loc Cert.StepRefIdeal.main_v147) = v2 c
          ∧ r.2.mem ((c.tc : Thread Cert.StepRefIdeal.nD Cert.StepRefIdeal.τ).loc Cert.StepRefIdeal.main_v150) = v3 c
          ∧ r.2.mem ((c.tc : Thread Cert.StepRefIdeal.nD Cert.StepRefIdeal.τ).loc Cert.StepRefIdeal.main_v151) = v4 c
          ∧ r.2.mem ((c.tc : Thread Cert.StepRefIdeal.nD Cert.StepRefIdeal.τ).loc Cert.StepRefIdeal.main_arg0) = m' ((c.tc : Thread Cert.StepRefIdeal.nD Cert.StepRefIdeal.τ).loc Cert.StepRefIdeal.main_arg0)
          ∧ r.2.mem ((c.tc : Thread Cert.StepRefIdeal.nD Cert.StepRefIdeal.τ).loc Cert.StepRefIdeal.main_arg1) = m' ((c.tc : Thread Cert.StepRefIdeal.nD Cert.StepRefIdeal.τ).loc Cert.StepRefIdeal.main_arg1)
          ∧ r.2.mem ((c.tc : Thread Cert.StepRefIdeal.nD Cert.StepRefIdeal.τ).loc Cert.StepRefIdeal.main_arg2) = m' ((c.tc : Thread Cert.StepRefIdeal.nD Cert.StepRefIdeal.τ).loc Cert.StepRefIdeal.main_arg2)
          ∧ r.2.mem ((c.tc : Thread Cert.StepRefIdeal.nD Cert.StepRefIdeal.τ).loc Cert.StepRefIdeal.main_arg3) = m' ((c.tc : Thread Cert.StepRefIdeal.nD Cert.StepRefIdeal.τ).loc Cert.StepRefIdeal.main_arg3)
          ∧ r.2.mem ((c.tc : Thread Cert.StepRefIdeal.nD Cert.StepRefIdeal.τ).loc Cert.StepRefIdeal.main_arg4) = m' ((c.tc : Thread Cert.StepRefIdeal.nD Cert.StepRefIdeal.τ).loc Cert.StepRefIdeal.main_arg4)
          ∧ r.2.mem ((c.tc : Thread Cert.StepRefIdeal.nD Cert.StepRefIdeal.τ).loc Cert.StepRefIdeal.main_arg5) = m' ((c.tc : Thread Cert.StepRefIdeal.nD Cert.StepRefIdeal.τ).loc Cert.StepRefIdeal.main_arg5)
          ∧ r.2.mem ((c.tc : Thread Cert.StepRefIdeal.nD Cert.StepRefIdeal.τ).loc Cert.StepRefIdeal.main_arg6) = m' ((c.tc : Thread Cert.StepRefIdeal.nD Cert.StepRefIdeal.τ).loc Cert.StepRefIdeal.main_arg6)
          ∧ r.2.mem ((c.tc : Thread Cert.StepRefIdeal.nD Cert.StepRefIdeal.τ).loc Cert.StepRefIdeal.main_arg7) = m' ((c.tc : Thread Cert.StepRefIdeal.nD Cert.StepRefIdeal.τ).loc Cert.StepRefIdeal.main_arg7)
          ∧ r.2.mem ((c.tc : Thread Cert.StepRefIdeal.nD Cert.StepRefIdeal.τ).loc Cert.StepRefIdeal.main_arg8) = m' ((c.tc : Thread Cert.StepRefIdeal.nD Cert.StepRefIdeal.τ).loc Cert.StepRefIdeal.main_arg8))

def Claim : Prop :=
  ∃ (hGate : Cert.Gate.Facts) (hGateIdeal : Cert.GateIdeal.Facts) (hGateRefIdeal : Cert.GateRefIdeal.Facts) (hTap : Cert.Tap.Facts) (hTapIdeal : Cert.TapIdeal.Facts) (hTapRefIdeal : Cert.TapRefIdeal.Facts) (hIn : Cert.In.Facts) (hInIdeal : Cert.InIdeal.Facts) (hInRefIdeal : Cert.InRefIdeal.Facts) (hWConvIn : Cert.WConvIn.Facts) (hWConvInIdeal : Cert.WConvInIdeal.Facts) (hWConvInRefIdeal : Cert.WConvInRefIdeal.Facts) (hWConvOut : Cert.WConvOut.Facts) (hWConvOutIdeal : Cert.WConvOutIdeal.Facts) (hWConvOutRefIdeal : Cert.WConvOutRefIdeal.Facts) (hWSsmIn : Cert.WSsmIn.Facts) (hWSsmInIdeal : Cert.WSsmInIdeal.Facts) (hWSsmInRefIdeal : Cert.WSsmInRefIdeal.Facts) (hWGlu : Cert.WGlu.Facts) (hWGluIdeal : Cert.WGluIdeal.Facts) (hWGluRefIdeal : Cert.WGluRefIdeal.Facts) (hWSsmOut : Cert.WSsmOut.Facts) (hWSsmOutIdeal : Cert.WSsmOutIdeal.Facts) (hWSsmOutRefIdeal : Cert.WSsmOutRefIdeal.Facts) (hProject : Cert.Project.Facts) (hProjectIdeal : Cert.ProjectIdeal.Facts) (hProjectRefIdeal : Cert.ProjectRefIdeal.Facts) (hProjectZ : Cert.ProjectZ.Facts) (hProjectZIdeal : Cert.ProjectZIdeal.Facts) (hProjectZRefIdeal : Cert.ProjectZRefIdeal.Facts) (hAdamConvIn : Cert.AdamConvIn.Facts) (hAdamConvInIdeal : Cert.AdamConvInIdeal.Facts) (hAdamConvInRefIdeal : Cert.AdamConvInRefIdeal.Facts) (hAdamOut : Cert.AdamOut.Facts) (hAdamOutIdeal : Cert.AdamOutIdeal.Facts) (hAdamOutRefIdeal : Cert.AdamOutRefIdeal.Facts) (hAdamSsmIn : Cert.AdamSsmIn.Facts) (hAdamSsmInIdeal : Cert.AdamSsmInIdeal.Facts) (hAdamSsmInRefIdeal : Cert.AdamSsmInRefIdeal.Facts) (hAdamGlu : Cert.AdamGlu.Facts) (hAdamGluIdeal : Cert.AdamGluIdeal.Facts) (hAdamGluRefIdeal : Cert.AdamGluRefIdeal.Facts) (hAdamAda : Cert.AdamAda.Facts) (hAdamAdaIdeal : Cert.AdamAdaIdeal.Facts) (hAdamAdaRefIdeal : Cert.AdamAdaRefIdeal.Facts) (hAdamCtx : Cert.AdamCtx.Facts) (hAdamCtxIdeal : Cert.AdamCtxIdeal.Facts) (hAdamCtxRefIdeal : Cert.AdamCtxRefIdeal.Facts) (hAdamAdaB : Cert.AdamAdaB.Facts) (hAdamAdaBIdeal : Cert.AdamAdaBIdeal.Facts) (hAdamAdaBRefIdeal : Cert.AdamAdaBRefIdeal.Facts) (hAdamLn : Cert.AdamLn.Facts) (hAdamLnIdeal : Cert.AdamLnIdeal.Facts) (hAdamLnRefIdeal : Cert.AdamLnRefIdeal.Facts) (hAdamTaps : Cert.AdamTaps.Facts) (hAdamTapsIdeal : Cert.AdamTapsIdeal.Facts) (hAdamTapsRefIdeal : Cert.AdamTapsRefIdeal.Facts) (hAdamLam : Cert.AdamLam.Facts) (hAdamLamIdeal : Cert.AdamLamIdeal.Facts) (hAdamLamRefIdeal : Cert.AdamLamRefIdeal.Facts) (hAdamStep : Cert.AdamStep.Facts) (hAdamStepIdeal : Cert.AdamStepIdeal.Facts) (hAdamStepRefIdeal : Cert.AdamStepRefIdeal.Facts) (hAdamBC : Cert.AdamBC.Facts) (hAdamBCIdeal : Cert.AdamBCIdeal.Facts) (hAdamBCRefIdeal : Cert.AdamBCRefIdeal.Facts) (hAdamRow : Cert.AdamRow.Facts) (hAdamRowIdeal : Cert.AdamRowIdeal.Facts) (hAdamRowRefIdeal : Cert.AdamRowRefIdeal.Facts) (hSumConvIn : Cert.SumConvIn.Facts) (hSumConvInIdeal : Cert.SumConvInIdeal.Facts) (hSumConvInRefIdeal : Cert.SumConvInRefIdeal.Facts) (hSumSsmIn : Cert.SumSsmIn.Facts) (hSumSsmInIdeal : Cert.SumSsmInIdeal.Facts) (hSumSsmInRefIdeal : Cert.SumSsmInRefIdeal.Facts) (hSumOut : Cert.SumOut.Facts) (hSumOutIdeal : Cert.SumOutIdeal.Facts) (hSumOutRefIdeal : Cert.SumOutRefIdeal.Facts) (hSumGlu : Cert.SumGlu.Facts) (hSumGluIdeal : Cert.SumGluIdeal.Facts) (hSumGluRefIdeal : Cert.SumGluRefIdeal.Facts) (hSumSmall : Cert.SumSmall.Facts) (hSumSmallIdeal : Cert.SumSmallIdeal.Facts) (hSumSmallRefIdeal : Cert.SumSmallRefIdeal.Facts) (hModulate : Cert.Modulate.Facts) (hModulateIdeal : Cert.ModulateIdeal.Facts) (hModulateRefIdeal : Cert.ModulateRefIdeal.Facts) (hModulation : Cert.Modulation.Facts) (hModulationIdeal : Cert.ModulationIdeal.Facts) (hModulationRefIdeal : Cert.ModulationRefIdeal.Facts) (hContext : Cert.Context.Facts) (hContextIdeal : Cert.ContextIdeal.Facts) (hContextRefIdeal : Cert.ContextRefIdeal.Facts) (hStep : Cert.Step.Facts) (hStepIdeal : Cert.StepIdeal.Facts) (hStepRefIdeal : Cert.StepRefIdeal.Facts) (hPre_gate_finite : Cert.Pre_gate_finite.Facts) (hPre_context_finite : Cert.Pre_context_finite.Facts),
    quiescent_Gate (hGate := hGate)
    ∧ quiescent_GateIdeal (hGateIdeal := hGateIdeal)
    ∧ quiescent_GateIdeal_pre_gate_finite (hGateIdeal := hGateIdeal) (hPre_gate_finite := hPre_gate_finite)
    ∧ quiescent_GateRefIdeal (hGateRefIdeal := hGateRefIdeal)
    ∧ quiescent_GateRefIdeal_pre_gate_finite (hGateRefIdeal := hGateRefIdeal) (hPre_gate_finite := hPre_gate_finite)
    ∧ quiescent_Tap (hTap := hTap)
    ∧ quiescent_TapIdeal (hTapIdeal := hTapIdeal)
    ∧ quiescent_TapRefIdeal (hTapRefIdeal := hTapRefIdeal)
    ∧ quiescent_In (hIn := hIn)
    ∧ quiescent_InIdeal (hInIdeal := hInIdeal)
    ∧ quiescent_InRefIdeal (hInRefIdeal := hInRefIdeal)
    ∧ quiescent_WConvIn (hWConvIn := hWConvIn)
    ∧ quiescent_WConvInIdeal (hWConvInIdeal := hWConvInIdeal)
    ∧ quiescent_WConvInRefIdeal (hWConvInRefIdeal := hWConvInRefIdeal)
    ∧ quiescent_WConvOut (hWConvOut := hWConvOut)
    ∧ quiescent_WConvOutIdeal (hWConvOutIdeal := hWConvOutIdeal)
    ∧ quiescent_WConvOutRefIdeal (hWConvOutRefIdeal := hWConvOutRefIdeal)
    ∧ quiescent_WSsmIn (hWSsmIn := hWSsmIn)
    ∧ quiescent_WSsmInIdeal (hWSsmInIdeal := hWSsmInIdeal)
    ∧ quiescent_WSsmInRefIdeal (hWSsmInRefIdeal := hWSsmInRefIdeal)
    ∧ quiescent_WGlu (hWGlu := hWGlu)
    ∧ quiescent_WGluIdeal (hWGluIdeal := hWGluIdeal)
    ∧ quiescent_WGluRefIdeal (hWGluRefIdeal := hWGluRefIdeal)
    ∧ quiescent_WSsmOut (hWSsmOut := hWSsmOut)
    ∧ quiescent_WSsmOutIdeal (hWSsmOutIdeal := hWSsmOutIdeal)
    ∧ quiescent_WSsmOutRefIdeal (hWSsmOutRefIdeal := hWSsmOutRefIdeal)
    ∧ quiescent_Project (hProject := hProject)
    ∧ quiescent_ProjectIdeal (hProjectIdeal := hProjectIdeal)
    ∧ quiescent_ProjectRefIdeal (hProjectRefIdeal := hProjectRefIdeal)
    ∧ quiescent_ProjectZ (hProjectZ := hProjectZ)
    ∧ quiescent_ProjectZIdeal (hProjectZIdeal := hProjectZIdeal)
    ∧ quiescent_ProjectZRefIdeal (hProjectZRefIdeal := hProjectZRefIdeal)
    ∧ quiescent_AdamConvIn (hAdamConvIn := hAdamConvIn)
    ∧ quiescent_AdamConvInIdeal (hAdamConvInIdeal := hAdamConvInIdeal)
    ∧ quiescent_AdamConvInRefIdeal (hAdamConvInRefIdeal := hAdamConvInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamSsmIn (hAdamSsmIn := hAdamSsmIn)
    ∧ quiescent_AdamSsmInIdeal (hAdamSsmInIdeal := hAdamSsmInIdeal)
    ∧ quiescent_AdamSsmInRefIdeal (hAdamSsmInRefIdeal := hAdamSsmInRefIdeal)
    ∧ quiescent_AdamGlu (hAdamGlu := hAdamGlu)
    ∧ quiescent_AdamGluIdeal (hAdamGluIdeal := hAdamGluIdeal)
    ∧ quiescent_AdamGluRefIdeal (hAdamGluRefIdeal := hAdamGluRefIdeal)
    ∧ quiescent_AdamAda (hAdamAda := hAdamAda)
    ∧ quiescent_AdamAdaIdeal (hAdamAdaIdeal := hAdamAdaIdeal)
    ∧ quiescent_AdamAdaRefIdeal (hAdamAdaRefIdeal := hAdamAdaRefIdeal)
    ∧ quiescent_AdamCtx (hAdamCtx := hAdamCtx)
    ∧ quiescent_AdamCtxIdeal (hAdamCtxIdeal := hAdamCtxIdeal)
    ∧ quiescent_AdamCtxRefIdeal (hAdamCtxRefIdeal := hAdamCtxRefIdeal)
    ∧ quiescent_AdamAdaB (hAdamAdaB := hAdamAdaB)
    ∧ quiescent_AdamAdaBIdeal (hAdamAdaBIdeal := hAdamAdaBIdeal)
    ∧ quiescent_AdamAdaBRefIdeal (hAdamAdaBRefIdeal := hAdamAdaBRefIdeal)
    ∧ quiescent_AdamLn (hAdamLn := hAdamLn)
    ∧ quiescent_AdamLnIdeal (hAdamLnIdeal := hAdamLnIdeal)
    ∧ quiescent_AdamLnRefIdeal (hAdamLnRefIdeal := hAdamLnRefIdeal)
    ∧ quiescent_AdamTaps (hAdamTaps := hAdamTaps)
    ∧ quiescent_AdamTapsIdeal (hAdamTapsIdeal := hAdamTapsIdeal)
    ∧ quiescent_AdamTapsRefIdeal (hAdamTapsRefIdeal := hAdamTapsRefIdeal)
    ∧ quiescent_AdamLam (hAdamLam := hAdamLam)
    ∧ quiescent_AdamLamIdeal (hAdamLamIdeal := hAdamLamIdeal)
    ∧ quiescent_AdamLamRefIdeal (hAdamLamRefIdeal := hAdamLamRefIdeal)
    ∧ quiescent_AdamStep (hAdamStep := hAdamStep)
    ∧ quiescent_AdamStepIdeal (hAdamStepIdeal := hAdamStepIdeal)
    ∧ quiescent_AdamStepRefIdeal (hAdamStepRefIdeal := hAdamStepRefIdeal)
    ∧ quiescent_AdamBC (hAdamBC := hAdamBC)
    ∧ quiescent_AdamBCIdeal (hAdamBCIdeal := hAdamBCIdeal)
    ∧ quiescent_AdamBCRefIdeal (hAdamBCRefIdeal := hAdamBCRefIdeal)
    ∧ quiescent_AdamRow (hAdamRow := hAdamRow)
    ∧ quiescent_AdamRowIdeal (hAdamRowIdeal := hAdamRowIdeal)
    ∧ quiescent_AdamRowRefIdeal (hAdamRowRefIdeal := hAdamRowRefIdeal)
    ∧ quiescent_SumConvIn (hSumConvIn := hSumConvIn)
    ∧ quiescent_SumConvInIdeal (hSumConvInIdeal := hSumConvInIdeal)
    ∧ quiescent_SumConvInRefIdeal (hSumConvInRefIdeal := hSumConvInRefIdeal)
    ∧ quiescent_SumSsmIn (hSumSsmIn := hSumSsmIn)
    ∧ quiescent_SumSsmInIdeal (hSumSsmInIdeal := hSumSsmInIdeal)
    ∧ quiescent_SumSsmInRefIdeal (hSumSsmInRefIdeal := hSumSsmInRefIdeal)
    ∧ quiescent_SumOut (hSumOut := hSumOut)
    ∧ quiescent_SumOutIdeal (hSumOutIdeal := hSumOutIdeal)
    ∧ quiescent_SumOutRefIdeal (hSumOutRefIdeal := hSumOutRefIdeal)
    ∧ quiescent_SumGlu (hSumGlu := hSumGlu)
    ∧ quiescent_SumGluIdeal (hSumGluIdeal := hSumGluIdeal)
    ∧ quiescent_SumGluRefIdeal (hSumGluRefIdeal := hSumGluRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ quiescent_Modulate (hModulate := hModulate)
    ∧ quiescent_ModulateIdeal (hModulateIdeal := hModulateIdeal)
    ∧ quiescent_ModulateRefIdeal (hModulateRefIdeal := hModulateRefIdeal)
    ∧ quiescent_Modulation (hModulation := hModulation)
    ∧ quiescent_ModulationIdeal (hModulationIdeal := hModulationIdeal)
    ∧ quiescent_ModulationRefIdeal (hModulationRefIdeal := hModulationRefIdeal)
    ∧ quiescent_Context (hContext := hContext)
    ∧ quiescent_ContextIdeal (hContextIdeal := hContextIdeal)
    ∧ quiescent_ContextIdeal_pre_context_finite (hContextIdeal := hContextIdeal) (hPre_context_finite := hPre_context_finite)
    ∧ quiescent_ContextRefIdeal (hContextRefIdeal := hContextRefIdeal)
    ∧ quiescent_ContextRefIdeal_pre_context_finite (hContextRefIdeal := hContextRefIdeal) (hPre_context_finite := hPre_context_finite)
    ∧ quiescent_Step (hStep := hStep)
    ∧ quiescent_StepIdeal (hStepIdeal := hStepIdeal)
    ∧ quiescent_StepRefIdeal (hStepRefIdeal := hStepRefIdeal)
    ∧ preserves_Gate_GateIdeal
    ∧ algebraic_GateIdeal_GateRefIdeal_pre_gate_finite (hGateIdeal := hGateIdeal) (hGateRefIdeal := hGateRefIdeal) (hPre_gate_finite := hPre_gate_finite)
    ∧ preserves_Tap_TapIdeal
    ∧ algebraic_TapIdeal_TapRefIdeal (hTapIdeal := hTapIdeal) (hTapRefIdeal := hTapRefIdeal)
    ∧ preserves_In_InIdeal
    ∧ algebraic_InIdeal_InRefIdeal (hInIdeal := hInIdeal) (hInRefIdeal := hInRefIdeal)
    ∧ preserves_WConvIn_WConvInIdeal
    ∧ algebraic_WConvInIdeal_WConvInRefIdeal (hWConvInIdeal := hWConvInIdeal) (hWConvInRefIdeal := hWConvInRefIdeal)
    ∧ preserves_WConvOut_WConvOutIdeal
    ∧ algebraic_WConvOutIdeal_WConvOutRefIdeal (hWConvOutIdeal := hWConvOutIdeal) (hWConvOutRefIdeal := hWConvOutRefIdeal)
    ∧ preserves_WSsmIn_WSsmInIdeal
    ∧ algebraic_WSsmInIdeal_WSsmInRefIdeal (hWSsmInIdeal := hWSsmInIdeal) (hWSsmInRefIdeal := hWSsmInRefIdeal)
    ∧ preserves_WGlu_WGluIdeal
    ∧ algebraic_WGluIdeal_WGluRefIdeal (hWGluIdeal := hWGluIdeal) (hWGluRefIdeal := hWGluRefIdeal)
    ∧ preserves_WSsmOut_WSsmOutIdeal
    ∧ algebraic_WSsmOutIdeal_WSsmOutRefIdeal (hWSsmOutIdeal := hWSsmOutIdeal) (hWSsmOutRefIdeal := hWSsmOutRefIdeal)
    ∧ preserves_Project_ProjectIdeal
    ∧ algebraic_ProjectIdeal_ProjectRefIdeal (hProjectIdeal := hProjectIdeal) (hProjectRefIdeal := hProjectRefIdeal)
    ∧ preserves_ProjectZ_ProjectZIdeal
    ∧ algebraic_ProjectZIdeal_ProjectZRefIdeal (hProjectZIdeal := hProjectZIdeal) (hProjectZRefIdeal := hProjectZRefIdeal)
    ∧ preserves_AdamConvIn_AdamConvInIdeal
    ∧ algebraic_AdamConvInIdeal_AdamConvInRefIdeal (hAdamConvInIdeal := hAdamConvInIdeal) (hAdamConvInRefIdeal := hAdamConvInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamSsmIn_AdamSsmInIdeal
    ∧ algebraic_AdamSsmInIdeal_AdamSsmInRefIdeal (hAdamSsmInIdeal := hAdamSsmInIdeal) (hAdamSsmInRefIdeal := hAdamSsmInRefIdeal)
    ∧ preserves_AdamGlu_AdamGluIdeal
    ∧ algebraic_AdamGluIdeal_AdamGluRefIdeal (hAdamGluIdeal := hAdamGluIdeal) (hAdamGluRefIdeal := hAdamGluRefIdeal)
    ∧ preserves_AdamAda_AdamAdaIdeal
    ∧ algebraic_AdamAdaIdeal_AdamAdaRefIdeal (hAdamAdaIdeal := hAdamAdaIdeal) (hAdamAdaRefIdeal := hAdamAdaRefIdeal)
    ∧ preserves_AdamCtx_AdamCtxIdeal
    ∧ algebraic_AdamCtxIdeal_AdamCtxRefIdeal (hAdamCtxIdeal := hAdamCtxIdeal) (hAdamCtxRefIdeal := hAdamCtxRefIdeal)
    ∧ preserves_AdamAdaB_AdamAdaBIdeal
    ∧ algebraic_AdamAdaBIdeal_AdamAdaBRefIdeal (hAdamAdaBIdeal := hAdamAdaBIdeal) (hAdamAdaBRefIdeal := hAdamAdaBRefIdeal)
    ∧ preserves_AdamLn_AdamLnIdeal
    ∧ algebraic_AdamLnIdeal_AdamLnRefIdeal (hAdamLnIdeal := hAdamLnIdeal) (hAdamLnRefIdeal := hAdamLnRefIdeal)
    ∧ preserves_AdamTaps_AdamTapsIdeal
    ∧ algebraic_AdamTapsIdeal_AdamTapsRefIdeal (hAdamTapsIdeal := hAdamTapsIdeal) (hAdamTapsRefIdeal := hAdamTapsRefIdeal)
    ∧ preserves_AdamLam_AdamLamIdeal
    ∧ algebraic_AdamLamIdeal_AdamLamRefIdeal (hAdamLamIdeal := hAdamLamIdeal) (hAdamLamRefIdeal := hAdamLamRefIdeal)
    ∧ preserves_AdamStep_AdamStepIdeal
    ∧ algebraic_AdamStepIdeal_AdamStepRefIdeal (hAdamStepIdeal := hAdamStepIdeal) (hAdamStepRefIdeal := hAdamStepRefIdeal)
    ∧ preserves_AdamBC_AdamBCIdeal
    ∧ algebraic_AdamBCIdeal_AdamBCRefIdeal (hAdamBCIdeal := hAdamBCIdeal) (hAdamBCRefIdeal := hAdamBCRefIdeal)
    ∧ preserves_AdamRow_AdamRowIdeal
    ∧ algebraic_AdamRowIdeal_AdamRowRefIdeal (hAdamRowIdeal := hAdamRowIdeal) (hAdamRowRefIdeal := hAdamRowRefIdeal)
    ∧ preserves_SumConvIn_SumConvInIdeal
    ∧ algebraic_SumConvInIdeal_SumConvInRefIdeal (hSumConvInIdeal := hSumConvInIdeal) (hSumConvInRefIdeal := hSumConvInRefIdeal)
    ∧ preserves_SumSsmIn_SumSsmInIdeal
    ∧ algebraic_SumSsmInIdeal_SumSsmInRefIdeal (hSumSsmInIdeal := hSumSsmInIdeal) (hSumSsmInRefIdeal := hSumSsmInRefIdeal)
    ∧ preserves_SumOut_SumOutIdeal
    ∧ algebraic_SumOutIdeal_SumOutRefIdeal (hSumOutIdeal := hSumOutIdeal) (hSumOutRefIdeal := hSumOutRefIdeal)
    ∧ preserves_SumGlu_SumGluIdeal
    ∧ algebraic_SumGluIdeal_SumGluRefIdeal (hSumGluIdeal := hSumGluIdeal) (hSumGluRefIdeal := hSumGluRefIdeal)
    ∧ preserves_SumSmall_SumSmallIdeal
    ∧ algebraic_SumSmallIdeal_SumSmallRefIdeal (hSumSmallIdeal := hSumSmallIdeal) (hSumSmallRefIdeal := hSumSmallRefIdeal)
    ∧ preserves_Modulate_ModulateIdeal
    ∧ algebraic_ModulateIdeal_ModulateRefIdeal (hModulateIdeal := hModulateIdeal) (hModulateRefIdeal := hModulateRefIdeal)
    ∧ preserves_Modulation_ModulationIdeal
    ∧ algebraic_ModulationIdeal_ModulationRefIdeal (hModulationIdeal := hModulationIdeal) (hModulationRefIdeal := hModulationRefIdeal)
    ∧ preserves_Context_ContextIdeal
    ∧ algebraic_ContextIdeal_ContextRefIdeal_pre_context_finite (hContextIdeal := hContextIdeal) (hContextRefIdeal := hContextRefIdeal) (hPre_context_finite := hPre_context_finite)
    ∧ preserves_Step_StepIdeal
    ∧ algebraic_StepIdeal_StepRefIdeal (hStepIdeal := hStepIdeal) (hStepRefIdeal := hStepRefIdeal)
-- ==== Pre_context_finite.lean ====
abbrev S4x8x1024 : Shape := ⟨3, ![4, 8, 1024]⟩
abbrev S1x1024 : Shape := ⟨2, ![1, 1024]⟩
abbrev S4x1x1024 : Shape := ⟨3, ![4, 1, 1024]⟩
abbrev S_ : Shape := ⟨0, ![]⟩

class Facts : Prop where
  slices_S4x8x1024_S4x1x1024_0_0_0 : S4x8x1024.Slices ![0, 0, 0] S4x1x1024
  reducesTo_S4x1x1024_S1x1024_d0 : S4x1x1024.ReducesTo [0] S1x1024
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn {F : FTy → Type} [FloatOps F] (main_arg0 : FVec F S4x8x1024 .f32) (main_arg1 : FVec F S1x1024 .f32) : IVec S_ 1 :=
  let main_v0 : FVec F S4x1x1024 .f32 := (extractStridedSlice S4x1x1024 ![0, 0, 0] · slices_S4x8x1024_S4x1x1024_0_0_0) main_arg0
  let main_cst : FVec F S_ .f32 := constant S_ .f32 0x00000000#32
  let main_v1 : FVec F S1x1024 .f32 := (fun x v => Host.reduceAdd x v reducesTo_S4x1x1024_S1x1024_d0 h_S_) main_v0 main_cst
  let main_v2 : FVec F S1x1024 .f32 := Host.absf main_v1
  let main_cst_0 : FVec F S_ .f32 := constant S_ .f32 0x7F800000#32
  let main_v3 : FVec F S1x1024 .f32 := broadcastInDim S1x1024 ![] bcast_S_S1x1024 main_cst_0
  let main_v4 : IVec S1x1024 1 := cmpf .olt main_v2 main_v3
  let main_c : IVec S_ 1 := constantI S_ 1 1#1
  let main_v5 : IVec S_ 1 := (fun x v => Host.reduce IntOp.andi x v reducesTo_S1x1024_S_d0_1 h_S_) main_v4 main_c
  main_v5
-- ==== Pre_gate_finite.lean ====
abbrev S16384x1024 : Shape := ⟨2, ![16384, 1024]⟩
abbrev S2048x1024 : Shape := ⟨2, ![2048, 1024]⟩
abbrev S4x16384x2048 : Shape := ⟨3, ![4, 16384, 2048]⟩
abbrev S16384x2048 : Shape := ⟨2, ![16384, 2048]⟩
abbrev S_ : Shape := ⟨0, ![]⟩
abbrev S1x16384x2048 : Shape := ⟨3, ![1, 16384, 2048]⟩

class Facts : Prop where
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  slices_S4x16384x2048_S1x16384x2048_0_0_0 : S4x16384x2048.Slices ![0, 0, 0] S1x16384x2048
  shapeCasts_S1x16384x2048_S16384x2048 : S1x16384x2048.ShapeCasts S16384x2048
  bcast_S_S16384x2048 : S_.BroadcastsInDim S16384x2048 (![] : Fin 0 → Fin S16384x2048.rank)
  reducesTo_S16384x2048_S_d0_1 : S16384x2048.ReducesTo [0, 1] S_

variable [Facts]

def fn_part1 {F : FTy → Type} [FloatOps F] (main_arg3 : FVec F S16384x2048 .bf16) (main_v10 : IVec S_ 1) (main_v17 : IVec S_ 1) : IVec S_ 1 :=
  let main_v18 : IVec S_ 1 := andi main_v10 main_v17
  let main_v19 : FVec F S16384x2048 .f32 := (extf .f32 · bitsLt_bf16_f32) main_arg3
  let main_v20 : FVec F S16384x2048 .f32 := Host.absf main_v19
  let main_cst_4 : FVec F S_ .f32 := constant S_ .f32 0x7F800000#32
  let main_v21 : FVec F S16384x2048 .f32 := broadcastInDim S16384x2048 ![] bcast_S_S16384x2048 main_cst_4
  let main_v22 : IVec S16384x2048 1 := cmpf .olt main_v20 main_v21
  let main_c_5 : IVec S_ 1 := constantI S_ 1 1#1
  let main_v23 : IVec S_ 1 := (fun x v => Host.reduce IntOp.andi x v reducesTo_S16384x2048_S_d0_1 h_S_) main_v22 main_c_5
  let main_v24 : IVec S_ 1 := andi main_v18 main_v23
  main_v24

def fn {F : FTy → Type} [FloatOps F] (main_arg0 : FVec F S16384x1024 .bf16) (main_arg1 : FVec F S2048x1024 .bf16) (main_arg2 : FVec F S4x16384x2048 .bf16) (main_arg3 : FVec F S16384x2048 .bf16) : IVec S_ 1 :=
  let main_v0 : FVec F S16384x1024 .f32 := (extf .f32 · bitsLt_bf16_f32) main_arg0
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_c : IVec S_ 1 := constantI S_ 1 1#1
  let main_v4 : IVec S_ 1 := (fun x v => Host.reduce IntOp.andi x v reducesTo_S16384x1024_S_d0_1 h_S_) main_v3 main_c
  let main_v5 : FVec F S2048x1024 .f32 := (extf .f32 · bitsLt_bf16_f32) main_arg1
  let main_v6 : FVec F S2048x1024 .f32 := Host.absf main_v5
  let main_cst_0 : FVec F S_ .f32 := constant S_ .f32 0x7F800000#32
  let main_v7 : FVec F S2048x1024 .f32 := broadcastInDim S2048x1024 ![] bcast_S_S2048x1024 main_cst_0
  let main_v8 : IVec S2048x1024 1 := cmpf .olt main_v6 main_v7
  let main_c_1 : IVec S_ 1 := constantI S_ 1 1#1
  let main_v9 : IVec S_ 1 := (fun x v => Host.reduce IntOp.andi x v reducesTo_S2048x1024_S_d0_1 h_S_) main_v8 main_c_1
  let main_v10 : IVec S_ 1 := andi main_v4 main_v9
  let main_v11 : FVec F S1x16384x2048 .bf16 := (extractStridedSlice S1x16384x2048 ![0, 0, 0] · slices_S4x16384x2048_S1x16384x2048_0_0_0) main_arg2
  let main_v12 : FVec F S16384x2048 .bf16 := shapeCast S16384x2048 main_v11 shapeCasts_S1x16384x2048_S16384x2048
  let main_v13 : FVec F S16384x2048 .f32 := (extf .f32 · bitsLt_bf16_f32) main_v12
  let main_v14 : FVec F S16384x2048 .f32 := Host.absf main_v13
  let main_cst_2 : FVec F S_ .f32 := constant S_ .f32 0x7F800000#32
  let main_v15 : FVec F S16384x2048 .f32 := broadcastInDim S16384x2048 ![] bcast_S_S16384x2048 main_cst_2
  let main_v16 : IVec S16384x2048 1 := cmpf .olt main_v14 main_v15
  let main_c_3 : IVec S_ 1 := constantI S_ 1 1#1
  let main_v17 : IVec S_ 1 := (fun x v => Host.reduce IntOp.andi x v reducesTo_S16384x2048_S_d0_1 h_S_) main_v16 main_c_3
  fn_part1 (F := F) main_arg3 main_v10 main_v17
-- ==== Gate.lean ====
abbrev S16384x1024 : Shape := ⟨2, ![16384, 1024]⟩
abbrev S2048x1024 : Shape := ⟨2, ![2048, 1024]⟩
abbrev S4x16384x2048 : Shape := ⟨3, ![4, 16384, 2048]⟩
abbrev S16384x2048 : Shape := ⟨2, ![16384, 2048]⟩
abbrev S1024x2048 : Shape := ⟨2, ![1024, 2048]⟩
abbrev S512x1024 : Shape := ⟨2, ![512, 1024]⟩
abbrev S1x512x2048 : Shape := ⟨3, ![1, 512, 2048]⟩
abbrev S512x2048 : Shape := ⟨2, ![512, 2048]⟩
abbrev S1024x512 : Shape := ⟨2, ![1024, 512]⟩
abbrev S512x512 : Shape := ⟨2, ![512, 512]⟩
abbrev S1x512x512 : Shape := ⟨3, ![1, 512, 512]⟩

abbrev nBuf : Space → Nat
  | .hbm => 8
  | .vmem => 15
  | .smem => 0
  | _ => 0

abbrev bufTy : (tb : Table) → Fin (tcTables nBuf tb) → BufTy
  | .hbm, ⟨0, _⟩ => ⟨S16384x1024, .bf16⟩
  | .hbm, ⟨1, _⟩ => ⟨S2048x1024, .bf16⟩
  | .hbm, ⟨2, _⟩ => ⟨S4x16384x2048, .bf16⟩
  | .hbm, ⟨3, _⟩ => ⟨S16384x2048, .bf16⟩
  | .hbm, ⟨4, _⟩ => ⟨S1024x2048, .bf16⟩
  | .hbm, ⟨5, _⟩ => ⟨S16384x2048, .bf16⟩
  | .hbm, ⟨6, _⟩ => ⟨S16384x2048, .bf16⟩
  | .hbm, ⟨7, _⟩ => ⟨S16384x2048, .bf16⟩
  | .local _ .vmem, ⟨0, _⟩ => ⟨S512x1024, .bf16⟩
  | .local _ .vmem, ⟨1, _⟩ => ⟨S512x1024, .bf16⟩
  | .local _ .vmem, ⟨2, _⟩ => ⟨S1024x2048, .bf16⟩
  | .local _ .vmem, ⟨3, _⟩ => ⟨S1x512x2048, .bf16⟩
  | .local _ .vmem, ⟨4, _⟩ => ⟨S1x512x2048, .bf16⟩
  | .local _ .vmem, ⟨5, _⟩ => ⟨S1x512x2048, .bf16⟩
  | .local _ .vmem, ⟨6, _⟩ => ⟨S1x512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .bf16⟩
  | .local _ .vmem, ⟨11, _⟩ => ⟨S512x2048, .bf16⟩
  | .local _ .vmem, ⟨12, _⟩ => ⟨S512x2048, .bf16⟩
  | .local _ .vmem, ⟨13, _⟩ => ⟨S512x2048, .bf16⟩
  | .local _ .vmem, ⟨14, _⟩ => ⟨S512x2048, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== GateRefIdeal.lean ====
abbrev S16384x1024 : Shape := ⟨2, ![16384, 1024]⟩
abbrev S2048x1024 : Shape := ⟨2, ![2048, 1024]⟩
abbrev S4x16384x2048 : Shape := ⟨3, ![4, 16384, 2048]⟩
abbrev S16384x2048 : Shape := ⟨2, ![16384, 2048]⟩
abbrev S1x16384x2048 : Shape := ⟨3, ![1, 16384, 2048]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S2048x1024, .bf16⟩
  | .hbm, ⟨2, _⟩ => ⟨S4x16384x2048, .bf16⟩
  | .hbm, ⟨3, _⟩ => ⟨S16384x2048, .bf16⟩
  | .hbm, ⟨4, _⟩ => ⟨S4x16384x2048, .f32⟩
  | .hbm, ⟨5, _⟩ => ⟨S1x16384x2048, .f32⟩
  | .hbm, ⟨6, _⟩ => ⟨S16384x2048, .f32⟩
  | .hbm, ⟨7, _⟩ => ⟨S1x16384x2048, .f32⟩
  | .hbm, ⟨8, _⟩ => ⟨S16384x2048, .f32⟩
  | .hbm, ⟨9, _⟩ => ⟨S1x16384x2048, .f32⟩
  | .hbm, ⟨10, _⟩ => ⟨S16384x2048, .f32⟩
  | .hbm, ⟨11, _⟩ => ⟨S1x16384x2048, .f32⟩
  | .hbm, ⟨12, _⟩ => ⟨S16384x2048, .f32⟩
  | .hbm, ⟨13, _⟩ => ⟨S16384x2048, .f32⟩
  | .hbm, ⟨14, _⟩ => ⟨S16384x2048, .f32⟩
  | .hbm, ⟨15, _⟩ => ⟨S16384x2048, .f32⟩
  | .hbm, ⟨16, _⟩ => ⟨S16384x2048, .f32⟩
  | .hbm, ⟨17, _⟩ => ⟨S_, .f32⟩
  | .hbm, ⟨18, _⟩ => ⟨S16384x2048, .f32⟩
  | .hbm, ⟨19, _⟩ => ⟨S16384x2048, .f32⟩
  | .hbm, ⟨20, _⟩ => ⟨S_, .f32⟩
  | .hbm, ⟨21, _⟩ => ⟨S16384x2048, .f32⟩
  | .hbm, ⟨22, _⟩ => ⟨S16384x2048, .f32⟩
  | .hbm, ⟨23, _⟩ => ⟨S_, .f32⟩
  | .hbm, ⟨24, _⟩ => ⟨S16384x2048, .f32⟩
  | .hbm, ⟨25, _⟩ => ⟨S16384x2048, .f32⟩
  | .hbm, ⟨26, _⟩ => ⟨S16384x2048, .f32⟩
  | .hbm, ⟨27, _⟩ => ⟨S16384x2048, .f32⟩
  | .hbm, ⟨28, _⟩ => ⟨S16384x2048, .f32⟩
  | .hbm, ⟨29, _⟩ => ⟨S2048x1024, .f32⟩
  | .hbm, ⟨30, _⟩ => ⟨S16384x1024, .f32⟩
  | .hbm, ⟨31, _⟩ => ⟨S16384x1024, .f32⟩
  | .hbm, ⟨32, _⟩ => ⟨S16384x2048, .f32⟩
  | .hbm, ⟨33, _⟩ => ⟨S16384x2048, .f32⟩
  | .hbm, ⟨34, _⟩ => ⟨S16384x2048, .f32⟩
  | .hbm, ⟨35, _⟩ => ⟨S16384x2048, .f32⟩
  | .hbm, ⟨36, _⟩ => ⟨S16384x2048, .f32⟩
  | .hbm, ⟨37, _⟩ => ⟨S16384x2048, .f32⟩
  | .hbm, ⟨38, _⟩ => ⟨S16384x2048, .f32⟩
  | .hbm, ⟨39, _⟩ => ⟨S16384x2048, .f32⟩
  | .hbm, ⟨40, _⟩ => ⟨S16384x2048, .f32⟩
  | .hbm, ⟨41, _⟩ => ⟨S16384x2048, .bf16⟩
  | .hbm, ⟨42, _⟩ => ⟨S16384x2048, .bf16⟩
  | .hbm, ⟨43, _⟩ => ⟨S16384x2048, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_v11_2 : Ref sig .tc := ⟨.hbm, 22, rfl⟩
abbrev main_call0_cst_1 : Ref sig .tc := ⟨.hbm, 23, rfl⟩
abbrev main_call0_v6 : Ref sig .tc := ⟨.hbm, 24, rfl⟩
abbrev main_call0_v7 : Ref sig .tc := ⟨.hbm, 25, rfl⟩
abbrev main_v11_1 : Ref sig .tc := ⟨.hbm, 26, rfl⟩
abbrev main_v11_0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩

abbrev nD : Nat := 1
abbrev τ : Topo := Topo.v7x

variable {F : FTy → Type} [FloatOps F]
-- ==== Tap.lean ====
abbrev S16384x2048 : Shape := ⟨2, ![16384, 2048]⟩
abbrev S4x16384x2048 : Shape := ⟨3, ![4, 16384, 2048]⟩
abbrev S3x2048 : Shape := ⟨2, ![3, 2048]⟩
abbrev S512x2048 : Shape := ⟨2, ![512, 2048]⟩
abbrev S64x1024 : Shape := ⟨2, ![64, 1024]⟩
abbrev S1x512x2048 : Shape := ⟨3, ![1, 512, 2048]⟩
abbrev S4x512x2048 : Shape := ⟨3, ![4, 512, 2048]⟩
abbrev S512x1 : Shape := ⟨2, ![512, 1]⟩
abbrev S512x512 : Shape := ⟨2, ![512, 512]⟩
abbrev S3x512 : Shape := ⟨2, ![3, 512]⟩
abbrev S1x512x512 : Shape := ⟨3, ![1, 512, 512]⟩
abbrev S1x512 : Shape := ⟨2, ![1, 512]⟩
abbrev S512 : Shape := ⟨1, ![512]⟩
abbrev S64x512 : Shape := ⟨2, ![64, 512]⟩
abbrev S448x512 : Shape := ⟨2, ![448, 512]⟩

abbrev nBuf : Space → Nat
  | .hbm => 7
  | .vmem => 18
  | .smem => 0
  | _ => 0

abbrev bufTy : (tb : Table) → Fin (tcTables nBuf tb) → BufTy
  | .hbm, ⟨0, _⟩ => ⟨S16384x2048, .bf16⟩
  | .hbm, ⟨1, _⟩ => ⟨S4x16384x2048, .bf16⟩
  | .hbm, ⟨2, _⟩ => ⟨S16384x2048, .bf16⟩
  | .hbm, ⟨3, _⟩ => ⟨S16384x2048, .bf16⟩
  | .hbm, ⟨4, _⟩ => ⟨S3x2048, .f32⟩
  | .hbm, ⟨5, _⟩ => ⟨S4x16384x2048, .bf16⟩
  | .hbm, ⟨6, _⟩ => ⟨S3x2048, .f32⟩
  | .local _ .vmem, ⟨0, _⟩ => ⟨S512x2048, .bf16⟩
  | .local _ .vmem, ⟨1, _⟩ => ⟨S512x2048, .bf16⟩
  | .local _ .vmem, ⟨2, _⟩ => ⟨S64x1024, .bf16⟩
  | .local _ .vmem, ⟨3, _⟩ => ⟨S64x1024, .bf16⟩
  | .local _ .vmem, ⟨4, _⟩ => ⟨S64x1024, .bf16⟩
  | .local _ .vmem, ⟨5, _⟩ => ⟨S64x1024, .bf16⟩
  | .local _ .vmem, ⟨6, _⟩ => ⟨S1x512x2048, .bf16⟩
  | .local _ .vmem, ⟨7, _⟩ => ⟨S1x512x2048, .bf16⟩
  | .local _ .vmem, ⟨8, _⟩ => ⟨S1x512x2048, .bf16⟩
  | .local _ .vmem, ⟨9, _⟩ => ⟨S1x512x2048, .bf16⟩
  | .local _ .vmem, ⟨10, _⟩ => ⟨S512x2048, .bf16⟩
  | .local _ .vmem, ⟨11, _⟩ => ⟨S512x2048, .bf16⟩
  | .local _ .vmem, ⟨12, _⟩ => ⟨S512x2048, .bf16⟩
  | .local _ .vmem, ⟨13, _⟩ => ⟨S512x2048, .bf16⟩
  | .local _ .vmem, ⟨14, _⟩ => ⟨S3x2048, .f32⟩
  | .local _ .vmem, ⟨15, _⟩ => ⟨S4x512x2048, .bf16⟩
  | .local _ .vmem, ⟨16, _⟩ => ⟨S4x512x2048, .bf16⟩
  | .local _ .vmem, ⟨17, _⟩ => ⟨S3x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c255_i32 : BitVec 32 := 255#32
  let v2 : BitVec 32 := Scalar.minsi v1 c255_i32
  let c1_i32_0 : BitVec 32 := 1#32
  let c0_i32 : BitVec 32 := 0#32
  ![v2.toNat, c1_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4x512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S3x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== TapRefIdeal.lean ====
abbrev S16384x2048 : Shape := ⟨2, ![16384, 2048]⟩
abbrev S4x16384x2048 : Shape := ⟨3, ![4, 16384, 2048]⟩
abbrev S3x2048 : Shape := ⟨2, ![3, 2048]⟩
abbrev S1x16384x2048 : Shape := ⟨3, ![1, 16384, 2048]⟩
abbrev S256x64x2048 : Shape := ⟨3, ![256, 64, 2048]⟩
abbrev S256x64x1024 : Shape := ⟨3, ![256, 64, 1024]⟩
abbrev S3x1024 : Shape := ⟨2, ![3, 1024]⟩
abbrev S256x1x1024 : Shape := ⟨3, ![256, 1, 1024]⟩
abbrev S_ : Shape := ⟨0, ![]⟩
abbrev S256x66x1024 : Shape := ⟨3, ![256, 66, 1024]⟩
abbrev S1x1024 : Shape := ⟨2, ![1, 1024]⟩
abbrev S1024 : Shape := ⟨1, ![1024]⟩
abbrev S1x1x1024 : Shape := ⟨3, ![1, 1, 1024]⟩
abbrev S1x64x1024 : Shape := ⟨3, ![1, 64, 1024]⟩
abbrev S258x64x1024 : Shape := ⟨3, ![258, 64, 1024]⟩

abbrev nBuf : Space → Nat
  | .hbm => 194
  | .vmem => 0
  | .smem => 0
  | _ => 0

abbrev hbmTy0_0 (i : Nat) : BufTy := match i % 128 with
  | 0 => ⟨S16384x2048, .bf16⟩
  | 1 => ⟨S4x16384x2048, .bf16⟩
  | 2 => ⟨S16384x2048, .bf16⟩
  | 3 => ⟨S16384x2048, .bf16⟩
  | 4 => ⟨S3x2048, .f32⟩
  | 5 => ⟨S4x16384x2048, .f32⟩
  | 6 => ⟨S1x16384x2048, .f32⟩
  | 7 => ⟨S16384x2048, .f32⟩
  | 8 => ⟨S1x16384x2048, .f32⟩
  | 9 => ⟨S16384x2048, .f32⟩
  | 10 => ⟨S1x16384x2048, .f32⟩
  | 11 => ⟨S16384x2048, .f32⟩
  | 12 => ⟨S1x16384x2048, .f32⟩
  | 13 => ⟨S16384x2048, .f32⟩
  | 14 => ⟨S16384x2048, .f32⟩
  | 15 => ⟨S256x64x2048, .f32⟩
  | 16 => ⟨S256x64x1024, .f32⟩
  | 17 => ⟨S3x1024, .f32⟩
  | 18 => ⟨S256x1x1024, .f32⟩
  | 19 => ⟨S_, .f32⟩
  | 20 => ⟨S256x1x1024, .f32⟩
  | 21 => ⟨S256x66x1024, .f32⟩
  | 22 => ⟨S_, .f32⟩
  | 23 => ⟨S256x1x1024, .f32⟩
  | 24 => ⟨S_, .f32⟩
  | 25 => ⟨S256x1x1024, .f32⟩
  | 26 => ⟨S256x64x1024, .f32⟩
  | 27 => ⟨S1x1024, .f32⟩
  | 28 => ⟨S1024, .f32⟩
  | 29 => ⟨S1x1x1024, .f32⟩
  | 30 => ⟨S256x64x1024, .f32⟩
  | 31 => ⟨S256x64x1024, .f32⟩
  | 32 => ⟨S256x64x1024, .f32⟩
  | 33 => ⟨S1x1024, .f32⟩
  | 34 => ⟨S1024, .f32⟩
  | 35 => ⟨S1x1x1024, .f32⟩
  | 36 => ⟨S256x64x1024, .f32⟩
  | 37 => ⟨S256x64x1024, .f32⟩
  | 38 => ⟨S256x64x1024, .f32⟩
  | 39 => ⟨S256x64x1024, .f32⟩
  | 40 => ⟨S1x1024, .f32⟩
  | 41 => ⟨S1024, .f32⟩
  | 42 => ⟨S1x1x1024, .f32⟩
  | 43 => ⟨S256x64x1024, .f32⟩
  | 44 => ⟨S256x64x1024, .f32⟩
  | 45 => ⟨S256x64x1024, .f32⟩
  | 46 => ⟨S256x64x1024, .f32⟩
  | 47 => ⟨S3x1024, .f32⟩
  | 48 => ⟨S1x64x1024, .f32⟩
  | 49 => ⟨S_, .f32⟩
  | 50 => ⟨S1x64x1024, .f32⟩
  | 51 => ⟨S258x64x1024, .f32⟩
  | 52 => ⟨S_, .f32⟩
  | 53 => ⟨S1x64x1024, .f32⟩
  | 54 => ⟨S_, .f32⟩
  | 55 => ⟨S1x64x1024, .f32⟩
  | 56 => ⟨S256x64x1024, .f32⟩
  | 57 => ⟨S1x1024, .f32⟩
  | 58 => ⟨S1024, .f32⟩
  | 59 => ⟨S1x1x1024, .f32⟩
  | 60 => ⟨S256x64x1024, .f32⟩
  | 61 => ⟨S256x64x1024, .f32⟩
  | 62 => ⟨S256x64x1024, .f32⟩
  | 63 => ⟨S1x1024, .f32⟩
  | 64 => ⟨S1024, .f32⟩
  | 65 => ⟨S1x1x1024, .f32⟩
  | 66 => ⟨S256x64x1024, .f32⟩
  | 67 => ⟨S256x64x1024, .f32⟩
  | 68 => ⟨S256x64x1024, .f32⟩
  | 69 => ⟨S256x64x1024, .f32⟩
  | 70 => ⟨S1x1024, .f32⟩
  | 71 => ⟨S1024, .f32⟩
  | 72 => ⟨S1x1x1024, .f32⟩
  | 73 => ⟨S256x64x1024, .f32⟩
  | 74 => ⟨S256x64x1024, .f32⟩
  | 75 => ⟨S256x64x1024, .f32⟩
  | 76 => ⟨S256x64x2048, .f32⟩
  | 77 => ⟨S16384x2048, .f32⟩
  | 78 => ⟨S16384x2048, .f32⟩
  | 79 => ⟨S256x64x2048, .f32⟩
  | 80 => ⟨S256x64x1024, .f32⟩
  | 81 => ⟨S256x64x1024, .f32⟩
  | 82 => ⟨S256x64x1024, .f32⟩
  | 83 => ⟨S_, .f32⟩
  | 84 => ⟨S1024, .f32⟩
  | 85 => ⟨S1x1x1024, .f32⟩
  | 86 => ⟨S256x64x1024, .f32⟩
  | 87 => ⟨S256x64x1024, .f32⟩
  | 88 => ⟨S_, .f32⟩
  | 89 => ⟨S1024, .f32⟩
  | 90 => ⟨S1x1024, .f32⟩
  | 91 => ⟨S_, .f32⟩
  | 92 => ⟨S3x1024, .f32⟩
  | 93 => ⟨S_, .f32⟩
  | 94 => ⟨S258x64x1024, .f32⟩
  | 95 => ⟨S256x64x1024, .f32⟩
  | 96 => ⟨S_, .f32⟩
  | 97 => ⟨S1024, .f32⟩
  | 98 => ⟨S1x1x1024, .f32⟩
  | 99 => ⟨S256x64x1024, .f32⟩
  | 100 => ⟨S256x64x1024, .f32⟩
  | 101 => ⟨S_, .f32⟩
  | 102 => ⟨S1024, .f32⟩
  | 103 => ⟨S1x1024, .f32⟩
  | 104 => ⟨S_, .f32⟩
  | 105 => ⟨S3x1024, .f32⟩
  | 106 => ⟨S3x1024, .f32⟩
  | 107 => ⟨S_, .f32⟩
  | 108 => ⟨S258x64x1024, .f32⟩
  | 109 => ⟨S258x64x1024, .f32⟩
  | 110 => ⟨S256x64x1024, .f32⟩
  | 111 => ⟨S_, .f32⟩
  | 112 => ⟨S1024, .f32⟩
  | 113 => ⟨S1x1x1024, .f32⟩
  | 114 => ⟨S256x64x1024, .f32⟩
  | 115 => ⟨S256x64x1024, .f32⟩
  | 116 => ⟨S_, .f32⟩
  | 117 => ⟨S1024, .f32⟩
  | 118 => ⟨S1x1024, .f32⟩
  | 119 => ⟨S_, .f32⟩
  | 120 => ⟨S3x1024, .f32⟩
  | 121 => ⟨S3x1024, .f32⟩
  | 122 => ⟨S_, .f32⟩
  | 123 => ⟨S258x64x1024, .f32⟩
  | 124 => ⟨S258x64x1024, .f32⟩
  | 125 => ⟨S1x64x1024, .f32⟩
  | 126 => ⟨S256x64x1024, .f32⟩
  | 127 => ⟨S1x64x1024, .f32⟩
  | _ => ⟨S16384x2048, .bf16⟩

abbrev hbmTy0_1 (i : Nat) : BufTy := match i % 128 with
  | 0 => ⟨S_, .f32⟩
  | 1 => ⟨S3x2048, .f32⟩
  | 2 => ⟨S_, .f32⟩
  | 3 => ⟨S256x64x2048, .f32⟩
  | 4 => ⟨S256x64x1024, .f32⟩
  | 5 => ⟨S_, .f32⟩
  | 6 => ⟨S1024, .f32⟩
  | 7 => ⟨S1x1x1024, .f32⟩
  | 8 => ⟨S256x64x1024, .f32⟩
  | 9 => ⟨S256x64x1024, .f32⟩
  | 10 => ⟨S_, .f32⟩
  | 11 => ⟨S1024, .f32⟩
  | 12 => ⟨S1x1024, .f32⟩
  | 13 => ⟨S_, .f32⟩
  | 14 => ⟨S3x1024, .f32⟩
  | 15 => ⟨S_, .f32⟩
  | 16 => ⟨S256x66x1024, .f32⟩
  | 17 => ⟨S256x64x1024, .f32⟩
  | 18 => ⟨S_, .f32⟩
  | 19 => ⟨S1024, .f32⟩
  | 20 => ⟨S1x1x1024, .f32⟩
  | 21 => ⟨S256x64x1024, .f32⟩
  | 22 => ⟨S256x64x1024, .f32⟩
  | 23 => ⟨S_, .f32⟩
  | 24 => ⟨S1024, .f32⟩
  | 25 => ⟨S1x1024, .f32⟩
  | 26 => ⟨S_, .f32⟩
  | 27 => ⟨S3x1024, .f32⟩
  | 28 => ⟨S3x1024, .f32⟩
  | 29 => ⟨S_, .f32⟩
  | 30 => ⟨S256x66x1024, .f32⟩
  | 31 => ⟨S256x66x1024, .f32⟩
  | 32 => ⟨S256x64x1024, .f32⟩
  | 33 => ⟨S_, .f32⟩
  | 34 => ⟨S1024, .f32⟩
  | 35 => ⟨S1x1x1024, .f32⟩
  | 36 => ⟨S256x64x1024, .f32⟩
  | 37 => ⟨S256x64x1024, .f32⟩
  | 38 => ⟨S_, .f32⟩
  | 39 => ⟨S1024, .f32⟩
  | 40 => ⟨S1x1024, .f32⟩
  | 41 => ⟨S_, .f32⟩
  | 42 => ⟨S3x1024, .f32⟩
  | 43 => ⟨S3x1024, .f32⟩
  | 44 => ⟨S_, .f32⟩
  | 45 => ⟨S256x66x1024, .f32⟩
  | 46 => ⟨S256x66x1024, .f32⟩
  | 47 => ⟨S256x1x1024, .f32⟩
  | 48 => ⟨S256x64x1024, .f32⟩
  | 49 => ⟨S256x1x1024, .f32⟩
  | 50 => ⟨S_, .f32⟩
  | 51 => ⟨S3x2048, .f32⟩
  | 52 => ⟨S3x2048, .f32⟩
  | 53 => ⟨S_, .f32⟩
  | 54 => ⟨S256x64x2048, .f32⟩
  | 55 => ⟨S256x64x2048, .f32⟩
  | 56 => ⟨S16384x2048, .f32⟩
  | 57 => ⟨S16384x2048, .f32⟩
  | 58 => ⟨S16384x2048, .f32⟩
  | 59 => ⟨S16384x2048, .bf16⟩
  | 60 => ⟨S16384x2048, .bf16⟩
  | 61 => ⟨S1x16384x2048, .bf16⟩
  | 62 => ⟨S1x16384x2048, .bf16⟩
  | 63 => ⟨S1x16384x2048, .bf16⟩
  | 64 => ⟨S1x16384x2048, .bf16⟩
  | 65 => ⟨S4x16384x2048, .bf16⟩
  | _ => ⟨S16384x2048, .bf16⟩

abbrev hbmTy (i : Nat) : BufTy := match i / 128 with
  | 0 => hbmTy0_0 i
  | 1 => hbmTy0_1 i
  | _ => ⟨S16384x2048, .bf16⟩

abbrev bufTy : (tb : Table) → Fin (tcTables nBuf tb) → BufTy
  | .hbm, ⟨i, _⟩ => hbmTy i
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst_2 : Ref sig .tc := ⟨.hbm, 49, rfl⟩
abbrev main_v41 : Ref sig .tc := ⟨.hbm, 50, rfl⟩
abbrev main_v42 : Ref sig .tc := ⟨.hbm, 51, rfl⟩
abbrev main_cst_3 : Ref sig .tc := ⟨.hbm, 52, rfl⟩
abbrev main_v43 : Ref sig .tc := ⟨.hbm, 53, rfl⟩
abbrev main_cst_4 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_cst_5 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_cst_6 : Ref sig .tc := ⟨.hbm, 88, rfl⟩
abbrev main_v76 : Ref sig .tc := ⟨.hbm, 89, rfl⟩
abbrev main_v77 : Ref sig .tc := ⟨.hbm, 90, rfl⟩
abbrev main_cst_7 : Ref sig .tc := ⟨.hbm, 91, rfl⟩
abbrev main_v78 : Ref sig .tc := ⟨.hbm, 92, rfl⟩
abbrev main_cst_8 : Ref sig .tc := ⟨.hbm, 93, rfl⟩
abbrev main_v79 : Ref sig .tc := ⟨.hbm, 94, rfl⟩
abbrev main_v80 : Ref sig .tc := ⟨.hbm, 95, rfl⟩
abbrev main_cst_9 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_cst_10 : Ref sig .tc := ⟨.hbm, 101, rfl⟩
abbrev main_v85 : Ref sig .tc := ⟨.hbm, 102, rfl⟩
abbrev main_v86 : Ref sig .tc := ⟨.hbm, 103, rfl⟩
abbrev main_cst_11 : Ref sig .tc := ⟨.hbm, 104, rfl⟩
abbrev main_v87 : Ref sig .tc := ⟨.hbm, 105, rfl⟩
abbrev main_v88 : Ref sig .tc := ⟨.hbm, 106, rfl⟩
abbrev main_cst_12 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_cst_13 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_cst_14 : Ref sig .tc := ⟨.hbm, 116, rfl⟩
abbrev main_v96 : Ref sig .tc := ⟨.hbm, 117, rfl⟩
abbrev main_v97 : Ref sig .tc := ⟨.hbm, 118, rfl⟩
abbrev main_cst_15 : Ref sig .tc := ⟨.hbm, 119, rfl⟩
abbrev main_v98 : Ref sig .tc := ⟨.hbm, 120, rfl⟩
abbrev main_v99 : Ref sig .tc := ⟨.hbm, 121, rfl⟩
abbrev main_cst_16 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_cst_17 : Ref sig .tc := ⟨.hbm, 128, rfl⟩
abbrev main_v105 : Ref sig .tc := ⟨.hbm, 129, rfl⟩
abbrev main_cst_18 : Ref sig .tc := ⟨.hbm, 130, rfl⟩
abbrev main_v106 : Ref sig .tc := ⟨.hbm, 131, rfl⟩
abbrev main_v107 : Ref sig .tc := ⟨.hbm, 132, rfl⟩
abbrev main_cst_19 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_cst_20 : Ref sig .tc := ⟨.hbm, 138, rfl⟩
abbrev main_v112 : Ref sig .tc := ⟨.hbm, 139, rfl⟩
abbrev main_v113 : Ref sig .tc := ⟨.hbm, 140, rfl⟩
abbrev main_cst_21 : Ref sig .tc := ⟨.hbm, 141, rfl⟩
abbrev main_v114 : Ref sig .tc := ⟨.hbm, 142, rfl⟩
abbrev main_cst_22 : Ref sig .tc := ⟨.hbm, 143, rfl⟩
abbrev main_v115 : Ref sig .tc := ⟨.hbm, 144, rfl⟩
abbrev main_v116 : Ref sig .tc := ⟨.hbm, 145, rfl⟩
abbrev main_cst_23 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_cst_24 : Ref sig .tc := ⟨.hbm, 151, rfl⟩
abbrev main_v121 : Ref sig .tc := ⟨.hbm, 152, rfl⟩
abbrev main_v122 : Ref sig .tc := ⟨.hbm, 153, rfl⟩
abbrev main_cst_25 : Ref sig .tc := ⟨.hbm, 154, rfl⟩
abbrev main_v123 : Ref sig .tc := ⟨.hbm, 155, rfl⟩
abbrev main_v124 : Ref sig .tc := ⟨.hbm, 156, rfl⟩
abbrev main_cst_26 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_cst_27 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_cst_28 : Ref sig .tc := ⟨.hbm, 166, rfl⟩
abbrev main_v132 : Ref sig .tc := ⟨.hbm, 167, rfl⟩
abbrev main_v133 : Ref sig .tc := ⟨.hbm, 168, rfl⟩
abbrev main_cst_29 : Ref sig .tc := ⟨.hbm, 169, rfl⟩
abbrev main_v134 : Ref sig .tc := ⟨.hbm, 170, rfl⟩
abbrev main_v135 : Ref sig .tc := ⟨.hbm, 171, rfl⟩
abbrev main_cst_30 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_cst_31 : Ref sig .tc := ⟨.hbm, 178, rfl⟩
abbrev main_v141 : Ref sig .tc := ⟨.hbm, 179, rfl⟩
abbrev main_v142 : Ref sig .tc := ⟨.hbm, 180, rfl⟩
abbrev main_cst_32 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩

abbrev nD : Nat := 1
abbrev τ : Topo := Topo.v7x

variable {F : FTy → Type} [FloatOps F]
-- ==== In.lean ====
abbrev S4x16384x2048 : Shape := ⟨3, ![4, 16384, 2048]⟩
abbrev S4x1024x2048 : Shape := ⟨3, ![4, 1024, 2048]⟩
abbrev S16384x1024 : Shape := ⟨2, ![16384, 1024]⟩
abbrev S1x1024 : Shape := ⟨2, ![1, 1024]⟩
abbrev S4x2048x1024 : Shape := ⟨3, ![4, 2048, 1024]⟩
abbrev S4x512x2048 : Shape := ⟨3, ![4, 512, 2048]⟩
abbrev S512x1024 : Shape := ⟨2, ![512, 1024]⟩
abbrev S1x512x2048 : Shape := ⟨3, ![1, 512, 2048]⟩
abbrev S512x2048 : Shape := ⟨2, ![512, 2048]⟩
abbrev S1x2048x1024 : Shape := ⟨3, ![1, 2048, 1024]⟩
abbrev S2048x1024 : Shape := ⟨2, ![2048, 1024]⟩
abbrev S1024 : Shape := ⟨1, ![1024]⟩

abbrev nBuf : Space → Nat
  | .hbm => 9
  | .vmem => 12
  | .smem => 0
  | _ => 0

abbrev bufTy : (tb : Table) → Fin (tcTables nBuf tb) → BufTy
  | .hbm, ⟨0, _⟩ => ⟨S4x16384x2048, .bf16⟩
  | .hbm, ⟨1, _⟩ => ⟨S4x1024x2048, .bf16⟩
  | .hbm, ⟨2, _⟩ => ⟨S16384x1024, .f32⟩
  | .hbm, ⟨3, _⟩ => ⟨S16384x1024, .f32⟩
  | .hbm, ⟨4, _⟩ => ⟨S1x1024, .f32⟩
  | .hbm, ⟨5, _⟩ => ⟨S4x2048x1024, .bf16⟩
  | .hbm, ⟨6, _⟩ => ⟨S16384x1024, .f32⟩
  | .hbm, ⟨7, _⟩ => ⟨S1x1024, .f32⟩
  | .hbm, ⟨8, _⟩ => ⟨S1x1024, .f32⟩
  | .local _ .vmem, ⟨0, _⟩ => ⟨S4x512x2048, .bf16⟩
  | .local _ .vmem, ⟨1, _⟩ => ⟨S4x512x2048, .bf16⟩
  | .local _ .vmem, ⟨2, _⟩ => ⟨S4x2048x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | _, _ => ⟨S4x16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== InRefIdeal.lean ====
abbrev S4x16384x2048 : Shape := ⟨3, ![4, 16384, 2048]⟩
abbrev S4x1024x2048 : Shape := ⟨3, ![4, 1024, 2048]⟩
abbrev S16384x1024 : Shape := ⟨2, ![16384, 1024]⟩
abbrev S1x1024 : Shape := ⟨2, ![1, 1024]⟩
abbrev S_ : Shape := ⟨0, ![]⟩
abbrev S4x2048x16384 : Shape := ⟨3, ![4, 2048, 16384]⟩
abbrev S1024 : Shape := ⟨1, ![1024]⟩

abbrev nBuf : Space → Nat
  | .hbm => 36
  | .vmem => 0
  | .smem => 0
  | _ => 0

abbrev bufTy : (tb : Table) → Fin (tcTables nBuf tb) → BufTy
  | .hbm, ⟨0, _⟩ => ⟨S4x16384x2048, .bf16⟩
  | .hbm, ⟨1, _⟩ => ⟨S4x1024x2048, .bf16⟩
  | .hbm, ⟨2, _⟩ => ⟨S16384x1024, .f32⟩
  | .hbm, ⟨3, _⟩ => ⟨S16384x1024, .f32⟩
  | .hbm, ⟨4, _⟩ => ⟨S1x1024, .f32⟩
  | .hbm, ⟨5, _⟩ => ⟨S_, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384x1024, .f32⟩
  | .hbm, ⟨16, _⟩ => ⟨S16384x1024, .f32⟩
  | .hbm, ⟨17, _⟩ => ⟨S4x1024x2048, .f32⟩
  | .hbm, ⟨18, _⟩ => ⟨S4x2048x16384, .f32⟩
  | .hbm, ⟨19, _⟩ => ⟨S4x16384x2048, .f32⟩
  | .hbm, ⟨20, _⟩ => ⟨S4x16384x2048, .f32⟩
  | .hbm, ⟨21, _⟩ => ⟨S4x2048x16384, .f32⟩
  | .hbm, ⟨22, _⟩ => ⟨S16384x1024, .f32⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S16384x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S16384x1024, .f32⟩
  | .hbm, ⟨34, _⟩ => ⟨S16384x1024, .f32⟩
  | .hbm, ⟨35, _⟩ => ⟨S16384x1024, .f32⟩
  | _, _ => ⟨S4x16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]
-- ==== WConvIn.lean ====
abbrev S16384x1024 : Shape := ⟨2, ![16384, 1024]⟩
abbrev S4x16384x2048 : Shape := ⟨3, ![4, 16384, 2048]⟩
abbrev S4x1024x2048 : Shape := ⟨3, ![4, 1024, 2048]⟩
abbrev S1024x1024 : Shape := ⟨2, ![1024, 1024]⟩
abbrev S1x1024x2048 : Shape := ⟨3, ![1, 1024, 2048]⟩
abbrev S1024x2048 : Shape := ⟨2, ![1024, 2048]⟩

abbrev nBuf : Space → Nat
  | .hbm => 4
  | .vmem => 8
  | .smem => 0
  | _ => 0

abbrev bufTy : (tb : Table) → Fin (tcTables nBuf tb) → BufTy
  | .hbm, ⟨0, _⟩ => ⟨S16384x1024, .bf16⟩
  | .hbm, ⟨1, _⟩ => ⟨S4x16384x2048, .bf16⟩
  | .hbm, ⟨2, _⟩ => ⟨S4x1024x2048, .f32⟩
  | .hbm, ⟨3, _⟩ => ⟨S4x1024x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x1024x2048, .f32⟩
  | .local _ .vmem, ⟨5, _⟩ => ⟨S1x1024x2048, .f32⟩
  | .local _ .vmem, ⟨6, _⟩ => ⟨S1x1024x2048, .f32⟩
  | .local _ .vmem, ⟨7, _⟩ => ⟨S1x1024x2048, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 4, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== WConvInRefIdeal.lean ====
abbrev S16384x1024 : Shape := ⟨2, ![16384, 1024]⟩
abbrev S4x16384x2048 : Shape := ⟨3, ![4, 16384, 2048]⟩
abbrev S4x1024x2048 : Shape := ⟨3, ![4, 1024, 2048]⟩
abbrev S_ : Shape := ⟨0, ![]⟩
abbrev S4x2048x16384 : Shape := ⟨3, ![4, 2048, 16384]⟩
abbrev S4x2048x1024 : Shape := ⟨3, ![4, 2048, 1024]⟩

abbrev nBuf : Space → Nat
  | .hbm => 13
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S4x16384x2048, .bf16⟩
  | .hbm, ⟨2, _⟩ => ⟨S4x1024x2048, .f32⟩
  | .hbm, ⟨3, _⟩ => ⟨S_, .f32⟩
  | .hbm, ⟨4, _⟩ => ⟨S4x1024x2048, .f32⟩
  | .hbm, ⟨5, _⟩ => ⟨S16384x1024, .f32⟩
  | .hbm, ⟨6, _⟩ => ⟨S4x2048x16384, .f32⟩
  | .hbm, ⟨7, _⟩ => ⟨S4x16384x2048, .f32⟩
  | .hbm, ⟨8, _⟩ => ⟨S4x16384x2048, .f32⟩
  | .hbm, ⟨9, _⟩ => ⟨S4x2048x16384, .f32⟩
  | .hbm, ⟨10, _⟩ => ⟨S4x2048x1024, .f32⟩
  | .hbm, ⟨11, _⟩ => ⟨S4x1024x2048, .f32⟩
  | .hbm, ⟨12, _⟩ => ⟨S4x1024x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== WConvOut.lean ====
abbrev S16384x2048 : Shape := ⟨2, ![16384, 2048]⟩
abbrev S16384x1024 : Shape := ⟨2, ![16384, 1024]⟩
abbrev S1x2048x1024 : Shape := ⟨3, ![1, 2048, 1024]⟩
abbrev S1024x2048 : Shape := ⟨2, ![1024, 2048]⟩
abbrev S1024x1024 : Shape := ⟨2, ![1024, 1024]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .bf16⟩
  | .hbm, ⟨2, _⟩ => ⟨S1x2048x1024, .f32⟩
  | .hbm, ⟨3, _⟩ => ⟨S1x2048x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S1x2048x1024, .f32⟩
  | .local _ .vmem, ⟨5, _⟩ => ⟨S1x2048x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨3, ![1, 1, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S1x2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== WConvOutRefIdeal.lean ====
abbrev S16384x2048 : Shape := ⟨2, ![16384, 2048]⟩
abbrev S16384x1024 : Shape := ⟨2, ![16384, 1024]⟩
abbrev S1x2048x1024 : Shape := ⟨3, ![1, 2048, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 13
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .bf16⟩
  | .hbm, ⟨2, _⟩ => ⟨S1x2048x1024, .f32⟩
  | .hbm, ⟨3, _⟩ => ⟨S_, .f32⟩
  | .hbm, ⟨4, _⟩ => ⟨S1x2048x1024, .f32⟩
  | .hbm, ⟨5, _⟩ => ⟨S16384x2048, .f32⟩
  | .hbm, ⟨6, _⟩ => ⟨S2048x1024, .f32⟩
  | .hbm, ⟨7, _⟩ => ⟨S16384x1024, .f32⟩
  | .hbm, ⟨8, _⟩ => ⟨S16384x1024, .f32⟩
  | .hbm, ⟨9, _⟩ => ⟨S1024x2048, .f32⟩
  | .hbm, ⟨10, _⟩ => ⟨S2048x1024, .f32⟩
  | .hbm, ⟨11, _⟩ => ⟨S1x2048x1024, .f32⟩
  | .hbm, ⟨12, _⟩ => ⟨S1x2048x1024, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== WSsmIn.lean ====
abbrev S16384x1024 : Shape := ⟨2, ![16384, 1024]⟩
abbrev S16384x4096 : Shape := ⟨2, ![16384, 4096]⟩
abbrev S4x1024x1024 : Shape := ⟨3, ![4, 1024, 1024]⟩
abbrev S1024x1024 : Shape := ⟨2, ![1024, 1024]⟩
abbrev S1x1024x1024 : Shape := ⟨3, ![1, 1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S16384x1024, .bf16⟩
  | .hbm, ⟨1, _⟩ => ⟨S16384x4096, .bf16⟩
  | .hbm, ⟨2, _⟩ => ⟨S4x1024x1024, .f32⟩
  | .hbm, ⟨3, _⟩ => ⟨S4x1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 4, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== WSsmInRefIdeal.lean ====
abbrev S16384x1024 : Shape := ⟨2, ![16384, 1024]⟩
abbrev S16384x4096 : Shape := ⟨2, ![16384, 4096]⟩
abbrev S4x1024x1024 : Shape := ⟨3, ![4, 1024, 1024]⟩
abbrev S_ : Shape := ⟨0, ![]⟩
abbrev S1x1024x1024 : Shape := ⟨3, ![1, 1024, 1024]⟩
abbrev S1024x1024 : Shape := ⟨2, ![1024, 1024]⟩

abbrev nBuf : Space → Nat
  | .hbm => 51
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x4096, .bf16⟩
  | .hbm, ⟨2, _⟩ => ⟨S4x1024x1024, .f32⟩
  | .hbm, ⟨3, _⟩ => ⟨S_, .f32⟩
  | .hbm, ⟨4, _⟩ => ⟨S4x1024x1024, .f32⟩
  | .hbm, ⟨5, _⟩ => ⟨S16384x1024, .f32⟩
  | .hbm, ⟨6, _⟩ => ⟨S1x1024x1024, .f32⟩
  | .hbm, ⟨7, _⟩ => ⟨S1024x1024, .f32⟩
  | .hbm, ⟨8, _⟩ => ⟨S16384x1024, .f32⟩
  | .hbm, ⟨9, _⟩ => ⟨S16384x1024, .f32⟩
  | .hbm, ⟨10, _⟩ => ⟨S1x1024x1024, .f32⟩
  | .hbm, ⟨11, _⟩ => ⟨S1024x1024, .f32⟩
  | .hbm, ⟨12, _⟩ => ⟨S16384x1024, .f32⟩
  | .hbm, ⟨13, _⟩ => ⟨S16384x1024, .f32⟩
  | .hbm, ⟨14, _⟩ => ⟨S1x1024x1024, .f32⟩
  | .hbm, ⟨15, _⟩ => ⟨S1024x1024, .f32⟩
  | .hbm, ⟨16, _⟩ => ⟨S16384x1024, .f32⟩
  | .hbm, ⟨17, _⟩ => ⟨S16384x1024, .f32⟩
  | .hbm, ⟨18, _⟩ => ⟨S1x1024x1024, .f32⟩
  | .hbm, ⟨19, _⟩ => ⟨S1024x1024, .f32⟩
  | .hbm, ⟨20, _⟩ => ⟨S16384x1024, .f32⟩
  | .hbm, ⟨21, _⟩ => ⟨S16384x4096, .f32⟩
  | .hbm, ⟨22, _⟩ => ⟨S16384x4096, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S1024x1024, .f32⟩
  | .hbm, ⟨28, _⟩ => ⟨S1024x1024, .f32⟩
  | .hbm, ⟨29, _⟩ => ⟨S1x1024x1024, .f32⟩
  | .hbm, ⟨30, _⟩ => ⟨S_, .f32⟩
  | .hbm, ⟨31, _⟩ => ⟨S4x1024x1024, .f32⟩
  | .hbm, ⟨32, _⟩ => ⟨S1024x1024, .f32⟩
  | .hbm, ⟨33, _⟩ => ⟨S1024x1024, .f32⟩
  | .hbm, ⟨34, _⟩ => ⟨S1x1024x1024, .f32⟩
  | .hbm, ⟨35, _⟩ => ⟨S_, .f32⟩
  | .hbm, ⟨36, _⟩ => ⟨S4x1024x1024, .f32⟩
  | .hbm, ⟨37, _⟩ => ⟨S4x1024x1024, .f32⟩
  | .hbm, ⟨38, _⟩ => ⟨S1024x1024, .f32⟩
  | .hbm, ⟨39, _⟩ => ⟨S1024x1024, .f32⟩
  | .hbm, ⟨40, _⟩ => ⟨S1x1024x1024, .f32⟩
  | .hbm, ⟨41, _⟩ => ⟨S_, .f32⟩
  | .hbm, ⟨42, _⟩ => ⟨S4x1024x1024, .f32⟩
  | .hbm, ⟨43, _⟩ => ⟨S4x1024x1024, .f32⟩
  | .hbm, ⟨44, _⟩ => ⟨S1024x1024, .f32⟩
  | .hbm, ⟨45, _⟩ => ⟨S1024x1024, .f32⟩
  | .hbm, ⟨46, _⟩ => ⟨S1x1024x1024, .f32⟩
  | .hbm, ⟨47, _⟩ => ⟨S_, .f32⟩
  | .hbm, ⟨48, _⟩ => ⟨S4x1024x1024, .f32⟩
  | .hbm, ⟨49, _⟩ => ⟨S4x1024x1024, .f32⟩
  | .hbm, ⟨50, _⟩ => ⟨S4x1024x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst_0 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst_1 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_2 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_cst_3 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩

abbrev nD : Nat := 1
abbrev τ : Topo := Topo.v7x

variable {F : FTy → Type} [FloatOps F]
-- ==== WGlu.lean ====
abbrev S16384x2048 : Shape := ⟨2, ![16384, 2048]⟩
abbrev S1x2048x2048 : Shape := ⟨3, ![1, 2048, 2048]⟩
abbrev S2048x1024 : Shape := ⟨2, ![2048, 1024]⟩
abbrev S2048x2048 : Shape := ⟨2, ![2048, 2048]⟩
abbrev S1x1024x2048 : Shape := ⟨3, ![1, 1024, 2048]⟩
abbrev S1024x2048 : Shape := ⟨2, ![1024, 2048]⟩

abbrev nBuf : Space → Nat
  | .hbm => 3
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S1x2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S1x1024x2048, .f32⟩
  | .local _ .vmem, ⟨5, _⟩ => ⟨S1x1024x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WGluRefIdeal.lean ====
abbrev S16384x2048 : Shape := ⟨2, ![16384, 2048]⟩
abbrev S_ : Shape := ⟨0, ![]⟩
abbrev S1x2048x2048 : Shape := ⟨3, ![1, 2048, 2048]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S_, .f32⟩
  | .hbm, ⟨3, _⟩ => ⟨S1x2048x2048, .f32⟩
  | .hbm, ⟨4, _⟩ => ⟨S16384x2048, .f32⟩
  | .hbm, ⟨5, _⟩ => ⟨S2048x2048, .f32⟩
  | .hbm, ⟨6, _⟩ => ⟨S16384x2048, .f32⟩
  | .hbm, ⟨7, _⟩ => ⟨S16384x2048, .f32⟩
  | .hbm, ⟨8, _⟩ => ⟨S2048x2048, .f32⟩
  | .hbm, ⟨9, _⟩ => ⟨S2048x2048, .f32⟩
  | .hbm, ⟨10, _⟩ => ⟨S1x2048x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== WSsmOut.lean ====
abbrev S16384x2048 : Shape := ⟨2, ![16384, 2048]⟩
abbrev S16384x1024 : Shape := ⟨2, ![16384, 1024]⟩
abbrev S1x2048x1024 : Shape := ⟨3, ![1, 2048, 1024]⟩
abbrev S2048x2048 : Shape := ⟨2, ![2048, 2048]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .bf16⟩
  | .hbm, ⟨2, _⟩ => ⟨S1x2048x1024, .f32⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x2048x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WSsmOutRefIdeal.lean ====
abbrev S16384x2048 : Shape := ⟨2, ![16384, 2048]⟩
abbrev S16384x1024 : Shape := ⟨2, ![16384, 1024]⟩
abbrev S_ : Shape := ⟨0, ![]⟩
abbrev S1x2048x1024 : Shape := ⟨3, ![1, 2048, 1024]⟩
abbrev S2048x1024 : Shape := ⟨2, ![2048, 1024]⟩
abbrev S1024x2048 : Shape := ⟨2, ![1024, 2048]⟩

abbrev nBuf : Space → Nat
  | .hbm => 11
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .bf16⟩
  | .hbm, ⟨2, _⟩ => ⟨S_, .f32⟩
  | .hbm, ⟨3, _⟩ => ⟨S1x2048x1024, .f32⟩
  | .hbm, ⟨4, _⟩ => ⟨S16384x2048, .f32⟩
  | .hbm, ⟨5, _⟩ => ⟨S2048x1024, .f32⟩
  | .hbm, ⟨6, _⟩ => ⟨S16384x1024, .f32⟩
  | .hbm, ⟨7, _⟩ => ⟨S16384x1024, .f32⟩
  | .hbm, ⟨8, _⟩ => ⟨S1024x2048, .f32⟩
  | .hbm, ⟨9, _⟩ => ⟨S2048x1024, .f32⟩
  | .hbm, ⟨10, _⟩ => ⟨S1x2048x1024, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Project.lean ====
abbrev S16384x1024 : Shape := ⟨2, ![16384, 1024]⟩
abbrev S1x1024 : Shape := ⟨2, ![1, 1024]⟩
abbrev S4x1024x2048 : Shape := ⟨3, ![4, 1024, 2048]⟩
abbrev S4x16384x2048 : Shape := ⟨3, ![4, 16384, 2048]⟩
abbrev S1024x1024 : Shape := ⟨2, ![1024, 1024]⟩
abbrev S1x1024x2048 : Shape := ⟨3, ![1, 1024, 2048]⟩
abbrev S1024x2048 : Shape := ⟨2, ![1024, 2048]⟩

abbrev nBuf : Space → Nat
  | .hbm => 6
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S4x1024x2048, .bf16⟩
  | .hbm, ⟨4, _⟩ => ⟨S4x16384x2048, .bf16⟩
  | .hbm, ⟨5, _⟩ => ⟨S16384x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1x1024x2048, .bf16⟩
  | .local _ .vmem, ⟨5, _⟩ => ⟨S1x1024x2048, .bf16⟩
  | .local _ .vmem, ⟨6, _⟩ => ⟨S1x1024x2048, .bf16⟩
  | .local _ .vmem, ⟨7, _⟩ => ⟨S1x1024x2048, .bf16⟩
  | .local _ .vmem, ⟨8, _⟩ => ⟨S1024x1024, .bf16⟩
  | .local _ .vmem, ⟨9, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ProjectRefIdeal.lean ====
abbrev S16384x1024 : Shape := ⟨2, ![16384, 1024]⟩
abbrev S1x1024 : Shape := ⟨2, ![1, 1024]⟩
abbrev S4x1024x2048 : Shape := ⟨3, ![4, 1024, 2048]⟩
abbrev S_ : Shape := ⟨0, ![]⟩
abbrev S4x2048x16384 : Shape := ⟨3, ![4, 2048, 16384]⟩
abbrev S4x16384x2048 : Shape := ⟨3, ![4, 16384, 2048]⟩

abbrev nBuf : Space → Nat
  | .hbm => 17
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S4x1024x2048, .bf16⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .bf16⟩
  | .hbm, ⟨12, _⟩ => ⟨S16384x1024, .f32⟩
  | .hbm, ⟨13, _⟩ => ⟨S4x1024x2048, .f32⟩
  | .hbm, ⟨14, _⟩ => ⟨S4x2048x16384, .f32⟩
  | .hbm, ⟨15, _⟩ => ⟨S4x16384x2048, .f32⟩
  | .hbm, ⟨16, _⟩ => ⟨S4x16384x2048, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== ProjectZ.lean ====
abbrev S16384x1024 : Shape := ⟨2, ![16384, 1024]⟩
abbrev S1x1024 : Shape := ⟨2, ![1, 1024]⟩
abbrev S4x1024x1024 : Shape := ⟨3, ![4, 1024, 1024]⟩
abbrev S2x1024x1024 : Shape := ⟨3, ![2, 1024, 1024]⟩
abbrev S1024x2x1024 : Shape := ⟨3, ![1024, 2, 1024]⟩
abbrev S1x1024x2048 : Shape := ⟨3, ![1, 1024, 2048]⟩
abbrev S1x16384x2048 : Shape := ⟨3, ![1, 16384, 2048]⟩
abbrev S1024x1024 : Shape := ⟨2, ![1024, 1024]⟩
abbrev S1024x2048 : Shape := ⟨2, ![1024, 2048]⟩

abbrev nBuf : Space → Nat
  | .hbm => 11
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S4x1024x1024, .bf16⟩
  | .hbm, ⟨6, _⟩ => ⟨S2x1024x1024, .bf16⟩
  | .hbm, ⟨7, _⟩ => ⟨S1024x2x1024, .bf16⟩
  | .hbm, ⟨8, _⟩ => ⟨S1x1024x2048, .bf16⟩
  | .hbm, ⟨9, _⟩ => ⟨S1x16384x2048, .bf16⟩
  | .hbm, ⟨10, _⟩ => ⟨S16384x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024x2048, .bf16⟩
  | .local _ .vmem, ⟨7, _⟩ => ⟨S1x1024x2048, .bf16⟩
  | .local _ .vmem, ⟨8, _⟩ => ⟨S1x1024x2048, .bf16⟩
  | .local _ .vmem, ⟨9, _⟩ => ⟨S1024x1024, .bf16⟩
  | .local _ .vmem, ⟨10, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![16, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 2 → Memref sig .tc .vmem S1x1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ProjectZRefIdeal.lean ====
abbrev S16384x1024 : Shape := ⟨2, ![16384, 1024]⟩
abbrev S1x1024 : Shape := ⟨2, ![1, 1024]⟩
abbrev S4x1024x1024 : Shape := ⟨3, ![4, 1024, 1024]⟩
abbrev S_ : Shape := ⟨0, ![]⟩
abbrev S1x1024x1024 : Shape := ⟨3, ![1, 1024, 1024]⟩
abbrev S1024x1024 : Shape := ⟨2, ![1024, 1024]⟩
abbrev S1024x2048 : Shape := ⟨2, ![1024, 2048]⟩
abbrev S16384x2048 : Shape := ⟨2, ![16384, 2048]⟩
abbrev S1x16384x2048 : Shape := ⟨3, ![1, 16384, 2048]⟩

abbrev nBuf : Space → Nat
  | .hbm => 28
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S4x1024x1024, .bf16⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S1x1024, .f32⟩
  | .hbm, ⟨12, _⟩ => ⟨S1x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .bf16⟩
  | .hbm, ⟨18, _⟩ => ⟨S1x1024x1024, .bf16⟩
  | .hbm, ⟨19, _⟩ => ⟨S1024x1024, .bf16⟩
  | .hbm, ⟨20, _⟩ => ⟨S1x1024x1024, .bf16⟩
  | .hbm, ⟨21, _⟩ => ⟨S1024x1024, .bf16⟩
  | .hbm, ⟨22, _⟩ => ⟨S1024x2048, .bf16⟩
  | .hbm, ⟨23, _⟩ => ⟨S16384x1024, .f32⟩
  | .hbm, ⟨24, _⟩ => ⟨S1024x2048, .f32⟩
  | .hbm, ⟨25, _⟩ => ⟨S16384x2048, .f32⟩
  | .hbm, ⟨26, _⟩ => ⟨S16384x2048, .bf16⟩
  | .hbm, ⟨27, _⟩ => ⟨S1x16384x2048, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== AdamConvIn.lean ====
abbrev S1024x2048 : Shape := ⟨2, ![1024, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamConvInIdeal.lean ====
abbrev S1024x2048 : Shape := ⟨2, ![1024, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamConvInRefIdeal.lean ====
abbrev S1024x2048 : Shape := ⟨2, ![1024, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S_, .f32⟩
  | .hbm, ⟨5, _⟩ => ⟨S1024x2048, .f32⟩
  | .hbm, ⟨6, _⟩ => ⟨S1024x2048, .f32⟩
  | .hbm, ⟨7, _⟩ => ⟨S_, .f32⟩
  | .hbm, ⟨8, _⟩ => ⟨S1024x2048, .f32⟩
  | .hbm, ⟨9, _⟩ => ⟨S1024x2048, .f32⟩
  | .hbm, ⟨10, _⟩ => ⟨S1024x2048, .f32⟩
  | .hbm, ⟨11, _⟩ => ⟨S_, .f32⟩
  | .hbm, ⟨12, _⟩ => ⟨S1024x2048, .f32⟩
  | .hbm, ⟨13, _⟩ => ⟨S1024x2048, .f32⟩
  | .hbm, ⟨14, _⟩ => ⟨S1024x2048, .f32⟩
  | .hbm, ⟨15, _⟩ => ⟨S_, .f32⟩
  | .hbm, ⟨16, _⟩ => ⟨S1024x2048, .f32⟩
  | .hbm, ⟨17, _⟩ => ⟨S1024x2048, .f32⟩
  | .hbm, ⟨18, _⟩ => ⟨S1024x2048, .f32⟩
  | .hbm, ⟨19, _⟩ => ⟨S_, .f32⟩
  | .hbm, ⟨20, _⟩ => ⟨S1024x2048, .f32⟩
  | .hbm, ⟨21, _⟩ => ⟨S1024x2048, .f32⟩
  | .hbm, ⟨22, _⟩ => ⟨S_, .f32⟩
  | .hbm, ⟨23, _⟩ => ⟨S1024x2048, .f32⟩
  | .hbm, ⟨24, _⟩ => ⟨S1024x2048, .f32⟩
  | .hbm, ⟨25, _⟩ => ⟨S1024x2048, .f32⟩
  | .hbm, ⟨26, _⟩ => ⟨S_, .f32⟩
  | .hbm, ⟨27, _⟩ => ⟨S1024x2048, .f32⟩
  | .hbm, ⟨28, _⟩ => ⟨S1024x2048, .f32⟩
  | .hbm, ⟨29, _⟩ => ⟨S1024x2048, .f32⟩
  | .hbm, ⟨30, _⟩ => ⟨S_, .f32⟩
  | .hbm, ⟨31, _⟩ => ⟨S1024x2048, .f32⟩
  | .hbm, ⟨32, _⟩ => ⟨S1024x2048, .f32⟩
  | .hbm, ⟨33, _⟩ => ⟨S1024x2048, .f32⟩
  | .hbm, ⟨34, _⟩ => ⟨S_, .f32⟩
  | .hbm, ⟨35, _⟩ => ⟨S1024x2048, .f32⟩
  | .hbm, ⟨36, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S512x1024 : Shape := ⟨2, ![512, 1024]⟩

abbrev nBuf : Space → Nat
  | .hbm => 7
  | .vmem => 7
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOutIdeal.lean ====
abbrev S512x1024 : Shape := ⟨2, ![512, 1024]⟩

abbrev nBuf : Space → Nat
  | .hbm => 7
  | .vmem => 7
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOutRefIdeal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSsmIn.lean ====
abbrev S1024x1024 : Shape := ⟨2, ![1024, 1024]⟩
abbrev S512x1024 : Shape := ⟨2, ![512, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSsmInIdeal.lean ====
abbrev S1024x1024 : Shape := ⟨2, ![1024, 1024]⟩
abbrev S512x1024 : Shape := ⟨2, ![512, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSsmInRefIdeal.lean ====
abbrev S1024x1024 : Shape := ⟨2, ![1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGlu.lean ====
abbrev S512x2048 : Shape := ⟨2, ![512, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamGluIdeal.lean ====
abbrev S512x2048 : Shape := ⟨2, ![512, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamGluRefIdeal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamAda.lean ====
abbrev S2048x768 : Shape := ⟨2, ![2048, 768]⟩
abbrev S512x768 : Shape := ⟨2, ![512, 768]⟩

abbrev nBuf : Space → Nat
  | .hbm => 7
  | .vmem => 14
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S2048x768, .f32⟩
  | .hbm, ⟨4, _⟩ => ⟨S2048x768, .f32⟩
  | .hbm, ⟨5, _⟩ => ⟨S2048x768, .f32⟩
  | .hbm, ⟨6, _⟩ => ⟨S2048x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamAdaIdeal.lean ====
abbrev S2048x768 : Shape := ⟨2, ![2048, 768]⟩
abbrev S512x768 : Shape := ⟨2, ![512, 768]⟩

abbrev nBuf : Space → Nat
  | .hbm => 7
  | .vmem => 14
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S2048x768, .f32⟩
  | .hbm, ⟨4, _⟩ => ⟨S2048x768, .f32⟩
  | .hbm, ⟨5, _⟩ => ⟨S2048x768, .f32⟩
  | .hbm, ⟨6, _⟩ => ⟨S2048x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamAdaRefIdeal.lean ====
abbrev S2048x768 : Shape := ⟨2, ![2048, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S2048x768, .f32⟩
  | .hbm, ⟨4, _⟩ => ⟨S_, .f32⟩
  | .hbm, ⟨5, _⟩ => ⟨S2048x768, .f32⟩
  | .hbm, ⟨6, _⟩ => ⟨S2048x768, .f32⟩
  | .hbm, ⟨7, _⟩ => ⟨S_, .f32⟩
  | .hbm, ⟨8, _⟩ => ⟨S2048x768, .f32⟩
  | .hbm, ⟨9, _⟩ => ⟨S2048x768, .f32⟩
  | .hbm, ⟨10, _⟩ => ⟨S2048x768, .f32⟩
  | .hbm, ⟨11, _⟩ => ⟨S_, .f32⟩
  | .hbm, ⟨12, _⟩ => ⟨S2048x768, .f32⟩
  | .hbm, ⟨13, _⟩ => ⟨S2048x768, .f32⟩
  | .hbm, ⟨14, _⟩ => ⟨S2048x768, .f32⟩
  | .hbm, ⟨15, _⟩ => ⟨S_, .f32⟩
  | .hbm, ⟨16, _⟩ => ⟨S2048x768, .f32⟩
  | .hbm, ⟨17, _⟩ => ⟨S2048x768, .f32⟩
  | .hbm, ⟨18, _⟩ => ⟨S2048x768, .f32⟩
  | .hbm, ⟨19, _⟩ => ⟨S_, .f32⟩
  | .hbm, ⟨20, _⟩ => ⟨S2048x768, .f32⟩
  | .hbm, ⟨21, _⟩ => ⟨S2048x768, .f32⟩
  | .hbm, ⟨22, _⟩ => ⟨S_, .f32⟩
  | .hbm, ⟨23, _⟩ => ⟨S2048x768, .f32⟩
  | .hbm, ⟨24, _⟩ => ⟨S2048x768, .f32⟩
  | .hbm, ⟨25, _⟩ => ⟨S2048x768, .f32⟩
  | .hbm, ⟨26, _⟩ => ⟨S_, .f32⟩
  | .hbm, ⟨27, _⟩ => ⟨S2048x768, .f32⟩
  | .hbm, ⟨28, _⟩ => ⟨S2048x768, .f32⟩
  | .hbm, ⟨29, _⟩ => ⟨S2048x768, .f32⟩
  | .hbm, ⟨30, _⟩ => ⟨S_, .f32⟩
  | .hbm, ⟨31, _⟩ => ⟨S2048x768, .f32⟩
  | .hbm, ⟨32, _⟩ => ⟨S2048x768, .f32⟩
  | .hbm, ⟨33, _⟩ => ⟨S2048x768, .f32⟩
  | .hbm, ⟨34, _⟩ => ⟨S_, .f32⟩
  | .hbm, ⟨35, _⟩ => ⟨S2048x768, .f32⟩
  | .hbm, ⟨36, _⟩ => ⟨S2048x768, .f32⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamCtx.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamCtxIdeal.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamCtxRefIdeal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamAdaB.lean ====
abbrev S2x3072 : Shape := ⟨2, ![2, 3072]⟩

abbrev nBuf : Space → Nat
  | .hbm => 7
  | .vmem => 7
  | .smem => 0
  | _ => 0

abbrev bufTy : (tb : Table) → Fin (tcTables nBuf tb) → BufTy
  | .hbm, ⟨0, _⟩ => ⟨S2x3072, .f32⟩
  | .hbm, ⟨1, _⟩ => ⟨S2x3072, .f32⟩
  | .hbm, ⟨2, _⟩ => ⟨S2x3072, .f32⟩
  | .hbm, ⟨3, _⟩ => ⟨S2x3072, .f32⟩
  | .hbm, ⟨4, _⟩ => ⟨S2x3072, .f32⟩
  | .hbm, ⟨5, _⟩ => ⟨S2x3072, .f32⟩
  | .hbm, ⟨6, _⟩ => ⟨S2x3072, .f32⟩
  | .local _ .vmem, ⟨0, _⟩ => ⟨S2x3072, .f32⟩
  | .local _ .vmem, ⟨1, _⟩ => ⟨S2x3072, .f32⟩
  | .local _ .vmem, ⟨2, _⟩ => ⟨S2x3072, .f32⟩
  | .local _ .vmem, ⟨3, _⟩ => ⟨S2x3072, .f32⟩
  | .local _ .vmem, ⟨4, _⟩ => ⟨S2x3072, .f32⟩
  | .local _ .vmem, ⟨5, _⟩ => ⟨S2x3072, .f32⟩
  | .local _ .vmem, ⟨6, _⟩ => ⟨S2x3072, .f32⟩
  | _, _ => ⟨S2x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamAdaBIdeal.lean ====
abbrev S2x3072 : Shape := ⟨2, ![2, 3072]⟩

abbrev nBuf : Space → Nat
  | .hbm => 7
  | .vmem => 7
  | .smem => 0
  | _ => 0

abbrev bufTy : (tb : Table) → Fin (tcTables nBuf tb) → BufTy
  | .hbm, ⟨0, _⟩ => ⟨S2x3072, .f32⟩
  | .hbm, ⟨1, _⟩ => ⟨S2x3072, .f32⟩
  | .hbm, ⟨2, _⟩ => ⟨S2x3072, .f32⟩
  | .hbm, ⟨3, _⟩ => ⟨S2x3072, .f32⟩
  | .hbm, ⟨4, _⟩ => ⟨S2x3072, .f32⟩
  | .hbm, ⟨5, _⟩ => ⟨S2x3072, .f32⟩
  | .hbm, ⟨6, _⟩ => ⟨S2x3072, .f32⟩
  | .local _ .vmem, ⟨0, _⟩ => ⟨S2x3072, .f32⟩
  | .local _ .vmem, ⟨1, _⟩ => ⟨S2x3072, .f32⟩
  | .local _ .vmem, ⟨2, _⟩ => ⟨S2x3072, .f32⟩
  | .local _ .vmem, ⟨3, _⟩ => ⟨S2x3072, .f32⟩
  | .local _ .vmem, ⟨4, _⟩ => ⟨S2x3072, .f32⟩
  | .local _ .vmem, ⟨5, _⟩ => ⟨S2x3072, .f32⟩
  | .local _ .vmem, ⟨6, _⟩ => ⟨S2x3072, .f32⟩
  | _, _ => ⟨S2x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamAdaBRefIdeal.lean ====
abbrev S2x3072 : Shape := ⟨2, ![2, 3072]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x3072, .f32⟩
  | .hbm, ⟨1, _⟩ => ⟨S2x3072, .f32⟩
  | .hbm, ⟨2, _⟩ => ⟨S2x3072, .f32⟩
  | .hbm, ⟨3, _⟩ => ⟨S2x3072, .f32⟩
  | .hbm, ⟨4, _⟩ => ⟨S_, .f32⟩
  | .hbm, ⟨5, _⟩ => ⟨S2x3072, .f32⟩
  | .hbm, ⟨6, _⟩ => ⟨S2x3072, .f32⟩
  | .hbm, ⟨7, _⟩ => ⟨S_, .f32⟩
  | .hbm, ⟨8, _⟩ => ⟨S2x3072, .f32⟩
  | .hbm, ⟨9, _⟩ => ⟨S2x3072, .f32⟩
  | .hbm, ⟨10, _⟩ => ⟨S2x3072, .f32⟩
  | .hbm, ⟨11, _⟩ => ⟨S_, .f32⟩
  | .hbm, ⟨12, _⟩ => ⟨S2x3072, .f32⟩
  | .hbm, ⟨13, _⟩ => ⟨S2x3072, .f32⟩
  | .hbm, ⟨14, _⟩ => ⟨S2x3072, .f32⟩
  | .hbm, ⟨15, _⟩ => ⟨S_, .f32⟩
  | .hbm, ⟨16, _⟩ => ⟨S2x3072, .f32⟩
  | .hbm, ⟨17, _⟩ => ⟨S2x3072, .f32⟩
  | .hbm, ⟨18, _⟩ => ⟨S2x3072, .f32⟩
  | .hbm, ⟨19, _⟩ => ⟨S_, .f32⟩
  | .hbm, ⟨20, _⟩ => ⟨S2x3072, .f32⟩
  | .hbm, ⟨21, _⟩ => ⟨S2x3072, .f32⟩
  | .hbm, ⟨22, _⟩ => ⟨S_, .f32⟩
  | .hbm, ⟨23, _⟩ => ⟨S2x3072, .f32⟩
  | .hbm, ⟨24, _⟩ => ⟨S2x3072, .f32⟩
  | .hbm, ⟨25, _⟩ => ⟨S2x3072, .f32⟩
  | .hbm, ⟨26, _⟩ => ⟨S_, .f32⟩
  | .hbm, ⟨27, _⟩ => ⟨S2x3072, .f32⟩
  | .hbm, ⟨28, _⟩ => ⟨S2x3072, .f32⟩
  | .hbm, ⟨29, _⟩ => ⟨S2x3072, .f32⟩
  | .hbm, ⟨30, _⟩ => ⟨S_, .f32⟩
  | .hbm, ⟨31, _⟩ => ⟨S2x3072, .f32⟩
  | .hbm, ⟨32, _⟩ => ⟨S2x3072, .f32⟩
  | .hbm, ⟨33, _⟩ => ⟨S2x3072, .f32⟩
  | .hbm, ⟨34, _⟩ => ⟨S_, .f32⟩
  | .hbm, ⟨35, _⟩ => ⟨S2x3072, .f32⟩
  | .hbm, ⟨36, _⟩ => ⟨S2x3072, .f32⟩
  | _, _ => ⟨S2x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamLn.lean ====
abbrev S2x1024 : Shape := ⟨2, ![2, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamLnIdeal.lean ====
abbrev S2x1024 : Shape := ⟨2, ![2, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamLnRefIdeal.lean ====
abbrev S2x1024 : Shape := ⟨2, ![2, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S_, .f32⟩
  | .hbm, ⟨5, _⟩ => ⟨S2x1024, .f32⟩
  | .hbm, ⟨6, _⟩ => ⟨S2x1024, .f32⟩
  | .hbm, ⟨7, _⟩ => ⟨S_, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S_, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S_, .f32⟩
  | .hbm, ⟨20, _⟩ => ⟨S2x1024, .f32⟩
  | .hbm, ⟨21, _⟩ => ⟨S2x1024, .f32⟩
  | .hbm, ⟨22, _⟩ => ⟨S_, .f32⟩
  | .hbm, ⟨23, _⟩ => ⟨S2x1024, .f32⟩
  | .hbm, ⟨24, _⟩ => ⟨S2x1024, .f32⟩
  | .hbm, ⟨25, _⟩ => ⟨S2x1024, .f32⟩
  | .hbm, ⟨26, _⟩ => ⟨S_, .f32⟩
  | .hbm, ⟨27, _⟩ => ⟨S2x1024, .f32⟩
  | .hbm, ⟨28, _⟩ => ⟨S2x1024, .f32⟩
  | .hbm, ⟨29, _⟩ => ⟨S2x1024, .f32⟩
  | .hbm, ⟨30, _⟩ => ⟨S_, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S_, .f32⟩
  | .hbm, ⟨35, _⟩ => ⟨S2x1024, .f32⟩
  | .hbm, ⟨36, _⟩ => ⟨S2x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamTaps.lean ====
abbrev S3x512 : Shape := ⟨2, ![3, 512]⟩

abbrev nBuf : Space → Nat
  | .hbm => 7
  | .vmem => 7
  | .smem => 0
  | _ => 0

abbrev bufTy : (tb : Table) → Fin (tcTables nBuf tb) → BufTy
  | .hbm, ⟨0, _⟩ => ⟨S3x512, .f32⟩
  | .hbm, ⟨1, _⟩ => ⟨S3x512, .f32⟩
  | .hbm, ⟨2, _⟩ => ⟨S3x512, .f32⟩
  | .hbm, ⟨3, _⟩ => ⟨S3x512, .f32⟩
  | .hbm, ⟨4, _⟩ => ⟨S3x512, .f32⟩
  | .hbm, ⟨5, _⟩ => ⟨S3x512, .f32⟩
  | .hbm, ⟨6, _⟩ => ⟨S3x512, .f32⟩
  | .local _ .vmem, ⟨0, _⟩ => ⟨S3x512, .f32⟩
  | .local _ .vmem, ⟨1, _⟩ => ⟨S3x512, .f32⟩
  | .local _ .vmem, ⟨2, _⟩ => ⟨S3x512, .f32⟩
  | .local _ .vmem, ⟨3, _⟩ => ⟨S3x512, .f32⟩
  | .local _ .vmem, ⟨4, _⟩ => ⟨S3x512, .f32⟩
  | .local _ .vmem, ⟨5, _⟩ => ⟨S3x512, .f32⟩
  | .local _ .vmem, ⟨6, _⟩ => ⟨S3x512, .f32⟩
  | _, _ => ⟨S3x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamTapsIdeal.lean ====
abbrev S3x512 : Shape := ⟨2, ![3, 512]⟩

abbrev nBuf : Space → Nat
  | .hbm => 7
  | .vmem => 7
  | .smem => 0
  | _ => 0

abbrev bufTy : (tb : Table) → Fin (tcTables nBuf tb) → BufTy
  | .hbm, ⟨0, _⟩ => ⟨S3x512, .f32⟩
  | .hbm, ⟨1, _⟩ => ⟨S3x512, .f32⟩
  | .hbm, ⟨2, _⟩ => ⟨S3x512, .f32⟩
  | .hbm, ⟨3, _⟩ => ⟨S3x512, .f32⟩
  | .hbm, ⟨4, _⟩ => ⟨S3x512, .f32⟩
  | .hbm, ⟨5, _⟩ => ⟨S3x512, .f32⟩
  | .hbm, ⟨6, _⟩ => ⟨S3x512, .f32⟩
  | .local _ .vmem, ⟨0, _⟩ => ⟨S3x512, .f32⟩
  | .local _ .vmem, ⟨1, _⟩ => ⟨S3x512, .f32⟩
  | .local _ .vmem, ⟨2, _⟩ => ⟨S3x512, .f32⟩
  | .local _ .vmem, ⟨3, _⟩ => ⟨S3x512, .f32⟩
  | .local _ .vmem, ⟨4, _⟩ => ⟨S3x512, .f32⟩
  | .local _ .vmem, ⟨5, _⟩ => ⟨S3x512, .f32⟩
  | .local _ .vmem, ⟨6, _⟩ => ⟨S3x512, .f32⟩
  | _, _ => ⟨S3x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamTapsRefIdeal.lean ====
abbrev S3x512 : Shape := ⟨2, ![3, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S3x512, .f32⟩
  | .hbm, ⟨1, _⟩ => ⟨S3x512, .f32⟩
  | .hbm, ⟨2, _⟩ => ⟨S3x512, .f32⟩
  | .hbm, ⟨3, _⟩ => ⟨S3x512, .f32⟩
  | .hbm, ⟨4, _⟩ => ⟨S_, .f32⟩
  | .hbm, ⟨5, _⟩ => ⟨S3x512, .f32⟩
  | .hbm, ⟨6, _⟩ => ⟨S3x512, .f32⟩
  | .hbm, ⟨7, _⟩ => ⟨S_, .f32⟩
  | .hbm, ⟨8, _⟩ => ⟨S3x512, .f32⟩
  | .hbm, ⟨9, _⟩ => ⟨S3x512, .f32⟩
  | .hbm, ⟨10, _⟩ => ⟨S3x512, .f32⟩
  | .hbm, ⟨11, _⟩ => ⟨S_, .f32⟩
  | .hbm, ⟨12, _⟩ => ⟨S3x512, .f32⟩
  | .hbm, ⟨13, _⟩ => ⟨S3x512, .f32⟩
  | .hbm, ⟨14, _⟩ => ⟨S3x512, .f32⟩
  | .hbm, ⟨15, _⟩ => ⟨S_, .f32⟩
  | .hbm, ⟨16, _⟩ => ⟨S3x512, .f32⟩
  | .hbm, ⟨17, _⟩ => ⟨S3x512, .f32⟩
  | .hbm, ⟨18, _⟩ => ⟨S3x512, .f32⟩
  | .hbm, ⟨19, _⟩ => ⟨S_, .f32⟩
  | .hbm, ⟨20, _⟩ => ⟨S3x512, .f32⟩
  | .hbm, ⟨21, _⟩ => ⟨S3x512, .f32⟩
  | .hbm, ⟨22, _⟩ => ⟨S_, .f32⟩
  | .hbm, ⟨23, _⟩ => ⟨S3x512, .f32⟩
  | .hbm, ⟨24, _⟩ => ⟨S3x512, .f32⟩
  | .hbm, ⟨25, _⟩ => ⟨S3x512, .f32⟩
  | .hbm, ⟨26, _⟩ => ⟨S_, .f32⟩
  | .hbm, ⟨27, _⟩ => ⟨S3x512, .f32⟩
  | .hbm, ⟨28, _⟩ => ⟨S3x512, .f32⟩
  | .hbm, ⟨29, _⟩ => ⟨S3x512, .f32⟩
  | .hbm, ⟨30, _⟩ => ⟨S_, .f32⟩
  | .hbm, ⟨31, _⟩ => ⟨S3x512, .f32⟩
  | .hbm, ⟨32, _⟩ => ⟨S3x512, .f32⟩
  | .hbm, ⟨33, _⟩ => ⟨S3x512, .f32⟩
  | .hbm, ⟨34, _⟩ => ⟨S_, .f32⟩
  | .hbm, ⟨35, _⟩ => ⟨S3x512, .f32⟩
  | .hbm, ⟨36, _⟩ => ⟨S3x512, .f32⟩
  | _, _ => ⟨S3x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamLam.lean ====
abbrev S128x128 : Shape := ⟨2, ![128, 128]⟩

abbrev nBuf : Space → Nat
  | .hbm => 7
  | .vmem => 7
  | .smem => 0
  | _ => 0

abbrev bufTy : (tb : Table) → Fin (tcTables nBuf tb) → BufTy
  | .hbm, ⟨0, _⟩ => ⟨S128x128, .f32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | _, _ => ⟨S128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamLamIdeal.lean ====
abbrev S128x128 : Shape := ⟨2, ![128, 128]⟩

abbrev nBuf : Space → Nat
  | .hbm => 7
  | .vmem => 7
  | .smem => 0
  | _ => 0

abbrev bufTy : (tb : Table) → Fin (tcTables nBuf tb) → BufTy
  | .hbm, ⟨0, _⟩ => ⟨S128x128, .f32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | _, _ => ⟨S128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamLamRefIdeal.lean ====
abbrev S128x128 : Shape := ⟨2, ![128, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S128x128, .f32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S_, .f32⟩
  | .hbm, ⟨5, _⟩ => ⟨S128x128, .f32⟩
  | .hbm, ⟨6, _⟩ => ⟨S128x128, .f32⟩
  | .hbm, ⟨7, _⟩ => ⟨S_, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S_, .f32⟩
  | .hbm, ⟨12, _⟩ => ⟨S128x128, .f32⟩
  | .hbm, ⟨13, _⟩ => ⟨S128x128, .f32⟩
  | .hbm, ⟨14, _⟩ => ⟨S128x128, .f32⟩
  | .hbm, ⟨15, _⟩ => ⟨S_, .f32⟩
  | .hbm, ⟨16, _⟩ => ⟨S128x128, .f32⟩
  | .hbm, ⟨17, _⟩ => ⟨S128x128, .f32⟩
  | .hbm, ⟨18, _⟩ => ⟨S128x128, .f32⟩
  | .hbm, ⟨19, _⟩ => ⟨S_, .f32⟩
  | .hbm, ⟨20, _⟩ => ⟨S128x128, .f32⟩
  | .hbm, ⟨21, _⟩ => ⟨S128x128, .f32⟩
  | .hbm, ⟨22, _⟩ => ⟨S_, .f32⟩
  | .hbm, ⟨23, _⟩ => ⟨S128x128, .f32⟩
  | .hbm, ⟨24, _⟩ => ⟨S128x128, .f32⟩
  | .hbm, ⟨25, _⟩ => ⟨S128x128, .f32⟩
  | .hbm, ⟨26, _⟩ => ⟨S_, .f32⟩
  | .hbm, ⟨27, _⟩ => ⟨S128x128, .f32⟩
  | .hbm, ⟨28, _⟩ => ⟨S128x128, .f32⟩
  | .hbm, ⟨29, _⟩ => ⟨S128x128, .f32⟩
  | .hbm, ⟨30, _⟩ => ⟨S_, .f32⟩
  | .hbm, ⟨31, _⟩ => ⟨S128x128, .f32⟩
  | .hbm, ⟨32, _⟩ => ⟨S128x128, .f32⟩
  | .hbm, ⟨33, _⟩ => ⟨S128x128, .f32⟩
  | .hbm, ⟨34, _⟩ => ⟨S_, .f32⟩
  | .hbm, ⟨35, _⟩ => ⟨S128x128, .f32⟩
  | .hbm, ⟨36, _⟩ => ⟨S128x128, .f32⟩
  | _, _ => ⟨S128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamStep.lean ====
abbrev S2x128 : Shape := ⟨2, ![2, 128]⟩

abbrev nBuf : Space → Nat
  | .hbm => 7
  | .vmem => 7
  | .smem => 0
  | _ => 0

abbrev bufTy : (tb : Table) → Fin (tcTables nBuf tb) → BufTy
  | .hbm, ⟨0, _⟩ => ⟨S2x128, .f32⟩
  | .hbm, ⟨1, _⟩ => ⟨S2x128, .f32⟩
  | .hbm, ⟨2, _⟩ => ⟨S2x128, .f32⟩
  | .hbm, ⟨3, _⟩ => ⟨S2x128, .f32⟩
  | .hbm, ⟨4, _⟩ => ⟨S2x128, .f32⟩
  | .hbm, ⟨5, _⟩ => ⟨S2x128, .f32⟩
  | .hbm, ⟨6, _⟩ => ⟨S2x128, .f32⟩
  | .local _ .vmem, ⟨0, _⟩ => ⟨S2x128, .f32⟩
  | .local _ .vmem, ⟨1, _⟩ => ⟨S2x128, .f32⟩
  | .local _ .vmem, ⟨2, _⟩ => ⟨S2x128, .f32⟩
  | .local _ .vmem, ⟨3, _⟩ => ⟨S2x128, .f32⟩
  | .local _ .vmem, ⟨4, _⟩ => ⟨S2x128, .f32⟩
  | .local _ .vmem, ⟨5, _⟩ => ⟨S2x128, .f32⟩
  | .local _ .vmem, ⟨6, _⟩ => ⟨S2x128, .f32⟩
  | _, _ => ⟨S2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamStepIdeal.lean ====
abbrev S2x128 : Shape := ⟨2, ![2, 128]⟩

abbrev nBuf : Space → Nat
  | .hbm => 7
  | .vmem => 7
  | .smem => 0
  | _ => 0

abbrev bufTy : (tb : Table) → Fin (tcTables nBuf tb) → BufTy
  | .hbm, ⟨0, _⟩ => ⟨S2x128, .f32⟩
  | .hbm, ⟨1, _⟩ => ⟨S2x128, .f32⟩
  | .hbm, ⟨2, _⟩ => ⟨S2x128, .f32⟩
  | .hbm, ⟨3, _⟩ => ⟨S2x128, .f32⟩
  | .hbm, ⟨4, _⟩ => ⟨S2x128, .f32⟩
  | .hbm, ⟨5, _⟩ => ⟨S2x128, .f32⟩
  | .hbm, ⟨6, _⟩ => ⟨S2x128, .f32⟩
  | .local _ .vmem, ⟨0, _⟩ => ⟨S2x128, .f32⟩
  | .local _ .vmem, ⟨1, _⟩ => ⟨S2x128, .f32⟩
  | .local _ .vmem, ⟨2, _⟩ => ⟨S2x128, .f32⟩
  | .local _ .vmem, ⟨3, _⟩ => ⟨S2x128, .f32⟩
  | .local _ .vmem, ⟨4, _⟩ => ⟨S2x128, .f32⟩
  | .local _ .vmem, ⟨5, _⟩ => ⟨S2x128, .f32⟩
  | .local _ .vmem, ⟨6, _⟩ => ⟨S2x128, .f32⟩
  | _, _ => ⟨S2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamStepRefIdeal.lean ====
abbrev S2x128 : Shape := ⟨2, ![2, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x128, .f32⟩
  | .hbm, ⟨1, _⟩ => ⟨S2x128, .f32⟩
  | .hbm, ⟨2, _⟩ => ⟨S2x128, .f32⟩
  | .hbm, ⟨3, _⟩ => ⟨S2x128, .f32⟩
  | .hbm, ⟨4, _⟩ => ⟨S_, .f32⟩
  | .hbm, ⟨5, _⟩ => ⟨S2x128, .f32⟩
  | .hbm, ⟨6, _⟩ => ⟨S2x128, .f32⟩
  | .hbm, ⟨7, _⟩ => ⟨S_, .f32⟩
  | .hbm, ⟨8, _⟩ => ⟨S2x128, .f32⟩
  | .hbm, ⟨9, _⟩ => ⟨S2x128, .f32⟩
  | .hbm, ⟨10, _⟩ => ⟨S2x128, .f32⟩
  | .hbm, ⟨11, _⟩ => ⟨S_, .f32⟩
  | .hbm, ⟨12, _⟩ => ⟨S2x128, .f32⟩
  | .hbm, ⟨13, _⟩ => ⟨S2x128, .f32⟩
  | .hbm, ⟨14, _⟩ => ⟨S2x128, .f32⟩
  | .hbm, ⟨15, _⟩ => ⟨S_, .f32⟩
  | .hbm, ⟨16, _⟩ => ⟨S2x128, .f32⟩
  | .hbm, ⟨17, _⟩ => ⟨S2x128, .f32⟩
  | .hbm, ⟨18, _⟩ => ⟨S2x128, .f32⟩
  | .hbm, ⟨19, _⟩ => ⟨S_, .f32⟩
  | .hbm, ⟨20, _⟩ => ⟨S2x128, .f32⟩
  | .hbm, ⟨21, _⟩ => ⟨S2x128, .f32⟩
  | .hbm, ⟨22, _⟩ => ⟨S_, .f32⟩
  | .hbm, ⟨23, _⟩ => ⟨S2x128, .f32⟩
  | .hbm, ⟨24, _⟩ => ⟨S2x128, .f32⟩
  | .hbm, ⟨25, _⟩ => ⟨S2x128, .f32⟩
  | .hbm, ⟨26, _⟩ => ⟨S_, .f32⟩
  | .hbm, ⟨27, _⟩ => ⟨S2x128, .f32⟩
  | .hbm, ⟨28, _⟩ => ⟨S2x128, .f32⟩
  | .hbm, ⟨29, _⟩ => ⟨S2x128, .f32⟩
  | .hbm, ⟨30, _⟩ => ⟨S_, .f32⟩
  | .hbm, ⟨31, _⟩ => ⟨S2x128, .f32⟩
  | .hbm, ⟨32, _⟩ => ⟨S2x128, .f32⟩
  | .hbm, ⟨33, _⟩ => ⟨S2x128, .f32⟩
  | .hbm, ⟨34, _⟩ => ⟨S_, .f32⟩
  | .hbm, ⟨35, _⟩ => ⟨S2x128, .f32⟩
  | .hbm, ⟨36, _⟩ => ⟨S2x128, .f32⟩
  | _, _ => ⟨S2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamBC.lean ====
abbrev S2048x128 : Shape := ⟨2, ![2048, 128]⟩

abbrev nBuf : Space → Nat
  | .hbm => 7
  | .vmem => 7
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S2048x128, .f32⟩
  | .hbm, ⟨3, _⟩ => ⟨S2048x128, .f32⟩
  | .hbm, ⟨4, _⟩ => ⟨S2048x128, .f32⟩
  | .hbm, ⟨5, _⟩ => ⟨S2048x128, .f32⟩
  | .hbm, ⟨6, _⟩ => ⟨S2048x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamBCIdeal.lean ====
abbrev S2048x128 : Shape := ⟨2, ![2048, 128]⟩

abbrev nBuf : Space → Nat
  | .hbm => 7
  | .vmem => 7
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S2048x128, .f32⟩
  | .hbm, ⟨3, _⟩ => ⟨S2048x128, .f32⟩
  | .hbm, ⟨4, _⟩ => ⟨S2048x128, .f32⟩
  | .hbm, ⟨5, _⟩ => ⟨S2048x128, .f32⟩
  | .hbm, ⟨6, _⟩ => ⟨S2048x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamBCRefIdeal.lean ====
abbrev S2048x128 : Shape := ⟨2, ![2048, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S2048x128, .f32⟩
  | .hbm, ⟨3, _⟩ => ⟨S2048x128, .f32⟩
  | .hbm, ⟨4, _⟩ => ⟨S_, .f32⟩
  | .hbm, ⟨5, _⟩ => ⟨S2048x128, .f32⟩
  | .hbm, ⟨6, _⟩ => ⟨S2048x128, .f32⟩
  | .hbm, ⟨7, _⟩ => ⟨S_, .f32⟩
  | .hbm, ⟨8, _⟩ => ⟨S2048x128, .f32⟩
  | .hbm, ⟨9, _⟩ => ⟨S2048x128, .f32⟩
  | .hbm, ⟨10, _⟩ => ⟨S2048x128, .f32⟩
  | .hbm, ⟨11, _⟩ => ⟨S_, .f32⟩
  | .hbm, ⟨12, _⟩ => ⟨S2048x128, .f32⟩
  | .hbm, ⟨13, _⟩ => ⟨S2048x128, .f32⟩
  | .hbm, ⟨14, _⟩ => ⟨S2048x128, .f32⟩
  | .hbm, ⟨15, _⟩ => ⟨S_, .f32⟩
  | .hbm, ⟨16, _⟩ => ⟨S2048x128, .f32⟩
  | .hbm, ⟨17, _⟩ => ⟨S2048x128, .f32⟩
  | .hbm, ⟨18, _⟩ => ⟨S2048x128, .f32⟩
  | .hbm, ⟨19, _⟩ => ⟨S_, .f32⟩
  | .hbm, ⟨20, _⟩ => ⟨S2048x128, .f32⟩
  | .hbm, ⟨21, _⟩ => ⟨S2048x128, .f32⟩
  | .hbm, ⟨22, _⟩ => ⟨S_, .f32⟩
  | .hbm, ⟨23, _⟩ => ⟨S2048x128, .f32⟩
  | .hbm, ⟨24, _⟩ => ⟨S2048x128, .f32⟩
  | .hbm, ⟨25, _⟩ => ⟨S2048x128, .f32⟩
  | .hbm, ⟨26, _⟩ => ⟨S_, .f32⟩
  | .hbm, ⟨27, _⟩ => ⟨S2048x128, .f32⟩
  | .hbm, ⟨28, _⟩ => ⟨S2048x128, .f32⟩
  | .hbm, ⟨29, _⟩ => ⟨S2048x128, .f32⟩
  | .hbm, ⟨30, _⟩ => ⟨S_, .f32⟩
  | .hbm, ⟨31, _⟩ => ⟨S2048x128, .f32⟩
  | .hbm, ⟨32, _⟩ => ⟨S2048x128, .f32⟩
  | .hbm, ⟨33, _⟩ => ⟨S2048x128, .f32⟩
  | .hbm, ⟨34, _⟩ => ⟨S_, .f32⟩
  | .hbm, ⟨35, _⟩ => ⟨S2048x128, .f32⟩
  | .hbm, ⟨36, _⟩ => ⟨S2048x128, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamRow.lean ====
abbrev S1x512 : Shape := ⟨2, ![1, 512]⟩

abbrev nBuf : Space → Nat
  | .hbm => 7
  | .vmem => 7
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .local _ .vmem, ⟨0, _⟩ => ⟨S1x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamRowRefIdeal.lean ====
abbrev S1x512 : Shape := ⟨2, ![1, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S_, .f32⟩
  | .hbm, ⟨5, _⟩ => ⟨S1x512, .f32⟩
  | .hbm, ⟨6, _⟩ => ⟨S1x512, .f32⟩
  | .hbm, ⟨7, _⟩ => ⟨S_, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S_, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S_, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S_, .f32⟩
  | .hbm, ⟨20, _⟩ => ⟨S1x512, .f32⟩
  | .hbm, ⟨21, _⟩ => ⟨S1x512, .f32⟩
  | .hbm, ⟨22, _⟩ => ⟨S_, .f32⟩
  | .hbm, ⟨23, _⟩ => ⟨S1x512, .f32⟩
  | .hbm, ⟨24, _⟩ => ⟨S1x512, .f32⟩
  | .hbm, ⟨25, _⟩ => ⟨S1x512, .f32⟩
  | .hbm, ⟨26, _⟩ => ⟨S_, .f32⟩
  | .hbm, ⟨27, _⟩ => ⟨S1x512, .f32⟩
  | .hbm, ⟨28, _⟩ => ⟨S1x512, .f32⟩
  | .hbm, ⟨29, _⟩ => ⟨S1x512, .f32⟩
  | .hbm, ⟨30, _⟩ => ⟨S_, .f32⟩
  | .hbm, ⟨31, _⟩ => ⟨S1x512, .f32⟩
  | .hbm, ⟨32, _⟩ => ⟨S1x512, .f32⟩
  | .hbm, ⟨33, _⟩ => ⟨S1x512, .f32⟩
  | .hbm, ⟨34, _⟩ => ⟨S_, .f32⟩
  | .hbm, ⟨35, _⟩ => ⟨S1x512, .f32⟩
  | .hbm, ⟨36, _⟩ => ⟨S1x512, .f32⟩
  | _, _ => ⟨S1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SumConvIn.lean ====
abbrev S8x512x2048 : Shape := ⟨3, ![8, 512, 2048]⟩
abbrev S512x2048 : Shape := ⟨2, ![512, 2048]⟩
abbrev S8x128x2048 : Shape := ⟨3, ![8, 128, 2048]⟩
abbrev S128x2048 : Shape := ⟨2, ![128, 2048]⟩
abbrev S1x128x2048 : Shape := ⟨3, ![1, 128, 2048]⟩

abbrev nBuf : Space → Nat
  | .hbm => 2
  | .vmem => 4
  | .smem => 0
  | _ => 0

abbrev bufTy : (tb : Table) → Fin (tcTables nBuf tb) → BufTy
  | .hbm, ⟨0, _⟩ => ⟨S8x512x2048, .f32⟩
  | .hbm, ⟨1, _⟩ => ⟨S512x2048, .f32⟩
  | .local _ .vmem, ⟨0, _⟩ => ⟨S8x128x2048, .f32⟩
  | .local _ .vmem, ⟨1, _⟩ => ⟨S8x128x2048, .f32⟩
  | .local _ .vmem, ⟨2, _⟩ => ⟨S128x2048, .f32⟩
  | .local _ .vmem, ⟨3, _⟩ => ⟨S128x2048, .f32⟩
  | _, _ => ⟨S8x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumConvInIdeal.lean ====
abbrev S8x512x2048 : Shape := ⟨3, ![8, 512, 2048]⟩
abbrev S512x2048 : Shape := ⟨2, ![512, 2048]⟩
abbrev S8x128x2048 : Shape := ⟨3, ![8, 128, 2048]⟩
abbrev S128x2048 : Shape := ⟨2, ![128, 2048]⟩
abbrev S1x128x2048 : Shape := ⟨3, ![1, 128, 2048]⟩

abbrev nBuf : Space → Nat
  | .hbm => 2
  | .vmem => 4
  | .smem => 0
  | _ => 0

abbrev bufTy : (tb : Table) → Fin (tcTables nBuf tb) → BufTy
  | .hbm, ⟨0, _⟩ => ⟨S8x512x2048, .f32⟩
  | .hbm, ⟨1, _⟩ => ⟨S512x2048, .f32⟩
  | .local _ .vmem, ⟨0, _⟩ => ⟨S8x128x2048, .f32⟩
  | .local _ .vmem, ⟨1, _⟩ => ⟨S8x128x2048, .f32⟩
  | .local _ .vmem, ⟨2, _⟩ => ⟨S128x2048, .f32⟩
  | .local _ .vmem, ⟨3, _⟩ => ⟨S128x2048, .f32⟩
  | _, _ => ⟨S8x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumConvInRefIdeal.lean ====
abbrev S8x512x2048 : Shape := ⟨3, ![8, 512, 2048]⟩
abbrev S_ : Shape := ⟨0, ![]⟩
abbrev S512x2048 : Shape := ⟨2, ![512, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8x512x2048, .f32⟩
  | .hbm, ⟨1, _⟩ => ⟨S_, .f32⟩
  | .hbm, ⟨2, _⟩ => ⟨S512x2048, .f32⟩
  | _, _ => ⟨S8x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumSsmIn.lean ====
abbrev S8x512x1024 : Shape := ⟨3, ![8, 512, 1024]⟩
abbrev S512x1024 : Shape := ⟨2, ![512, 1024]⟩
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x512x1024, .f32⟩
  | .hbm, ⟨1, _⟩ => ⟨S512x1024, .f32⟩
  | .local _ .vmem, ⟨0, _⟩ => ⟨S8x256x1024, .f32⟩
  | .local _ .vmem, ⟨1, _⟩ => ⟨S8x256x1024, .f32⟩
  | .local _ .vmem, ⟨2, _⟩ => ⟨S256x1024, .f32⟩
  | .local _ .vmem, ⟨3, _⟩ => ⟨S256x1024, .f32⟩
  | _, _ => ⟨S8x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumSsmInIdeal.lean ====
abbrev S8x512x1024 : Shape := ⟨3, ![8, 512, 1024]⟩
abbrev S512x1024 : Shape := ⟨2, ![512, 1024]⟩
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x512x1024, .f32⟩
  | .hbm, ⟨1, _⟩ => ⟨S512x1024, .f32⟩
  | .local _ .vmem, ⟨0, _⟩ => ⟨S8x256x1024, .f32⟩
  | .local _ .vmem, ⟨1, _⟩ => ⟨S8x256x1024, .f32⟩
  | .local _ .vmem, ⟨2, _⟩ => ⟨S256x1024, .f32⟩
  | .local _ .vmem, ⟨3, _⟩ => ⟨S256x1024, .f32⟩
  | _, _ => ⟨S8x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumSsmInRefIdeal.lean ====
abbrev S8x512x1024 : Shape := ⟨3, ![8, 512, 1024]⟩
abbrev S_ : Shape := ⟨0, ![]⟩
abbrev S512x1024 : Shape := ⟨2, ![512, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x512x1024, .f32⟩
  | .hbm, ⟨1, _⟩ => ⟨S_, .f32⟩
  | .hbm, ⟨2, _⟩ => ⟨S512x1024, .f32⟩
  | _, _ => ⟨S8x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumOut.lean ====
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x256x1024, .f32⟩
  | .hbm, ⟨1, _⟩ => ⟨S256x1024, .f32⟩
  | .local _ .vmem, ⟨0, _⟩ => ⟨S8x256x1024, .f32⟩
  | .local _ .vmem, ⟨1, _⟩ => ⟨S256x1024, .f32⟩
  | _, _ => ⟨S8x256x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumOutIdeal.lean ====
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x256x1024, .f32⟩
  | .hbm, ⟨1, _⟩ => ⟨S256x1024, .f32⟩
  | .local _ .vmem, ⟨0, _⟩ => ⟨S8x256x1024, .f32⟩
  | .local _ .vmem, ⟨1, _⟩ => ⟨S256x1024, .f32⟩
  | _, _ => ⟨S8x256x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumOutRefIdeal.lean ====
abbrev S8x256x1024 : Shape := ⟨3, ![8, 256, 1024]⟩
abbrev S_ : Shape := ⟨0, ![]⟩
abbrev S256x1024 : Shape := ⟨2, ![256, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S_, .f32⟩
  | .hbm, ⟨2, _⟩ => ⟨S256x1024, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumGlu.lean ====
abbrev S8x256x2048 : Shape := ⟨3, ![8, 256, 2048]⟩
abbrev S256x2048 : Shape := ⟨2, ![256, 2048]⟩
abbrev S8x128x2048 : Shape := ⟨3, ![8, 128, 2048]⟩
abbrev S128x2048 : Shape := ⟨2, ![128, 2048]⟩
abbrev S1x128x2048 : Shape := ⟨3, ![1, 128, 2048]⟩

abbrev nBuf : Space → Nat
  | .hbm => 2
  | .vmem => 4
  | .smem => 0
  | _ => 0

abbrev bufTy : (tb : Table) → Fin (tcTables nBuf tb) → BufTy
  | .hbm, ⟨0, _⟩ => ⟨S8x256x2048, .f32⟩
  | .hbm, ⟨1, _⟩ => ⟨S256x2048, .f32⟩
  | .local _ .vmem, ⟨0, _⟩ => ⟨S8x128x2048, .f32⟩
  | .local _ .vmem, ⟨1, _⟩ => ⟨S8x128x2048, .f32⟩
  | .local _ .vmem, ⟨2, _⟩ => ⟨S128x2048, .f32⟩
  | .local _ .vmem, ⟨3, _⟩ => ⟨S128x2048, .f32⟩
  | _, _ => ⟨S8x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumGluIdeal.lean ====
abbrev S8x256x2048 : Shape := ⟨3, ![8, 256, 2048]⟩
abbrev S256x2048 : Shape := ⟨2, ![256, 2048]⟩
abbrev S8x128x2048 : Shape := ⟨3, ![8, 128, 2048]⟩
abbrev S128x2048 : Shape := ⟨2, ![128, 2048]⟩
abbrev S1x128x2048 : Shape := ⟨3, ![1, 128, 2048]⟩

abbrev nBuf : Space → Nat
  | .hbm => 2
  | .vmem => 4
  | .smem => 0
  | _ => 0

abbrev bufTy : (tb : Table) → Fin (tcTables nBuf tb) → BufTy
  | .hbm, ⟨0, _⟩ => ⟨S8x256x2048, .f32⟩
  | .hbm, ⟨1, _⟩ => ⟨S256x2048, .f32⟩
  | .local _ .vmem, ⟨0, _⟩ => ⟨S8x128x2048, .f32⟩
  | .local _ .vmem, ⟨1, _⟩ => ⟨S8x128x2048, .f32⟩
  | .local _ .vmem, ⟨2, _⟩ => ⟨S128x2048, .f32⟩
  | .local _ .vmem, ⟨3, _⟩ => ⟨S128x2048, .f32⟩
  | _, _ => ⟨S8x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumGluRefIdeal.lean ====
abbrev S8x256x2048 : Shape := ⟨3, ![8, 256, 2048]⟩
abbrev S_ : Shape := ⟨0, ![]⟩
abbrev S256x2048 : Shape := ⟨2, ![256, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8x256x2048, .f32⟩
  | .hbm, ⟨1, _⟩ => ⟨S_, .f32⟩
  | .hbm, ⟨2, _⟩ => ⟨S256x2048, .f32⟩
  | _, _ => ⟨S8x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumSmall.lean ====
abbrev S8x1072x128 : Shape := ⟨3, ![8, 1072, 128]⟩
abbrev S1072x128 : Shape := ⟨2, ![1072, 128]⟩
abbrev S1x1072x128 : Shape := ⟨3, ![1, 1072, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x1072x128, .f32⟩
  | .hbm, ⟨1, _⟩ => ⟨S1072x128, .f32⟩
  | .local _ .vmem, ⟨0, _⟩ => ⟨S8x1072x128, .f32⟩
  | .local _ .vmem, ⟨1, _⟩ => ⟨S1072x128, .f32⟩
  | _, _ => ⟨S8x1072x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1072x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1072x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumSmallRefIdeal.lean ====
abbrev S8x1072x128 : Shape := ⟨3, ![8, 1072, 128]⟩
abbrev S_ : Shape := ⟨0, ![]⟩
abbrev S1072x128 : Shape := ⟨2, ![1072, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x1072x128, .f32⟩
  | .hbm, ⟨1, _⟩ => ⟨S_, .f32⟩
  | .hbm, ⟨2, _⟩ => ⟨S1072x128, .f32⟩
  | _, _ => ⟨S8x1072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Modulate.lean ====
abbrev S8x1024 : Shape := ⟨2, ![8, 1024]⟩
abbrev S1x1024 : Shape := ⟨2, ![1, 1024]⟩
abbrev S2x1024x768 : Shape := ⟨3, ![2, 1024, 768]⟩
abbrev S2x1x768 : Shape := ⟨3, ![2, 1, 768]⟩
abbrev S2x16x768 : Shape := ⟨3, ![2, 16, 768]⟩
abbrev S16x1024 : Shape := ⟨2, ![16, 1024]⟩
abbrev S1x1024x768 : Shape := ⟨3, ![1, 1024, 768]⟩
abbrev S1024x768 : Shape := ⟨2, ![1024, 768]⟩
abbrev S16x768 : Shape := ⟨2, ![16, 768]⟩
abbrev S1x1x768 : Shape := ⟨3, ![1, 1, 768]⟩
abbrev S1x768 : Shape := ⟨2, ![1, 768]⟩
abbrev S1x16x768 : Shape := ⟨3, ![1, 16, 768]⟩

abbrev nBuf : Space → Nat
  | .hbm => 5
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S1x1024, .f32⟩
  | .hbm, ⟨2, _⟩ => ⟨S2x1024x768, .f32⟩
  | .hbm, ⟨3, _⟩ => ⟨S2x1x768, .f32⟩
  | .hbm, ⟨4, _⟩ => ⟨S2x16x768, .f32⟩
  | .local _ .vmem, ⟨0, _⟩ => ⟨S8x1024, .f32⟩
  | .local _ .vmem, ⟨1, _⟩ => ⟨S1x1024, .f32⟩
  | .local _ .vmem, ⟨2, _⟩ => ⟨S2x1024x768, .f32⟩
  | .local _ .vmem, ⟨3, _⟩ => ⟨S2x1x768, .f32⟩
  | .local _ .vmem, ⟨4, _⟩ => ⟨S2x16x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x16x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ModulateRefIdeal.lean ====
abbrev S8x1024 : Shape := ⟨2, ![8, 1024]⟩
abbrev S1x1024 : Shape := ⟨2, ![1, 1024]⟩
abbrev S2x1024x768 : Shape := ⟨3, ![2, 1024, 768]⟩
abbrev S2x1x768 : Shape := ⟨3, ![2, 1, 768]⟩
abbrev S_ : Shape := ⟨0, ![]⟩
abbrev S1x1024x768 : Shape := ⟨3, ![1, 1024, 768]⟩
abbrev S1024x768 : Shape := ⟨2, ![1024, 768]⟩
abbrev S8x768 : Shape := ⟨2, ![8, 768]⟩
abbrev S1x1x768 : Shape := ⟨3, ![1, 1, 768]⟩
abbrev S1x768 : Shape := ⟨2, ![1, 768]⟩
abbrev S16x768 : Shape := ⟨2, ![16, 768]⟩
abbrev S1x16x768 : Shape := ⟨3, ![1, 16, 768]⟩
abbrev S2x16x768 : Shape := ⟨3, ![2, 16, 768]⟩

abbrev nBuf : Space → Nat
  | .hbm => 73
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1x1024, .f32⟩
  | .hbm, ⟨2, _⟩ => ⟨S2x1024x768, .f32⟩
  | .hbm, ⟨3, _⟩ => ⟨S2x1x768, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S1x1024x768, .f32⟩
  | .hbm, ⟨14, _⟩ => ⟨S1024x768, .f32⟩
  | .hbm, ⟨15, _⟩ => ⟨S8x768, .f32⟩
  | .hbm, ⟨16, _⟩ => ⟨S1x1x768, .f32⟩
  | .hbm, ⟨17, _⟩ => ⟨S1x768, .f32⟩
  | .hbm, ⟨18, _⟩ => ⟨S8x768, .f32⟩
  | .hbm, ⟨19, _⟩ => ⟨S8x768, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S_, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S1x1024x768, .f32⟩
  | .hbm, ⟨30, _⟩ => ⟨S1024x768, .f32⟩
  | .hbm, ⟨31, _⟩ => ⟨S1x768, .f32⟩
  | .hbm, ⟨32, _⟩ => ⟨S1x1x768, .f32⟩
  | .hbm, ⟨33, _⟩ => ⟨S1x768, .f32⟩
  | .hbm, ⟨34, _⟩ => ⟨S1x768, .f32⟩
  | .hbm, ⟨35, _⟩ => ⟨S8x768, .f32⟩
  | .hbm, ⟨36, _⟩ => ⟨S16x768, .f32⟩
  | .hbm, ⟨37, _⟩ => ⟨S8x1024, .f32⟩
  | .hbm, ⟨38, _⟩ => ⟨S8x1024, .f32⟩
  | .hbm, ⟨39, _⟩ => ⟨S_, .f32⟩
  | .hbm, ⟨40, _⟩ => ⟨S8x1024, .f32⟩
  | .hbm, ⟨41, _⟩ => ⟨S8x1024, .f32⟩
  | .hbm, ⟨42, _⟩ => ⟨S_, .f32⟩
  | .hbm, ⟨43, _⟩ => ⟨S8x1024, .f32⟩
  | .hbm, ⟨44, _⟩ => ⟨S8x1024, .f32⟩
  | .hbm, ⟨45, _⟩ => ⟨S8x1024, .f32⟩
  | .hbm, ⟨46, _⟩ => ⟨S1x1024x768, .f32⟩
  | .hbm, ⟨47, _⟩ => ⟨S1024x768, .f32⟩
  | .hbm, ⟨48, _⟩ => ⟨S8x768, .f32⟩
  | .hbm, ⟨49, _⟩ => ⟨S1x1x768, .f32⟩
  | .hbm, ⟨50, _⟩ => ⟨S1x768, .f32⟩
  | .hbm, ⟨51, _⟩ => ⟨S8x768, .f32⟩
  | .hbm, ⟨52, _⟩ => ⟨S8x768, .f32⟩
  | .hbm, ⟨53, _⟩ => ⟨S1x1024, .f32⟩
  | .hbm, ⟨54, _⟩ => ⟨S1x1024, .f32⟩
  | .hbm, ⟨55, _⟩ => ⟨S_, .f32⟩
  | .hbm, ⟨56, _⟩ => ⟨S1x1024, .f32⟩
  | .hbm, ⟨57, _⟩ => ⟨S1x1024, .f32⟩
  | .hbm, ⟨58, _⟩ => ⟨S_, .f32⟩
  | .hbm, ⟨59, _⟩ => ⟨S1x1024, .f32⟩
  | .hbm, ⟨60, _⟩ => ⟨S1x1024, .f32⟩
  | .hbm, ⟨61, _⟩ => ⟨S1x1024, .f32⟩
  | .hbm, ⟨62, _⟩ => ⟨S1x1024x768, .f32⟩
  | .hbm, ⟨63, _⟩ => ⟨S1024x768, .f32⟩
  | .hbm, ⟨64, _⟩ => ⟨S1x768, .f32⟩
  | .hbm, ⟨65, _⟩ => ⟨S1x1x768, .f32⟩
  | .hbm, ⟨66, _⟩ => ⟨S1x768, .f32⟩
  | .hbm, ⟨67, _⟩ => ⟨S1x768, .f32⟩
  | .hbm, ⟨68, _⟩ => ⟨S8x768, .f32⟩
  | .hbm, ⟨69, _⟩ => ⟨S16x768, .f32⟩
  | .hbm, ⟨70, _⟩ => ⟨S1x16x768, .f32⟩
  | .hbm, ⟨71, _⟩ => ⟨S1x16x768, .f32⟩
  | .hbm, ⟨72, _⟩ => ⟨S2x16x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_call2_v0 : Ref sig .tc := ⟨.hbm, 37, rfl⟩
abbrev main_call2_v1 : Ref sig .tc := ⟨.hbm, 38, rfl⟩
abbrev main_call2_cst : Ref sig .tc := ⟨.hbm, 39, rfl⟩
abbrev main_call2_v2 : Ref sig .tc := ⟨.hbm, 40, rfl⟩
abbrev main_call2_v3 : Ref sig .tc := ⟨.hbm, 41, rfl⟩
abbrev main_call2_cst_0 : Ref sig .tc := ⟨.hbm, 42, rfl⟩
abbrev main_call2_v4 : Ref sig .tc := ⟨.hbm, 43, rfl⟩
abbrev main_call2_v5 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_call3_v0 : Ref sig .tc := ⟨.hbm, 53, rfl⟩
abbrev main_call3_v1 : Ref sig .tc := ⟨.hbm, 54, rfl⟩
abbrev main_call3_cst : Ref sig .tc := ⟨.hbm, 55, rfl⟩
abbrev main_call3_v2 : Ref sig .tc := ⟨.hbm, 56, rfl⟩
abbrev main_call3_v3 : Ref sig .tc := ⟨.hbm, 57, rfl⟩
abbrev main_call3_cst_0 : Ref sig .tc := ⟨.hbm, 58, rfl⟩
abbrev main_call3_v4 : Ref sig .tc := ⟨.hbm, 59, rfl⟩
abbrev main_call3_v5 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩

abbrev nD : Nat := 1
abbrev τ : Topo := Topo.v7x

variable {F : FTy → Type} [FloatOps F]
-- ==== Modulation.lean ====
abbrev S8x1024 : Shape := ⟨2, ![8, 1024]⟩
abbrev S1x1024 : Shape := ⟨2, ![1, 1024]⟩
abbrev S2x1024x768 : Shape := ⟨3, ![2, 1024, 768]⟩
abbrev S8x2x2x3072 : Shape := ⟨4, ![8, 2, 2, 3072]⟩
abbrev S8x2x2x768 : Shape := ⟨4, ![8, 2, 2, 768]⟩
abbrev S2x1x3072 : Shape := ⟨3, ![2, 1, 3072]⟩
abbrev S16x1024 : Shape := ⟨2, ![16, 1024]⟩
abbrev S1x1x1x768 : Shape := ⟨4, ![1, 1, 1, 768]⟩
abbrev S1x768 : Shape := ⟨2, ![1, 768]⟩
abbrev S1x1x1x3072 : Shape := ⟨4, ![1, 1, 1, 3072]⟩
abbrev S1x3072 : Shape := ⟨2, ![1, 3072]⟩
abbrev S1x1x3072 : Shape := ⟨3, ![1, 1, 3072]⟩
abbrev S7x768 : Shape := ⟨2, ![7, 768]⟩
abbrev S16x768 : Shape := ⟨2, ![16, 768]⟩
abbrev S1024x768 : Shape := ⟨2, ![1024, 768]⟩
abbrev S1x1024x768 : Shape := ⟨3, ![1, 1024, 768]⟩
abbrev S8x768 : Shape := ⟨2, ![8, 768]⟩

abbrev nBuf : Space → Nat
  | .hbm => 8
  | .vmem => 8
  | .smem => 0
  | _ => 0

abbrev bufTy : (tb : Table) → Fin (tcTables nBuf tb) → BufTy
  | .hbm, ⟨0, _⟩ => ⟨S8x1024, .f32⟩
  | .hbm, ⟨1, _⟩ => ⟨S1x1024, .f32⟩
  | .hbm, ⟨2, _⟩ => ⟨S2x1024x768, .f32⟩
  | .hbm, ⟨3, _⟩ => ⟨S8x2x2x3072, .f32⟩
  | .hbm, ⟨4, _⟩ => ⟨S8x2x2x768, .f32⟩
  | .hbm, ⟨5, _⟩ => ⟨S2x1024x768, .f32⟩
  | .hbm, ⟨6, _⟩ => ⟨S2x1x3072, .f32⟩
  | .hbm, ⟨7, _⟩ => ⟨S8x1024, .f32⟩
  | .local _ .vmem, ⟨0, _⟩ => ⟨S8x1024, .f32⟩
  | .local _ .vmem, ⟨1, _⟩ => ⟨S1x1024, .f32⟩
  | .local _ .vmem, ⟨2, _⟩ => ⟨S2x1024x768, .f32⟩
  | .local _ .vmem, ⟨3, _⟩ => ⟨S8x2x2x3072, .f32⟩
  | .local _ .vmem, ⟨4, _⟩ => ⟨S8x2x2x768, .f32⟩
  | .local _ .vmem, ⟨5, _⟩ => ⟨S2x1024x768, .f32⟩
  | .local _ .vmem, ⟨6, _⟩ => ⟨S2x1x3072, .f32⟩
  | .local _ .vmem, ⟨7, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x2x2x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x2x2x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1024x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ModulationRefIdeal.lean ====
abbrev S8x1024 : Shape := ⟨2, ![8, 1024]⟩
abbrev S1x1024 : Shape := ⟨2, ![1, 1024]⟩
abbrev S2x1024x768 : Shape := ⟨3, ![2, 1024, 768]⟩
abbrev S8x2x2x3072 : Shape := ⟨4, ![8, 2, 2, 3072]⟩
abbrev S8x2x2x768 : Shape := ⟨4, ![8, 2, 2, 768]⟩
abbrev S8x2x1x768 : Shape := ⟨4, ![8, 2, 1, 768]⟩
abbrev S8x2x768 : Shape := ⟨3, ![8, 2, 768]⟩
abbrev S2x8x768 : Shape := ⟨3, ![2, 8, 768]⟩
abbrev S_ : Shape := ⟨0, ![]⟩
abbrev S2x1x768 : Shape := ⟨3, ![2, 1, 768]⟩
abbrev S1x2x768 : Shape := ⟨3, ![1, 2, 768]⟩
abbrev S2x768x1024 : Shape := ⟨3, ![2, 768, 1024]⟩
abbrev S2x1x3072 : Shape := ⟨3, ![2, 1, 3072]⟩
abbrev S2x8x3072 : Shape := ⟨3, ![2, 8, 3072]⟩
abbrev S8x2x1x3072 : Shape := ⟨4, ![8, 2, 1, 3072]⟩
abbrev S8x2x3072 : Shape := ⟨3, ![8, 2, 3072]⟩
abbrev S2x3072 : Shape := ⟨2, ![2, 3072]⟩

abbrev nBuf : Space → Nat
  | .hbm => 55
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1x1024, .f32⟩
  | .hbm, ⟨2, _⟩ => ⟨S2x1024x768, .f32⟩
  | .hbm, ⟨3, _⟩ => ⟨S8x2x2x3072, .f32⟩
  | .hbm, ⟨4, _⟩ => ⟨S8x2x2x768, .f32⟩
  | .hbm, ⟨5, _⟩ => ⟨S8x2x1x768, .f32⟩
  | .hbm, ⟨6, _⟩ => ⟨S8x2x768, .f32⟩
  | .hbm, ⟨7, _⟩ => ⟨S2x8x768, .f32⟩
  | .hbm, ⟨8, _⟩ => ⟨S8x2x1x768, .f32⟩
  | .hbm, ⟨9, _⟩ => ⟨S_, .f32⟩
  | .hbm, ⟨10, _⟩ => ⟨S2x1x768, .f32⟩
  | .hbm, ⟨11, _⟩ => ⟨S1x1024, .f32⟩
  | .hbm, ⟨12, _⟩ => ⟨S1x1024, .f32⟩
  | .hbm, ⟨13, _⟩ => ⟨S_, .f32⟩
  | .hbm, ⟨14, _⟩ => ⟨S1x1024, .f32⟩
  | .hbm, ⟨15, _⟩ => ⟨S1x1024, .f32⟩
  | .hbm, ⟨16, _⟩ => ⟨S_, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S8x1024, .f32⟩
  | .hbm, ⟨21, _⟩ => ⟨S8x1024, .f32⟩
  | .hbm, ⟨22, _⟩ => ⟨S_, .f32⟩
  | .hbm, ⟨23, _⟩ => ⟨S8x1024, .f32⟩
  | .hbm, ⟨24, _⟩ => ⟨S8x1024, .f32⟩
  | .hbm, ⟨25, _⟩ => ⟨S_, .f32⟩
  | .hbm, ⟨26, _⟩ => ⟨S8x1024, .f32⟩
  | .hbm, ⟨27, _⟩ => ⟨S8x1024, .f32⟩
  | .hbm, ⟨28, _⟩ => ⟨S8x1024, .f32⟩
  | .hbm, ⟨29, _⟩ => ⟨S8x2x768, .f32⟩
  | .hbm, ⟨30, _⟩ => ⟨S2x8x768, .f32⟩
  | .hbm, ⟨31, _⟩ => ⟨S1x2x768, .f32⟩
  | .hbm, ⟨32, _⟩ => ⟨S2x1x768, .f32⟩
  | .hbm, ⟨33, _⟩ => ⟨S1x2x768, .f32⟩
  | .hbm, ⟨34, _⟩ => ⟨S2x768x1024, .f32⟩
  | .hbm, ⟨35, _⟩ => ⟨S2x1024x768, .f32⟩
  | .hbm, ⟨36, _⟩ => ⟨S1x1024, .f32⟩
  | .hbm, ⟨37, _⟩ => ⟨S8x2x768, .f32⟩
  | .hbm, ⟨38, _⟩ => ⟨S2x768x1024, .f32⟩
  | .hbm, ⟨39, _⟩ => ⟨S2x1024x768, .f32⟩
  | .hbm, ⟨40, _⟩ => ⟨S2x1024x768, .f32⟩
  | .hbm, ⟨41, _⟩ => ⟨S_, .f32⟩
  | .hbm, ⟨42, _⟩ => ⟨S2x1x3072, .f32⟩
  | .hbm, ⟨43, _⟩ => ⟨S2x8x3072, .f32⟩
  | .hbm, ⟨44, _⟩ => ⟨S8x2x1x3072, .f32⟩
  | .hbm, ⟨45, _⟩ => ⟨S8x2x3072, .f32⟩
  | .hbm, ⟨46, _⟩ => ⟨S2x8x3072, .f32⟩
  | .hbm, ⟨47, _⟩ => ⟨S8x2x1x3072, .f32⟩
  | .hbm, ⟨48, _⟩ => ⟨S_, .f32⟩
  | .hbm, ⟨49, _⟩ => ⟨S2x1x3072, .f32⟩
  | .hbm, ⟨50, _⟩ => ⟨S_, .f32⟩
  | .hbm, ⟨51, _⟩ => ⟨S2x3072, .f32⟩
  | .hbm, ⟨52, _⟩ => ⟨S2x1x3072, .f32⟩
  | .hbm, ⟨53, _⟩ => ⟨S2x1x3072, .f32⟩
  | .hbm, ⟨54, _⟩ => ⟨S8x1024, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v5 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_0 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_1 : Ref sig .tc := ⟨.hbm, 48, rfl⟩
abbrev main_v25 : Ref sig .tc := ⟨.hbm, 49, rfl⟩
abbrev main_cst_2 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩

abbrev nD : Nat := 1
abbrev τ : Topo := Topo.v7x

variable {F : FTy → Type} [FloatOps F]
-- ==== Context.lean ====
abbrev S4x8x1024 : Shape := ⟨3, ![4, 8, 1024]⟩
abbrev S1x1024 : Shape := ⟨2, ![1, 1024]⟩
abbrev S1x1x1024 : Shape := ⟨3, ![1, 1, 1024]⟩

abbrev nBuf : Space → Nat
  | .hbm => 3
  | .vmem => 3
  | .smem => 0
  | _ => 0

abbrev bufTy : (tb : Table) → Fin (tcTables nBuf tb) → BufTy
  | .hbm, ⟨0, _⟩ => ⟨S4x8x1024, .f32⟩
  | .hbm, ⟨1, _⟩ => ⟨S1x1024, .f32⟩
  | .hbm, ⟨2, _⟩ => ⟨S1x1024, .f32⟩
  | .local _ .vmem, ⟨0, _⟩ => ⟨S4x8x1024, .f32⟩
  | .local _ .vmem, ⟨1, _⟩ => ⟨S1x1024, .f32⟩
  | .local _ .vmem, ⟨2, _⟩ => ⟨S1x1024, .f32⟩
  | _, _ => ⟨S4x8x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ContextRefIdeal.lean ====
abbrev S4x8x1024 : Shape := ⟨3, ![4, 8, 1024]⟩
abbrev S1x1024 : Shape := ⟨2, ![1, 1024]⟩
abbrev S_ : Shape := ⟨0, ![]⟩
abbrev S4x1x1024 : Shape := ⟨3, ![4, 1, 1024]⟩

abbrev nBuf : Space → Nat
  | .hbm => 22
  | .vmem => 0
  | .smem => 0
  | _ => 0

abbrev bufTy : (tb : Table) → Fin (tcTables nBuf tb) → BufTy
  | .hbm, ⟨0, _⟩ => ⟨S4x8x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S_, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S4x1x1024, .f32⟩
  | .hbm, ⟨16, _⟩ => ⟨S_, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | _, _ => ⟨S4x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_v0_2 : Ref sig .tc := ⟨.hbm, 9, rfl⟩
abbrev main_call0_cst_1 : Ref sig .tc := ⟨.hbm, 10, rfl⟩
abbrev main_call0_v6 : Ref sig .tc := ⟨.hbm, 11, rfl⟩
abbrev main_call0_v7 : Ref sig .tc := ⟨.hbm, 12, rfl⟩
abbrev main_v0_1 : Ref sig .tc := ⟨.hbm, 13, rfl⟩
abbrev main_v0_0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_v3 : Ref sig .tc := ⟨.hbm, 21, rfl⟩

abbrev nD : Nat := 1
abbrev τ : Topo := Topo.v7x

variable {F : FTy → Type} [FloatOps F]
-- ==== Step.lean ====
abbrev S128x128 : Shape := ⟨2, ![128, 128]⟩
abbrev S2x128 : Shape := ⟨2, ![2, 128]⟩
abbrev S16x128x128 : Shape := ⟨3, ![16, 128, 128]⟩
abbrev S1x128 : Shape := ⟨2, ![1, 128]⟩
abbrev S64x128 : Shape := ⟨2, ![64, 128]⟩
abbrev S1x128x128 : Shape := ⟨3, ![1, 128, 128]⟩
abbrev S128 : Shape := ⟨1, ![128]⟩

abbrev nBuf : Space → Nat
  | .hbm => 14
  | .vmem => 14
  | .smem => 0
  | _ => 0

abbrev bufTy : (tb : Table) → Fin (tcTables nBuf tb) → BufTy
  | .hbm, ⟨0, _⟩ => ⟨S128x128, .f32⟩
  | .hbm, ⟨1, _⟩ => ⟨S128x128, .f32⟩
  | .hbm, ⟨2, _⟩ => ⟨S2x128, .f32⟩
  | .hbm, ⟨3, _⟩ => ⟨S16x128x128, .f32⟩
  | .hbm, ⟨4, _⟩ => ⟨S16x128x128, .f32⟩
  | .hbm, ⟨5, _⟩ => ⟨S128x128, .f32⟩
  | .hbm, ⟨6, _⟩ => ⟨S128x128, .f32⟩
  | .hbm, ⟨7, _⟩ => ⟨S16x128x128, .f32⟩
  | .hbm, ⟨8, _⟩ => ⟨S16x128x128, .f32⟩
  | .hbm, ⟨9, _⟩ => ⟨S128x128, .f32⟩
  | .hbm, ⟨10, _⟩ => ⟨S128x128, .f32⟩
  | .hbm, ⟨11, _⟩ => ⟨S2x128, .f32⟩
  | .hbm, ⟨12, _⟩ => ⟨S16x128x128, .f32⟩
  | .hbm, ⟨13, _⟩ => ⟨S16x128x128, .f32⟩
  | .local _ .vmem, ⟨0, _⟩ => ⟨S128x128, .f32⟩
  | .local _ .vmem, ⟨1, _⟩ => ⟨S128x128, .f32⟩
  | .local _ .vmem, ⟨2, _⟩ => ⟨S2x128, .f32⟩
  | .local _ .vmem, ⟨3, _⟩ => ⟨S16x128x128, .f32⟩
  | .local _ .vmem, ⟨4, _⟩ => ⟨S16x128x128, .f32⟩
  | .local _ .vmem, ⟨5, _⟩ => ⟨S128x128, .f32⟩
  | .local _ .vmem, ⟨6, _⟩ => ⟨S128x128, .f32⟩
  | .local _ .vmem, ⟨7, _⟩ => ⟨S16x128x128, .f32⟩
  | .local _ .vmem, ⟨8, _⟩ => ⟨S16x128x128, .f32⟩
  | .local _ .vmem, ⟨9, _⟩ => ⟨S128x128, .f32⟩
  | .local _ .vmem, ⟨10, _⟩ => ⟨S128x128, .f32⟩
  | .local _ .vmem, ⟨11, _⟩ => ⟨S2x128, .f32⟩
  | .local _ .vmem, ⟨12, _⟩ => ⟨S16x128x128, .f32⟩
  | .local _ .vmem, ⟨13, _⟩ => ⟨S16x128x128, .f32⟩
  | _, _ => ⟨S128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S16x128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S16x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== StepRefIdeal.lean ====
abbrev S128x128 : Shape := ⟨2, ![128, 128]⟩
abbrev S2x128 : Shape := ⟨2, ![2, 128]⟩
abbrev S16x128x128 : Shape := ⟨3, ![16, 128, 128]⟩
abbrev S2x64x128 : Shape := ⟨3, ![2, 64, 128]⟩
abbrev S16x2x64x128 : Shape := ⟨4, ![16, 2, 64, 128]⟩
abbrev S2x1x128 : Shape := ⟨3, ![2, 1, 128]⟩
abbrev S_ : Shape := ⟨0, ![]⟩
abbrev S1x2x64x128 : Shape := ⟨4, ![1, 2, 64, 128]⟩

abbrev nBuf : Space → Nat
  | .hbm => 176
  | .vmem => 0
  | .smem => 0
  | _ => 0

abbrev hbmTy0_0 (i : Nat) : BufTy := match i % 128 with
  | 0 => ⟨S128x128, .f32⟩
  | 1 => ⟨S128x128, .f32⟩
  | 2 => ⟨S2x128, .f32⟩
  | 3 => ⟨S16x128x128, .f32⟩
  | 4 => ⟨S16x128x128, .f32⟩
  | 5 => ⟨S128x128, .f32⟩
  | 6 => ⟨S128x128, .f32⟩
  | 7 => ⟨S16x128x128, .f32⟩
  | 8 => ⟨S16x128x128, .f32⟩
  | 9 => ⟨S2x64x128, .f32⟩
  | 10 => ⟨S2x64x128, .f32⟩
  | 11 => ⟨S16x2x64x128, .f32⟩
  | 12 => ⟨S16x2x64x128, .f32⟩
  | 13 => ⟨S2x128, .f32⟩
  | 14 => ⟨S2x1x128, .f32⟩
  | 15 => ⟨S2x64x128, .f32⟩
  | 16 => ⟨S2x64x128, .f32⟩
  | 17 => ⟨S2x64x128, .f32⟩
  | 18 => ⟨S2x64x128, .f32⟩
  | 19 => ⟨S2x64x128, .f32⟩
  | 20 => ⟨S2x64x128, .f32⟩
  | 21 => ⟨S2x64x128, .f32⟩
  | 22 => ⟨S2x64x128, .f32⟩
  | 23 => ⟨S2x64x128, .f32⟩
  | 24 => ⟨S2x64x128, .f32⟩
  | 25 => ⟨S2x64x128, .f32⟩
  | 26 => ⟨S2x64x128, .f32⟩
  | 27 => ⟨S2x64x128, .f32⟩
  | 28 => ⟨S_, .f32⟩
  | 29 => ⟨S2x64x128, .f32⟩
  | 30 => ⟨S2x64x128, .f32⟩
  | 31 => ⟨S2x64x128, .f32⟩
  | 32 => ⟨S2x64x128, .f32⟩
  | 33 => ⟨S2x64x128, .f32⟩
  | 34 => ⟨S2x64x128, .f32⟩
  | 35 => ⟨S2x64x128, .f32⟩
  | 36 => ⟨S2x64x128, .f32⟩
  | 37 => ⟨S2x64x128, .f32⟩
  | 38 => ⟨S2x64x128, .f32⟩
  | 39 => ⟨S_, .f32⟩
  | 40 => ⟨S2x64x128, .f32⟩
  | 41 => ⟨S2x64x128, .f32⟩
  | 42 => ⟨S2x64x128, .f32⟩
  | 43 => ⟨S2x64x128, .f32⟩
  | 44 => ⟨S2x64x128, .f32⟩
  | 45 => ⟨S2x64x128, .f32⟩
  | 46 => ⟨S2x64x128, .f32⟩
  | 47 => ⟨S_, .f32⟩
  | 48 => ⟨S2x64x128, .f32⟩
  | 49 => ⟨S2x64x128, .f32⟩
  | 50 => ⟨S1x2x64x128, .f32⟩
  | 51 => ⟨S16x2x64x128, .f32⟩
  | 52 => ⟨S16x2x64x128, .f32⟩
  | 53 => ⟨S1x2x64x128, .f32⟩
  | 54 => ⟨S16x2x64x128, .f32⟩
  | 55 => ⟨S16x2x64x128, .f32⟩
  | 56 => ⟨S16x2x64x128, .f32⟩
  | 57 => ⟨S1x2x64x128, .f32⟩
  | 58 => ⟨S16x2x64x128, .f32⟩
  | 59 => ⟨S16x2x64x128, .f32⟩
  | 60 => ⟨S1x2x64x128, .f32⟩
  | 61 => ⟨S16x2x64x128, .f32⟩
  | 62 => ⟨S16x2x64x128, .f32⟩
  | 63 => ⟨S16x2x64x128, .f32⟩
  | 64 => ⟨S2x64x128, .f32⟩
  | 65 => ⟨S2x64x128, .f32⟩
  | 66 => ⟨S16x2x64x128, .f32⟩
  | 67 => ⟨S16x2x64x128, .f32⟩
  | 68 => ⟨S16x2x64x128, .f32⟩
  | 69 => ⟨S16x2x64x128, .f32⟩
  | 70 => ⟨S16x2x64x128, .f32⟩
  | 71 => ⟨S_, .f32⟩
  | 72 => ⟨S2x64x128, .f32⟩
  | 73 => ⟨S1x2x64x128, .f32⟩
  | 74 => ⟨S_, .f32⟩
  | 75 => ⟨S2x64x128, .f32⟩
  | 76 => ⟨S16x2x64x128, .f32⟩
  | 77 => ⟨S16x2x64x128, .f32⟩
  | 78 => ⟨S16x2x64x128, .f32⟩
  | 79 => ⟨S_, .f32⟩
  | 80 => ⟨S2x64x128, .f32⟩
  | 81 => ⟨S1x2x64x128, .f32⟩
  | 82 => ⟨S_, .f32⟩
  | 83 => ⟨S2x64x128, .f32⟩
  | 84 => ⟨S16x2x64x128, .f32⟩
  | 85 => ⟨S16x2x64x128, .f32⟩
  | 86 => ⟨S16x2x64x128, .f32⟩
  | 87 => ⟨S16x2x64x128, .f32⟩
  | 88 => ⟨S16x2x64x128, .f32⟩
  | 89 => ⟨S_, .f32⟩
  | 90 => ⟨S2x64x128, .f32⟩
  | 91 => ⟨S1x2x64x128, .f32⟩
  | 92 => ⟨S_, .f32⟩
  | 93 => ⟨S2x64x128, .f32⟩
  | 94 => ⟨S2x64x128, .f32⟩
  | 95 => ⟨S16x2x64x128, .f32⟩
  | 96 => ⟨S16x2x64x128, .f32⟩
  | 97 => ⟨S16x2x64x128, .f32⟩
  | 98 => ⟨S16x2x64x128, .f32⟩
  | 99 => ⟨S_, .f32⟩
  | 100 => ⟨S2x64x128, .f32⟩
  | 101 => ⟨S1x2x64x128, .f32⟩
  | 102 => ⟨S_, .f32⟩
  | 103 => ⟨S2x64x128, .f32⟩
  | 104 => ⟨S2x64x128, .f32⟩
  | 105 => ⟨S2x64x128, .f32⟩
  | 106 => ⟨S2x64x128, .f32⟩
  | 107 => ⟨S2x64x128, .f32⟩
  | 108 => ⟨S2x64x128, .f32⟩
  | 109 => ⟨S2x64x128, .f32⟩
  | 110 => ⟨S2x64x128, .f32⟩
  | 111 => ⟨S2x64x128, .f32⟩
  | 112 => ⟨S2x64x128, .f32⟩
  | 113 => ⟨S2x64x128, .f32⟩
  | 114 => ⟨S2x64x128, .f32⟩
  | 115 => ⟨S2x64x128, .f32⟩
  | 116 => ⟨S2x64x128, .f32⟩
  | 117 => ⟨S2x64x128, .f32⟩
  | 118 => ⟨S2x64x128, .f32⟩
  | 119 => ⟨S2x64x128, .f32⟩
  | 120 => ⟨S2x64x128, .f32⟩
  | 121 => ⟨S2x64x128, .f32⟩
  | 122 => ⟨S2x64x128, .f32⟩
  | 123 => ⟨S2x64x128, .f32⟩
  | 124 => ⟨S2x64x128, .f32⟩
  | 125 => ⟨S2x64x128, .f32⟩
  | 126 => ⟨S2x64x128, .f32⟩
  | 127 => ⟨S2x64x128, .f32⟩
  | _ => ⟨S128x128, .f32⟩

abbrev hbmTy0_1 (i : Nat) : BufTy := match i % 128 with
  | 0 => ⟨S2x64x128, .f32⟩
  | 1 => ⟨S2x64x128, .f32⟩
  | 2 => ⟨S2x64x128, .f32⟩
  | 3 => ⟨S2x64x128, .f32⟩
  | 4 => ⟨S2x64x128, .f32⟩
  | 5 => ⟨S2x64x128, .f32⟩
  | 6 => ⟨S2x64x128, .f32⟩
  | 7 => ⟨S2x64x128, .f32⟩
  | 8 => ⟨S2x64x128, .f32⟩
  | 9 => ⟨S2x64x128, .f32⟩
  | 10 => ⟨S2x64x128, .f32⟩
  | 11 => ⟨S2x64x128, .f32⟩
  | 12 => ⟨S2x64x128, .f32⟩
  | 13 => ⟨S_, .f32⟩
  | 14 => ⟨S2x128, .f32⟩
  | 15 => ⟨S2x1x128, .f32⟩
  | 16 => ⟨S2x64x128, .f32⟩
  | 17 => ⟨S2x64x128, .f32⟩
  | 18 => ⟨S2x64x128, .f32⟩
  | 19 => ⟨S2x64x128, .f32⟩
  | 20 => ⟨S2x64x128, .f32⟩
  | 21 => ⟨S2x64x128, .f32⟩
  | 22 => ⟨S2x64x128, .f32⟩
  | 23 => ⟨S2x64x128, .f32⟩
  | 24 => ⟨S2x64x128, .f32⟩
  | 25 => ⟨S_, .f32⟩
  | 26 => ⟨S2x128, .f32⟩
  | 27 => ⟨S2x1x128, .f32⟩
  | 28 => ⟨S2x1x128, .f32⟩
  | 29 => ⟨S2x64x128, .f32⟩
  | 30 => ⟨S2x64x128, .f32⟩
  | 31 => ⟨S2x64x128, .f32⟩
  | 32 => ⟨S2x64x128, .f32⟩
  | 33 => ⟨S2x64x128, .f32⟩
  | 34 => ⟨S_, .f32⟩
  | 35 => ⟨S2x128, .f32⟩
  | 36 => ⟨S2x1x128, .f32⟩
  | 37 => ⟨S2x1x128, .f32⟩
  | 38 => ⟨S2x64x128, .f32⟩
  | 39 => ⟨S2x64x128, .f32⟩
  | 40 => ⟨S2x64x128, .f32⟩
  | 41 => ⟨S_, .f32⟩
  | 42 => ⟨S2x128, .f32⟩
  | 43 => ⟨S2x128, .f32⟩
  | 44 => ⟨S128x128, .f32⟩
  | 45 => ⟨S128x128, .f32⟩
  | 46 => ⟨S16x128x128, .f32⟩
  | 47 => ⟨S16x128x128, .f32⟩
  | _ => ⟨S128x128, .f32⟩

abbrev hbmTy (i : Nat) : BufTy := match i / 128 with
  | 0 => hbmTy0_0 i
  | 1 => hbmTy0_1 i
  | _ => ⟨S128x128, .f32⟩

abbrev bufTy : (tb : Table) → Fin (tcTables nBuf tb) → BufTy
  | .hbm, ⟨i, _⟩ => hbmTy i
  | _, _ => ⟨S128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_0 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_1 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_cst_2 : Ref sig .tc := ⟨.hbm, 71, rfl⟩
abbrev main_v59 : Ref sig .tc := ⟨.hbm, 72, rfl⟩
abbrev main_v60 : Ref sig .tc := ⟨.hbm, 73, rfl⟩
abbrev main_cst_3 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_cst_4 : Ref sig .tc := ⟨.hbm, 79, rfl⟩
abbrev main_v65 : Ref sig .tc := ⟨.hbm, 80, rfl⟩
abbrev main_v66 : Ref sig .tc := ⟨.hbm, 81, rfl⟩
abbrev main_cst_5 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_cst_6 : Ref sig .tc := ⟨.hbm, 89, rfl⟩
abbrev main_v73 : Ref sig .tc := ⟨.hbm, 90, rfl⟩
abbrev main_v74 : Ref sig .tc := ⟨.hbm, 91, rfl⟩
abbrev main_cst_7 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_cst_8 : Ref sig .tc := ⟨.hbm, 99, rfl⟩
abbrev main_v81 : Ref sig .tc := ⟨.hbm, 100, rfl⟩
abbrev main_v82 : Ref sig .tc := ⟨.hbm, 101, rfl⟩
abbrev main_cst_9 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_cst_10 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_cst_11 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_cst_12 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_cst_13 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩

abbrev nD : Nat := 1
abbrev τ : Topo := Topo.v7x

variable {F : FTy → Type} [FloatOps F]
-- ==== Proof.Silu.lean ====
/- The logistic function of the extended reals, as the kernels write it and as jax does, and the gradient of silu. -/
module

public import Idealize.ShloMosaic.Lib.Pipeline.ValueKit
public import Idealize.ShloMosaic.Lib.Pointwise
public import Idealize.ShloMosaic.Lib.IdealHost

@[expose] public section

noncomputable section

namespace Cert.Silu

open Idealize.ShloMosaic

/-- The word of one half. -/
theorem half_eq : Ideal.ofBits .f32 0x3F000000#32 = ((2⁻¹ : ℝ) : EReal) := by
  simp [Ideal.ofBits, Ideal.ieee, -EReal.coe_mul]; norm_num

/-- On the reals half a hyperbolic tangent of half the argument, plus one half, is the logistic function. -/
theorem half_tanh (r : ℝ) : 2⁻¹ * Real.tanh (2⁻¹ * r) + 2⁻¹ = (1 + Real.exp (-r))⁻¹ := by
  have e1 : Real.exp (-(2⁻¹ * r)) = (Real.exp (2⁻¹ * r))⁻¹ := Real.exp_neg _
  have e2 : Real.exp (-r) = (Real.exp (2⁻¹ * r))⁻¹ * (Real.exp (2⁻¹ * r))⁻¹ := by
    rw [← e1, ← Real.exp_add]; congr 1; ring
  have hp : 0 < Real.exp (2⁻¹ * r) := Real.exp_pos _
  rw [Real.tanh_eq_sinh_div_cosh, Real.sinh_eq, Real.cosh_eq, e1, e2]
  generalize Real.exp (2⁻¹ * r) = u at hp
  have h1 : u + u⁻¹ ≠ 0 := by positivity
  have h2 : 1 + u⁻¹ * u⁻¹ ≠ 0 := by positivity
  field_simp
  ring

/-- The kernels' logistic function: half a hyperbolic tangent of half the argument, plus one half. -/
theorem logistic_tanh (z : EReal) :
    Ideal.ofBits .f32 0x3F000000#32 * Ideal.tanh (Ideal.ofBits .f32 0x3F000000#32 * z) + Ideal.ofBits .f32 0x3F000000#32
      = Ideal.logistic z := by
  rw [half_eq]
  induction z using EReal.rec with
  | bot =>
    rw [EReal.coe_mul_bot_of_pos (by norm_num), Ideal.tanh_bot, Ideal.logistic_bot, ← EReal.coe_one, ← EReal.coe_neg, ← EReal.coe_mul, ← EReal.coe_add, ← EReal.coe_zero]
    exact congrArg _ (by norm_num)
  | top =>
    rw [EReal.coe_mul_top_of_pos (by norm_num), Ideal.tanh_top, Ideal.logistic_top, ← EReal.coe_one, ← EReal.coe_mul, ← EReal.coe_add]
    exact congrArg _ (by norm_num)
  | coe r =>
    rw [Ideal.logistic_coe, ← half_tanh, ← EReal.coe_mul, Ideal.tanh_coe, ← EReal.coe_mul, ← EReal.coe_add]

/-- The gradient of silu, by its two terms and as one product, for a finite cotangent. -/
theorem silu_grad (z : EReal) (w : ℝ) :
    (w : EReal) * Ideal.logistic z + z * (w : EReal) * (Ideal.logistic z * (1 - Ideal.logistic z))
      = (w : EReal) * (Ideal.logistic z * (1 + z * (1 - Ideal.logistic z))) := by
  induction z using EReal.rec with
  | bot => rw [Ideal.logistic_bot]; simp
  | top =>
    rw [Ideal.logistic_top]
    have : (1 : EReal) - 1 = 0 := by rw [← EReal.coe_one, ← EReal.coe_sub, sub_self, EReal.coe_zero]
    rw [this]; simp
  | coe r =>
    rw [Ideal.logistic_coe]
    norm_cast
    push_cast
    ring

end Cert.Silu
-- ==== Proof.Finite.lean ====
/- Where an array is tested to hold no infinity, its elements are reals; a product of such arrays has real entries. -/
module

public import Idealize.ShloMosaic.Lib.Pipeline.ValueKit
public import Idealize.ShloMosaic.Lib.Pointwise
public import Idealize.ShloMosaic.Lib.Claim
public import Idealize.ShloMosaic.Lib.ReduceAll

@[expose] public section

noncomputable section
namespace Cert.Finite
open Idealize.ShloMosaic

/-- Where `jnp.all(jnp.abs(x) < jnp.inf)` is true, every element of `x` is a real. -/
theorem real_of_all {s : Shape} {axes : List (Fin s.rank)} (x : FVec Ideal s .f32)
    (hb : (⟨0, ![]⟩ : Shape).BroadcastsInDim s (![] : Fin 0 → Fin s.rank)) (h : s.ReducesTo axes ⟨0, ![]⟩) (hu : 0 < (⟨0, ![]⟩ : Shape).numel)
    (j : (⟨0, ![]⟩ : Shape).Idx)
    (e : Host.reduce IntOp.andi (cmpf .olt (Host.absf x) (broadcastInDim s ![] hb (constant ⟨0, ![]⟩ .f32 0x7F800000#32)))
      (constantI ⟨0, ![]⟩ 1 1#1) h hu j = 1#1) (i : s.Idx) : ∃ r : ℝ, x i = (r : EReal) := by
  haveI : Subsingleton (⟨0, ![]⟩ : Shape).Idx := ⟨fun a b => funext fun k => k.elim0⟩
  have e1 := Host.reduce_andi_all _ _ h hu j e i
  have e2 : Ideal.cmp .olt (max (x i : EReal) (-(x i))) (Ideal.ofBits .f32 0x7F800000#32) = 1#1 := e1
  have e3 : Ideal.ofBits .f32 0x7F800000#32 = ⊤ := by simp [Ideal.ofBits, Ideal.ieee]
  rw [e3] at e2
  generalize x i = v at e2
  induction v using EReal.rec with
  | bot => simp [Ideal.cmp] at e2
  | top => simp [Ideal.cmp] at e2
  | coe r => exact ⟨r, rfl⟩

/-- A finite sum of products of reals is a real. -/
theorem real_sum {n : ℕ} (f g : Fin n → EReal) (hf : ∀ k, ∃ r : ℝ, f k = (r : EReal)) (hg : ∀ k, ∃ r : ℝ, g k = (r : EReal)) :
    ∃ r : ℝ, ∑ k : Fin n, f k * g k = (r : EReal) := by
  refine Finset.sum_induction _ (fun v : EReal => ∃ r : ℝ, v = (r : EReal)) ?_ ⟨0, rfl⟩ fun k _ => ?_
  · rintro _ _ ⟨a, rfl⟩ ⟨b, rfl⟩
    exact ⟨a + b, rfl⟩
  · obtain ⟨a, ha⟩ := hf k
    obtain ⟨b, hb⟩ := hg k
    exact ⟨a * b, by rw [ha, hb, EReal.coe_mul]⟩

/-- A conjunction of two bits that is one has both bits one. -/
theorem and_one (a b : BitVec 1) (h : IntOp.andi a b = 1#1) : a = 1#1 ∧ b = 1#1 := by
  revert a b
  decide

end Cert.Finite
-- ==== Proof.GateValue.lean ====
/- The gradient of the convolution layer's gated product: what the kernel leaves in its three results is the reference's
   terms over the same arguments. The kernel takes the tokens in blocks of 512 and the columns in four slabs. -/
module

public import proofs.«01_k».proof.Proof.Gen.GateIdeal.Value
public import proofs.«01_k».proof.Proof.Gen.GateRefIdeal.Run
public import proofs.«01_k».proof.Proof.Gen.Pre_gate_finite
public import proofs.«01_k».proof.Proof.Silu
public import proofs.«01_k».proof.Proof.Finite
public import Idealize.ShloMosaic.Lib.Pipeline.ValueKit
public import Idealize.ShloMosaic.Lib.Pointwise
public import Idealize.ShloMosaic.Lib.Claim

@[expose] public section

set_option maxRecDepth 16384

noncomputable section

namespace Cert.GateValue

open Cert.GateIdeal Cert.GateIdeal.Gen Cert.GateIdeal.Value
open Idealize.ShloMosaic Idealize.ShloMosaic.TcCoe Idealize.SL.Sem
open Idealize.ShloMosaic.Pipeline (Dat)

/-- The logistic function as the kernel writes it. -/
def sg (z : EReal) : EReal :=
  Ideal.ofBits .f32 0x3F000000#32 * Ideal.tanh (Ideal.ofBits .f32 0x3F000000#32 * z) + Ideal.ofBits .f32 0x3F000000#32

/-- The product's block. -/
def acc (X : Vec Ideal S512x1024 .bf16) (W : Vec Ideal S1024x2048 .bf16) (r : Fin 512) (e : Fin 2048) : EReal :=
  ∑ k : Fin 1024, (X (ix2 r k) : EReal) * W (ix2 k e)

/-- The gradient of the gate's first factor in a block. -/
def kB (X : Vec Ideal S512x1024 .bf16) (W : Vec Ideal S1024x2048 .bf16) (Z : Vec Ideal S1x512x2048 .bf16)
    (Y : Vec Ideal S512x2048 .bf16) (r : Fin 512) (e : Fin 2048) : EReal :=
  acc X W r e * Y (ix2 r e) * (Z (ix3 0 r e) * sg (Z (ix3 0 r e)))

/-- The gradient of the gate's argument in a block. -/
def kZ (X : Vec Ideal S512x1024 .bf16) (W : Vec Ideal S1024x2048 .bf16) (B Z : Vec Ideal S1x512x2048 .bf16)
    (Y : Vec Ideal S512x2048 .bf16) (r : Fin 512) (e : Fin 2048) : EReal :=
  acc X W r e * B (ix3 0 r e) * Y (ix2 r e) * (sg (Z (ix3 0 r e)) * (1 + Z (ix3 0 r e) * (1 - sg (Z (ix3 0 r e)))))

/-- The gradient of the convolution's output in a block. -/
def kY (X : Vec Ideal S512x1024 .bf16) (W : Vec Ideal S1024x2048 .bf16) (B Z : Vec Ideal S1x512x2048 .bf16) (r : Fin 512)
    (e : Fin 2048) : EReal :=
  acc X W r e * B (ix3 0 r e) * (Z (ix3 0 r e) * sg (Z (ix3 0 r e)))

/-- The block of result 0, read at an index. -/
theorem out5_at (X : Vec Ideal S512x1024 .bf16) (W : Vec Ideal S1024x2048 .bf16) (B Z : Vec Ideal S1x512x2048 .bf16)
    (Y : Vec Ideal S512x2048 .bf16) (y : S512x2048.Idx) : (out0_5 (F := Ideal) X W B Z Y y : EReal) = kB X W Z Y (y 0) (y 1) := by
  unfold out0_5
  canon_tiles x h
  all_goals
    open_payloads
    pointwise
    have e0 : x 0 = y 0 := Fin.ext h0.symm
    simp only [e0, ← h1]
    rfl

/-- The block of result 1, read at an index. -/
theorem out6_at (X : Vec Ideal S512x1024 .bf16) (W : Vec Ideal S1024x2048 .bf16) (B Z : Vec Ideal S1x512x2048 .bf16)
    (Y : Vec Ideal S512x2048 .bf16) (y : S512x2048.Idx) : (out0_6 (F := Ideal) X W B Z Y y : EReal) = kZ X W B Z Y (y 0) (y 1) := by
  unfold out0_6
  canon_tiles x h
  all_goals
    open_payloads
    pointwise
    have e0 : x 0 = y 0 := Fin.ext h0.symm
    simp only [e0, ← h1]
    rfl

/-- The block of result 2, read at an index. -/
theorem out7_at (X : Vec Ideal S512x1024 .bf16) (W : Vec Ideal S1024x2048 .bf16) (B Z : Vec Ideal S1x512x2048 .bf16)
    (Y : Vec Ideal S512x2048 .bf16) (y : S512x2048.Idx) : (out0_7 (F := Ideal) X W B Z Y y : EReal) = kY X W B Z (y 0) (y 1) := by
  unfold out0_7
  canon_tiles x h
  all_goals
    open_payloads
    pointwise
    have e0 : x 0 = y 0 := Fin.ext h0.symm
    simp only [e0, ← h1]
    rfl

/-- The cotangent of the gated product: the layer's cotangent times the transposed weights. -/
def refCt (DF : FVec Ideal S16384x1024 .bf16) (WO : FVec Ideal S2048x1024 .bf16) : FVec Ideal S16384x2048 .f32 :=
  Host.dotGeneral Cert.GateRefIdeal.dot_S16384x1024_S2048x1024_S16384x2048_1_1_0_0_n_n none (extf .f32 DF Cert.GateRefIdeal.Gen.bitsLt_bf16_f32) (extf .f32 WO Cert.GateRefIdeal.Gen.bitsLt_bf16_f32)

/-- The gate's first factor. -/
def plane0 (P : FVec Ideal S4x16384x2048 .bf16) : FVec Ideal S16384x2048 .f32 :=
  shapeCast _ (extractStridedSlice Cert.GateRefIdeal.S1x16384x2048 ![0, 0, 0] (extf .f32 P Cert.GateRefIdeal.Gen.bitsLt_bf16_f32) Cert.GateRefIdeal.Gen.slices_S4x16384x2048_S1x16384x2048_0_0_0) Cert.GateRefIdeal.Gen.shapeCasts_S1x16384x2048_S16384x2048

/-- The gate's argument. -/
def plane3 (P : FVec Ideal S4x16384x2048 .bf16) : FVec Ideal S16384x2048 .f32 :=
  shapeCast _ (extractStridedSlice Cert.GateRefIdeal.S1x16384x2048 ![3, 0, 0] (extf .f32 P Cert.GateRefIdeal.Gen.bitsLt_bf16_f32) Cert.GateRefIdeal.Gen.slices_S4x16384x2048_S1x16384x2048_3_0_0) Cert.GateRefIdeal.Gen.shapeCasts_S1x16384x2048_S16384x2048

/-- The logistic function of the gate's argument. -/
def refS (P : FVec Ideal S4x16384x2048 .bf16) : FVec Ideal S16384x2048 .f32 :=
  Host.divf (broadcastInDim Cert.GateRefIdeal.S16384x2048 ![] Cert.GateRefIdeal.Gen.bcast_S_S16384x2048 (constant Cert.GateRefIdeal.S_ .f32 0x3F800000#32)) (addf (broadcastInDim Cert.GateRefIdeal.S16384x2048 ![] Cert.GateRefIdeal.Gen.bcast_S_S16384x2048 (constant Cert.GateRefIdeal.S_ .f32 0x3F800000#32)) (Host.exp (Host.negf (plane3 P))))

/-- The reference's gradient of the gate's first factor. -/
def refB (DF : FVec Ideal S16384x1024 .bf16) (WO : FVec Ideal S2048x1024 .bf16) (P : FVec Ideal S4x16384x2048 .bf16) (YC : FVec Ideal S16384x2048 .bf16) : FVec Ideal S16384x2048 .bf16 :=
  truncf .bf16 (mulf (mulf (refCt DF WO) (mulf (plane3 P) (refS P))) (extf .f32 YC Cert.GateRefIdeal.Gen.bitsLt_bf16_f32)) Cert.GateRefIdeal.Gen.bitsLt_bf16_f32

/-- The reference's gradient of the gate's argument. -/
def refZ (DF : FVec Ideal S16384x1024 .bf16) (WO : FVec Ideal S2048x1024 .bf16) (P : FVec Ideal S4x16384x2048 .bf16) (YC : FVec Ideal S16384x2048 .bf16) : FVec Ideal S16384x2048 .bf16 :=
  truncf .bf16 (addf (mulf (mulf (mulf (plane0 P) (extf .f32 YC Cert.GateRefIdeal.Gen.bitsLt_bf16_f32)) (refCt DF WO)) (refS P)) (mulf (mulf (plane3 P) (mulf (mulf (plane0 P) (extf .f32 YC Cert.GateRefIdeal.Gen.bitsLt_bf16_f32)) (refCt DF WO))) (mulf (refS P) (subf (broadcastInDim Cert.GateRefIdeal.S16384x2048 ![] Cert.GateRefIdeal.Gen.bcast_S_S16384x2048 (constant Cert.GateRefIdeal.S_ .f32 0x3F800000#32)) (refS P))))) Cert.GateRefIdeal.Gen.bitsLt_bf16_f32

/-- The reference's gradient of the convolution's output. -/
def refY (DF : FVec Ideal S16384x1024 .bf16) (WO : FVec Ideal S2048x1024 .bf16) (P : FVec Ideal S4x16384x2048 .bf16) (YC : FVec Ideal S16384x2048 .bf16) : FVec Ideal S16384x2048 .bf16 :=
  truncf .bf16 (mulf (plane0 P) (mulf (refCt DF WO) (mulf (plane3 P) (refS P)))) Cert.GateRefIdeal.Gen.bitsLt_bf16_f32

section Reference

variable (DF : FVec Ideal S16384x1024 .bf16) (WO : FVec Ideal S2048x1024 .bf16) (P : FVec Ideal S4x16384x2048 .bf16)
  (YC : FVec Ideal S16384x2048 .bf16) (l : Fin 16384) (e : Fin 2048)

theorem refCt_at : (refCt DF WO (ix2 l e) : EReal) = ∑ k : Fin 1024, (DF (ix2 l k) : EReal) * WO (ix2 e k) := by
  pointwise [refCt]

theorem plane0_at : (plane0 P (ix2 l e) : EReal) = P (ix3 0 l e) := by
  pointwise [plane0]

theorem plane3_at : (plane3 P (ix2 l e) : EReal) = P (ix3 3 l e) := by
  pointwise [plane3]

theorem refS_at : (refS P (ix2 l e) : EReal) = Ideal.logistic (P (ix3 3 l e)) := by
  rw [← plane3_at P l e]
  pointwise [refS]
  rfl

theorem refB_at : (refB DF WO P YC (ix2 l e) : EReal)
    = refCt DF WO (ix2 l e) * (P (ix3 3 l e) * Ideal.logistic (P (ix3 3 l e))) * YC (ix2 l e) := by
  rw [← refS_at P l e, ← plane3_at P l e]
  pointwise [refB]

theorem refY_at : (refY DF WO P YC (ix2 l e) : EReal)
    = P (ix3 0 l e) * (refCt DF WO (ix2 l e) * (P (ix3 3 l e) * Ideal.logistic (P (ix3 3 l e)))) := by
  rw [← refS_at P l e, ← plane3_at P l e, ← plane0_at P l e]
  pointwise [refY]

theorem refZ_at : (refZ DF WO P YC (ix2 l e) : EReal)
    = P (ix3 0 l e) * YC (ix2 l e) * refCt DF WO (ix2 l e) * Ideal.logistic (P (ix3 3 l e))
      + P (ix3 3 l e) * (P (ix3 0 l e) * YC (ix2 l e) * refCt DF WO (ix2 l e))
        * (Ideal.logistic (P (ix3 3 l e)) * (1 - Ideal.logistic (P (ix3 3 l e)))) := by
  rw [← refS_at P l e, ← plane3_at P l e, ← plane0_at P l e]
  pointwise [refZ]

end Reference

variable (m : (ℓ : Loc nD τ sig) → Buf (Elt Ideal) ℓ)

/-- The blocks a grid point reads and fills. -/
theorem idx : ∀ t : Fin cfg0.N, win0_0.index t = ![t.val, 0] ∧ win0_1.index t = ![0, 0] ∧ win0_2.index t = ![0, t.val, 0]
    ∧ win0_3.index t = ![3, t.val, 0] ∧ win0_4.index t = ![t.val, 0] ∧ win0_5.index t = ![t.val, 0]
    ∧ win0_6.index t = ![t.val, 0] ∧ win0_7.index t = ![t.val, 0] :=
  (by decide +kernel : ∀ t : Fin grid0.N, _)

/-- The weights' block is the transposed weights. -/
theorem w_at (c : Dev nD) (t : Fin cfg0.N) (k : Fin 1024) (e : Fin 2048) :
    (iblk m c 1 t : S1024x2048.Idx → EReal) (ix2 k e) = m ((c : Thread nD τ).loc main_arg1) (ix2 e k) := by
  blk_simp [iblk, idx t]
  entry_read
  pointwise
  blk_ext [idx t]

section Point

variable (c : Dev nD) (t : Fin cfg0.N) (r : Fin 512) (e : Fin 2048) (l : Fin 16384) (hl : l.val = t.val * 512 + r.val)
include hl

/-- Row `r` of point `t`'s product is row `512 t + r` of the reference's. -/
theorem acc_at : acc (iblk m c 0 t) (iblk m c 1 t) r e
    = refCt (m ((c : Thread nD τ).loc main_arg0)) (m ((c : Thread nD τ).loc main_arg1)) (ix2 l e) := by
  rw [refCt_at]
  refine Fin.sum_fin_congr fun k => Ideal.mul_congr ?_ (w_at m c t k e)
  blk_point [iblk, V, idx t]

theorem b_at : (iblk m c 2 t : S1x512x2048.Idx → EReal) (ix3 0 r e) = m ((c : Thread nD τ).loc main_arg2) (ix3 0 l e) := by
  blk_point [iblk, V, idx t]

theorem z_at : (iblk m c 3 t : S1x512x2048.Idx → EReal) (ix3 0 r e) = m ((c : Thread nD τ).loc main_arg2) (ix3 3 l e) := by
  blk_point [iblk, V, idx t]

theorem y_at : (iblk m c 4 t : S512x2048.Idx → EReal) (ix2 r e) = m ((c : Thread nD τ).loc main_arg3) (ix2 l e) := by
  blk_point [iblk, V, idx t]

theorem point5 : kB (iblk m c 0 t) (iblk m c 1 t) (iblk m c 3 t) (iblk m c 4 t) r e
    = refB (m ((c : Thread nD τ).loc main_arg0)) (m ((c : Thread nD τ).loc main_arg1)) (m ((c : Thread nD τ).loc main_arg2))
        (m ((c : Thread nD τ).loc main_arg3)) (ix2 l e) := by
  rw [refB_at, kB, acc_at m c t r e l hl, z_at m c t r e l hl, y_at m c t r e l hl, sg, Silu.logistic_tanh]
  ac_rfl

theorem point7 : kY (iblk m c 0 t) (iblk m c 1 t) (iblk m c 2 t) (iblk m c 3 t) r e
    = refY (m ((c : Thread nD τ).loc main_arg0)) (m ((c : Thread nD τ).loc main_arg1)) (m ((c : Thread nD τ).loc main_arg2))
        (m ((c : Thread nD τ).loc main_arg3)) (ix2 l e) := by
  rw [refY_at, kY, acc_at m c t r e l hl, z_at m c t r e l hl, b_at m c t r e l hl, sg, Silu.logistic_tanh]
  ac_rfl

/-- Of finite arguments the gradient of silu may be taken as one product. -/
theorem point6 (h0 : ∀ i, ∃ x : ℝ, m ((c : Thread nD τ).loc main_arg0) i = (x : EReal))
    (h1 : ∀ i, ∃ x : ℝ, m ((c : Thread nD τ).loc main_arg1) i = (x : EReal))
    (h2 : ∃ x : ℝ, m ((c : Thread nD τ).loc main_arg2) (ix3 0 l e) = (x : EReal))
    (h3 : ∀ i, ∃ x : ℝ, m ((c : Thread nD τ).loc main_arg3) i = (x : EReal)) :
    kZ (iblk m c 0 t) (iblk m c 1 t) (iblk m c 2 t) (iblk m c 3 t) (iblk m c 4 t) r e
    = refZ (m ((c : Thread nD τ).loc main_arg0)) (m ((c : Thread nD τ).loc main_arg1)) (m ((c : Thread nD τ).loc main_arg2))
        (m ((c : Thread nD τ).loc main_arg3)) (ix2 l e) := by
  rw [refZ_at, kZ, acc_at m c t r e l hl, z_at m c t r e l hl, y_at m c t r e l hl, b_at m c t r e l hl, sg, Silu.logistic_tanh]
  obtain ⟨b, hb⟩ := h2
  obtain ⟨y, hy⟩ := h3 (ix2 l e)
  obtain ⟨a, ha⟩ := Finite.real_sum (fun k : Fin 1024 => m ((c : Thread nD τ).loc main_arg0) (ix2 l k))
    (fun k => m ((c : Thread nD τ).loc main_arg1) (ix2 e k)) (fun k => h0 _) (fun k => h1 _)
  have e1 : (a : EReal) * (b : EReal) * (y : EReal) = ((b * y * a : ℝ) : EReal) := by
    rw [← EReal.coe_mul, ← EReal.coe_mul]
    exact congrArg _ (by ring)
  have e2 : (b : EReal) * (y : EReal) * (a : EReal) = ((b * y * a : ℝ) : EReal) := by rw [EReal.coe_mul, EReal.coe_mul]
  rw [hb, hy, refCt_at, ha, e1, e2]
  exact (Silu.silu_grad _ _).symm

end Point

/-- Result 0 after the run. -/
theorem final5 (c : Dev nD) : (dats m 0 c).arrAt 5 cfg0.N
    = refB (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t hf y => ?_
  have key : ∀ (y : S512x2048.Idx) (i : S16384x2048.Idx) (hi0 : (i 0).val = t.val * 512 + (y 0).val) (hi1 : (i 1).val = (y 1).val),
      kB (iblk m c 0 t) (iblk m c 1 t) (iblk m c 3 t) (iblk m c 4 t) (y 0) (y 1)
      = refB (m ((c : Thread nD τ).loc main_arg0)) (m ((c : Thread nD τ).loc main_arg1)) (m ((c : Thread nD τ).loc main_arg2))
        (m ((c : Thread nD τ).loc main_arg3)) i := by
    intro y i hi0 hi1
    have ei : i = ix2 (i 0) (y 1) := by rw [eq_ix2 i]; exact congrArg (ix2 (i 0)) (Fin.ext hi1)
    rw [ei]
    exact point5 m c t (y 0) (y 1) (i 0) hi0
  blk_simp
  rw [after0_5]
  refine (out5_at _ _ _ _ _ y).trans (key y _ ?_ ?_)
  all_goals (blk_simp [idx t] <;> try omega)

/-- Result 1 after the run. -/
theorem final6 (c : Dev nD) (h0 : ∀ i, ∃ x : ℝ, m ((c : Thread nD τ).loc main_arg0) i = (x : EReal))
    (h1 : ∀ i, ∃ x : ℝ, m ((c : Thread nD τ).loc main_arg1) i = (x : EReal))
    (h2 : ∀ l e, ∃ x : ℝ, m ((c : Thread nD τ).loc main_arg2) (ix3 0 l e) = (x : EReal))
    (h3 : ∀ i, ∃ x : ℝ, m ((c : Thread nD τ).loc main_arg3) i = (x : EReal)) : (dats m 0 c).arrAt 6 cfg0.N
    = refZ (m ((c : Thread nD τ).loc main_arg0)) (m ((c : Thread nD τ).loc main_arg1)) (m ((c : Thread nD τ).loc main_arg2))
        (m ((c : Thread nD τ).loc main_arg3)) := by
  refine (dats m 0 c).arrAt_eq_of_covers 6 _ (by decide +kernel) fun t hf y => ?_
  have key : ∀ (y : S512x2048.Idx) (i : S16384x2048.Idx) (hi0 : (i 0).val = t.val * 512 + (y 0).val) (hi1 : (i 1).val = (y 1).val),
      kZ (iblk m c 0 t) (iblk m c 1 t) (iblk m c 2 t) (iblk m c 3 t) (iblk m c 4 t) (y 0) (y 1)
      = refZ (m ((c : Thread nD τ).loc main_arg0)) (m ((c : Thread nD τ).loc main_arg1)) (m ((c : Thread nD τ).loc main_arg2))
        (m ((c : Thread nD τ).loc main_arg3)) i := by
    intro y i hi0 hi1
    have ei : i = ix2 (i 0) (y 1) := by rw [eq_ix2 i]; exact congrArg (ix2 (i 0)) (Fin.ext hi1)
    rw [ei]
    exact point6 m c t (y 0) (y 1) (i 0) hi0 h0 h1 (h2 _ _) h3
  blk_simp
  rw [after0_6]
  refine (out6_at _ _ _ _ _ y).trans (key y _ ?_ ?_)
  all_goals (blk_simp [idx t] <;> try omega)

/-- Result 1 after the run, where the stated precondition holds. -/
theorem final6_of [Cert.Pre_gate_finite.Facts] (c : Dev nD)
    (h : Cert.Pre_gate_finite.fn (F := Ideal) (m ((c : Thread nD τ).loc main_arg0)) (m ((c : Thread nD τ).loc main_arg1))
      (m ((c : Thread nD τ).loc main_arg2)) (m ((c : Thread nD τ).loc main_arg3)) = fun _ => 1#1) :
    (dats m 0 c).arrAt 6 cfg0.N
    = refZ (m ((c : Thread nD τ).loc main_arg0)) (m ((c : Thread nD τ).loc main_arg1)) (m ((c : Thread nD τ).loc main_arg2))
        (m ((c : Thread nD τ).loc main_arg3)) := by
  have h' := congrFun h (Shape.Idx.first Cert.Pre_gate_finite.Facts.h_S_)
  obtain ⟨h'', h3⟩ := Finite.and_one _ _ h'
  obtain ⟨h01, h2⟩ := Finite.and_one _ _ h''
  obtain ⟨h0, h1⟩ := Finite.and_one _ _ h01
  refine final6 m c (Finite.real_of_all _ _ _ _ _ h0) (Finite.real_of_all _ _ _ _ _ h1) (fun l e => ?_)
    (Finite.real_of_all _ _ _ _ _ h3)
  obtain ⟨x, hx⟩ := Finite.real_of_all _ _ _ _ _ h2 (ix2 l e)
  refine ⟨x, hx.symm.trans ?_ |>.symm⟩
  pointwise

/-- Result 2 after the run. -/
theorem final7 (c : Dev nD) : (dats m 0 c).arrAt 7 cfg0.N
    = refY (m ((c : Thread nD τ).loc main_arg0)) (m ((c : Thread nD τ).loc main_arg1)) (m ((c : Thread nD τ).loc main_arg2))
        (m ((c : Thread nD τ).loc main_arg3)) := by
  refine (dats m 0 c).arrAt_eq_of_covers 7 _ (by decide +kernel) fun t hf y => ?_
  have key : ∀ (y : S512x2048.Idx) (i : S16384x2048.Idx) (hi0 : (i 0).val = t.val * 512 + (y 0).val) (hi1 : (i 1).val = (y 1).val),
      kY (iblk m c 0 t) (iblk m c 1 t) (iblk m c 2 t) (iblk m c 3 t) (y 0) (y 1)
      = refY (m ((c : Thread nD τ).loc main_arg0)) (m ((c : Thread nD τ).loc main_arg1)) (m ((c : Thread nD τ).loc main_arg2))
        (m ((c : Thread nD τ).loc main_arg3)) i := by
    intro y i hi0 hi1
    have ei : i = ix2 (i 0) (y 1) := by rw [eq_ix2 i]; exact congrArg (ix2 (i 0)) (Fin.ext hi1)
    rw [ei]
    exact point7 m c t (y 0) (y 1) (i 0) hi0
  blk_simp
  rw [after0_7]
  refine (out7_at _ _ _ _ _ y).trans (key y _ ?_ ?_)
  all_goals (blk_simp [idx t] <;> try omega)

end Cert.GateValue
-- ==== Proof.Fold.lean ====
/- A run of grid points that adds one term per point into a block, read as a sum over the points of the run. -/
module

public import Idealize.ShloMosaic.Lib.Pipeline.Value

@[expose] public section

namespace Cert.Fold

open Idealize.ShloMosaic

variable {N : ℕ} {ι β : Type*} [AddCommMonoid β]

/-- A block that starts at `Z` plus the first point's term, and to which each of the next `e` points adds its own
    term, ends at `Z` plus the terms of the `e + 1` points. -/
theorem accAt_eq_sum (a : (n : ℕ) → n < N → ι → β) (g : (n : ℕ) → n < N → (ι → β) → ι → β) (Z : ι → β)
    (part : (n : ℕ) → n < N → ι → β) (b e : ℕ) (h : b + e < N)
    (ha : ∀ (h : b < N) (i : ι), a b h i = Z i + part b h i)
    (hg : ∀ (n : ℕ) (h : n < N) (acc : ι → β) (i : ι), g n h acc i = acc i + part n h i) (i : ι) :
    Pipeline.accAt a g b e h i
      = Z i + ∑ s : Fin (e + 1), part (b + s.val) (by have := s.isLt; omega) i := by
  have key := Pipeline.accAt_add_apply a g Z (fun n i => if h : n < N then part n h i else 0) b e
    (fun h i => by rw [ha h i, dif_pos h])
    (fun n h acc i _ _ => by rw [hg n h acc i, dif_pos h]) e le_rfl h i
  rw [key, Finset.sum_range]
  refine congrArg _ (Finset.sum_congr rfl fun s _ => ?_)
  rw [dif_pos]

end Cert.Fold
-- ==== Proof.TapBlock.lean ====
/- The three taps' backward call: what a grid point computes, read at an index, and what it leaves in the blocks of its two results. -/
module

public import proofs.«01_k».proof.Proof.Gen.TapIdeal.Value
public import proofs.«01_k».proof.Proof.Fold
public import Idealize.ShloMosaic.Lib.Pipeline.ValueKit
public import Idealize.ShloMosaic.Lib.Pipeline.ReadBack
public import Idealize.ShloMosaic.Lib.Pointwise

@[expose] public section

set_option maxRecDepth 16384

noncomputable section

namespace Cert.TapValue

open Cert.TapIdeal Cert.TapIdeal.Gen Cert.TapIdeal.Value
open Idealize.ShloMosaic Idealize.ShloMosaic.TcCoe Idealize.SL.Sem
open Idealize.ShloMosaic.Pipeline (Dat)

/-- The column of a token within its grid row, as the kernel computes it. -/
theorem col6 : ∀ l : Fin 512, k0_pay6 (ix2 l 0) = BitVec.ofNat 32 (l.val % 64) := by decide +kernel

theorem col7 : ∀ l : Fin 512, k0_pay7 (ix2 l 0) = if l.val % 64 = 0 then 1#1 else 0#1 := by decide +kernel

theorem col19 : ∀ l : Fin 512, k0_pay19 (iota Kind.tc S512x1 32 [0] iota_S512x1_d0_w32) (ix2 l 0) = BitVec.ofNat 32 (l.val % 64) := by decide +kernel

/-- Comparisons of a grid point's number with the first and the last. -/
theorem sel_first (i : ℕ) (h : i < 32) (a b : EReal) :
    Scalar.select (Scalar.cmpi .sgt (BitVec.ofNat 32 i) 0#32) a b = if 0 < i then a else b := by
  have : ∀ i : Fin 32, Scalar.cmpi .sgt (BitVec.ofNat 32 i.val) 0#32 = BitVec.ofBool (decide (0 < i.val)) := by decide +kernel
  rw [this ⟨i, h⟩, Scalar.select_decide]

theorem sel_last (i : ℕ) (h : i < 32) (a b : EReal) :
    Scalar.select (Scalar.cmpi .slt (BitVec.ofNat 32 i) 31#32) a b = if i < 31 then a else b := by
  have : ∀ i : Fin 32, Scalar.cmpi .slt (BitVec.ofNat 32 i.val) 31#32 = BitVec.ofBool (decide (i.val < 31)) := by decide +kernel
  rw [this ⟨i, h⟩, Scalar.select_decide]

theorem sel_edge (l : Fin 512) (a b : EReal) : Scalar.select (IntOp.cmpi .eq (BitVec.ofNat 32 (l.val % 64)) 63#32) a b = if l.val % 64 = 63 then a else b := by
  have : ∀ l : Fin 64, IntOp.cmpi .eq (BitVec.ofNat 32 l.val) 63#32 = BitVec.ofBool (decide (l.val = 63)) := by decide +kernel
  rw [this ⟨l.val % 64, Nat.mod_lt _ (by decide)⟩, Scalar.select_decide]

theorem sel_col (l : Fin 512) (a b : EReal) : Scalar.select (IntOp.cmpi .eq (BitVec.ofNat 32 (l.val % 64)) 0#32) a b = if l.val % 64 = 0 then a else b := by
  have : ∀ l : Fin 64, IntOp.cmpi .eq (BitVec.ofNat 32 l.val) 0#32 = BitVec.ofBool (decide (l.val = 0)) := by decide +kernel
  rw [this ⟨l.val % 64, Nat.mod_lt _ (by decide)⟩, Scalar.select_decide]

section Block

variable (i : ℕ) (D : Vec Ideal S512x2048 .bf16) (A Z : Vec Ideal S64x1024 .bf16) (C V : Vec Ideal S1x512x2048 .bf16) (W : Vec Ideal S3x2048 .f32)

/-- The cotangent one tap before: a token before on the first half of the channels, a grid row before on the second. -/
def kM (l : Fin 512) (e : Fin 2048) : EReal :=
  if e.val < 1024 then if l.val % 64 = 0 then 0 else D (ix2 ⟨l.val - 1, by omega⟩ e)
  else if l.val < 64 then if 0 < i then A (ix2 ⟨l.val % 64, by omega⟩ ⟨e.val % 1024, by omega⟩) else 0
  else D (ix2 ⟨l.val - 64, by omega⟩ e)

/-- The cotangent one tap after. -/
def kP (l : Fin 512) (e : Fin 2048) : EReal :=
  if e.val < 1024 then if l.val % 64 = 63 then 0 else D (ix2 ⟨(l.val + 1) % 512, by omega⟩ e)
  else if l.val < 448 then D (ix2 ⟨(l.val + 64) % 512, by omega⟩ e)
  else if i < 31 then Z (ix2 ⟨l.val % 64, by omega⟩ ⟨e.val % 1024, by omega⟩) else 0

/-- The product the taps slide over. -/
def kU (l : Fin 512) (e : Fin 2048) : EReal := C (ix3 0 l e) * V (ix3 0 l e)

/-- The gradient in that product. -/
def kG (l : Fin 512) (e : Fin 2048) : EReal :=
  W (ix2 0 e) * kP i D Z l e + W (ix2 1 e) * D (ix2 l e) + W (ix2 2 e) * kM i D A l e

/-- The cotangent met by tap `r`. -/
def kR (r : Fin 3) (l : Fin 512) (e : Fin 2048) : EReal :=
  if r.val = 0 then kP i D Z l e else if r.val = 1 then D (ix2 l e) else kM i D A l e

/-- Column `x` of slab `s`. -/
def col (s : Fin 4) (x : Fin 512) : Fin 2048 := ⟨s.val * 512 + x.val, by omega⟩

/-- The cotangents shifted one token, on the first two slabs. -/
theorem M0 (l x : Fin 512) :
    k0_pay8 (F := Ideal) (k0_pay5 (View.ld D (Rect.unit ![0, 0] ![512, 512] inb_S512x2048_S512x512_0_0))) k0_pay7 (ix2 l x) = kM i D A l (col 0 x) := by
  pointwise [k0_pay8, k0_pay5, kM, col]
  have hl := l.isLt
  rw [if_pos (show x.val < 1024 by omega), col7]
  by_cases h : l.val % 64 = 0
  · rw [if_pos h, if_pos h]; rfl
  · rw [if_neg h, if_neg h]
    refine congrArg D (congrArg₂ ix2 (Fin.ext ?_) (Fin.ext ?_)) <;> dsimp only <;> omega
theorem P0 (l x : Fin 512) :
    k0_pay9 (F := Ideal) (k0_pay5 (View.ld D (Rect.unit ![0, 0] ![512, 512] inb_S512x2048_S512x512_0_0))) k0_pay6 (ix2 l x) = kP i D Z l (col 0 x) := by
  pointwise [k0_pay9, k0_pay5, kP, col]
  have hl := l.isLt
  rw [if_pos (show x.val < 1024 by omega), col6, sel_edge]
  refine if_congr Iff.rfl rfl ?_
  refine congrArg D (congrArg₂ ix2 (Fin.ext ?_) (Fin.ext ?_)) <;> dsimp only <;> omega
theorem M1 (l x : Fin 512) :
    k0_pay20 (F := Ideal) (iota Kind.tc S512x1 32 [0] iota_S512x1_d0_w32) (View.ld D (Rect.unit ![0, 512] ![512, 512] inb_S512x2048_S512x512_0_512)) (ix2 l x) = kM i D A l (col 1 x) := by
  pointwise [k0_pay20, k0_pay18, kM, col]
  have hl := l.isLt
  rw [if_pos (show 512 + x.val < 1024 by omega), col19, sel_col]
  split_ifs with h
  · rfl
  · refine congrArg D (congrArg₂ ix2 (Fin.ext ?_) (Fin.ext ?_)) <;> dsimp only <;> omega
theorem P1 (l x : Fin 512) :
    k0_pay21 (F := Ideal) (k0_pay18 (View.ld D (Rect.unit ![0, 512] ![512, 512] inb_S512x2048_S512x512_0_512))) (k0_pay19 (iota Kind.tc S512x1 32 [0] iota_S512x1_d0_w32)) (ix2 l x) = kP i D Z l (col 1 x) := by
  pointwise [k0_pay21, k0_pay18, kP, col]
  have hl := l.isLt
  rw [if_pos (show 512 + x.val < 1024 by omega), col19, sel_edge]
  refine if_congr Iff.rfl rfl ?_
  refine congrArg D (congrArg₂ ix2 (Fin.ext ?_) (Fin.ext ?_)) <;> dsimp only <;> omega
theorem M2 (hi : i < 32) (l x : Fin 512) :
    k0_pay32 (F := Ideal) (BitVec.ofNat 32 i) (View.ld D (Rect.unit ![0, 1024] ![512, 512] inb_S512x2048_S512x512_0_1024)) (View.ld A (Rect.unit ![0, 0] ![64, 512] inb_S64x1024_S64x512_0_0)) (ix2 l x) = kM i D A l (col 2 x) := by
  pointwise [k0_pay32, k0_pay31, kM, col]
  have hl := l.isLt
  by_cases h : l.val < 64
  · refine (dif_pos h).trans ((sel_first i hi _ _).trans (Eq.trans ?_ (if_pos h).symm))
    refine if_congr Iff.rfl (congrArg A (congrArg₂ ix2 (Fin.ext ?_) (Fin.ext ?_))) rfl <;> dsimp only <;> omega
  · exact (dif_neg h).trans (if_neg h).symm
theorem P2 (hi : i < 32) (l x : Fin 512) :
    k0_pay33 (F := Ideal) (BitVec.ofNat 32 i) (View.ld D (Rect.unit ![0, 1024] ![512, 512] inb_S512x2048_S512x512_0_1024)) (View.ld Z (Rect.unit ![0, 0] ![64, 512] inb_S64x1024_S64x512_0_0)) (ix2 l x) = kP i D Z l (col 2 x) := by
  pointwise [k0_pay33, k0_pay31, kP, col]
  have hl := l.isLt
  by_cases h : l.val < 448
  · refine (dif_pos h).trans (Eq.trans ?_ (if_pos h).symm)
    refine congrArg D (congrArg₂ ix2 (Fin.ext ?_) (Fin.ext ?_)) <;> dsimp only <;> omega
  · refine (dif_neg h).trans ((sel_last i hi _ _).trans (Eq.trans ?_ (if_neg h).symm))
    refine if_congr Iff.rfl (congrArg Z (congrArg₂ ix2 (Fin.ext ?_) (Fin.ext ?_))) rfl <;> dsimp only <;> omega

theorem M3 (hi : i < 32) (l x : Fin 512) :
    k0_pay45 (F := Ideal) (k0_pay43 (View.ld D (Rect.unit ![0, 1536] ![512, 512] inb_S512x2048_S512x512_0_1536))) (Scalar.cmpi .sgt (BitVec.ofNat 32 i) 0#32)
      (k0_pay44 (View.ld A (Rect.unit ![0, 512] ![64, 512] inb_S64x1024_S64x512_0_512))) (ix2 l x) = kM i D A l (col 3 x) := by
  pointwise [k0_pay45, k0_pay43, k0_pay44, kM, col]
  have hl := l.isLt
  rw [if_neg (show ¬ 1536 + x.val < 1024 by omega)]
  by_cases h : l.val < 64
  · refine (dif_pos h).trans ((sel_first i hi _ _).trans (Eq.trans ?_ (if_pos h).symm))
    refine if_congr Iff.rfl (congrArg A (congrArg₂ ix2 (Fin.ext ?_) (Fin.ext ?_))) rfl <;> dsimp only <;> omega
  · exact (dif_neg h).trans (if_neg h).symm

theorem P3 (hi : i < 32) (l x : Fin 512) :
    k0_pay46 (F := Ideal) (BitVec.ofNat 32 i) (k0_pay43 (View.ld D (Rect.unit ![0, 1536] ![512, 512] inb_S512x2048_S512x512_0_1536)))
      (View.ld Z (Rect.unit ![0, 512] ![64, 512] inb_S64x1024_S64x512_0_512)) (ix2 l x) = kP i D Z l (col 3 x) := by
  pointwise [k0_pay46, k0_pay43, kP, col]
  have hl := l.isLt
  rw [if_neg (show ¬ 1536 + x.val < 1024 by omega)]
  by_cases h : l.val < 448
  · refine (dif_pos h).trans (Eq.trans ?_ (if_pos h).symm)
    refine congrArg D (congrArg₂ ix2 (Fin.ext ?_) (Fin.ext ?_)) <;> dsimp only <;> omega
  · refine (dif_neg h).trans ((sel_last i hi _ _).trans (Eq.trans ?_ (if_neg h).symm))
    refine if_congr Iff.rfl (congrArg Z (congrArg₂ ix2 (Fin.ext ?_) (Fin.ext ?_))) rfl <;> dsimp only <;> omega

theorem F0 (l x : Fin 512) : k0_pay5 (F := Ideal) (View.ld D (Rect.unit ![0, 0] ![512, 512] inb_S512x2048_S512x512_0_0)) (ix2 l x) = D (ix2 l (col 0 x)) := by
  pointwise [k0_pay5, col]

theorem F1 (l x : Fin 512) : k0_pay18 (F := Ideal) (View.ld D (Rect.unit ![0, 512] ![512, 512] inb_S512x2048_S512x512_0_512)) (ix2 l x) = D (ix2 l (col 1 x)) := by
  pointwise [k0_pay18, col]

theorem F2 (l x : Fin 512) : k0_pay31 (F := Ideal) (View.ld D (Rect.unit ![0, 1024] ![512, 512] inb_S512x2048_S512x512_0_1024)) (ix2 l x) = D (ix2 l (col 2 x)) := by
  pointwise [k0_pay31, col]

theorem F3 (l x : Fin 512) : k0_pay43 (F := Ideal) (View.ld D (Rect.unit ![0, 1536] ![512, 512] inb_S512x2048_S512x512_0_1536)) (ix2 l x) = D (ix2 l (col 3 x)) := by
  pointwise [k0_pay43, col]

/-- What a point writes into the second and third planes of the first result. -/
theorem dC0 (hi : i < 32) (p : Fin 1) (l x : Fin 512) :
    k0_pay14 (F := Ideal) (k0_pay5 (View.ld D (Rect.unit ![0, 0] ![512, 512] inb_S512x2048_S512x512_0_0))) (View.ld W (Rect.unit ![0, 0] ![3, 512] inb_S3x2048_S3x512_0_0)) k0_pay6 k0_pay7 (View.ld V (Rect.unit ![0, 0, 0] ![1, 512, 512] inb_S1x512x2048_S1x512x512_0_0_0)) (ix3 p l x)
      = kG i D A Z W l (col 0 x) * V (ix3 0 l (col 0 x)) := by
  pointwise [k0_pay14, k0_pay13, k0_pay11, M0 i D A, P0 i D Z, F0, kG]
  pointwise [col]

theorem dV0 (hi : i < 32) (p : Fin 1) (l x : Fin 512) :
    k0_pay15 (F := Ideal) (k0_pay5 (View.ld D (Rect.unit ![0, 0] ![512, 512] inb_S512x2048_S512x512_0_0))) (View.ld W (Rect.unit ![0, 0] ![3, 512] inb_S3x2048_S3x512_0_0)) k0_pay6 k0_pay7 (View.ld C (Rect.unit ![0, 0, 0] ![1, 512, 512] inb_S1x512x2048_S1x512x512_0_0_0)) (ix3 p l x)
      = kG i D A Z W l (col 0 x) * C (ix3 0 l (col 0 x)) := by
  pointwise [k0_pay15, k0_pay13, k0_pay10, M0 i D A, P0 i D Z, F0, kG]
  pointwise [col]

theorem dC1 (hi : i < 32) (p : Fin 1) (l x : Fin 512) :
    k0_pay26 (F := Ideal) (k0_pay18 (View.ld D (Rect.unit ![0, 512] ![512, 512] inb_S512x2048_S512x512_0_512))) (View.ld W (Rect.unit ![0, 512] ![3, 512] inb_S3x2048_S3x512_0_512)) (k0_pay19 (iota Kind.tc S512x1 32 [0] iota_S512x1_d0_w32)) (k0_pay20 (iota Kind.tc S512x1 32 [0] iota_S512x1_d0_w32) (View.ld D (Rect.unit ![0, 512] ![512, 512] inb_S512x2048_S512x512_0_512))) (View.ld V (Rect.unit ![0, 0, 512] ![1, 512, 512] inb_S1x512x2048_S1x512x512_0_0_512)) (ix3 p l x)
      = kG i D A Z W l (col 1 x) * V (ix3 0 l (col 1 x)) := by
  pointwise [k0_pay26, k0_pay25, k0_pay23, M1 i D A, P1 i D Z, F1, kG]
  pointwise [col]

theorem dV1 (hi : i < 32) (p : Fin 1) (l x : Fin 512) :
    k0_pay27 (F := Ideal) (k0_pay18 (View.ld D (Rect.unit ![0, 512] ![512, 512] inb_S512x2048_S512x512_0_512))) (View.ld W (Rect.unit ![0, 512] ![3, 512] inb_S3x2048_S3x512_0_512)) (k0_pay19 (iota Kind.tc S512x1 32 [0] iota_S512x1_d0_w32)) (k0_pay20 (iota Kind.tc S512x1 32 [0] iota_S512x1_d0_w32) (View.ld D (Rect.unit ![0, 512] ![512, 512] inb_S512x2048_S512x512_0_512))) (View.ld C (Rect.unit ![0, 0, 512] ![1, 512, 512] inb_S1x512x2048_S1x512x512_0_0_512)) (ix3 p l x)
      = kG i D A Z W l (col 1 x) * C (ix3 0 l (col 1 x)) := by
  pointwise [k0_pay27, k0_pay25, k0_pay22, M1 i D A, P1 i D Z, F1, kG]
  pointwise [col]

theorem dC2 (hi : i < 32) (p : Fin 1) (l x : Fin 512) :
    k0_pay40 (F := Ideal) (k0_pay31 (View.ld D (Rect.unit ![0, 1024] ![512, 512] inb_S512x2048_S512x512_0_1024))) (View.ld W (Rect.unit ![0, 1024] ![3, 512] inb_S3x2048_S3x512_0_1024)) (k0_pay32 (BitVec.ofNat 32 i) (View.ld D (Rect.unit ![0, 1024] ![512, 512] inb_S512x2048_S512x512_0_1024)) (View.ld A (Rect.unit ![0, 0] ![64, 512] inb_S64x1024_S64x512_0_0))) (k0_pay35 (View.ld V (Rect.unit ![0, 0, 1024] ![1, 512, 512] inb_S1x512x2048_S1x512x512_0_0_1024))) (k0_pay37 (BitVec.ofNat 32 i) (View.ld D (Rect.unit ![0, 1024] ![512, 512] inb_S512x2048_S512x512_0_1024)) (View.ld W (Rect.unit ![0, 1024] ![3, 512] inb_S3x2048_S3x512_0_1024)) (View.ld Z (Rect.unit ![0, 0] ![64, 512] inb_S64x1024_S64x512_0_0))) (k0_pay38 (View.ld W (Rect.unit ![0, 1024] ![3, 512] inb_S3x2048_S3x512_0_1024))) (ix3 p l x)
      = kG i D A Z W l (col 2 x) * V (ix3 0 l (col 2 x)) := by
  pointwise [k0_pay40, k0_pay39, k0_pay38, k0_pay37, k0_pay35, M2 i D A hi, P2 i D Z hi, F2, kG]
  pointwise [col]

theorem dV2 (hi : i < 32) (p : Fin 1) (l x : Fin 512) :
    k0_pay41 (F := Ideal) (k0_pay31 (View.ld D (Rect.unit ![0, 1024] ![512, 512] inb_S512x2048_S512x512_0_1024))) (View.ld W (Rect.unit ![0, 1024] ![3, 512] inb_S3x2048_S3x512_0_1024)) (k0_pay32 (BitVec.ofNat 32 i) (View.ld D (Rect.unit ![0, 1024] ![512, 512] inb_S512x2048_S512x512_0_1024)) (View.ld A (Rect.unit ![0, 0] ![64, 512] inb_S64x1024_S64x512_0_0))) (k0_pay34 (View.ld C (Rect.unit ![0, 0, 1024] ![1, 512, 512] inb_S1x512x2048_S1x512x512_0_0_1024))) (k0_pay37 (BitVec.ofNat 32 i) (View.ld D (Rect.unit ![0, 1024] ![512, 512] inb_S512x2048_S512x512_0_1024)) (View.ld W (Rect.unit ![0, 1024] ![3, 512] inb_S3x2048_S3x512_0_1024)) (View.ld Z (Rect.unit ![0, 0] ![64, 512] inb_S64x1024_S64x512_0_0))) (k0_pay38 (View.ld W (Rect.unit ![0, 1024] ![3, 512] inb_S3x2048_S3x512_0_1024))) (ix3 p l x)
      = kG i D A Z W l (col 2 x) * C (ix3 0 l (col 2 x)) := by
  pointwise [k0_pay41, k0_pay39, k0_pay38, k0_pay37, k0_pay34, M2 i D A hi, P2 i D Z hi, F2, kG]
  pointwise [col]

theorem dC3 (hi : i < 32) (p : Fin 1) (l x : Fin 512) :
    k0_pay51 (F := Ideal) (BitVec.ofNat 32 i) (k0_pay43 (View.ld D (Rect.unit ![0, 1536] ![512, 512] inb_S512x2048_S512x512_0_1536))) (View.ld W (Rect.unit ![0, 1536] ![3, 512] inb_S3x2048_S3x512_0_1536)) (Scalar.cmpi .sgt (BitVec.ofNat 32 i) 0#32) (k0_pay44 (View.ld A (Rect.unit ![0, 512] ![64, 512] inb_S64x1024_S64x512_0_512))) (View.ld Z (Rect.unit ![0, 512] ![64, 512] inb_S64x1024_S64x512_0_512)) (View.ld V (Rect.unit ![0, 0, 1536] ![1, 512, 512] inb_S1x512x2048_S1x512x512_0_0_1536)) (ix3 p l x)
      = kG i D A Z W l (col 3 x) * V (ix3 0 l (col 3 x)) := by
  pointwise [k0_pay51, k0_pay50, k0_pay48, M3 i D A hi, P3 i D Z hi, F3, kG]
  pointwise [col]

theorem dV3 (hi : i < 32) (p : Fin 1) (l x : Fin 512) :
    k0_pay52 (F := Ideal) (BitVec.ofNat 32 i) (k0_pay43 (View.ld D (Rect.unit ![0, 1536] ![512, 512] inb_S512x2048_S512x512_0_1536))) (View.ld W (Rect.unit ![0, 1536] ![3, 512] inb_S3x2048_S3x512_0_1536)) (Scalar.cmpi .sgt (BitVec.ofNat 32 i) 0#32) (k0_pay44 (View.ld A (Rect.unit ![0, 512] ![64, 512] inb_S64x1024_S64x512_0_512))) (View.ld Z (Rect.unit ![0, 512] ![64, 512] inb_S64x1024_S64x512_0_512)) (View.ld C (Rect.unit ![0, 0, 1536] ![1, 512, 512] inb_S1x512x2048_S1x512x512_0_0_1536)) (ix3 p l x)
      = kG i D A Z W l (col 3 x) * C (ix3 0 l (col 3 x)) := by
  pointwise [k0_pay52, k0_pay50, k0_pay47, M3 i D A hi, P3 i D Z hi, F3, kG]
  pointwise [col]

/-- What a point adds to slab 0 of the second result. -/
theorem w0 (hi : i < 32) (acc : Vec Ideal S3x512 .f32) (r : Fin 3) (x : Fin 512) :
    k0_pay17 (F := Ideal) (k0_pay5 (View.ld D (Rect.unit ![0, 0] ![512, 512] inb_S512x2048_S512x512_0_0))) (k0_pay8 (k0_pay5 (View.ld D (Rect.unit ![0, 0] ![512, 512] inb_S512x2048_S512x512_0_0))) k0_pay7) (k0_pay12 (View.ld C (Rect.unit ![0, 0, 0] ![1, 512, 512] inb_S1x512x2048_S1x512x512_0_0_0)) (View.ld V (Rect.unit ![0, 0, 0] ![1, 512, 512] inb_S1x512x2048_S1x512x512_0_0_0))) (k0_pay16 (k0_pay5 (View.ld D (Rect.unit ![0, 0] ![512, 512] inb_S512x2048_S512x512_0_0))) k0_pay6 (View.ld C (Rect.unit ![0, 0, 0] ![1, 512, 512] inb_S1x512x2048_S1x512x512_0_0_0)) (View.ld V (Rect.unit ![0, 0, 0] ![1, 512, 512] inb_S1x512x2048_S1x512x512_0_0_0))) acc (ix2 r x)
      = acc (ix2 r x) + ∑ l : Fin 512, kU C V l (col 0 x) * kR i D A Z r l (col 0 x) := by
  pointwise [k0_pay17, k0_pay16, k0_pay12, k0_pay10, k0_pay11, M0 i D A, P0 i D Z, F0, kU, kR]
  have e0 : col 0 x = ⟨x.val, by omega⟩ := Fin.ext (by simp [col])
  refine congrArg (fun s : EReal => acc (ix2 r x) + s) ?_
  by_cases h0 : r.val = 0
  · refine (dif_pos (by omega)).trans (Finset.sum_congr rfl fun l _ => ?_)
    rw [if_pos h0]; rw [e0]
  · refine (dif_neg (by omega)).trans ?_
    by_cases h1 : r.val = 1
    · refine (dif_pos (by omega)).trans (Finset.sum_congr rfl fun l _ => ?_)
      rw [if_neg h0, if_pos h1]; rw [e0]
    · refine (dif_neg (by omega)).trans (Finset.sum_congr rfl fun l _ => ?_)
      rw [if_neg h0, if_neg h1]; rw [e0]

/-- What a point adds to slab 1 of the second result. -/
theorem w1 (hi : i < 32) (acc : Vec Ideal S3x512 .f32) (r : Fin 3) (x : Fin 512) :
    k0_pay30 (F := Ideal) (k0_pay20 (iota Kind.tc S512x1 32 [0] iota_S512x1_d0_w32) (View.ld D (Rect.unit ![0, 512] ![512, 512] inb_S512x2048_S512x512_0_512))) (k0_pay24 (View.ld C (Rect.unit ![0, 0, 512] ![1, 512, 512] inb_S1x512x2048_S1x512x512_0_0_512)) (View.ld V (Rect.unit ![0, 0, 512] ![1, 512, 512] inb_S1x512x2048_S1x512x512_0_0_512))) (k0_pay28 (k0_pay18 (View.ld D (Rect.unit ![0, 512] ![512, 512] inb_S512x2048_S512x512_0_512))) (k0_pay19 (iota Kind.tc S512x1 32 [0] iota_S512x1_d0_w32)) (View.ld C (Rect.unit ![0, 0, 512] ![1, 512, 512] inb_S1x512x2048_S1x512x512_0_0_512)) (View.ld V (Rect.unit ![0, 0, 512] ![1, 512, 512] inb_S1x512x2048_S1x512x512_0_0_512))) (k0_pay29 (k0_pay18 (View.ld D (Rect.unit ![0, 512] ![512, 512] inb_S512x2048_S512x512_0_512))) (View.ld C (Rect.unit ![0, 0, 512] ![1, 512, 512] inb_S1x512x2048_S1x512x512_0_0_512)) (View.ld V (Rect.unit ![0, 0, 512] ![1, 512, 512] inb_S1x512x2048_S1x512x512_0_0_512))) acc (ix2 r x)
      = acc (ix2 r x) + ∑ l : Fin 512, kU C V l (col 1 x) * kR i D A Z r l (col 1 x) := by
  pointwise [k0_pay30, k0_pay28, k0_pay29, k0_pay24, k0_pay22, k0_pay23, M1 i D A, P1 i D Z, F1, kU, kR]
  refine congrArg (fun s : EReal => acc (ix2 r x) + s) ?_
  by_cases h0 : r.val = 0
  · refine (dif_pos (by omega)).trans (Finset.sum_congr rfl fun l _ => ?_)
    rw [if_pos h0]; rfl
  · refine (dif_neg (by omega)).trans ?_
    by_cases h1 : r.val = 1
    · refine (dif_pos (by omega)).trans (Finset.sum_congr rfl fun l _ => ?_)
      rw [if_neg h0, if_pos h1]; rfl
    · refine (dif_neg (by omega)).trans (Finset.sum_congr rfl fun l _ => ?_)
      rw [if_neg h0, if_neg h1]; rfl

/-- What a point adds to slab 2 of the second result. -/
theorem w2 (hi : i < 32) (acc : Vec Ideal S3x512 .f32) (r : Fin 3) (x : Fin 512) :
    k0_pay42 (F := Ideal) (k0_pay31 (View.ld D (Rect.unit ![0, 1024] ![512, 512] inb_S512x2048_S512x512_0_1024))) (k0_pay32 (BitVec.ofNat 32 i) (View.ld D (Rect.unit ![0, 1024] ![512, 512] inb_S512x2048_S512x512_0_1024)) (View.ld A (Rect.unit ![0, 0] ![64, 512] inb_S64x1024_S64x512_0_0))) (k0_pay33 (BitVec.ofNat 32 i) (View.ld D (Rect.unit ![0, 1024] ![512, 512] inb_S512x2048_S512x512_0_1024)) (View.ld Z (Rect.unit ![0, 0] ![64, 512] inb_S64x1024_S64x512_0_0))) (k0_pay36 (View.ld C (Rect.unit ![0, 0, 1024] ![1, 512, 512] inb_S1x512x2048_S1x512x512_0_0_1024)) (View.ld V (Rect.unit ![0, 0, 1024] ![1, 512, 512] inb_S1x512x2048_S1x512x512_0_0_1024))) acc (ix2 r x)
      = acc (ix2 r x) + ∑ l : Fin 512, kU C V l (col 2 x) * kR i D A Z r l (col 2 x) := by
  pointwise [k0_pay42, k0_pay36, k0_pay34, k0_pay35, M2 i D A hi, P2 i D Z hi, F2, kU, kR]
  refine congrArg (fun s : EReal => acc (ix2 r x) + s) ?_
  by_cases h0 : r.val = 0
  · refine (dif_pos (by omega)).trans (Finset.sum_congr rfl fun l _ => ?_)
    rw [if_pos h0]; rfl
  · refine (dif_neg (by omega)).trans ?_
    by_cases h1 : r.val = 1
    · refine (dif_pos (by omega)).trans (Finset.sum_congr rfl fun l _ => ?_)
      rw [if_neg h0, if_pos h1]; rfl
    · refine (dif_neg (by omega)).trans (Finset.sum_congr rfl fun l _ => ?_)
      rw [if_neg h0, if_neg h1]; rfl

/-- What a point adds to slab 3 of the second result. -/
theorem w3 (hi : i < 32) (acc : Vec Ideal S3x512 .f32) (r : Fin 3) (x : Fin 512) :
    k0_pay1 (F := Ideal) (k0_pay43 (View.ld D (Rect.unit ![0, 1536] ![512, 512] inb_S512x2048_S512x512_0_1536))) (k0_pay45 (k0_pay43 (View.ld D (Rect.unit ![0, 1536] ![512, 512] inb_S512x2048_S512x512_0_1536))) (Scalar.cmpi .sgt (BitVec.ofNat 32 i) 0#32) (k0_pay44 (View.ld A (Rect.unit ![0, 512] ![64, 512] inb_S64x1024_S64x512_0_512)))) (k0_pay49 (View.ld C (Rect.unit ![0, 0, 1536] ![1, 512, 512] inb_S1x512x2048_S1x512x512_0_0_1536)) (View.ld V (Rect.unit ![0, 0, 1536] ![1, 512, 512] inb_S1x512x2048_S1x512x512_0_0_1536))) (k0_pay53 (BitVec.ofNat 32 i) (k0_pay43 (View.ld D (Rect.unit ![0, 1536] ![512, 512] inb_S512x2048_S512x512_0_1536))) (View.ld Z (Rect.unit ![0, 512] ![64, 512] inb_S64x1024_S64x512_0_512)) (View.ld C (Rect.unit ![0, 0, 1536] ![1, 512, 512] inb_S1x512x2048_S1x512x512_0_0_1536)) (View.ld V (Rect.unit ![0, 0, 1536] ![1, 512, 512] inb_S1x512x2048_S1x512x512_0_0_1536))) acc (ix2 r x)
      = acc (ix2 r x) + ∑ l : Fin 512, kU C V l (col 3 x) * kR i D A Z r l (col 3 x) := by
  pointwise [k0_pay1, k0_pay53, k0_pay49, k0_pay47, k0_pay48, M3 i D A hi, P3 i D Z hi, F3, kU, kR]
  refine congrArg (fun s : EReal => acc (ix2 r x) + s) ?_
  by_cases h0 : r.val = 0
  · refine (dif_pos (by omega)).trans (Finset.sum_congr rfl fun l _ => ?_)
    rw [if_pos h0]; rfl
  · refine (dif_neg (by omega)).trans ?_
    by_cases h1 : r.val = 1
    · refine (dif_pos (by omega)).trans (Finset.sum_congr rfl fun l _ => ?_)
      rw [if_neg h0, if_pos h1]; rfl
    · refine (dif_neg (by omega)).trans (Finset.sum_congr rfl fun l _ => ?_)
      rw [if_neg h0, if_neg h1]; rfl

/-- What a point leaves in the first result's block. -/
def G8 (B Y : Vec Ideal S512x2048 .bf16) (a : Fin 4) (l : Fin 512) (e : Fin 2048) : EReal :=
  if a.val = 0 then B (ix2 l e) else if a.val = 1 then kG i D A Z W l e * V (ix3 0 l e)
  else if a.val = 2 then kG i D A Z W l e * C (ix3 0 l e) else Y (ix2 l e)

/-- What a point adds to the second result. -/
def add9 (r : Fin 3) (e : Fin 2048) : EReal := ∑ l : Fin 512, kU C V l e * kR i D A Z r l e

/-- The four planes of the first result's block. -/
theorem G8_zero (B Y : Vec Ideal S512x2048 .bf16) (a : Fin 4) (l l' : Fin 512) (e e' : Fin 2048) (ha : a.val = 0) (hl : l.val = l'.val) (he : e.val = e'.val) :
    B (ix2 l' e') = G8 i D A Z C V W B Y a l e := by
  obtain rfl := Fin.ext hl; obtain rfl := Fin.ext he; unfold G8; rw [if_pos ha]

theorem G8_one (B Y : Vec Ideal S512x2048 .bf16) (a : Fin 4) (l l' : Fin 512) (e e' : Fin 2048) (ha : a.val = 1) (hl : l.val = l'.val) (he : e.val = e'.val) :
    kG i D A Z W l' e' * V (ix3 0 l' e') = G8 i D A Z C V W B Y a l e := by
  obtain rfl := Fin.ext hl; obtain rfl := Fin.ext he; unfold G8; rw [if_neg (by omega), if_pos ha]

theorem G8_two (B Y : Vec Ideal S512x2048 .bf16) (a : Fin 4) (l l' : Fin 512) (e e' : Fin 2048) (ha : a.val = 2) (hl : l.val = l'.val) (he : e.val = e'.val) :
    kG i D A Z W l' e' * C (ix3 0 l' e') = G8 i D A Z C V W B Y a l e := by
  obtain rfl := Fin.ext hl; obtain rfl := Fin.ext he; unfold G8; rw [if_neg (by omega), if_neg (by omega), if_pos ha]

theorem G8_three (B Y : Vec Ideal S512x2048 .bf16) (a : Fin 4) (l l' : Fin 512) (e e' : Fin 2048) (ha : a.val = 3) (hl : l.val = l'.val) (he : e.val = e'.val) :
    Y (ix2 l' e') = G8 i D A Z C V W B Y a l e := by
  obtain rfl := Fin.ext hl; obtain rfl := Fin.ext he; unfold G8; rw [if_neg (by omega), if_neg (by omega), if_neg (by omega)]

theorem add9_of (r r' : Fin 3) (e e' : Fin 2048) (hr : r.val = r'.val) (he : e.val = e'.val) :
    (∑ l : Fin 512, kU C V l e' * kR i D A Z r' l e') = add9 i D A Z C V r e := by
  obtain rfl := Fin.ext hr; obtain rfl := Fin.ext he; rfl

/-- A slab of the second result's block. -/
theorem ld_slab (X : Vec Ideal S3x2048 .f32) (o : ℕ) (inb : ∀ a, (![0, o] : Fin 2 → ℕ) a + (![3, 512] : Fin 2 → ℕ) a ≤ S3x2048.size a) (r : Fin 3) (x : Fin 512) (y : S3x2048.Idx)
    (h0 : (y 0).val = r.val) (h1 : (y 1).val = o + x.val) : View.ld (Val := Elt Ideal) (e' := .f32) X (Rect.unit ![0, o] ![3, 512] inb) (ix2 r x) = X y :=
  View.ld_unit_apply_of _ _ _ _ _ y (fun a => by match a with
    | ⟨0, _⟩ => exact h0.trans (Nat.zero_add _).symm
    | ⟨1, _⟩ => exact h1)

theorem zero_slab (R : Rect S3x2048) (x : R.shape.Idx) : View.ld (Val := Elt Ideal) (e' := .f32) (k0_pay2 (F := Ideal)) R x = (0 : EReal) := by
  pointwise [k0_pay2]

end Block

variable (m : (ℓ : Loc nD τ sig) → Buf (Elt Ideal) ℓ)

theorem coord : ∀ t : Fin cfg0.N, (grid0.coords t 0 : ℕ) = t.val :=
  (by decide +kernel : ∀ t : Fin grid0.N, _)

theorem out8_A (c : Dev nD) (t : Fin cfg0.N) (ht : t.val % 32 = 0) (y : S4x512x2048.Idx) :
    (outsAt0 m c t.val t.isLt).1 y
      = G8 t.val (iblk m c 0 t) (iblk m c 1 t) (iblk m c 2 t) (iblk m c 3 t) (iblk m c 4 t) (iblk m c 7 t) (iblk m c 5 t) (iblk m c 6 t) (y 0) (y 1) (y 2) := by
  have ht32 : t.val < 32 := lt_of_lt_of_eq t.isLt N_0
  rw [outsAt0_A m c t ht]
  frame_out
  rw [coord t]
  canon_tiles x h using View.cover_of_tiledBy _ ![1, 512, 512] (by sl_kernel_rfl) y
  · rw [eq_ix3 x]
    exact (dV3 t.val (iblk m c 0 t) (iblk m c 1 t) (iblk m c 2 t) (iblk m c 3 t) (iblk m c 7 t) ht32 _ _ _).trans (G8_two t.val (iblk m c 0 t) (iblk m c 1 t) (iblk m c 2 t) (iblk m c 3 t) (iblk m c 4 t) (iblk m c 7 t) (iblk m c 5 t) (iblk m c 6 t) _ _ _ _ _ (by omega) h1 (by show (y 2).val = 3 * 512 + (x 2).val; omega))
  · rw [eq_ix3 x]
    exact (dC3 t.val (iblk m c 0 t) (iblk m c 1 t) (iblk m c 2 t) (iblk m c 4 t) (iblk m c 7 t) ht32 _ _ _).trans (G8_one t.val (iblk m c 0 t) (iblk m c 1 t) (iblk m c 2 t) (iblk m c 3 t) (iblk m c 4 t) (iblk m c 7 t) (iblk m c 5 t) (iblk m c 6 t) _ _ _ _ _ (by omega) h1 (by show (y 2).val = 3 * 512 + (x 2).val; omega))
  · rw [eq_ix3 x]
    exact (dV2 t.val (iblk m c 0 t) (iblk m c 1 t) (iblk m c 2 t) (iblk m c 3 t) (iblk m c 7 t) ht32 _ _ _).trans (G8_two t.val (iblk m c 0 t) (iblk m c 1 t) (iblk m c 2 t) (iblk m c 3 t) (iblk m c 4 t) (iblk m c 7 t) (iblk m c 5 t) (iblk m c 6 t) _ _ _ _ _ (by omega) h1 (by show (y 2).val = 2 * 512 + (x 2).val; omega))
  · rw [eq_ix3 x]
    exact (dC2 t.val (iblk m c 0 t) (iblk m c 1 t) (iblk m c 2 t) (iblk m c 4 t) (iblk m c 7 t) ht32 _ _ _).trans (G8_one t.val (iblk m c 0 t) (iblk m c 1 t) (iblk m c 2 t) (iblk m c 3 t) (iblk m c 4 t) (iblk m c 7 t) (iblk m c 5 t) (iblk m c 6 t) _ _ _ _ _ (by omega) h1 (by show (y 2).val = 2 * 512 + (x 2).val; omega))
  · rw [eq_ix3 x]
    exact (dV1 t.val (iblk m c 0 t) (iblk m c 1 t) (iblk m c 2 t) (iblk m c 3 t) (iblk m c 7 t) ht32 _ _ _).trans (G8_two t.val (iblk m c 0 t) (iblk m c 1 t) (iblk m c 2 t) (iblk m c 3 t) (iblk m c 4 t) (iblk m c 7 t) (iblk m c 5 t) (iblk m c 6 t) _ _ _ _ _ (by omega) h1 (by show (y 2).val = 1 * 512 + (x 2).val; omega))
  · rw [eq_ix3 x]
    exact (dC1 t.val (iblk m c 0 t) (iblk m c 1 t) (iblk m c 2 t) (iblk m c 4 t) (iblk m c 7 t) ht32 _ _ _).trans (G8_one t.val (iblk m c 0 t) (iblk m c 1 t) (iblk m c 2 t) (iblk m c 3 t) (iblk m c 4 t) (iblk m c 7 t) (iblk m c 5 t) (iblk m c 6 t) _ _ _ _ _ (by omega) h1 (by show (y 2).val = 1 * 512 + (x 2).val; omega))
  · rw [eq_ix3 x]
    exact (dV0 t.val (iblk m c 0 t) (iblk m c 1 t) (iblk m c 2 t) (iblk m c 3 t) (iblk m c 7 t) ht32 _ _ _).trans (G8_two t.val (iblk m c 0 t) (iblk m c 1 t) (iblk m c 2 t) (iblk m c 3 t) (iblk m c 4 t) (iblk m c 7 t) (iblk m c 5 t) (iblk m c 6 t) _ _ _ _ _ (by omega) h1 (by show (y 2).val = 0 * 512 + (x 2).val; omega))
  · rw [eq_ix3 x]
    exact (dC0 t.val (iblk m c 0 t) (iblk m c 1 t) (iblk m c 2 t) (iblk m c 4 t) (iblk m c 7 t) ht32 _ _ _).trans (G8_one t.val (iblk m c 0 t) (iblk m c 1 t) (iblk m c 2 t) (iblk m c 3 t) (iblk m c 4 t) (iblk m c 7 t) (iblk m c 5 t) (iblk m c 6 t) _ _ _ _ _ (by omega) h1 (by show (y 2).val = 0 * 512 + (x 2).val; omega))
  · rw [eq_ix3 x]
    refine Eq.trans ?_ (G8_three t.val (iblk m c 0 t) (iblk m c 1 t) (iblk m c 2 t) (iblk m c 3 t) (iblk m c 4 t) (iblk m c 7 t) (iblk m c 5 t) (iblk m c 6 t) _ _ _ _ _ (by omega) h1 h2)
    pointwise [k0_pay4]
  · rw [eq_ix3 x]
    refine Eq.trans ?_ (G8_zero t.val (iblk m c 0 t) (iblk m c 1 t) (iblk m c 2 t) (iblk m c 3 t) (iblk m c 4 t) (iblk m c 7 t) (iblk m c 5 t) (iblk m c 6 t) _ _ _ _ _ (by omega) h1 h2)
    pointwise [k0_pay3]

theorem out8_B (c : Dev nD) (t : Fin cfg0.N) (ht : ¬ t.val % 32 = 0) (y : S4x512x2048.Idx) :
    (outsAt0 m c t.val t.isLt).1 y
      = G8 t.val (iblk m c 0 t) (iblk m c 1 t) (iblk m c 2 t) (iblk m c 3 t) (iblk m c 4 t) (iblk m c 7 t) (iblk m c 5 t) (iblk m c 6 t) (y 0) (y 1) (y 2) := by
  have ht32 : t.val < 32 := lt_of_lt_of_eq t.isLt N_0
  rw [outsAt0_B m c t ht]
  frame_out
  rw [coord t]
  canon_tiles x h using View.cover_of_tiledBy _ ![1, 512, 512] (by sl_kernel_rfl) y
  · rw [eq_ix3 x]
    exact (dV3 t.val (iblk m c 0 t) (iblk m c 1 t) (iblk m c 2 t) (iblk m c 3 t) (iblk m c 7 t) ht32 _ _ _).trans (G8_two t.val (iblk m c 0 t) (iblk m c 1 t) (iblk m c 2 t) (iblk m c 3 t) (iblk m c 4 t) (iblk m c 7 t) (iblk m c 5 t) (iblk m c 6 t) _ _ _ _ _ (by omega) h1 (by show (y 2).val = 3 * 512 + (x 2).val; omega))
  · rw [eq_ix3 x]
    exact (dC3 t.val (iblk m c 0 t) (iblk m c 1 t) (iblk m c 2 t) (iblk m c 4 t) (iblk m c 7 t) ht32 _ _ _).trans (G8_one t.val (iblk m c 0 t) (iblk m c 1 t) (iblk m c 2 t) (iblk m c 3 t) (iblk m c 4 t) (iblk m c 7 t) (iblk m c 5 t) (iblk m c 6 t) _ _ _ _ _ (by omega) h1 (by show (y 2).val = 3 * 512 + (x 2).val; omega))
  · rw [eq_ix3 x]
    exact (dV2 t.val (iblk m c 0 t) (iblk m c 1 t) (iblk m c 2 t) (iblk m c 3 t) (iblk m c 7 t) ht32 _ _ _).trans (G8_two t.val (iblk m c 0 t) (iblk m c 1 t) (iblk m c 2 t) (iblk m c 3 t) (iblk m c 4 t) (iblk m c 7 t) (iblk m c 5 t) (iblk m c 6 t) _ _ _ _ _ (by omega) h1 (by show (y 2).val = 2 * 512 + (x 2).val; omega))
  · rw [eq_ix3 x]
    exact (dC2 t.val (iblk m c 0 t) (iblk m c 1 t) (iblk m c 2 t) (iblk m c 4 t) (iblk m c 7 t) ht32 _ _ _).trans (G8_one t.val (iblk m c 0 t) (iblk m c 1 t) (iblk m c 2 t) (iblk m c 3 t) (iblk m c 4 t) (iblk m c 7 t) (iblk m c 5 t) (iblk m c 6 t) _ _ _ _ _ (by omega) h1 (by show (y 2).val = 2 * 512 + (x 2).val; omega))
  · rw [eq_ix3 x]
    exact (dV1 t.val (iblk m c 0 t) (iblk m c 1 t) (iblk m c 2 t) (iblk m c 3 t) (iblk m c 7 t) ht32 _ _ _).trans (G8_two t.val (iblk m c 0 t) (iblk m c 1 t) (iblk m c 2 t) (iblk m c 3 t) (iblk m c 4 t) (iblk m c 7 t) (iblk m c 5 t) (iblk m c 6 t) _ _ _ _ _ (by omega) h1 (by show (y 2).val = 1 * 512 + (x 2).val; omega))
  · rw [eq_ix3 x]
    exact (dC1 t.val (iblk m c 0 t) (iblk m c 1 t) (iblk m c 2 t) (iblk m c 4 t) (iblk m c 7 t) ht32 _ _ _).trans (G8_one t.val (iblk m c 0 t) (iblk m c 1 t) (iblk m c 2 t) (iblk m c 3 t) (iblk m c 4 t) (iblk m c 7 t) (iblk m c 5 t) (iblk m c 6 t) _ _ _ _ _ (by omega) h1 (by show (y 2).val = 1 * 512 + (x 2).val; omega))
  · rw [eq_ix3 x]
    exact (dV0 t.val (iblk m c 0 t) (iblk m c 1 t) (iblk m c 2 t) (iblk m c 3 t) (iblk m c 7 t) ht32 _ _ _).trans (G8_two t.val (iblk m c 0 t) (iblk m c 1 t) (iblk m c 2 t) (iblk m c 3 t) (iblk m c 4 t) (iblk m c 7 t) (iblk m c 5 t) (iblk m c 6 t) _ _ _ _ _ (by omega) h1 (by show (y 2).val = 0 * 512 + (x 2).val; omega))
  · rw [eq_ix3 x]
    exact (dC0 t.val (iblk m c 0 t) (iblk m c 1 t) (iblk m c 2 t) (iblk m c 4 t) (iblk m c 7 t) ht32 _ _ _).trans (G8_one t.val (iblk m c 0 t) (iblk m c 1 t) (iblk m c 2 t) (iblk m c 3 t) (iblk m c 4 t) (iblk m c 7 t) (iblk m c 5 t) (iblk m c 6 t) _ _ _ _ _ (by omega) h1 (by show (y 2).val = 0 * 512 + (x 2).val; omega))
  · rw [eq_ix3 x]
    refine Eq.trans ?_ (G8_three t.val (iblk m c 0 t) (iblk m c 1 t) (iblk m c 2 t) (iblk m c 3 t) (iblk m c 4 t) (iblk m c 7 t) (iblk m c 5 t) (iblk m c 6 t) _ _ _ _ _ (by omega) h1 h2)
    pointwise [k0_pay4]
  · rw [eq_ix3 x]
    refine Eq.trans ?_ (G8_zero t.val (iblk m c 0 t) (iblk m c 1 t) (iblk m c 2 t) (iblk m c 3 t) (iblk m c 4 t) (iblk m c 7 t) (iblk m c 5 t) (iblk m c 6 t) _ _ _ _ _ (by omega) h1 h2)
    pointwise [k0_pay3]

theorem out9_B (c : Dev nD) (t : Fin cfg0.N) (ht : ¬ t.val % 32 = 0) (y : S3x2048.Idx) :
    (outsAt0 m c t.val t.isLt).2 y
      = (outsAt0 m c (t.val - 1) (Nat.lt_of_le_of_lt (Nat.sub_le _ _) t.isLt)).2 y + add9 t.val (iblk m c 0 t) (iblk m c 1 t) (iblk m c 2 t) (iblk m c 3 t) (iblk m c 4 t) (y 0) (y 1) := by
  have ht32 : t.val < 32 := lt_of_lt_of_eq t.isLt N_0
  rw [outsAt0_B m c t ht]
  frame_out
  rw [coord t]
  canon_tiles x h
  · rw [eq_ix2 x]
    exact (w3 t.val (iblk m c 0 t) (iblk m c 1 t) (iblk m c 2 t) (iblk m c 3 t) (iblk m c 4 t) ht32 _ _ _).trans
      (Ideal.add_congr (ld_slab _ 1536 _ _ _ y h0 (by show (y 1).val = 1536 + (x 1).val; omega)) (add9_of _ _ _ _ _ _ _ _ _ _ h0 (by show (y 1).val = 3 * 512 + (x 1).val; omega)))
  · rw [eq_ix2 x]
    exact (w2 t.val (iblk m c 0 t) (iblk m c 1 t) (iblk m c 2 t) (iblk m c 3 t) (iblk m c 4 t) ht32 _ _ _).trans
      (Ideal.add_congr (ld_slab _ 1024 _ _ _ y h0 (by show (y 1).val = 1024 + (x 1).val; omega)) (add9_of _ _ _ _ _ _ _ _ _ _ h0 (by show (y 1).val = 2 * 512 + (x 1).val; omega)))
  · rw [eq_ix2 x]
    exact (w1 t.val (iblk m c 0 t) (iblk m c 1 t) (iblk m c 2 t) (iblk m c 3 t) (iblk m c 4 t) ht32 _ _ _).trans
      (Ideal.add_congr (ld_slab _ 512 _ _ _ y h0 (by show (y 1).val = 512 + (x 1).val; omega)) (add9_of _ _ _ _ _ _ _ _ _ _ h0 (by show (y 1).val = 1 * 512 + (x 1).val; omega)))
  · rw [eq_ix2 x]
    exact (w0 t.val (iblk m c 0 t) (iblk m c 1 t) (iblk m c 2 t) (iblk m c 3 t) (iblk m c 4 t) ht32 _ _ _).trans
      (Ideal.add_congr (ld_slab _ 0 _ _ _ y h0 (by show (y 1).val = 0 + (x 1).val; omega)) (add9_of _ _ _ _ _ _ _ _ _ _ h0 (by show (y 1).val = 0 * 512 + (x 1).val; omega)))

end Cert.TapValue
-- ==== Proof.TapOuts.lean ====
/- The three taps' backward call: what the first grid point leaves in the block of the second result. -/
module

public import proofs.«01_k».proof.Proof.TapBlock
public import proofs.«01_k».proof.Proof.Gen.TapIdeal.Value
public import proofs.«01_k».proof.Proof.Fold
public import Idealize.ShloMosaic.Lib.Pipeline.ValueKit
public import Idealize.ShloMosaic.Lib.Pipeline.ReadBack
public import Idealize.ShloMosaic.Lib.Pointwise

@[expose] public section

set_option maxRecDepth 16384

noncomputable section

namespace Cert.TapValue

open Cert.TapIdeal Cert.TapIdeal.Gen Cert.TapIdeal.Value
open Idealize.ShloMosaic Idealize.ShloMosaic.TcCoe Idealize.SL.Sem
open Idealize.ShloMosaic.Pipeline (Dat)

/-- Four slabs stored over a fill of the whole block: the slabs are what is left. -/
theorem slabs (p3 p2 p1 p0 : S3x512.Idx → Elt Ideal .f32) (z : S3x2048.Idx → Elt Ideal .f32) (G : S3x2048.Idx → Elt Ideal .f32)
    (h3 : ∀ x : (Rect.unit (s := S3x2048) ![0, 1536] ![3, 512] inb_S3x2048_S3x512_0_1536).shape.Idx, p3 x = G ((Rect.unit (s := S3x2048) ![0, 1536] ![3, 512] inb_S3x2048_S3x512_0_1536).emb x))
    (h2 : ∀ x : (Rect.unit (s := S3x2048) ![0, 1024] ![3, 512] inb_S3x2048_S3x512_0_1024).shape.Idx, p2 x = G ((Rect.unit (s := S3x2048) ![0, 1024] ![3, 512] inb_S3x2048_S3x512_0_1024).emb x))
    (h1 : ∀ x : (Rect.unit (s := S3x2048) ![0, 512] ![3, 512] inb_S3x2048_S3x512_0_512).shape.Idx, p1 x = G ((Rect.unit (s := S3x2048) ![0, 512] ![3, 512] inb_S3x2048_S3x512_0_512).emb x))
    (h0 : ∀ x : (Rect.unit (s := S3x2048) ![0, 0] ![3, 512] inb_S3x2048_S3x512_0_0).shape.Idx, p0 x = G ((Rect.unit (s := S3x2048) ![0, 0] ![3, 512] inb_S3x2048_S3x512_0_0).emb x)) (y : S3x2048.Idx) :
    View.canon (Val := Elt Ideal) (e := .f32) [⟨Rect.unit ![0, 1536] ![3, 512] inb_S3x2048_S3x512_0_1536, p3⟩, ⟨Rect.unit ![0, 1024] ![3, 512] inb_S3x2048_S3x512_0_1024, p2⟩,
      ⟨Rect.unit ![0, 512] ![3, 512] inb_S3x2048_S3x512_0_512, p1⟩, ⟨Rect.unit ![0, 0] ![3, 512] inb_S3x2048_S3x512_0_0, p0⟩,
      ⟨Rect.unit ![0, 0] ![3, 2048] inb_S3x2048_S3x2048_0_0, z⟩] y = G y :=
  View.canon_append_of_piecesOf (Val := Elt Ideal) (e := .f32) G [⟨Rect.unit ![0, 0] ![3, 2048] inb_S3x2048_S3x2048_0_0, z⟩]
    [⟨Rect.unit ![0, 1536] ![3, 512] inb_S3x2048_S3x512_0_1536, p3⟩, ⟨Rect.unit ![0, 1024] ![3, 512] inb_S3x2048_S3x512_0_1024, p2⟩,
      ⟨Rect.unit ![0, 512] ![3, 512] inb_S3x2048_S3x512_0_512, p1⟩, ⟨Rect.unit ![0, 0] ![3, 512] inb_S3x2048_S3x512_0_0, p0⟩]
    ⟨h3, h2, h1, h0, trivial⟩ y (View.cover_of_tiledBy _ ![3, 512] (by sl_kernel_rfl) y)

variable (m : (ℓ : Loc nD τ sig) → Buf (Elt Ideal) ℓ)

theorem out9_A (c : Dev nD) (t : Fin cfg0.N) (ht : t.val % 32 = 0) (y : S3x2048.Idx) :
    (outsAt0 m c t.val t.isLt).2 y
      = 0 + add9 t.val (iblk m c 0 t) (iblk m c 1 t) (iblk m c 2 t) (iblk m c 3 t) (iblk m c 4 t) (y 0) (y 1) := by
  have ht32 : t.val < 32 := lt_of_lt_of_eq t.isLt N_0
  rw [outsAt0_A m c t ht]
  frame_open
  simp (disch := decide) only [↓View.readCov_skip, ↓View.readCov_cons_toLoadRect, ↓View.readCov_fill]
  frame_out
  rw [coord t]
  refine slabs _ _ _ _ _ (fun y => (0 : EReal) + add9 t.val (iblk m c 0 t) (iblk m c 1 t) (iblk m c 2 t) (iblk m c 3 t) (iblk m c 4 t) (y 0) (y 1)) ?_ ?_ ?_ ?_ y
  · refine fun (x : S3x512.Idx) => ?_
    rw [eq_ix2 x]
    exact (w3 t.val (iblk m c 0 t) (iblk m c 1 t) (iblk m c 2 t) (iblk m c 3 t) (iblk m c 4 t) ht32 _ _ _).trans
      (Ideal.add_congr (zero_slab _ _) (add9_of _ _ _ _ _ _ _ _ _ _ (by show 0 + 1 * (x 0).val = (x 0).val; omega) (by show 1536 + 1 * (x 1).val = 3 * 512 + (x 1).val; omega)))
  · refine fun (x : S3x512.Idx) => ?_
    rw [eq_ix2 x]
    exact (w2 t.val (iblk m c 0 t) (iblk m c 1 t) (iblk m c 2 t) (iblk m c 3 t) (iblk m c 4 t) ht32 _ _ _).trans
      (Ideal.add_congr (zero_slab _ _) (add9_of _ _ _ _ _ _ _ _ _ _ (by show 0 + 1 * (x 0).val = (x 0).val; omega) (by show 1024 + 1 * (x 1).val = 2 * 512 + (x 1).val; omega)))
  · refine fun (x : S3x512.Idx) => ?_
    rw [eq_ix2 x]
    exact (w1 t.val (iblk m c 0 t) (iblk m c 1 t) (iblk m c 2 t) (iblk m c 3 t) (iblk m c 4 t) ht32 _ _ _).trans
      (Ideal.add_congr (zero_slab _ _) (add9_of _ _ _ _ _ _ _ _ _ _ (by show 0 + 1 * (x 0).val = (x 0).val; omega) (by show 512 + 1 * (x 1).val = 1 * 512 + (x 1).val; omega)))
  · refine fun (x : S3x512.Idx) => ?_
    rw [eq_ix2 x]
    exact (w0 t.val (iblk m c 0 t) (iblk m c 1 t) (iblk m c 2 t) (iblk m c 3 t) (iblk m c 4 t) ht32 _ _ _).trans
      (Ideal.add_congr (zero_slab _ _) (add9_of _ _ _ _ _ _ _ _ _ _ (by show 0 + 1 * (x 0).val = (x 0).val; omega) (by show 0 + 1 * (x 1).val = 0 * 512 + (x 1).val; omega)))

end Cert.TapValue
-- ==== Proof.TapRefValue.lean ====
/- The gradients of the gated product's two factors and of the convolution's taps: the reference's terms read at an index. -/
module

public import proofs.«01_k».proof.Proof.Gen.TapRefIdeal.Run
public import proofs.«01_k».proof.Proof.Fold
public import Idealize.ShloMosaic.Lib.Pointwise

@[expose] public section

set_option maxRecDepth 16384

noncomputable section

namespace Cert.TapRefValue

open Cert.TapRefIdeal Cert.TapRefIdeal.Gen
open Idealize.ShloMosaic Idealize.ShloMosaic.TcCoe Idealize.SL.Sem

/-- Zero. -/
def zz : FVec Ideal S_ .f32 := constant S_ .f32 0x00000000#32

/-- The first factor of the gated product. -/
def rC (P : FVec Ideal S4x16384x2048 .bf16) : FVec Ideal S16384x2048 .f32 :=
  shapeCast _ (extractStridedSlice S1x16384x2048 ![1, 0, 0] (extf .f32 P bitsLt_bf16_f32) slices_S4x16384x2048_S1x16384x2048_1_0_0) shapeCasts_S1x16384x2048_S16384x2048

/-- The second factor. -/
def rV (P : FVec Ideal S4x16384x2048 .bf16) : FVec Ideal S16384x2048 .f32 :=
  shapeCast _ (extractStridedSlice S1x16384x2048 ![2, 0, 0] (extf .f32 P bitsLt_bf16_f32) slices_S4x16384x2048_S1x16384x2048_2_0_0) shapeCasts_S1x16384x2048_S16384x2048

/-- The product, on the token grid. -/
def rU (P : FVec Ideal S4x16384x2048 .bf16) : FVec Ideal S256x64x2048 .f32 :=
  shapeCast _ (mulf (rC P) (rV P)) shapeCasts_S16384x2048_S256x64x2048

/-- The cotangent, on the token grid. -/
def rD (D : FVec Ideal S16384x2048 .bf16) : FVec Ideal S256x64x2048 .f32 :=
  shapeCast _ (extf .f32 D bitsLt_bf16_f32) shapeCasts_S16384x2048_S256x64x2048

/-- The first half of the channels. -/
def fst (X : FVec Ideal S256x64x2048 .f32) : FVec Ideal S256x64x1024 .f32 :=
  extractStridedSlice S256x64x1024 ![0, 0, 0] X slices_S256x64x2048_S256x64x1024_0_0_0

/-- The second half. -/
def snd (X : FVec Ideal S256x64x2048 .f32) : FVec Ideal S256x64x1024 .f32 :=
  extractStridedSlice S256x64x1024 ![0, 0, 1024] X slices_S256x64x2048_S256x64x1024_0_0_1024

/-- A column of zeros on either side. -/
def colPad (X : FVec Ideal S256x64x1024 .f32) : FVec Ideal S256x66x1024 .f32 :=
  concatenate S256x66x1024 1 [⟨S256x1x1024, broadcastInDim S256x1x1024 ![] bcast_S_S256x1x1024 zz⟩, ⟨S256x64x1024, X⟩, ⟨S256x1x1024, broadcastInDim S256x1x1024 ![] bcast_S_S256x1x1024 zz⟩] concatenates_S256x1x1024_S256x64x1024_S256x1x1024_S256x66x1024_d1

/-- A row of zeros on either side. -/
def rowPad (X : FVec Ideal S256x64x1024 .f32) : FVec Ideal S258x64x1024 .f32 :=
  concatenate S258x64x1024 0 [⟨S1x64x1024, broadcastInDim S1x64x1024 ![] bcast_S_S1x64x1024 zz⟩, ⟨S256x64x1024, X⟩, ⟨S1x64x1024, broadcastInDim S1x64x1024 ![] bcast_S_S1x64x1024 zz⟩] concatenates_S1x64x1024_S256x64x1024_S1x64x1024_S258x64x1024_d0

/-- The three shifts of an array along the grid's columns. -/
def c0 (X : FVec Ideal S256x64x1024 .f32) : FVec Ideal S256x64x1024 .f32 := extractStridedSlice S256x64x1024 ![0, 0, 0] (colPad X) slices_S256x66x1024_S256x64x1024_0_0_0
def c1 (X : FVec Ideal S256x64x1024 .f32) : FVec Ideal S256x64x1024 .f32 := extractStridedSlice S256x64x1024 ![0, 1, 0] (colPad X) slices_S256x66x1024_S256x64x1024_0_1_0
def c2 (X : FVec Ideal S256x64x1024 .f32) : FVec Ideal S256x64x1024 .f32 := extractStridedSlice S256x64x1024 ![0, 2, 0] (colPad X) slices_S256x66x1024_S256x64x1024_0_2_0

/-- The three shifts along the grid's rows. -/
def r0 (X : FVec Ideal S256x64x1024 .f32) : FVec Ideal S256x64x1024 .f32 := extractStridedSlice S256x64x1024 ![0, 0, 0] (rowPad X) slices_S258x64x1024_S256x64x1024_0_0_0
def r1 (X : FVec Ideal S256x64x1024 .f32) : FVec Ideal S256x64x1024 .f32 := extractStridedSlice S256x64x1024 ![1, 0, 0] (rowPad X) slices_S258x64x1024_S256x64x1024_1_0_0
def r2 (X : FVec Ideal S256x64x1024 .f32) : FVec Ideal S256x64x1024 .f32 := extractStridedSlice S256x64x1024 ![2, 0, 0] (rowPad X) slices_S258x64x1024_S256x64x1024_2_0_0

/-- The taps' halves. -/
def wl (W : FVec Ideal S3x2048 .f32) : FVec Ideal S3x1024 .f32 := extractStridedSlice S3x1024 ![0, 0] W slices_S3x2048_S3x1024_0_0
def wr (W : FVec Ideal S3x2048 .f32) : FVec Ideal S3x1024 .f32 := extractStridedSlice S3x1024 ![0, 1024] W slices_S3x2048_S3x1024_0_1024

/-- One tap, on the token grid. -/
def t0 (w : FVec Ideal S3x1024 .f32) : FVec Ideal S256x64x1024 .f32 := broadcastInDim S256x64x1024 ![0, 1, 2] bcast_S1x1x1024_S256x64x1024_0_1_2 (broadcastInDim S1x1x1024 ![2] bcast_S1024_S1x1x1024_2 (shapeCast _ (extractStridedSlice S1x1024 ![0, 0] w slices_S3x1024_S1x1024_0_0) shapeCasts_S1x1024_S1024))
def t1 (w : FVec Ideal S3x1024 .f32) : FVec Ideal S256x64x1024 .f32 := broadcastInDim S256x64x1024 ![0, 1, 2] bcast_S1x1x1024_S256x64x1024_0_1_2 (broadcastInDim S1x1x1024 ![2] bcast_S1024_S1x1x1024_2 (shapeCast _ (extractStridedSlice S1x1024 ![1, 0] w slices_S3x1024_S1x1024_1_0) shapeCasts_S1x1024_S1024))
def t2 (w : FVec Ideal S3x1024 .f32) : FVec Ideal S256x64x1024 .f32 := broadcastInDim S256x64x1024 ![0, 1, 2] bcast_S1x1x1024_S256x64x1024_0_1_2 (broadcastInDim S1x1x1024 ![2] bcast_S1024_S1x1x1024_2 (shapeCast _ (extractStridedSlice S1x1024 ![2, 0] w slices_S3x1024_S1x1024_2_0) shapeCasts_S1x1024_S1024))

/-- The gradient of the product: on the second half of the channels. -/
def duR (X : FVec Ideal S256x64x1024 .f32) (w : FVec Ideal S3x1024 .f32) : FVec Ideal S256x64x1024 .f32 :=
  extractStridedSlice S256x64x1024 ![1, 0, 0] (addf (addf (pad S258x64x1024 ![2, 0, 0] ![0, 0, 0] ![0, 0, 0] (mulf X (t2 w)) zz pads_S256x64x1024_S258x64x1024_200_000_000 h_S_) (pad S258x64x1024 ![1, 0, 0] ![1, 0, 0] ![0, 0, 0] (mulf X (t1 w)) zz pads_S256x64x1024_S258x64x1024_110_000_000 h_S_)) (pad S258x64x1024 ![0, 0, 0] ![2, 0, 0] ![0, 0, 0] (mulf X (t0 w)) zz pads_S256x64x1024_S258x64x1024_020_000_000 h_S_)) slices_S258x64x1024_S256x64x1024_1_0_0

/-- On the first half. -/
def duL (X : FVec Ideal S256x64x1024 .f32) (w : FVec Ideal S3x1024 .f32) : FVec Ideal S256x64x1024 .f32 :=
  extractStridedSlice S256x64x1024 ![0, 1, 0] (addf (addf (pad S256x66x1024 ![0, 2, 0] ![0, 0, 0] ![0, 0, 0] (mulf X (t2 w)) zz pads_S256x64x1024_S256x66x1024_000_200_000 h_S_) (pad S256x66x1024 ![0, 1, 0] ![0, 1, 0] ![0, 0, 0] (mulf X (t1 w)) zz pads_S256x64x1024_S256x66x1024_000_110_000 h_S_)) (pad S256x66x1024 ![0, 0, 0] ![0, 2, 0] ![0, 0, 0] (mulf X (t0 w)) zz pads_S256x64x1024_S256x66x1024_000_020_000 h_S_)) slices_S256x66x1024_S256x64x1024_0_1_0

/-- Both halves side by side, by token. -/
def du (D : FVec Ideal S16384x2048 .bf16) (W : FVec Ideal S3x2048 .f32) : FVec Ideal S16384x2048 .f32 :=
  shapeCast _ (addf (pad S256x64x2048 ![0, 0, 1024] ![0, 0, 0] ![0, 0, 0] (duR (snd (rD D)) (wr W)) zz pads_S256x64x1024_S256x64x2048_000_000_102400 h_S_) (pad S256x64x2048 ![0, 0, 0] ![0, 0, 1024] ![0, 0, 0] (duL (fst (rD D)) (wl W)) zz pads_S256x64x1024_S256x64x2048_000_000_010240 h_S_)) shapeCasts_S256x64x2048_S16384x2048

/-- The first result. -/
def ref8 (D : FVec Ideal S16384x2048 .bf16) (P : FVec Ideal S4x16384x2048 .bf16) (B Z : FVec Ideal S16384x2048 .bf16) (W : FVec Ideal S3x2048 .f32) : FVec Ideal S4x16384x2048 .bf16 :=
  concatenate S4x16384x2048 0 [⟨S1x16384x2048, broadcastInDim S1x16384x2048 ![1, 2] bcast_S16384x2048_S1x16384x2048_1_2 B⟩, ⟨S1x16384x2048, broadcastInDim S1x16384x2048 ![1, 2] bcast_S16384x2048_S1x16384x2048_1_2 (truncf .bf16 (mulf (du D W) (rV P)) bitsLt_bf16_f32)⟩, ⟨S1x16384x2048, broadcastInDim S1x16384x2048 ![1, 2] bcast_S16384x2048_S1x16384x2048_1_2 (truncf .bf16 (mulf (rC P) (du D W)) bitsLt_bf16_f32)⟩, ⟨S1x16384x2048, broadcastInDim S1x16384x2048 ![1, 2] bcast_S16384x2048_S1x16384x2048_1_2 Z⟩] concatenates_S1x16384x2048_S1x16384x2048_S1x16384x2048_S1x16384x2048_S4x16384x2048_d0

/-- The sum of a product over the token grid, as a row. -/
def dot (X Y : FVec Ideal S256x64x1024 .f32) : FVec Ideal S1x1024 .f32 :=
  broadcastInDim S1x1024 ![1] bcast_S1024_S1x1024_1 (Host.reduceAdd (shapeCast S1x1x1024 (Host.reduceAdd (mulf X Y) zz reducesTo_S256x64x1024_S1024_d0_1 h_S_) shapeCasts_S1024_S1x1x1024) zz reducesTo_S1x1x1024_S1024_d0_1 h_S_)

/-- Three rows stacked. -/
def stack (a b c : FVec Ideal S1x1024 .f32) : FVec Ideal S3x1024 .f32 :=
  addf (addf (pad S3x1024 ![2, 0] ![0, 0] ![0, 0] c zz pads_S1x1024_S3x1024_200_000 h_S_) (pad S3x1024 ![1, 0] ![1, 0] ![0, 0] b zz pads_S1x1024_S3x1024_110_000 h_S_)) (pad S3x1024 ![0, 0] ![2, 0] ![0, 0] a zz pads_S1x1024_S3x1024_020_000 h_S_)

/-- The second result. -/
def ref9 (D : FVec Ideal S16384x2048 .bf16) (P : FVec Ideal S4x16384x2048 .bf16) : FVec Ideal S3x2048 .f32 :=
  addf (pad S3x2048 ![0, 1024] ![0, 0] ![0, 0] (stack (dot (r0 (snd (rU P))) (snd (rD D))) (dot (r1 (snd (rU P))) (snd (rD D))) (dot (r2 (snd (rU P))) (snd (rD D)))) zz pads_S3x1024_S3x2048_000_102400 h_S_)
    (pad S3x2048 ![0, 0] ![0, 1024] ![0, 0] (stack (dot (c0 (fst (rU P))) (fst (rD D))) (dot (c1 (fst (rU P))) (fst (rD D))) (dot (c2 (fst (rU P))) (fst (rD D)))) zz pads_S3x1024_S3x2048_000_010240 h_S_)

/-- The reference's run. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v154) = ref8 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v142) = ref9 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => h c) (Cert.TapRefIdeal.Value.run (F := Ideal) m ρ)

/-- Three summands the other way round. -/
theorem add_rotate (a b c : Ideal .f32) : a + b + c = c + b + a := by rw [add_comm (a + b) c, add_comm a b, add_assoc]

theorem rU_at (P : FVec Ideal S4x16384x2048 .bf16) (r : Fin 256) (w : Fin 64) (e : Fin 2048) :
    rU P (ix3 r w e) = P (ix3 1 ⟨r.val * 64 + w.val, by omega⟩ e) * P (ix3 2 ⟨r.val * 64 + w.val, by omega⟩ e) := by
  pointwise [rU, rC, rV]

theorem rD_at (D : FVec Ideal S16384x2048 .bf16) (r : Fin 256) (w : Fin 64) (e : Fin 2048) :
    rD D (ix3 r w e) = D (ix2 ⟨r.val * 64 + w.val, by omega⟩ e) := by
  pointwise [rD]

theorem c0_at (X : FVec Ideal S256x64x1024 .f32) (r : Fin 256) (w : Fin 64) (e : Fin 1024) : c0 X (ix3 r w e) = if w.val = 0 then 0 else X (ix3 r ⟨w.val - 1, by omega⟩ e) := by
  pointwise [c0, colPad, zz]
  by_cases h : w.val = 0
  · rw [dif_pos (by omega), if_pos h]
  · rw [dif_neg (by omega), dif_pos (by omega), if_neg h]
theorem c1_at (X : FVec Ideal S256x64x1024 .f32) (r : Fin 256) (w : Fin 64) (e : Fin 1024) : c1 X (ix3 r w e) = X (ix3 r w e) := by
  pointwise [c1, colPad, zz]
theorem c2_at (X : FVec Ideal S256x64x1024 .f32) (r : Fin 256) (w : Fin 64) (e : Fin 1024) : c2 X (ix3 r w e) = if w.val = 63 then 0 else X (ix3 r ⟨(w.val + 1) % 64, by omega⟩ e) := by
  pointwise [c2, colPad, zz]
  by_cases h : w.val = 63
  · rw [dif_neg (by omega), dif_neg (by omega), if_pos h]
  · rw [dif_neg (by omega), dif_pos (by omega), if_neg h]
    exact congrArg (fun q => X (ix3 r q e)) (Fin.ext (by show 2 + w.val - 1 = (w.val + 1) % 64; omega))
theorem r0_at (X : FVec Ideal S256x64x1024 .f32) (r : Fin 256) (w : Fin 64) (e : Fin 1024) : r0 X (ix3 r w e) = if r.val = 0 then 0 else X (ix3 ⟨r.val - 1, by omega⟩ w e) := by
  pointwise [r0, rowPad, zz]
  by_cases h : r.val = 0
  · rw [dif_pos (by omega), if_pos h]
  · rw [dif_neg (by omega), dif_pos (by omega), if_neg h]
theorem r1_at (X : FVec Ideal S256x64x1024 .f32) (r : Fin 256) (w : Fin 64) (e : Fin 1024) : r1 X (ix3 r w e) = X (ix3 r w e) := by
  pointwise [r1, rowPad, zz]
theorem r2_at (X : FVec Ideal S256x64x1024 .f32) (r : Fin 256) (w : Fin 64) (e : Fin 1024) : r2 X (ix3 r w e) = if r.val = 255 then 0 else X (ix3 ⟨(r.val + 1) % 256, by omega⟩ w e) := by
  pointwise [r2, rowPad, zz]
  by_cases h : r.val = 255
  · rw [dif_neg (by omega), dif_neg (by omega), if_pos h]
  · rw [dif_neg (by omega), dif_pos (by omega), if_neg h]
    exact congrArg (fun q => X (ix3 q w e)) (Fin.ext (by show 2 + r.val - 1 = (r.val + 1) % 256; omega))
theorem duL_at (X : FVec Ideal S256x64x1024 .f32) (W : FVec Ideal S3x1024 .f32) (r : Fin 256) (w : Fin 64) (e : Fin 1024) :
    duL X W (ix3 r w e) = W (ix2 0 e) * (if w.val = 63 then 0 else X (ix3 r ⟨(w.val + 1) % 64, by omega⟩ e)) + W (ix2 1 e) * X (ix3 r w e)
      + W (ix2 2 e) * (if w.val = 0 then 0 else X (ix3 r ⟨w.val - 1, by omega⟩ e)) := by
  pointwise [duL, t0, t1, t2, zz]
  rw [add_rotate]
  refine Ideal.add_congr (Ideal.add_congr ?_ (mul_comm _ _)) ?_
  · by_cases h : w.val = 63
    · rw [dif_neg (by omega), if_pos h, mul_zero]
    · rw [dif_pos (by omega), if_neg h, mul_comm]
      exact congrArg (fun q => W (ix2 0 e) * X (ix3 r q e)) (Fin.ext (by show 1 + w.val = (w.val + 1) % 64; omega))
  · by_cases h : w.val = 0
    · rw [dif_neg (by omega), if_pos h, mul_zero]
    · rw [dif_pos (by omega), if_neg h, mul_comm]
      exact congrArg (fun q => W (ix2 2 e) * X (ix3 r q e)) (Fin.ext (by show 1 + w.val - 2 = w.val - 1; omega))
theorem duR_at (X : FVec Ideal S256x64x1024 .f32) (W : FVec Ideal S3x1024 .f32) (r : Fin 256) (w : Fin 64) (e : Fin 1024) :
    duR X W (ix3 r w e) = W (ix2 0 e) * (if r.val = 255 then 0 else X (ix3 ⟨(r.val + 1) % 256, by omega⟩ w e)) + W (ix2 1 e) * X (ix3 r w e)
      + W (ix2 2 e) * (if r.val = 0 then 0 else X (ix3 ⟨r.val - 1, by omega⟩ w e)) := by
  pointwise [duR, t0, t1, t2, zz]
  rw [add_rotate]
  refine Ideal.add_congr (Ideal.add_congr ?_ (mul_comm _ _)) ?_
  · by_cases h : r.val = 255
    · rw [dif_neg (by omega), if_pos h, mul_zero]
    · rw [dif_pos (by omega), if_neg h, mul_comm]
      exact congrArg (fun q => W (ix2 0 e) * X (ix3 q w e)) (Fin.ext (by show 1 + r.val = (r.val + 1) % 256; omega))
  · by_cases h : r.val = 0
    · rw [dif_neg (by omega), if_pos h, mul_zero]
    · rw [dif_pos (by omega), if_neg h, mul_comm]
      exact congrArg (fun q => W (ix2 2 e) * X (ix3 q w e)) (Fin.ext (by show 1 + r.val - 2 = r.val - 1; omega))
theorem stack_at (a b c : FVec Ideal S1x1024 .f32) (k : Fin 3) (e : Fin 1024) : stack a b c (ix2 k e) = if k.val = 0 then a (ix2 0 e) else if k.val = 1 then b (ix2 0 e) else c (ix2 0 e) := by
  pointwise [stack, zz]
  have hk := k.isLt
  by_cases h0 : k.val = 0
  · rw [dif_neg (by omega), dif_neg (by omega), dif_pos (by omega), if_pos h0, zero_add, zero_add]
    exact congrArg (fun q => a (ix2 q e)) (Fin.ext h0)
  · by_cases h1 : k.val = 1
    · rw [dif_neg (by omega), dif_pos (by omega), dif_neg (by omega), if_neg h0, if_pos h1, zero_add, add_zero]
      exact congrArg (fun q => b (ix2 q e)) (Fin.ext (by show k.val - 1 = 0; omega))
    · rw [dif_pos (by omega), dif_neg (by omega), dif_neg (by omega), if_neg h0, if_neg h1, add_zero, add_zero]
      exact congrArg (fun q => c (ix2 q e)) (Fin.ext (by show k.val - 2 = 0; omega))

/-- The token before: in its row of the grid for the first half of the channels, a row earlier for the second. -/
def gM (f : Fin 16384 → Fin 2048 → Ideal .f32) (l : Fin 16384) (e : Fin 2048) : Ideal .f32 :=
  if e.val < 1024 then (if l.val % 64 = 0 then 0 else f ⟨l.val - 1, by omega⟩ e)
  else (if l.val < 64 then 0 else f ⟨l.val - 64, by omega⟩ e)

/-- The token after. -/
def gP (f : Fin 16384 → Fin 2048 → Ideal .f32) (l : Fin 16384) (e : Fin 2048) : Ideal .f32 :=
  if e.val < 1024 then (if l.val % 64 = 63 then 0 else f ⟨(l.val + 1) % 16384, by omega⟩ e)
  else (if 16320 ≤ l.val then 0 else f ⟨(l.val + 64) % 16384, by omega⟩ e)

/-- A shift of all tokens leaves a sum alone. -/
theorem sum_shift (s : Fin 16384) (g h : Fin 16384 → Ideal .f32)
    (H : ∀ l : Fin 16384, g l = h ⟨(l.val + s.val) % 16384, by omega⟩) : (∑ l, g l) = ∑ l, h l :=
  Fintype.sum_equiv (Equiv.addRight s) _ _ fun l => (H l).trans (congrArg h (Fin.ext (Fin.val_add l s).symm))

/-- Shifting one factor forward is shifting the other back. -/
theorem sum_swap (u f : Fin 16384 → Fin 2048 → Ideal .f32) (e : Fin 2048) :
    (∑ l, u l e * gP f l e) = ∑ l, gM u l e * f l e := by
  by_cases he : e.val < 1024
  · refine sum_shift 1 _ _ fun l => ?_
    simp only [gP, gM, if_pos he]
    have hl := l.isLt
    have h1 : (1 : Fin 16384).val = 1 := rfl
    by_cases h : l.val % 64 = 63
    · rw [if_pos h, if_pos (by rw [h1]; omega), mul_zero, zero_mul]
    · rw [if_neg h, if_neg (by rw [h1]; omega)]
      exact Ideal.mul_congr (congrArg (fun q => u q e) (Fin.ext (by show l.val = (l.val + (1 : Fin 16384).val) % 16384 - 1; rw [h1]; omega))) rfl
  · refine sum_shift 64 _ _ fun l => ?_
    simp only [gP, gM, if_neg he]
    have hl := l.isLt
    have h1 : (64 : Fin 16384).val = 64 := rfl
    by_cases h : 16320 ≤ l.val
    · rw [if_pos h, if_pos (by rw [h1]; omega), mul_zero, zero_mul]
    · rw [if_neg h, if_neg (by rw [h1]; omega)]
      exact Ideal.mul_congr (congrArg (fun q => u q e) (Fin.ext (by show l.val = (l.val + (64 : Fin 16384).val) % 16384 - 64; rw [h1]; omega))) rfl

theorem fst_at (X : FVec Ideal S256x64x2048 .f32) (r : Fin 256) (w : Fin 64) (e : Fin 1024) : fst X (ix3 r w e) = X (ix3 r w ⟨e.val, by omega⟩) := by
  pointwise [fst]
theorem snd_at (X : FVec Ideal S256x64x2048 .f32) (r : Fin 256) (w : Fin 64) (e : Fin 1024) : snd X (ix3 r w e) = X (ix3 r w ⟨1024 + e.val, by omega⟩) := by
  pointwise [snd]
theorem wl_at (X : FVec Ideal S3x2048 .f32) (k : Fin 3) (e : Fin 1024) : wl X (ix2 k e) = X (ix2 k ⟨e.val, by omega⟩) := by
  pointwise [wl]
theorem wr_at (X : FVec Ideal S3x2048 .f32) (k : Fin 3) (e : Fin 1024) : wr X (ix2 k e) = X (ix2 k ⟨1024 + e.val, by omega⟩) := by
  pointwise [wr]

/-! The shifts of an array on the grid, by token. -/

theorem cM (X : FVec Ideal S256x64x2048 .f32) (f : Fin 16384 → Fin 2048 → Ideal .f32) (hX : ∀ r w e, X (ix3 r w e) = f ⟨r.val * 64 + w.val, by omega⟩ e)
    (l : Fin 16384) (e : Fin 2048) (he : e.val < 1024) : c0 (fst X) (ix3 ⟨l.val / 64, by omega⟩ ⟨l.val % 64, by omega⟩ ⟨e.val, by omega⟩) = gM f l e := by
  have hl := l.isLt
  rw [c0_at]
  simp only [gM, if_pos he]
  by_cases h : l.val % 64 = 0
  · rw [if_pos h, if_pos (by omega)]
  · rw [if_neg h, if_neg (by omega), fst_at, hX]
    exact congr (congrArg f (Fin.ext (by show l.val / 64 * 64 + (l.val % 64 - 1) = l.val - 1; omega))) (Fin.ext (by show e.val = e.val; omega))

theorem cI (X : FVec Ideal S256x64x2048 .f32) (f : Fin 16384 → Fin 2048 → Ideal .f32) (hX : ∀ r w e, X (ix3 r w e) = f ⟨r.val * 64 + w.val, by omega⟩ e)
    (l : Fin 16384) (e : Fin 2048) (he : e.val < 1024) : c1 (fst X) (ix3 ⟨l.val / 64, by omega⟩ ⟨l.val % 64, by omega⟩ ⟨e.val, by omega⟩) = f l e := by
  have hl := l.isLt
  rw [c1_at, fst_at, hX]
  exact congr (congrArg f (Fin.ext (by show l.val / 64 * 64 + l.val % 64 = l.val; omega))) (Fin.ext (by show e.val = e.val; omega))

theorem cP (X : FVec Ideal S256x64x2048 .f32) (f : Fin 16384 → Fin 2048 → Ideal .f32) (hX : ∀ r w e, X (ix3 r w e) = f ⟨r.val * 64 + w.val, by omega⟩ e)
    (l : Fin 16384) (e : Fin 2048) (he : e.val < 1024) : c2 (fst X) (ix3 ⟨l.val / 64, by omega⟩ ⟨l.val % 64, by omega⟩ ⟨e.val, by omega⟩) = gP f l e := by
  have hl := l.isLt
  rw [c2_at]
  simp only [gP, if_pos he]
  by_cases h : l.val % 64 = 63
  · rw [if_pos h, if_pos (by omega)]
  · rw [if_neg h, if_neg (by omega), fst_at, hX]
    exact congr (congrArg f (Fin.ext (by show l.val / 64 * 64 + (l.val % 64 + 1) % 64 = (l.val + 1) % 16384; omega))) (Fin.ext (by show e.val = e.val; omega))

theorem rM (X : FVec Ideal S256x64x2048 .f32) (f : Fin 16384 → Fin 2048 → Ideal .f32) (hX : ∀ r w e, X (ix3 r w e) = f ⟨r.val * 64 + w.val, by omega⟩ e)
    (l : Fin 16384) (e : Fin 2048) (he : ¬ e.val < 1024) : r0 (snd X) (ix3 ⟨l.val / 64, by omega⟩ ⟨l.val % 64, by omega⟩ ⟨e.val - 1024, by omega⟩) = gM f l e := by
  have hl := l.isLt
  rw [r0_at]
  simp only [gM, if_neg he]
  by_cases h : l.val < 64
  · rw [if_pos h, if_pos (by omega)]
  · rw [if_neg h, if_neg (by omega), snd_at, hX]
    exact congr (congrArg f (Fin.ext (by show (l.val / 64 - 1) * 64 + l.val % 64 = l.val - 64; omega))) (Fin.ext (by show 1024 + (e.val - 1024) = e.val; omega))

theorem rI (X : FVec Ideal S256x64x2048 .f32) (f : Fin 16384 → Fin 2048 → Ideal .f32) (hX : ∀ r w e, X (ix3 r w e) = f ⟨r.val * 64 + w.val, by omega⟩ e)
    (l : Fin 16384) (e : Fin 2048) (he : ¬ e.val < 1024) : r1 (snd X) (ix3 ⟨l.val / 64, by omega⟩ ⟨l.val % 64, by omega⟩ ⟨e.val - 1024, by omega⟩) = f l e := by
  have hl := l.isLt
  rw [r1_at, snd_at, hX]
  exact congr (congrArg f (Fin.ext (by show l.val / 64 * 64 + l.val % 64 = l.val; omega))) (Fin.ext (by show 1024 + (e.val - 1024) = e.val; omega))

theorem rP (X : FVec Ideal S256x64x2048 .f32) (f : Fin 16384 → Fin 2048 → Ideal .f32) (hX : ∀ r w e, X (ix3 r w e) = f ⟨r.val * 64 + w.val, by omega⟩ e)
    (l : Fin 16384) (e : Fin 2048) (he : ¬ e.val < 1024) : r2 (snd X) (ix3 ⟨l.val / 64, by omega⟩ ⟨l.val % 64, by omega⟩ ⟨e.val - 1024, by omega⟩) = gP f l e := by
  have hl := l.isLt
  rw [r2_at]
  simp only [gP, if_neg he]
  by_cases h : 16320 ≤ l.val
  · rw [if_pos h, if_pos (by omega)]
  · rw [if_neg h, if_neg (by omega), snd_at, hX]
    exact congr (congrArg f (Fin.ext (by show (l.val / 64 + 1) % 256 * 64 + l.val % 64 = (l.val + 64) % 16384; omega))) (Fin.ext (by show 1024 + (e.val - 1024) = e.val; omega))

/-- Dropping the two grid axes keeps the channel. -/
theorem dropA (i : S256x64x1024.Idx) : (reducesTo_S256x64x1024_S1024_d0_1.drop i 0).val = (i 2).val := rfl
theorem dropB (i : S1x1x1024.Idx) : (reducesTo_S1x1x1024_S1024_d0_1.drop i 0).val = (i 2).val := rfl

/-- A sum over the indices that a reduction of the first two axes sends to a channel. -/
theorem sum_grid (f : S256x64x1024.Idx → EReal) (e : Fin 1024) :
    (∑ i ∈ Finset.univ.filter (fun i => reducesTo_S256x64x1024_S1024_d0_1.drop i = ix1 e), f i)
      = ∑ l : Fin 16384, f (ix3 ⟨l.val / 64, by omega⟩ ⟨l.val % 64, by omega⟩ e) := by
  refine Finset.sum_nbij' (fun i => (⟨(i 0).val * 64 + (i 1).val, by have h0 : (i 0).val < 256 := (i 0).isLt; have h1 : (i 1).val < 64 := (i 1).isLt; omega⟩ : Fin 16384))
    (fun l => ix3 ⟨l.val / 64, by omega⟩ ⟨l.val % 64, by omega⟩ e) (fun _ _ => Finset.mem_univ _) (fun l _ => ?_) (fun i hi => ?_) (fun l _ => ?_) (fun i hi => ?_)
  · refine Finset.mem_filter.mpr ⟨Finset.mem_univ _, ?_⟩
    rw [eq_ix1 (reducesTo_S256x64x1024_S1024_d0_1.drop _)]
    exact congrArg ix1 (Fin.ext (dropA _))
  · have h0 : (i 0).val < 256 := (i 0).isLt
    have h1 : (i 1).val < 64 := (i 1).isLt
    have h2 : (i 2).val = e.val := (dropA i).symm.trans (congrArg (fun j : S1024.Idx => (j 0).val) (Finset.mem_filter.mp hi).2)
    refine Eq.trans ?_ (eq_ix3 i).symm
    congr 1
    · exact Fin.ext (by show ((i 0).val * 64 + (i 1).val) / 64 = (i 0).val; omega)
    · exact Fin.ext (by show ((i 0).val * 64 + (i 1).val) % 64 = (i 1).val; omega)
    · exact Fin.ext h2.symm
  · exact Fin.ext (by show l.val / 64 * 64 + l.val % 64 = l.val; omega)
  · have h0 : (i 0).val < 256 := (i 0).isLt
    have h1 : (i 1).val < 64 := (i 1).isLt
    have h2 : (i 2).val = e.val := (dropA i).symm.trans (congrArg (fun j : S1024.Idx => (j 0).val) (Finset.mem_filter.mp hi).2)
    refine congrArg f ((eq_ix3 i).trans ?_)
    congr 1
    · exact Fin.ext (by show (i 0).val = ((i 0).val * 64 + (i 1).val) / 64; omega)
    · exact Fin.ext (by show (i 1).val = ((i 0).val * 64 + (i 1).val) % 64; omega)
    · exact Fin.ext h2

/-- The same over unit axes. -/
theorem sum_one (f : S1x1x1024.Idx → EReal) (e : Fin 1024) :
    (∑ i ∈ Finset.univ.filter (fun i => reducesTo_S1x1x1024_S1024_d0_1.drop i = ix1 e), f i) = f (ix3 0 0 e) := by
  have h : Finset.univ.filter (fun i => reducesTo_S1x1x1024_S1024_d0_1.drop i = ix1 e) = {ix3 0 0 e} := by
    ext i
    rw [Finset.mem_filter, Finset.mem_singleton]
    constructor
    · intro hi
      have h2 : (i 2).val = e.val := (dropB i).symm.trans (congrArg (fun j : S1024.Idx => (j 0).val) hi.2)
      refine (eq_ix3 i).trans ?_
      congr 1
      · exact Fin.ext (by have h0 : (i 0).val < 1 := (i 0).isLt; show (i 0).val = 0; omega)
      · exact Fin.ext (by have h0 : (i 1).val < 1 := (i 1).isLt; show (i 1).val = 0; omega)
      · exact Fin.ext h2
    · rintro rfl
      refine ⟨Finset.mem_univ _, ?_⟩
      rw [eq_ix1 (reducesTo_S1x1x1024_S1024_d0_1.drop _)]
      exact congrArg ix1 (Fin.ext (dropB _))
  rw [h, Finset.sum_singleton]
/-- The gradient of the product at a token and a channel. -/
theorem du_at (D : FVec Ideal S16384x2048 .bf16) (W : FVec Ideal S3x2048 .f32) (l : Fin 16384) (e : Fin 2048) :
    du D W (ix2 l e) = W (ix2 0 e) * gP (fun l e => D (ix2 l e)) l e + W (ix2 1 e) * D (ix2 l e) + W (ix2 2 e) * gM (fun l e => D (ix2 l e)) l e := by
  have hD := rD_at D
  have hv : ∀ k : Fin 3, ¬ e.val < 1024 → wr W (ix2 k ⟨e.val - 1024, by omega⟩) = W (ix2 k e) := fun k he =>
    (wr_at _ _ _).trans (congrArg (fun q => W (ix2 k q)) (Fin.ext (by show 1024 + (e.val - 1024) = e.val; omega)))
  pointwise [du, zz]
  by_cases he : e.val < 1024
  · have hw : ∀ k : Fin 3, wl W (ix2 k ⟨e.val, he⟩) = W (ix2 k e) := fun k => wl_at _ _ _
    rw [dif_neg (by omega), dif_pos (by omega), zero_add]
    exact (duL_at _ _ _ _ _).trans (Ideal.add_congr (Ideal.add_congr (Ideal.mul_congr (hw 0) ((c2_at _ _ _ _).symm.trans (cP _ (fun l e => D (ix2 l e)) hD l e he)))
      (Ideal.mul_congr (hw 1) ((c1_at _ _ _ _).symm.trans (cI _ (fun l e => D (ix2 l e)) hD l e he)))) (Ideal.mul_congr (hw 2) ((c0_at _ _ _ _).symm.trans (cM _ (fun l e => D (ix2 l e)) hD l e he))))
  · rw [dif_pos (by omega), dif_neg (by omega), add_zero]
    exact (duR_at _ _ _ _ _).trans (Ideal.add_congr (Ideal.add_congr (Ideal.mul_congr (hv 0 he) ((r2_at _ _ _ _).symm.trans (rP _ (fun l e => D (ix2 l e)) hD l e he)))
      (Ideal.mul_congr (hv 1 he) ((r1_at _ _ _ _).symm.trans (rI _ (fun l e => D (ix2 l e)) hD l e he)))) (Ideal.mul_congr (hv 2 he) ((r0_at _ _ _ _).symm.trans (rM _ (fun l e => D (ix2 l e)) hD l e he))))

/-- The first result at a plane, a token and a channel. -/
theorem ref8_at (D : FVec Ideal S16384x2048 .bf16) (P : FVec Ideal S4x16384x2048 .bf16) (B Z : FVec Ideal S16384x2048 .bf16) (W : FVec Ideal S3x2048 .f32) (a : Fin 4) (l : Fin 16384) (e : Fin 2048) :
    ref8 D P B Z W (ix3 a l e) = if a.val = 0 then B (ix2 l e) else if a.val = 1 then du D W (ix2 l e) * P (ix3 2 l e) else if a.val = 2 then du D W (ix2 l e) * P (ix3 1 l e) else Z (ix2 l e) := by
  pointwise [ref8, rV, rC]
  by_cases h0 : a.val = 0
  · rw [dif_pos (by omega), if_pos h0]
  · rw [dif_neg (by omega), if_neg h0]
    by_cases h1 : a.val = 1
    · rw [dif_pos (by omega), if_pos h1]
    · rw [dif_neg (by omega), if_neg h1]
      by_cases h2 : a.val = 2
      · rw [dif_pos (by omega), if_pos h2]
        exact mul_comm _ _
      · rw [dif_neg (by omega), if_neg h2]

/-- A product's sum over the token grid. -/
theorem dot_at (X Y : FVec Ideal S256x64x1024 .f32) (e : Fin 1024) :
    dot X Y (ix2 0 e) = ∑ l : Fin 16384, X (ix3 ⟨l.val / 64, by omega⟩ ⟨l.val % 64, by omega⟩ e) * Y (ix3 ⟨l.val / 64, by omega⟩ ⟨l.val % 64, by omega⟩ e) := by
  pointwise [dot, zz]
  unfold Ideal.hostReduceAdd
  rw [sum_one, zero_add]
  pointwise
  unfold Ideal.hostReduceAdd
  rw [sum_grid, zero_add]
  pointwise

/-- The second result at a tap and a channel. -/
theorem ref9_at (D : FVec Ideal S16384x2048 .bf16) (P : FVec Ideal S4x16384x2048 .bf16) (k : Fin 3) (e : Fin 2048) :
    ref9 D P (ix2 k e) = ∑ l : Fin 16384, P (ix3 1 l e) * P (ix3 2 l e) * (if k.val = 0 then gP (fun l e => D (ix2 l e)) l e
      else if k.val = 1 then D (ix2 l e) else gM (fun l e => D (ix2 l e)) l e) := by
  have hD := rD_at D
  have hU := rU_at P
  have s0 := sum_swap (fun l e => P (ix3 1 l e) * P (ix3 2 l e)) (fun l e => D (ix2 l e)) e
  have s2 := sum_swap (fun l e => D (ix2 l e)) (fun l e => P (ix3 1 l e) * P (ix3 2 l e)) e
  pointwise [ref9, zz]
  by_cases he : e.val < 1024
  · rw [dif_neg (by omega), dif_pos (by omega), zero_add, stack_at]
    have dL : ∀ l : Fin 16384, fst (rD D) (ix3 ⟨l.val / 64, by omega⟩ ⟨l.val % 64, by omega⟩ ⟨e.val, he⟩) = D (ix2 l e) := fun l =>
      (c1_at _ _ _ _).symm.trans (cI _ (fun l e => D (ix2 l e)) hD l e he)
    by_cases h0 : k.val = 0
    · simp only [if_pos h0]
      exact (dot_at _ _ _).trans ((Finset.sum_congr rfl fun l _ => Ideal.mul_congr (cM _ (fun l e => P (ix3 1 l e) * P (ix3 2 l e)) hU l e he) (dL l)).trans s0.symm)
    · simp only [if_neg h0]
      by_cases h1 : k.val = 1
      · simp only [if_pos h1]
        exact (dot_at _ _ _).trans (Finset.sum_congr rfl fun l _ => Ideal.mul_congr (cI _ (fun l e => P (ix3 1 l e) * P (ix3 2 l e)) hU l e he) (dL l))
      · simp only [if_neg h1]
        exact (dot_at _ _ _).trans ((Finset.sum_congr rfl fun l _ => (Ideal.mul_congr (cP _ (fun l e => P (ix3 1 l e) * P (ix3 2 l e)) hU l e he) (dL l)).trans (mul_comm _ _)).trans
          (s2.trans (Finset.sum_congr rfl fun l _ => mul_comm _ _)))
  · rw [dif_pos (by omega), dif_neg (by omega), add_zero, stack_at]
    have dR : ∀ l : Fin 16384, snd (rD D) (ix3 ⟨l.val / 64, by omega⟩ ⟨l.val % 64, by omega⟩ ⟨e.val - 1024, by omega⟩) = D (ix2 l e) := fun l =>
      (r1_at _ _ _ _).symm.trans (rI _ (fun l e => D (ix2 l e)) hD l e he)
    by_cases h0 : k.val = 0
    · simp only [if_pos h0]
      exact (dot_at _ _ _).trans ((Finset.sum_congr rfl fun l _ => Ideal.mul_congr (rM _ (fun l e => P (ix3 1 l e) * P (ix3 2 l e)) hU l e he) (dR l)).trans s0.symm)
    · simp only [if_neg h0]
      by_cases h1 : k.val = 1
      · simp only [if_pos h1]
        exact (dot_at _ _ _).trans (Finset.sum_congr rfl fun l _ => Ideal.mul_congr (rI _ (fun l e => P (ix3 1 l e) * P (ix3 2 l e)) hU l e he) (dR l))
      · simp only [if_neg h1]
        exact (dot_at _ _ _).trans ((Finset.sum_congr rfl fun l _ => (Ideal.mul_congr (rP _ (fun l e => P (ix3 1 l e) * P (ix3 2 l e)) hU l e he) (dR l)).trans (mul_comm _ _)).trans
          (s2.trans (Finset.sum_congr rfl fun l _ => mul_comm _ _)))

end Cert.TapRefValue
-- ==== Proof.TapValue.lean ====
/- The three taps' backward call: its two results after the run are the reference's. -/
module
public import proofs.«01_k».proof.Proof.TapOuts
public import proofs.«01_k».proof.Proof.TapRefValue

@[expose] public section

set_option maxRecDepth 16384

noncomputable section

namespace Cert.TapValue

open Cert.TapIdeal Cert.TapIdeal.Gen Cert.TapIdeal.Value
open Idealize.ShloMosaic Idealize.ShloMosaic.TcCoe Idealize.SL.Sem
open Idealize.ShloMosaic.Pipeline (Dat)
open Cert.TapRefValue (gM gP ref8 ref9 ref8_at ref9_at du_at)

variable (m : (ℓ : Loc nD τ sig) → Buf (Elt Ideal) ℓ)

/-- The blocks a grid point reads and fills. -/
theorem idx : ∀ t : Fin cfg0.N, win0_0.index t = ![t.val, 0] ∧ win0_1.index t = ![8 * t.val - 1, 1] ∧ win0_2.index t = ![min (8 * (t.val + 1)) 255, 1]
    ∧ win0_3.index t = ![1, t.val, 0] ∧ win0_4.index t = ![2, t.val, 0] ∧ win0_5.index t = ![t.val, 0] ∧ win0_6.index t = ![t.val, 0]
    ∧ win0_7.index t = ![0, 0] ∧ win0_8.index t = ![0, t.val, 0] ∧ win0_9.index t = ![0, 0] :=
  (by decide +kernel : ∀ t : Fin grid0.N, _)

/-- The row of the whole array that row `l` of a point's block is. -/
def row (t : Fin cfg0.N) (l : Fin 512) : Fin 16384 := ⟨t.val * 512 + l.val, by have := lt_of_lt_of_eq t.isLt N_0; omega⟩

theorem D_at (c : Dev nD) (t : Fin cfg0.N) (l : Fin 512) (e : Fin 2048) : iblk m c 0 t (ix2 l e) = m ((c : Thread nD τ).loc main_arg0) (ix2 (row t l) e) := by
  blk_point [iblk, V, idx t, row]
theorem A_at (c : Dev nD) (t : Fin cfg0.N) (l : Fin 64) (e : Fin 1024) : iblk m c 1 t (ix2 l e) = m ((c : Thread nD τ).loc main_arg0) (ix2 ⟨(8 * t.val - 1) * 64 + l.val, by have := lt_of_lt_of_eq t.isLt N_0; omega⟩ ⟨1024 + e.val, by omega⟩) := by
  blk_point [iblk, V, idx t, row]
theorem Z_at (c : Dev nD) (t : Fin cfg0.N) (l : Fin 64) (e : Fin 1024) : iblk m c 2 t (ix2 l e) = m ((c : Thread nD τ).loc main_arg0) (ix2 ⟨min (8 * (t.val + 1)) 255 * 64 + l.val, by have := lt_of_lt_of_eq t.isLt N_0; omega⟩ ⟨1024 + e.val, by omega⟩) := by
  blk_point [iblk, V, idx t, row]
theorem C_at (c : Dev nD) (t : Fin cfg0.N) (l : Fin 512) (e : Fin 2048) : iblk m c 3 t (ix3 0 l e) = m ((c : Thread nD τ).loc main_arg1) (ix3 1 (row t l) e) := by
  blk_point [iblk, V, idx t, row]
theorem V_at (c : Dev nD) (t : Fin cfg0.N) (l : Fin 512) (e : Fin 2048) : iblk m c 4 t (ix3 0 l e) = m ((c : Thread nD τ).loc main_arg1) (ix3 2 (row t l) e) := by
  blk_point [iblk, V, idx t, row]
theorem B_at (c : Dev nD) (t : Fin cfg0.N) (l : Fin 512) (e : Fin 2048) : iblk m c 5 t (ix2 l e) = m ((c : Thread nD τ).loc main_arg2) (ix2 (row t l) e) := by
  blk_point [iblk, V, idx t, row]
theorem Y_at (c : Dev nD) (t : Fin cfg0.N) (l : Fin 512) (e : Fin 2048) : iblk m c 6 t (ix2 l e) = m ((c : Thread nD τ).loc main_arg3) (ix2 (row t l) e) := by
  blk_point [iblk, V, idx t, row]
theorem W_at (c : Dev nD) (t : Fin cfg0.N) (k : Fin 3) (e : Fin 2048) : iblk m c 7 t (ix2 k e) = m ((c : Thread nD τ).loc main_arg4) (ix2 k e) := by
  blk_point [iblk, V, idx t, row]

/-- The cotangent by token. -/
def fD (c : Dev nD) (l : Fin 16384) (e : Fin 2048) : Ideal .f32 := (m ((c : Thread nD τ).loc main_arg0) : FVec Ideal S16384x2048 .bf16) (ix2 l e)

/-- The projections by plane and token. -/
def fP (c : Dev nD) (a : Fin 4) (l : Fin 16384) (e : Fin 2048) : Ideal .f32 := (m ((c : Thread nD τ).loc main_arg1) : FVec Ideal S4x16384x2048 .bf16) (ix3 a l e)

theorem kM_eq (c : Dev nD) (t : Fin cfg0.N) (l : Fin 512) (e : Fin 2048) : kM t.val (iblk m c 0 t) (iblk m c 1 t) l e = gM (fD m c) (row t l) e := by
  have ht : t.val < 32 := lt_of_lt_of_eq t.isLt N_0
  have hr : (row t l).val = t.val * 512 + l.val := rfl
  have hl := l.isLt
  unfold kM gM
  by_cases he : e.val < 1024
  · rw [if_pos he, if_pos he]
    by_cases h : l.val % 64 = 0
    · rw [if_pos h, if_pos (by omega)]
    · rw [if_neg h, if_neg (by omega), D_at]
      exact congrArg (fun q => fD m c q e) (Fin.ext (by show t.val * 512 + (l.val - 1) = t.val * 512 + l.val - 1; omega))
  · rw [if_neg he, if_neg he]
    by_cases h : l.val < 64
    · rw [if_pos h]
      by_cases h0 : 0 < t.val
      · rw [if_pos h0, if_neg (by omega), A_at]
        exact congrArg₂ (fD m c) (Fin.ext (by show (8 * t.val - 1) * 64 + l.val % 64 = t.val * 512 + l.val - 64; omega))
          (Fin.ext (by show 1024 + e.val % 1024 = e.val; omega))
      · rw [if_neg h0, if_pos (by omega)]
    · rw [if_neg h, if_neg (by omega), D_at]
      exact congrArg (fun q => fD m c q e) (Fin.ext (by show t.val * 512 + (l.val - 64) = t.val * 512 + l.val - 64; omega))

theorem kP_eq (c : Dev nD) (t : Fin cfg0.N) (l : Fin 512) (e : Fin 2048) : kP t.val (iblk m c 0 t) (iblk m c 2 t) l e = gP (fD m c) (row t l) e := by
  have ht : t.val < 32 := lt_of_lt_of_eq t.isLt N_0
  have hr : (row t l).val = t.val * 512 + l.val := rfl
  have hl := l.isLt
  unfold kP gP
  by_cases he : e.val < 1024
  · rw [if_pos he, if_pos he]
    by_cases h : l.val % 64 = 63
    · rw [if_pos h, if_pos (by omega)]
    · rw [if_neg h, if_neg (by omega), D_at]
      exact congrArg (fun q => fD m c q e) (Fin.ext (by show t.val * 512 + (l.val + 1) % 512 = (t.val * 512 + l.val + 1) % 16384; omega))
  · rw [if_neg he, if_neg he]
    by_cases h : l.val < 448
    · rw [if_pos h, if_neg (by omega), D_at]
      exact congrArg (fun q => fD m c q e) (Fin.ext (by show t.val * 512 + (l.val + 64) % 512 = (t.val * 512 + l.val + 64) % 16384; omega))
    · rw [if_neg h]
      by_cases h0 : t.val < 31
      · rw [if_pos h0, if_neg (by omega), Z_at]
        exact congrArg₂ (fD m c) (Fin.ext (by show min (8 * (t.val + 1)) 255 * 64 + l.val % 64 = (t.val * 512 + l.val + 64) % 16384; omega))
          (Fin.ext (by show 1024 + e.val % 1024 = e.val; omega))
      · rw [if_neg h0, if_pos (by omega)]

/-- The gradient of the product, by token. -/
theorem kG_eq (c : Dev nD) (t : Fin cfg0.N) (l : Fin 512) (e : Fin 2048) : kG t.val (iblk m c 0 t) (iblk m c 1 t) (iblk m c 2 t) (iblk m c 7 t) l e
    = Cert.TapRefValue.du (m ((c : Thread nD τ).loc main_arg0)) (m ((c : Thread nD τ).loc main_arg4)) (ix2 (row t l) e) := by
  unfold kG
  rw [kM_eq, kP_eq, D_at, W_at, W_at, W_at]
  exact (du_at _ _ _ _).symm

/-- A point's block of the first result is the reference's. -/
theorem G8_eq (c : Dev nD) (t : Fin cfg0.N) (a : Fin 4) (l : Fin 512) (e : Fin 2048) :
    G8 t.val (iblk m c 0 t) (iblk m c 1 t) (iblk m c 2 t) (iblk m c 3 t) (iblk m c 4 t) (iblk m c 7 t) (iblk m c 5 t) (iblk m c 6 t) a l e
      = ref8 (m ((c : Thread nD τ).loc main_arg0)) (m ((c : Thread nD τ).loc main_arg1)) (m ((c : Thread nD τ).loc main_arg2)) (m ((c : Thread nD τ).loc main_arg3)) (m ((c : Thread nD τ).loc main_arg4)) (ix3 a (row t l) e) := by
  unfold G8
  rw [kG_eq, C_at, V_at, B_at, Y_at]
  exact (ref8_at _ _ _ _ _ _ _ _).symm

/-- What a token adds to the second result. -/
theorem add9_eq (c : Dev nD) (t : Fin cfg0.N) (k : Fin 3) (l : Fin 512) (e : Fin 2048) (g : Fin 16384) (hg : g = row t l) :
    kU (iblk m c 3 t) (iblk m c 4 t) l e * kR t.val (iblk m c 0 t) (iblk m c 1 t) (iblk m c 2 t) k l e
      = fP m c 1 g e * fP m c 2 g e
        * (if k.val = 0 then gP (fD m c) g e else if k.val = 1 then fD m c g e else gM (fD m c) g e) := by
  subst hg
  unfold kU kR
  rw [kM_eq, kP_eq, D_at, C_at, V_at]
  rfl

/-- The first result after the run. -/
theorem final8 (c : Dev nD) : (dats m 0 c).arrAt 8 cfg0.N
    = ref8 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  rw [after0_8]
  have key : (outsAt0 m c t.val t.isLt).1 y = G8 t.val (iblk m c 0 t) (iblk m c 1 t) (iblk m c 2 t) (iblk m c 3 t) (iblk m c 4 t) (iblk m c 7 t) (iblk m c 5 t) (iblk m c 6 t) (y 0) (y 1) (y 2) := by
    by_cases ht : t.val % 32 = 0
    · exact out8_A m c t ht y
    · exact out8_B m c t ht y
  rw [key]
  refine (G8_eq m c t (y 0) (y 1) (y 2)).trans (congrArg _ ?_)
  blk_ext [idx t, row]

/-- The second result after the run. -/
theorem final9 (c : Dev nD) : (dats m 0 c).arrAt 9 cfg0.N
    = ref9 (m ((c : Thread nD τ).loc main_arg0)) (m ((c : Thread nD τ).loc main_arg1)) := by
  refine (dats m 0 c).arrAt_eq_of_covers 9 _ (by decide +kernel) fun t hf y => ?_
  blk_simp
  rw [after0_9, Pipeline.eq_sum_fin_of_reset_step_apply_of_flush (fun n h => (outsAt0 m c n h).2) 32 (fun _ => 0)
    (fun t y => add9 t.val (iblk m c 0 t) (iblk m c 1 t) (iblk m c 2 t) (iblk m c 3 t) (iblk m c 4 t) (y 0) (y 1))
    (fun t h j => out9_A m c t h j) (fun t h j => out9_B m c t h j) t ((flush0_9 t).mp hf) _, zero_add]
  refine Eq.trans ?_ ((ref9_at _ _ (y 0) (y 1)).symm.trans (congrArg _ ?_))
  · unfold add9
    refine Fin.sum_mul_add_congr fun s k hl => ?_
    have ht : t.val < 32 := lt_of_lt_of_eq t.isLt N_0
    have h31 : t.val % 32 = 31 := (flush0_9 t).mp hf
    refine add9_eq m c ⟨_, Pipeline.run_point_lt_of_flush t ((flush0_9 t).mp hf) s⟩ (y 0) k (y 1) _ (Fin.ext ?_)
    show s.val * 512 + k.val = (32 * (t.val / 32) + s.val) * 512 + k.val
    omega
  · blk_ext [idx t]

end Cert.TapValue
-- ==== Proof.InValue.lean ====
/- The gradient through the gated convolution's input projection: the token gradient, and the gradients of the two
   modulation rows. What the kernel leaves in its three results is the reference's terms over the same arguments. The
   tokens come in thirty-two blocks of 512; the two rows are added up over the blocks. -/
module

public import proofs.«01_k».proof.Proof.Gen.InIdeal.Value
public import proofs.«01_k».proof.Proof.Gen.InRefIdeal.Run
public import proofs.«01_k».proof.Proof.Fold
public import Idealize.ShloMosaic.Lib.Pipeline.ValueKit
public import Idealize.ShloMosaic.Lib.Pointwise
public import Idealize.ShloMosaic.Lib.Claim

@[expose] public section

set_option maxRecDepth 16384

noncomputable section

namespace Cert.InValue

open Cert.InIdeal Cert.InIdeal.Gen Cert.InIdeal.Value
open Idealize.ShloMosaic Idealize.ShloMosaic.TcCoe Idealize.SL.Sem
open Idealize.ShloMosaic.Pipeline (Dat)

/-- The reference's gradient of the projection's input: per token, the four planes' gradients times their weights. -/
def dh (DP : FVec Ideal S4x16384x2048 .bf16) (W : FVec Ideal S4x1024x2048 .bf16) : FVec Ideal S16384x1024 .f32 :=
  Host.dotGeneral Cert.InRefIdeal.dot_S4x2048x16384_S4x1024x2048_S16384x1024_01_02_2_1_n_n none (transpose Cert.InRefIdeal.S4x2048x16384 [0, 2, 1] (extf .f32 DP Cert.InRefIdeal.Gen.bitsLt_bf16_f32) Cert.InRefIdeal.Gen.transposes_S4x16384x2048_S4x2048x16384_0_2_1) (extf .f32 W Cert.InRefIdeal.Gen.bitsLt_bf16_f32)

/-- The reference's token gradient. -/
def refX (DP : FVec Ideal S4x16384x2048 .bf16) (W : FVec Ideal S4x1024x2048 .bf16) (DR : FVec Ideal S16384x1024 .f32)
    (SC : FVec Ideal S1x1024 .f32) : FVec Ideal S16384x1024 .f32 :=
  addf (mulf (broadcastInDim Cert.InRefIdeal.S16384x1024 ![] Cert.InRefIdeal.Gen.bcast_S_S16384x1024 (constant Cert.InRefIdeal.S_ .f32 0x3FB504F3#32)) DR) (mulf (dh DP W) (broadcastInDim Cert.InRefIdeal.S16384x1024 ![0, 1] Cert.InRefIdeal.Gen.bcast_S1x1024_S16384x1024_0_1 (addf (broadcastInDim Cert.InRefIdeal.S1x1024 ![] Cert.InRefIdeal.Gen.bcast_S_S1x1024 (constant Cert.InRefIdeal.S_ .f32 0x3F800000#32)) SC)))

/-- The reference's gradient of the scale row. -/
def refSc (DP : FVec Ideal S4x16384x2048 .bf16) (W : FVec Ideal S4x1024x2048 .bf16) (X : FVec Ideal S16384x1024 .f32) :
    FVec Ideal S1x1024 .f32 :=
  shapeCast _ (Host.reduceAdd (mulf X (dh DP W)) (constant Cert.InRefIdeal.S_ .f32 0x00000000#32) Cert.InRefIdeal.Gen.reducesTo_S16384x1024_S1024_d0 Cert.InRefIdeal.Gen.h_S_) Cert.InRefIdeal.Gen.shapeCasts_S1024_S1x1024

/-- The reference's gradient of the shift row. -/
def refSh (DP : FVec Ideal S4x16384x2048 .bf16) (W : FVec Ideal S4x1024x2048 .bf16) : FVec Ideal S1x1024 .f32 :=
  shapeCast _ (Host.reduceAdd (dh DP W) (constant Cert.InRefIdeal.S_ .f32 0x00000000#32) Cert.InRefIdeal.Gen.reducesTo_S16384x1024_S1024_d0 Cert.InRefIdeal.Gen.h_S_) Cert.InRefIdeal.Gen.shapeCasts_S1024_S1x1024

/-- The projection's input gradient read at an index. -/
theorem dh_at (DP : FVec Ideal S4x16384x2048 .bf16) (W : FVec Ideal S4x1024x2048 .bf16) (l : Fin 16384) (d : Fin 1024) :
    dh DP W (ix2 l d) = ∑ k : Fin 4, ∑ e : Fin 2048, DP (ix3 k l e) * W (ix3 k d e) := by
  pointwise [dh]

theorem refSc_at (DP : FVec Ideal S4x16384x2048 .bf16) (W : FVec Ideal S4x1024x2048 .bf16) (X : FVec Ideal S16384x1024 .f32)
    (a : Fin 1) (d : Fin 1024) : refSc DP W X (ix2 a d) = ∑ l : Fin 16384, X (ix2 l d) * dh DP W (ix2 l d) := by
  pointwise [refSc]

theorem refSh_at (DP : FVec Ideal S4x16384x2048 .bf16) (W : FVec Ideal S4x1024x2048 .bf16)
    (a : Fin 1) (d : Fin 1024) : refSh DP W (ix2 a d) = ∑ l : Fin 16384, dh DP W (ix2 l d) := by
  pointwise [refSh]

/-- The kernel's product read at an index: the four planes' products, added. -/
theorem pay6_at (a0 a1 a2 a3 : FVec Ideal S1x512x2048 .bf16) (b0 b1 b2 b3 : FVec Ideal S1x2048x1024 .bf16) (r : Fin 512) (d : Fin 1024) :
    k0_pay6 (F := Ideal) a0 b0 a1 b1 a2 b2 a3 b3 (ix2 r d)
      = (∑ e : Fin 2048, a0 (ix3 0 r e) * b0 (ix3 0 e d)) + (∑ e : Fin 2048, a1 (ix3 0 r e) * b1 (ix3 0 e d))
        + (∑ e : Fin 2048, a2 (ix3 0 r e) * b2 (ix3 0 e d)) + (∑ e : Fin 2048, a3 (ix3 0 r e) * b3 (ix3 0 e d)) := by
  pointwise [k0_pay6]

variable (m : (ℓ : Loc nD τ sig) → Buf (Elt Ideal) ℓ)

/-- The blocks a grid point reads. -/
theorem idx : ∀ t : Fin cfg0.N, win0_0.index t = ![0, t.val, 0] ∧ win0_1.index t = ![0, 0, 0] ∧ win0_2.index t = ![t.val, 0]
    ∧ win0_3.index t = ![t.val, 0] ∧ win0_4.index t = ![0, 0] ∧ win0_5.index t = ![t.val, 0] ∧ win0_6.index t = ![0, 0]
    ∧ win0_7.index t = ![0, 0] :=
  (by decide +kernel : ∀ t : Fin grid0.N, _)

/-- The product of grid point `t`: the four planes of the gradient block times the four planes of the weights. -/
def kd (c : Dev nD) (t : Fin cfg0.N) : FVec Ideal S512x1024 .f32 :=
  k0_pay6 (F := Ideal)
    (View.ld (iblk m c 0 t) (Rect.unit ![0, 0, 0] ![1, 512, 2048] inb_S4x512x2048_S1x512x2048_0_0_0))
    (View.ld (iblk m c 1 t) (Rect.unit ![0, 0, 0] ![1, 2048, 1024] inb_S4x2048x1024_S1x2048x1024_0_0_0))
    (View.ld (iblk m c 0 t) (Rect.unit ![1, 0, 0] ![1, 512, 2048] inb_S4x512x2048_S1x512x2048_1_0_0))
    (View.ld (iblk m c 1 t) (Rect.unit ![1, 0, 0] ![1, 2048, 1024] inb_S4x2048x1024_S1x2048x1024_1_0_0))
    (View.ld (iblk m c 0 t) (Rect.unit ![2, 0, 0] ![1, 512, 2048] inb_S4x512x2048_S1x512x2048_2_0_0))
    (View.ld (iblk m c 1 t) (Rect.unit ![2, 0, 0] ![1, 2048, 1024] inb_S4x2048x1024_S1x2048x1024_2_0_0))
    (View.ld (iblk m c 0 t) (Rect.unit ![3, 0, 0] ![1, 512, 2048] inb_S4x512x2048_S1x512x2048_3_0_0))
    (View.ld (iblk m c 1 t) (Rect.unit ![3, 0, 0] ![1, 2048, 1024] inb_S4x2048x1024_S1x2048x1024_3_0_0))

/-- The weights' block is the whole transposed array. -/
theorem w_at (c : Dev nD) (t : Fin cfg0.N) (k : Fin 4) (e : Fin 2048) (d : Fin 1024) :
    (iblk m c 1 t : S4x2048x1024.Idx → EReal) (ix3 k e d) = m ((c : Thread nD τ).loc main_arg1) (ix3 k d e) := by
  blk_simp [iblk, idx t]
  entry_read
  pointwise
  blk_ext [idx t]

/-- Plane 0 of the weights' block. -/
theorem plane0 (c : Dev nD) (t : Fin cfg0.N) (e : Fin 2048) (d : Fin 1024) :
    View.ld (iblk m c 1 t) (Rect.unit ![0, 0, 0] ![1, 2048, 1024] inb_S4x2048x1024_S1x2048x1024_0_0_0) (ix3 0 e d)
      = m ((c : Thread nD τ).loc main_arg1) (ix3 0 d e) :=
  (View.ld_unit_apply_of _ _ _ _ _ (ix3 0 e d) (fun a => by match a with
    | ⟨0, _⟩ => rfl
    | ⟨1, _⟩ => exact (Nat.zero_add _).symm
    | ⟨2, _⟩ => exact (Nat.zero_add _).symm)).trans (w_at m c t 0 e d)

/-- Plane 1 of the weights' block. -/
theorem plane1 (c : Dev nD) (t : Fin cfg0.N) (e : Fin 2048) (d : Fin 1024) :
    View.ld (iblk m c 1 t) (Rect.unit ![1, 0, 0] ![1, 2048, 1024] inb_S4x2048x1024_S1x2048x1024_1_0_0) (ix3 0 e d)
      = m ((c : Thread nD τ).loc main_arg1) (ix3 1 d e) :=
  (View.ld_unit_apply_of _ _ _ _ _ (ix3 1 e d) (fun a => by match a with
    | ⟨0, _⟩ => rfl
    | ⟨1, _⟩ => exact (Nat.zero_add _).symm
    | ⟨2, _⟩ => exact (Nat.zero_add _).symm)).trans (w_at m c t 1 e d)

/-- Plane 2 of the weights' block. -/
theorem plane2 (c : Dev nD) (t : Fin cfg0.N) (e : Fin 2048) (d : Fin 1024) :
    View.ld (iblk m c 1 t) (Rect.unit ![2, 0, 0] ![1, 2048, 1024] inb_S4x2048x1024_S1x2048x1024_2_0_0) (ix3 0 e d)
      = m ((c : Thread nD τ).loc main_arg1) (ix3 2 d e) :=
  (View.ld_unit_apply_of _ _ _ _ _ (ix3 2 e d) (fun a => by match a with
    | ⟨0, _⟩ => rfl
    | ⟨1, _⟩ => exact (Nat.zero_add _).symm
    | ⟨2, _⟩ => exact (Nat.zero_add _).symm)).trans (w_at m c t 2 e d)

/-- Plane 3 of the weights' block. -/
theorem plane3 (c : Dev nD) (t : Fin cfg0.N) (e : Fin 2048) (d : Fin 1024) :
    View.ld (iblk m c 1 t) (Rect.unit ![3, 0, 0] ![1, 2048, 1024] inb_S4x2048x1024_S1x2048x1024_3_0_0) (ix3 0 e d)
      = m ((c : Thread nD τ).loc main_arg1) (ix3 3 d e) :=
  (View.ld_unit_apply_of _ _ _ _ _ (ix3 3 e d) (fun a => by match a with
    | ⟨0, _⟩ => rfl
    | ⟨1, _⟩ => exact (Nat.zero_add _).symm
    | ⟨2, _⟩ => exact (Nat.zero_add _).symm)).trans (w_at m c t 3 e d)

/-- Row `r` of point `t`'s product is row `512 t + r` of the reference's. -/
theorem kd_at (c : Dev nD) (t : Fin cfg0.N) (r : Fin 512) (d : Fin 1024) (l : Fin 16384) (hl : l.val = t.val * 512 + r.val) :
    kd m c t (ix2 r d) = dh (m ((c : Thread nD τ).loc main_arg0)) (m ((c : Thread nD τ).loc main_arg1)) (ix2 l d) := by
  rw [dh_at, Fin.sum_univ_four]
  refine (pay6_at _ _ _ _ _ _ _ _ r d).trans ?_
  refine Ideal.add_congr (Ideal.add_congr (Ideal.add_congr ?_ ?_) ?_) ?_ <;>
    refine Fin.sum_fin_congr fun e => Ideal.mul_congr ?_ ?_
  · blk_point [iblk, V, idx t]
  · exact plane0 m c t e d
  · blk_point [iblk, V, idx t]
  · exact plane1 m c t e d
  · blk_point [iblk, V, idx t]
  · exact plane2 m c t e d
  · blk_point [iblk, V, idx t]
  · exact plane3 m c t e d

/-- The scale row's payload at an index. -/
theorem pay2_at (K : FVec Ideal S512x1024 .f32) (X : FVec Ideal S512x1024 .f32) (acc : FVec Ideal S1x1024 .f32) (a : Fin 1) (d : Fin 1024) :
    k0_pay2 (F := Ideal) K X acc (ix2 a d) = acc (ix2 a d) + ∑ r : Fin 512, X (ix2 r d) * K (ix2 r d) := by
  pointwise [k0_pay2]
  exact congrArg _ (Finset.sum_congr rfl fun r _ => mul_comm _ _)

/-- The shift row's payload at an index. -/
theorem pay3_at (K : FVec Ideal S512x1024 .f32) (acc : FVec Ideal S1x1024 .f32) (a : Fin 1) (d : Fin 1024) :
    k0_pay3 (F := Ideal) K acc (ix2 a d) = acc (ix2 a d) + ∑ r : Fin 512, K (ix2 r d) := by
  pointwise [k0_pay3]

theorem pay4_at (j : S1x1024.Idx) : k0_pay4 (F := Ideal) j = 0 := by pointwise [k0_pay4]

theorem pay5_at (j : S1x1024.Idx) : k0_pay5 (F := Ideal) j = 0 := by pointwise [k0_pay5]

/-- What grid point `t` adds to the scale row. -/
def part6 (c : Dev nD) (t : Fin cfg0.N) : FVec Ideal S1x1024 .f32 := fun j =>
  ∑ r : Fin 512, (show FVec Ideal S512x1024 .f32 from iblk m c 3 t) (ix2 r (j 1)) * kd m c t (ix2 r (j 1))

/-- What grid point `t` adds to the shift row. -/
def part7 (c : Dev nD) (t : Fin cfg0.N) : FVec Ideal S1x1024 .f32 := fun j => ∑ r : Fin 512, kd m c t (ix2 r (j 1))

theorem pay2_part (c : Dev nD) (t : Fin cfg0.N) (acc : FVec Ideal S1x1024 .f32) (j : S1x1024.Idx) :
    k0_pay2 (F := Ideal) (kd m c t) (iblk m c 3 t) acc j = acc j + part6 m c t j := by
  obtain ⟨a, d, rfl⟩ : ∃ (a : Fin 1) (d : Fin 1024), j = ix2 a d := ⟨j 0, j 1, eq_ix2 j⟩
  exact pay2_at _ _ _ a d

theorem pay3_part (c : Dev nD) (t : Fin cfg0.N) (acc : FVec Ideal S1x1024 .f32) (j : S1x1024.Idx) :
    k0_pay3 (F := Ideal) (kd m c t) acc j = acc j + part7 m c t j := by
  obtain ⟨a, d, rfl⟩ : ∃ (a : Fin 1) (d : Fin 1024), j = ix2 a d := ⟨j 0, j 1, eq_ix2 j⟩
  exact pay3_at _ _ a d

/-- The token gradient of one block: the kernel's term over its blocks is the reference's over the arguments. -/
theorem point5 (c : Dev nD) (t : Fin cfg0.N) (r : Fin 512) (d : Fin 1024) (l : Fin 16384) (hl : l.val = t.val * 512 + r.val) :
    k0_pay1 (F := Ideal) (kd m c t) (iblk m c 2 t) (iblk m c 4 t) (ix2 r d)
      = refX (m ((c : Thread nD τ).loc main_arg0)) (m ((c : Thread nD τ).loc main_arg1)) (m ((c : Thread nD τ).loc main_arg2)) (m ((c : Thread nD τ).loc main_arg4)) (ix2 l d) := by
  have h := kd_at m c t r d l hl
  pointwise [k0_pay1, refX]
  rw [h]
  blk_point [iblk, V, idx t]

/-- The first result after the run. -/
theorem final5 (c : Dev nD) : (dats m 0 c).arrAt 5 cfg0.N
    = refX (m ((c : Thread nD τ).loc main_arg0)) (m ((c : Thread nD τ).loc main_arg1)) (m ((c : Thread nD τ).loc main_arg2)) (m ((c : Thread nD τ).loc main_arg4)) := by
  refine (dats m 0 c).arrAt_eq_of_covers 5 _ (by decide +kernel) fun t hf y => ?_
  have key : ∀ (y : S512x1024.Idx) (i : S16384x1024.Idx) (h0 : (i 0).val = t.val * 512 + (y 0).val) (h1 : (i 1).val = (y 1).val),
      k0_pay1 (F := Ideal) (kd m c t) (iblk m c 2 t) (iblk m c 4 t) y
        = refX (m ((c : Thread nD τ).loc main_arg0)) (m ((c : Thread nD τ).loc main_arg1)) (m ((c : Thread nD τ).loc main_arg2)) (m ((c : Thread nD τ).loc main_arg4)) i := by
    intro y i h0 h1
    have ei : i = ix2 (i 0) (y 1) := by rw [eq_ix2 i]; exact congrArg (ix2 (i 0)) (Fin.ext h1)
    rw [ei, eq_ix2 y]
    exact point5 m c t (y 0) (y 1) (i 0) h0
  blk_simp
  rw [after0_5]
  by_cases h : t.val % 32 = 0
  · rw [outsAt0_A m c t h]; frame_out
    refine key y _ ?_ ?_
    all_goals (blk_simp [idx t] <;> try omega)
  · rw [outsAt0_B m c t h]; frame_out
    refine key y _ ?_ ?_
    all_goals (blk_simp [idx t] <;> try omega)

/-- The second result after the run: the sum over the thirty-two blocks is the sum over the tokens. -/
theorem final6 (c : Dev nD) : (dats m 0 c).arrAt 6 cfg0.N
    = refSc (m ((c : Thread nD τ).loc main_arg0)) (m ((c : Thread nD τ).loc main_arg1)) (m ((c : Thread nD τ).loc main_arg3)) := by
  refine (dats m 0 c).arrAt_eq_of_covers 6 _ (by decide +kernel) fun t hf y => ?_
  blk_simp
  rw [after0_6, Pipeline.eq_sum_fin_of_reset_step_apply_of_flush (fun n h => (outsAt0 m c n h).2.1) 32 (fun _ => 0) (fun t => part6 m c t)
    (fun t h j => by rw [outsAt0_A m c t h]; frame_out; exact (pay2_part m c t _ j).trans (congrArg (· + part6 m c t j) (pay4_at j)))
    (fun t h j => by rw [outsAt0_B m c t h]; frame_out; exact pay2_part m c t _ j)
    t ((flush0_6 t).mp hf) _, zero_add]
  obtain ⟨a, d, rfl⟩ : ∃ (a : Fin 1) (d : Fin 1024), y = ix2 a d := ⟨y 0, y 1, eq_ix2 y⟩
  refine Eq.trans ?_ ((refSc_at _ _ _ 0 d).symm.trans (congrArg _ ?_))
  · unfold part6
    refine Fin.sum_mul_add_congr fun s k hl => ?_
    have ht : t.val < 32 := lt_of_lt_of_eq t.isLt N_0
    refine Ideal.mul_congr ?_ (kd_at m c ⟨_, Pipeline.run_point_lt_of_flush t ((flush0_6 t).mp hf) s⟩ k d _ ?_)
    · blk_ext [iblk, V, idx ⟨_, Pipeline.run_point_lt_of_flush t ((flush0_6 t).mp hf) s⟩]
    · show s.val * 512 + k.val = (32 * (t.val / 32) + s.val) * 512 + k.val
      omega
  · blk_ext [idx t]

/-- The third result after the run. -/
theorem final7 (c : Dev nD) : (dats m 0 c).arrAt 7 cfg0.N
    = refSh (m ((c : Thread nD τ).loc main_arg0)) (m ((c : Thread nD τ).loc main_arg1)) := by
  refine (dats m 0 c).arrAt_eq_of_covers 7 _ (by decide +kernel) fun t hf y => ?_
  blk_simp
  rw [after0_7, Pipeline.eq_sum_fin_of_reset_step_apply_of_flush (fun n h => (outsAt0 m c n h).2.2) 32 (fun _ => 0) (fun t => part7 m c t)
    (fun t h j => by rw [outsAt0_A m c t h]; frame_out; exact (pay3_part m c t _ j).trans (congrArg (· + part7 m c t j) (pay5_at j)))
    (fun t h j => by rw [outsAt0_B m c t h]; frame_out; exact pay3_part m c t _ j)
    t ((flush0_7 t).mp hf) _, zero_add]
  obtain ⟨a, d, rfl⟩ : ∃ (a : Fin 1) (d : Fin 1024), y = ix2 a d := ⟨y 0, y 1, eq_ix2 y⟩
  refine Eq.trans ?_ ((refSh_at _ _ 0 d).symm.trans (congrArg _ ?_))
  · unfold part7
    refine Fin.sum_mul_add_congr fun s k hl => ?_
    have ht : t.val < 32 := lt_of_lt_of_eq t.isLt N_0
    refine kd_at m c ⟨_, Pipeline.run_point_lt_of_flush t ((flush0_7 t).mp hf) s⟩ k d _ ?_
    show s.val * 512 + k.val = (32 * (t.val / 32) + s.val) * 512 + k.val
    omega
  · blk_ext [idx t]

end Cert.InValue
-- ==== Proof.WConvInValue.lean ====
/- The weight gradient of the gated convolution's input projection: what the kernel leaves in its result is the
   reference's term over the same arguments. The tokens come in sixteen blocks of 1024; the four planes of the
   result are filled one after the other, each over its own run of sixteen grid points. -/
module

public import proofs.«01_k».proof.Proof.Gen.WConvInIdeal.Value
public import proofs.«01_k».proof.Proof.Gen.WConvInRefIdeal.Run
public import proofs.«01_k».proof.Proof.Fold
public import Idealize.ShloMosaic.Lib.Pipeline.ValueKit
public import Idealize.ShloMosaic.Lib.Pointwise

@[expose] public section

set_option maxRecDepth 16384

noncomputable section

namespace Cert.WConvInValue

open Cert.WConvInIdeal Cert.WConvInIdeal.Gen Cert.WConvInIdeal.Value
open Idealize.ShloMosaic Idealize.ShloMosaic.TcCoe Idealize.SL.Sem
open Idealize.ShloMosaic.Pipeline (Dat)

/-- The reference's result over typed arrays: the initial value plus, per plane, the input transposed times the gradient. -/
def ref (X : FVec Ideal S16384x1024 .bf16) (DP : FVec Ideal S4x16384x2048 .bf16) (W0 : FVec Ideal S4x1024x2048 .f32) :
    FVec Ideal S4x1024x2048 .f32 :=
  addf W0 (transpose Cert.WConvInRefIdeal.S4x1024x2048 [0, 2, 1] (Host.dotGeneral Cert.WConvInRefIdeal.dot_S4x2048x16384_S16384x1024_S4x2048x1024_2_0_01_1_n_n none (transpose Cert.WConvInRefIdeal.S4x2048x16384 [0, 2, 1] (extf .f32 DP Cert.WConvInRefIdeal.Gen.bitsLt_bf16_f32) Cert.WConvInRefIdeal.Gen.transposes_S4x16384x2048_S4x2048x16384_0_2_1) (extf .f32 X Cert.WConvInRefIdeal.Gen.bitsLt_bf16_f32)) Cert.WConvInRefIdeal.Gen.transposes_S4x2048x1024_S4x1024x2048_0_2_1)

/-- The reference read at an index. -/
theorem ref_at (X : FVec Ideal S16384x1024 .bf16) (DP : FVec Ideal S4x16384x2048 .bf16) (W0 : FVec Ideal S4x1024x2048 .f32)
    (p : Fin 4) (d : Fin 1024) (e : Fin 2048) :
    ref X DP W0 (ix3 p d e) = W0 (ix3 p d e) + ∑ l : Fin 16384, DP (ix3 p l e) * X (ix2 l d) := by
  pointwise [ref]

/-- One point's step read at an index: the block so far plus the product of the point's two blocks. -/
theorem step_at (acc : FVec Ideal S1x1024x2048 .f32) (x : FVec Ideal S1024x1024 .bf16) (g : FVec Ideal S1x1024x2048 .bf16)
    (j : S1x1024x2048.Idx) :
    k0_pay2 (F := Ideal) acc x g j = acc j + ∑ k : Fin 1024, g (ix3 0 k (j 2)) * x (ix2 k (j 1)) := by
  pointwise! [k0_pay2]

/-- The reset is the initial value's block, unchanged. -/
theorem reset_at (z : FVec Ideal S1x1024x2048 .f32) : k0_pay1 (F := Ideal) z = z := by
  funext j
  pointwise [k0_pay1]
  blk_ext

variable (m : (ℓ : Loc nD τ sig) → Buf (Elt Ideal) ℓ)

/-- The blocks a grid point reads: point `t` is plane `t / 16`, token block `t % 16`. -/
theorem idx : ∀ t : Fin cfg0.N, win0_0.index t = ![t.val % 16, 0] ∧ win0_1.index t = ![t.val / 16, t.val % 16, 0]
    ∧ win0_2.index t = ![t.val / 16, 0, 0] :=
  (by decide +kernel : ∀ t : Fin grid0.N, _)

/-- The block of the initial value that grid point `n` reads. -/
def start (c : Dev nD) (n : ℕ) (h : n < cfg0.N) : FVec Ideal S1x1024x2048 .f32 := iblk m c 2 ⟨n, h⟩

/-- The block of the gradient that grid point `n` reads. -/
def gblk (c : Dev nD) (n : ℕ) (h : n < cfg0.N) : FVec Ideal S1x1024x2048 .bf16 := iblk m c 1 ⟨n, h⟩

/-- The block of the input that grid point `n` reads. -/
def xblk (c : Dev nD) (n : ℕ) (h : n < cfg0.N) : FVec Ideal S1024x1024 .bf16 := iblk m c 0 ⟨n, h⟩

/-- What grid point `n` adds. -/
def part (c : Dev nD) (n : ℕ) (h : n < cfg0.N) : FVec Ideal S1x1024x2048 .f32 := fun j =>
  ∑ k : Fin 1024, gblk m c n h (ix3 0 k (j 2)) * xblk m c n h (ix2 k (j 1))

/-- The block after a run of sixteen points: the initial block plus the sixteen products. -/
theorem fold_at (c : Dev nD) (b : ℕ) (hb : b + 15 < cfg0.N) (j : S1x1024x2048.Idx) :
    Pipeline.accAt (reset3 m c) (step3 m c) b 15 hb j
      = start m c b (by omega) j + ∑ s : Fin 16, part m c (b + s.val) (by have := s.isLt; omega) j :=
  Cert.Fold.accAt_eq_sum (ι := S1x1024x2048.Idx) (β := EReal) (reset3 m c) (step3 m c) (start m c b (by omega)) (part m c) b 15 hb
    (fun h j => (congrArg (fun z => k0_pay2 (F := Ideal) z (xblk m c b h) (gblk m c b h) j) (reset_at (start m c b h))).trans
      (step_at _ _ _ j))
    (fun n h acc j => step_at acc (xblk m c n h) (gblk m c n h) j) j

/-- The run of plane `p`, read at row `d` and column `e`: the reference's term there. -/
theorem run_at (c : Dev nD) (p : Fin 4) (d : Fin 1024) (e : Fin 2048) (b : ℕ) (hb : b + 15 < cfg0.N)
    (y : S1x1024x2048.Idx) (eb : b = 16 * p.val) (ey : y = ix3 0 d e) :
    Pipeline.accAt (reset3 m c) (step3 m c) b 15 hb y
      = ref (m ((c : Thread nD τ).loc main_arg0)) (m ((c : Thread nD τ).loc main_arg1)) (m ((c : Thread nD τ).loc main_arg2))
          (ix3 p d e) := by
  subst eb ey
  rw [fold_at m c _ hb, ref_at]
  refine Ideal.add_congr ?_ ?_
  · unfold start
    blk_ext [iblk, V, idx ⟨16 * p.val, Nat.lt_of_le_of_lt (Nat.le_add_right _ _) hb⟩]
  · unfold part gblk xblk
    refine Fin.sum_mul_add_congr fun s k hl => ?_
    blk_point [iblk, V, idx ⟨16 * p.val + s.val, by have := s.isLt; omega⟩]

/-- The result array after the run is the reference's term over the arguments. -/
theorem final (c : Dev nD) : (dats m 0 c).arrAt 3 cfg0.N
    = ref (m ((c : Thread nD τ).loc main_arg0)) (m ((c : Thread nD τ).loc main_arg1)) (m ((c : Thread nD τ).loc main_arg2)) := by
  rw [final3]
  show (G3 m c : S4x1024x2048.Idx → EReal) = _
  funext i
  obtain ⟨p, d, e, rfl⟩ : ∃ (p : Fin 4) (d : Fin 1024) (e : Fin 2048), i = ix3 p d e := ⟨i 0, i 1, i 2, eq_ix3 i⟩
  have hrun : 16 * run3Of (ix3 p d e) = 16 * p.val := by
    show 16 * (1 * (p.val / 1 - 0) + 1 * (d.val / 1024 - 0) + 1 * (e.val / 2048 - 0)) = _
    omega
  have hloc : loc3Of (ix3 p d e) = ix3 0 d e := by
    funext a
    apply Fin.ext
    match a with
    | ⟨0, _⟩ => show p.val % 1 = 0; omega
    | ⟨1, _⟩ => show d.val % 1024 = d.val; omega
    | ⟨2, _⟩ => show e.val % 2048 = e.val; omega
  have hr : 16 * run3Of (ix3 p d e) + 15 < cfg0.N := by rw [hrun, show cfg0.N = 64 from N_0]; omega
  unfold G3
  rw [dif_pos hr]
  exact run_at m c p d e _ hr _ hrun hloc

end Cert.WConvInValue
-- ==== Proof.WConvOutValue.lean ====
/- The weight gradient of the gated convolution's output projection: what the kernel leaves in its result is the
   reference's term over the same arguments. The tokens come in sixteen blocks of 1024, added into one block. -/
module

public import proofs.«01_k».proof.Proof.Gen.WConvOutIdeal.Value
public import proofs.«01_k».proof.Proof.Gen.WConvOutRefIdeal.Run
public import proofs.«01_k».proof.Proof.Fold
public import Idealize.ShloMosaic.Lib.Pipeline.ValueKit
public import Idealize.ShloMosaic.Lib.Pointwise

@[expose] public section

set_option maxRecDepth 16384

noncomputable section

namespace Cert.WConvOutValue

open Cert.WConvOutIdeal Cert.WConvOutIdeal.Gen Cert.WConvOutIdeal.Value
open Idealize.ShloMosaic Idealize.ShloMosaic.TcCoe Idealize.SL.Sem
open Idealize.ShloMosaic.Pipeline (Dat)

/-- The reference's result over typed arrays. -/
def ref (X : FVec Ideal S16384x2048 .bf16) (G : FVec Ideal S16384x1024 .bf16) (W0 : FVec Ideal S1x2048x1024 .f32) :
    FVec Ideal S1x2048x1024 .f32 :=
  addf W0 (broadcastInDim Cert.WConvOutRefIdeal.S1x2048x1024 ![1, 2] Cert.WConvOutRefIdeal.Gen.bcast_S2048x1024_S1x2048x1024_1_2 (transpose Cert.WConvOutRefIdeal.S2048x1024 [1, 0] (Host.dotGeneral Cert.WConvOutRefIdeal.dot_S16384x1024_S16384x2048_S1024x2048_0_0_1_1_n_n none (extf .f32 G Cert.WConvOutRefIdeal.Gen.bitsLt_bf16_f32) (extf .f32 X Cert.WConvOutRefIdeal.Gen.bitsLt_bf16_f32)) Cert.WConvOutRefIdeal.Gen.transposes_S1024x2048_S2048x1024_1_0))

/-- The reference read at an index. -/
theorem ref_at (X : FVec Ideal S16384x2048 .bf16) (G : FVec Ideal S16384x1024 .bf16) (W0 : FVec Ideal S1x2048x1024 .f32)
    (p : Fin 1) (d : Fin 2048) (e : Fin 1024) :
    ref X G W0 (ix3 p d e) = W0 (ix3 p d e) + ∑ l : Fin 16384, G (ix2 l e) * X (ix2 l d) := by
  pointwise [ref]

/-- One point's step read at an index: the block so far plus the product of the point's two blocks. -/
theorem step_at (acc : FVec Ideal S1x2048x1024 .f32) (x : FVec Ideal S1024x2048 .bf16) (g : FVec Ideal S1024x1024 .bf16)
    (j : S1x2048x1024.Idx) :
    k0_pay2 (F := Ideal) acc x g j = acc j + ∑ k : Fin 1024, g (ix2 k (j 2)) * x (ix2 k (j 1)) := by
  pointwise! [k0_pay2]

/-- The reset is the initial value's block, unchanged. -/
theorem reset_at (z : FVec Ideal S1x2048x1024 .f32) : k0_pay1 (F := Ideal) z = z := by
  funext j
  pointwise [k0_pay1]
  blk_ext

variable (m : (ℓ : Loc nD τ sig) → Buf (Elt Ideal) ℓ)

/-- The blocks a grid point reads. -/
theorem idx : ∀ t : Fin cfg0.N, win0_0.index t = ![t.val % 16, 0] ∧ win0_1.index t = ![t.val % 16, 0] ∧ win0_2.index t = ![0, 0, 0] :=
  (by decide +kernel : ∀ t : Fin grid0.N, _)

/-- The block of the initial value that grid point `n` reads. -/
def start (c : Dev nD) (n : ℕ) (h : n < cfg0.N) : FVec Ideal S1x2048x1024 .f32 := iblk m c 2 ⟨n, h⟩

/-- The block of the gradient that grid point `n` reads. -/
def gblk (c : Dev nD) (n : ℕ) (h : n < cfg0.N) : FVec Ideal S1024x1024 .bf16 := iblk m c 1 ⟨n, h⟩

/-- The block of the input that grid point `n` reads. -/
def xblk (c : Dev nD) (n : ℕ) (h : n < cfg0.N) : FVec Ideal S1024x2048 .bf16 := iblk m c 0 ⟨n, h⟩

/-- What grid point `n` adds. -/
def part (c : Dev nD) (n : ℕ) (h : n < cfg0.N) : FVec Ideal S1x2048x1024 .f32 := fun j =>
  ∑ k : Fin 1024, gblk m c n h (ix2 k (j 2)) * xblk m c n h (ix2 k (j 1))

/-- The block after a run of 16 points: the initial block plus the products of the points. -/
theorem fold_at (c : Dev nD) (b : ℕ) (hb : b + 15 < cfg0.N) (j : S1x2048x1024.Idx) :
    Pipeline.accAt (reset3 m c) (step3 m c) b 15 hb j
      = start m c b (by omega) j + ∑ s : Fin 16, part m c (b + s.val) (by have := s.isLt; omega) j :=
  (Cert.Fold.accAt_eq_sum (ι := S1x2048x1024.Idx) (β := EReal) (reset3 m c) (step3 m c) (start m c b (by omega)) (part m c) b 15 hb
    (fun h j => (congrArg (fun z => k0_pay2 (F := Ideal) z (xblk m c b h) (gblk m c b h) j) (reset_at (start m c b h))).trans
      (step_at _ _ _ j))
    (fun n h acc j => step_at acc (xblk m c n h) (gblk m c n h) j) j)

/-- The run that fills row `d` and column `e` of plane `p`: the reference's term there. -/
theorem run_at (c : Dev nD) (p : Fin 1) (d : Fin 2048) (e : Fin 1024) (b : ℕ) (hb : b + 15 < cfg0.N)
    (y : S1x2048x1024.Idx) (eb : b = 16 * 0) (ey : y = ix3 0 ⟨d.val % 2048, Nat.mod_lt _ (by decide)⟩ e) :
    Pipeline.accAt (reset3 m c) (step3 m c) b 15 hb y
      = ref (m ((c : Thread nD τ).loc main_arg0)) (m ((c : Thread nD τ).loc main_arg1)) (m ((c : Thread nD τ).loc main_arg2)) (ix3 p d e) := by
  subst eb ey
  rw [fold_at m c _ hb, ref_at]
  refine Ideal.add_congr ?_ ?_
  · unfold start
    blk_ext [iblk, V, idx ⟨16 * 0, Nat.lt_of_le_of_lt (Nat.le_add_right _ _) hb⟩]
  · unfold part gblk xblk
    refine Fin.sum_mul_add_congr fun s k hl => ?_
    blk_point [iblk, V, idx ⟨16 * 0 + s.val, by have := s.isLt; omega⟩]

/-- The result array after the run is the reference's term over the arguments. -/
theorem final (c : Dev nD) : (dats m 0 c).arrAt 3 cfg0.N
    = ref (m ((c : Thread nD τ).loc main_arg0)) (m ((c : Thread nD τ).loc main_arg1)) (m ((c : Thread nD τ).loc main_arg2)) := by
  rw [final3]
  show (G3 m c : S1x2048x1024.Idx → EReal) = _
  funext i
  obtain ⟨p, d, e, rfl⟩ : ∃ (p : Fin 1) (d : Fin 2048) (e : Fin 1024), i = ix3 p d e := ⟨i 0, i 1, i 2, eq_ix3 i⟩
  have hrun : 16 * run3Of (ix3 p d e) = 16 * 0 := by
    show 16 * (1 * (p.val / 1 - 0) + 1 * (d.val / 2048 - 0) + 1 * (e.val / 1024 - 0)) = _
    omega
  have hloc : loc3Of (ix3 p d e) = ix3 0 ⟨d.val % 2048, Nat.mod_lt _ (by decide)⟩ e := by
    funext a
    apply Fin.ext
    match a with
    | ⟨0, _⟩ => show p.val % 1 = 0; omega
    | ⟨1, _⟩ => rfl
    | ⟨2, _⟩ => show e.val % 1024 = e.val; omega
  have hr : 16 * run3Of (ix3 p d e) + 15 < cfg0.N := by rw [hrun, show cfg0.N = 16 from N_0]; omega
  unfold G3
  rw [dif_pos hr]
  exact run_at m c p d e _ hr _ hrun hloc

end Cert.WConvOutValue
-- ==== Proof.WSsmInValue.lean ====
/- The weight gradient of the state-space block's input projection: what the kernel leaves in its result is the
   reference's term over the same arguments. The tokens come in sixteen blocks of 1024; the four planes of the result
   are four column blocks of the gradient, filled one after the other. -/
module

public import proofs.«01_k».proof.Proof.Gen.WSsmInIdeal.Value
public import proofs.«01_k».proof.Proof.Gen.WSsmInRefIdeal.Run
public import proofs.«01_k».proof.Proof.Fold
public import Idealize.ShloMosaic.Lib.Pipeline.ValueKit
public import Idealize.ShloMosaic.Lib.Pointwise

@[expose] public section

set_option maxRecDepth 16384

noncomputable section

namespace Cert.WSsmInValue

open Cert.WSsmInIdeal Cert.WSsmInIdeal.Gen Cert.WSsmInIdeal.Value
open Idealize.ShloMosaic Idealize.ShloMosaic.TcCoe Idealize.SL.Sem
open Idealize.ShloMosaic.Pipeline (Dat)

/-- The reference's result over typed arrays. -/
def ref (X : FVec Ideal S16384x1024 .bf16) (G : FVec Ideal S16384x4096 .bf16) (W0 : FVec Ideal S4x1024x1024 .f32) :
    FVec Ideal S4x1024x1024 .f32 :=
  addf W0 (addf (addf (addf (pad Cert.WSsmInRefIdeal.S4x1024x1024 ![3, 0, 0] ![0, 0, 0] ![0, 0, 0] (broadcastInDim Cert.WSsmInRefIdeal.S1x1024x1024 ![1, 2] Cert.WSsmInRefIdeal.Gen.bcast_S1024x1024_S1x1024x1024_1_2 (transpose Cert.WSsmInRefIdeal.S1024x1024 [1, 0] (Host.dotGeneral Cert.WSsmInRefIdeal.dot_S16384x1024_S16384x1024_S1024x1024_0_0_1_1_n_n none (extractStridedSlice Cert.WSsmInRefIdeal.S16384x1024 ![0, 3072] (extf .f32 G Cert.WSsmInRefIdeal.Gen.bitsLt_bf16_f32) Cert.WSsmInRefIdeal.Gen.slices_S16384x4096_S16384x1024_0_3072) (extf .f32 X Cert.WSsmInRefIdeal.Gen.bitsLt_bf16_f32)) Cert.WSsmInRefIdeal.Gen.transposes_S1024x1024_S1024x1024_1_0)) (constant Cert.WSsmInRefIdeal.S_ .f32 0x00000000#32) Cert.WSsmInRefIdeal.Gen.pads_S1x1024x1024_S4x1024x1024_300_000_000 Cert.WSsmInRefIdeal.Gen.h_S_) (pad Cert.WSsmInRefIdeal.S4x1024x1024 ![2, 0, 0] ![1, 0, 0] ![0, 0, 0] (broadcastInDim Cert.WSsmInRefIdeal.S1x1024x1024 ![1, 2] Cert.WSsmInRefIdeal.Gen.bcast_S1024x1024_S1x1024x1024_1_2 (transpose Cert.WSsmInRefIdeal.S1024x1024 [1, 0] (Host.dotGeneral Cert.WSsmInRefIdeal.dot_S16384x1024_S16384x1024_S1024x1024_0_0_1_1_n_n none (extractStridedSlice Cert.WSsmInRefIdeal.S16384x1024 ![0, 2048] (extf .f32 G Cert.WSsmInRefIdeal.Gen.bitsLt_bf16_f32) Cert.WSsmInRefIdeal.Gen.slices_S16384x4096_S16384x1024_0_2048) (extf .f32 X Cert.WSsmInRefIdeal.Gen.bitsLt_bf16_f32)) Cert.WSsmInRefIdeal.Gen.transposes_S1024x1024_S1024x1024_1_0)) (constant Cert.WSsmInRefIdeal.S_ .f32 0x00000000#32) Cert.WSsmInRefIdeal.Gen.pads_S1x1024x1024_S4x1024x1024_210_000_000 Cert.WSsmInRefIdeal.Gen.h_S_)) (pad Cert.WSsmInRefIdeal.S4x1024x1024 ![1, 0, 0] ![2, 0, 0] ![0, 0, 0] (broadcastInDim Cert.WSsmInRefIdeal.S1x1024x1024 ![1, 2] Cert.WSsmInRefIdeal.Gen.bcast_S1024x1024_S1x1024x1024_1_2 (transpose Cert.WSsmInRefIdeal.S1024x1024 [1, 0] (Host.dotGeneral Cert.WSsmInRefIdeal.dot_S16384x1024_S16384x1024_S1024x1024_0_0_1_1_n_n none (extractStridedSlice Cert.WSsmInRefIdeal.S16384x1024 ![0, 1024] (extf .f32 G Cert.WSsmInRefIdeal.Gen.bitsLt_bf16_f32) Cert.WSsmInRefIdeal.Gen.slices_S16384x4096_S16384x1024_0_1024) (extf .f32 X Cert.WSsmInRefIdeal.Gen.bitsLt_bf16_f32)) Cert.WSsmInRefIdeal.Gen.transposes_S1024x1024_S1024x1024_1_0)) (constant Cert.WSsmInRefIdeal.S_ .f32 0x00000000#32) Cert.WSsmInRefIdeal.Gen.pads_S1x1024x1024_S4x1024x1024_120_000_000 Cert.WSsmInRefIdeal.Gen.h_S_)) (pad Cert.WSsmInRefIdeal.S4x1024x1024 ![0, 0, 0] ![3, 0, 0] ![0, 0, 0] (broadcastInDim Cert.WSsmInRefIdeal.S1x1024x1024 ![1, 2] Cert.WSsmInRefIdeal.Gen.bcast_S1024x1024_S1x1024x1024_1_2 (transpose Cert.WSsmInRefIdeal.S1024x1024 [1, 0] (Host.dotGeneral Cert.WSsmInRefIdeal.dot_S16384x1024_S16384x1024_S1024x1024_0_0_1_1_n_n none (extractStridedSlice Cert.WSsmInRefIdeal.S16384x1024 ![0, 0] (extf .f32 G Cert.WSsmInRefIdeal.Gen.bitsLt_bf16_f32) Cert.WSsmInRefIdeal.Gen.slices_S16384x4096_S16384x1024_0_0) (extf .f32 X Cert.WSsmInRefIdeal.Gen.bitsLt_bf16_f32)) Cert.WSsmInRefIdeal.Gen.transposes_S1024x1024_S1024x1024_1_0)) (constant Cert.WSsmInRefIdeal.S_ .f32 0x00000000#32) Cert.WSsmInRefIdeal.Gen.pads_S1x1024x1024_S4x1024x1024_030_000_000 Cert.WSsmInRefIdeal.Gen.h_S_))

/-- The reference read at an index. -/
theorem ref_at (X : FVec Ideal S16384x1024 .bf16) (G : FVec Ideal S16384x4096 .bf16) (W0 : FVec Ideal S4x1024x1024 .f32)
    (p : Fin 4) (d : Fin 1024) (e : Fin 1024) :
    ref X G W0 (ix3 p d e) = W0 (ix3 p d e) + ∑ l : Fin 16384, G (ix2 l (⟨p.val * 1024 + e.val, by have := p.isLt; have := e.isLt; omega⟩ : Fin 4096)) * X (ix2 l d) := by
  pointwise [ref]
  refine Ideal.add_congr rfl ?_
  fin_cases p <;> simp [Nat.add_comm]

/-- One point's step read at an index: the block so far plus the product of the point's two blocks. -/
theorem step_at (acc : FVec Ideal S1x1024x1024 .f32) (x : FVec Ideal S1024x1024 .bf16) (g : FVec Ideal S1024x1024 .bf16)
    (j : S1x1024x1024.Idx) :
    k0_pay2 (F := Ideal) acc x g j = acc j + ∑ k : Fin 1024, g (ix2 k (j 2)) * x (ix2 k (j 1)) := by
  pointwise! [k0_pay2]

/-- The reset is the initial value's block, unchanged. -/
theorem reset_at (z : FVec Ideal S1x1024x1024 .f32) : k0_pay1 (F := Ideal) z = z := by
  funext j
  pointwise [k0_pay1]
  blk_ext

variable (m : (ℓ : Loc nD τ sig) → Buf (Elt Ideal) ℓ)

/-- The blocks a grid point reads. -/
theorem idx : ∀ t : Fin cfg0.N, win0_0.index t = ![t.val % 16, 0] ∧ win0_1.index t = ![t.val % 16, t.val / 16] ∧ win0_2.index t = ![t.val / 16, 0, 0] :=
  (by decide +kernel : ∀ t : Fin grid0.N, _)

/-- The block of the initial value that grid point `n` reads. -/
def start (c : Dev nD) (n : ℕ) (h : n < cfg0.N) : FVec Ideal S1x1024x1024 .f32 := iblk m c 2 ⟨n, h⟩

/-- The block of the gradient that grid point `n` reads. -/
def gblk (c : Dev nD) (n : ℕ) (h : n < cfg0.N) : FVec Ideal S1024x1024 .bf16 := iblk m c 1 ⟨n, h⟩

/-- The block of the input that grid point `n` reads. -/
def xblk (c : Dev nD) (n : ℕ) (h : n < cfg0.N) : FVec Ideal S1024x1024 .bf16 := iblk m c 0 ⟨n, h⟩

/-- What grid point `n` adds. -/
def part (c : Dev nD) (n : ℕ) (h : n < cfg0.N) : FVec Ideal S1x1024x1024 .f32 := fun j =>
  ∑ k : Fin 1024, gblk m c n h (ix2 k (j 2)) * xblk m c n h (ix2 k (j 1))

/-- The block after a run of 16 points: the initial block plus the products of the points. -/
theorem fold_at (c : Dev nD) (b : ℕ) (hb : b + 15 < cfg0.N) (j : S1x1024x1024.Idx) :
    Pipeline.accAt (reset3 m c) (step3 m c) b 15 hb j
      = start m c b (by omega) j + ∑ s : Fin 16, part m c (b + s.val) (by have := s.isLt; omega) j :=
  (Cert.Fold.accAt_eq_sum (ι := S1x1024x1024.Idx) (β := EReal) (reset3 m c) (step3 m c) (start m c b (by omega)) (part m c) b 15 hb
    (fun h j => (congrArg (fun z => k0_pay2 (F := Ideal) z (xblk m c b h) (gblk m c b h) j) (reset_at (start m c b h))).trans
      (step_at _ _ _ j))
    (fun n h acc j => step_at acc (xblk m c n h) (gblk m c n h) j) j)

/-- The run that fills row `d` and column `e` of plane `p`: the reference's term there. -/
theorem run_at (c : Dev nD) (p : Fin 4) (d : Fin 1024) (e : Fin 1024) (b : ℕ) (hb : b + 15 < cfg0.N)
    (y : S1x1024x1024.Idx) (eb : b = 16 * p.val) (ey : y = ix3 0 ⟨d.val % 1024, Nat.mod_lt _ (by decide)⟩ e) :
    Pipeline.accAt (reset3 m c) (step3 m c) b 15 hb y
      = ref (m ((c : Thread nD τ).loc main_arg0)) (m ((c : Thread nD τ).loc main_arg1)) (m ((c : Thread nD τ).loc main_arg2)) (ix3 p d e) := by
  subst eb ey
  rw [fold_at m c _ hb, ref_at]
  refine Ideal.add_congr ?_ ?_
  · unfold start
    blk_ext [iblk, V, idx ⟨16 * p.val, Nat.lt_of_le_of_lt (Nat.le_add_right _ _) hb⟩]
  · unfold part gblk xblk
    refine Fin.sum_mul_add_congr fun s k hl => ?_
    blk_point [iblk, V, idx ⟨16 * p.val + s.val, by have := s.isLt; omega⟩]

/-- The result array after the run is the reference's term over the arguments. -/
theorem final (c : Dev nD) : (dats m 0 c).arrAt 3 cfg0.N
    = ref (m ((c : Thread nD τ).loc main_arg0)) (m ((c : Thread nD τ).loc main_arg1)) (m ((c : Thread nD τ).loc main_arg2)) := by
  rw [final3]
  show (G3 m c : S4x1024x1024.Idx → EReal) = _
  funext i
  obtain ⟨p, d, e, rfl⟩ : ∃ (p : Fin 4) (d : Fin 1024) (e : Fin 1024), i = ix3 p d e := ⟨i 0, i 1, i 2, eq_ix3 i⟩
  have hrun : 16 * run3Of (ix3 p d e) = 16 * p.val := by
    show 16 * (1 * (p.val / 1 - 0) + 1 * (d.val / 1024 - 0) + 1 * (e.val / 1024 - 0)) = _
    omega
  have hloc : loc3Of (ix3 p d e) = ix3 0 ⟨d.val % 1024, Nat.mod_lt _ (by decide)⟩ e := by
    funext a
    apply Fin.ext
    match a with
    | ⟨0, _⟩ => show p.val % 1 = 0; omega
    | ⟨1, _⟩ => rfl
    | ⟨2, _⟩ => show e.val % 1024 = e.val; omega
  have hr : 16 * run3Of (ix3 p d e) + 15 < cfg0.N := by rw [hrun, show cfg0.N = 64 from N_0]; omega
  unfold G3
  rw [dif_pos hr]
  exact run_at m c p d e _ hr _ hrun hloc

end Cert.WSsmInValue
-- ==== Proof.WGluValue.lean ====
/- The weight gradient of the gated linear unit's projection: what the kernel leaves in its result is the reference's
   term over the same arguments. The tokens come in eight blocks of 2048; the result is filled in two row blocks of 1024. -/
module

public import proofs.«01_k».proof.Proof.Gen.WGluIdeal.Value
public import proofs.«01_k».proof.Proof.Gen.WGluRefIdeal.Run
public import proofs.«01_k».proof.Proof.Fold
public import Idealize.ShloMosaic.Lib.Pipeline.ValueKit
public import Idealize.ShloMosaic.Lib.Pointwise

@[expose] public section

set_option maxRecDepth 16384

noncomputable section

namespace Cert.WGluValue

open Cert.WGluIdeal Cert.WGluIdeal.Gen Cert.WGluIdeal.Value
open Idealize.ShloMosaic Idealize.ShloMosaic.TcCoe Idealize.SL.Sem
open Idealize.ShloMosaic.Pipeline (Dat)

/-- The reference's result over typed arrays. -/
def ref (X : FVec Ideal S16384x2048 .bf16) (G : FVec Ideal S16384x2048 .bf16) :
    FVec Ideal S1x2048x2048 .f32 :=
  broadcastInDim Cert.WGluRefIdeal.S1x2048x2048 ![1, 2] Cert.WGluRefIdeal.Gen.bcast_S2048x2048_S1x2048x2048_1_2 (transpose Cert.WGluRefIdeal.S2048x2048 [1, 0] (Host.dotGeneral Cert.WGluRefIdeal.dot_S16384x2048_S16384x2048_S2048x2048_0_0_1_1_n_n none (extf .f32 G Cert.WGluRefIdeal.Gen.bitsLt_bf16_f32) (extf .f32 X Cert.WGluRefIdeal.Gen.bitsLt_bf16_f32)) Cert.WGluRefIdeal.Gen.transposes_S2048x2048_S2048x2048_1_0)

/-- The reference read at an index. -/
theorem ref_at (X : FVec Ideal S16384x2048 .bf16) (G : FVec Ideal S16384x2048 .bf16)
    (p : Fin 1) (d : Fin 2048) (e : Fin 2048) :
    ref X G (ix3 p d e) = ∑ l : Fin 16384, G (ix2 l e) * X (ix2 l d) := by
  pointwise [ref]

/-- One point's step read at an index: the block so far plus the product of the point's two blocks. -/
theorem step_at (acc : FVec Ideal S1x1024x2048 .f32) (x : FVec Ideal S2048x1024 .bf16) (g : FVec Ideal S2048x2048 .bf16)
    (j : S1x1024x2048.Idx) :
    k0_pay2 (F := Ideal) acc x g j = acc j + ∑ k : Fin 2048, g (ix2 k (j 2)) * x (ix2 k (j 1)) := by
  pointwise! [k0_pay2]

/-- The reset is the zero block. -/
theorem reset_at (j : S1x1024x2048.Idx) : k0_pay1 (F := Ideal) j = 0 := by
  pointwise [k0_pay1]

variable (m : (ℓ : Loc nD τ sig) → Buf (Elt Ideal) ℓ)

/-- The blocks a grid point reads. -/
theorem idx : ∀ t : Fin cfg0.N, win0_0.index t = ![t.val % 8, t.val / 8] ∧ win0_1.index t = ![t.val % 8, 0] :=
  (by decide +kernel : ∀ t : Fin grid0.N, _)

/-- The block of the gradient that grid point `n` reads. -/
def gblk (c : Dev nD) (n : ℕ) (h : n < cfg0.N) : FVec Ideal S2048x2048 .bf16 := iblk m c 1 ⟨n, h⟩

/-- The block of the input that grid point `n` reads. -/
def xblk (c : Dev nD) (n : ℕ) (h : n < cfg0.N) : FVec Ideal S2048x1024 .bf16 := iblk m c 0 ⟨n, h⟩

/-- What grid point `n` adds. -/
def part (c : Dev nD) (n : ℕ) (h : n < cfg0.N) : FVec Ideal S1x1024x2048 .f32 := fun j =>
  ∑ k : Fin 2048, gblk m c n h (ix2 k (j 2)) * xblk m c n h (ix2 k (j 1))

/-- The block after a run of 8 points: the products of the points. -/
theorem fold_at (c : Dev nD) (b : ℕ) (hb : b + 7 < cfg0.N) (j : S1x1024x2048.Idx) :
    Pipeline.accAt (reset2 m c) (step2 m c) b 7 hb j
      = ∑ s : Fin 8, part m c (b + s.val) (by have := s.isLt; omega) j :=
  (Cert.Fold.accAt_eq_sum (ι := S1x1024x2048.Idx) (β := EReal) (reset2 m c) (step2 m c) (fun _ => 0) (part m c) b 7 hb
    (fun h j => (step_at (k0_pay1 (F := Ideal)) (xblk m c b h) (gblk m c b h) j).trans (by rw [reset_at]; rfl))
    (fun n h acc j => step_at acc (xblk m c n h) (gblk m c n h) j) j).trans (zero_add _)

/-- The run that fills row `d` and column `e` of plane `p`: the reference's term there. -/
theorem run_at (c : Dev nD) (p : Fin 1) (d : Fin 2048) (e : Fin 2048) (b : ℕ) (hb : b + 7 < cfg0.N)
    (y : S1x1024x2048.Idx) (eb : b = 8 * (d.val / 1024)) (ey : y = ix3 0 ⟨d.val % 1024, Nat.mod_lt _ (by decide)⟩ e) :
    Pipeline.accAt (reset2 m c) (step2 m c) b 7 hb y
      = ref (m ((c : Thread nD τ).loc main_arg0)) (m ((c : Thread nD τ).loc main_arg1)) (ix3 p d e) := by
  subst eb ey
  rw [fold_at m c _ hb, ref_at]
  unfold part gblk xblk
  refine Fin.sum_mul_add_congr fun s k hl => ?_
  blk_point [iblk, V, idx ⟨8 * (d.val / 1024) + s.val, by have := s.isLt; omega⟩]

/-- The result array after the run is the reference's term over the arguments. -/
theorem final (c : Dev nD) : (dats m 0 c).arrAt 2 cfg0.N
    = ref (m ((c : Thread nD τ).loc main_arg0)) (m ((c : Thread nD τ).loc main_arg1)) := by
  rw [final2]
  show (G2 m c : S1x2048x2048.Idx → EReal) = _
  funext i
  obtain ⟨p, d, e, rfl⟩ : ∃ (p : Fin 1) (d : Fin 2048) (e : Fin 2048), i = ix3 p d e := ⟨i 0, i 1, i 2, eq_ix3 i⟩
  have hrun : 8 * run2Of (ix3 p d e) = 8 * (d.val / 1024) := by
    show 8 * (2 * (p.val / 1 - 0) + 1 * (d.val / 1024 - 0) + 1 * (e.val / 2048 - 0)) = _
    omega
  have hloc : loc2Of (ix3 p d e) = ix3 0 ⟨d.val % 1024, Nat.mod_lt _ (by decide)⟩ e := by
    funext a
    apply Fin.ext
    match a with
    | ⟨0, _⟩ => show p.val % 1 = 0; omega
    | ⟨1, _⟩ => rfl
    | ⟨2, _⟩ => show e.val % 2048 = e.val; omega
  have hr : 8 * run2Of (ix3 p d e) + 7 < cfg0.N := by rw [hrun, show cfg0.N = 16 from N_0]; omega
  unfold G2
  rw [dif_pos hr]
  exact run_at m c p d e _ hr _ hrun hloc

end Cert.WGluValue
-- ==== Proof.WSsmOutValue.lean ====
/- The weight gradient of the state-space block's output projection: what the kernel leaves in its result is the
   reference's term over the same arguments. The tokens come in eight blocks of 2048, added into one block. -/
module

public import proofs.«01_k».proof.Proof.Gen.WSsmOutIdeal.Value
public import proofs.«01_k».proof.Proof.Gen.WSsmOutRefIdeal.Run
public import proofs.«01_k».proof.Proof.Fold
public import Idealize.ShloMosaic.Lib.Pipeline.ValueKit
public import Idealize.ShloMosaic.Lib.Pointwise

@[expose] public section

set_option maxRecDepth 16384

noncomputable section

namespace Cert.WSsmOutValue

open Cert.WSsmOutIdeal Cert.WSsmOutIdeal.Gen Cert.WSsmOutIdeal.Value
open Idealize.ShloMosaic Idealize.ShloMosaic.TcCoe Idealize.SL.Sem
open Idealize.ShloMosaic.Pipeline (Dat)

/-- The reference's result over typed arrays. -/
def ref (X : FVec Ideal S16384x2048 .bf16) (G : FVec Ideal S16384x1024 .bf16) :
    FVec Ideal S1x2048x1024 .f32 :=
  broadcastInDim Cert.WSsmOutRefIdeal.S1x2048x1024 ![1, 2] Cert.WSsmOutRefIdeal.Gen.bcast_S2048x1024_S1x2048x1024_1_2 (transpose Cert.WSsmOutRefIdeal.S2048x1024 [1, 0] (Host.dotGeneral Cert.WSsmOutRefIdeal.dot_S16384x1024_S16384x2048_S1024x2048_0_0_1_1_n_n none (extf .f32 G Cert.WSsmOutRefIdeal.Gen.bitsLt_bf16_f32) (extf .f32 X Cert.WSsmOutRefIdeal.Gen.bitsLt_bf16_f32)) Cert.WSsmOutRefIdeal.Gen.transposes_S1024x2048_S2048x1024_1_0)

/-- The reference read at an index. -/
theorem ref_at (X : FVec Ideal S16384x2048 .bf16) (G : FVec Ideal S16384x1024 .bf16)
    (p : Fin 1) (d : Fin 2048) (e : Fin 1024) :
    ref X G (ix3 p d e) = ∑ l : Fin 16384, G (ix2 l e) * X (ix2 l d) := by
  pointwise [ref]

/-- One point's step read at an index: the block so far plus the product of the point's two blocks. -/
theorem step_at (acc : FVec Ideal S1x2048x1024 .f32) (x : FVec Ideal S2048x2048 .bf16) (g : FVec Ideal S2048x1024 .bf16)
    (j : S1x2048x1024.Idx) :
    k0_pay2 (F := Ideal) acc x g j = acc j + ∑ k : Fin 2048, g (ix2 k (j 2)) * x (ix2 k (j 1)) := by
  pointwise! [k0_pay2]

/-- The reset is the zero block. -/
theorem reset_at (j : S1x2048x1024.Idx) : k0_pay1 (F := Ideal) j = 0 := by
  pointwise [k0_pay1]

variable (m : (ℓ : Loc nD τ sig) → Buf (Elt Ideal) ℓ)

/-- The blocks a grid point reads. -/
theorem idx : ∀ t : Fin cfg0.N, win0_0.index t = ![t.val % 8, 0] ∧ win0_1.index t = ![t.val % 8, 0] :=
  (by decide +kernel : ∀ t : Fin grid0.N, _)

/-- The block of the gradient that grid point `n` reads. -/
def gblk (c : Dev nD) (n : ℕ) (h : n < cfg0.N) : FVec Ideal S2048x1024 .bf16 := iblk m c 1 ⟨n, h⟩

/-- The block of the input that grid point `n` reads. -/
def xblk (c : Dev nD) (n : ℕ) (h : n < cfg0.N) : FVec Ideal S2048x2048 .bf16 := iblk m c 0 ⟨n, h⟩

/-- What grid point `n` adds. -/
def part (c : Dev nD) (n : ℕ) (h : n < cfg0.N) : FVec Ideal S1x2048x1024 .f32 := fun j =>
  ∑ k : Fin 2048, gblk m c n h (ix2 k (j 2)) * xblk m c n h (ix2 k (j 1))

/-- The block after a run of 8 points: the products of the points. -/
theorem fold_at (c : Dev nD) (b : ℕ) (hb : b + 7 < cfg0.N) (j : S1x2048x1024.Idx) :
    Pipeline.accAt (reset2 m c) (step2 m c) b 7 hb j
      = ∑ s : Fin 8, part m c (b + s.val) (by have := s.isLt; omega) j :=
  (Cert.Fold.accAt_eq_sum (ι := S1x2048x1024.Idx) (β := EReal) (reset2 m c) (step2 m c) (fun _ => 0) (part m c) b 7 hb
    (fun h j => (step_at (k0_pay1 (F := Ideal)) (xblk m c b h) (gblk m c b h) j).trans (by rw [reset_at]; rfl))
    (fun n h acc j => step_at acc (xblk m c n h) (gblk m c n h) j) j).trans (zero_add _)

/-- The run that fills row `d` and column `e` of plane `p`: the reference's term there. -/
theorem run_at (c : Dev nD) (p : Fin 1) (d : Fin 2048) (e : Fin 1024) (b : ℕ) (hb : b + 7 < cfg0.N)
    (y : S1x2048x1024.Idx) (eb : b = 8 * 0) (ey : y = ix3 0 ⟨d.val % 2048, Nat.mod_lt _ (by decide)⟩ e) :
    Pipeline.accAt (reset2 m c) (step2 m c) b 7 hb y
      = ref (m ((c : Thread nD τ).loc main_arg0)) (m ((c : Thread nD τ).loc main_arg1)) (ix3 p d e) := by
  subst eb ey
  rw [fold_at m c _ hb, ref_at]
  unfold part gblk xblk
  refine Fin.sum_mul_add_congr fun s k hl => ?_
  blk_point [iblk, V, idx ⟨8 * 0 + s.val, by have := s.isLt; omega⟩]

/-- The result array after the run is the reference's term over the arguments. -/
theorem final (c : Dev nD) : (dats m 0 c).arrAt 2 cfg0.N
    = ref (m ((c : Thread nD τ).loc main_arg0)) (m ((c : Thread nD τ).loc main_arg1)) := by
  rw [final2]
  show (G2 m c : S1x2048x1024.Idx → EReal) = _
  funext i
  obtain ⟨p, d, e, rfl⟩ : ∃ (p : Fin 1) (d : Fin 2048) (e : Fin 1024), i = ix3 p d e := ⟨i 0, i 1, i 2, eq_ix3 i⟩
  have hrun : 8 * run2Of (ix3 p d e) = 8 * 0 := by
    show 8 * (1 * (p.val / 1 - 0) + 1 * (d.val / 2048 - 0) + 1 * (e.val / 1024 - 0)) = _
    omega
  have hloc : loc2Of (ix3 p d e) = ix3 0 ⟨d.val % 2048, Nat.mod_lt _ (by decide)⟩ e := by
    funext a
    apply Fin.ext
    match a with
    | ⟨0, _⟩ => show p.val % 1 = 0; omega
    | ⟨1, _⟩ => rfl
    | ⟨2, _⟩ => show e.val % 1024 = e.val; omega
  have hr : 8 * run2Of (ix3 p d e) + 7 < cfg0.N := by rw [hrun, show cfg0.N = 8 from N_0]; omega
  unfold G2
  rw [dif_pos hr]
  exact run_at m c p d e _ hr _ hrun hloc

end Cert.WSsmOutValue
-- ==== Proof.ProjectBody.lean ====
/- The body of the projection into the convolution layer, which the generated frame leaves to a proof by hand: four
   neighbouring grid points share one block of tokens. The first of them modulates the tokens and keeps them in the second
   result's buffer; the other three only read that buffer, and the last of the four writes it back. Here: what the body
   leaves at a point of either kind, what the buffer holds at every point, and the run of the whole program. -/
module

public import proofs.«01_k».proof.Proof.Gen.ProjectIdeal.Skeleton
public import proofs.«01_k».proof.Proof.Gen.ProjectIdeal.Frame
public import Idealize.ShloMosaic.Lib.Pipeline.TableIdle
public import Idealize.ShloMosaic.Lib.Pipeline.ValueKit
public import Idealize.ShloMosaic.Lib.VecWindow
public import Idealize.ShloMosaic.Lib.Claim

@[expose] public section

set_option maxRecDepth 16384

noncomputable section

namespace Cert.ProjectBody

open Cert.ProjectIdeal Cert.ProjectIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources the assertions below speak of. -/
abbrev Res (F : FTy → Type) [FloatOps F] := MT nD τ sig Unit (Elt F) ℕ (UR sig nD τ) ℕ

variable (m : (ℓ : Loc nD τ sig) → Buf (Elt F) ℓ) (ρ : Dev nD → PrngReg)

/-- The body modulates its tokens at the first of every four points, and only there. -/
theorem first_iff (t : Fin cfg0.N) : k0_cond1 (grid0.coords t) = 1#1 ↔ t.val % 4 = 0 := by
  have e0 : (grid0.coords t 0).val = t.val / 4 % 16 := Pipeline.Grid.coords_val t 0 (by decide) rfl
  have e1 : (grid0.coords t 1).val = t.val / 1 % 4 := Pipeline.Grid.coords_val t 1 (by decide) rfl
  have ht : t.val < 64 := Nat.lt_of_lt_of_eq t.isLt N_0
  simp only [k0_cond1, e0, e1]
  word_cmp

/-- A whole buffer's contents, loaded whole. -/
theorem load_whole {sp : Space} {S : Shape} {e : EltTy} {M : Memref sig .tc sp S e} (hM : M.IsWhole) (X : S.Idx → Elt F e)
    {off : Fin S.rank → ℕ} (inb : ∀ a, off a + S.size a ≤ S.size a) :
    View.readAt (Elt F) M.view (Rect.unit off S.size inb).toLoadRect (hM.unread X) = X := by
  funext y
  rw [View.readAt_apply, hM.read_unread]
  exact congrArg X (Rect.emb_unit_full inb y)

set_option maxHeartbeats 1000000 in
/-- A first point: whatever the two result buffers held, they end at the product and at the modulated tokens. -/
theorem body_first (c : Dev nD) (i : grid0.Coords)
    (xm : Memref sig .tc .vmem S1024x1024 .f32) (hx : xm.IsWhole) (sm : Memref sig .tc .vmem S1x1024 .f32) (hs : sm.IsWhole)
    (bm : Memref sig .tc .vmem S1x1024 .f32) (hb : bm.IsWhole) (wm : Memref sig .tc .vmem S1x1024x2048 .bf16) (hw : wm.IsWhole)
    (pm : Memref sig .tc .vmem S1x1024x2048 .bf16) (hp : pm.IsWhole) (hm : Memref sig .tc .vmem S1024x1024 .bf16) (hh : hm.IsWhole)
    (hc : k0_cond1 i = 1#1)
    (x : Vec F S1024x1024 .f32) (s b : Vec F S1x1024 .f32) (w : Vec F S1x1024x2048 .bf16) (E : Set ℕ) (K : PUnit → sProp (Res F)) :
    iprop(owns (c : Thread nD τ) xm fullShare x ∗ owns (c : Thread nD τ) sm fullShare s ∗ owns (c : Thread nD τ) bm fullShare b
        ∗ owns (c : Thread nD τ) wm fullShare w ∗ (∃ d, owns (c : Thread nD τ) pm fullShare d) ∗ (∃ d, owns (c : Thread nD τ) hm fullShare d)
        ∗ (iprop(owns (c : Thread nD τ) xm fullShare x ∗ owns (c : Thread nD τ) sm fullShare s ∗ owns (c : Thread nD τ) bm fullShare b
            ∗ owns (c : Thread nD τ) wm fullShare w ∗ owns (c : Thread nD τ) pm fullShare (k0_pay2 (k0_pay1 x s b) w)
            ∗ owns (c : Thread nD τ) hm fullShare (k0_pay1 x s b)) -∗ K ⟨⟩))
      ⊢ wp frame (wpE (defs₀ (F := F)) Variants.none c none) E (cc0_l0_inproj i xm hx sm hs bm hb wm hw pm hp hm hh) K := by
  simp only [cc0_l0_inproj_eq_skeleton]; unfold cc0_l0_inproj_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  obtain rfl := hx.eq_unread hf0; obtain rfl := hs.eq_unread hf1; obtain rfl := hb.eq_unread hf2; obtain rfl := hw.eq_unread hf3
  sl_exec (disch := first | sl_exact hc)
  sl_step
  iapply Hk
  isplitl [H0]
  · iexists _; isplitr; · ipureintro; exact hx.read_unread _
    iexact H0
  isplitl [H1]
  · iexists _; isplitr; · ipureintro; exact hs.read_unread _
    iexact H1
  isplitl [H2]
  · iexists _; isplitr; · ipureintro; exact hb.read_unread _
    iexact H2
  isplitl [H3]
  · iexists _; isplitr; · ipureintro; exact hw.read_unread _
    iexact H3
  isplitl [H4]
  · iexists _; isplitr; swap; · iexact H4
    ipureintro
    rw [View.read_writes_full, load_whole hw]
    unfold body_first.sl.v3 body_first.sl.H5_1
    rw [View.readCov_full, load_whole hx, load_whole hs, load_whole hb]
  iexists _; isplitr; swap; · iexact H5
  ipureintro
  unfold body_first.sl.H5_1
  rw [View.read_writes_full, load_whole hx, load_whole hs, load_whole hb]

set_option maxHeartbeats 1000000 in
/-- A later point: the second result's buffer is read and left as it was, the first's ends at the product with it. -/
theorem body_later (c : Dev nD) (i : grid0.Coords)
    (xm : Memref sig .tc .vmem S1024x1024 .f32) (hx : xm.IsWhole) (sm : Memref sig .tc .vmem S1x1024 .f32) (hs : sm.IsWhole)
    (bm : Memref sig .tc .vmem S1x1024 .f32) (hb : bm.IsWhole) (wm : Memref sig .tc .vmem S1x1024x2048 .bf16) (hw : wm.IsWhole)
    (pm : Memref sig .tc .vmem S1x1024x2048 .bf16) (hp : pm.IsWhole) (hm : Memref sig .tc .vmem S1024x1024 .bf16) (hh : hm.IsWhole)
    (hc : ¬k0_cond1 i = 1#1)
    (x : Vec F S1024x1024 .f32) (s b : Vec F S1x1024 .f32) (w : Vec F S1x1024x2048 .bf16) (h : Vec F S1024x1024 .bf16) (E : Set ℕ) (K : PUnit → sProp (Res F)) :
    iprop(owns (c : Thread nD τ) xm fullShare x ∗ owns (c : Thread nD τ) sm fullShare s ∗ owns (c : Thread nD τ) bm fullShare b
        ∗ owns (c : Thread nD τ) wm fullShare w ∗ (∃ d, owns (c : Thread nD τ) pm fullShare d) ∗ owns (c : Thread nD τ) hm fullShare h
        ∗ (iprop(owns (c : Thread nD τ) xm fullShare x ∗ owns (c : Thread nD τ) sm fullShare s ∗ owns (c : Thread nD τ) bm fullShare b
            ∗ owns (c : Thread nD τ) wm fullShare w ∗ owns (c : Thread nD τ) pm fullShare (k0_pay2 h w)
            ∗ owns (c : Thread nD τ) hm fullShare h) -∗ K ⟨⟩))
      ⊢ wp frame (wpE (defs₀ (F := F)) Variants.none c none) E (cc0_l0_inproj i xm hx sm hs bm hb wm hw pm hp hm hh) K := by
  simp only [cc0_l0_inproj_eq_skeleton]; unfold cc0_l0_inproj_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  obtain rfl := hx.eq_unread hf0; obtain rfl := hs.eq_unread hf1; obtain rfl := hb.eq_unread hf2; obtain rfl := hw.eq_unread hf3; obtain rfl := hh.eq_unread hf5
  sl_exec (disch := first | sl_exact hc)
  sl_step
  iapply Hk
  isplitl [H0]
  · iexists _; isplitr; · ipureintro; exact hx.read_unread _
    iexact H0
  isplitl [H1]
  · iexists _; isplitr; · ipureintro; exact hs.read_unread _
    iexact H1
  isplitl [H2]
  · iexists _; isplitr; · ipureintro; exact hb.read_unread _
    iexact H2
  isplitl [H3]
  · iexists _; isplitr; · ipureintro; exact hw.read_unread _
    iexact H3
  isplitl [H4]
  · iexists _; isplitr; swap; · iexact H4
    ipureintro
    rw [View.read_writes_full, load_whole hw, load_whole hh]
  iexists _; isplitr; · ipureintro; exact hh.read_unread _
  iexact H5

/-! ## What the buffers hold, point by point -/

/-- The first of the four points that share `t`'s tokens. -/
def head (t : Fin cfg0.N) : Fin cfg0.N := ⟨4 * (t.val / 4), lt_of_le_of_lt (Nat.mul_div_le _ _) t.isLt⟩

theorem head_of_first (t : Fin cfg0.N) (h : t.val % 4 = 0) : head t = t := Fin.ext (by show 4 * (t.val / 4) = t.val; omega)

theorem head_pred (t : Fin cfg0.N) (h : ¬t.val % 4 = 0) : head ⟨t.val - 1, lt_of_le_of_lt (Nat.sub_le _ _) t.isLt⟩ = head t :=
  Fin.ext (by show 4 * ((t.val - 1) / 4) = 4 * (t.val / 4); omega)

/-- The modulated tokens that point `t` works with: those of the first of its four points. -/
def tokens (c : Dev nD) (t : Fin cfg0.N) : Vec F S1024x1024 .bf16 :=
  k0_pay1 (iblk m c 0 (head t)) (iblk m c 1 (head t)) (iblk m c 2 (head t))

/-- The block of the first result that point `t` computes. -/
def product (c : Dev nD) (t : Fin cfg0.N) : Vec F S1x1024x2048 .bf16 := k0_pay2 (tokens m c t) (iblk m c 3 t)

/-- What every window's buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => product m c t
    | ⟨5, _⟩ => tokens m c t
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = product m c t := by dsimp only [dats]
theorem after_5 (c : Dev nD) (t : Fin cfg0.N) : (dats m 0 c).after 5 t = tokens m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- The body stores nothing in the second result's buffer at any but the first points. -/
theorem idle_5 (t : Fin cfg0.N) : cfg0.idle 5 (grid0.coords t) = !decide (t.val % 4 = 0) := by
  show (!(k0_cond1 (grid0.coords t) == 1#1)) = _
  by_cases h : t.val % 4 = 0
  · rw [(first_iff t).mpr h, decide_eq_true h]; rfl
  · rw [beq_false_of_ne (fun e => h ((first_iff t).mp e)), decide_eq_false h]

/-- … and writes it back at the last of the four. -/
theorem flush_5 (t : Fin cfg0.N) : (cfg0.win 5).flush t = decide (t.val % 4 = 3) := by
  by_cases h : t.val % 4 = 3
  · rw [(flush0_5 t).mpr h, decide_eq_true h]
  · rw [decide_eq_false h]; exact Bool.eq_false_iff.mpr fun e => h ((flush0_5 t).mp e)

/-- The second result's buffer holds nothing of use exactly when a first point finds it. -/
theorem fresh_5 (n : ℕ) (h : n ≤ cfg0.N) : cfg0.fresh 5 n = decide (n % 4 = 0) := by
  refine cfg0.fresh_tab 5 (fun n => decide (n % 4 = 0)) rfl (fun t => ?_) n h
  rw [idle_5, flush_5]
  have : t.val % 4 < 4 := Nat.mod_lt _ (by decide)
  by_cases h3 : t.val % 4 = 3
  · rw [decide_eq_true h3, decide_eq_true (show (t.val + 1) % 4 = 0 by omega)]; rfl
  · rw [decide_eq_false h3, decide_eq_false (show ¬(t.val + 1) % 4 = 0 by omega), Bool.not_and_self]; rfl

/-- At a later point the second result's buffer holds the tokens that the first of the four left there. -/
theorem before_5 (c : Dev nD) (t : Fin cfg0.N) (h : ¬t.val % 4 = 0) (d) : (dats m 0 c).before 5 t d = tokens m c t := by
  have carried : ∀ t : Fin cfg0.N, ¬t.val % 4 = 0 →
      tokens m c ⟨t.val - 1, lt_of_le_of_lt (Nat.sub_le _ _) t.isLt⟩ = tokens m c t := fun t h => by
    unfold tokens; rw [head_pred t h]
  rw [(dats m 0 c).before_out_traj 5 rfl (fun _ _ => rfl) (fun t _ _ hf => by
      rw [fresh_5 _ t.isLt.le] at hf
      rw [after_5, after_5]; exact (carried t (of_decide_eq_false hf)).symm) _ t rfl d,
    fresh_5 _ t.isLt.le, decide_eq_false h, if_neg Bool.false_ne_true, after_5]
  exact carried t h

/-! ## The body at a point of the grid -/

/-- Each window's current buffer. -/
abbrev xm (t : Fin cfg0.N) : Memref sig .tc .vmem S1024x1024 .f32 := win0_0.stage (cfg0.slots t 0)
abbrev sm (t : Fin cfg0.N) : Memref sig .tc .vmem S1x1024 .f32 := win0_1.stage (cfg0.slots t 1)
abbrev bm (t : Fin cfg0.N) : Memref sig .tc .vmem S1x1024 .f32 := win0_2.stage (cfg0.slots t 2)
abbrev wm (t : Fin cfg0.N) : Memref sig .tc .vmem S1x1024x2048 .bf16 := win0_3.stage (cfg0.slots t 3)
abbrev pm (t : Fin cfg0.N) : Memref sig .tc .vmem S1x1024x2048 .bf16 := win0_4.stage (cfg0.slots t 4)
abbrev hm (t : Fin cfg0.N) : Memref sig .tc .vmem S1024x1024 .bf16 := win0_5.stage (cfg0.slots t 5)

/-- What the body is handed at point `t`. -/
def pre (c : Dev nD) (t : Fin cfg0.N) : sProp (Res F) :=
  iprop((dats m 0 c).Φ t.castSucc ∗ (dats m 0 c).owesAt () t.castSucc
    ∗ (∃ d, owns (c : Thread nD τ) (xm t) fullShare ((dats m 0 c).before 0 t d))
    ∗ (∃ d, owns (c : Thread nD τ) (sm t) fullShare ((dats m 0 c).before 1 t d))
    ∗ (∃ d, owns (c : Thread nD τ) (bm t) fullShare ((dats m 0 c).before 2 t d))
    ∗ (∃ d, owns (c : Thread nD τ) (wm t) fullShare ((dats m 0 c).before 3 t d))
    ∗ (∃ d, owns (c : Thread nD τ) (pm t) fullShare ((dats m 0 c).before 4 t d))
    ∗ (∃ d, owns (c : Thread nD τ) (hm t) fullShare ((dats m 0 c).before 5 t d)))

/-- What it leaves. -/
def post (c : Dev nD) (t : Fin cfg0.N) : sProp (Res F) :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

/-- Whichever point it is, the second result's buffer at the point's tokens is what has to be left. -/
theorem leaves_5 (c : Dev nD) (t : Fin cfg0.N) :
    owns (c : Thread nD τ) (hm t) fullShare (tokens m c t) ⊢ (dats m 0 c).leavesExact 5 t := by
  unfold Dat.leavesExact
  rw [idle_5, flush_5, after_5]
  by_cases h : t.val % 4 = 0
  · rw [decide_eq_true h]; exact .rfl
  · rw [decide_eq_false h]
    by_cases h3 : t.val % 4 = 3
    · rw [decide_eq_true h3]; exact .rfl
    · rw [decide_eq_false h3]
      show _ ⊢ iprop(∃ d, owns (c : Thread nD τ) (hm t) fullShare ((dats m 0 c).before 5 t d))
      simp only [before_5 m c t h]
      iintro H
      iexists (fun _ => Classical.arbitrary _)
      iexact H

set_option maxHeartbeats 800000 in
theorem sound_body (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (xm t) fullShare (iblk m c 0 t) from
      congrArg (owns (c : Thread nD τ) (xm t) fullShare) (after_0 m c t),
    show (dats m 0 c).leavesExact 1 t = owns (c : Thread nD τ) (sm t) fullShare (iblk m c 1 t) from
      congrArg (owns (c : Thread nD τ) (sm t) fullShare) (after_1 m c t),
    show (dats m 0 c).leavesExact 2 t = owns (c : Thread nD τ) (bm t) fullShare (iblk m c 2 t) from
      congrArg (owns (c : Thread nD τ) (bm t) fullShare) (after_2 m c t),
    show (dats m 0 c).leavesExact 3 t = owns (c : Thread nD τ) (wm t) fullShare (iblk m c 3 t) from
      congrArg (owns (c : Thread nD τ) (wm t) fullShare) (after_3 m c t),
    show (dats m 0 c).leavesExact 4 t = owns (c : Thread nD τ) (pm t) fullShare (product m c t) from
      congrArg (owns (c : Thread nD τ) (pm t) fullShare) (after_4 m c t)]
  by_cases h : t.val % 4 = 0
  · have e : tokens m c t = k0_pay1 (iblk m c 0 t) (iblk m c 1 t) (iblk m c 2 t) := by unfold tokens; rw [head_of_first t h]
    iintro ⟨HΦ, Ho, ⟨%d0, H0⟩, ⟨%d1, H1⟩, ⟨%d2, H2⟩, ⟨%d3, H3⟩, ⟨%d4, H4⟩, ⟨%d5, H5⟩⟩
    iapply (body_first c (grid0.coords t) _ _ _ _ _ _ _ _ _ _ _ _ ((first_iff t).mpr h) (iblk m c 0 t) (iblk m c 1 t) (iblk m c 2 t)
      (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    rw [← e]
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iapply (leaves_5 m c t); iexact H5
  · simp only [before_5 m c t h]
    iintro ⟨HΦ, Ho, ⟨%d0, H0⟩, ⟨%d1, H1⟩, ⟨%d2, H2⟩, ⟨%d3, H3⟩, ⟨%d4, H4⟩, ⟨%d5, H5⟩⟩
    iapply (body_later c (grid0.coords t) _ _ _ _ _ _ _ _ _ _ _ _ (fun e => h ((first_iff t).mp e)) (iblk m c 0 t) (iblk m c 1 t) (iblk m c 2 t)
      (iblk m c 3 t) (tokens m c t) Set.univ _)
    isplitl [H0]; · iexact H0
    isplitl [H1]; · iexact H1
    isplitl [H2]; · iexact H2
    isplitl [H3]; · iexact H3
    isplitl [H4]; · iexists _; iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iapply (leaves_5 m c t); iexact H5

theorem row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

/-! ## The run -/

set_option backward.isDefEq.respectTransparency.types false in
/-- Every run ends, with every array of a window at what the points wrote back and every semaphore counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The arguments are left as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiescent m ρ))

end Cert.ProjectBody
-- ==== Proof.ProjectValue.lean ====
/- The projection into the convolution layer: the planes B, C, v and z, and the modulated tokens. What the kernel leaves in
   its two results is the reference's terms over the same arguments. The tokens come in sixteen blocks of 1024, each at four
   neighbouring grid points, one per plane. -/
module

public import proofs.«01_k».proof.Proof.ProjectBody
public import proofs.«01_k».proof.Proof.Gen.ProjectRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.ProjectValue

open Cert.ProjectIdeal Cert.ProjectIdeal.Gen Cert.ProjectBody
open Idealize.ShloMosaic Idealize.ShloMosaic.TcCoe Idealize.SL.Sem
open Idealize.ShloMosaic.Pipeline (Dat)

/-- The reference's modulated tokens. -/
def refH (X : FVec Ideal S16384x1024 .f32) (SC SH : FVec Ideal S1x1024 .f32) : FVec Ideal S16384x1024 .bf16 :=
  truncf .bf16 (addf (mulf X (broadcastInDim Cert.ProjectRefIdeal.S16384x1024 ![0, 1] Cert.ProjectRefIdeal.Gen.bcast_S1x1024_S16384x1024_0_1 (addf (broadcastInDim Cert.ProjectRefIdeal.S1x1024 ![] Cert.ProjectRefIdeal.Gen.bcast_S_S1x1024 (constant Cert.ProjectRefIdeal.S_ .f32 0x3F800000#32)) SC))) (broadcastInDim Cert.ProjectRefIdeal.S16384x1024 ![0, 1] Cert.ProjectRefIdeal.Gen.bcast_S1x1024_S16384x1024_0_1 SH)) Cert.ProjectRefIdeal.Gen.bitsLt_bf16_f32

/-- The reference's projection of the modulated tokens, plane by plane. -/
def refP (X : FVec Ideal S16384x1024 .f32) (SC SH : FVec Ideal S1x1024 .f32) (W : FVec Ideal S4x1024x2048 .bf16) :
    FVec Ideal S4x16384x2048 .bf16 :=
  truncf .bf16 (transpose Cert.ProjectRefIdeal.S4x16384x2048 [0, 2, 1] (Host.dotGeneral Cert.ProjectRefIdeal.dot_S4x1024x2048_S16384x1024_S4x2048x16384_1_1_02_0_n_n none (extf .f32 W Cert.ProjectRefIdeal.Gen.bitsLt_bf16_f32) (extf .f32 (refH X SC SH) Cert.ProjectRefIdeal.Gen.bitsLt_bf16_f32)) Cert.ProjectRefIdeal.Gen.transposes_S4x2048x16384_S4x16384x2048_0_2_1) Cert.ProjectRefIdeal.Gen.bitsLt_bf16_f32

theorem refP_at (X : FVec Ideal S16384x1024 .f32) (SC SH : FVec Ideal S1x1024 .f32) (W : FVec Ideal S4x1024x2048 .bf16)
    (p : Fin 4) (l : Fin 16384) (e : Fin 2048) :
    refP X SC SH W (ix3 p l e) = ∑ k : Fin 1024, W (ix3 p k e) * refH X SC SH (ix2 l k) := by
  pointwise [refP]

/-- The kernel's product read at an index. -/
theorem pay2_at (H : FVec Ideal S1024x1024 .bf16) (W : FVec Ideal S1x1024x2048 .bf16) (p : Fin 1) (r : Fin 1024) (e : Fin 2048) :
    k0_pay2 (F := Ideal) H W (ix3 p r e) = ∑ k : Fin 1024, H (ix2 r k) * W (ix3 0 k e) := by
  pointwise [k0_pay2]

variable (m : (ℓ : Loc nD τ sig) → Buf (Elt Ideal) ℓ)

/-- The blocks a grid point reads and fills. -/
theorem idx : ∀ t : Fin cfg0.N, win0_0.index t = ![t.val / 4, 0] ∧ win0_1.index t = ![0, 0] ∧ win0_2.index t = ![0, 0]
    ∧ win0_3.index t = ![t.val % 4, 0, 0] ∧ win0_4.index t = ![t.val % 4, t.val / 4, 0] ∧ win0_5.index t = ![t.val / 4, 0] :=
  (by decide +kernel : ∀ t : Fin grid0.N, _)

theorem head_div (t : Fin cfg0.N) : (head t).val / 4 = t.val / 4 := by show 4 * (t.val / 4) / 4 = t.val / 4; omega

/-- The reference's modulated tokens, from the arguments. -/
def H (c : Dev nD) : FVec Ideal S16384x1024 .bf16 :=
  refH (m ((c : Thread nD τ).loc main_arg0)) (m ((c : Thread nD τ).loc main_arg1)) (m ((c : Thread nD τ).loc main_arg2))

/-- Row `r` of the tokens modulated at point `u` is row `1024 (u / 4) + r` of the reference's. -/
theorem pay1_at (c : Dev nD) (u : Fin cfg0.N) (r : Fin 1024) (d : Fin 1024) (l : Fin 16384) (hl : l.val = u.val / 4 * 1024 + r.val) :
    k0_pay1 (F := Ideal) (iblk m c 0 u) (iblk m c 1 u) (iblk m c 2 u) (ix2 r d) = H m c (ix2 l d) := by
  pointwise [k0_pay1, H, refH]
  blk_point [iblk, V, idx u]

theorem tokens_at (c : Dev nD) (t : Fin cfg0.N) (r : Fin 1024) (d : Fin 1024) (l : Fin 16384) (hl : l.val = t.val / 4 * 1024 + r.val) :
    tokens (F := Ideal) m c t (ix2 r d) = H m c (ix2 l d) :=
  pay1_at m c (head t) r d l (by rw [head_div]; exact hl)

/-- The weights' block of a point is its plane. -/
theorem w_at (c : Dev nD) (t : Fin cfg0.N) (k : Fin 1024) (e : Fin 2048) (p : Fin 4) (hp : p.val = t.val % 4) :
    (iblk m c 3 t : S1x1024x2048.Idx → EReal) (ix3 0 k e) = (m ((c : Thread nD τ).loc main_arg3) : S4x1024x2048.Idx → EReal) (ix3 p k e) := by
  blk_point [iblk, V, idx t]

/-- The second result after the run. -/
theorem final5 (c : Dev nD) : (dats m 0 c).arrAt 5 cfg0.N = H m c := by
  refine (dats m 0 c).arrAt_eq_of_covers 5 _ (by decide +kernel) fun t hf y => ?_
  have key : ∀ (y : S1024x1024.Idx) (i : S16384x1024.Idx) (h0 : (i 0).val = t.val / 4 * 1024 + (y 0).val) (h1 : (i 1).val = (y 1).val),
      tokens (F := Ideal) m c t y = H m c i := by
    intro y i h0 h1
    have ei : i = ix2 (i 0) (y 1) := by rw [eq_ix2 i]; exact congrArg (ix2 (i 0)) (Fin.ext h1)
    rw [ei, eq_ix2 y]
    exact tokens_at m c t (y 0) (y 1) (i 0) h0
  blk_simp
  rw [after_5]
  refine key y _ ?_ ?_
  all_goals (blk_simp [idx t] <;> try omega)

/-- The first result after the run. -/
theorem final4 (c : Dev nD) : (dats m 0 c).arrAt 4 cfg0.N
    = refP (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  have key : ∀ (y : S1x1024x2048.Idx) (i : S4x16384x2048.Idx) (hp : (i 0).val = t.val % 4) (h0 : (i 1).val = t.val / 4 * 1024 + (y 1).val)
      (h1 : (i 2).val = (y 2).val),
      product (F := Ideal) m c t y = refP (m ((c : Thread nD τ).loc main_arg0)) (m ((c : Thread nD τ).loc main_arg1))
        (m ((c : Thread nD τ).loc main_arg2)) (m ((c : Thread nD τ).loc main_arg3)) i := by
    intro y i hp h0 h1
    have ei : i = ix3 (i 0) (i 1) (y 2) := by rw [eq_ix3 i]; exact congrArg (ix3 (i 0) (i 1)) (Fin.ext h1)
    rw [ei, eq_ix3 y]
    refine (pay2_at _ _ (y 0) (y 1) (y 2)).trans ((Fin.sum_fin_congr fun k => ?_).trans (refP_at _ _ _ _ (i 0) (i 1) (y 2)).symm)
    exact (Ideal.mul_congr (tokens_at m c t (y 1) k (i 1) h0) (w_at m c t k (y 2) (i 0) hp)).trans (mul_comm _ _)
  blk_simp
  rw [after_4]
  refine key y _ ?_ ?_ ?_
  all_goals (blk_simp [idx t] <;> try omega)

end Cert.ProjectValue
-- ==== Proof.ProjectZValue.lean ====
/- The projection to the gate of the state space layer: the gate's columns z and the modulated tokens. What the kernel
   leaves in its two results is the reference's terms over the same arguments. The tokens come in sixteen blocks of 1024. -/
module

public import proofs.«01_k».proof.Proof.Gen.ProjectZIdeal.Value
public import proofs.«01_k».proof.Proof.Gen.ProjectZRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.ProjectZValue

open Cert.ProjectZIdeal Cert.ProjectZIdeal.Gen Cert.ProjectZIdeal.Value
open Idealize.ShloMosaic Idealize.ShloMosaic.TcCoe Idealize.SL.Sem
open Idealize.ShloMosaic.Pipeline (Dat)

/-- The reference's modulated tokens. -/
def refH (X : FVec Ideal S16384x1024 .f32) (G B SC SH : FVec Ideal S1x1024 .f32) : FVec Ideal S16384x1024 .bf16 :=
  truncf .bf16 (addf (mulf (addf (mulf X (broadcastInDim Cert.ProjectZRefIdeal.S16384x1024 ![0, 1] Cert.ProjectZRefIdeal.Gen.bcast_S1x1024_S16384x1024_0_1 G)) (broadcastInDim Cert.ProjectZRefIdeal.S16384x1024 ![0, 1] Cert.ProjectZRefIdeal.Gen.bcast_S1x1024_S16384x1024_0_1 B)) (broadcastInDim Cert.ProjectZRefIdeal.S16384x1024 ![0, 1] Cert.ProjectZRefIdeal.Gen.bcast_S1x1024_S16384x1024_0_1 (addf (broadcastInDim Cert.ProjectZRefIdeal.S1x1024 ![] Cert.ProjectZRefIdeal.Gen.bcast_S_S1x1024 (constant Cert.ProjectZRefIdeal.S_ .f32 0x3F800000#32)) SC))) (broadcastInDim Cert.ProjectZRefIdeal.S16384x1024 ![0, 1] Cert.ProjectZRefIdeal.Gen.bcast_S1x1024_S16384x1024_0_1 SH)) Cert.ProjectZRefIdeal.Gen.bitsLt_bf16_f32

/-- The gate's columns of the weights, side by side. -/
def wz (W : FVec Ideal S4x1024x1024 .bf16) : FVec Ideal Cert.ProjectZRefIdeal.S1024x2048 .bf16 :=
  concatenate Cert.ProjectZRefIdeal.S1024x2048 1 [⟨Cert.ProjectZRefIdeal.S1024x1024, (shapeCast _ (extractStridedSlice Cert.ProjectZRefIdeal.S1x1024x1024 ![2, 0, 0] W Cert.ProjectZRefIdeal.Gen.slices_S4x1024x1024_S1x1024x1024_2_0_0) Cert.ProjectZRefIdeal.Gen.shapeCasts_S1x1024x1024_S1024x1024)⟩, ⟨Cert.ProjectZRefIdeal.S1024x1024, (shapeCast _ (extractStridedSlice Cert.ProjectZRefIdeal.S1x1024x1024 ![3, 0, 0] W Cert.ProjectZRefIdeal.Gen.slices_S4x1024x1024_S1x1024x1024_3_0_0) Cert.ProjectZRefIdeal.Gen.shapeCasts_S1x1024x1024_S1024x1024)⟩] Cert.ProjectZRefIdeal.Gen.concatenates_S1024x1024_S1024x1024_S1024x2048_d1

/-- The reference's projection of the modulated tokens. -/
def refZ (X : FVec Ideal S16384x1024 .f32) (G B SC SH : FVec Ideal S1x1024 .f32) (W : FVec Ideal S4x1024x1024 .bf16) :
    FVec Ideal S1x16384x2048 .bf16 :=
  broadcastInDim Cert.ProjectZRefIdeal.S1x16384x2048 ![1, 2] Cert.ProjectZRefIdeal.Gen.bcast_S16384x2048_S1x16384x2048_1_2 (truncf .bf16 (Host.dotGeneral Cert.ProjectZRefIdeal.dot_S16384x1024_S1024x2048_S16384x2048_1_0_0_1_n_n none (extf .f32 (refH X G B SC SH) Cert.ProjectZRefIdeal.Gen.bitsLt_bf16_f32) (extf .f32 (wz W) Cert.ProjectZRefIdeal.Gen.bitsLt_bf16_f32)) Cert.ProjectZRefIdeal.Gen.bitsLt_bf16_f32)

/-- The weights read at an index: column `e` lies in plane `2 + e / 1024`. -/
theorem wz_at (W : FVec Ideal S4x1024x1024 .bf16) (k : Fin 1024) (e : Fin 2048) :
    wz W (ix2 k e) = W (ix3 ⟨2 + e.val / 1024, by have := e.isLt; omega⟩ k ⟨e.val % 1024, Nat.mod_lt _ (by decide)⟩) := by
  pointwise [wz]
  have := e.isLt
  split <;> blk_ext

theorem refZ_at (X : FVec Ideal S16384x1024 .f32) (G B SC SH : FVec Ideal S1x1024 .f32) (W : FVec Ideal S4x1024x1024 .bf16)
    (p : Fin 1) (l : Fin 16384) (e : Fin 2048) :
    refZ X G B SC SH W (ix3 p l e) = ∑ k : Fin 1024, refH X G B SC SH (ix2 l k) * wz W (ix2 k e) := by
  pointwise [refZ]

/-- The kernel's product read at an index. -/
theorem pay2_at (H : FVec Ideal S1024x1024 .bf16) (W : FVec Ideal S1x1024x2048 .bf16) (p : Fin 1) (r : Fin 1024) (e : Fin 2048) :
    k0_pay2 (F := Ideal) H W (ix3 p r e) = ∑ k : Fin 1024, H (ix2 r k) * W (ix3 0 k e) := by
  pointwise [k0_pay2]

variable (m : (ℓ : Loc nD τ sig) → Buf (Elt Ideal) ℓ)

/-- The blocks a grid point reads and fills. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0, 0] ∧ win0_6.index t = ![0, t.val, 0]
    ∧ win0_7.index t = ![t.val, 0] :=
  (by decide +kernel : ∀ t : Fin grid0.N, _)

/-- The weights' block is the gate's columns, side by side. -/
theorem w_at (c : Dev nD) (t : Fin cfg0.N) (k : Fin 1024) (e : Fin 2048) :
    (iblk m c 5 t : S1x1024x2048.Idx → EReal) (ix3 0 k e) = wz (m ((c : Thread nD τ).loc main_arg5)) (ix2 k e) := by
  rw [wz_at]
  blk_simp [iblk, idx t]
  entry_read
  pointwise
  blk_ext [idx t]

/-- The reference's modulated tokens, from the arguments. -/
def H (c : Dev nD) : FVec Ideal S16384x1024 .bf16 :=
  refH (m ((c : Thread nD τ).loc main_arg0)) (m ((c : Thread nD τ).loc main_arg1)) (m ((c : Thread nD τ).loc main_arg2))
    (m ((c : Thread nD τ).loc main_arg3)) (m ((c : Thread nD τ).loc main_arg4))

/-- The kernel's modulated tokens of grid point `t`. -/
def kh (c : Dev nD) (t : Fin cfg0.N) : FVec Ideal S1024x1024 .bf16 :=
  k0_pay1 (F := Ideal) (iblk m c 0 t) (iblk m c 1 t) (iblk m c 2 t) (iblk m c 3 t) (iblk m c 4 t)

/-- Row `r` of point `t`'s modulated tokens is row `1024 t + r` of the reference's. -/
theorem kh_at (c : Dev nD) (t : Fin cfg0.N) (r : Fin 1024) (d : Fin 1024) (l : Fin 16384) (hl : l.val = t.val * 1024 + r.val) :
    kh m c t (ix2 r d) = H m c (ix2 l d) := by
  pointwise [kh, k0_pay1, H, refH]
  blk_point [iblk, V, idx t]

/-- The second result after the run. -/
theorem final7 (c : Dev nD) : (dats m 0 c).arrAt 7 cfg0.N = H m c := by
  refine (dats m 0 c).arrAt_eq_of_covers 7 _ (by decide +kernel) fun t hf y => ?_
  have key : ∀ (y : S1024x1024.Idx) (i : S16384x1024.Idx) (h0 : (i 0).val = t.val * 1024 + (y 0).val) (h1 : (i 1).val = (y 1).val),
      kh m c t y = H m c i := by
    intro y i h0 h1
    have ei : i = ix2 (i 0) (y 1) := by rw [eq_ix2 i]; exact congrArg (ix2 (i 0)) (Fin.ext h1)
    rw [ei, eq_ix2 y]
    exact kh_at m c t (y 0) (y 1) (i 0) h0
  blk_simp
  rw [after0_7]
  unfold outsAt0
  frame_out
  refine key y _ ?_ ?_
  all_goals (blk_simp [idx t] <;> try omega)

/-- The first result after the run. -/
theorem final6 (c : Dev nD) : (dats m 0 c).arrAt 6 cfg0.N
    = refZ (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) := by
  refine (dats m 0 c).arrAt_eq_of_covers 6 _ (by decide +kernel) fun t hf y => ?_
  have key : ∀ (y : S1x1024x2048.Idx) (i : S1x16384x2048.Idx) (h0 : (i 1).val = t.val * 1024 + (y 1).val) (h1 : (i 2).val = (y 2).val),
      k0_pay2 (F := Ideal) (kh m c t) (iblk m c 5 t) y = refZ (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) i := by
    intro y i h0 h1
    have ei : i = ix3 (i 0) (i 1) (y 2) := by rw [eq_ix3 i]; exact congrArg (ix3 (i 0) (i 1)) (Fin.ext h1)
    rw [ei, eq_ix3 y]
    refine (pay2_at _ _ (y 0) (y 1) (y 2)).trans ((Fin.sum_fin_congr fun k => ?_).trans (refZ_at _ _ _ _ _ _ (i 0) (i 1) (y 2)).symm)
    exact Ideal.mul_congr (kh_at m c t (y 1) k (i 1) h0) (w_at m c t k (y 2))
  blk_simp
  rw [after0_6]
  unfold outsAt0
  frame_out
  refine key y _ ?_ ?_
  all_goals (blk_simp [idx t] <;> try omega)

end Cert.ProjectZValue
-- ==== Proof.SumConvInValue.lean ====
/- The sum of the eight devices' parts of the gradient of the convolution layer's projections: what the kernel leaves is the sum over the parts' axis. -/
module

public import proofs.«01_k».proof.Proof.Gen.SumConvInIdeal.Value
public import proofs.«01_k».proof.Proof.Gen.SumConvInRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.SumConvInValue

open Cert.SumConvInIdeal Cert.SumConvInIdeal.Gen Cert.SumConvInIdeal.Value
open Idealize.ShloMosaic Idealize.ShloMosaic.TcCoe Idealize.SL.Sem
open Idealize.ShloMosaic.Pipeline (Dat)

variable (m : (ℓ : Loc nD τ sig) → Buf (Elt Ideal) ℓ)

/-- The blocks a grid point reads and fills. -/
theorem idx : ∀ t : Fin cfg0.N, win0_0.index t = ![0, t.val, 0] ∧ win0_1.index t = ![t.val, 0] :=
  (by decide +kernel : ∀ t : Fin grid0.N, _)

/-- The result after the run. -/
theorem final (c : Dev nD) : (dats m 0 c).arrAt 1 cfg0.N
    = Host.reduceAdd (F := Ideal) (φ := .f32) (m ((c : Thread nD τ).loc main_arg0)) (constant Cert.SumConvInRefIdeal.S_ .f32 0x00000000#32)
        Cert.SumConvInRefIdeal.Gen.reducesTo_S8x512x2048_S512x2048_d0 Cert.SumConvInRefIdeal.Gen.h_S_ := by
  refine (dats m 0 c).arrAt_eq_of_covers 1 _ (by decide +kernel) fun t hf y => ?_
  blk_simp
  rw [after0_1]
  unfold out0_1
  frame_out
  rw [eq_ix2 y]
  pointwise [k0_pay1]
  have part : ∀ k : Fin 8, iblk m c 0 t (ix3 k (y 0) (y 1)) = m ((c : Thread nD τ).loc main_arg0)
      (ix3 k (((View.whole main_v0).slice (win0_1.rect t)).emb y 0)
        (((View.whole main_v0).slice (win0_1.rect t)).emb y 1)) := fun k => by
    blk_point [iblk, V, idx t]
  rw [part 0, part 1, part 2, part 3, part 4, part 5, part 6, part 7, Fin.sum_univ_eight]

end Cert.SumConvInValue
-- ==== Proof.SumSsmInValue.lean ====
/- The sum of the eight devices' parts of the gradient of the state space layer's projections: what the kernel leaves is the sum over the parts' axis. -/
module

public import proofs.«01_k».proof.Proof.Gen.SumSsmInIdeal.Value
public import proofs.«01_k».proof.Proof.Gen.SumSsmInRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.SumSsmInValue

open Cert.SumSsmInIdeal Cert.SumSsmInIdeal.Gen Cert.SumSsmInIdeal.Value
open Idealize.ShloMosaic Idealize.ShloMosaic.TcCoe Idealize.SL.Sem
open Idealize.ShloMosaic.Pipeline (Dat)

variable (m : (ℓ : Loc nD τ sig) → Buf (Elt Ideal) ℓ)

/-- The blocks a grid point reads and fills. -/
theorem idx : ∀ t : Fin cfg0.N, win0_0.index t = ![0, t.val, 0] ∧ win0_1.index t = ![t.val, 0] :=
  (by decide +kernel : ∀ t : Fin grid0.N, _)

/-- The result after the run. -/
theorem final (c : Dev nD) : (dats m 0 c).arrAt 1 cfg0.N
    = Host.reduceAdd (F := Ideal) (φ := .f32) (m ((c : Thread nD τ).loc main_arg0)) (constant Cert.SumSsmInRefIdeal.S_ .f32 0x00000000#32)
        Cert.SumSsmInRefIdeal.Gen.reducesTo_S8x512x1024_S512x1024_d0 Cert.SumSsmInRefIdeal.Gen.h_S_ := by
  refine (dats m 0 c).arrAt_eq_of_covers 1 _ (by decide +kernel) fun t hf y => ?_
  blk_simp
  rw [after0_1]
  unfold out0_1
  frame_out
  rw [eq_ix2 y]
  pointwise [k0_pay1]
  have part : ∀ k : Fin 8, iblk m c 0 t (ix3 k (y 0) (y 1)) = m ((c : Thread nD τ).loc main_arg0)
      (ix3 k (((View.whole main_v0).slice (win0_1.rect t)).emb y 0)
        (((View.whole main_v0).slice (win0_1.rect t)).emb y 1)) := fun k => by
    blk_point [iblk, V, idx t]
  rw [part 0, part 1, part 2, part 3, part 4, part 5, part 6, part 7, Fin.sum_univ_eight]

end Cert.SumSsmInValue
-- ==== Proof.SumOutValue.lean ====
/- The sum of the eight devices' parts of the gradient of an output product: what the kernel leaves is the sum over the parts' axis. -/
module

public import proofs.«01_k».proof.Proof.Gen.SumOutIdeal.Value
public import proofs.«01_k».proof.Proof.Gen.SumOutRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.SumOutValue

open Cert.SumOutIdeal Cert.SumOutIdeal.Gen Cert.SumOutIdeal.Value
open Idealize.ShloMosaic Idealize.ShloMosaic.TcCoe Idealize.SL.Sem
open Idealize.ShloMosaic.Pipeline (Dat)

variable (m : (ℓ : Loc nD τ sig) → Buf (Elt Ideal) ℓ)

/-- The blocks a grid point reads and fills. -/
theorem idx : ∀ t : Fin cfg0.N, win0_0.index t = ![0, t.val, 0] ∧ win0_1.index t = ![t.val, 0] :=
  (by decide +kernel : ∀ t : Fin grid0.N, _)

/-- The result after the run. -/
theorem final (c : Dev nD) : (dats m 0 c).arrAt 1 cfg0.N
    = Host.reduceAdd (F := Ideal) (φ := .f32) (m ((c : Thread nD τ).loc main_arg0)) (constant Cert.SumOutRefIdeal.S_ .f32 0x00000000#32)
        Cert.SumOutRefIdeal.Gen.reducesTo_S8x256x1024_S256x1024_d0 Cert.SumOutRefIdeal.Gen.h_S_ := by
  refine (dats m 0 c).arrAt_eq_of_covers 1 _ (by decide +kernel) fun t hf y => ?_
  blk_simp
  rw [after0_1]
  unfold out0_1
  frame_out
  rw [eq_ix2 y]
  pointwise [k0_pay1]
  have part : ∀ k : Fin 8, iblk m c 0 t (ix3 k (y 0) (y 1)) = m ((c : Thread nD τ).loc main_arg0)
      (ix3 k (((View.whole main_v0).slice (win0_1.rect t)).emb y 0)
        (((View.whole main_v0).slice (win0_1.rect t)).emb y 1)) := fun k => by
    blk_point [iblk, V, idx t]
  rw [part 0, part 1, part 2, part 3, part 4, part 5, part 6, part 7, Fin.sum_univ_eight]

end Cert.SumOutValue
-- ==== Proof.SumGluValue.lean ====
/- The sum of the eight devices' parts of the gradient of the gated linear unit's weights: what the kernel leaves is the sum over the parts' axis. -/
module

public import proofs.«01_k».proof.Proof.Gen.SumGluIdeal.Value
public import proofs.«01_k».proof.Proof.Gen.SumGluRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.SumGluValue

open Cert.SumGluIdeal Cert.SumGluIdeal.Gen Cert.SumGluIdeal.Value
open Idealize.ShloMosaic Idealize.ShloMosaic.TcCoe Idealize.SL.Sem
open Idealize.ShloMosaic.Pipeline (Dat)

variable (m : (ℓ : Loc nD τ sig) → Buf (Elt Ideal) ℓ)

/-- The blocks a grid point reads and fills. -/
theorem idx : ∀ t : Fin cfg0.N, win0_0.index t = ![0, t.val, 0] ∧ win0_1.index t = ![t.val, 0] :=
  (by decide +kernel : ∀ t : Fin grid0.N, _)

/-- The result after the run. -/
theorem final (c : Dev nD) : (dats m 0 c).arrAt 1 cfg0.N
    = Host.reduceAdd (F := Ideal) (φ := .f32) (m ((c : Thread nD τ).loc main_arg0)) (constant Cert.SumGluRefIdeal.S_ .f32 0x00000000#32)
        Cert.SumGluRefIdeal.Gen.reducesTo_S8x256x2048_S256x2048_d0 Cert.SumGluRefIdeal.Gen.h_S_ := by
  refine (dats m 0 c).arrAt_eq_of_covers 1 _ (by decide +kernel) fun t hf y => ?_
  blk_simp
  rw [after0_1]
  unfold out0_1
  frame_out
  rw [eq_ix2 y]
  pointwise [k0_pay1]
  have part : ∀ k : Fin 8, iblk m c 0 t (ix3 k (y 0) (y 1)) = m ((c : Thread nD τ).loc main_arg0)
      (ix3 k (((View.whole main_v0).slice (win0_1.rect t)).emb y 0)
        (((View.whole main_v0).slice (win0_1.rect t)).emb y 1)) := fun k => by
    blk_point [iblk, V, idx t]
  rw [part 0, part 1, part 2, part 3, part 4, part 5, part 6, part 7, Fin.sum_univ_eight]

end Cert.SumGluValue
-- ==== Proof.SumSmallValue.lean ====
/- The sum of the eight devices' parts of the loss and the gradients of the small weights: what the kernel leaves is the sum over the parts' axis. -/
module

public import proofs.«01_k».proof.Proof.Gen.SumSmallIdeal.Value
public import proofs.«01_k».proof.Proof.Gen.SumSmallRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.SumSmallValue

open Cert.SumSmallIdeal Cert.SumSmallIdeal.Gen Cert.SumSmallIdeal.Value
open Idealize.ShloMosaic Idealize.ShloMosaic.TcCoe Idealize.SL.Sem
open Idealize.ShloMosaic.Pipeline (Dat)

variable (m : (ℓ : Loc nD τ sig) → Buf (Elt Ideal) ℓ)

/-- The blocks a grid point reads and fills. -/
theorem idx : ∀ t : Fin cfg0.N, win0_0.index t = ![0, t.val, 0] ∧ win0_1.index t = ![t.val, 0] :=
  (by decide +kernel : ∀ t : Fin grid0.N, _)

/-- The result after the run. -/
theorem final (c : Dev nD) : (dats m 0 c).arrAt 1 cfg0.N
    = Host.reduceAdd (F := Ideal) (φ := .f32) (m ((c : Thread nD τ).loc main_arg0)) (constant Cert.SumSmallRefIdeal.S_ .f32 0x00000000#32)
        Cert.SumSmallRefIdeal.Gen.reducesTo_S8x1072x128_S1072x128_d0 Cert.SumSmallRefIdeal.Gen.h_S_ := by
  refine (dats m 0 c).arrAt_eq_of_covers 1 _ (by decide +kernel) fun t hf y => ?_
  blk_simp
  rw [after0_1]
  unfold out0_1
  frame_out
  rw [eq_ix2 y]
  pointwise [k0_pay1]
  have part : ∀ k : Fin 8, iblk m c 0 t (ix3 k (y 0) (y 1)) = m ((c : Thread nD τ).loc main_arg0)
      (ix3 k (((View.whole main_v0).slice (win0_1.rect t)).emb y 0)
        (((View.whole main_v0).slice (win0_1.rect t)).emb y 1)) := fun k => by
    blk_point [iblk, V, idx t]
  rw [part 0, part 1, part 2, part 3, part 4, part 5, part 6, part 7, Fin.sum_univ_eight]

end Cert.SumSmallValue
-- ==== Proof.ModulateValue.lean ====
/- The modulation: the kernel's product over sixteen rows, against the reference's of the devices' rows and of the context tokens' row. -/
module

public import proofs.«01_k».proof.Proof.Gen.ModulateIdeal.Value
public import proofs.«01_k».proof.Proof.Gen.ModulateRefIdeal.Run
public import Idealize.ShloMosaic.Lib.Pipeline.ValueKit
public import Idealize.ShloMosaic.Lib.Pointwise
public import Idealize.ShloMosaic.Lib.Claim
public import proofs.«01_k».proof.Proof.Silu

@[expose] public section

set_option maxRecDepth 16384

noncomputable section

namespace Cert.ModulateValue

open Idealize.ShloMosaic Idealize.ShloMosaic.TcCoe Idealize.SL.Sem

section Reference
open Cert.ModulateRefIdeal Cert.ModulateRefIdeal.Gen

/-- The reference's result. -/
def ref (a0 : FVec Ideal Cert.ModulateRefIdeal.S8x1024 .f32) (a1 : FVec Ideal Cert.ModulateRefIdeal.S1x1024 .f32) (a2 : FVec Ideal Cert.ModulateRefIdeal.S2x1024x768 .f32) (a3 : FVec Ideal Cert.ModulateRefIdeal.S2x1x768 .f32) : FVec Ideal S2x16x768 .f32 :=
  concatenate S2x16x768 0 [⟨S1x16x768, (broadcastInDim S1x16x768 ![1, 2] bcast_S16x768_S1x16x768_1_2 (concatenate S16x768 0 [⟨S8x768, (addf (Host.dotGeneral dot_S8x1024_S1024x768_S8x768_1_0_0_1_n_n none (mulf a0 (Host.divf (broadcastInDim S8x1024 ![] bcast_S_S8x1024 (constant S_ .f32 0x3F800000#32)) (addf (broadcastInDim S8x1024 ![] bcast_S_S8x1024 (constant S_ .f32 0x3F800000#32)) (Host.exp (Host.negf a0))))) (shapeCast _ (extractStridedSlice S1x1024x768 ![0, 0, 0] a2 slices_S2x1024x768_S1x1024x768_0_0_0) shapeCasts_S1x1024x768_S1024x768)) (broadcastInDim S8x768 ![0, 1] bcast_S1x768_S8x768_0_1 (shapeCast _ (extractStridedSlice S1x1x768 ![0, 0, 0] a3 slices_S2x1x768_S1x1x768_0_0_0) shapeCasts_S1x1x768_S1x768)))⟩, ⟨S8x768, (broadcastInDim S8x768 ![0, 1] bcast_S1x768_S8x768_0_1 (addf (Host.dotGeneral dot_S1x1024_S1024x768_S1x768_1_0_0_1_n_n none (mulf a1 (Host.divf (broadcastInDim S1x1024 ![] bcast_S_S1x1024 (constant S_ .f32 0x3F800000#32)) (addf (broadcastInDim S1x1024 ![] bcast_S_S1x1024 (constant S_ .f32 0x3F800000#32)) (Host.exp (Host.negf a1))))) (shapeCast _ (extractStridedSlice S1x1024x768 ![0, 0, 0] a2 slices_S2x1024x768_S1x1024x768_0_0_0) shapeCasts_S1x1024x768_S1024x768)) (shapeCast _ (extractStridedSlice S1x1x768 ![0, 0, 0] a3 slices_S2x1x768_S1x1x768_0_0_0) shapeCasts_S1x1x768_S1x768)))⟩] concatenates_S8x768_S8x768_S16x768_d0))⟩, ⟨S1x16x768, (broadcastInDim S1x16x768 ![1, 2] bcast_S16x768_S1x16x768_1_2 (concatenate S16x768 0 [⟨S8x768, (addf (Host.dotGeneral dot_S8x1024_S1024x768_S8x768_1_0_0_1_n_n none (mulf a0 (Host.divf (broadcastInDim S8x1024 ![] bcast_S_S8x1024 (constant S_ .f32 0x3F800000#32)) (addf (broadcastInDim S8x1024 ![] bcast_S_S8x1024 (constant S_ .f32 0x3F800000#32)) (Host.exp (Host.negf a0))))) (shapeCast _ (extractStridedSlice S1x1024x768 ![1, 0, 0] a2 slices_S2x1024x768_S1x1024x768_1_0_0) shapeCasts_S1x1024x768_S1024x768)) (broadcastInDim S8x768 ![0, 1] bcast_S1x768_S8x768_0_1 (shapeCast _ (extractStridedSlice S1x1x768 ![1, 0, 0] a3 slices_S2x1x768_S1x1x768_1_0_0) shapeCasts_S1x1x768_S1x768)))⟩, ⟨S8x768, (broadcastInDim S8x768 ![0, 1] bcast_S1x768_S8x768_0_1 (addf (Host.dotGeneral dot_S1x1024_S1024x768_S1x768_1_0_0_1_n_n none (mulf a1 (Host.divf (broadcastInDim S1x1024 ![] bcast_S_S1x1024 (constant S_ .f32 0x3F800000#32)) (addf (broadcastInDim S1x1024 ![] bcast_S_S1x1024 (constant S_ .f32 0x3F800000#32)) (Host.exp (Host.negf a1))))) (shapeCast _ (extractStridedSlice S1x1024x768 ![1, 0, 0] a2 slices_S2x1024x768_S1x1024x768_1_0_0) shapeCasts_S1x1024x768_S1024x768)) (shapeCast _ (extractStridedSlice S1x1x768 ![1, 0, 0] a3 slices_S2x1x768_S1x1x768_1_0_0) shapeCasts_S1x1x768_S1x768)))⟩] concatenates_S8x768_S8x768_S16x768_d0))⟩] concatenates_S1x16x768_S1x16x768_S2x16x768_d0

/-- The reference's run. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v36) = ref (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => h c) (Cert.ModulateRefIdeal.Value.run (F := Ideal) m ρ)

end Reference

open Cert.ModulateIdeal Cert.ModulateIdeal.Gen Cert.ModulateIdeal.Value

variable (a0 : FVec Ideal S8x1024 .f32) (a1 : FVec Ideal S1x1024 .f32) (a2 : FVec Ideal S2x1024x768 .f32) (a3 : FVec Ideal S2x1x768 .f32)

/-- The kernel's logistic function is the reference's. -/
theorem logistic (z : EReal) :
    Ideal.ofBits .f32 0x3F000000#32 * Ideal.tanh (Ideal.ofBits .f32 0x3F000000#32 * z) + Ideal.ofBits .f32 0x3F000000#32
      = Ideal.div 1 (1 + Ideal.exp (-z)) := Cert.Silu.logistic_tanh z

/-- The second layer's rows. -/
theorem emb7 (a : Fin 1) (b : Fin 16) (c : Fin 768) : r0_7.emb (ix3 a b c) = ix3 1 b c := by
  funext k
  match k with
  | ⟨0, _⟩ => exact Fin.ext (by show 1 + 1 * a.val = 1; omega)
  | ⟨1, _⟩ => exact Fin.ext (by show 0 + 1 * b.val = b.val; omega)
  | ⟨2, _⟩ => exact Fin.ext (by show 0 + 1 * c.val = c.val; omega)

/-- The first layer's rows. -/
theorem emb4 (a : Fin 1) (b : Fin 16) (c : Fin 768) : r0_4.emb (ix3 a b c) = ix3 0 b c := by
  funext k
  match k with
  | ⟨0, _⟩ => exact Fin.ext (by show 0 + 1 * a.val = 0; omega)
  | ⟨1, _⟩ => exact Fin.ext (by show 0 + 1 * b.val = b.val; omega)
  | ⟨2, _⟩ => exact Fin.ext (by show 0 + 1 * c.val = c.val; omega)

/-- The kernel's rows are the reference's. -/
theorem g : G4 (F := Ideal) a0 a1 a2 a3 = ref a0 a1 a2 a3 := by
  funext y
  refine View.canon_apply_of_pieces (Val := Elt Ideal) (e := .f32) (ref a0 a1 a2 a3) _ ?_ y (cover0_4 _ _ y)
  intro p hp
  simp only [List.mem_cons, List.mem_nil_iff, or_false] at hp
  rcases hp with rfl | rfl <;> refine fun (x : S1x16x768.Idx) => ?_ <;>
    obtain ⟨a, u, v, rfl⟩ : ∃ a b u, x = ix3 a b u := ⟨_, _, _, eq_ix3 x⟩
  · show k0_pay1 (F := Ideal) (k0_pay4 a0 a1 (View.ld a2 r0_5) (View.ld a3 r0_6)) (ix3 a u v) = ref a0 a1 a2 a3 (r0_7.emb (ix3 a u v))
    rw [emb7]
    pointwise [k0_pay1, k0_pay4, k0_pay2, ref]
    by_cases h : u.val < 8
    · simp only [dif_pos h, logistic]
    · simp only [dif_neg h, logistic]
  · show k0_pay3 (F := Ideal) a0 a1 (View.ld a2 r0_2) (View.ld a3 r0_3) (ix3 a u v) = ref a0 a1 a2 a3 (r0_4.emb (ix3 a u v))
    rw [emb4]
    pointwise [k0_pay3, k0_pay2, ref]
    by_cases h : u.val < 8
    · simp only [dif_pos h, logistic]
    · simp only [dif_neg h, logistic]

end Cert.ModulateValue
-- ==== Proof.ModulationValue.lean ====
/- The gradient of the modulation's weights: the kernel's one product over sixteen rows, against the reference's over the eight
   devices' rows and the context tokens' row apart. -/
module

public import proofs.«01_k».proof.Proof.Gen.ModulationIdeal.Value
public import proofs.«01_k».proof.Proof.Gen.ModulationRefIdeal.Run
public import Idealize.ShloMosaic.Lib.Pipeline.ValueKit
public import Idealize.ShloMosaic.Lib.Pointwise
public import Idealize.ShloMosaic.Lib.Claim
public import proofs.«01_k».proof.Proof.Silu

@[expose] public section

set_option maxRecDepth 16384

noncomputable section

namespace Cert.ModulationValue

open Idealize.ShloMosaic Idealize.ShloMosaic.TcCoe Idealize.SL.Sem

section Reference
open Cert.ModulationRefIdeal Cert.ModulationRefIdeal.Gen

/-- The reference's gradient of the weights. -/
def refW (a0 : FVec Ideal Cert.ModulationRefIdeal.S8x1024 .f32) (a1 : FVec Ideal Cert.ModulationRefIdeal.S1x1024 .f32) (a4 : FVec Ideal Cert.ModulationRefIdeal.S8x2x2x768 .f32) : FVec Ideal S2x1024x768 .f32 :=
  addf (transpose S2x1024x768 [0, 2, 1] (Host.dotGeneral dot_S1x2x768_S1x1024_S2x768x1024_0_0_12_1_n_n none (transpose S1x2x768 [1, 0, 2] (Host.reduceAdd (extractStridedSlice S8x2x1x768 ![0, 0, 1, 0] a4 slices_S8x2x2x768_S8x2x1x768_0_0_1_0) (constant S_ .f32 0x00000000#32) reducesTo_S8x2x1x768_S2x1x768_d0 h_S_) transposes_S2x1x768_S1x2x768_1_0_2) (mulf a1 (Host.divf (broadcastInDim S1x1024 ![] bcast_S_S1x1024 (constant S_ .f32 0x3F800000#32)) (addf (broadcastInDim S1x1024 ![] bcast_S_S1x1024 (constant S_ .f32 0x3F800000#32)) (Host.exp (Host.negf a1)))))) transposes_S2x768x1024_S2x1024x768_0_2_1) (transpose S2x1024x768 [0, 2, 1] (Host.dotGeneral dot_S8x2x768_S8x1024_S2x768x1024_0_0_12_1_n_n none (transpose S8x2x768 [1, 0, 2] (transpose S2x8x768 [1, 0, 2] (shapeCast _ (extractStridedSlice S8x2x1x768 ![0, 0, 0, 0] a4 slices_S8x2x2x768_S8x2x1x768_0_0_0_0) shapeCasts_S8x2x1x768_S8x2x768) transposes_S8x2x768_S2x8x768_1_0_2) transposes_S2x8x768_S8x2x768_1_0_2) (mulf a0 (Host.divf (broadcastInDim S8x1024 ![] bcast_S_S8x1024 (constant S_ .f32 0x3F800000#32)) (addf (broadcastInDim S8x1024 ![] bcast_S_S8x1024 (constant S_ .f32 0x3F800000#32)) (Host.exp (Host.negf a0)))))) transposes_S2x768x1024_S2x1024x768_0_2_1)

/-- The reference's gradient of the biases. -/
def refB (a3 : FVec Ideal Cert.ModulationRefIdeal.S8x2x2x3072 .f32) : FVec Ideal S2x1x3072 .f32 :=
  addf (Host.reduceAdd (extractStridedSlice S8x2x1x3072 ![0, 0, 1, 0] a3 slices_S8x2x2x3072_S8x2x1x3072_0_0_1_0) (constant S_ .f32 0x00000000#32) reducesTo_S8x2x1x3072_S2x1x3072_d0 h_S_) (broadcastInDim S2x1x3072 ![0, 2] bcast_S2x3072_S2x1x3072_0_2 (Host.reduceAdd (transpose S2x8x3072 [1, 0, 2] (shapeCast _ (extractStridedSlice S8x2x1x3072 ![0, 0, 0, 0] a3 slices_S8x2x2x3072_S8x2x1x3072_0_0_0_0) shapeCasts_S8x2x1x3072_S8x2x3072) transposes_S8x2x3072_S2x8x3072_1_0_2) (constant S_ .f32 0x00000000#32) reducesTo_S2x8x3072_S2x3072_d1 h_S_))

/-- The reference's gradient of the context tokens' row, on eight rows. -/
def refS (a2 : FVec Ideal Cert.ModulationRefIdeal.S2x1024x768 .f32) (a4 : FVec Ideal Cert.ModulationRefIdeal.S8x2x2x768 .f32) : FVec Ideal S8x1024 .f32 :=
  broadcastInDim S8x1024 ![0, 1] bcast_S1x1024_S8x1024_0_1 (Host.dotGeneral dot_S1x2x768_S2x1024x768_S1x1024_12_02_0_1_n_n none (transpose S1x2x768 [1, 0, 2] (Host.reduceAdd (extractStridedSlice S8x2x1x768 ![0, 0, 1, 0] a4 slices_S8x2x2x768_S8x2x1x768_0_0_1_0) (constant S_ .f32 0x00000000#32) reducesTo_S8x2x1x768_S2x1x768_d0 h_S_) transposes_S2x1x768_S1x2x768_1_0_2) a2)

end Reference

open Cert.ModulationIdeal Cert.ModulationIdeal.Gen Cert.ModulationIdeal.Value

variable (a0 : FVec Ideal S8x1024 .f32) (a1 : FVec Ideal S1x1024 .f32) (a2 : FVec Ideal S2x1024x768 .f32) (a3 : FVec Ideal S8x2x2x3072 .f32) (a4 : FVec Ideal S8x2x2x768 .f32)

/-- The second layer's rows of the biases. -/
theorem emb60 (a b : Fin 1) (c : Fin 3072) : r0_60.emb (ix3 a b c) = ix3 1 b c := by
  funext k
  match k with
  | ⟨0, _⟩ => exact Fin.ext (by show 1 + 1 * a.val = 1; omega)
  | ⟨1, _⟩ => exact Fin.ext (by show 0 + 1 * b.val = b.val; omega)
  | ⟨2, _⟩ => exact Fin.ext (by show 0 + 1 * c.val = c.val; omega)

/-- The first layer's rows of the biases. -/
theorem emb26 (a b : Fin 1) (c : Fin 3072) : r0_26.emb (ix3 a b c) = ix3 0 b c := by
  funext k
  match k with
  | ⟨0, _⟩ => exact Fin.ext (by show 0 + 1 * a.val = 0; omega)
  | ⟨1, _⟩ => exact Fin.ext (by show 0 + 1 * b.val = b.val; omega)
  | ⟨2, _⟩ => exact Fin.ext (by show 0 + 1 * c.val = c.val; omega)

/-- The second layer's rows of the weights. -/
theorem emb69 (a : Fin 1) (b : Fin 1024) (c : Fin 768) : r0_69.emb (ix3 a b c) = ix3 1 b c := by
  funext k
  match k with
  | ⟨0, _⟩ => exact Fin.ext (by show 1 + 1 * a.val = 1; omega)
  | ⟨1, _⟩ => exact Fin.ext (by show 0 + 1 * b.val = b.val; omega)
  | ⟨2, _⟩ => exact Fin.ext (by show 0 + 1 * c.val = c.val; omega)

/-- The first layer's rows of the weights. -/
theorem emb35 (a : Fin 1) (b : Fin 1024) (c : Fin 768) : r0_35.emb (ix3 a b c) = ix3 0 b c := by
  funext k
  match k with
  | ⟨0, _⟩ => exact Fin.ext (by show 0 + 1 * a.val = 0; omega)
  | ⟨1, _⟩ => exact Fin.ext (by show 0 + 1 * b.val = b.val; omega)
  | ⟨2, _⟩ => exact Fin.ext (by show 0 + 1 * c.val = c.val; omega)

/-- The biases: the devices' sums of both rows. -/
theorem g6 : G6 (F := Ideal) a0 a1 a2 a3 a4 = refB a3 := by
  funext y
  refine View.canon_apply_of_pieces (Val := Elt Ideal) (e := .f32) (refB a3) _ ?_ y (cover0_6 _ _ y)
  intro p hp
  simp only [List.mem_cons, List.mem_nil_iff, or_false] at hp
  rcases hp with rfl | rfl <;> refine fun (x : S1x1x3072.Idx) => ?_ <;>
    obtain ⟨a, b, u, rfl⟩ : ∃ a b u, x = ix3 a b u := ⟨_, _, _, eq_ix3 x⟩
  · show k0_pay34 _ _ _ _ (ix3 a b u) = refB a3 (r0_60.emb (ix3 a b u))
    rw [emb60]
    pointwise [k0_pay34, k0_pay31, k0_pay30, k0_pay27, k0_pay32, k0_pay28, k0_pay25, refB]
    rw [Fin.sum_univ_eight, Fin.sum_univ_eight, add_comm]
  · show k0_pay15 _ _ _ (ix3 a b u) = refB a3 (r0_26.emb (ix3 a b u))
    rw [emb26]
    pointwise [k0_pay15, k0_pay12, k0_pay9, k0_pay5, k0_pay8, k0_pay14, k0_pay11, k0_pay7, refB]
    rw [Fin.sum_univ_eight, Fin.sum_univ_eight, add_comm]

/-- Sixteen summands. -/
theorem sum_sixteen (f : Fin 16 → EReal) : ∑ k, f k = f 0 + (f 1 + (f 2 + (f 3 + (f 4 + (f 5 + (f 6 + (f 7 + (f 8
    + (f 9 + (f 10 + (f 11 + (f 12 + (f 13 + (f 14 + (f 15 + 0))))))))))))))) := by
  simp only [Fin.sum_univ_succ, Fin.sum_univ_zero]
  rfl

/-- The kernel's logistic function is the reference's. -/
theorem logistic (z : EReal) :
    Ideal.ofBits .f32 0x3F000000#32 * Ideal.tanh (Ideal.ofBits .f32 0x3F000000#32 * z) + Ideal.ofBits .f32 0x3F000000#32
      = Ideal.div 1 (1 + Ideal.exp (-z)) := Cert.Silu.logistic_tanh z

/-- Nine rows' products and seven rows of zeros, against the ninth row's product plus the sum of the others. -/
theorem regroup (d s : Fin 8 → EReal) (p q : EReal) :
    s 0 * d 0 + (s 1 * d 1 + (s 2 * d 2 + (s 3 * d 3 + (s 4 * d 4 + (s 5 * d 5 + (s 6 * d 6 + (s 7 * d 7 + q * p)))))))
      = p * q + ∑ k, d k * s k := by
  rw [Fin.sum_univ_eight]
  ac_rfl

/-- The weights: the product over sixteen rows. -/
theorem g5 : G5 (F := Ideal) a0 a1 a2 a3 a4 = refW a0 a1 a4 := by
  funext y
  refine View.canon_apply_of_pieces (Val := Elt Ideal) (e := .f32) (refW a0 a1 a4) _ ?_ y (cover0_5 _ _ y)
  intro p hp
  simp only [List.mem_cons, List.mem_nil_iff, or_false] at hp
  rcases hp with rfl | rfl <;> refine fun (x : S1x1024x768.Idx) => ?_ <;>
    obtain ⟨a, u, v, rfl⟩ : ∃ a b u, x = ix3 a b u := ⟨_, _, _, eq_ix3 x⟩
  · show k0_pay1 _ _ _ _ _ _ _ _ _ _ (ix3 a u v) = refW a0 a1 a4 (r0_69.emb (ix3 a u v))
    rw [emb69]
    pointwise [k0_pay1, k0_pay42, k0_pay3, k0_pay44, k0_pay33, k0_pay29, k0_pay26, k0_pay35, k0_pay36, k0_pay37, k0_pay38, k0_pay39, k0_pay40, k0_pay41, refW]
    rw [sum_sixteen]
    simp (config := {decide := true}) only [dite_true, dite_false, logistic, mul_zero, add_zero, Fin.sum_univ_one]
    rw [← Fin.sum_univ_eight fun k => a4 (ix4 k 1 1 v)]
    exact regroup (fun k => a4 (ix4 k 1 0 v)) (fun k => a0 (ix2 k u) * Ideal.div 1 (1 + Ideal.exp (-a0 (ix2 k u)))) _ _
  · show k0_pay23 _ _ _ _ _ _ _ _ _ _ (ix3 a u v) = refW a0 a1 a4 (r0_35.emb (ix3 a u v))
    rw [emb35]
    pointwise [k0_pay23, k0_pay42, k0_pay3, k0_pay43, k0_pay13, k0_pay10, k0_pay6, k0_pay16, k0_pay17, k0_pay18, k0_pay19, k0_pay20, k0_pay21, k0_pay22, refW]
    rw [sum_sixteen]
    simp (config := {decide := true}) only [dite_true, dite_false, logistic, mul_zero, add_zero, Fin.sum_univ_one]
    rw [← Fin.sum_univ_eight fun k => a4 (ix4 k 0 1 v)]
    exact regroup (fun k => a4 (ix4 k 0 0 v)) (fun k => a0 (ix2 k u) * Ideal.div 1 (1 + Ideal.exp (-a0 (ix2 k u)))) _ _

/-- The context tokens' row: the product of the devices' sum with the weights, layer after layer. -/
theorem g7 : G7 (F := Ideal) a0 a1 a2 a3 a4 = refS a2 a4 := by
  funext y
  rw [eq_ix2 y]
  pointwise [k0_pay2, k0_pay24, k0_pay4, k0_pay43, k0_pay44, k0_pay33, k0_pay29, k0_pay26, k0_pay13, k0_pay10, k0_pay6, refS]
  simp only [Fin.sum_univ_two, Fin.sum_univ_eight]

end Cert.ModulationValue
-- ==== Proof.ContextValue.lean ====
/- The gradient of the context tokens' vector: the kernel multiplies the chips' summed cotangent by one factor, the reference adds the two
   terms of the product rule. -/
module

public import proofs.«01_k».proof.Proof.Gen.ContextIdeal.Value
public import proofs.«01_k».proof.Proof.Gen.ContextRefIdeal.Run
public import proofs.«01_k».proof.Proof.Gen.Pre_context_finite
public import proofs.«01_k».proof.Proof.Silu
public import proofs.«01_k».proof.Proof.Finite
public import Idealize.ShloMosaic.Lib.Pipeline.ValueKit
public import Idealize.ShloMosaic.Lib.Pointwise
public import Idealize.ShloMosaic.Lib.Claim

@[expose] public section

set_option maxRecDepth 16384

noncomputable section

namespace Cert.ContextValue

open Idealize.ShloMosaic Idealize.ShloMosaic.TcCoe Idealize.SL.Sem

section Reference
open Cert.ContextRefIdeal Cert.ContextRefIdeal.Gen

variable (a0 : FVec Ideal S4x8x1024 .f32) (a1 : FVec Ideal S1x1024 .f32)

/-- The chips' summed cotangent. -/
def total : FVec Ideal S1x1024 .f32 :=
  Host.reduceAdd (extractStridedSlice S4x1x1024 ![0, 0, 0] a0 slices_S4x8x1024_S4x1x1024_0_0_0) (constant S_ .f32 0x00000000#32) reducesTo_S4x1x1024_S1x1024_d0 h_S_

/-- The logistic function of the vector. -/
def gate : FVec Ideal S1x1024 .f32 :=
  Host.divf (broadcastInDim S1x1024 ![] bcast_S_S1x1024 (constant S_ .f32 0x3F800000#32)) (addf (broadcastInDim S1x1024 ![] bcast_S_S1x1024 (constant S_ .f32 0x3F800000#32)) (Host.exp (Host.negf a1)))

/-- The reference's gradient. -/
def ref : FVec Ideal S1x1024 .f32 :=
  addf (mulf (total a0) (gate a1)) (mulf (mulf a1 (total a0)) (mulf (gate a1) (subf (broadcastInDim S1x1024 ![] bcast_S_S1x1024 (constant S_ .f32 0x3F800000#32)) (gate a1))))

theorem total_at (i : Fin 1024) : (total a0 (ix2 0 i) : EReal) = a0 (ix3 0 0 i) + a0 (ix3 1 0 i) + a0 (ix3 2 0 i) + a0 (ix3 3 0 i) := by
  pointwise [total]
  rw [Fin.sum_univ_four]

theorem gate_at (i : Fin 1024) : (gate a1 (ix2 0 i) : EReal) = Ideal.logistic (a1 (ix2 0 i)) := by
  pointwise [gate]
  rfl

theorem ref_at (i : Fin 1024) : (ref a0 a1 (ix2 0 i) : EReal)
    = total a0 (ix2 0 i) * Ideal.logistic (a1 (ix2 0 i))
      + a1 (ix2 0 i) * total a0 (ix2 0 i) * (Ideal.logistic (a1 (ix2 0 i)) * (1 - Ideal.logistic (a1 (ix2 0 i)))) := by
  rw [← gate_at a1 i]
  pointwise [ref]

end Reference

open Cert.ContextIdeal Cert.ContextIdeal.Gen Cert.ContextIdeal.Value

variable (a0 : FVec Ideal S4x8x1024 .f32) (a1 : FVec Ideal S1x1024 .f32)

/-- The kernel's value at an index. -/
theorem g2_at (i : Fin 1024) : (G2 (F := Ideal) a0 a1 (ix2 0 i) : EReal)
    = total a0 (ix2 0 i) * (Ideal.logistic (a1 (ix2 0 i)) * (1 + a1 (ix2 0 i) * (1 - Ideal.logistic (a1 (ix2 0 i))))) := by
  rw [total_at, ← Silu.logistic_tanh]
  pointwise [k0_pay1]

/-- Of a finite cotangent the two agree. -/
theorem g2 (h : ∀ i, ∃ r : ℝ, (total a0 i : EReal) = (r : EReal)) : G2 (F := Ideal) a0 a1 = ref a0 a1 := by
  funext y
  obtain ⟨i, rfl⟩ : ∃ i, y = ix2 0 i := ⟨y 1, by rw [eq_ix2 y]; exact congrArg (fun k => ix2 k (y 1)) (Subsingleton.elim (α := Fin 1) _ _)⟩
  refine (g2_at a0 a1 i).trans ?_
  rw [ref_at]
  obtain ⟨r, hr⟩ := h (ix2 0 i)
  rw [hr]
  exact (Silu.silu_grad _ _).symm

/-- The result after the run, where the stated precondition holds. -/
theorem final [Cert.Pre_context_finite.Facts] (m : (ℓ : Loc nD τ sig) → Buf (Elt Ideal) ℓ) (c : Dev nD)
    (h : Cert.Pre_context_finite.fn (F := Ideal) (m ((c : Thread nD τ).loc main_arg0)) (m ((c : Thread nD τ).loc main_arg1)) = fun _ => 1#1) :
    (dats m 0 c).arrAt 2 cfg0.N = ref (m ((c : Thread nD τ).loc main_arg0)) (m ((c : Thread nD τ).loc main_arg1)) :=
  (final2 m c).trans (g2 _ _ (Finite.real_of_all _ _ _ _ _ (congrFun h (Shape.Idx.first Cert.Pre_context_finite.Facts.h_S_))))

end Cert.ContextValue
-- ==== Proof.StepValue.lean ====
/- The gradient of the state space layer's discretisation. -/
module

public import proofs.«01_k».proof.Proof.Gen.StepIdeal.Value
public import proofs.«01_k».proof.Proof.Gen.StepRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.StepValue.Ref

open Cert.StepRefIdeal Cert.StepRefIdeal.Gen

/-- The eigenvalues' real parts, by direction. -/
def lre (a0 : FVec Ideal S128x128 .f32) : FVec Ideal S2x64x128 .f32 :=
  shapeCast _ a0 shapeCasts_S128x128_S2x64x128

/-- The eigenvalues' imaginary parts, by direction. -/
def lim (a1 : FVec Ideal S128x128 .f32) : FVec Ideal S2x64x128 .f32 :=
  shapeCast _ a1 shapeCasts_S128x128_S2x64x128

/-- The input matrix's real part, by direction. -/
def bre (a3 : FVec Ideal S16x128x128 .f32) : FVec Ideal S16x2x64x128 .f32 :=
  shapeCast _ a3 shapeCasts_S16x128x128_S16x2x64x128

/-- The input matrix's imaginary part, by direction. -/
def bim (a4 : FVec Ideal S16x128x128 .f32) : FVec Ideal S16x2x64x128 .f32 :=
  shapeCast _ a4 shapeCasts_S16x128x128_S16x2x64x128

/-- The step lengths. -/
def dt (a2 : FVec Ideal S2x128 .f32) : FVec Ideal S2x128 .f32 :=
  Host.exp a2

/-- The step length of every state. -/
def dts (a2 : FVec Ideal S2x128 .f32) : FVec Ideal S2x64x128 .f32 :=
  broadcastInDim S2x64x128 ![0, 1, 2] bcast_S2x1x128_S2x64x128_0_1_2 (broadcastInDim S2x1x128 ![0, 2] bcast_S2x128_S2x1x128_0_2 (dt a2))

/-- The modulus of the discrete eigenvalue. -/
def mag (a0 : FVec Ideal S128x128 .f32) (a2 : FVec Ideal S2x128 .f32) : FVec Ideal S2x64x128 .f32 :=
  Host.exp (mulf (lre a0) (dts a2))

/-- The cosine of its angle. -/
def co (a1 : FVec Ideal S128x128 .f32) (a2 : FVec Ideal S2x128 .f32) : FVec Ideal S2x64x128 .f32 :=
  Host.cos (mulf (lim a1) (dts a2))

/-- The sine of its angle. -/
def si (a1 : FVec Ideal S128x128 .f32) (a2 : FVec Ideal S2x128 .f32) : FVec Ideal S2x64x128 .f32 :=
  Host.sin (mulf (lim a1) (dts a2))

/-- Its imaginary part. -/
def qi (a0 a1 : FVec Ideal S128x128 .f32) (a2 : FVec Ideal S2x128 .f32) : FVec Ideal S2x64x128 .f32 :=
  mulf (mag a0 a2) (si a1 a2)

/-- The real part of the discrete eigenvalue minus one. -/
def qr (a0 a1 : FVec Ideal S128x128 .f32) (a2 : FVec Ideal S2x128 .f32) : FVec Ideal S2x64x128 .f32 :=
  subf (mulf (mag a0 a2) (co a1 a2)) (broadcastInDim S2x64x128 ![] bcast_S_S2x64x128 (constant S_ .f32 0x3F800000#32))

/-- The eigenvalue's squared modulus. -/
def den (a0 a1 : FVec Ideal S128x128 .f32) : FVec Ideal S2x64x128 .f32 :=
  addf (mulf (lre a0) (lre a0)) (mulf (lim a1) (lim a1))

/-- The quotient's real numerator. -/
def nr (a0 a1 : FVec Ideal S128x128 .f32) (a2 : FVec Ideal S2x128 .f32) : FVec Ideal S2x64x128 .f32 :=
  addf (mulf (qr a0 a1 a2) (lre a0)) (mulf (qi a0 a1 a2) (lim a1))

/-- The quotient's real part. -/
def fr (a0 a1 : FVec Ideal S128x128 .f32) (a2 : FVec Ideal S2x128 .f32) : FVec Ideal S2x64x128 .f32 :=
  Host.divf (nr a0 a1 a2) (den a0 a1)

/-- One over the squared denominator. -/
def sq (a0 a1 : FVec Ideal S128x128 .f32) : FVec Ideal S2x64x128 .f32 :=
  Host.divf (broadcastInDim S2x64x128 ![] bcast_S_S2x64x128 (constant S_ .f32 0x3F800000#32)) (mulf (den a0 a1) (den a0 a1))

/-- The quotient's imaginary numerator. -/
def ni (a0 a1 : FVec Ideal S128x128 .f32) (a2 : FVec Ideal S2x128 .f32) : FVec Ideal S2x64x128 .f32 :=
  subf (mulf (qi a0 a1 a2) (lre a0)) (mulf (qr a0 a1 a2) (lim a1))

/-- The quotient's imaginary part. -/
def fi (a0 a1 : FVec Ideal S128x128 .f32) (a2 : FVec Ideal S2x128 .f32) : FVec Ideal S2x64x128 .f32 :=
  Host.divf (ni a0 a1 a2) (den a0 a1)

/-- The real part's cotangent, by direction. -/
def dar (a5 : FVec Ideal S128x128 .f32) : FVec Ideal S2x64x128 .f32 :=
  shapeCast _ a5 shapeCasts_S128x128_S2x64x128

/-- The imaginary part's cotangent, by direction. -/
def dai (a6 : FVec Ideal S128x128 .f32) : FVec Ideal S2x64x128 .f32 :=
  shapeCast _ a6 shapeCasts_S128x128_S2x64x128

/-- The real input matrix's cotangent, by direction. -/
def dbr (a7 : FVec Ideal S16x128x128 .f32) : FVec Ideal S16x2x64x128 .f32 :=
  shapeCast _ a7 shapeCasts_S16x128x128_S16x2x64x128

/-- The imaginary input matrix's cotangent, by direction. -/
def dbi (a8 : FVec Ideal S16x128x128 .f32) : FVec Ideal S16x2x64x128 .f32 :=
  shapeCast _ a8 shapeCasts_S16x128x128_S16x2x64x128

/-- The gradient of the imaginary input matrix, by direction. -/
def gbi (a0 a1 : FVec Ideal S128x128 .f32) (a2 : FVec Ideal S2x128 .f32) (a7 a8 : FVec Ideal S16x128x128 .f32) : FVec Ideal S16x2x64x128 .f32 :=
  addf (mulf (broadcastInDim S16x2x64x128 ![0, 1, 2, 3] bcast_S1x2x64x128_S16x2x64x128_0_1_2_3 (broadcastInDim S1x2x64x128 ![1, 2, 3] bcast_S2x64x128_S1x2x64x128_1_2_3 (fr a0 a1 a2))) (dbi a8)) (mulf (broadcastInDim S16x2x64x128 ![0, 1, 2, 3] bcast_S1x2x64x128_S16x2x64x128_0_1_2_3 (broadcastInDim S1x2x64x128 ![1, 2, 3] bcast_S2x64x128_S1x2x64x128_1_2_3 (fi a0 a1 a2))) (Host.negf (dbr a7)))

/-- The cotangent of the quotient's imaginary part. -/
def dfi (a3 a4 a7 a8 : FVec Ideal S16x128x128 .f32) : FVec Ideal S2x64x128 .f32 :=
  addf (Host.reduceAdd (shapeCast _ (Host.reduceAdd (mulf (dbi a8) (bre a3)) (constant S_ .f32 0x00000000#32) reducesTo_S16x2x64x128_S2x64x128_d0 h_S_) shapeCasts_S2x64x128_S1x2x64x128) (constant S_ .f32 0x00000000#32) reducesTo_S1x2x64x128_S2x64x128_d0 h_S_) (Host.reduceAdd (shapeCast _ (Host.reduceAdd (mulf (Host.negf (dbr a7)) (bim a4)) (constant S_ .f32 0x00000000#32) reducesTo_S16x2x64x128_S2x64x128_d0 h_S_) shapeCasts_S2x64x128_S1x2x64x128) (constant S_ .f32 0x00000000#32) reducesTo_S1x2x64x128_S2x64x128_d0 h_S_)

/-- The gradient of the real input matrix, by direction. -/
def gbr (a0 a1 : FVec Ideal S128x128 .f32) (a2 : FVec Ideal S2x128 .f32) (a7 a8 : FVec Ideal S16x128x128 .f32) : FVec Ideal S16x2x64x128 .f32 :=
  addf (mulf (broadcastInDim S16x2x64x128 ![0, 1, 2, 3] bcast_S1x2x64x128_S16x2x64x128_0_1_2_3 (broadcastInDim S1x2x64x128 ![1, 2, 3] bcast_S2x64x128_S1x2x64x128_1_2_3 (fi a0 a1 a2))) (dbi a8)) (mulf (broadcastInDim S16x2x64x128 ![0, 1, 2, 3] bcast_S1x2x64x128_S16x2x64x128_0_1_2_3 (broadcastInDim S1x2x64x128 ![1, 2, 3] bcast_S2x64x128_S1x2x64x128_1_2_3 (fr a0 a1 a2))) (dbr a7))

/-- The cotangent of the quotient's real part. -/
def dfr (a3 a4 a7 a8 : FVec Ideal S16x128x128 .f32) : FVec Ideal S2x64x128 .f32 :=
  addf (Host.reduceAdd (shapeCast _ (Host.reduceAdd (mulf (dbi a8) (bim a4)) (constant S_ .f32 0x00000000#32) reducesTo_S16x2x64x128_S2x64x128_d0 h_S_) shapeCasts_S2x64x128_S1x2x64x128) (constant S_ .f32 0x00000000#32) reducesTo_S1x2x64x128_S2x64x128_d0 h_S_) (Host.reduceAdd (shapeCast _ (Host.reduceAdd (mulf (dbr a7) (bre a3)) (constant S_ .f32 0x00000000#32) reducesTo_S16x2x64x128_S2x64x128_d0 h_S_) shapeCasts_S2x64x128_S1x2x64x128) (constant S_ .f32 0x00000000#32) reducesTo_S1x2x64x128_S2x64x128_d0 h_S_)

/-- That of the imaginary numerator. -/
def ei (a0 a1 : FVec Ideal S128x128 .f32) (a3 a4 a7 a8 : FVec Ideal S16x128x128 .f32) : FVec Ideal S2x64x128 .f32 :=
  Host.divf (dfi a3 a4 a7 a8) (den a0 a1)

/-- That of the denominator. -/
def u (a0 a1 : FVec Ideal S128x128 .f32) (a2 : FVec Ideal S2x128 .f32) (a3 a4 a7 a8 : FVec Ideal S16x128x128 .f32) : FVec Ideal S2x64x128 .f32 :=
  addf (Host.negf (mulf (mulf (dfi a3 a4 a7 a8) (sq a0 a1)) (ni a0 a1 a2))) (Host.negf (mulf (mulf (dfr a3 a4 a7 a8) (sq a0 a1)) (nr a0 a1 a2)))

/-- That of the real numerator. -/
def er (a0 a1 : FVec Ideal S128x128 .f32) (a3 a4 a7 a8 : FVec Ideal S16x128x128 .f32) : FVec Ideal S2x64x128 .f32 :=
  Host.divf (dfr a3 a4 a7 a8) (den a0 a1)

/-- That of its imaginary part. -/
def db (a0 a1 : FVec Ideal S128x128 .f32) (a3 a4 : FVec Ideal S16x128x128 .f32) (a6 : FVec Ideal S128x128 .f32) (a7 a8 : FVec Ideal S16x128x128 .f32) : FVec Ideal S2x64x128 .f32 :=
  addf (addf (dai a6) (mulf (ei a0 a1 a3 a4 a7 a8) (lre a0))) (mulf (er a0 a1 a3 a4 a7 a8) (lim a1))

/-- That of the discrete eigenvalue's real part. -/
def da (a0 a1 : FVec Ideal S128x128 .f32) (a3 a4 : FVec Ideal S16x128x128 .f32) (a5 : FVec Ideal S128x128 .f32) (a7 a8 : FVec Ideal S16x128x128 .f32) : FVec Ideal S2x64x128 .f32 :=
  addf (addf (dar a5) (mulf (Host.negf (ei a0 a1 a3 a4 a7 a8)) (lim a1))) (mulf (er a0 a1 a3 a4 a7 a8) (lre a0))

/-- What reaches the eigenvalue's imaginary part through the quotient. -/
def pim (a0 a1 : FVec Ideal S128x128 .f32) (a2 : FVec Ideal S2x128 .f32) (a3 a4 a7 a8 : FVec Ideal S16x128x128 .f32) : FVec Ideal S2x64x128 .f32 :=
  addf (addf (addf (mulf (qr a0 a1 a2) (Host.negf (ei a0 a1 a3 a4 a7 a8))) (mulf (qi a0 a1 a2) (er a0 a1 a3 a4 a7 a8))) (mulf (lim a1) (u a0 a1 a2 a3 a4 a7 a8))) (mulf (u a0 a1 a2 a3 a4 a7 a8) (lim a1))

/-- What reaches the eigenvalue's real part through the quotient. -/
def pre (a0 a1 : FVec Ideal S128x128 .f32) (a2 : FVec Ideal S2x128 .f32) (a3 a4 a7 a8 : FVec Ideal S16x128x128 .f32) : FVec Ideal S2x64x128 .f32 :=
  addf (addf (addf (mulf (qi a0 a1 a2) (ei a0 a1 a3 a4 a7 a8)) (mulf (qr a0 a1 a2) (er a0 a1 a3 a4 a7 a8))) (mulf (lre a0) (u a0 a1 a2 a3 a4 a7 a8))) (mulf (u a0 a1 a2 a3 a4 a7 a8) (lre a0))

/-- The angle's cotangent through the sine. -/
def t1 (a0 a1 : FVec Ideal S128x128 .f32) (a2 : FVec Ideal S2x128 .f32) (a3 a4 : FVec Ideal S16x128x128 .f32) (a6 : FVec Ideal S128x128 .f32) (a7 a8 : FVec Ideal S16x128x128 .f32) : FVec Ideal S2x64x128 .f32 :=
  mulf (mulf (mag a0 a2) (db a0 a1 a3 a4 a6 a7 a8)) (co a1 a2)

/-- The angle's cotangent through the cosine. -/
def t2 (a0 a1 : FVec Ideal S128x128 .f32) (a2 : FVec Ideal S2x128 .f32) (a3 a4 : FVec Ideal S16x128x128 .f32) (a5 : FVec Ideal S128x128 .f32) (a7 a8 : FVec Ideal S16x128x128 .f32) : FVec Ideal S2x64x128 .f32 :=
  mulf (Host.negf (mulf (mag a0 a2) (da a0 a1 a3 a4 a5 a7 a8))) (si a1 a2)

/-- The gradient of the imaginary parts, by direction. -/
def gim (a0 a1 : FVec Ideal S128x128 .f32) (a2 : FVec Ideal S2x128 .f32) (a3 a4 : FVec Ideal S16x128x128 .f32) (a5 a6 : FVec Ideal S128x128 .f32) (a7 a8 : FVec Ideal S16x128x128 .f32) : FVec Ideal S2x64x128 .f32 :=
  addf (addf (pim a0 a1 a2 a3 a4 a7 a8) (mulf (t1 a0 a1 a2 a3 a4 a6 a7 a8) (dts a2))) (mulf (t2 a0 a1 a2 a3 a4 a5 a7 a8) (dts a2))

/-- The cotangent of the modulus' exponent. -/
def t3 (a0 a1 : FVec Ideal S128x128 .f32) (a2 : FVec Ideal S2x128 .f32) (a3 a4 : FVec Ideal S16x128x128 .f32) (a5 a6 : FVec Ideal S128x128 .f32) (a7 a8 : FVec Ideal S16x128x128 .f32) : FVec Ideal S2x64x128 .f32 :=
  mulf (addf (mulf (db a0 a1 a3 a4 a6 a7 a8) (si a1 a2)) (mulf (da a0 a1 a3 a4 a5 a7 a8) (co a1 a2))) (mag a0 a2)

/-- The gradient of the real parts, by direction. -/
def gre (a0 a1 : FVec Ideal S128x128 .f32) (a2 : FVec Ideal S2x128 .f32) (a3 a4 : FVec Ideal S16x128x128 .f32) (a5 a6 : FVec Ideal S128x128 .f32) (a7 a8 : FVec Ideal S16x128x128 .f32) : FVec Ideal S2x64x128 .f32 :=
  addf (pre a0 a1 a2 a3 a4 a7 a8) (mulf (t3 a0 a1 a2 a3 a4 a5 a6 a7 a8) (dts a2))

/-- The gradient of the logarithms of the step lengths. -/
def refLs (a0 a1 : FVec Ideal S128x128 .f32) (a2 : FVec Ideal S2x128 .f32) (a3 a4 : FVec Ideal S16x128x128 .f32) (a5 a6 : FVec Ideal S128x128 .f32) (a7 a8 : FVec Ideal S16x128x128 .f32) : FVec Ideal S2x128 .f32 :=
  mulf (Host.reduceAdd (addf (addf (shapeCast _ (Host.reduceAdd (mulf (lim a1) (t1 a0 a1 a2 a3 a4 a6 a7 a8)) (constant S_ .f32 0x00000000#32) reducesTo_S2x64x128_S2x128_d1 h_S_) shapeCasts_S2x128_S2x1x128) (shapeCast _ (Host.reduceAdd (mulf (lim a1) (t2 a0 a1 a2 a3 a4 a5 a7 a8)) (constant S_ .f32 0x00000000#32) reducesTo_S2x64x128_S2x128_d1 h_S_) shapeCasts_S2x128_S2x1x128)) (shapeCast _ (Host.reduceAdd (mulf (lre a0) (t3 a0 a1 a2 a3 a4 a5 a6 a7 a8)) (constant S_ .f32 0x00000000#32) reducesTo_S2x64x128_S2x128_d1 h_S_) shapeCasts_S2x128_S2x1x128)) (constant S_ .f32 0x00000000#32) reducesTo_S2x1x128_S2x128_d1 h_S_) (dt a2)

/-- The gradient of the eigenvalues' real parts. -/
def refRe (a0 a1 : FVec Ideal S128x128 .f32) (a2 : FVec Ideal S2x128 .f32) (a3 a4 : FVec Ideal S16x128x128 .f32) (a5 a6 : FVec Ideal S128x128 .f32) (a7 a8 : FVec Ideal S16x128x128 .f32) : FVec Ideal S128x128 .f32 :=
  shapeCast _ (gre a0 a1 a2 a3 a4 a5 a6 a7 a8) shapeCasts_S2x64x128_S128x128

/-- The gradient of the eigenvalues' imaginary parts. -/
def refIm (a0 a1 : FVec Ideal S128x128 .f32) (a2 : FVec Ideal S2x128 .f32) (a3 a4 : FVec Ideal S16x128x128 .f32) (a5 a6 : FVec Ideal S128x128 .f32) (a7 a8 : FVec Ideal S16x128x128 .f32) : FVec Ideal S128x128 .f32 :=
  shapeCast _ (gim a0 a1 a2 a3 a4 a5 a6 a7 a8) shapeCasts_S2x64x128_S128x128

/-- The gradient of the real input matrix. -/
def refBr (a0 a1 : FVec Ideal S128x128 .f32) (a2 : FVec Ideal S2x128 .f32) (a7 a8 : FVec Ideal S16x128x128 .f32) : FVec Ideal S16x128x128 .f32 :=
  shapeCast _ (gbr a0 a1 a2 a7 a8) shapeCasts_S16x2x64x128_S16x128x128

/-- The gradient of the imaginary input matrix. -/
def refBi (a0 a1 : FVec Ideal S128x128 .f32) (a2 : FVec Ideal S2x128 .f32) (a7 a8 : FVec Ideal S16x128x128 .f32) : FVec Ideal S16x128x128 .f32 :=
  shapeCast _ (gbi a0 a1 a2 a7 a8) shapeCasts_S16x2x64x128_S16x128x128

/- The arrays the reference's run leaves are those named above. -/

section
variable (m : (ℓ : Loc Cert.StepRefIdeal.nD Cert.StepRefIdeal.τ Cert.StepRefIdeal.sig) → Buf (Elt Ideal) ℓ) (c : Dev nD)

theorem eqRe : Cert.StepRefIdeal.Value.res_main_v148 m c = refRe (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := rfl
theorem eqIm : Cert.StepRefIdeal.Value.res_main_v149 m c = refIm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := rfl
theorem eqLs : Cert.StepRefIdeal.Value.res_main_v147 m c = refLs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := rfl
theorem eqBr : Cert.StepRefIdeal.Value.res_main_v150 m c = refBr (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) := rfl
theorem eqBi : Cert.StepRefIdeal.Value.res_main_v151 m c = refBi (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) := rfl
end

end Cert.StepValue.Ref

namespace Cert.StepValue

open Cert.StepIdeal Cert.StepIdeal.Gen Cert.StepIdeal.Value

/-- An array of eigenvalues. -/
abbrev M : Type := FVec Ideal S128x128 .f32
/-- One of step lengths. -/
abbrev L : Type := FVec Ideal S2x128 .f32
/-- One of input matrices. -/
abbrev B : Type := FVec Ideal S16x128x128 .f32

variable (a0 a1 : M) (a2 : L) (a3 a4 : B) (a5 a6 : M) (a7 a8 : B)

/-- The row of state `k` of direction `r`. -/
def row (r : Fin 2) (k : Fin 64) : Fin 128 := ⟨r.1 * 64 + k.1, by omega⟩

variable (h : Fin 16) (r : Fin 2) (k : Fin 64) (q : Fin 128)

/- At a state, each of the reference's arrays is one of the kernel's. -/

theorem lre_at : (Ref.lre a0 (ix3 r k q) : EReal) = a0 (ix2 (row r k) q) := by
  pointwise [Ref.lre]
  rfl

theorem lim_at : (Ref.lim a1 (ix3 r k q) : EReal) = a1 (ix2 (row r k) q) := by
  pointwise [Ref.lim]
  rfl

theorem dar_at : (Ref.dar a5 (ix3 r k q) : EReal) = a5 (ix2 (row r k) q) := by
  pointwise [Ref.dar]
  rfl

theorem dai_at : (Ref.dai a6 (ix3 r k q) : EReal) = a6 (ix2 (row r k) q) := by
  pointwise [Ref.dai]
  rfl

theorem bre_at : (Ref.bre a3 (ix4 h r k q) : EReal) = a3 (ix3 h (row r k) q) := by
  pointwise [Ref.bre]
  rfl

theorem bim_at : (Ref.bim a4 (ix4 h r k q) : EReal) = a4 (ix3 h (row r k) q) := by
  pointwise [Ref.bim]
  rfl

theorem dbr_at : (Ref.dbr a7 (ix4 h r k q) : EReal) = a7 (ix3 h (row r k) q) := by
  pointwise [Ref.dbr]
  rfl

theorem dbi_at : (Ref.dbi a8 (ix4 h r k q) : EReal) = a8 (ix3 h (row r k) q) := by
  pointwise [Ref.dbi]
  rfl

theorem dts_at : (Ref.dts a2 (ix3 r k q) : EReal) = k0_pay2 a2 (ix2 (row r k) q) := by
  pointwise [Ref.dts, Ref.dt, k0_pay2]
  match r with
  | 0 => rw [dif_pos (show (row 0 k).1 < 64 by have := k.2; simp [row])]
  | 1 => rw [dif_neg (show ¬ (row 1 k).1 < 64 by simp [row])]

theorem mag_at : (Ref.mag a0 a2 (ix3 r k q) : EReal) = k0_pay3 a0 a2 (ix2 (row r k) q) := by
  pointwise [Ref.mag, k0_pay3]
  simp only [lre_at, dts_at]

theorem co5_at : (Ref.co a1 a2 (ix3 r k q) : EReal) = k0_pay5 a1 a2 (ix2 (row r k) q) := by
  pointwise [Ref.co, k0_pay5, k0_pay4]
  simp only [lim_at, dts_at]

theorem co9_at : (Ref.co a1 a2 (ix3 r k q) : EReal) = k0_pay9 a1 a2 (ix2 (row r k) q) := by
  pointwise [Ref.co, k0_pay9, k0_pay7]
  simp only [lim_at, dts_at]

theorem si8_at : (Ref.si a1 a2 (ix3 r k q) : EReal) = k0_pay8 a1 a2 (ix2 (row r k) q) := by
  pointwise [Ref.si, k0_pay8, k0_pay7]
  simp only [lim_at, dts_at]

theorem si6_at : (Ref.si a1 a2 (ix3 r k q) : EReal) = k0_pay6 a1 a2 (ix2 (row r k) q) := by
  pointwise [Ref.si, k0_pay6, k0_pay4]
  simp only [lim_at, dts_at]

theorem qi_at : (Ref.qi a0 a1 a2 (ix3 r k q) : EReal) = k0_pay10 a0 a1 a2 (ix2 (row r k) q) := by
  pointwise [Ref.qi, k0_pay10]
  simp only [mag_at, si8_at]

theorem qr_at : (Ref.qr a0 a1 a2 (ix3 r k q) : EReal) = k0_pay11 a0 a1 a2 (ix2 (row r k) q) := by
  pointwise [Ref.qr, k0_pay11]
  simp only [mag_at, co5_at]

theorem den_at : (Ref.den a0 a1 (ix3 r k q) : EReal) = k0_pay12 a0 a1 (ix2 (row r k) q) := by
  pointwise [Ref.den, k0_pay12]
  simp only [lre_at, lim_at]

theorem nr_at : (Ref.nr a0 a1 a2 (ix3 r k q) : EReal) = k0_pay13 a0 a1 a2 (ix2 (row r k) q) := by
  pointwise [Ref.nr, k0_pay13]
  simp only [qr_at, qi_at, lre_at, lim_at]

theorem fr_at : (Ref.fr a0 a1 a2 (ix3 r k q) : EReal) = k0_pay14 a0 a1 a2 (ix2 (row r k) q) := by
  pointwise [Ref.fr, k0_pay14]
  simp only [nr_at, den_at]

theorem sq15_at : (Ref.sq a0 a1 (ix3 r k q) : EReal) = k0_pay15 a0 a1 (ix2 (row r k) q) := by
  pointwise [Ref.sq, k0_pay15]
  simp only [den_at]

theorem sq18_at : (Ref.sq a0 a1 (ix3 r k q) : EReal) = k0_pay18 a0 a1 (ix2 (row r k) q) := by
  pointwise [Ref.sq, k0_pay18]
  simp only [den_at]

theorem ni_at : (Ref.ni a0 a1 a2 (ix3 r k q) : EReal) = k0_pay16 a0 a1 a2 (ix2 (row r k) q) := by
  pointwise [Ref.ni, k0_pay16]
  simp only [qr_at, qi_at, lre_at, lim_at]

theorem fi_at : (Ref.fi a0 a1 a2 (ix3 r k q) : EReal) = k0_pay17 a0 a1 a2 (ix2 (row r k) q) := by
  pointwise [Ref.fi, k0_pay17]
  simp only [ni_at, den_at]

theorem pay25_at (p : Fin 128) : (k0_pay25 (F := Ideal) a8 (ix3 h p q) : EReal) = -a8 (ix3 h p q) := by
  pointwise [k0_pay25]
  exact zero_sub _

theorem pay24_at (p : Fin 128) : (k0_pay24 (F := Ideal) a8 (ix3 h p q) : EReal) = a8 (ix3 h p q) := by
  pointwise [k0_pay24]

theorem pay23_at (p : Fin 128) : (k0_pay23 (F := Ideal) a8 (ix3 h p q) : EReal) = a8 (ix3 h p q) := by
  pointwise [k0_pay23]

theorem pay22_at (p : Fin 128) : (k0_pay22 (F := Ideal) a8 (ix3 h p q) : EReal) = a8 (ix3 h p q) := by
  pointwise [k0_pay22]

theorem dfi_at : (Ref.dfi a3 a4 a7 a8 (ix3 r k q) : EReal) = k0_pay27 a3 a4 a7 a8 (ix2 (row r k) q) := by
  pointwise [Ref.dfi, k0_pay27]
  simp only [dbi_at, dbr_at, bre_at, bim_at, pay23_at, pay25_at]

theorem dfr_at : (Ref.dfr a3 a4 a7 a8 (ix3 r k q) : EReal) = k0_pay29 a3 a4 a7 a8 (ix2 (row r k) q) := by
  pointwise [Ref.dfr, k0_pay29]
  simp only [dbi_at, dbr_at, bre_at, bim_at, pay22_at, pay24_at]

theorem ei_at : (Ref.ei a0 a1 a3 a4 a7 a8 (ix3 r k q) : EReal) = k0_pay31 (k0_pay12 a0 a1) (k0_pay27 a3 a4 a7 a8) (ix2 (row r k) q) := by
  pointwise [Ref.ei, k0_pay31]
  simp only [dfi_at, den_at]

theorem er_at : (Ref.er a0 a1 a3 a4 a7 a8 (ix3 r k q) : EReal) = k0_pay34 (k0_pay12 a0 a1) (k0_pay29 a3 a4 a7 a8) (ix2 (row r k) q) := by
  pointwise [Ref.er, k0_pay34]
  simp only [dfr_at, den_at]

theorem nei_at : (-Ref.ei a0 a1 a3 a4 a7 a8 (ix3 r k q) : EReal) = k0_pay32 (k0_pay12 a0 a1) (k0_pay27 a3 a4 a7 a8) (ix2 (row r k) q) := by
  pointwise [k0_pay32]
  simp only [ei_at, zero_sub]

theorem u_at : (Ref.u a0 a1 a2 a3 a4 a7 a8 (ix3 r k q) : EReal) = k0_pay33 (k0_pay13 a0 a1 a2) (k0_pay15 a0 a1) (k0_pay29 a3 a4 a7 a8) (k0_pay30 a3 a4 (k0_pay16 a0 a1 a2) (k0_pay18 a0 a1) a7 a8) (0 : Ideal .f32) (ix2 (row r k) q) := by
  pointwise [Ref.u, k0_pay33, k0_pay30]
  simp only [dfi_at, dfr_at, ni_at, nr_at, sq15_at, zero_sub]
  rfl

theorem db_at : (Ref.db a0 a1 a3 a4 a6 a7 a8 (ix3 r k q) : EReal) = k0_pay35 a0 a1 (k0_pay12 a0 a1) a6 (k0_pay27 a3 a4 a7 a8) (k0_pay29 a3 a4 a7 a8) (ix2 (row r k) q) := by
  pointwise [Ref.db, k0_pay35]
  simp only [dai_at, ei_at, er_at, lre_at, lim_at]

theorem da_at : (Ref.da a0 a1 a3 a4 a5 a7 a8 (ix3 r k q) : EReal) = k0_pay36 a0 a1 (k0_pay12 a0 a1) a5 (k0_pay27 a3 a4 a7 a8) (k0_pay29 a3 a4 a7 a8) (ix2 (row r k) q) := by
  pointwise [Ref.da, k0_pay36]
  simp only [dar_at, nei_at, er_at, lre_at, lim_at]

theorem t1_at : (Ref.t1 a0 a1 a2 a3 a4 a6 a7 a8 (ix3 r k q) : EReal) = k0_pay37 a0 a1 (k0_pay3 a0 a2) (k0_pay9 a1 a2) (k0_pay12 a0 a1) a6 (k0_pay27 a3 a4 a7 a8) (k0_pay29 a3 a4 a7 a8) (ix2 (row r k) q) := by
  pointwise [Ref.t1, k0_pay37]
  simp only [db_at, mag_at, co9_at]

theorem t2_at : (Ref.t2 a0 a1 a2 a3 a4 a5 a7 a8 (ix3 r k q) : EReal) = k0_pay38 a0 a1 (k0_pay3 a0 a2) (k0_pay6 a1 a2) (k0_pay12 a0 a1) a5 (k0_pay27 a3 a4 a7 a8) (k0_pay29 a3 a4 a7 a8) (ix2 (row r k) q) := by
  pointwise [Ref.t2, k0_pay38]
  simp only [da_at, mag_at, si6_at, zero_sub]

theorem t3_at : (Ref.t3 a0 a1 a2 a3 a4 a5 a6 a7 a8 (ix3 r k q) : EReal) = k0_pay40 a0 a1 (k0_pay3 a0 a2) (k0_pay5 a1 a2) (k0_pay8 a1 a2) (k0_pay12 a0 a1) a5 a6 (k0_pay27 a3 a4 a7 a8) (k0_pay29 a3 a4 a7 a8) (ix2 (row r k) q) := by
  pointwise [Ref.t3, k0_pay40]
  simp only [da_at, db_at, mag_at, si8_at, co5_at]

theorem gim_at : (Ref.gim a0 a1 a2 a3 a4 a5 a6 a7 a8 (ix3 r k q) : EReal) = k0_pay39 a0 a1 (k0_pay2 a2) (k0_pay3 a0 a2) (k0_pay6 a1 a2) (k0_pay9 a1 a2) (k0_pay10 a0 a1 a2) (k0_pay11 a0 a1 a2) (k0_pay12 a0 a1) (k0_pay13 a0 a1 a2) (k0_pay15 a0 a1) a5 a6 (k0_pay27 a3 a4 a7 a8) (k0_pay29 a3 a4 a7 a8) (k0_pay30 a3 a4 (k0_pay16 a0 a1 a2) (k0_pay18 a0 a1) a7 a8) (Scalar.ofBits .f32 0x00000000#32) (ix2 (row r k) q) := by
  pointwise [Ref.gim, k0_pay39, Ref.pim]
  simp only [qr_at, qi_at, nei_at, er_at, u_at, lim_at, t1_at, t2_at, dts_at]

theorem gre_at : (Ref.gre a0 a1 a2 a3 a4 a5 a6 a7 a8 (ix3 r k q) : EReal) = k0_pay41 a0 a1 (k0_pay2 a2) (k0_pay3 a0 a2) (k0_pay5 a1 a2) (k0_pay8 a1 a2) (k0_pay10 a0 a1 a2) (k0_pay11 a0 a1 a2) (k0_pay12 a0 a1) (k0_pay13 a0 a1 a2) (k0_pay15 a0 a1) a5 a6 (k0_pay27 a3 a4 a7 a8) (k0_pay29 a3 a4 a7 a8) (k0_pay30 a3 a4 (k0_pay16 a0 a1 a2) (k0_pay18 a0 a1) a7 a8) (Scalar.ofBits .f32 0x00000000#32) (ix2 (row r k) q) := by
  pointwise [Ref.gre, k0_pay41, Ref.pre]
  simp only [qr_at, qi_at, ei_at, er_at, u_at, lre_at, t3_at, dts_at]

theorem row_div : (⟨(row r k).1 / 64, by have := (row r k).2; omega⟩ : Fin 2) = r := by
  apply Fin.ext; simp only [row]; omega

theorem row_mod : (⟨(row r k).1 % 64, by omega⟩ : Fin 64) = k := by
  apply Fin.ext; simp only [row]; omega

theorem row_cover (p : Fin 128) : ∃ r k, p = row r k :=
  ⟨⟨p.1 / 64, by omega⟩, ⟨p.1 % 64, by omega⟩, by apply Fin.ext; simp only [row]; omega⟩

/- What reaches the logarithm of a step length is a sum over the states of its direction. The kernel multiplies each of its
   terms by the step length `d`, the reference the sum: the two agree for a finite `d`, which is not negative. For `d = ⊤`
   each term is zero or infinite, for a state's angle and exponent are then zero or infinite, and `⊤` leaves such a term. -/

/-- Zero or infinite: what multiplying by `⊤` leaves as it is. -/
def Big (z : EReal) : Prop := z * ⊤ = z

theorem big_zero : Big 0 := zero_mul _

theorem big_top : Big ⊤ := EReal.top_mul_top

theorem big_bot : Big ⊥ := EReal.bot_mul_top

theorem big_mul {w z : EReal} (hz : Big z) : Big (w * z) := by
  unfold Big at *; rw [mul_assoc, hz]

theorem big_cases {z : EReal} (hz : Big z) : z = 0 ∨ z = ⊤ ∨ z = ⊥ := by
  rcases lt_trichotomy z 0 with h | h | h
  · exact .inr (.inr (by rw [← hz, EReal.mul_top_of_neg h]))
  · exact .inl h
  · exact .inr (.inl (by rw [← hz, EReal.mul_top_of_pos h]))

theorem big_add {w z : EReal} (hw : Big w) (hz : Big z) : Big (w + z) := by
  rcases big_cases hw with rfl | rfl | rfl
  · rwa [zero_add]
  · rcases big_cases hz with rfl | rfl | rfl
    · rwa [add_zero]
    · exact big_top
    · exact big_bot
  · rw [EReal.bot_add]; exact big_bot

theorem big_sum {n : Nat} (f : Fin n → EReal) (hf : ∀ k, Big (f k)) : Big (∑ k, f k) :=
  Finset.sum_induction f Big (fun _ _ => big_add) big_zero fun k _ => hf k

theorem mul_top_cases (y : EReal) : y = 0 ∨ y * ⊤ = ⊤ ∨ y * ⊤ = ⊥ := by
  rcases lt_trichotomy y 0 with h | h | h
  · exact .inr (.inr (EReal.mul_top_of_neg h))
  · exact .inl h
  · exact .inr (.inl (EReal.mul_top_of_pos h))

theorem big_cos (y w : EReal) : Big (y * (w * Ideal.cos (y * ⊤))) := by
  rcases mul_top_cases y with h | h | h
  · rw [h, zero_mul]; exact big_zero
  · rw [h]; exact big_mul (big_mul big_bot)
  · rw [h]; exact big_mul (big_mul big_bot)

theorem big_sin (y w : EReal) : Big (y * (w * Ideal.sin (y * ⊤))) := by
  rcases mul_top_cases y with h | h | h
  · rw [h, zero_mul]; exact big_zero
  · rw [h]; exact big_mul (big_mul big_bot)
  · rw [h]; exact big_mul (big_mul big_bot)

theorem big_exp (x w : EReal) : Big (x * (w * Ideal.exp (x * ⊤))) := by
  rcases mul_top_cases x with h | h | h
  · rw [h, zero_mul]; exact big_zero
  · rw [h]; exact big_mul (big_mul big_top)
  · rw [h]; exact big_mul (big_mul big_zero)

theorem exp_nonneg (l : EReal) : 0 ≤ Ideal.exp l := by
  induction l using EReal.rec with
  | bot => exact le_refl _
  | coe l => exact EReal.coe_nonneg.2 (Real.exp_pos l).le
  | top => exact le_top

/-- The sum of the terms times `d`. -/
theorem sum_mul {n : Nat} (f : Fin n → EReal) (d : EReal) (h0 : 0 ≤ d) (hf : d = ⊤ → ∀ k, Big (f k)) :
    (∑ k, f k) * d = ∑ k, f k * d := by
  by_cases hd : d = ⊤
  · subst hd
    rw [show (∑ k, f k) * ⊤ = ∑ k, f k from big_sum f (hf rfl)]
    exact Finset.sum_congr rfl fun k _ => (hf rfl k).symm
  · exact map_sum (⟨⟨fun z => z * d, zero_mul d⟩, fun a b => EReal.right_distrib_of_nonneg_of_ne_top h0 hd a b⟩ : EReal →+ EReal) f Finset.univ

theorem dt_at : (k0_pay2 (F := Ideal) a2 (ix2 (row r k) q) : EReal) = Ideal.exp (a2 (ix2 r q)) := by
  rw [← dts_at]
  pointwise [Ref.dts, Ref.dt]

/-- The reference's terms of state `k`. -/
def term (k : Fin 64) : EReal :=
  Ref.lim a1 (ix3 r k q) * Ref.t1 a0 a1 a2 a3 a4 a6 a7 a8 (ix3 r k q) + Ref.lim a1 (ix3 r k q) * Ref.t2 a0 a1 a2 a3 a4 a5 a7 a8 (ix3 r k q)
    + Ref.lre a0 (ix3 r k q) * Ref.t3 a0 a1 a2 a3 a4 a5 a6 a7 a8 (ix3 r k q)

theorem term_big (hd : Ideal.exp (a2 (ix2 r q)) = ⊤) : Big (term a0 a1 a2 a3 a4 a5 a6 a7 a8 r q k) := by
  have hs : (Ref.dts a2 (ix3 r k q) : EReal) = ⊤ := by rw [dts_at, dt_at, hd]
  have hm : (Ref.mag a0 a2 (ix3 r k q) : EReal) = Ideal.exp (Ref.lre a0 (ix3 r k q) * ⊤) := by
    rw [← hs]; pointwise [Ref.mag]
  have hc : (Ref.co a1 a2 (ix3 r k q) : EReal) = Ideal.cos (Ref.lim a1 (ix3 r k q) * ⊤) := by
    rw [← hs]; pointwise [Ref.co]
  have hn : (Ref.si a1 a2 (ix3 r k q) : EReal) = Ideal.sin (Ref.lim a1 (ix3 r k q) * ⊤) := by
    rw [← hs]; pointwise [Ref.si]
  refine big_add (big_add ?_ ?_) ?_
  · have h : (Ref.t1 a0 a1 a2 a3 a4 a6 a7 a8 (ix3 r k q) : EReal)
        = Ref.mag a0 a2 (ix3 r k q) * Ref.db a0 a1 a3 a4 a6 a7 a8 (ix3 r k q) * Ref.co a1 a2 (ix3 r k q) := by
      pointwise [Ref.t1]
    rw [h, hc]; exact big_cos _ _
  · have h : (Ref.t2 a0 a1 a2 a3 a4 a5 a7 a8 (ix3 r k q) : EReal)
        = -(Ref.mag a0 a2 (ix3 r k q) * Ref.da a0 a1 a3 a4 a5 a7 a8 (ix3 r k q)) * Ref.si a1 a2 (ix3 r k q) := by
      pointwise [Ref.t2]
    rw [h, hn]; exact big_sin _ _
  · have h : (Ref.t3 a0 a1 a2 a3 a4 a5 a6 a7 a8 (ix3 r k q) : EReal)
        = (Ref.db a0 a1 a3 a4 a6 a7 a8 (ix3 r k q) * Ref.si a1 a2 (ix3 r k q) + Ref.da a0 a1 a3 a4 a5 a7 a8 (ix3 r k q) * Ref.co a1 a2 (ix3 r k q))
          * Ref.mag a0 a2 (ix3 r k q) := by
      pointwise [Ref.t3]
    rw [h, hm]; exact big_exp _ _

theorem refLs_at : (Ref.refLs a0 a1 a2 a3 a4 a5 a6 a7 a8 (ix2 r q) : EReal)
    = ∑ k, term a0 a1 a2 a3 a4 a5 a6 a7 a8 r q k * Ideal.exp (a2 (ix2 r q)) := by
  rw [← sum_mul _ _ (exp_nonneg _) fun hd k => term_big a0 a1 a2 a3 a4 a5 a6 a7 a8 r k q hd]
  pointwise [Ref.refLs, Ref.dt]
  rw [Fin.sum_univ_one]
  simp only [term, Finset.sum_add_distrib]

/-- The kernel's terms of a row. -/
abbrev terms : M :=
  k0_pay42 a0 a1 (k0_pay2 a2) (k0_pay3 a0 a2) (k0_pay5 a1 a2) (k0_pay6 a1 a2) (k0_pay8 a1 a2) (k0_pay9 a1 a2) (k0_pay12 a0 a1) a5 a6 (k0_pay27 a3 a4 a7 a8) (k0_pay29 a3 a4 a7 a8)

theorem terms_at : (terms a0 a1 a2 a3 a4 a5 a6 a7 a8 (ix2 (row r k) q) : EReal)
    = term a0 a1 a2 a3 a4 a5 a6 a7 a8 r q k * Ideal.exp (a2 (ix2 r q)) := by
  unfold terms
  pointwise [k0_pay42]
  simp only [term, lim_at, lre_at, t1_at, t2_at, t3_at, dt_at]

section
variable (a0 a1 : Vec Ideal S128x128 .f32) (a2 : Vec Ideal S2x128 .f32) (a3 a4 : Vec Ideal S16x128x128 .f32)
  (a5 a6 : Vec Ideal S128x128 .f32) (a7 a8 : Vec Ideal S16x128x128 .f32)

theorem p45 : k0_pay45 (F := Ideal) a0 a1 a2 a3 a4 a5 a6 a7 a8 = k0_pay2 a2 := by
  unfold k0_pay45
  rw [View.ld_unit_zero (S := S2x128) hz2 _ a2]

theorem p46 : k0_pay46 (F := Ideal) a0 a1 a2 a3 a4 a5 a6 a7 a8 = k0_pay3 a0 a2 := by
  unfold k0_pay46
  rw [View.ld_unit_zero (S := S2x128) hz2 _ a2, View.ld_unit_zero (S := S128x128) hz0 _ a0]

theorem p47 : k0_pay47 (F := Ideal) a0 a1 a2 a3 a4 a5 a6 a7 a8 = k0_pay5 a1 a2 := by
  unfold k0_pay47
  rw [View.ld_unit_zero (S := S2x128) hz2 _ a2, View.ld_unit_zero (S := S128x128) hz1 _ a1]

theorem p48 : k0_pay48 (F := Ideal) a0 a1 a2 a3 a4 a5 a6 a7 a8 = k0_pay6 a1 a2 := by
  unfold k0_pay48
  rw [View.ld_unit_zero (S := S2x128) hz2 _ a2, View.ld_unit_zero (S := S128x128) hz1 _ a1]

theorem p49 : k0_pay49 (F := Ideal) a0 a1 a2 a3 a4 a5 a6 a7 a8 = k0_pay8 a1 a2 := by
  unfold k0_pay49
  rw [View.ld_unit_zero (S := S2x128) hz2 _ a2, View.ld_unit_zero (S := S128x128) hz1 _ a1]

theorem p50 : k0_pay50 (F := Ideal) a0 a1 a2 a3 a4 a5 a6 a7 a8 = k0_pay9 a1 a2 := by
  unfold k0_pay50
  rw [View.ld_unit_zero (S := S2x128) hz2 _ a2, View.ld_unit_zero (S := S128x128) hz1 _ a1]

theorem p51 : k0_pay51 (F := Ideal) a0 a1 a2 a3 a4 a5 a6 a7 a8 = k0_pay10 a0 a1 a2 := by
  unfold k0_pay51
  rw [View.ld_unit_zero (S := S2x128) hz2 _ a2, View.ld_unit_zero (S := S128x128) hz1 _ a1, View.ld_unit_zero (S := S128x128) hz0 _ a0]

theorem p52 : k0_pay52 (F := Ideal) a0 a1 a2 a3 a4 a5 a6 a7 a8 = k0_pay11 a0 a1 a2 := by
  unfold k0_pay52
  rw [View.ld_unit_zero (S := S2x128) hz2 _ a2, View.ld_unit_zero (S := S128x128) hz1 _ a1, View.ld_unit_zero (S := S128x128) hz0 _ a0]

theorem p53 : k0_pay53 (F := Ideal) a0 a1 a2 a3 a4 a5 a6 a7 a8 = k0_pay12 a0 a1 := by
  unfold k0_pay53
  rw [View.ld_unit_zero (S := S128x128) hz1 _ a1, View.ld_unit_zero (S := S128x128) hz0 _ a0]

theorem p54 : k0_pay54 (F := Ideal) a0 a1 a2 a3 a4 a5 a6 a7 a8 = k0_pay13 a0 a1 a2 := by
  unfold k0_pay54
  rw [View.ld_unit_zero (S := S2x128) hz2 _ a2, View.ld_unit_zero (S := S128x128) hz1 _ a1, View.ld_unit_zero (S := S128x128) hz0 _ a0]

theorem p55 : k0_pay55 (F := Ideal) a0 a1 a2 a3 a4 a5 a6 a7 a8 = k0_pay15 a0 a1 := by
  unfold k0_pay55
  rw [View.ld_unit_zero (S := S128x128) hz1 _ a1, View.ld_unit_zero (S := S128x128) hz0 _ a0]

theorem p56 : k0_pay56 (F := Ideal) a0 a1 a2 a3 a4 a5 a6 a7 a8 = k0_pay27 a3 a4 a7 a8 := by
  unfold k0_pay56
  rw [View.ld_unit_zero (S := S16x128x128) hz3 _ a3, View.ld_unit_zero (S := S16x128x128) hz4 _ a4, View.ld_unit_zero (S := S16x128x128) hz7 _ a7, View.ld_unit_zero (S := S16x128x128) hz8 _ a8]

theorem p57 : k0_pay57 (F := Ideal) a0 a1 a2 a3 a4 a5 a6 a7 a8 = k0_pay29 a3 a4 a7 a8 := by
  unfold k0_pay57
  rw [View.ld_unit_zero (S := S16x128x128) hz3 _ a3, View.ld_unit_zero (S := S16x128x128) hz4 _ a4, View.ld_unit_zero (S := S16x128x128) hz7 _ a7, View.ld_unit_zero (S := S16x128x128) hz8 _ a8]

theorem p58 : k0_pay58 (F := Ideal) a0 a1 a2 a3 a4 a5 a6 a7 a8 = k0_pay30 a3 a4 (k0_pay16 a0 a1 a2) (k0_pay18 a0 a1) a7 a8 := by
  unfold k0_pay58
  rw [View.ld_unit_zero (S := S16x128x128) hz3 _ a3, View.ld_unit_zero (S := S16x128x128) hz4 _ a4, View.ld_unit_zero (S := S16x128x128) hz7 _ a7, View.ld_unit_zero (S := S16x128x128) hz8 _ a8,
    View.ld_unit_zero (S := S2x128) hz2 _ a2, View.ld_unit_zero (S := S128x128) hz1 _ a1, View.ld_unit_zero (S := S128x128) hz0 _ a0]

/- What the kernel leaves is what the reference leaves. -/

theorem g9 : G9 (F := Ideal) a0 a1 a2 a3 a4 a5 a6 a7 a8 = Ref.refRe a0 a1 a2 a3 a4 a5 a6 a7 a8 := by
  funext i
  obtain ⟨p, q, rfl⟩ : ∃ (p q : Fin 128), i = ix2 p q := ⟨_, _, eq_ix2 i⟩
  obtain ⟨r, k, rfl⟩ := row_cover p
  refine Eq.trans ?_ (show (Ref.gre a0 a1 a2 a3 a4 a5 a6 a7 a8 (ix3 r k q) : EReal) = Ref.refRe a0 a1 a2 a3 a4 a5 a6 a7 a8 (ix2 (row r k) q) from ?_)
  · rw [gre_at]
    unfold G9
    rw [p45, p46, p47, p49, p51, p52, p53, p54, p55, p56, p57, p58]
  · pointwise [Ref.refRe]
    rw [row_div, row_mod]

theorem g10 : G10 (F := Ideal) a0 a1 a2 a3 a4 a5 a6 a7 a8 = Ref.refIm a0 a1 a2 a3 a4 a5 a6 a7 a8 := by
  funext i
  obtain ⟨p, q, rfl⟩ : ∃ (p q : Fin 128), i = ix2 p q := ⟨_, _, eq_ix2 i⟩
  obtain ⟨r, k, rfl⟩ := row_cover p
  refine Eq.trans ?_ (show (Ref.gim a0 a1 a2 a3 a4 a5 a6 a7 a8 (ix3 r k q) : EReal) = Ref.refIm a0 a1 a2 a3 a4 a5 a6 a7 a8 (ix2 (row r k) q) from ?_)
  · rw [gim_at]
    unfold G10
    rw [p45, p46, p48, p50, p51, p52, p53, p54, p55, p56, p57, p58]
  · pointwise [Ref.refIm]
    rw [row_div, row_mod]

theorem g12 : G12 (F := Ideal) a0 a1 a2 a3 a4 a5 a6 a7 a8 = Ref.refBr a0 a1 a2 a7 a8 := by
  funext i
  obtain ⟨h, p, q, rfl⟩ : ∃ (h : Fin 16) (p q : Fin 128), i = ix3 h p q := ⟨_, _, _, eq_ix3 i⟩
  obtain ⟨r, k, rfl⟩ := row_cover p
  refine Eq.trans (show (G12 (F := Ideal) a0 a1 a2 a3 a4 a5 a6 a7 a8 (ix3 h (row r k) q) : EReal) = Ref.gbr a0 a1 a2 a7 a8 (ix4 h r k q) from ?_) (show (Ref.gbr a0 a1 a2 a7 a8 (ix4 h r k q) : EReal) = Ref.refBr a0 a1 a2 a7 a8 (ix3 h (row r k) q) from ?_)
  · pointwise [Ref.gbr, k0_pay28, k0_pay19]
    simp only [fr_at, fi_at, dbi_at, dbr_at, pay23_at, pay24_at]
  · pointwise [Ref.refBr]
    rw [row_div, row_mod]

theorem g13 : G13 (F := Ideal) a0 a1 a2 a3 a4 a5 a6 a7 a8 = Ref.refBi a0 a1 a2 a7 a8 := by
  funext i
  obtain ⟨h, p, q, rfl⟩ : ∃ (h : Fin 16) (p q : Fin 128), i = ix3 h p q := ⟨_, _, _, eq_ix3 i⟩
  obtain ⟨r, k, rfl⟩ := row_cover p
  refine Eq.trans (show (G13 (F := Ideal) a0 a1 a2 a3 a4 a5 a6 a7 a8 (ix3 h (row r k) q) : EReal) = Ref.gbi a0 a1 a2 a7 a8 (ix4 h r k q) from ?_) (show (Ref.gbi a0 a1 a2 a7 a8 (ix4 h r k q) : EReal) = Ref.refBi a0 a1 a2 a7 a8 (ix3 h (row r k) q) from ?_)
  · pointwise [Ref.gbi, k0_pay26, k0_pay21, k0_pay20]
    simp only [fr_at, fi_at, dbi_at, dbr_at, pay22_at, pay25_at]
  · pointwise [Ref.refBi]
    rw [row_div, row_mod]

theorem g11 : G11 (F := Ideal) a0 a1 a2 a3 a4 a5 a6 a7 a8 = Ref.refLs a0 a1 a2 a3 a4 a5 a6 a7 a8 := by
  funext i
  obtain ⟨r, q, rfl⟩ : ∃ (r : Fin 2) (q : Fin 128), i = ix2 r q := ⟨_, _, eq_ix2 i⟩
  refine Eq.trans ?_ (refLs_at a0 a1 a2 a3 a4 a5 a6 a7 a8 r q).symm
  unfold G11
  rw [p45, p46, p47, p48, p49, p50, p53, p56, p57]
  simp only [← terms_at]
  match r with
  | 0 =>
    pointwise [k0_pay1, k0_pay43]
    exact Finset.sum_congr rfl fun k _ => congrArg (fun p => terms a0 a1 a2 a3 a4 a5 a6 a7 a8 (ix2 p q)) (Fin.ext (by simp [row]))
  | 1 =>
    pointwise [k0_pay1, k0_pay44]
    exact Finset.sum_congr rfl fun k _ => congrArg (fun p => terms a0 a1 a2 a3 a4 a5 a6 a7 a8 (ix2 p q)) (Fin.ext (by simp [row]))
end

end Cert.StepValue

end
-- ==== Proof.lean ====
/- The claims about the calls of the training step's backward pass, put together: the frames of every program and, call by
   call, that the kernel and its reference leave the same arrays over the extended reals. The work is in the modules
   named …Value. -/
module

public import proofs.«01_k».proof.Defs
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateRefIdeal
public import proofs.«01_k».proof.Proof.Gen.Tap
public import proofs.«01_k».proof.Proof.Gen.Tap.Skeleton
public import proofs.«01_k».proof.Proof.Gen.Tap.Launch
public import proofs.«01_k».proof.Proof.Gen.Tap.Points
public import proofs.«01_k».proof.Proof.Gen.Tap.Frame
public import proofs.«01_k».proof.Proof.Gen.TapIdeal
public import proofs.«01_k».proof.Proof.Gen.TapIdeal.Skeleton
public import proofs.«01_k».proof.Proof.Gen.TapIdeal.Launch
public import proofs.«01_k».proof.Proof.Gen.TapIdeal.Points
public import proofs.«01_k».proof.Proof.Gen.TapIdeal.Frame
public import proofs.«01_k».proof.Proof.Gen.TapRefIdeal
public import proofs.«01_k».proof.Proof.Gen.In
public import proofs.«01_k».proof.Proof.Gen.In.Skeleton
public import proofs.«01_k».proof.Proof.Gen.In.Launch
public import proofs.«01_k».proof.Proof.Gen.In.Points
public import proofs.«01_k».proof.Proof.Gen.In.Frame
public import proofs.«01_k».proof.Proof.Gen.InIdeal
public import proofs.«01_k».proof.Proof.Gen.InIdeal.Skeleton
public import proofs.«01_k».proof.Proof.Gen.InIdeal.Launch
public import proofs.«01_k».proof.Proof.Gen.InIdeal.Points
public import proofs.«01_k».proof.Proof.Gen.InIdeal.Frame
public import proofs.«01_k».proof.Proof.Gen.InRefIdeal
public import proofs.«01_k».proof.Proof.Gen.WConvIn
public import proofs.«01_k».proof.Proof.Gen.WConvIn.Skeleton
public import proofs.«01_k».proof.Proof.Gen.WConvIn.Launch
public import proofs.«01_k».proof.Proof.Gen.WConvIn.Points
public import proofs.«01_k».proof.Proof.Gen.WConvIn.Frame
public import proofs.«01_k».proof.Proof.Gen.WConvInIdeal
public import proofs.«01_k».proof.Proof.Gen.WConvInIdeal.Skeleton
public import proofs.«01_k».proof.Proof.Gen.WConvInIdeal.Launch
public import proofs.«01_k».proof.Proof.Gen.WConvInIdeal.Points
public import proofs.«01_k».proof.Proof.Gen.WConvInIdeal.Frame
public import proofs.«01_k».proof.Proof.Gen.WConvInRefIdeal
public import proofs.«01_k».proof.Proof.Gen.WConvOut
public import proofs.«01_k».proof.Proof.Gen.WConvOut.Skeleton
public import proofs.«01_k».proof.Proof.Gen.WConvOut.Launch
public import proofs.«01_k».proof.Proof.Gen.WConvOut.Points
public import proofs.«01_k».proof.Proof.Gen.WConvOut.Frame
public import proofs.«01_k».proof.Proof.Gen.WConvOutIdeal
public import proofs.«01_k».proof.Proof.Gen.WConvOutIdeal.Skeleton
public import proofs.«01_k».proof.Proof.Gen.WConvOutIdeal.Launch
public import proofs.«01_k».proof.Proof.Gen.WConvOutIdeal.Points
public import proofs.«01_k».proof.Proof.Gen.WConvOutIdeal.Frame
public import proofs.«01_k».proof.Proof.Gen.WConvOutRefIdeal
public import proofs.«01_k».proof.Proof.Gen.WSsmIn
public import proofs.«01_k».proof.Proof.Gen.WSsmIn.Skeleton
public import proofs.«01_k».proof.Proof.Gen.WSsmIn.Launch
public import proofs.«01_k».proof.Proof.Gen.WSsmIn.Points
public import proofs.«01_k».proof.Proof.Gen.WSsmIn.Frame
public import proofs.«01_k».proof.Proof.Gen.WSsmInIdeal
public import proofs.«01_k».proof.Proof.Gen.WSsmInIdeal.Skeleton
public import proofs.«01_k».proof.Proof.Gen.WSsmInIdeal.Launch
public import proofs.«01_k».proof.Proof.Gen.WSsmInIdeal.Points
public import proofs.«01_k».proof.Proof.Gen.WSsmInIdeal.Frame
public import proofs.«01_k».proof.Proof.Gen.WSsmInRefIdeal
public import proofs.«01_k».proof.Proof.Gen.WGlu
public import proofs.«01_k».proof.Proof.Gen.WGlu.Skeleton
public import proofs.«01_k».proof.Proof.Gen.WGlu.Launch
public import proofs.«01_k».proof.Proof.Gen.WGlu.Points
public import proofs.«01_k».proof.Proof.Gen.WGlu.Frame
public import proofs.«01_k».proof.Proof.Gen.WGluIdeal
public import proofs.«01_k».proof.Proof.Gen.WGluIdeal.Skeleton
public import proofs.«01_k».proof.Proof.Gen.WGluIdeal.Launch
public import proofs.«01_k».proof.Proof.Gen.WGluIdeal.Points
public import proofs.«01_k».proof.Proof.Gen.WGluIdeal.Frame
public import proofs.«01_k».proof.Proof.Gen.WGluRefIdeal
public import proofs.«01_k».proof.Proof.Gen.WSsmOut
public import proofs.«01_k».proof.Proof.Gen.WSsmOut.Skeleton
public import proofs.«01_k».proof.Proof.Gen.WSsmOut.Launch
public import proofs.«01_k».proof.Proof.Gen.WSsmOut.Points
public import proofs.«01_k».proof.Proof.Gen.WSsmOut.Frame
public import proofs.«01_k».proof.Proof.Gen.WSsmOutIdeal
public import proofs.«01_k».proof.Proof.Gen.WSsmOutIdeal.Skeleton
public import proofs.«01_k».proof.Proof.Gen.WSsmOutIdeal.Launch
public import proofs.«01_k».proof.Proof.Gen.WSsmOutIdeal.Points
public import proofs.«01_k».proof.Proof.Gen.WSsmOutIdeal.Frame
public import proofs.«01_k».proof.Proof.Gen.WSsmOutRefIdeal
public import proofs.«01_k».proof.Proof.Gen.Project
public import proofs.«01_k».proof.Proof.Gen.Project.Skeleton
public import proofs.«01_k».proof.Proof.Gen.Project.Launch
public import proofs.«01_k».proof.Proof.Gen.Project.Points
public import proofs.«01_k».proof.Proof.Gen.Project.Frame
public import proofs.«01_k».proof.Proof.Gen.ProjectIdeal
public import proofs.«01_k».proof.Proof.Gen.ProjectIdeal.Skeleton
public import proofs.«01_k».proof.Proof.Gen.ProjectIdeal.Launch
public import proofs.«01_k».proof.Proof.Gen.ProjectIdeal.Points
public import proofs.«01_k».proof.Proof.Gen.ProjectIdeal.Frame
public import proofs.«01_k».proof.Proof.Gen.ProjectRefIdeal
public import proofs.«01_k».proof.Proof.Gen.ProjectZ
public import proofs.«01_k».proof.Proof.Gen.ProjectZ.Skeleton
public import proofs.«01_k».proof.Proof.Gen.ProjectZ.Launch
public import proofs.«01_k».proof.Proof.Gen.ProjectZ.Points
public import proofs.«01_k».proof.Proof.Gen.ProjectZ.Frame
public import proofs.«01_k».proof.Proof.Gen.ProjectZIdeal
public import proofs.«01_k».proof.Proof.Gen.ProjectZIdeal.Skeleton
public import proofs.«01_k».proof.Proof.Gen.ProjectZIdeal.Launch
public import proofs.«01_k».proof.Proof.Gen.ProjectZIdeal.Points
public import proofs.«01_k».proof.Proof.Gen.ProjectZIdeal.Frame
public import proofs.«01_k».proof.Proof.Gen.ProjectZRefIdeal
public import proofs.«01_k».proof.Proof.Gen.AdamConvIn
public import proofs.«01_k».proof.Proof.Gen.AdamConvIn.Skeleton
public import proofs.«01_k».proof.Proof.Gen.AdamConvIn.Launch
public import proofs.«01_k».proof.Proof.Gen.AdamConvIn.Points
public import proofs.«01_k».proof.Proof.Gen.AdamConvIn.Frame
public import proofs.«01_k».proof.Proof.Gen.AdamConvInIdeal
public import proofs.«01_k».proof.Proof.Gen.AdamConvInIdeal.Skeleton
public import proofs.«01_k».proof.Proof.Gen.AdamConvInIdeal.Launch
public import proofs.«01_k».proof.Proof.Gen.AdamConvInIdeal.Points
public import proofs.«01_k».proof.Proof.Gen.AdamConvInIdeal.Frame
public import proofs.«01_k».proof.Proof.Gen.AdamConvInRefIdeal
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutRefIdeal
public import proofs.«01_k».proof.Proof.Gen.AdamSsmIn
public import proofs.«01_k».proof.Proof.Gen.AdamSsmIn.Skeleton
public import proofs.«01_k».proof.Proof.Gen.AdamSsmIn.Launch
public import proofs.«01_k».proof.Proof.Gen.AdamSsmIn.Points
public import proofs.«01_k».proof.Proof.Gen.AdamSsmIn.Frame
public import proofs.«01_k».proof.Proof.Gen.AdamSsmInIdeal
public import proofs.«01_k».proof.Proof.Gen.AdamSsmInIdeal.Skeleton
public import proofs.«01_k».proof.Proof.Gen.AdamSsmInIdeal.Launch
public import proofs.«01_k».proof.Proof.Gen.AdamSsmInIdeal.Points
public import proofs.«01_k».proof.Proof.Gen.AdamSsmInIdeal.Frame
public import proofs.«01_k».proof.Proof.Gen.AdamSsmInRefIdeal
public import proofs.«01_k».proof.Proof.Gen.AdamGlu
public import proofs.«01_k».proof.Proof.Gen.AdamGlu.Skeleton
public import proofs.«01_k».proof.Proof.Gen.AdamGlu.Launch
public import proofs.«01_k».proof.Proof.Gen.AdamGlu.Points
public import proofs.«01_k».proof.Proof.Gen.AdamGlu.Frame
public import proofs.«01_k».proof.Proof.Gen.AdamGluIdeal
public import proofs.«01_k».proof.Proof.Gen.AdamGluIdeal.Skeleton
public import proofs.«01_k».proof.Proof.Gen.AdamGluIdeal.Launch
public import proofs.«01_k».proof.Proof.Gen.AdamGluIdeal.Points
public import proofs.«01_k».proof.Proof.Gen.AdamGluIdeal.Frame
public import proofs.«01_k».proof.Proof.Gen.AdamGluRefIdeal
public import proofs.«01_k».proof.Proof.Gen.AdamAda
public import proofs.«01_k».proof.Proof.Gen.AdamAda.Skeleton
public import proofs.«01_k».proof.Proof.Gen.AdamAda.Launch
public import proofs.«01_k».proof.Proof.Gen.AdamAda.Points
public import proofs.«01_k».proof.Proof.Gen.AdamAda.Frame
public import proofs.«01_k».proof.Proof.Gen.AdamAdaIdeal
public import proofs.«01_k».proof.Proof.Gen.AdamAdaIdeal.Skeleton
public import proofs.«01_k».proof.Proof.Gen.AdamAdaIdeal.Launch
public import proofs.«01_k».proof.Proof.Gen.AdamAdaIdeal.Points
public import proofs.«01_k».proof.Proof.Gen.AdamAdaIdeal.Frame
public import proofs.«01_k».proof.Proof.Gen.AdamAdaRefIdeal
public import proofs.«01_k».proof.Proof.Gen.AdamCtx
public import proofs.«01_k».proof.Proof.Gen.AdamCtx.Skeleton
public import proofs.«01_k».proof.Proof.Gen.AdamCtx.Launch
public import proofs.«01_k».proof.Proof.Gen.AdamCtx.Points
public import proofs.«01_k».proof.Proof.Gen.AdamCtx.Frame
public import proofs.«01_k».proof.Proof.Gen.AdamCtxIdeal
public import proofs.«01_k».proof.Proof.Gen.AdamCtxIdeal.Skeleton
public import proofs.«01_k».proof.Proof.Gen.AdamCtxIdeal.Launch
public import proofs.«01_k».proof.Proof.Gen.AdamCtxIdeal.Points
public import proofs.«01_k».proof.Proof.Gen.AdamCtxIdeal.Frame
public import proofs.«01_k».proof.Proof.Gen.AdamCtxRefIdeal
public import proofs.«01_k».proof.Proof.Gen.AdamAdaB
public import proofs.«01_k».proof.Proof.Gen.AdamAdaB.Skeleton
public import proofs.«01_k».proof.Proof.Gen.AdamAdaB.Launch
public import proofs.«01_k».proof.Proof.Gen.AdamAdaB.Points
public import proofs.«01_k».proof.Proof.Gen.AdamAdaB.Frame
public import proofs.«01_k».proof.Proof.Gen.AdamAdaBIdeal
public import proofs.«01_k».proof.Proof.Gen.AdamAdaBIdeal.Skeleton
public import proofs.«01_k».proof.Proof.Gen.AdamAdaBIdeal.Launch
public import proofs.«01_k».proof.Proof.Gen.AdamAdaBIdeal.Points
public import proofs.«01_k».proof.Proof.Gen.AdamAdaBIdeal.Frame
public import proofs.«01_k».proof.Proof.Gen.AdamAdaBRefIdeal
public import proofs.«01_k».proof.Proof.Gen.AdamLn
public import proofs.«01_k».proof.Proof.Gen.AdamLn.Skeleton
public import proofs.«01_k».proof.Proof.Gen.AdamLn.Launch
public import proofs.«01_k».proof.Proof.Gen.AdamLn.Points
public import proofs.«01_k».proof.Proof.Gen.AdamLn.Frame
public import proofs.«01_k».proof.Proof.Gen.AdamLnIdeal
public import proofs.«01_k».proof.Proof.Gen.AdamLnIdeal.Skeleton
public import proofs.«01_k».proof.Proof.Gen.AdamLnIdeal.Launch
public import proofs.«01_k».proof.Proof.Gen.AdamLnIdeal.Points
public import proofs.«01_k».proof.Proof.Gen.AdamLnIdeal.Frame
public import proofs.«01_k».proof.Proof.Gen.AdamLnRefIdeal
public import proofs.«01_k».proof.Proof.Gen.AdamTaps
public import proofs.«01_k».proof.Proof.Gen.AdamTaps.Skeleton
public import proofs.«01_k».proof.Proof.Gen.AdamTaps.Launch
public import proofs.«01_k».proof.Proof.Gen.AdamTaps.Points
public import proofs.«01_k».proof.Proof.Gen.AdamTaps.Frame
public import proofs.«01_k».proof.Proof.Gen.AdamTapsIdeal
public import proofs.«01_k».proof.Proof.Gen.AdamTapsIdeal.Skeleton
public import proofs.«01_k».proof.Proof.Gen.AdamTapsIdeal.Launch
public import proofs.«01_k».proof.Proof.Gen.AdamTapsIdeal.Points
public import proofs.«01_k».proof.Proof.Gen.AdamTapsIdeal.Frame
public import proofs.«01_k».proof.Proof.Gen.AdamTapsRefIdeal
public import proofs.«01_k».proof.Proof.Gen.AdamLam
public import proofs.«01_k».proof.Proof.Gen.AdamLam.Skeleton
public import proofs.«01_k».proof.Proof.Gen.AdamLam.Launch
public import proofs.«01_k».proof.Proof.Gen.AdamLam.Points
public import proofs.«01_k».proof.Proof.Gen.AdamLam.Frame
public import proofs.«01_k».proof.Proof.Gen.AdamLamIdeal
public import proofs.«01_k».proof.Proof.Gen.AdamLamIdeal.Skeleton
public import proofs.«01_k».proof.Proof.Gen.AdamLamIdeal.Launch
public import proofs.«01_k».proof.Proof.Gen.AdamLamIdeal.Points
public import proofs.«01_k».proof.Proof.Gen.AdamLamIdeal.Frame
public import proofs.«01_k».proof.Proof.Gen.AdamLamRefIdeal
public import proofs.«01_k».proof.Proof.Gen.AdamStep
public import proofs.«01_k».proof.Proof.Gen.AdamStep.Skeleton
public import proofs.«01_k».proof.Proof.Gen.AdamStep.Launch
public import proofs.«01_k».proof.Proof.Gen.AdamStep.Points
public import proofs.«01_k».proof.Proof.Gen.AdamStep.Frame
public import proofs.«01_k».proof.Proof.Gen.AdamStepIdeal
public import proofs.«01_k».proof.Proof.Gen.AdamStepIdeal.Skeleton
public import proofs.«01_k».proof.Proof.Gen.AdamStepIdeal.Launch
public import proofs.«01_k».proof.Proof.Gen.AdamStepIdeal.Points
public import proofs.«01_k».proof.Proof.Gen.AdamStepIdeal.Frame
public import proofs.«01_k».proof.Proof.Gen.AdamStepRefIdeal
public import proofs.«01_k».proof.Proof.Gen.AdamBC
public import proofs.«01_k».proof.Proof.Gen.AdamBC.Skeleton
public import proofs.«01_k».proof.Proof.Gen.AdamBC.Launch
public import proofs.«01_k».proof.Proof.Gen.AdamBC.Points
public import proofs.«01_k».proof.Proof.Gen.AdamBC.Frame
public import proofs.«01_k».proof.Proof.Gen.AdamBCIdeal
public import proofs.«01_k».proof.Proof.Gen.AdamBCIdeal.Skeleton
public import proofs.«01_k».proof.Proof.Gen.AdamBCIdeal.Launch
public import proofs.«01_k».proof.Proof.Gen.AdamBCIdeal.Points
public import proofs.«01_k».proof.Proof.Gen.AdamBCIdeal.Frame
public import proofs.«01_k».proof.Proof.Gen.AdamBCRefIdeal
public import proofs.«01_k».proof.Proof.Gen.AdamRow
public import proofs.«01_k».proof.Proof.Gen.AdamRow.Skeleton
public import proofs.«01_k».proof.Proof.Gen.AdamRow.Launch
public import proofs.«01_k».proof.Proof.Gen.AdamRow.Points
public import proofs.«01_k».proof.Proof.Gen.AdamRow.Frame
public import proofs.«01_k».proof.Proof.Gen.AdamRowIdeal
public import proofs.«01_k».proof.Proof.Gen.AdamRowIdeal.Skeleton
public import proofs.«01_k».proof.Proof.Gen.AdamRowIdeal.Launch
public import proofs.«01_k».proof.Proof.Gen.AdamRowIdeal.Points
public import proofs.«01_k».proof.Proof.Gen.AdamRowIdeal.Frame
public import proofs.«01_k».proof.Proof.Gen.AdamRowRefIdeal
public import proofs.«01_k».proof.Proof.Gen.SumConvIn
public import proofs.«01_k».proof.Proof.Gen.SumConvIn.Skeleton
public import proofs.«01_k».proof.Proof.Gen.SumConvIn.Launch
public import proofs.«01_k».proof.Proof.Gen.SumConvIn.Points
public import proofs.«01_k».proof.Proof.Gen.SumConvIn.Frame
public import proofs.«01_k».proof.Proof.Gen.SumConvInIdeal
public import proofs.«01_k».proof.Proof.Gen.SumConvInIdeal.Skeleton
public import proofs.«01_k».proof.Proof.Gen.SumConvInIdeal.Launch
public import proofs.«01_k».proof.Proof.Gen.SumConvInIdeal.Points
public import proofs.«01_k».proof.Proof.Gen.SumConvInIdeal.Frame
public import proofs.«01_k».proof.Proof.Gen.SumConvInRefIdeal
public import proofs.«01_k».proof.Proof.Gen.SumSsmIn
public import proofs.«01_k».proof.Proof.Gen.SumSsmIn.Skeleton
public import proofs.«01_k».proof.Proof.Gen.SumSsmIn.Launch
public import proofs.«01_k».proof.Proof.Gen.SumSsmIn.Points
public import proofs.«01_k».proof.Proof.Gen.SumSsmIn.Frame
public import proofs.«01_k».proof.Proof.Gen.SumSsmInIdeal
public import proofs.«01_k».proof.Proof.Gen.SumSsmInIdeal.Skeleton
public import proofs.«01_k».proof.Proof.Gen.SumSsmInIdeal.Launch
public import proofs.«01_k».proof.Proof.Gen.SumSsmInIdeal.Points
public import proofs.«01_k».proof.Proof.Gen.SumSsmInIdeal.Frame
public import proofs.«01_k».proof.Proof.Gen.SumSsmInRefIdeal
public import proofs.«01_k».proof.Proof.Gen.SumOut
public import proofs.«01_k».proof.Proof.Gen.SumOut.Skeleton
public import proofs.«01_k».proof.Proof.Gen.SumOut.Launch
public import proofs.«01_k».proof.Proof.Gen.SumOut.Points
public import proofs.«01_k».proof.Proof.Gen.SumOut.Frame
public import proofs.«01_k».proof.Proof.Gen.SumOutIdeal
public import proofs.«01_k».proof.Proof.Gen.SumOutIdeal.Skeleton
public import proofs.«01_k».proof.Proof.Gen.SumOutIdeal.Launch
public import proofs.«01_k».proof.Proof.Gen.SumOutIdeal.Points
public import proofs.«01_k».proof.Proof.Gen.SumOutIdeal.Frame
public import proofs.«01_k».proof.Proof.Gen.SumOutRefIdeal
public import proofs.«01_k».proof.Proof.Gen.SumGlu
public import proofs.«01_k».proof.Proof.Gen.SumGlu.Skeleton
public import proofs.«01_k».proof.Proof.Gen.SumGlu.Launch
public import proofs.«01_k».proof.Proof.Gen.SumGlu.Points
public import proofs.«01_k».proof.Proof.Gen.SumGlu.Frame
public import proofs.«01_k».proof.Proof.Gen.SumGluIdeal
public import proofs.«01_k».proof.Proof.Gen.SumGluIdeal.Skeleton
public import proofs.«01_k».proof.Proof.Gen.SumGluIdeal.Launch
public import proofs.«01_k».proof.Proof.Gen.SumGluIdeal.Points
public import proofs.«01_k».proof.Proof.Gen.SumGluIdeal.Frame
public import proofs.«01_k».proof.Proof.Gen.SumGluRefIdeal
public import proofs.«01_k».proof.Proof.Gen.SumSmall
public import proofs.«01_k».proof.Proof.Gen.SumSmall.Skeleton
public import proofs.«01_k».proof.Proof.Gen.SumSmall.Launch
public import proofs.«01_k».proof.Proof.Gen.SumSmall.Points
public import proofs.«01_k».proof.Proof.Gen.SumSmall.Frame
public import proofs.«01_k».proof.Proof.Gen.SumSmallIdeal
public import proofs.«01_k».proof.Proof.Gen.SumSmallIdeal.Skeleton
public import proofs.«01_k».proof.Proof.Gen.SumSmallIdeal.Launch
public import proofs.«01_k».proof.Proof.Gen.SumSmallIdeal.Points
public import proofs.«01_k».proof.Proof.Gen.SumSmallIdeal.Frame
public import proofs.«01_k».proof.Proof.Gen.SumSmallRefIdeal
public import proofs.«01_k».proof.Proof.Gen.Modulate
public import proofs.«01_k».proof.Proof.Gen.Modulate.Skeleton
public import proofs.«01_k».proof.Proof.Gen.Modulate.Launch
public import proofs.«01_k».proof.Proof.Gen.Modulate.Points
public import proofs.«01_k».proof.Proof.Gen.Modulate.Frame
public import proofs.«01_k».proof.Proof.Gen.ModulateIdeal
public import proofs.«01_k».proof.Proof.Gen.ModulateIdeal.Skeleton
public import proofs.«01_k».proof.Proof.Gen.ModulateIdeal.Launch
public import proofs.«01_k».proof.Proof.Gen.ModulateIdeal.Points
public import proofs.«01_k».proof.Proof.Gen.ModulateIdeal.Frame
public import proofs.«01_k».proof.Proof.Gen.ModulateRefIdeal
public import proofs.«01_k».proof.Proof.Gen.Modulation
public import proofs.«01_k».proof.Proof.Gen.Modulation.Skeleton
public import proofs.«01_k».proof.Proof.Gen.Modulation.Launch
public import proofs.«01_k».proof.Proof.Gen.Modulation.Points
public import proofs.«01_k».proof.Proof.Gen.Modulation.Frame
public import proofs.«01_k».proof.Proof.Gen.ModulationIdeal
public import proofs.«01_k».proof.Proof.Gen.ModulationIdeal.Skeleton
public import proofs.«01_k».proof.Proof.Gen.ModulationIdeal.Launch
public import proofs.«01_k».proof.Proof.Gen.ModulationIdeal.Points
public import proofs.«01_k».proof.Proof.Gen.ModulationIdeal.Frame
public import proofs.«01_k».proof.Proof.Gen.ModulationRefIdeal
public import proofs.«01_k».proof.Proof.Gen.Context
public import proofs.«01_k».proof.Proof.Gen.Context.Skeleton
public import proofs.«01_k».proof.Proof.Gen.Context.Launch
public import proofs.«01_k».proof.Proof.Gen.Context.Points
public import proofs.«01_k».proof.Proof.Gen.Context.Frame
public import proofs.«01_k».proof.Proof.Gen.ContextIdeal
public import proofs.«01_k».proof.Proof.Gen.ContextIdeal.Skeleton
public import proofs.«01_k».proof.Proof.Gen.ContextIdeal.Launch
public import proofs.«01_k».proof.Proof.Gen.ContextIdeal.Points
public import proofs.«01_k».proof.Proof.Gen.ContextIdeal.Frame
public import proofs.«01_k».proof.Proof.Gen.ContextRefIdeal
public import proofs.«01_k».proof.Proof.Gen.Step
public import proofs.«01_k».proof.Proof.Gen.Step.Skeleton
public import proofs.«01_k».proof.Proof.Gen.Step.Launch
public import proofs.«01_k».proof.Proof.Gen.Step.Points
public import proofs.«01_k».proof.Proof.Gen.Step.Frame
public import proofs.«01_k».proof.Proof.Gen.StepIdeal
public import proofs.«01_k».proof.Proof.Gen.StepIdeal.Skeleton
public import proofs.«01_k».proof.Proof.Gen.StepIdeal.Launch
public import proofs.«01_k».proof.Proof.Gen.StepIdeal.Points
public import proofs.«01_k».proof.Proof.Gen.StepIdeal.Frame
public import proofs.«01_k».proof.Proof.Gen.StepRefIdeal
public import proofs.«01_k».proof.Proof.Gen.Pre_gate_finite
public import proofs.«01_k».proof.Proof.Gen.Pre_context_finite
public import proofs.«01_k».proof.Proof.Gen.GateIdeal.Value
public import proofs.«01_k».proof.Proof.Gen.GateRefIdeal.Run
public import proofs.«01_k».proof.Proof.Gen.TapIdeal.Value
public import proofs.«01_k».proof.Proof.Gen.TapRefIdeal.Run
public import proofs.«01_k».proof.Proof.Gen.InIdeal.Value
public import proofs.«01_k».proof.Proof.Gen.InRefIdeal.Run
public import proofs.«01_k».proof.Proof.Gen.WConvInIdeal.Value
public import proofs.«01_k».proof.Proof.Gen.WConvInRefIdeal.Run
public import proofs.«01_k».proof.Proof.Gen.WConvOutIdeal.Value
public import proofs.«01_k».proof.Proof.Gen.WConvOutRefIdeal.Run
public import proofs.«01_k».proof.Proof.Gen.WSsmInIdeal.Value
public import proofs.«01_k».proof.Proof.Gen.WSsmInRefIdeal.Run
public import proofs.«01_k».proof.Proof.Gen.WGluIdeal.Value
public import proofs.«01_k».proof.Proof.Gen.WGluRefIdeal.Run
public import proofs.«01_k».proof.Proof.Gen.WSsmOutIdeal.Value
public import proofs.«01_k».proof.Proof.Gen.WSsmOutRefIdeal.Run
public import proofs.«01_k».proof.Proof.Gen.ProjectRefIdeal.Run
public import proofs.«01_k».proof.Proof.Gen.ProjectZIdeal.Value
public import proofs.«01_k».proof.Proof.Gen.ProjectZRefIdeal.Run
public import proofs.«01_k».proof.Proof.Gen.AdamConvInIdeal.Value
public import proofs.«01_k».proof.Proof.Gen.AdamConvInRefIdeal.Run
public import proofs.«01_k».proof.Proof.Gen.AdamOutIdeal.Value
public import proofs.«01_k».proof.Proof.Gen.AdamOutRefIdeal.Run
public import proofs.«01_k».proof.Proof.Gen.AdamSsmInIdeal.Value
public import proofs.«01_k».proof.Proof.Gen.AdamSsmInRefIdeal.Run
public import proofs.«01_k».proof.Proof.Gen.AdamGluIdeal.Value
public import proofs.«01_k».proof.Proof.Gen.AdamGluRefIdeal.Run
public import proofs.«01_k».proof.Proof.Gen.AdamAdaIdeal.Value
public import proofs.«01_k».proof.Proof.Gen.AdamAdaRefIdeal.Run
public import proofs.«01_k».proof.Proof.Gen.AdamCtxIdeal.Value
public import proofs.«01_k».proof.Proof.Gen.AdamCtxRefIdeal.Run
public import proofs.«01_k».proof.Proof.Gen.AdamAdaBIdeal.Value
public import proofs.«01_k».proof.Proof.Gen.AdamAdaBRefIdeal.Run
public import proofs.«01_k».proof.Proof.Gen.AdamLnIdeal.Value
public import proofs.«01_k».proof.Proof.Gen.AdamLnRefIdeal.Run
public import proofs.«01_k».proof.Proof.Gen.AdamTapsIdeal.Value
public import proofs.«01_k».proof.Proof.Gen.AdamTapsRefIdeal.Run
public import proofs.«01_k».proof.Proof.Gen.AdamLamIdeal.Value
public import proofs.«01_k».proof.Proof.Gen.AdamLamRefIdeal.Run
public import proofs.«01_k».proof.Proof.Gen.AdamStepIdeal.Value
public import proofs.«01_k».proof.Proof.Gen.AdamStepRefIdeal.Run
public import proofs.«01_k».proof.Proof.Gen.AdamBCIdeal.Value
public import proofs.«01_k».proof.Proof.Gen.AdamBCRefIdeal.Run
public import proofs.«01_k».proof.Proof.Gen.AdamRowIdeal.Value
public import proofs.«01_k».proof.Proof.Gen.AdamRowRefIdeal.Run
public import proofs.«01_k».proof.Proof.Gen.SumConvInIdeal.Value
public import proofs.«01_k».proof.Proof.Gen.SumConvInRefIdeal.Run
public import proofs.«01_k».proof.Proof.Gen.SumSsmInIdeal.Value
public import proofs.«01_k».proof.Proof.Gen.SumSsmInRefIdeal.Run
public import proofs.«01_k».proof.Proof.Gen.SumOutIdeal.Value
public import proofs.«01_k».proof.Proof.Gen.SumOutRefIdeal.Run
public import proofs.«01_k».proof.Proof.Gen.SumGluIdeal.Value
public import proofs.«01_k».proof.Proof.Gen.SumGluRefIdeal.Run
public import proofs.«01_k».proof.Proof.Gen.SumSmallIdeal.Value
public import proofs.«01_k».proof.Proof.Gen.SumSmallRefIdeal.Run
public import proofs.«01_k».proof.Proof.Gen.ModulateIdeal.Value
public import proofs.«01_k».proof.Proof.Gen.ModulateRefIdeal.Run
public import proofs.«01_k».proof.Proof.Gen.ModulationIdeal.Value
public import proofs.«01_k».proof.Proof.Gen.ModulationRefIdeal.Run
public import proofs.«01_k».proof.Proof.Gen.ContextIdeal.Value
public import proofs.«01_k».proof.Proof.Gen.ContextRefIdeal.Run
public import proofs.«01_k».proof.Proof.Gen.StepIdeal.Value
public import proofs.«01_k».proof.Proof.Gen.StepRefIdeal.Run
public import proofs.«01_k».proof.Proof.GateValue
public import proofs.«01_k».proof.Proof.TapValue
public import proofs.«01_k».proof.Proof.InValue
public import proofs.«01_k».proof.Proof.WConvInValue
public import proofs.«01_k».proof.Proof.WConvOutValue
public import proofs.«01_k».proof.Proof.WSsmInValue
public import proofs.«01_k».proof.Proof.WGluValue
public import proofs.«01_k».proof.Proof.WSsmOutValue
public import proofs.«01_k».proof.Proof.ProjectFrame
public import proofs.«01_k».proof.Proof.ProjectBody
public import proofs.«01_k».proof.Proof.ProjectValue
public import proofs.«01_k».proof.Proof.ProjectZValue
public import proofs.«01_k».proof.Proof.SumConvInValue
public import proofs.«01_k».proof.Proof.SumSsmInValue
public import proofs.«01_k».proof.Proof.SumOutValue
public import proofs.«01_k».proof.Proof.SumGluValue
public import proofs.«01_k».proof.Proof.SumSmallValue
public import proofs.«01_k».proof.Proof.ModulateValue
public import proofs.«01_k».proof.Proof.ModulationValue
public import proofs.«01_k».proof.Proof.ContextValue
public import proofs.«01_k».proof.Proof.StepValue
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem

set_option maxRecDepth 100000

/-- The gradients through the gate. -/
theorem algebraic_Gate : Cert.algebraic_GateIdeal_GateRefIdeal_pre_gate_finite := by
  pair_intro
  · run_from Cert.GateIdeal.Gen.run_main m g
  · hlo_run
    · exact (Cert.GateValue.final5 m c).symm
    · exact (Cert.GateValue.final6_of m c (hpre c)).symm
    · exact (Cert.GateValue.final7 m c).symm

/-- The gradients through the three taps on the token grid. -/
theorem algebraic_Tap : Cert.algebraic_TapIdeal_TapRefIdeal := by
  pair_intro
  · run_from Cert.TapIdeal.Value.run_blocks m g
  · run_from Cert.TapRefValue.run m' g'
    · exact (Cert.TapValue.final8 m c).symm
    · exact (Cert.TapValue.final9 m c).symm

/-- The gradients through the projection into the layer, its modulation and its residual. -/
theorem algebraic_In : Cert.algebraic_InIdeal_InRefIdeal := by
  pair_intro
  · run_from Cert.InIdeal.Gen.run_main m g
  · hlo_run
    · exact (Cert.InValue.final5 m c).symm
    · exact (Cert.InValue.final6 m c).symm
    · exact (Cert.InValue.final7 m c).symm

/-- The gradient of the convolution layer's projections. -/
theorem algebraic_WConvIn : Cert.algebraic_WConvInIdeal_WConvInRefIdeal := by
  pair_intro
  · run_from Cert.WConvInIdeal.Gen.run_main m g
  · run_from Cert.WConvInRefIdeal.Value.run m' g'
    exact (Cert.WConvInValue.final m c).symm

/-- The gradient of the convolution layer's output product. -/
theorem algebraic_WConvOut : Cert.algebraic_WConvOutIdeal_WConvOutRefIdeal := by
  pair_intro
  · run_from Cert.WConvOutIdeal.Gen.run_main m g
  · run_from Cert.WConvOutRefIdeal.Value.run m' g'
    exact (Cert.WConvOutValue.final m c).symm

/-- The gradient of the state space layer's projections. -/
theorem algebraic_WSsmIn : Cert.algebraic_WSsmInIdeal_WSsmInRefIdeal := by
  pair_intro
  · run_from Cert.WSsmInIdeal.Gen.run_main m g
  · run_from Cert.WSsmInRefIdeal.Value.run m' g'
    exact (Cert.WSsmInValue.final m c).symm

/-- The gradient of the gated linear unit's weights. -/
theorem algebraic_WGlu : Cert.algebraic_WGluIdeal_WGluRefIdeal := by
  pair_intro
  · run_from Cert.WGluIdeal.Gen.run_main m g
  · run_from Cert.WGluRefIdeal.Value.run m' g'
    rw [Cert.WGluValue.final m c]; rfl

/-- The gradient of the state space layer's output product. -/
theorem algebraic_WSsmOut : Cert.algebraic_WSsmOutIdeal_WSsmOutRefIdeal := by
  pair_intro
  · run_from Cert.WSsmOutIdeal.Gen.run_main m g
  · run_from Cert.WSsmOutRefIdeal.Value.run m' g'
    rw [Cert.WSsmOutValue.final m c]; rfl

/-- The projection into the convolution layer. -/
theorem algebraic_Project : Cert.algebraic_ProjectIdeal_ProjectRefIdeal := by
  pair_intro
  · run_from Cert.ProjectBody.run_main m g
  · hlo_run
    · exact (Cert.ProjectValue.final4 m c).symm
    · exact (Cert.ProjectValue.final5 m c).symm

/-- The projection to the state space layer's gate. -/
theorem algebraic_ProjectZ : Cert.algebraic_ProjectZIdeal_ProjectZRefIdeal := by
  pair_intro
  · run_from Cert.ProjectZIdeal.Gen.run_main m g
  · hlo_run
    · rw [(hagree c).2.2.2.2.2]; exact (Cert.ProjectZValue.final6 m c).symm
    · exact (Cert.ProjectZValue.final7 m c).symm

/-- The update of the convolution layer's projections. -/
theorem algebraic_AdamConvIn : Cert.algebraic_AdamConvInIdeal_AdamConvInRefIdeal := by
  pair_intro
  · run_from Cert.AdamConvInIdeal.Value.run m g
  · run_from Cert.AdamConvInRefIdeal.Value.run m' g'
    all_goals rfl

/-- The update of either layer's output weights. -/
theorem algebraic_AdamOut : Cert.algebraic_AdamOutIdeal_AdamOutRefIdeal := by
  pair_intro
  · run_from Cert.AdamOutIdeal.Value.run m g
  · run_from Cert.AdamOutRefIdeal.Value.run m' g'
    all_goals rfl

/-- The update of the state space layer's projections. -/
theorem algebraic_AdamSsmIn : Cert.algebraic_AdamSsmInIdeal_AdamSsmInRefIdeal := by
  pair_intro
  · run_from Cert.AdamSsmInIdeal.Value.run m g
  · run_from Cert.AdamSsmInRefIdeal.Value.run m' g'
    all_goals rfl

/-- The update of the gated linear unit's weights. -/
theorem algebraic_AdamGlu : Cert.algebraic_AdamGluIdeal_AdamGluRefIdeal := by
  pair_intro
  · run_from Cert.AdamGluIdeal.Value.run m g
  · run_from Cert.AdamGluRefIdeal.Value.run m' g'
    all_goals rfl

/-- The update of the modulation's weights. -/
theorem algebraic_AdamAda : Cert.algebraic_AdamAdaIdeal_AdamAdaRefIdeal := by
  pair_intro
  · run_from Cert.AdamAdaIdeal.Value.run m g
  · run_from Cert.AdamAdaRefIdeal.Value.run m' g'
    all_goals rfl

/-- The update of the context tokens' modulation vector. -/
theorem algebraic_AdamCtx : Cert.algebraic_AdamCtxIdeal_AdamCtxRefIdeal := by
  pair_intro
  · run_from Cert.AdamCtxIdeal.Value.run m g
  · run_from Cert.AdamCtxRefIdeal.Value.run m' g'
    all_goals rfl

/-- The update of the modulation's bias. -/
theorem algebraic_AdamAdaB : Cert.algebraic_AdamAdaBIdeal_AdamAdaBRefIdeal := by
  pair_intro
  · run_from Cert.AdamAdaBIdeal.Value.run m g
  · run_from Cert.AdamAdaBRefIdeal.Value.run m' g'
    all_goals rfl

/-- The update of the layer norms' gain or bias. -/
theorem algebraic_AdamLn : Cert.algebraic_AdamLnIdeal_AdamLnRefIdeal := by
  pair_intro
  · run_from Cert.AdamLnIdeal.Value.run m g
  · run_from Cert.AdamLnRefIdeal.Value.run m' g'
    all_goals rfl

/-- The update of the convolution's taps. -/
theorem algebraic_AdamTaps : Cert.algebraic_AdamTapsIdeal_AdamTapsRefIdeal := by
  pair_intro
  · run_from Cert.AdamTapsIdeal.Value.run m g
  · run_from Cert.AdamTapsRefIdeal.Value.run m' g'
    all_goals rfl

/-- The update of the state space layer's eigenvalues, either part. -/
theorem algebraic_AdamLam : Cert.algebraic_AdamLamIdeal_AdamLamRefIdeal := by
  pair_intro
  · run_from Cert.AdamLamIdeal.Value.run m g
  · run_from Cert.AdamLamRefIdeal.Value.run m' g'
    all_goals rfl

/-- The update of the state space layer's step sizes. -/
theorem algebraic_AdamStep : Cert.algebraic_AdamStepIdeal_AdamStepRefIdeal := by
  pair_intro
  · run_from Cert.AdamStepIdeal.Value.run m g
  · run_from Cert.AdamStepRefIdeal.Value.run m' g'
    all_goals rfl

/-- The update of the state space layer's input or output matrices, either part. -/
theorem algebraic_AdamBC : Cert.algebraic_AdamBCIdeal_AdamBCRefIdeal := by
  pair_intro
  · run_from Cert.AdamBCIdeal.Value.run m g
  · run_from Cert.AdamBCRefIdeal.Value.run m' g'
    all_goals rfl

/-- The update of the state space layer's skip or the gated linear unit's bias. -/
theorem algebraic_AdamRow : Cert.algebraic_AdamRowIdeal_AdamRowRefIdeal := by
  pair_intro
  · run_from Cert.AdamRowIdeal.Value.run m g
  · run_from Cert.AdamRowRefIdeal.Value.run m' g'
    all_goals rfl

/-- The sum of the devices' parts of the gradient of the convolution layer's projections. -/
theorem algebraic_SumConvIn : Cert.algebraic_SumConvInIdeal_SumConvInRefIdeal := by
  pair_intro
  · run_from Cert.SumConvInIdeal.Value.run_blocks m g
  · hlo_run
    exact (Cert.SumConvInValue.final m c).symm

/-- The sum of the devices' parts of the gradient of the state space layer's projections. -/
theorem algebraic_SumSsmIn : Cert.algebraic_SumSsmInIdeal_SumSsmInRefIdeal := by
  pair_intro
  · run_from Cert.SumSsmInIdeal.Value.run_blocks m g
  · hlo_run
    exact (Cert.SumSsmInValue.final m c).symm

/-- The sum of the devices' parts of the gradient of either layer's output weights. -/
theorem algebraic_SumOut : Cert.algebraic_SumOutIdeal_SumOutRefIdeal := by
  pair_intro
  · run_from Cert.SumOutIdeal.Value.run_blocks m g
  · hlo_run
    exact (Cert.SumOutValue.final m c).symm

/-- The sum of the devices' parts of the gradient of the gated linear unit's weights. -/
theorem algebraic_SumGlu : Cert.algebraic_SumGluIdeal_SumGluRefIdeal := by
  pair_intro
  · run_from Cert.SumGluIdeal.Value.run_blocks m g
  · hlo_run
    exact (Cert.SumGluValue.final m c).symm

/-- The sum of the devices' parts of the loss and the gradients of the small weights. -/
theorem algebraic_SumSmall : Cert.algebraic_SumSmallIdeal_SumSmallRefIdeal := by
  pair_intro
  · run_from Cert.SumSmallIdeal.Value.run_blocks m g
  · hlo_run
    exact (Cert.SumSmallValue.final m c).symm

/-- The modulation, forward. -/
theorem algebraic_Modulate : Cert.algebraic_ModulateIdeal_ModulateRefIdeal := by
  pair_intro
  · run_from Cert.ModulateIdeal.Value.run m g
  · refine θ_run_mono (Cert.ModulateValue.run m' g') ?_
    intro r hr c
    obtain ⟨h, h0⟩ := hr c
    refine ⟨h.trans ?_, h0⟩
    rw [(hagree c).1, (hagree c).2.1, (hagree c).2.2.1, (hagree c).2.2.2]
    exact (Cert.ModulateValue.g _ _ _ _).symm

/-- The gradients of the modulation's weights, its biases and its shared context. -/
theorem algebraic_Modulation : Cert.algebraic_ModulationIdeal_ModulationRefIdeal := by
  pair_intro
  · run_from Cert.ModulationIdeal.Value.run m g
  · hlo_run
    · exact (Cert.ModulationValue.g5 _ _ _ _ _).symm
    · exact (Cert.ModulationValue.g6 (m (c.tc.loc Cert.ModulationIdeal.main_arg0)) (m (c.tc.loc Cert.ModulationIdeal.main_arg1)) (m (c.tc.loc Cert.ModulationIdeal.main_arg2)) (m (c.tc.loc Cert.ModulationIdeal.main_arg3)) (m (c.tc.loc Cert.ModulationIdeal.main_arg4))).symm
    · exact (Cert.ModulationValue.g7 _ _ _ _ _).symm

/-- The gradient of the context vector. -/
theorem algebraic_Context : Cert.algebraic_ContextIdeal_ContextRefIdeal_pre_context_finite := by
  pair_intro
  · run_from Cert.ContextIdeal.Value.run_blocks m g
  · run_from Cert.ContextRefIdeal.Value.run m' g'
    exact (Cert.ContextValue.final m c (hpre c)).symm

/-- The gradients through the discretisation of the state space layer. -/
theorem algebraic_Step : Cert.algebraic_StepIdeal_StepRefIdeal := by
  pair_intro
  · run_from Cert.StepIdeal.Value.run m g
  · run_from Cert.StepRefIdeal.Value.run m' g'
    all_goals obtain ⟨h0, h1, h2, h3, h4, h5, h6, h7, h8⟩ := hagree c
    · exact ((Cert.StepValue.Ref.eqRe m' c).trans (by rw [h0, h1, h2, h3, h4, h5, h6, h7, h8])).trans (Cert.StepValue.g9 _ _ _ _ _ _ _ _ _).symm
    · exact ((Cert.StepValue.Ref.eqIm m' c).trans (by rw [h0, h1, h2, h3, h4, h5, h6, h7, h8])).trans (Cert.StepValue.g10 _ _ _ _ _ _ _ _ _).symm
    · exact ((Cert.StepValue.Ref.eqLs m' c).trans (by rw [h0, h1, h2, h3, h4, h5, h6, h7, h8])).trans (Cert.StepValue.g11 _ _ _ _ _ _ _ _ _).symm
    · exact ((Cert.StepValue.Ref.eqBr m' c).trans (by rw [h0, h1, h2, h7, h8])).trans (Cert.StepValue.g12 _ _ _ (m (c.tc.loc Cert.StepIdeal.main_arg3)) (m (c.tc.loc Cert.StepIdeal.main_arg4)) (m (c.tc.loc Cert.StepIdeal.main_arg5)) (m (c.tc.loc Cert.StepIdeal.main_arg6)) _ _).symm
    · exact ((Cert.StepValue.Ref.eqBi m' c).trans (by rw [h0, h1, h2, h7, h8])).trans (Cert.StepValue.g13 _ _ _ (m (c.tc.loc Cert.StepIdeal.main_arg3)) (m (c.tc.loc Cert.StepIdeal.main_arg4)) (m (c.tc.loc Cert.StepIdeal.main_arg5)) (m (c.tc.loc Cert.StepIdeal.main_arg6)) _ _).symm

/-- All claims. -/
theorem claim : Cert.Claim := ⟨Cert.Gate.Gen.facts, Cert.GateIdeal.Gen.facts, Cert.GateRefIdeal.Gen.facts, Cert.Tap.Gen.facts, Cert.TapIdeal.Gen.facts, Cert.TapRefIdeal.Gen.facts, Cert.In.Gen.facts, Cert.InIdeal.Gen.facts, Cert.InRefIdeal.Gen.facts, Cert.WConvIn.Gen.facts, Cert.WConvInIdeal.Gen.facts, Cert.WConvInRefIdeal.Gen.facts, Cert.WConvOut.Gen.facts, Cert.WConvOutIdeal.Gen.facts, Cert.WConvOutRefIdeal.Gen.facts, Cert.WSsmIn.Gen.facts, Cert.WSsmInIdeal.Gen.facts, Cert.WSsmInRefIdeal.Gen.facts, Cert.WGlu.Gen.facts, Cert.WGluIdeal.Gen.facts, Cert.WGluRefIdeal.Gen.facts, Cert.WSsmOut.Gen.facts, Cert.WSsmOutIdeal.Gen.facts, Cert.WSsmOutRefIdeal.Gen.facts, Cert.Project.Gen.facts, Cert.ProjectIdeal.Gen.facts, Cert.ProjectRefIdeal.Gen.facts, Cert.ProjectZ.Gen.facts, Cert.ProjectZIdeal.Gen.facts, Cert.ProjectZRefIdeal.Gen.facts, Cert.AdamConvIn.Gen.facts, Cert.AdamConvInIdeal.Gen.facts, Cert.AdamConvInRefIdeal.Gen.facts, Cert.AdamOut.Gen.facts, Cert.AdamOutIdeal.Gen.facts, Cert.AdamOutRefIdeal.Gen.facts, Cert.AdamSsmIn.Gen.facts, Cert.AdamSsmInIdeal.Gen.facts, Cert.AdamSsmInRefIdeal.Gen.facts, Cert.AdamGlu.Gen.facts, Cert.AdamGluIdeal.Gen.facts, Cert.AdamGluRefIdeal.Gen.facts, Cert.AdamAda.Gen.facts, Cert.AdamAdaIdeal.Gen.facts, Cert.AdamAdaRefIdeal.Gen.facts, Cert.AdamCtx.Gen.facts, Cert.AdamCtxIdeal.Gen.facts, Cert.AdamCtxRefIdeal.Gen.facts, Cert.AdamAdaB.Gen.facts, Cert.AdamAdaBIdeal.Gen.facts, Cert.AdamAdaBRefIdeal.Gen.facts, Cert.AdamLn.Gen.facts, Cert.AdamLnIdeal.Gen.facts, Cert.AdamLnRefIdeal.Gen.facts, Cert.AdamTaps.Gen.facts, Cert.AdamTapsIdeal.Gen.facts, Cert.AdamTapsRefIdeal.Gen.facts, Cert.AdamLam.Gen.facts, Cert.AdamLamIdeal.Gen.facts, Cert.AdamLamRefIdeal.Gen.facts, Cert.AdamStep.Gen.facts, Cert.AdamStepIdeal.Gen.facts, Cert.AdamStepRefIdeal.Gen.facts, Cert.AdamBC.Gen.facts, Cert.AdamBCIdeal.Gen.facts, Cert.AdamBCRefIdeal.Gen.facts, Cert.AdamRow.Gen.facts, Cert.AdamRowIdeal.Gen.facts, Cert.AdamRowRefIdeal.Gen.facts, Cert.SumConvIn.Gen.facts, Cert.SumConvInIdeal.Gen.facts, Cert.SumConvInRefIdeal.Gen.facts, Cert.SumSsmIn.Gen.facts, Cert.SumSsmInIdeal.Gen.facts, Cert.SumSsmInRefIdeal.Gen.facts, Cert.SumOut.Gen.facts, Cert.SumOutIdeal.Gen.facts, Cert.SumOutRefIdeal.Gen.facts, Cert.SumGlu.Gen.facts, Cert.SumGluIdeal.Gen.facts, Cert.SumGluRefIdeal.Gen.facts, Cert.SumSmall.Gen.facts, Cert.SumSmallIdeal.Gen.facts, Cert.SumSmallRefIdeal.Gen.facts, Cert.Modulate.Gen.facts, Cert.ModulateIdeal.Gen.facts, Cert.ModulateRefIdeal.Gen.facts, Cert.Modulation.Gen.facts, Cert.ModulationIdeal.Gen.facts, Cert.ModulationRefIdeal.Gen.facts, Cert.Context.Gen.facts, Cert.ContextIdeal.Gen.facts, Cert.ContextRefIdeal.Gen.facts, Cert.Step.Gen.facts, Cert.StepIdeal.Gen.facts, Cert.StepRefIdeal.Gen.facts, Cert.Pre_gate_finite.Gen.facts, Cert.Pre_context_finite.Gen.facts,
  fun m ρ _ => Cert.Gate.Gen.frame m ρ,
  fun m ρ _ => Cert.GateIdeal.Gen.frame m ρ,
  fun m ρ _ => Cert.GateIdeal.Gen.frame m ρ,
  fun m ρ _ => (θ_run _ _ _).mono (fun r h => ⟨fun c => (h c).2.2.2, sem_eq_zero_of_no_sems rfl r.2⟩) (Cert.GateRefIdeal.Value.run m ρ),
  fun m ρ _ => (θ_run _ _ _).mono (fun r h => ⟨fun c => (h c).2.2.2, sem_eq_zero_of_no_sems rfl r.2⟩) (Cert.GateRefIdeal.Value.run m ρ),
  fun m ρ _ => Cert.Tap.Gen.frame m ρ,
  fun m ρ _ => Cert.TapIdeal.Gen.frame m ρ,
  fun m ρ _ => (θ_run _ _ _).mono (fun r h => ⟨fun c => (h c).2.2, sem_eq_zero_of_no_sems rfl r.2⟩) (Cert.TapRefIdeal.Value.run m ρ),
  fun m ρ _ => Cert.In.Gen.frame m ρ,
  fun m ρ _ => Cert.InIdeal.Gen.frame m ρ,
  fun m ρ _ => (θ_run _ _ _).mono (fun r h => ⟨fun c => (h c).2.2.2, sem_eq_zero_of_no_sems rfl r.2⟩) (Cert.InRefIdeal.Value.run m ρ),
  fun m ρ _ => Cert.WConvIn.Gen.frame m ρ,
  fun m ρ _ => Cert.WConvInIdeal.Gen.frame m ρ,
  fun m ρ _ => (θ_run _ _ _).mono (fun r h => ⟨fun c => (h c).2, sem_eq_zero_of_no_sems rfl r.2⟩) (Cert.WConvInRefIdeal.Value.run m ρ),
  fun m ρ _ => Cert.WConvOut.Gen.frame m ρ,
  fun m ρ _ => Cert.WConvOutIdeal.Gen.frame m ρ,
  fun m ρ _ => (θ_run _ _ _).mono (fun r h => ⟨fun c => (h c).2, sem_eq_zero_of_no_sems rfl r.2⟩) (Cert.WConvOutRefIdeal.Value.run m ρ),
  fun m ρ _ => Cert.WSsmIn.Gen.frame m ρ,
  fun m ρ _ => Cert.WSsmInIdeal.Gen.frame m ρ,
  fun m ρ _ => (θ_run _ _ _).mono (fun r h => ⟨fun c => (h c).2, sem_eq_zero_of_no_sems rfl r.2⟩) (Cert.WSsmInRefIdeal.Value.run m ρ),
  fun m ρ _ => Cert.WGlu.Gen.frame m ρ,
  fun m ρ _ => Cert.WGluIdeal.Gen.frame m ρ,
  fun m ρ _ => (θ_run _ _ _).mono (fun r h => ⟨fun c => (h c).2, sem_eq_zero_of_no_sems rfl r.2⟩) (Cert.WGluRefIdeal.Value.run m ρ),
  fun m ρ _ => Cert.WSsmOut.Gen.frame m ρ,
  fun m ρ _ => Cert.WSsmOutIdeal.Gen.frame m ρ,
  fun m ρ _ => (θ_run _ _ _).mono (fun r h => ⟨fun c => (h c).2, sem_eq_zero_of_no_sems rfl r.2⟩) (Cert.WSsmOutRefIdeal.Value.run m ρ),
  fun m ρ _ => Cert.ProjectFrame.frame m ρ,
  fun m ρ _ => Cert.ProjectBody.frame m ρ,
  fun m ρ _ => (θ_run _ _ _).mono (fun r h => ⟨fun c => (h c).2.2, sem_eq_zero_of_no_sems rfl r.2⟩) (Cert.ProjectRefIdeal.Value.run m ρ),
  fun m ρ _ => Cert.ProjectZ.Gen.frame m ρ,
  fun m ρ _ => Cert.ProjectZIdeal.Gen.frame m ρ,
  fun m ρ _ => (θ_run _ _ _).mono (fun r h => ⟨fun c => (h c).2.2, sem_eq_zero_of_no_sems rfl r.2⟩) (Cert.ProjectZRefIdeal.Value.run m ρ),
  fun m ρ _ => Cert.AdamConvIn.Gen.frame m ρ,
  fun m ρ _ => Cert.AdamConvInIdeal.Gen.frame m ρ,
  fun m ρ _ => (θ_run _ _ _).mono (fun r h => ⟨fun c => (h c).2.2.2, sem_eq_zero_of_no_sems rfl r.2⟩) (Cert.AdamConvInRefIdeal.Value.run m ρ),
  fun m ρ _ => Cert.AdamOut.Gen.frame m ρ,
  fun m ρ _ => Cert.AdamOutIdeal.Gen.frame m ρ,
  fun m ρ _ => (θ_run _ _ _).mono (fun r h => ⟨fun c => (h c).2.2.2, sem_eq_zero_of_no_sems rfl r.2⟩) (Cert.AdamOutRefIdeal.Value.run m ρ),
  fun m ρ _ => Cert.AdamSsmIn.Gen.frame m ρ,
  fun m ρ _ => Cert.AdamSsmInIdeal.Gen.frame m ρ,
  fun m ρ _ => (θ_run _ _ _).mono (fun r h => ⟨fun c => (h c).2.2.2, sem_eq_zero_of_no_sems rfl r.2⟩) (Cert.AdamSsmInRefIdeal.Value.run m ρ),
  fun m ρ _ => Cert.AdamGlu.Gen.frame m ρ,
  fun m ρ _ => Cert.AdamGluIdeal.Gen.frame m ρ,
  fun m ρ _ => (θ_run _ _ _).mono (fun r h => ⟨fun c => (h c).2.2.2, sem_eq_zero_of_no_sems rfl r.2⟩) (Cert.AdamGluRefIdeal.Value.run m ρ),
  fun m ρ _ => Cert.AdamAda.Gen.frame m ρ,
  fun m ρ _ => Cert.AdamAdaIdeal.Gen.frame m ρ,
  fun m ρ _ => (θ_run _ _ _).mono (fun r h => ⟨fun c => (h c).2.2.2, sem_eq_zero_of_no_sems rfl r.2⟩) (Cert.AdamAdaRefIdeal.Value.run m ρ),
  fun m ρ _ => Cert.AdamCtx.Gen.frame m ρ,
  fun m ρ _ => Cert.AdamCtxIdeal.Gen.frame m ρ,
  fun m ρ _ => (θ_run _ _ _).mono (fun r h => ⟨fun c => (h c).2.2.2, sem_eq_zero_of_no_sems rfl r.2⟩) (Cert.AdamCtxRefIdeal.Value.run m ρ),
  fun m ρ _ => Cert.AdamAdaB.Gen.frame m ρ,
  fun m ρ _ => Cert.AdamAdaBIdeal.Gen.frame m ρ,
  fun m ρ _ => (θ_run _ _ _).mono (fun r h => ⟨fun c => (h c).2.2.2, sem_eq_zero_of_no_sems rfl r.2⟩) (Cert.AdamAdaBRefIdeal.Value.run m ρ),
  fun m ρ _ => Cert.AdamLn.Gen.frame m ρ,
  fun m ρ _ => Cert.AdamLnIdeal.Gen.frame m ρ,
  fun m ρ _ => (θ_run _ _ _).mono (fun r h => ⟨fun c => (h c).2.2.2, sem_eq_zero_of_no_sems rfl r.2⟩) (Cert.AdamLnRefIdeal.Value.run m ρ),
  fun m ρ _ => Cert.AdamTaps.Gen.frame m ρ,
  fun m ρ _ => Cert.AdamTapsIdeal.Gen.frame m ρ,
  fun m ρ _ => (θ_run _ _ _).mono (fun r h => ⟨fun c => (h c).2.2.2, sem_eq_zero_of_no_sems rfl r.2⟩) (Cert.AdamTapsRefIdeal.Value.run m ρ),
  fun m ρ _ => Cert.AdamLam.Gen.frame m ρ,
  fun m ρ _ => Cert.AdamLamIdeal.Gen.frame m ρ,
  fun m ρ _ => (θ_run _ _ _).mono (fun r h => ⟨fun c => (h c).2.2.2, sem_eq_zero_of_no_sems rfl r.2⟩) (Cert.AdamLamRefIdeal.Value.run m ρ),
  fun m ρ _ => Cert.AdamStep.Gen.frame m ρ,
  fun m ρ _ => Cert.AdamStepIdeal.Gen.frame m ρ,
  fun m ρ _ => (θ_run _ _ _).mono (fun r h => ⟨fun c => (h c).2.2.2, sem_eq_zero_of_no_sems rfl r.2⟩) (Cert.AdamStepRefIdeal.Value.run m ρ),
  fun m ρ _ => Cert.AdamBC.Gen.frame m ρ,
  fun m ρ _ => Cert.AdamBCIdeal.Gen.frame m ρ,
  fun m ρ _ => (θ_run _ _ _).mono (fun r h => ⟨fun c => (h c).2.2.2, sem_eq_zero_of_no_sems rfl r.2⟩) (Cert.AdamBCRefIdeal.Value.run m ρ),
  fun m ρ _ => Cert.AdamRow.Gen.frame m ρ,
  fun m ρ _ => Cert.AdamRowIdeal.Gen.frame m ρ,
  fun m ρ _ => (θ_run _ _ _).mono (fun r h => ⟨fun c => (h c).2.2.2, sem_eq_zero_of_no_sems rfl r.2⟩) (Cert.AdamRowRefIdeal.Value.run m ρ),
  fun m ρ _ => Cert.SumConvIn.Gen.frame m ρ,
  fun m ρ _ => Cert.SumConvInIdeal.Gen.frame m ρ,
  fun m ρ _ => (θ_run _ _ _).mono (fun r h => ⟨fun c => (h c).2, sem_eq_zero_of_no_sems rfl r.2⟩) (Cert.SumConvInRefIdeal.Value.run m ρ),
  fun m ρ _ => Cert.SumSsmIn.Gen.frame m ρ,
  fun m ρ _ => Cert.SumSsmInIdeal.Gen.frame m ρ,
  fun m ρ _ => (θ_run _ _ _).mono (fun r h => ⟨fun c => (h c).2, sem_eq_zero_of_no_sems rfl r.2⟩) (Cert.SumSsmInRefIdeal.Value.run m ρ),
  fun m ρ _ => Cert.SumOut.Gen.frame m ρ,
  fun m ρ _ => Cert.SumOutIdeal.Gen.frame m ρ,
  fun m ρ _ => (θ_run _ _ _).mono (fun r h => ⟨fun c => (h c).2, sem_eq_zero_of_no_sems rfl r.2⟩) (Cert.SumOutRefIdeal.Value.run m ρ),
  fun m ρ _ => Cert.SumGlu.Gen.frame m ρ,
  fun m ρ _ => Cert.SumGluIdeal.Gen.frame m ρ,
  fun m ρ _ => (θ_run _ _ _).mono (fun r h => ⟨fun c => (h c).2, sem_eq_zero_of_no_sems rfl r.2⟩) (Cert.SumGluRefIdeal.Value.run m ρ),
  fun m ρ _ => Cert.SumSmall.Gen.frame m ρ,
  fun m ρ _ => Cert.SumSmallIdeal.Gen.frame m ρ,
  fun m ρ _ => (θ_run _ _ _).mono (fun r h => ⟨fun c => (h c).2, sem_eq_zero_of_no_sems rfl r.2⟩) (Cert.SumSmallRefIdeal.Value.run m ρ),
  fun m ρ _ => Cert.Modulate.Gen.frame m ρ,
  fun m ρ _ => Cert.ModulateIdeal.Gen.frame m ρ,
  fun m ρ _ => (θ_run _ _ _).mono (fun r h => ⟨fun c => (h c).2, sem_eq_zero_of_no_sems rfl r.2⟩) (Cert.ModulateRefIdeal.Value.run m ρ),
  fun m ρ _ => Cert.Modulation.Gen.frame m ρ,
  fun m ρ _ => Cert.ModulationIdeal.Gen.frame m ρ,
  fun m ρ _ => (θ_run _ _ _).mono (fun r h => ⟨fun c => (h c).2.2.2, sem_eq_zero_of_no_sems rfl r.2⟩) (Cert.ModulationRefIdeal.Value.run m ρ),
  fun m ρ _ => Cert.Context.Gen.frame m ρ,
  fun m ρ _ => Cert.ContextIdeal.Gen.frame m ρ,
  fun m ρ _ => Cert.ContextIdeal.Gen.frame m ρ,
  fun m ρ _ => (θ_run _ _ _).mono (fun r h => ⟨fun c => (h c).2, sem_eq_zero_of_no_sems rfl r.2⟩) (Cert.ContextRefIdeal.Value.run m ρ),
  fun m ρ _ => (θ_run _ _ _).mono (fun r h => ⟨fun c => (h c).2, sem_eq_zero_of_no_sems rfl r.2⟩) (Cert.ContextRefIdeal.Value.run m ρ),
  fun m ρ _ => Cert.Step.Gen.frame m ρ,
  fun m ρ _ => Cert.StepIdeal.Gen.frame m ρ,
  fun m ρ _ => (θ_run _ _ _).mono (fun r h => ⟨fun c => (h c).2.2.2.2.2, sem_eq_zero_of_no_sems rfl r.2⟩) (Cert.StepRefIdeal.Value.run m ρ),
  trivial,
  algebraic_Gate,
  trivial,
  algebraic_Tap,
  trivial,
  algebraic_In,
  trivial,
  algebraic_WConvIn,
  trivial,
  algebraic_WConvOut,
  trivial,
  algebraic_WSsmIn,
  trivial,
  algebraic_WGlu,
  trivial,
  algebraic_WSsmOut,
  trivial,
  algebraic_Project,
  trivial,
  algebraic_ProjectZ,
  trivial,
  algebraic_AdamConvIn,
  trivial,
  algebraic_AdamOut,
  trivial,
  algebraic_AdamSsmIn,
  trivial,
  algebraic_AdamGlu,
  trivial,
  algebraic_AdamAda,
  trivial,
  algebraic_AdamCtx,
  trivial,
  algebraic_AdamAdaB,
  trivial,
  algebraic_AdamLn,
  trivial,
  algebraic_AdamTaps,
  trivial,
  algebraic_AdamLam,
  trivial,
  algebraic_AdamStep,
  trivial,
  algebraic_AdamBC,
  trivial,
  algebraic_AdamRow,
  trivial,
  algebraic_SumConvIn,
  trivial,
  algebraic_SumSsmIn,
  trivial,
  algebraic_SumOut,
  trivial,
  algebraic_SumGlu,
  trivial,
  algebraic_SumSmall,
  trivial,
  algebraic_Modulate,
  trivial,
  algebraic_Modulation,
  trivial,
  algebraic_Context,
  trivial,
  algebraic_Step⟩

end Cert.Proof

end
